-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_GwFfnOut (m : (ℓ : Loc Cert.GwFfnOut.nD Cert.GwFfnOut.τ Cert.GwFfnOut.sig) → Buf (Elt Bits) ℓ) : Prop :=
  True

def Pre_GwFfnOutIdeal (m : (ℓ : Loc Cert.GwFfnOutIdeal.nD Cert.GwFfnOutIdeal.τ Cert.GwFfnOutIdeal.sig) → Buf (Elt Ideal) ℓ) : Prop :=
  True

def Pre_GwFfnOutRefIdeal (m : (ℓ : Loc Cert.GwFfnOutRefIdeal.nD Cert.GwFfnOutRefIdeal.τ Cert.GwFfnOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_GwBranch (m : (ℓ : Loc Cert.GwBranch.nD Cert.GwBranch.τ Cert.GwBranch.sig) → Buf (Elt Bits) ℓ) : Prop :=
  True

def Pre_GwBranchIdeal (m : (ℓ : Loc Cert.GwBranchIdeal.nD Cert.GwBranchIdeal.τ Cert.GwBranchIdeal.sig) → Buf (Elt Ideal) ℓ) : Prop :=
  True

def Pre_GwBranchRefIdeal (m : (ℓ : Loc Cert.GwBranchRefIdeal.nD Cert.GwBranchRefIdeal.τ Cert.GwBranchRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def Pre_LatentBwd (m : (ℓ : Loc Cert.LatentBwd.nD Cert.LatentBwd.τ Cert.LatentBwd.sig) → Buf (Elt Bits) ℓ) : Prop :=
  True

def Pre_LatentBwdIdeal (m : (ℓ : Loc Cert.LatentBwdIdeal.nD Cert.LatentBwdIdeal.τ Cert.LatentBwdIdeal.sig) → Buf (Elt Ideal) ℓ) : Prop :=
  True

def Pre_LatentBwdRefIdeal (m : (ℓ : Loc Cert.LatentBwdRefIdeal.nD Cert.LatentBwdRefIdeal.τ Cert.LatentBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaRefIdeal (m : (ℓ : Loc Cert.StepAdaRefIdeal.nD Cert.StepAdaRefIdeal.τ Cert.StepAdaRefIdeal.sig) → Buf (Elt Ideal) ℓ) : Prop :=
  True

def Pre_StepVec (m : (ℓ : Loc Cert.StepVec.nD Cert.StepVec.τ Cert.StepVec.sig) → Buf (Elt Bits) ℓ) : Prop :=
  True

def Pre_StepVecIdeal (m : (ℓ : Loc Cert.StepVecIdeal.nD Cert.StepVecIdeal.τ Cert.StepVecIdeal.sig) → Buf (Elt Ideal) ℓ) : Prop :=
  True

def Pre_StepVecRefIdeal (m : (ℓ : Loc Cert.StepVecRefIdeal.nD Cert.StepVecRefIdeal.τ Cert.StepVecRefIdeal.sig) → Buf (Elt Ideal) ℓ) : Prop :=
  True

def Pre_StepMat (m : (ℓ : Loc Cert.StepMat.nD Cert.StepMat.τ Cert.StepMat.sig) → Buf (Elt Bits) ℓ) : Prop :=
  True

def Pre_StepMatIdeal (m : (ℓ : Loc Cert.StepMatIdeal.nD Cert.StepMatIdeal.τ Cert.StepMatIdeal.sig) → Buf (Elt Ideal) ℓ) : Prop :=
  True

def Pre_StepMatRefIdeal (m : (ℓ : Loc Cert.StepMatRefIdeal.nD Cert.StepMatRefIdeal.τ Cert.StepMatRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_GwFfnOut [hGwFfnOut : Cert.GwFfnOut.Facts] : Prop :=
  ∀ (m : (ℓ : Loc Cert.GwFfnOut.nD Cert.GwFfnOut.τ Cert.GwFfnOut.sig) → Buf (Elt Bits) ℓ) (g : Dev Cert.GwFfnOut.nD → PrngReg), Pre_GwFfnOut m →
    θ_run (Cert.GwFfnOut.defs (F := Bits)) (onTc (τ := Cert.GwFfnOut.τ) (Cert.GwFfnOut.main (F := Bits))) ⟨m, fun _ => 0, g⟩ (fun r => (∀ c : Dev Cert.GwFfnOut.nD,
      r.2.mem ((c.tc : Thread Cert.GwFfnOut.nD Cert.GwFfnOut.τ).loc Cert.GwFfnOut.main_arg0) = m ((c.tc : Thread Cert.GwFfnOut.nD Cert.GwFfnOut.τ).loc Cert.GwFfnOut.main_arg0)
      ∧ r.2.mem ((c.tc : Thread Cert.GwFfnOut.nD Cert.GwFfnOut.τ).loc Cert.GwFfnOut.main_arg1) = m ((c.tc : Thread Cert.GwFfnOut.nD Cert.GwFfnOut.τ).loc Cert.GwFfnOut.main_arg1))
      ∧ r.2.sem = fun _ => 0)

def quiescent_GwFfnOutIdeal [hGwFfnOutIdeal : Cert.GwFfnOutIdeal.Facts] : Prop :=
  ∀ (m : (ℓ : Loc Cert.GwFfnOutIdeal.nD Cert.GwFfnOutIdeal.τ Cert.GwFfnOutIdeal.sig) → Buf (Elt Ideal) ℓ) (g : Dev Cert.GwFfnOutIdeal.nD → PrngReg), Pre_GwFfnOutIdeal m →
    θ_run (Cert.GwFfnOutIdeal.defs (F := Ideal)) (onTc (τ := Cert.GwFfnOutIdeal.τ) (Cert.GwFfnOutIdeal.main (F := Ideal))) ⟨m, fun _ => 0, g⟩ (fun r => (∀ c : Dev Cert.GwFfnOutIdeal.nD,
      r.2.mem ((c.tc : Thread Cert.GwFfnOutIdeal.nD Cert.GwFfnOutIdeal.τ).loc Cert.GwFfnOutIdeal.main_arg0) = m ((c.tc : Thread Cert.GwFfnOutIdeal.nD Cert.GwFfnOutIdeal.τ).loc Cert.GwFfnOutIdeal.main_arg0)
      ∧ r.2.mem ((c.tc : Thread Cert.GwFfnOutIdeal.nD Cert.GwFfnOutIdeal.τ).loc Cert.GwFfnOutIdeal.main_arg1) = m ((c.tc : Thread Cert.GwFfnOutIdeal.nD Cert.GwFfnOutIdeal.τ).loc Cert.GwFfnOutIdeal.main_arg1))
      ∧ r.2.sem = fun _ => 0)

def quiescent_GwFfnOutRefIdeal [hGwFfnOutRefIdeal : Cert.GwFfnOutRefIdeal.Facts] : Prop :=
  ∀ (m : (ℓ : Loc Cert.GwFfnOutRefIdeal.nD Cert.GwFfnOutRefIdeal.τ Cert.GwFfnOutRefIdeal.sig) → Buf (Elt Ideal) ℓ) (g : Dev Cert.GwFfnOutRefIdeal.nD → PrngReg), Pre_GwFfnOutRefIdeal m →
    θ_run (Cert.GwFfnOutRefIdeal.defs (F := Ideal)) (onTc (τ := Cert.GwFfnOutRefIdeal.τ) (Cert.GwFfnOutRefIdeal.main (F := Ideal))) ⟨m, fun _ => 0, g⟩ (fun r => (∀ c : Dev Cert.GwFfnOutRefIdeal.nD,
      r.2.mem ((c.tc : Thread Cert.GwFfnOutRefIdeal.nD Cert.GwFfnOutRefIdeal.τ).loc Cert.GwFfnOutRefIdeal.main_arg0) = m ((c.tc : Thread Cert.GwFfnOutRefIdeal.nD Cert.GwFfnOutRefIdeal.τ).loc Cert.GwFfnOutRefIdeal.main_arg0)
      ∧ r.2.mem ((c.tc : Thread Cert.GwFfnOutRefIdeal.nD Cert.GwFfnOutRefIdeal.τ).loc Cert.GwFfnOutRefIdeal.main_arg1) = m ((c.tc : Thread Cert.GwFfnOutRefIdeal.nD Cert.GwFfnOutRefIdeal.τ).loc Cert.GwFfnOutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_GwBranch [hGwBranch : Cert.GwBranch.Facts] : Prop :=
  ∀ (m : (ℓ : Loc Cert.GwBranch.nD Cert.GwBranch.τ Cert.GwBranch.sig) → Buf (Elt Bits) ℓ) (g : Dev Cert.GwBranch.nD → PrngReg), Pre_GwBranch m →
    θ_run (Cert.GwBranch.defs (F := Bits)) (onTc (τ := Cert.GwBranch.τ) (Cert.GwBranch.main (F := Bits))) ⟨m, fun _ => 0, g⟩ (fun r => (∀ c : Dev Cert.GwBranch.nD,
      r.2.mem ((c.tc : Thread Cert.GwBranch.nD Cert.GwBranch.τ).loc Cert.GwBranch.main_arg0) = m ((c.tc : Thread Cert.GwBranch.nD Cert.GwBranch.τ).loc Cert.GwBranch.main_arg0)
      ∧ r.2.mem ((c.tc : Thread Cert.GwBranch.nD Cert.GwBranch.τ).loc Cert.GwBranch.main_arg1) = m ((c.tc : Thread Cert.GwBranch.nD Cert.GwBranch.τ).loc Cert.GwBranch.main_arg1))
      ∧ r.2.sem = fun _ => 0)

def quiescent_GwBranchIdeal [hGwBranchIdeal : Cert.GwBranchIdeal.Facts] : Prop :=
  ∀ (m : (ℓ : Loc Cert.GwBranchIdeal.nD Cert.GwBranchIdeal.τ Cert.GwBranchIdeal.sig) → Buf (Elt Ideal) ℓ) (g : Dev Cert.GwBranchIdeal.nD → PrngReg), Pre_GwBranchIdeal m →
    θ_run (Cert.GwBranchIdeal.defs (F := Ideal)) (onTc (τ := Cert.GwBranchIdeal.τ) (Cert.GwBranchIdeal.main (F := Ideal))) ⟨m, fun _ => 0, g⟩ (fun r => (∀ c : Dev Cert.GwBranchIdeal.nD,
      r.2.mem ((c.tc : Thread Cert.GwBranchIdeal.nD Cert.GwBranchIdeal.τ).loc Cert.GwBranchIdeal.main_arg0) = m ((c.tc : Thread Cert.GwBranchIdeal.nD Cert.GwBranchIdeal.τ).loc Cert.GwBranchIdeal.main_arg0)
      ∧ r.2.mem ((c.tc : Thread Cert.GwBranchIdeal.nD Cert.GwBranchIdeal.τ).loc Cert.GwBranchIdeal.main_arg1) = m ((c.tc : Thread Cert.GwBranchIdeal.nD Cert.GwBranchIdeal.τ).loc Cert.GwBranchIdeal.main_arg1))
      ∧ r.2.sem = fun _ => 0)

def quiescent_GwBranchRefIdeal [hGwBranchRefIdeal : Cert.GwBranchRefIdeal.Facts] : Prop :=
  ∀ (m : (ℓ : Loc Cert.GwBranchRefIdeal.nD Cert.GwBranchRefIdeal.τ Cert.GwBranchRefIdeal.sig) → Buf (Elt Ideal) ℓ) (g : Dev Cert.GwBranchRefIdeal.nD → PrngReg), Pre_GwBranchRefIdeal m →
    θ_run (Cert.GwBranchRefIdeal.defs (F := Ideal)) (onTc (τ := Cert.GwBranchRefIdeal.τ) (Cert.GwBranchRefIdeal.main (F := Ideal))) ⟨m, fun _ => 0, g⟩ (fun r => (∀ c : Dev Cert.GwBranchRefIdeal.nD,
      r.2.mem ((c.tc : Thread Cert.GwBranchRefIdeal.nD Cert.GwBranchRefIdeal.τ).loc Cert.GwBranchRefIdeal.main_arg0) = m ((c.tc : Thread Cert.GwBranchRefIdeal.nD Cert.GwBranchRefIdeal.τ).loc Cert.GwBranchRefIdeal.main_arg0)
      ∧ r.2.mem ((c.tc : Thread Cert.GwBranchRefIdeal.nD Cert.GwBranchRefIdeal.τ).loc Cert.GwBranchRefIdeal.main_arg1) = m ((c.tc : Thread Cert.GwBranchRefIdeal.nD Cert.GwBranchRefIdeal.τ).loc Cert.GwBranchRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4)
      ∧ r.2.mem ((c.tc : Thread Cert.Norm2BwdRefIdeal.nD Cert.Norm2BwdRefIdeal.τ).loc Cert.Norm2BwdRefIdeal.main_arg5) = m ((c.tc : Thread Cert.Norm2BwdRefIdeal.nD Cert.Norm2BwdRefIdeal.τ).loc Cert.Norm2BwdRefIdeal.main_arg5))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_LatentBwd [hLatentBwd : Cert.LatentBwd.Facts] : Prop :=
  ∀ (m : (ℓ : Loc Cert.LatentBwd.nD Cert.LatentBwd.τ Cert.LatentBwd.sig) → Buf (Elt Bits) ℓ) (g : Dev Cert.LatentBwd.nD → PrngReg), Pre_LatentBwd m →
    θ_run (Cert.LatentBwd.defs (F := Bits)) (onTc (τ := Cert.LatentBwd.τ) (Cert.LatentBwd.main (F := Bits))) ⟨m, fun _ => 0, g⟩ (fun r => (∀ c : Dev Cert.LatentBwd.nD,
      r.2.mem ((c.tc : Thread Cert.LatentBwd.nD Cert.LatentBwd.τ).loc Cert.LatentBwd.main_arg0) = m ((c.tc : Thread Cert.LatentBwd.nD Cert.LatentBwd.τ).loc Cert.LatentBwd.main_arg0)
      ∧ r.2.mem ((c.tc : Thread Cert.LatentBwd.nD Cert.LatentBwd.τ).loc Cert.LatentBwd.main_arg1) = m ((c.tc : Thread Cert.LatentBwd.nD Cert.LatentBwd.τ).loc Cert.LatentBwd.main_arg1)
      ∧ r.2.mem ((c.tc : Thread Cert.LatentBwd.nD Cert.LatentBwd.τ).loc Cert.LatentBwd.main_arg2) = m ((c.tc : Thread Cert.LatentBwd.nD Cert.LatentBwd.τ).loc Cert.LatentBwd.main_arg2)
      ∧ r.2.mem ((c.tc : Thread Cert.LatentBwd.nD Cert.LatentBwd.τ).loc Cert.LatentBwd.main_arg3) = m ((c.tc : Thread Cert.LatentBwd.nD Cert.LatentBwd.τ).loc Cert.LatentBwd.main_arg3)
      ∧ r.2.mem ((c.tc : Thread Cert.LatentBwd.nD Cert.LatentBwd.τ).loc Cert.LatentBwd.main_arg4) = m ((c.tc : Thread Cert.LatentBwd.nD Cert.LatentBwd.τ).loc Cert.LatentBwd.main_arg4))
      ∧ r.2.sem = fun _ => 0)

def quiescent_LatentBwdIdeal [hLatentBwdIdeal : Cert.LatentBwdIdeal.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg), Pre_LatentBwdIdeal m →
    θ_run (Cert.LatentBwdIdeal.defs (F := Ideal)) (onTc (τ := Cert.LatentBwdIdeal.τ) (Cert.LatentBwdIdeal.main (F := Ideal))) ⟨m, fun _ => 0, g⟩ (fun r => (∀ c : Dev Cert.LatentBwdIdeal.nD,
      r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
      ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
      ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
      ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
      ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4))
      ∧ r.2.sem = fun _ => 0)

def quiescent_LatentBwdRefIdeal [hLatentBwdRefIdeal : Cert.LatentBwdRefIdeal.Facts] : Prop :=
  ∀ (m : (ℓ : Loc Cert.LatentBwdRefIdeal.nD Cert.LatentBwdRefIdeal.τ Cert.LatentBwdRefIdeal.sig) → Buf (Elt Ideal) ℓ) (g : Dev Cert.LatentBwdRefIdeal.nD → PrngReg), Pre_LatentBwdRefIdeal m →
    θ_run (Cert.LatentBwdRefIdeal.defs (F := Ideal)) (onTc (τ := Cert.LatentBwdRefIdeal.τ) (Cert.LatentBwdRefIdeal.main (F := Ideal))) ⟨m, fun _ => 0, g⟩ (fun r => (∀ c : Dev Cert.LatentBwdRefIdeal.nD,
      r.2.mem ((c.tc : Thread Cert.LatentBwdRefIdeal.nD Cert.LatentBwdRefIdeal.τ).loc Cert.LatentBwdRefIdeal.main_arg0) = m ((c.tc : Thread Cert.LatentBwdRefIdeal.nD Cert.LatentBwdRefIdeal.τ).loc Cert.LatentBwdRefIdeal.main_arg0)
      ∧ r.2.mem ((c.tc : Thread Cert.LatentBwdRefIdeal.nD Cert.LatentBwdRefIdeal.τ).loc Cert.LatentBwdRefIdeal.main_arg1) = m ((c.tc : Thread Cert.LatentBwdRefIdeal.nD Cert.LatentBwdRefIdeal.τ).loc Cert.LatentBwdRefIdeal.main_arg1)
      ∧ r.2.mem ((c.tc : Thread Cert.LatentBwdRefIdeal.nD Cert.LatentBwdRefIdeal.τ).loc Cert.LatentBwdRefIdeal.main_arg2) = m ((c.tc : Thread Cert.LatentBwdRefIdeal.nD Cert.LatentBwdRefIdeal.τ).loc Cert.LatentBwdRefIdeal.main_arg2)
      ∧ r.2.mem ((c.tc : Thread Cert.LatentBwdRefIdeal.nD Cert.LatentBwdRefIdeal.τ).loc Cert.LatentBwdRefIdeal.main_arg3) = m ((c.tc : Thread Cert.LatentBwdRefIdeal.nD Cert.LatentBwdRefIdeal.τ).loc Cert.LatentBwdRefIdeal.main_arg3)
      ∧ r.2.mem ((c.tc : Thread Cert.LatentBwdRefIdeal.nD Cert.LatentBwdRefIdeal.τ).loc Cert.LatentBwdRefIdeal.main_arg4) = m ((c.tc : Thread Cert.LatentBwdRefIdeal.nD Cert.LatentBwdRefIdeal.τ).loc Cert.LatentBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3)
      ∧ r.2.mem ((c.tc : Thread Cert.StepAda.nD Cert.StepAda.τ).loc Cert.StepAda.main_arg4) = m ((c.tc : Thread Cert.StepAda.nD Cert.StepAda.τ).loc Cert.StepAda.main_arg4))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3)
      ∧ r.2.mem ((c.tc : Thread Cert.StepAdaIdeal.nD Cert.StepAdaIdeal.τ).loc Cert.StepAdaIdeal.main_arg4) = m ((c.tc : Thread Cert.StepAdaIdeal.nD Cert.StepAdaIdeal.τ).loc Cert.StepAdaIdeal.main_arg4))
      ∧ r.2.sem = fun _ => 0)

def quiescent_StepAdaRefIdeal [hStepAdaRefIdeal : Cert.StepAdaRefIdeal.Facts] : Prop :=
  ∀ (m : (ℓ : Loc Cert.StepAdaRefIdeal.nD Cert.StepAdaRefIdeal.τ Cert.StepAdaRefIdeal.sig) → Buf (Elt Ideal) ℓ) (g : Dev Cert.StepAdaRefIdeal.nD → PrngReg), Pre_StepAdaRefIdeal m →
    θ_run (Cert.StepAdaRefIdeal.defs (F := Ideal)) (onTc (τ := Cert.StepAdaRefIdeal.τ) (Cert.StepAdaRefIdeal.main (F := Ideal))) ⟨m, fun _ => 0, g⟩ (fun r => (∀ c : Dev Cert.StepAdaRefIdeal.nD,
      r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
      ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
      ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
      ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3)
      ∧ r.2.mem ((c.tc : Thread Cert.StepAdaRefIdeal.nD Cert.StepAdaRefIdeal.τ).loc Cert.StepAdaRefIdeal.main_arg4) = m ((c.tc : Thread Cert.StepAdaRefIdeal.nD Cert.StepAdaRefIdeal.τ).loc Cert.StepAdaRefIdeal.main_arg4))
      ∧ r.2.sem = fun _ => 0)

def quiescent_StepVec [hStepVec : Cert.StepVec.Facts] : Prop :=
  ∀ (m : (ℓ : Loc Cert.StepVec.nD Cert.StepVec.τ Cert.StepVec.sig) → Buf (Elt Bits) ℓ) (g : Dev Cert.StepVec.nD → PrngReg), Pre_StepVec m →
    θ_run (Cert.StepVec.defs (F := Bits)) (onTc (τ := Cert.StepVec.τ) (Cert.StepVec.main (F := Bits))) ⟨m, fun _ => 0, g⟩ (fun r => (∀ c : Dev Cert.StepVec.nD,
      r.2.mem ((c.tc : Thread Cert.StepVec.nD Cert.StepVec.τ).loc Cert.StepVec.main_arg0) = m ((c.tc : Thread Cert.StepVec.nD Cert.StepVec.τ).loc Cert.StepVec.main_arg0)
      ∧ r.2.mem ((c.tc : Thread Cert.StepVec.nD Cert.StepVec.τ).loc Cert.StepVec.main_arg1) = m ((c.tc : Thread Cert.StepVec.nD Cert.StepVec.τ).loc Cert.StepVec.main_arg1)
      ∧ r.2.mem ((c.tc : Thread Cert.StepVec.nD Cert.StepVec.τ).loc Cert.StepVec.main_arg2) = m ((c.tc : Thread Cert.StepVec.nD Cert.StepVec.τ).loc Cert.StepVec.main_arg2)
      ∧ r.2.mem ((c.tc : Thread Cert.StepVec.nD Cert.StepVec.τ).loc Cert.StepVec.main_arg3) = m ((c.tc : Thread Cert.StepVec.nD Cert.StepVec.τ).loc Cert.StepVec.main_arg3))
      ∧ r.2.sem = fun _ => 0)

def quiescent_StepVecIdeal [hStepVecIdeal : Cert.StepVecIdeal.Facts] : Prop :=
  ∀ (m : (ℓ : Loc Cert.StepVecIdeal.nD Cert.StepVecIdeal.τ Cert.StepVecIdeal.sig) → Buf (Elt Ideal) ℓ) (g : Dev Cert.StepVecIdeal.nD → PrngReg), Pre_StepVecIdeal m →
    θ_run (Cert.StepVecIdeal.defs (F := Ideal)) (onTc (τ := Cert.StepVecIdeal.τ) (Cert.StepVecIdeal.main (F := Ideal))) ⟨m, fun _ => 0, g⟩ (fun r => (∀ c : Dev Cert.StepVecIdeal.nD,
      r.2.mem ((c.tc : Thread Cert.StepVecIdeal.nD Cert.StepVecIdeal.τ).loc Cert.StepVecIdeal.main_arg0) = m ((c.tc : Thread Cert.StepVecIdeal.nD Cert.StepVecIdeal.τ).loc Cert.StepVecIdeal.main_arg0)
      ∧ r.2.mem ((c.tc : Thread Cert.StepVecIdeal.nD Cert.StepVecIdeal.τ).loc Cert.StepVecIdeal.main_arg1) = m ((c.tc : Thread Cert.StepVecIdeal.nD Cert.StepVecIdeal.τ).loc Cert.StepVecIdeal.main_arg1)
      ∧ r.2.mem ((c.tc : Thread Cert.StepVecIdeal.nD Cert.StepVecIdeal.τ).loc Cert.StepVecIdeal.main_arg2) = m ((c.tc : Thread Cert.StepVecIdeal.nD Cert.StepVecIdeal.τ).loc Cert.StepVecIdeal.main_arg2)
      ∧ r.2.mem ((c.tc : Thread Cert.StepVecIdeal.nD Cert.StepVecIdeal.τ).loc Cert.StepVecIdeal.main_arg3) = m ((c.tc : Thread Cert.StepVecIdeal.nD Cert.StepVecIdeal.τ).loc Cert.StepVecIdeal.main_arg3))
      ∧ r.2.sem = fun _ => 0)

def quiescent_StepVecRefIdeal [hStepVecRefIdeal : Cert.StepVecRefIdeal.Facts] : Prop :=
  ∀ (m : (ℓ : Loc Cert.StepVecRefIdeal.nD Cert.StepVecRefIdeal.τ Cert.StepVecRefIdeal.sig) → Buf (Elt Ideal) ℓ) (g : Dev Cert.StepVecRefIdeal.nD → PrngReg), Pre_StepVecRefIdeal m →
    θ_run (Cert.StepVecRefIdeal.defs (F := Ideal)) (onTc (τ := Cert.StepVecRefIdeal.τ) (Cert.StepVecRefIdeal.main (F := Ideal))) ⟨m, fun _ => 0, g⟩ (fun r => (∀ c : Dev Cert.StepVecRefIdeal.nD,
      r.2.mem ((c.tc : Thread Cert.StepVecRefIdeal.nD Cert.StepVecRefIdeal.τ).loc Cert.StepVecRefIdeal.main_arg0) = m ((c.tc : Thread Cert.StepVecRefIdeal.nD Cert.StepVecRefIdeal.τ).loc Cert.StepVecRefIdeal.main_arg0)
      ∧ r.2.mem ((c.tc : Thread Cert.StepVecRefIdeal.nD Cert.StepVecRefIdeal.τ).loc Cert.StepVecRefIdeal.main_arg1) = m ((c.tc : Thread Cert.StepVecRefIdeal.nD Cert.StepVecRefIdeal.τ).loc Cert.StepVecRefIdeal.main_arg1)
      ∧ r.2.mem ((c.tc : Thread Cert.StepVecRefIdeal.nD Cert.StepVecRefIdeal.τ).loc Cert.StepVecRefIdeal.main_arg2) = m ((c.tc : Thread Cert.StepVecRefIdeal.nD Cert.StepVecRefIdeal.τ).loc Cert.StepVecRefIdeal.main_arg2)
      ∧ r.2.mem ((c.tc : Thread Cert.StepVecRefIdeal.nD Cert.StepVecRefIdeal.τ).loc Cert.StepVecRefIdeal.main_arg3) = m ((c.tc : Thread Cert.StepVecRefIdeal.nD Cert.StepVecRefIdeal.τ).loc Cert.StepVecRefIdeal.main_arg3))
      ∧ r.2.sem = fun _ => 0)

def quiescent_StepMat [hStepMat : Cert.StepMat.Facts] : Prop :=
  ∀ (m : (ℓ : Loc Cert.StepMat.nD Cert.StepMat.τ Cert.StepMat.sig) → Buf (Elt Bits) ℓ) (g : Dev Cert.StepMat.nD → PrngReg), Pre_StepMat m →
    θ_run (Cert.StepMat.defs (F := Bits)) (onTc (τ := Cert.StepMat.τ) (Cert.StepMat.main (F := Bits))) ⟨m, fun _ => 0, g⟩ (fun r => (∀ c : Dev Cert.StepMat.nD,
      r.2.mem ((c.tc : Thread Cert.StepMat.nD Cert.StepMat.τ).loc Cert.StepMat.main_arg0) = m ((c.tc : Thread Cert.StepMat.nD Cert.StepMat.τ).loc Cert.StepMat.main_arg0)
      ∧ r.2.mem ((c.tc : Thread Cert.StepMat.nD Cert.StepMat.τ).loc Cert.StepMat.main_arg1) = m ((c.tc : Thread Cert.StepMat.nD Cert.StepMat.τ).loc Cert.StepMat.main_arg1)
      ∧ r.2.mem ((c.tc : Thread Cert.StepMat.nD Cert.StepMat.τ).loc Cert.StepMat.main_arg2) = m ((c.tc : Thread Cert.StepMat.nD Cert.StepMat.τ).loc Cert.StepMat.main_arg2)
      ∧ r.2.mem ((c.tc : Thread Cert.StepMat.nD Cert.StepMat.τ).loc Cert.StepMat.main_arg3) = m ((c.tc : Thread Cert.StepMat.nD Cert.StepMat.τ).loc Cert.StepMat.main_arg3)
      ∧ r.2.mem ((c.tc : Thread Cert.StepMat.nD Cert.StepMat.τ).loc Cert.StepMat.main_arg4) = m ((c.tc : Thread Cert.StepMat.nD Cert.StepMat.τ).loc Cert.StepMat.main_arg4)
      ∧ r.2.mem ((c.tc : Thread Cert.StepMat.nD Cert.StepMat.τ).loc Cert.StepMat.main_arg5) = m ((c.tc : Thread Cert.StepMat.nD Cert.StepMat.τ).loc Cert.StepMat.main_arg5))
      ∧ r.2.sem = fun _ => 0)

def quiescent_StepMatIdeal [hStepMatIdeal : Cert.StepMatIdeal.Facts] : Prop :=
  ∀ (m : (ℓ : Loc Cert.StepMatIdeal.nD Cert.StepMatIdeal.τ Cert.StepMatIdeal.sig) → Buf (Elt Ideal) ℓ) (g : Dev Cert.StepMatIdeal.nD → PrngReg), Pre_StepMatIdeal m →
    θ_run (Cert.StepMatIdeal.defs (F := Ideal)) (onTc (τ := Cert.StepMatIdeal.τ) (Cert.StepMatIdeal.main (F := Ideal))) ⟨m, fun _ => 0, g⟩ (fun r => (∀ c : Dev Cert.StepMatIdeal.nD,
      r.2.mem ((c.tc : Thread Cert.StepMatIdeal.nD Cert.StepMatIdeal.τ).loc Cert.StepMatIdeal.main_arg0) = m ((c.tc : Thread Cert.StepMatIdeal.nD Cert.StepMatIdeal.τ).loc Cert.StepMatIdeal.main_arg0)
      ∧ r.2.mem ((c.tc : Thread Cert.StepMatIdeal.nD Cert.StepMatIdeal.τ).loc Cert.StepMatIdeal.main_arg1) = m ((c.tc : Thread Cert.StepMatIdeal.nD Cert.StepMatIdeal.τ).loc Cert.StepMatIdeal.main_arg1)
      ∧ r.2.mem ((c.tc : Thread Cert.StepMatIdeal.nD Cert.StepMatIdeal.τ).loc Cert.StepMatIdeal.main_arg2) = m ((c.tc : Thread Cert.StepMatIdeal.nD Cert.StepMatIdeal.τ).loc Cert.StepMatIdeal.main_arg2)
      ∧ r.2.mem ((c.tc : Thread Cert.StepMatIdeal.nD Cert.StepMatIdeal.τ).loc Cert.StepMatIdeal.main_arg3) = m ((c.tc : Thread Cert.StepMatIdeal.nD Cert.StepMatIdeal.τ).loc Cert.StepMatIdeal.main_arg3)
      ∧ r.2.mem ((c.tc : Thread Cert.StepMatIdeal.nD Cert.StepMatIdeal.τ).loc Cert.StepMatIdeal.main_arg4) = m ((c.tc : Thread Cert.StepMatIdeal.nD Cert.StepMatIdeal.τ).loc Cert.StepMatIdeal.main_arg4)
      ∧ r.2.mem ((c.tc : Thread Cert.StepMatIdeal.nD Cert.StepMatIdeal.τ).loc Cert.StepMatIdeal.main_arg5) = m ((c.tc : Thread Cert.StepMatIdeal.nD Cert.StepMatIdeal.τ).loc Cert.StepMatIdeal.main_arg5))
      ∧ r.2.sem = fun _ => 0)

def quiescent_StepMatRefIdeal [hStepMatRefIdeal : Cert.StepMatRefIdeal.Facts] : Prop :=
  ∀ (m : (ℓ : Loc Cert.StepMatRefIdeal.nD Cert.StepMatRefIdeal.τ Cert.StepMatRefIdeal.sig) → Buf (Elt Ideal) ℓ) (g : Dev Cert.StepMatRefIdeal.nD → PrngReg), Pre_StepMatRefIdeal m →
    θ_run (Cert.StepMatRefIdeal.defs (F := Ideal)) (onTc (τ := Cert.StepMatRefIdeal.τ) (Cert.StepMatRefIdeal.main (F := Ideal))) ⟨m, fun _ => 0, g⟩ (fun r => (∀ c : Dev Cert.StepMatRefIdeal.nD,
      r.2.mem ((c.tc : Thread Cert.StepMatRefIdeal.nD Cert.StepMatRefIdeal.τ).loc Cert.StepMatRefIdeal.main_arg0) = m ((c.tc : Thread Cert.StepMatRefIdeal.nD Cert.StepMatRefIdeal.τ).loc Cert.StepMatRefIdeal.main_arg0)
      ∧ r.2.mem ((c.tc : Thread Cert.StepMatRefIdeal.nD Cert.StepMatRefIdeal.τ).loc Cert.StepMatRefIdeal.main_arg1) = m ((c.tc : Thread Cert.StepMatRefIdeal.nD Cert.StepMatRefIdeal.τ).loc Cert.StepMatRefIdeal.main_arg1)
      ∧ r.2.mem ((c.tc : Thread Cert.StepMatRefIdeal.nD Cert.StepMatRefIdeal.τ).loc Cert.StepMatRefIdeal.main_arg2) = m ((c.tc : Thread Cert.StepMatRefIdeal.nD Cert.StepMatRefIdeal.τ).loc Cert.StepMatRefIdeal.main_arg2)
      ∧ r.2.mem ((c.tc : Thread Cert.StepMatRefIdeal.nD Cert.StepMatRefIdeal.τ).loc Cert.StepMatRefIdeal.main_arg3) = m ((c.tc : Thread Cert.StepMatRefIdeal.nD Cert.StepMatRefIdeal.τ).loc Cert.StepMatRefIdeal.main_arg3)
      ∧ r.2.mem ((c.tc : Thread Cert.StepMatRefIdeal.nD Cert.StepMatRefIdeal.τ).loc Cert.StepMatRefIdeal.main_arg4) = m ((c.tc : Thread Cert.StepMatRefIdeal.nD Cert.StepMatRefIdeal.τ).loc Cert.StepMatRefIdeal.main_arg4)
      ∧ r.2.mem ((c.tc : Thread Cert.StepMatRefIdeal.nD Cert.StepMatRefIdeal.τ).loc Cert.StepMatRefIdeal.main_arg5) = m ((c.tc : Thread Cert.StepMatRefIdeal.nD Cert.StepMatRefIdeal.τ).loc Cert.StepMatRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mla_MlaIdeal : Prop :=
  IdealRules.named_const.Statement Cert.MlaIdeal.κ "mask" .f32 0xF149F2CA#32 ⊥

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v0_0)) (v1 : (c : Dev Cert.MlaIdeal.nD) → Buf (Elt Ideal) ((c.tc : Thread Cert.MlaIdeal.nD Cert.MlaIdeal.τ).loc Cert.MlaIdeal.main_v1_0)) (v2 : (c : Dev Cert.MlaIdeal.nD) → Buf (Elt Ideal) ((c.tc : Thread Cert.MlaIdeal.nD Cert.MlaIdeal.τ).loc Cert.MlaIdeal.main_v1_1)) (v3 : (c : Dev Cert.MlaIdeal.nD) → Buf (Elt Ideal) ((c.tc : Thread Cert.MlaIdeal.nD Cert.MlaIdeal.τ).loc Cert.MlaIdeal.main_v1_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0_0) = v0 c
          ∧ r.2.mem ((c.tc : Thread Cert.MlaIdeal.nD Cert.MlaIdeal.τ).loc Cert.MlaIdeal.main_v1_0) = v1 c
          ∧ r.2.mem ((c.tc : Thread Cert.MlaIdeal.nD Cert.MlaIdeal.τ).loc Cert.MlaIdeal.main_v1_1) = v2 c
          ∧ r.2.mem ((c.tc : Thread Cert.MlaIdeal.nD Cert.MlaIdeal.τ).loc Cert.MlaIdeal.main_v1_2) = v3 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v51) = v0 c
          ∧ r.2.mem ((c.tc : Thread Cert.MlaRefIdeal.nD Cert.MlaRefIdeal.τ).loc Cert.MlaRefIdeal.main_v80) = v1 c
          ∧ r.2.mem ((c.tc : Thread Cert.MlaRefIdeal.nD Cert.MlaRefIdeal.τ).loc Cert.MlaRefIdeal.main_v76) = v2 c
          ∧ r.2.mem ((c.tc : Thread Cert.MlaRefIdeal.nD Cert.MlaRefIdeal.τ).loc Cert.MlaRefIdeal.main_v74) = v3 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3_1)) (v1 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_1) = v0 c
          ∧ r.2.mem ((c.tc : Thread Cert.FfnIdeal.nD Cert.FfnIdeal.τ).loc Cert.FfnIdeal.main_v5) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_v29) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v4) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_GwFfnOut_GwFfnOutIdeal : Prop :=
  True

def algebraic_GwFfnOutIdeal_GwFfnOutRefIdeal [hGwFfnOutIdeal : Cert.GwFfnOutIdeal.Facts] [hGwFfnOutRefIdeal : Cert.GwFfnOutRefIdeal.Facts] : Prop :=
  ∀ (m : (ℓ : Loc Cert.GwFfnOutIdeal.nD Cert.GwFfnOutIdeal.τ Cert.GwFfnOutIdeal.sig) → Buf (Elt Ideal) ℓ) (g : Dev Cert.GwFfnOutIdeal.nD → PrngReg)
    (m' : (ℓ : Loc Cert.GwFfnOutRefIdeal.nD Cert.GwFfnOutRefIdeal.τ Cert.GwFfnOutRefIdeal.sig) → Buf (Elt Ideal) ℓ) (g' : Dev Cert.GwFfnOutRefIdeal.nD → PrngReg), Pre_GwFfnOutIdeal m →
    (∀ c : Dev Cert.GwFfnOutIdeal.nD,
      m' ((c.tc : Thread Cert.GwFfnOutRefIdeal.nD Cert.GwFfnOutRefIdeal.τ).loc Cert.GwFfnOutRefIdeal.main_arg0) = m ((c.tc : Thread Cert.GwFfnOutIdeal.nD Cert.GwFfnOutIdeal.τ).loc Cert.GwFfnOutIdeal.main_arg0)
      ∧ m' ((c.tc : Thread Cert.GwFfnOutRefIdeal.nD Cert.GwFfnOutRefIdeal.τ).loc Cert.GwFfnOutRefIdeal.main_arg1) = m ((c.tc : Thread Cert.GwFfnOutIdeal.nD Cert.GwFfnOutIdeal.τ).loc Cert.GwFfnOutIdeal.main_arg1)) →
    ∃ (v0 : (c : Dev Cert.GwFfnOutIdeal.nD) → Buf (Elt Ideal) ((c.tc : Thread Cert.GwFfnOutIdeal.nD Cert.GwFfnOutIdeal.τ).loc Cert.GwFfnOutIdeal.main_v0)),
      θ_run (Cert.GwFfnOutIdeal.defs (F := Ideal)) (onTc (τ := Cert.GwFfnOutIdeal.τ) (Cert.GwFfnOutIdeal.main (F := Ideal))) ⟨m, fun _ => 0, g⟩ (fun r => ∀ c : Dev Cert.GwFfnOutIdeal.nD,
          r.2.mem ((c.tc : Thread Cert.GwFfnOutIdeal.nD Cert.GwFfnOutIdeal.τ).loc Cert.GwFfnOutIdeal.main_v0) = v0 c
          ∧ r.2.mem ((c.tc : Thread Cert.GwFfnOutIdeal.nD Cert.GwFfnOutIdeal.τ).loc Cert.GwFfnOutIdeal.main_arg0) = m ((c.tc : Thread Cert.GwFfnOutIdeal.nD Cert.GwFfnOutIdeal.τ).loc Cert.GwFfnOutIdeal.main_arg0)
          ∧ r.2.mem ((c.tc : Thread Cert.GwFfnOutIdeal.nD Cert.GwFfnOutIdeal.τ).loc Cert.GwFfnOutIdeal.main_arg1) = m ((c.tc : Thread Cert.GwFfnOutIdeal.nD Cert.GwFfnOutIdeal.τ).loc Cert.GwFfnOutIdeal.main_arg1))
      ∧ θ_run (Cert.GwFfnOutRefIdeal.defs (F := Ideal)) (onTc (τ := Cert.GwFfnOutRefIdeal.τ) (Cert.GwFfnOutRefIdeal.main (F := Ideal))) ⟨m', fun _ => 0, g'⟩ (fun r => ∀ c : Dev Cert.GwFfnOutRefIdeal.nD,
          r.2.mem ((c.tc : Thread Cert.GwFfnOutRefIdeal.nD Cert.GwFfnOutRefIdeal.τ).loc Cert.GwFfnOutRefIdeal.main_v8) = v0 c
          ∧ r.2.mem ((c.tc : Thread Cert.GwFfnOutRefIdeal.nD Cert.GwFfnOutRefIdeal.τ).loc Cert.GwFfnOutRefIdeal.main_arg0) = m' ((c.tc : Thread Cert.GwFfnOutRefIdeal.nD Cert.GwFfnOutRefIdeal.τ).loc Cert.GwFfnOutRefIdeal.main_arg0)
          ∧ r.2.mem ((c.tc : Thread Cert.GwFfnOutRefIdeal.nD Cert.GwFfnOutRefIdeal.τ).loc Cert.GwFfnOutRefIdeal.main_arg1) = m' ((c.tc : Thread Cert.GwFfnOutRefIdeal.nD Cert.GwFfnOutRefIdeal.τ).loc Cert.GwFfnOutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v1)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v1) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v4) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v6) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v1)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v1) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v5) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v8) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v1)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v1) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v5) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_GwBranch_GwBranchIdeal : Prop :=
  True

def algebraic_GwBranchIdeal_GwBranchRefIdeal [hGwBranchIdeal : Cert.GwBranchIdeal.Facts] [hGwBranchRefIdeal : Cert.GwBranchRefIdeal.Facts] : Prop :=
  ∀ (m : (ℓ : Loc Cert.GwBranchIdeal.nD Cert.GwBranchIdeal.τ Cert.GwBranchIdeal.sig) → Buf (Elt Ideal) ℓ) (g : Dev Cert.GwBranchIdeal.nD → PrngReg)
    (m' : (ℓ : Loc Cert.GwBranchRefIdeal.nD Cert.GwBranchRefIdeal.τ Cert.GwBranchRefIdeal.sig) → Buf (Elt Ideal) ℓ) (g' : Dev Cert.GwBranchRefIdeal.nD → PrngReg), Pre_GwBranchIdeal m →
    (∀ c : Dev Cert.GwBranchIdeal.nD,
      m' ((c.tc : Thread Cert.GwBranchRefIdeal.nD Cert.GwBranchRefIdeal.τ).loc Cert.GwBranchRefIdeal.main_arg0) = m ((c.tc : Thread Cert.GwBranchIdeal.nD Cert.GwBranchIdeal.τ).loc Cert.GwBranchIdeal.main_arg0)
      ∧ m' ((c.tc : Thread Cert.GwBranchRefIdeal.nD Cert.GwBranchRefIdeal.τ).loc Cert.GwBranchRefIdeal.main_arg1) = m ((c.tc : Thread Cert.GwBranchIdeal.nD Cert.GwBranchIdeal.τ).loc Cert.GwBranchIdeal.main_arg1)) →
    ∃ (v0 : (c : Dev Cert.GwBranchIdeal.nD) → Buf (Elt Ideal) ((c.tc : Thread Cert.GwBranchIdeal.nD Cert.GwBranchIdeal.τ).loc Cert.GwBranchIdeal.main_v0)),
      θ_run (Cert.GwBranchIdeal.defs (F := Ideal)) (onTc (τ := Cert.GwBranchIdeal.τ) (Cert.GwBranchIdeal.main (F := Ideal))) ⟨m, fun _ => 0, g⟩ (fun r => ∀ c : Dev Cert.GwBranchIdeal.nD,
          r.2.mem ((c.tc : Thread Cert.GwBranchIdeal.nD Cert.GwBranchIdeal.τ).loc Cert.GwBranchIdeal.main_v0) = v0 c
          ∧ r.2.mem ((c.tc : Thread Cert.GwBranchIdeal.nD Cert.GwBranchIdeal.τ).loc Cert.GwBranchIdeal.main_arg0) = m ((c.tc : Thread Cert.GwBranchIdeal.nD Cert.GwBranchIdeal.τ).loc Cert.GwBranchIdeal.main_arg0)
          ∧ r.2.mem ((c.tc : Thread Cert.GwBranchIdeal.nD Cert.GwBranchIdeal.τ).loc Cert.GwBranchIdeal.main_arg1) = m ((c.tc : Thread Cert.GwBranchIdeal.nD Cert.GwBranchIdeal.τ).loc Cert.GwBranchIdeal.main_arg1))
      ∧ θ_run (Cert.GwBranchRefIdeal.defs (F := Ideal)) (onTc (τ := Cert.GwBranchRefIdeal.τ) (Cert.GwBranchRefIdeal.main (F := Ideal))) ⟨m', fun _ => 0, g'⟩ (fun r => ∀ c : Dev Cert.GwBranchRefIdeal.nD,
          r.2.mem ((c.tc : Thread Cert.GwBranchRefIdeal.nD Cert.GwBranchRefIdeal.τ).loc Cert.GwBranchRefIdeal.main_v7) = v0 c
          ∧ r.2.mem ((c.tc : Thread Cert.GwBranchRefIdeal.nD Cert.GwBranchRefIdeal.τ).loc Cert.GwBranchRefIdeal.main_arg0) = m' ((c.tc : Thread Cert.GwBranchRefIdeal.nD Cert.GwBranchRefIdeal.τ).loc Cert.GwBranchRefIdeal.main_arg0)
          ∧ r.2.mem ((c.tc : Thread Cert.GwBranchRefIdeal.nD Cert.GwBranchRefIdeal.τ).loc Cert.GwBranchRefIdeal.main_arg1) = m' ((c.tc : Thread Cert.GwBranchRefIdeal.nD Cert.GwBranchRefIdeal.τ).loc Cert.GwBranchRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v5) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v6) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v20) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v33) = v0 c
          ∧ r.2.mem ((c.tc : Thread Cert.GateBwdRefIdeal.nD Cert.GateBwdRefIdeal.τ).loc Cert.GateBwdRefIdeal.main_v34) = v1 c
          ∧ r.2.mem ((c.tc : Thread Cert.GateBwdRefIdeal.nD Cert.GateBwdRefIdeal.τ).loc Cert.GateBwdRefIdeal.main_v35) = v2 c
          ∧ r.2.mem ((c.tc : Thread Cert.GateBwdRefIdeal.nD Cert.GateBwdRefIdeal.τ).loc Cert.GateBwdRefIdeal.main_v36) = v3 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v20) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2))

def preserves_Norm1Bwd_Norm1BwdIdeal : Prop :=
  True

def algebraic_Norm1BwdIdeal_Norm1BwdRefIdeal [hNorm1BwdIdeal : Cert.Norm1BwdIdeal.Facts] [hNorm1BwdRefIdeal : Cert.Norm1BwdRefIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)) →
    ∃ (v0 : (c : Dev Cert.Norm1BwdIdeal.nD) → Buf (Elt Ideal) ((c.tc : Thread Cert.Norm1BwdIdeal.nD Cert.Norm1BwdIdeal.τ).loc Cert.Norm1BwdIdeal.main_v0_0)) (v1 : (c : Dev Cert.Norm1BwdIdeal.nD) → Buf (Elt Ideal) ((c.tc : Thread Cert.Norm1BwdIdeal.nD Cert.Norm1BwdIdeal.τ).loc Cert.Norm1BwdIdeal.main_v0_1)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v0_0) = v0 c
          ∧ r.2.mem ((c.tc : Thread Cert.Norm1BwdIdeal.nD Cert.Norm1BwdIdeal.τ).loc Cert.Norm1BwdIdeal.main_v0_1) = v1 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v50) = v0 c
          ∧ r.2.mem ((c.tc : Thread Cert.Norm1BwdRefIdeal.nD Cert.Norm1BwdRefIdeal.τ).loc Cert.Norm1BwdRefIdeal.main_v52) = v1 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v5) = v0 c
          ∧ r.2.mem ((c.tc : Thread Cert.Norm2RefIdeal.nD Cert.Norm2RefIdeal.τ).loc Cert.Norm2RefIdeal.main_v24) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3))

def preserves_Norm2Bwd_Norm2BwdIdeal : Prop :=
  True

def algebraic_Norm2BwdIdeal_Norm2BwdRefIdeal [hNorm2BwdIdeal : Cert.Norm2BwdIdeal.Facts] [hNorm2BwdRefIdeal : Cert.Norm2BwdRefIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)
      ∧ m' ((c.tc : Thread Cert.Norm2BwdRefIdeal.nD Cert.Norm2BwdRefIdeal.τ).loc Cert.Norm2BwdRefIdeal.main_arg5) = m ((c.tc : Thread Cert.Norm2BwdIdeal.nD Cert.Norm2BwdIdeal.τ).loc Cert.Norm2BwdIdeal.main_arg5)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v51) = v0 c
          ∧ r.2.mem ((c.tc : Thread Cert.Norm2BwdRefIdeal.nD Cert.Norm2BwdRefIdeal.τ).loc Cert.Norm2BwdRefIdeal.main_v59) = v1 c
          ∧ r.2.mem ((c.tc : Thread Cert.Norm2BwdRefIdeal.nD Cert.Norm2BwdRefIdeal.τ).loc Cert.Norm2BwdRefIdeal.main_v61) = v2 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4)
          ∧ r.2.mem ((c.tc : Thread Cert.Norm2BwdRefIdeal.nD Cert.Norm2BwdRefIdeal.τ).loc Cert.Norm2BwdRefIdeal.main_arg5) = m' ((c.tc : Thread Cert.Norm2BwdRefIdeal.nD Cert.Norm2BwdRefIdeal.τ).loc Cert.Norm2BwdRefIdeal.main_arg5))

def preserves_Latent_LatentIdeal : Prop :=
  True

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v0_0)) (v1 : (c : Dev Cert.LatentIdeal.nD) → Buf (Elt Ideal) ((c.tc : Thread Cert.LatentIdeal.nD Cert.LatentIdeal.τ).loc Cert.LatentIdeal.main_v0_1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0_0) = v0 c
          ∧ r.2.mem ((c.tc : Thread Cert.LatentIdeal.nD Cert.LatentIdeal.τ).loc Cert.LatentIdeal.main_v0_1) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v27) = v0 c
          ∧ r.2.mem ((c.tc : Thread Cert.LatentRefIdeal.nD Cert.LatentRefIdeal.τ).loc Cert.LatentRefIdeal.main_v28) = v1 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_LatentBwd_LatentBwdIdeal : Prop :=
  True

def algebraic_LatentBwdIdeal_LatentBwdRefIdeal [hLatentBwdIdeal : Cert.LatentBwdIdeal.Facts] [hLatentBwdRefIdeal : Cert.LatentBwdRefIdeal.Facts] : Prop :=
  ∀ (m : (ℓ : Loc Cert.LatentBwdIdeal.nD Cert.LatentBwdIdeal.τ Cert.LatentBwdIdeal.sig) → Buf (Elt Ideal) ℓ) (g : Dev Cert.LatentBwdIdeal.nD → PrngReg)
    (m' : (ℓ : Loc Cert.LatentBwdRefIdeal.nD Cert.LatentBwdRefIdeal.τ Cert.LatentBwdRefIdeal.sig) → Buf (Elt Ideal) ℓ) (g' : Dev Cert.LatentBwdRefIdeal.nD → PrngReg), Pre_LatentBwdIdeal m →
    (∀ c : Dev Cert.LatentBwdIdeal.nD,
      m' ((c.tc : Thread Cert.LatentBwdRefIdeal.nD Cert.LatentBwdRefIdeal.τ).loc Cert.LatentBwdRefIdeal.main_arg0) = m ((c.tc : Thread Cert.LatentBwdIdeal.nD Cert.LatentBwdIdeal.τ).loc Cert.LatentBwdIdeal.main_arg0)
      ∧ m' ((c.tc : Thread Cert.LatentBwdRefIdeal.nD Cert.LatentBwdRefIdeal.τ).loc Cert.LatentBwdRefIdeal.main_arg1) = m ((c.tc : Thread Cert.LatentBwdIdeal.nD Cert.LatentBwdIdeal.τ).loc Cert.LatentBwdIdeal.main_arg1)
      ∧ m' ((c.tc : Thread Cert.LatentBwdRefIdeal.nD Cert.LatentBwdRefIdeal.τ).loc Cert.LatentBwdRefIdeal.main_arg2) = m ((c.tc : Thread Cert.LatentBwdIdeal.nD Cert.LatentBwdIdeal.τ).loc Cert.LatentBwdIdeal.main_arg2)
      ∧ m' ((c.tc : Thread Cert.LatentBwdRefIdeal.nD Cert.LatentBwdRefIdeal.τ).loc Cert.LatentBwdRefIdeal.main_arg3) = m ((c.tc : Thread Cert.LatentBwdIdeal.nD Cert.LatentBwdIdeal.τ).loc Cert.LatentBwdIdeal.main_arg3)
      ∧ m' ((c.tc : Thread Cert.LatentBwdRefIdeal.nD Cert.LatentBwdRefIdeal.τ).loc Cert.LatentBwdRefIdeal.main_arg4) = m ((c.tc : Thread Cert.LatentBwdIdeal.nD Cert.LatentBwdIdeal.τ).loc Cert.LatentBwdIdeal.main_arg4)) →
    ∃ (v0 : (c : Dev Cert.LatentBwdIdeal.nD) → Buf (Elt Ideal) ((c.tc : Thread Cert.LatentBwdIdeal.nD Cert.LatentBwdIdeal.τ).loc Cert.LatentBwdIdeal.main_v0_0)) (v1 : (c : Dev Cert.LatentBwdIdeal.nD) → Buf (Elt Ideal) ((c.tc : Thread Cert.LatentBwdIdeal.nD Cert.LatentBwdIdeal.τ).loc Cert.LatentBwdIdeal.main_v0_1)) (v2 : (c : Dev Cert.LatentBwdIdeal.nD) → Buf (Elt Ideal) ((c.tc : Thread Cert.LatentBwdIdeal.nD Cert.LatentBwdIdeal.τ).loc Cert.LatentBwdIdeal.main_v0_2)),
      θ_run (Cert.LatentBwdIdeal.defs (F := Ideal)) (onTc (τ := Cert.LatentBwdIdeal.τ) (Cert.LatentBwdIdeal.main (F := Ideal))) ⟨m, fun _ => 0, g⟩ (fun r => ∀ c : Dev Cert.LatentBwdIdeal.nD,
          r.2.mem ((c.tc : Thread Cert.LatentBwdIdeal.nD Cert.LatentBwdIdeal.τ).loc Cert.LatentBwdIdeal.main_v0_0) = v0 c
          ∧ r.2.mem ((c.tc : Thread Cert.LatentBwdIdeal.nD Cert.LatentBwdIdeal.τ).loc Cert.LatentBwdIdeal.main_v0_1) = v1 c
          ∧ r.2.mem ((c.tc : Thread Cert.LatentBwdIdeal.nD Cert.LatentBwdIdeal.τ).loc Cert.LatentBwdIdeal.main_v0_2) = v2 c
          ∧ r.2.mem ((c.tc : Thread Cert.LatentBwdIdeal.nD Cert.LatentBwdIdeal.τ).loc Cert.LatentBwdIdeal.main_arg0) = m ((c.tc : Thread Cert.LatentBwdIdeal.nD Cert.LatentBwdIdeal.τ).loc Cert.LatentBwdIdeal.main_arg0)
          ∧ r.2.mem ((c.tc : Thread Cert.LatentBwdIdeal.nD Cert.LatentBwdIdeal.τ).loc Cert.LatentBwdIdeal.main_arg1) = m ((c.tc : Thread Cert.LatentBwdIdeal.nD Cert.LatentBwdIdeal.τ).loc Cert.LatentBwdIdeal.main_arg1)
          ∧ r.2.mem ((c.tc : Thread Cert.LatentBwdIdeal.nD Cert.LatentBwdIdeal.τ).loc Cert.LatentBwdIdeal.main_arg2) = m ((c.tc : Thread Cert.LatentBwdIdeal.nD Cert.LatentBwdIdeal.τ).loc Cert.LatentBwdIdeal.main_arg2)
          ∧ r.2.mem ((c.tc : Thread Cert.LatentBwdIdeal.nD Cert.LatentBwdIdeal.τ).loc Cert.LatentBwdIdeal.main_arg3) = m ((c.tc : Thread Cert.LatentBwdIdeal.nD Cert.LatentBwdIdeal.τ).loc Cert.LatentBwdIdeal.main_arg3)
          ∧ r.2.mem ((c.tc : Thread Cert.LatentBwdIdeal.nD Cert.LatentBwdIdeal.τ).loc Cert.LatentBwdIdeal.main_arg4) = m ((c.tc : Thread Cert.LatentBwdIdeal.nD Cert.LatentBwdIdeal.τ).loc Cert.LatentBwdIdeal.main_arg4))
      ∧ θ_run (Cert.LatentBwdRefIdeal.defs (F := Ideal)) (onTc (τ := Cert.LatentBwdRefIdeal.τ) (Cert.LatentBwdRefIdeal.main (F := Ideal))) ⟨m', fun _ => 0, g'⟩ (fun r => ∀ c : Dev Cert.LatentBwdRefIdeal.nD,
          r.2.mem ((c.tc : Thread Cert.LatentBwdRefIdeal.nD Cert.LatentBwdRefIdeal.τ).loc Cert.LatentBwdRefIdeal.main_v73) = v0 c
          ∧ r.2.mem ((c.tc : Thread Cert.LatentBwdRefIdeal.nD Cert.LatentBwdRefIdeal.τ).loc Cert.LatentBwdRefIdeal.main_v74) = v1 c
          ∧ r.2.mem ((c.tc : Thread Cert.LatentBwdRefIdeal.nD Cert.LatentBwdRefIdeal.τ).loc Cert.LatentBwdRefIdeal.main_v76) = v2 c
          ∧ r.2.mem ((c.tc : Thread Cert.LatentBwdRefIdeal.nD Cert.LatentBwdRefIdeal.τ).loc Cert.LatentBwdRefIdeal.main_arg0) = m' ((c.tc : Thread Cert.LatentBwdRefIdeal.nD Cert.LatentBwdRefIdeal.τ).loc Cert.LatentBwdRefIdeal.main_arg0)
          ∧ r.2.mem ((c.tc : Thread Cert.LatentBwdRefIdeal.nD Cert.LatentBwdRefIdeal.τ).loc Cert.LatentBwdRefIdeal.main_arg1) = m' ((c.tc : Thread Cert.LatentBwdRefIdeal.nD Cert.LatentBwdRefIdeal.τ).loc Cert.LatentBwdRefIdeal.main_arg1)
          ∧ r.2.mem ((c.tc : Thread Cert.LatentBwdRefIdeal.nD Cert.LatentBwdRefIdeal.τ).loc Cert.LatentBwdRefIdeal.main_arg2) = m' ((c.tc : Thread Cert.LatentBwdRefIdeal.nD Cert.LatentBwdRefIdeal.τ).loc Cert.LatentBwdRefIdeal.main_arg2)
          ∧ r.2.mem ((c.tc : Thread Cert.LatentBwdRefIdeal.nD Cert.LatentBwdRefIdeal.τ).loc Cert.LatentBwdRefIdeal.main_arg3) = m' ((c.tc : Thread Cert.LatentBwdRefIdeal.nD Cert.LatentBwdRefIdeal.τ).loc Cert.LatentBwdRefIdeal.main_arg3)
          ∧ r.2.mem ((c.tc : Thread Cert.LatentBwdRefIdeal.nD Cert.LatentBwdRefIdeal.τ).loc Cert.LatentBwdRefIdeal.main_arg4) = m' ((c.tc : Thread Cert.LatentBwdRefIdeal.nD Cert.LatentBwdRefIdeal.τ).loc Cert.LatentBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v24) = v1 c
          ∧ r.2.mem ((c.tc : Thread Cert.LossRefIdeal.nD Cert.LossRefIdeal.τ).loc Cert.LossRefIdeal.main_v26) = v2 c
          ∧ r.2.mem ((c.tc : Thread Cert.LossRefIdeal.nD Cert.LossRefIdeal.τ).loc Cert.LossRefIdeal.main_v27) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_StepAda_StepAdaIdeal : Prop :=
  True

def algebraic_StepAdaIdeal_StepAdaRefIdeal [hStepAdaIdeal : Cert.StepAdaIdeal.Facts] [hStepAdaRefIdeal : Cert.StepAdaRefIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaRefIdeal.nD Cert.StepAdaRefIdeal.τ Cert.StepAdaRefIdeal.sig) → Buf (Elt Ideal) ℓ) (g' : Dev Cert.StepAdaRefIdeal.nD → PrngReg), Pre_StepAdaIdeal m →
    (∀ c : Dev Cert.StepAdaIdeal.nD,
      m' ((c.tc : Thread Cert.StepAdaRefIdeal.nD Cert.StepAdaRefIdeal.τ).loc Cert.StepAdaRefIdeal.main_arg0) = m ((c.tc : Thread Cert.StepAdaIdeal.nD Cert.StepAdaIdeal.τ).loc Cert.StepAdaIdeal.main_arg0)
      ∧ m' ((c.tc : Thread Cert.StepAdaRefIdeal.nD Cert.StepAdaRefIdeal.τ).loc Cert.StepAdaRefIdeal.main_arg1) = m ((c.tc : Thread Cert.StepAdaIdeal.nD Cert.StepAdaIdeal.τ).loc Cert.StepAdaIdeal.main_arg1)
      ∧ m' ((c.tc : Thread Cert.StepAdaRefIdeal.nD Cert.StepAdaRefIdeal.τ).loc Cert.StepAdaRefIdeal.main_arg2) = m ((c.tc : Thread Cert.StepAdaIdeal.nD Cert.StepAdaIdeal.τ).loc Cert.StepAdaIdeal.main_arg2)
      ∧ m' ((c.tc : Thread Cert.StepAdaRefIdeal.nD Cert.StepAdaRefIdeal.τ).loc Cert.StepAdaRefIdeal.main_arg3) = m ((c.tc : Thread Cert.StepAdaIdeal.nD Cert.StepAdaIdeal.τ).loc Cert.StepAdaIdeal.main_arg3)
      ∧ m' ((c.tc : Thread Cert.StepAdaRefIdeal.nD Cert.StepAdaRefIdeal.τ).loc Cert.StepAdaRefIdeal.main_arg4) = m ((c.tc : Thread Cert.StepAdaIdeal.nD Cert.StepAdaIdeal.τ).loc Cert.StepAdaIdeal.main_arg4)) →
    ∃ (v0 : (c : Dev Cert.StepAdaIdeal.nD) → Buf (Elt Ideal) ((c.tc : Thread Cert.StepAdaIdeal.nD Cert.StepAdaIdeal.τ).loc Cert.StepAdaIdeal.main_v0_0)) (v1 : (c : Dev Cert.StepAdaIdeal.nD) → Buf (Elt Ideal) ((c.tc : Thread Cert.StepAdaIdeal.nD Cert.StepAdaIdeal.τ).loc Cert.StepAdaIdeal.main_v0_1)) (v2 : (c : Dev Cert.StepAdaIdeal.nD) → Buf (Elt Ideal) ((c.tc : Thread Cert.StepAdaIdeal.nD Cert.StepAdaIdeal.τ).loc Cert.StepAdaIdeal.main_v0_2)) (v3 : (c : Dev Cert.StepAdaIdeal.nD) → Buf (Elt Ideal) ((c.tc : Thread Cert.StepAdaIdeal.nD Cert.StepAdaIdeal.τ).loc Cert.StepAdaIdeal.main_v0_3)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v0_0) = v0 c
          ∧ r.2.mem ((c.tc : Thread Cert.StepAdaIdeal.nD Cert.StepAdaIdeal.τ).loc Cert.StepAdaIdeal.main_v0_1) = v1 c
          ∧ r.2.mem ((c.tc : Thread Cert.StepAdaIdeal.nD Cert.StepAdaIdeal.τ).loc Cert.StepAdaIdeal.main_v0_2) = v2 c
          ∧ r.2.mem ((c.tc : Thread Cert.StepAdaIdeal.nD Cert.StepAdaIdeal.τ).loc Cert.StepAdaIdeal.main_v0_3) = v3 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3)
          ∧ r.2.mem ((c.tc : Thread Cert.StepAdaIdeal.nD Cert.StepAdaIdeal.τ).loc Cert.StepAdaIdeal.main_arg4) = m ((c.tc : Thread Cert.StepAdaIdeal.nD Cert.StepAdaIdeal.τ).loc Cert.StepAdaIdeal.main_arg4))
      ∧ θ_run (Cert.StepAdaRefIdeal.defs (F := Ideal)) (onTc (τ := Cert.StepAdaRefIdeal.τ) (Cert.StepAdaRefIdeal.main (F := Ideal))) ⟨m', fun _ => 0, g'⟩ (fun r => ∀ c : Dev Cert.StepAdaRefIdeal.nD,
          r.2.mem ((c.tc : Thread Cert.StepAdaRefIdeal.nD Cert.StepAdaRefIdeal.τ).loc Cert.StepAdaRefIdeal.main_v3) = v0 c
          ∧ r.2.mem ((c.tc : Thread Cert.StepAdaRefIdeal.nD Cert.StepAdaRefIdeal.τ).loc Cert.StepAdaRefIdeal.main_v27) = v1 c
          ∧ r.2.mem ((c.tc : Thread Cert.StepAdaRefIdeal.nD Cert.StepAdaRefIdeal.τ).loc Cert.StepAdaRefIdeal.main_v8) = v2 c
          ∧ r.2.mem ((c.tc : Thread Cert.StepAdaRefIdeal.nD Cert.StepAdaRefIdeal.τ).loc Cert.StepAdaRefIdeal.main_v14) = v3 c
          ∧ r.2.mem ((c.tc : Thread Cert.StepAdaRefIdeal.nD Cert.StepAdaRefIdeal.τ).loc Cert.StepAdaRefIdeal.main_arg0) = m' ((c.tc : Thread Cert.StepAdaRefIdeal.nD Cert.StepAdaRefIdeal.τ).loc Cert.StepAdaRefIdeal.main_arg0)
          ∧ r.2.mem ((c.tc : Thread Cert.StepAdaRefIdeal.nD Cert.StepAdaRefIdeal.τ).loc Cert.StepAdaRefIdeal.main_arg1) = m' ((c.tc : Thread Cert.StepAdaRefIdeal.nD Cert.StepAdaRefIdeal.τ).loc Cert.StepAdaRefIdeal.main_arg1)
          ∧ r.2.mem ((c.tc : Thread Cert.StepAdaRefIdeal.nD Cert.StepAdaRefIdeal.τ).loc Cert.StepAdaRefIdeal.main_arg2) = m' ((c.tc : Thread Cert.StepAdaRefIdeal.nD Cert.StepAdaRefIdeal.τ).loc Cert.StepAdaRefIdeal.main_arg2)
          ∧ r.2.mem ((c.tc : Thread Cert.StepAdaRefIdeal.nD Cert.StepAdaRefIdeal.τ).loc Cert.StepAdaRefIdeal.main_arg3) = m' ((c.tc : Thread Cert.StepAdaRefIdeal.nD Cert.StepAdaRefIdeal.τ).loc Cert.StepAdaRefIdeal.main_arg3)
          ∧ r.2.mem ((c.tc : Thread Cert.StepAdaRefIdeal.nD Cert.StepAdaRefIdeal.τ).loc Cert.StepAdaRefIdeal.main_arg4) = m' ((c.tc : Thread Cert.StepAdaRefIdeal.nD Cert.StepAdaRefIdeal.τ).loc Cert.StepAdaRefIdeal.main_arg4))

def preserves_StepVec_StepVecIdeal : Prop :=
  True

def algebraic_StepVecIdeal_StepVecRefIdeal [hStepVecIdeal : Cert.StepVecIdeal.Facts] [hStepVecRefIdeal : Cert.StepVecRefIdeal.Facts] : Prop :=
  ∀ (m : (ℓ : Loc Cert.StepVecIdeal.nD Cert.StepVecIdeal.τ Cert.StepVecIdeal.sig) → Buf (Elt Ideal) ℓ) (g : Dev Cert.StepVecIdeal.nD → PrngReg)
    (m' : (ℓ : Loc Cert.StepVecRefIdeal.nD Cert.StepVecRefIdeal.τ Cert.StepVecRefIdeal.sig) → Buf (Elt Ideal) ℓ) (g' : Dev Cert.StepVecRefIdeal.nD → PrngReg), Pre_StepVecIdeal m →
    (∀ c : Dev Cert.StepVecIdeal.nD,
      m' ((c.tc : Thread Cert.StepVecRefIdeal.nD Cert.StepVecRefIdeal.τ).loc Cert.StepVecRefIdeal.main_arg0) = m ((c.tc : Thread Cert.StepVecIdeal.nD Cert.StepVecIdeal.τ).loc Cert.StepVecIdeal.main_arg0)
      ∧ m' ((c.tc : Thread Cert.StepVecRefIdeal.nD Cert.StepVecRefIdeal.τ).loc Cert.StepVecRefIdeal.main_arg1) = m ((c.tc : Thread Cert.StepVecIdeal.nD Cert.StepVecIdeal.τ).loc Cert.StepVecIdeal.main_arg1)
      ∧ m' ((c.tc : Thread Cert.StepVecRefIdeal.nD Cert.StepVecRefIdeal.τ).loc Cert.StepVecRefIdeal.main_arg2) = m ((c.tc : Thread Cert.StepVecIdeal.nD Cert.StepVecIdeal.τ).loc Cert.StepVecIdeal.main_arg2)
      ∧ m' ((c.tc : Thread Cert.StepVecRefIdeal.nD Cert.StepVecRefIdeal.τ).loc Cert.StepVecRefIdeal.main_arg3) = m ((c.tc : Thread Cert.StepVecIdeal.nD Cert.StepVecIdeal.τ).loc Cert.StepVecIdeal.main_arg3)) →
    ∃ (v0 : (c : Dev Cert.StepVecIdeal.nD) → Buf (Elt Ideal) ((c.tc : Thread Cert.StepVecIdeal.nD Cert.StepVecIdeal.τ).loc Cert.StepVecIdeal.main_v0_0)) (v1 : (c : Dev Cert.StepVecIdeal.nD) → Buf (Elt Ideal) ((c.tc : Thread Cert.StepVecIdeal.nD Cert.StepVecIdeal.τ).loc Cert.StepVecIdeal.main_v0_1)) (v2 : (c : Dev Cert.StepVecIdeal.nD) → Buf (Elt Ideal) ((c.tc : Thread Cert.StepVecIdeal.nD Cert.StepVecIdeal.τ).loc Cert.StepVecIdeal.main_v0_2)) (v3 : (c : Dev Cert.StepVecIdeal.nD) → Buf (Elt Ideal) ((c.tc : Thread Cert.StepVecIdeal.nD Cert.StepVecIdeal.τ).loc Cert.StepVecIdeal.main_v0_3)),
      θ_run (Cert.StepVecIdeal.defs (F := Ideal)) (onTc (τ := Cert.StepVecIdeal.τ) (Cert.StepVecIdeal.main (F := Ideal))) ⟨m, fun _ => 0, g⟩ (fun r => ∀ c : Dev Cert.StepVecIdeal.nD,
          r.2.mem ((c.tc : Thread Cert.StepVecIdeal.nD Cert.StepVecIdeal.τ).loc Cert.StepVecIdeal.main_v0_0) = v0 c
          ∧ r.2.mem ((c.tc : Thread Cert.StepVecIdeal.nD Cert.StepVecIdeal.τ).loc Cert.StepVecIdeal.main_v0_1) = v1 c
          ∧ r.2.mem ((c.tc : Thread Cert.StepVecIdeal.nD Cert.StepVecIdeal.τ).loc Cert.StepVecIdeal.main_v0_2) = v2 c
          ∧ r.2.mem ((c.tc : Thread Cert.StepVecIdeal.nD Cert.StepVecIdeal.τ).loc Cert.StepVecIdeal.main_v0_3) = v3 c
          ∧ r.2.mem ((c.tc : Thread Cert.StepVecIdeal.nD Cert.StepVecIdeal.τ).loc Cert.StepVecIdeal.main_arg0) = m ((c.tc : Thread Cert.StepVecIdeal.nD Cert.StepVecIdeal.τ).loc Cert.StepVecIdeal.main_arg0)
          ∧ r.2.mem ((c.tc : Thread Cert.StepVecIdeal.nD Cert.StepVecIdeal.τ).loc Cert.StepVecIdeal.main_arg1) = m ((c.tc : Thread Cert.StepVecIdeal.nD Cert.StepVecIdeal.τ).loc Cert.StepVecIdeal.main_arg1)
          ∧ r.2.mem ((c.tc : Thread Cert.StepVecIdeal.nD Cert.StepVecIdeal.τ).loc Cert.StepVecIdeal.main_arg2) = m ((c.tc : Thread Cert.StepVecIdeal.nD Cert.StepVecIdeal.τ).loc Cert.StepVecIdeal.main_arg2)
          ∧ r.2.mem ((c.tc : Thread Cert.StepVecIdeal.nD Cert.StepVecIdeal.τ).loc Cert.StepVecIdeal.main_arg3) = m ((c.tc : Thread Cert.StepVecIdeal.nD Cert.StepVecIdeal.τ).loc Cert.StepVecIdeal.main_arg3))
      ∧ θ_run (Cert.StepVecRefIdeal.defs (F := Ideal)) (onTc (τ := Cert.StepVecRefIdeal.τ) (Cert.StepVecRefIdeal.main (F := Ideal))) ⟨m', fun _ => 0, g'⟩ (fun r => ∀ c : Dev Cert.StepVecRefIdeal.nD,
          r.2.mem ((c.tc : Thread Cert.StepVecRefIdeal.nD Cert.StepVecRefIdeal.τ).loc Cert.StepVecRefIdeal.main_v1) = v0 c
          ∧ r.2.mem ((c.tc : Thread Cert.StepVecRefIdeal.nD Cert.StepVecRefIdeal.τ).loc Cert.StepVecRefIdeal.main_v25) = v1 c
          ∧ r.2.mem ((c.tc : Thread Cert.StepVecRefIdeal.nD Cert.StepVecRefIdeal.τ).loc Cert.StepVecRefIdeal.main_v6) = v2 c
          ∧ r.2.mem ((c.tc : Thread Cert.StepVecRefIdeal.nD Cert.StepVecRefIdeal.τ).loc Cert.StepVecRefIdeal.main_v12) = v3 c
          ∧ r.2.mem ((c.tc : Thread Cert.StepVecRefIdeal.nD Cert.StepVecRefIdeal.τ).loc Cert.StepVecRefIdeal.main_arg0) = m' ((c.tc : Thread Cert.StepVecRefIdeal.nD Cert.StepVecRefIdeal.τ).loc Cert.StepVecRefIdeal.main_arg0)
          ∧ r.2.mem ((c.tc : Thread Cert.StepVecRefIdeal.nD Cert.StepVecRefIdeal.τ).loc Cert.StepVecRefIdeal.main_arg1) = m' ((c.tc : Thread Cert.StepVecRefIdeal.nD Cert.StepVecRefIdeal.τ).loc Cert.StepVecRefIdeal.main_arg1)
          ∧ r.2.mem ((c.tc : Thread Cert.StepVecRefIdeal.nD Cert.StepVecRefIdeal.τ).loc Cert.StepVecRefIdeal.main_arg2) = m' ((c.tc : Thread Cert.StepVecRefIdeal.nD Cert.StepVecRefIdeal.τ).loc Cert.StepVecRefIdeal.main_arg2)
          ∧ r.2.mem ((c.tc : Thread Cert.StepVecRefIdeal.nD Cert.StepVecRefIdeal.τ).loc Cert.StepVecRefIdeal.main_arg3) = m' ((c.tc : Thread Cert.StepVecRefIdeal.nD Cert.StepVecRefIdeal.τ).loc Cert.StepVecRefIdeal.main_arg3))

def preserves_StepMat_StepMatIdeal : Prop :=
  True

def algebraic_StepMatIdeal_StepMatRefIdeal [hStepMatIdeal : Cert.StepMatIdeal.Facts] [hStepMatRefIdeal : Cert.StepMatRefIdeal.Facts] : Prop :=
  ∀ (m : (ℓ : Loc Cert.StepMatIdeal.nD Cert.StepMatIdeal.τ Cert.StepMatIdeal.sig) → Buf (Elt Ideal) ℓ) (g : Dev Cert.StepMatIdeal.nD → PrngReg)
    (m' : (ℓ : Loc Cert.StepMatRefIdeal.nD Cert.StepMatRefIdeal.τ Cert.StepMatRefIdeal.sig) → Buf (Elt Ideal) ℓ) (g' : Dev Cert.StepMatRefIdeal.nD → PrngReg), Pre_StepMatIdeal m →
    (∀ c : Dev Cert.StepMatIdeal.nD,
      m' ((c.tc : Thread Cert.StepMatRefIdeal.nD Cert.StepMatRefIdeal.τ).loc Cert.StepMatRefIdeal.main_arg0) = m ((c.tc : Thread Cert.StepMatIdeal.nD Cert.StepMatIdeal.τ).loc Cert.StepMatIdeal.main_arg0)
      ∧ m' ((c.tc : Thread Cert.StepMatRefIdeal.nD Cert.StepMatRefIdeal.τ).loc Cert.StepMatRefIdeal.main_arg1) = m ((c.tc : Thread Cert.StepMatIdeal.nD Cert.StepMatIdeal.τ).loc Cert.StepMatIdeal.main_arg1)
      ∧ m' ((c.tc : Thread Cert.StepMatRefIdeal.nD Cert.StepMatRefIdeal.τ).loc Cert.StepMatRefIdeal.main_arg2) = m ((c.tc : Thread Cert.StepMatIdeal.nD Cert.StepMatIdeal.τ).loc Cert.StepMatIdeal.main_arg2)
      ∧ m' ((c.tc : Thread Cert.StepMatRefIdeal.nD Cert.StepMatRefIdeal.τ).loc Cert.StepMatRefIdeal.main_arg3) = m ((c.tc : Thread Cert.StepMatIdeal.nD Cert.StepMatIdeal.τ).loc Cert.StepMatIdeal.main_arg3)
      ∧ m' ((c.tc : Thread Cert.StepMatRefIdeal.nD Cert.StepMatRefIdeal.τ).loc Cert.StepMatRefIdeal.main_arg4) = m ((c.tc : Thread Cert.StepMatIdeal.nD Cert.StepMatIdeal.τ).loc Cert.StepMatIdeal.main_arg4)
      ∧ m' ((c.tc : Thread Cert.StepMatRefIdeal.nD Cert.StepMatRefIdeal.τ).loc Cert.StepMatRefIdeal.main_arg5) = m ((c.tc : Thread Cert.StepMatIdeal.nD Cert.StepMatIdeal.τ).loc Cert.StepMatIdeal.main_arg5)) →
    ∃ (v0 : (c : Dev Cert.StepMatIdeal.nD) → Buf (Elt Ideal) ((c.tc : Thread Cert.StepMatIdeal.nD Cert.StepMatIdeal.τ).loc Cert.StepMatIdeal.main_v0_0)) (v1 : (c : Dev Cert.StepMatIdeal.nD) → Buf (Elt Ideal) ((c.tc : Thread Cert.StepMatIdeal.nD Cert.StepMatIdeal.τ).loc Cert.StepMatIdeal.main_v0_1)) (v2 : (c : Dev Cert.StepMatIdeal.nD) → Buf (Elt Ideal) ((c.tc : Thread Cert.StepMatIdeal.nD Cert.StepMatIdeal.τ).loc Cert.StepMatIdeal.main_v0_2)) (v3 : (c : Dev Cert.StepMatIdeal.nD) → Buf (Elt Ideal) ((c.tc : Thread Cert.StepMatIdeal.nD Cert.StepMatIdeal.τ).loc Cert.StepMatIdeal.main_v0_3)),
      θ_run (Cert.StepMatIdeal.defs (F := Ideal)) (onTc (τ := Cert.StepMatIdeal.τ) (Cert.StepMatIdeal.main (F := Ideal))) ⟨m, fun _ => 0, g⟩ (fun r => ∀ c : Dev Cert.StepMatIdeal.nD,
          r.2.mem ((c.tc : Thread Cert.StepMatIdeal.nD Cert.StepMatIdeal.τ).loc Cert.StepMatIdeal.main_v0_0) = v0 c
          ∧ r.2.mem ((c.tc : Thread Cert.StepMatIdeal.nD Cert.StepMatIdeal.τ).loc Cert.StepMatIdeal.main_v0_1) = v1 c
          ∧ r.2.mem ((c.tc : Thread Cert.StepMatIdeal.nD Cert.StepMatIdeal.τ).loc Cert.StepMatIdeal.main_v0_2) = v2 c
          ∧ r.2.mem ((c.tc : Thread Cert.StepMatIdeal.nD Cert.StepMatIdeal.τ).loc Cert.StepMatIdeal.main_v0_3) = v3 c
          ∧ r.2.mem ((c.tc : Thread Cert.StepMatIdeal.nD Cert.StepMatIdeal.τ).loc Cert.StepMatIdeal.main_arg0) = m ((c.tc : Thread Cert.StepMatIdeal.nD Cert.StepMatIdeal.τ).loc Cert.StepMatIdeal.main_arg0)
          ∧ r.2.mem ((c.tc : Thread Cert.StepMatIdeal.nD Cert.StepMatIdeal.τ).loc Cert.StepMatIdeal.main_arg1) = m ((c.tc : Thread Cert.StepMatIdeal.nD Cert.StepMatIdeal.τ).loc Cert.StepMatIdeal.main_arg1)
          ∧ r.2.mem ((c.tc : Thread Cert.StepMatIdeal.nD Cert.StepMatIdeal.τ).loc Cert.StepMatIdeal.main_arg2) = m ((c.tc : Thread Cert.StepMatIdeal.nD Cert.StepMatIdeal.τ).loc Cert.StepMatIdeal.main_arg2)
          ∧ r.2.mem ((c.tc : Thread Cert.StepMatIdeal.nD Cert.StepMatIdeal.τ).loc Cert.StepMatIdeal.main_arg3) = m ((c.tc : Thread Cert.StepMatIdeal.nD Cert.StepMatIdeal.τ).loc Cert.StepMatIdeal.main_arg3)
          ∧ r.2.mem ((c.tc : Thread Cert.StepMatIdeal.nD Cert.StepMatIdeal.τ).loc Cert.StepMatIdeal.main_arg4) = m ((c.tc : Thread Cert.StepMatIdeal.nD Cert.StepMatIdeal.τ).loc Cert.StepMatIdeal.main_arg4)
          ∧ r.2.mem ((c.tc : Thread Cert.StepMatIdeal.nD Cert.StepMatIdeal.τ).loc Cert.StepMatIdeal.main_arg5) = m ((c.tc : Thread Cert.StepMatIdeal.nD Cert.StepMatIdeal.τ).loc Cert.StepMatIdeal.main_arg5))
      ∧ θ_run (Cert.StepMatRefIdeal.defs (F := Ideal)) (onTc (τ := Cert.StepMatRefIdeal.τ) (Cert.StepMatRefIdeal.main (F := Ideal))) ⟨m', fun _ => 0, g'⟩ (fun r => ∀ c : Dev Cert.StepMatRefIdeal.nD,
          r.2.mem ((c.tc : Thread Cert.StepMatRefIdeal.nD Cert.StepMatRefIdeal.τ).loc Cert.StepMatRefIdeal.main_v5) = v0 c
          ∧ r.2.mem ((c.tc : Thread Cert.StepMatRefIdeal.nD Cert.StepMatRefIdeal.τ).loc Cert.StepMatRefIdeal.main_v29) = v1 c
          ∧ r.2.mem ((c.tc : Thread Cert.StepMatRefIdeal.nD Cert.StepMatRefIdeal.τ).loc Cert.StepMatRefIdeal.main_v10) = v2 c
          ∧ r.2.mem ((c.tc : Thread Cert.StepMatRefIdeal.nD Cert.StepMatRefIdeal.τ).loc Cert.StepMatRefIdeal.main_v16) = v3 c
          ∧ r.2.mem ((c.tc : Thread Cert.StepMatRefIdeal.nD Cert.StepMatRefIdeal.τ).loc Cert.StepMatRefIdeal.main_arg0) = m' ((c.tc : Thread Cert.StepMatRefIdeal.nD Cert.StepMatRefIdeal.τ).loc Cert.StepMatRefIdeal.main_arg0)
          ∧ r.2.mem ((c.tc : Thread Cert.StepMatRefIdeal.nD Cert.StepMatRefIdeal.τ).loc Cert.StepMatRefIdeal.main_arg1) = m' ((c.tc : Thread Cert.StepMatRefIdeal.nD Cert.StepMatRefIdeal.τ).loc Cert.StepMatRefIdeal.main_arg1)
          ∧ r.2.mem ((c.tc : Thread Cert.StepMatRefIdeal.nD Cert.StepMatRefIdeal.τ).loc Cert.StepMatRefIdeal.main_arg2) = m' ((c.tc : Thread Cert.StepMatRefIdeal.nD Cert.StepMatRefIdeal.τ).loc Cert.StepMatRefIdeal.main_arg2)
          ∧ r.2.mem ((c.tc : Thread Cert.StepMatRefIdeal.nD Cert.StepMatRefIdeal.τ).loc Cert.StepMatRefIdeal.main_arg3) = m' ((c.tc : Thread Cert.StepMatRefIdeal.nD Cert.StepMatRefIdeal.τ).loc Cert.StepMatRefIdeal.main_arg3)
          ∧ r.2.mem ((c.tc : Thread Cert.StepMatRefIdeal.nD Cert.StepMatRefIdeal.τ).loc Cert.StepMatRefIdeal.main_arg4) = m' ((c.tc : Thread Cert.StepMatRefIdeal.nD Cert.StepMatRefIdeal.τ).loc Cert.StepMatRefIdeal.main_arg4)
          ∧ r.2.mem ((c.tc : Thread Cert.StepMatRefIdeal.nD Cert.StepMatRefIdeal.τ).loc Cert.StepMatRefIdeal.main_arg5) = m' ((c.tc : Thread Cert.StepMatRefIdeal.nD Cert.StepMatRefIdeal.τ).loc Cert.StepMatRefIdeal.main_arg5))

def Claim : Prop :=
  ∃ (hKernel : Cert.Kernel.Facts) (hKernelIdeal : Cert.KernelIdeal.Facts) (hReferenceIdeal : Cert.ReferenceIdeal.Facts) (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hFfnOut : Cert.FfnOut.Facts) (hFfnOutIdeal : Cert.FfnOutIdeal.Facts) (hFfnOutRefIdeal : Cert.FfnOutRefIdeal.Facts) (hDH2 : Cert.DH2.Facts) (hDH2Ideal : Cert.DH2Ideal.Facts) (hDH2RefIdeal : Cert.DH2RefIdeal.Facts) (hGwFfnOut : Cert.GwFfnOut.Facts) (hGwFfnOutIdeal : Cert.GwFfnOutIdeal.Facts) (hGwFfnOutRefIdeal : Cert.GwFfnOutRefIdeal.Facts) (hProj : Cert.Proj.Facts) (hProjIdeal : Cert.ProjIdeal.Facts) (hProjRefIdeal : Cert.ProjRefIdeal.Facts) (hDH1 : Cert.DH1.Facts) (hDH1Ideal : Cert.DH1Ideal.Facts) (hDH1RefIdeal : Cert.DH1RefIdeal.Facts) (hGwIn : Cert.GwIn.Facts) (hGwInIdeal : Cert.GwInIdeal.Facts) (hGwInRefIdeal : Cert.GwInRefIdeal.Facts) (hOut : Cert.Out.Facts) (hOutIdeal : Cert.OutIdeal.Facts) (hOutRefIdeal : Cert.OutRefIdeal.Facts) (hDMerged : Cert.DMerged.Facts) (hDMergedIdeal : Cert.DMergedIdeal.Facts) (hDMergedRefIdeal : Cert.DMergedRefIdeal.Facts) (hGwOut : Cert.GwOut.Facts) (hGwOutIdeal : Cert.GwOutIdeal.Facts) (hGwOutRefIdeal : Cert.GwOutRefIdeal.Facts) (hBranch : Cert.Branch.Facts) (hBranchIdeal : Cert.BranchIdeal.Facts) (hBranchRefIdeal : Cert.BranchRefIdeal.Facts) (hDBranch : Cert.DBranch.Facts) (hDBranchIdeal : Cert.DBranchIdeal.Facts) (hDBranchRefIdeal : Cert.DBranchRefIdeal.Facts) (hGwBranch : Cert.GwBranch.Facts) (hGwBranchIdeal : Cert.GwBranchIdeal.Facts) (hGwBranchRefIdeal : Cert.GwBranchRefIdeal.Facts) (hUp : Cert.Up.Facts) (hUpIdeal : Cert.UpIdeal.Facts) (hUpRefIdeal : Cert.UpRefIdeal.Facts) (hDUp : Cert.DUp.Facts) (hDUpIdeal : Cert.DUpIdeal.Facts) (hDUpRefIdeal : Cert.DUpRefIdeal.Facts) (hGwUp : Cert.GwUp.Facts) (hGwUpIdeal : Cert.GwUpIdeal.Facts) (hGwUpRefIdeal : Cert.GwUpRefIdeal.Facts) (hGate : Cert.Gate.Facts) (hGateIdeal : Cert.GateIdeal.Facts) (hGateRefIdeal : Cert.GateRefIdeal.Facts) (hGateBwd : Cert.GateBwd.Facts) (hGateBwdIdeal : Cert.GateBwdIdeal.Facts) (hGateBwdRefIdeal : Cert.GateBwdRefIdeal.Facts) (hNorm1 : Cert.Norm1.Facts) (hNorm1Ideal : Cert.Norm1Ideal.Facts) (hNorm1RefIdeal : Cert.Norm1RefIdeal.Facts) (hNorm1Bwd : Cert.Norm1Bwd.Facts) (hNorm1BwdIdeal : Cert.Norm1BwdIdeal.Facts) (hNorm1BwdRefIdeal : Cert.Norm1BwdRefIdeal.Facts) (hNorm2 : Cert.Norm2.Facts) (hNorm2Ideal : Cert.Norm2Ideal.Facts) (hNorm2RefIdeal : Cert.Norm2RefIdeal.Facts) (hNorm2Bwd : Cert.Norm2Bwd.Facts) (hNorm2BwdIdeal : Cert.Norm2BwdIdeal.Facts) (hNorm2BwdRefIdeal : Cert.Norm2BwdRefIdeal.Facts) (hLatent : Cert.Latent.Facts) (hLatentIdeal : Cert.LatentIdeal.Facts) (hLatentRefIdeal : Cert.LatentRefIdeal.Facts) (hLatentBwd : Cert.LatentBwd.Facts) (hLatentBwdIdeal : Cert.LatentBwdIdeal.Facts) (hLatentBwdRefIdeal : Cert.LatentBwdRefIdeal.Facts) (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hStepAda : Cert.StepAda.Facts) (hStepAdaIdeal : Cert.StepAdaIdeal.Facts) (hStepAdaRefIdeal : Cert.StepAdaRefIdeal.Facts) (hStepVec : Cert.StepVec.Facts) (hStepVecIdeal : Cert.StepVecIdeal.Facts) (hStepVecRefIdeal : Cert.StepVecRefIdeal.Facts) (hStepMat : Cert.StepMat.Facts) (hStepMatIdeal : Cert.StepMatIdeal.Facts) (hStepMatRefIdeal : Cert.StepMatRefIdeal.Facts) (hPre_finite : Cert.Pre_finite.Facts) (hPre_finite_mla : Cert.Pre_finite_mla.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_GwFfnOut (hGwFfnOut := hGwFfnOut)
    ∧ quiescent_GwFfnOutIdeal (hGwFfnOutIdeal := hGwFfnOutIdeal)
    ∧ quiescent_GwFfnOutRefIdeal (hGwFfnOutRefIdeal := hGwFfnOutRefIdeal)
    ∧ quiescent_Proj (hProj := hProj)
    ∧ quiescent_ProjIdeal (hProjIdeal := hProjIdeal)
    ∧ quiescent_ProjRefIdeal (hProjRefIdeal := hProjRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Out (hOut := hOut)
    ∧ quiescent_OutIdeal (hOutIdeal := hOutIdeal)
    ∧ quiescent_OutRefIdeal (hOutRefIdeal := hOutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_Branch (hBranch := hBranch)
    ∧ quiescent_BranchIdeal (hBranchIdeal := hBranchIdeal)
    ∧ quiescent_BranchRefIdeal (hBranchRefIdeal := hBranchRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_GwBranch (hGwBranch := hGwBranch)
    ∧ quiescent_GwBranchIdeal (hGwBranchIdeal := hGwBranchIdeal)
    ∧ quiescent_GwBranchRefIdeal (hGwBranchRefIdeal := hGwBranchRefIdeal)
    ∧ quiescent_Up (hUp := hUp)
    ∧ quiescent_UpIdeal (hUpIdeal := hUpIdeal)
    ∧ quiescent_UpRefIdeal (hUpRefIdeal := hUpRefIdeal)
    ∧ quiescent_DUp (hDUp := hDUp)
    ∧ quiescent_DUpIdeal (hDUpIdeal := hDUpIdeal)
    ∧ quiescent_DUpRefIdeal (hDUpRefIdeal := hDUpRefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_Gate (hGate := hGate)
    ∧ quiescent_GateIdeal (hGateIdeal := hGateIdeal)
    ∧ quiescent_GateRefIdeal (hGateRefIdeal := hGateRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm1Bwd (hNorm1Bwd := hNorm1Bwd)
    ∧ quiescent_Norm1BwdIdeal (hNorm1BwdIdeal := hNorm1BwdIdeal)
    ∧ quiescent_Norm1BwdRefIdeal (hNorm1BwdRefIdeal := hNorm1BwdRefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm2Bwd (hNorm2Bwd := hNorm2Bwd)
    ∧ quiescent_Norm2BwdIdeal (hNorm2BwdIdeal := hNorm2BwdIdeal)
    ∧ quiescent_Norm2BwdRefIdeal (hNorm2BwdRefIdeal := hNorm2BwdRefIdeal)
    ∧ quiescent_Latent (hLatent := hLatent)
    ∧ quiescent_LatentIdeal (hLatentIdeal := hLatentIdeal)
    ∧ quiescent_LatentRefIdeal (hLatentRefIdeal := hLatentRefIdeal)
    ∧ quiescent_LatentBwd (hLatentBwd := hLatentBwd)
    ∧ quiescent_LatentBwdIdeal (hLatentBwdIdeal := hLatentBwdIdeal)
    ∧ quiescent_LatentBwdRefIdeal (hLatentBwdRefIdeal := hLatentBwdRefIdeal)
    ∧ quiescent_Loss (hLoss := hLoss)
    ∧ quiescent_LossIdeal (hLossIdeal := hLossIdeal)
    ∧ quiescent_LossRefIdeal (hLossRefIdeal := hLossRefIdeal)
    ∧ quiescent_Ada (hAda := hAda)
    ∧ quiescent_AdaIdeal (hAdaIdeal := hAdaIdeal)
    ∧ quiescent_AdaRefIdeal (hAdaRefIdeal := hAdaRefIdeal)
    ∧ quiescent_StepAda (hStepAda := hStepAda)
    ∧ quiescent_StepAdaIdeal (hStepAdaIdeal := hStepAdaIdeal)
    ∧ quiescent_StepAdaRefIdeal (hStepAdaRefIdeal := hStepAdaRefIdeal)
    ∧ quiescent_StepVec (hStepVec := hStepVec)
    ∧ quiescent_StepVecIdeal (hStepVecIdeal := hStepVecIdeal)
    ∧ quiescent_StepVecRefIdeal (hStepVecRefIdeal := hStepVecRefIdeal)
    ∧ quiescent_StepMat (hStepMat := hStepMat)
    ∧ quiescent_StepMatIdeal (hStepMatIdeal := hStepMatIdeal)
    ∧ quiescent_StepMatRefIdeal (hStepMatRefIdeal := hStepMatRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_FfnOut_FfnOutIdeal
    ∧ algebraic_FfnOutIdeal_FfnOutRefIdeal (hFfnOutIdeal := hFfnOutIdeal) (hFfnOutRefIdeal := hFfnOutRefIdeal)
    ∧ preserves_DH2_DH2Ideal
    ∧ algebraic_DH2Ideal_DH2RefIdeal (hDH2Ideal := hDH2Ideal) (hDH2RefIdeal := hDH2RefIdeal)
    ∧ preserves_GwFfnOut_GwFfnOutIdeal
    ∧ algebraic_GwFfnOutIdeal_GwFfnOutRefIdeal (hGwFfnOutIdeal := hGwFfnOutIdeal) (hGwFfnOutRefIdeal := hGwFfnOutRefIdeal)
    ∧ preserves_Proj_ProjIdeal
    ∧ algebraic_ProjIdeal_ProjRefIdeal (hProjIdeal := hProjIdeal) (hProjRefIdeal := hProjRefIdeal)
    ∧ preserves_DH1_DH1Ideal
    ∧ algebraic_DH1Ideal_DH1RefIdeal (hDH1Ideal := hDH1Ideal) (hDH1RefIdeal := hDH1RefIdeal)
    ∧ preserves_GwIn_GwInIdeal
    ∧ algebraic_GwInIdeal_GwInRefIdeal (hGwInIdeal := hGwInIdeal) (hGwInRefIdeal := hGwInRefIdeal)
    ∧ preserves_Out_OutIdeal
    ∧ algebraic_OutIdeal_OutRefIdeal (hOutIdeal := hOutIdeal) (hOutRefIdeal := hOutRefIdeal)
    ∧ preserves_DMerged_DMergedIdeal
    ∧ algebraic_DMergedIdeal_DMergedRefIdeal (hDMergedIdeal := hDMergedIdeal) (hDMergedRefIdeal := hDMergedRefIdeal)
    ∧ preserves_GwOut_GwOutIdeal
    ∧ algebraic_GwOutIdeal_GwOutRefIdeal (hGwOutIdeal := hGwOutIdeal) (hGwOutRefIdeal := hGwOutRefIdeal)
    ∧ preserves_Branch_BranchIdeal
    ∧ algebraic_BranchIdeal_BranchRefIdeal (hBranchIdeal := hBranchIdeal) (hBranchRefIdeal := hBranchRefIdeal)
    ∧ preserves_DBranch_DBranchIdeal
    ∧ algebraic_DBranchIdeal_DBranchRefIdeal (hDBranchIdeal := hDBranchIdeal) (hDBranchRefIdeal := hDBranchRefIdeal)
    ∧ preserves_GwBranch_GwBranchIdeal
    ∧ algebraic_GwBranchIdeal_GwBranchRefIdeal (hGwBranchIdeal := hGwBranchIdeal) (hGwBranchRefIdeal := hGwBranchRefIdeal)
    ∧ preserves_Up_UpIdeal
    ∧ algebraic_UpIdeal_UpRefIdeal (hUpIdeal := hUpIdeal) (hUpRefIdeal := hUpRefIdeal)
    ∧ preserves_DUp_DUpIdeal
    ∧ algebraic_DUpIdeal_DUpRefIdeal (hDUpIdeal := hDUpIdeal) (hDUpRefIdeal := hDUpRefIdeal)
    ∧ preserves_GwUp_GwUpIdeal
    ∧ algebraic_GwUpIdeal_GwUpRefIdeal (hGwUpIdeal := hGwUpIdeal) (hGwUpRefIdeal := hGwUpRefIdeal)
    ∧ preserves_Gate_GateIdeal
    ∧ algebraic_GateIdeal_GateRefIdeal (hGateIdeal := hGateIdeal) (hGateRefIdeal := hGateRefIdeal)
    ∧ preserves_GateBwd_GateBwdIdeal
    ∧ algebraic_GateBwdIdeal_GateBwdRefIdeal (hGateBwdIdeal := hGateBwdIdeal) (hGateBwdRefIdeal := hGateBwdRefIdeal)
    ∧ preserves_Norm1_Norm1Ideal
    ∧ algebraic_Norm1Ideal_Norm1RefIdeal (hNorm1Ideal := hNorm1Ideal) (hNorm1RefIdeal := hNorm1RefIdeal)
    ∧ preserves_Norm1Bwd_Norm1BwdIdeal
    ∧ algebraic_Norm1BwdIdeal_Norm1BwdRefIdeal (hNorm1BwdIdeal := hNorm1BwdIdeal) (hNorm1BwdRefIdeal := hNorm1BwdRefIdeal)
    ∧ preserves_Norm2_Norm2Ideal
    ∧ algebraic_Norm2Ideal_Norm2RefIdeal (hNorm2Ideal := hNorm2Ideal) (hNorm2RefIdeal := hNorm2RefIdeal)
    ∧ preserves_Norm2Bwd_Norm2BwdIdeal
    ∧ algebraic_Norm2BwdIdeal_Norm2BwdRefIdeal (hNorm2BwdIdeal := hNorm2BwdIdeal) (hNorm2BwdRefIdeal := hNorm2BwdRefIdeal)
    ∧ preserves_Latent_LatentIdeal
    ∧ algebraic_LatentIdeal_LatentRefIdeal (hLatentIdeal := hLatentIdeal) (hLatentRefIdeal := hLatentRefIdeal)
    ∧ preserves_LatentBwd_LatentBwdIdeal
    ∧ algebraic_LatentBwdIdeal_LatentBwdRefIdeal (hLatentBwdIdeal := hLatentBwdIdeal) (hLatentBwdRefIdeal := hLatentBwdRefIdeal)
    ∧ preserves_Loss_LossIdeal
    ∧ algebraic_LossIdeal_LossRefIdeal (hLossIdeal := hLossIdeal) (hLossRefIdeal := hLossRefIdeal)
    ∧ preserves_Ada_AdaIdeal
    ∧ algebraic_AdaIdeal_AdaRefIdeal (hAdaIdeal := hAdaIdeal) (hAdaRefIdeal := hAdaRefIdeal)
    ∧ preserves_StepAda_StepAdaIdeal
    ∧ algebraic_StepAdaIdeal_StepAdaRefIdeal (hStepAdaIdeal := hStepAdaIdeal) (hStepAdaRefIdeal := hStepAdaRefIdeal)
    ∧ preserves_StepVec_StepVecIdeal
    ∧ algebraic_StepVecIdeal_StepVecRefIdeal (hStepVecIdeal := hStepVecIdeal) (hStepVecRefIdeal := hStepVecRefIdeal)
    ∧ preserves_StepMat_StepMatIdeal
    ∧ algebraic_StepMatIdeal_StepMatRefIdeal (hStepMatIdeal := hStepMatIdeal) (hStepMatRefIdeal := hStepMatRefIdeal)
-- ==== Pre_finite.lean ====
abbrev S4096x8320 : Shape := ⟨2, ![4096, 8320]⟩
abbrev S4096x1024 : Shape := ⟨2, ![4096, 1024]⟩
abbrev S_ : Shape := ⟨0, ![]⟩

class Facts : Prop where
  bcast_S_S4096x8320 : S_.BroadcastsInDim S4096x8320 (![] : Fin 0 → Fin S4096x8320.rank)
  reducesTo_S4096x8320_S_d0_1 : S4096x8320.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x8320 .bf16) (main_arg1 : FVec F S4096x1024 .bf16) : IVec S_ 1 :=
  let main_v0 : FVec F S4096x8320 .bf16 := Host.absf main_arg0
  let main_cst : FVec F S_ .bf16 := constant S_ .bf16 0x7F80#16
  let main_v1 : FVec F S4096x8320 .bf16 := broadcastInDim S4096x8320 ![] bcast_S_S4096x8320 main_cst
  let main_v2 : IVec S4096x8320 1 := cmpf .olt main_v0 main_v1
  let main_c : IVec S_ 1 := constantI S_ 1 1#1
  let main_v3 : IVec S_ 1 := (fun x v => Host.reduce IntOp.andi x v reducesTo_S4096x8320_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite_ffn.lean ====
abbrev S4096x2048 : Shape := ⟨2, ![4096, 2048]⟩
abbrev S8x1024x2816 : Shape := ⟨3, ![8, 1024, 2816]⟩
abbrev S8x704x2048 : Shape := ⟨3, ![8, 704, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .bf16) (main_arg1 : FVec F S8x1024x2816 .bf16) (main_arg2 : FVec F S8x704x2048 .bf16) (main_arg3 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x1024x2816 .bf16 := Host.absf main_arg1
  let main_cst_0 : FVec F S_ .bf16 := constant S_ .bf16 0x7F80#16
  let main_v5 : FVec F S8x1024x2816 .bf16 := broadcastInDim S8x1024x2816 ![] bcast_S_S8x1024x2816 main_cst_0
  let main_v6 : IVec S8x1024x2816 1 := cmpf .olt main_v4 main_v5
  let main_c_1 : IVec S_ 1 := constantI S_ 1 1#1
  let main_v7 : IVec S_ 1 := (fun x v => Host.reduce IntOp.andi x v reducesTo_S8x1024x2816_S_d0_1_2 h_S_) main_v6 main_c_1
  let main_v8 : IVec S_ 1 := andi main_v3 main_v7
  let main_v9 : FVec F S8x704x2048 .bf16 := Host.absf main_arg2
  let main_cst_2 : FVec F S_ .bf16 := constant S_ .bf16 0x7F80#16
  let main_v10 : FVec F S8x704x2048 .bf16 := broadcastInDim S8x704x2048 ![] bcast_S_S8x704x2048 main_cst_2
  let main_v11 : IVec S8x704x2048 1 := cmpf .olt main_v9 main_v10
  let main_c_3 : IVec S_ 1 := constantI S_ 1 1#1
  let main_v12 : IVec S_ 1 := (fun x v => Host.reduce IntOp.andi x v reducesTo_S8x704x2048_S_d0_1_2 h_S_) main_v11 main_c_3
  let main_v13 : IVec S_ 1 := andi main_v8 main_v12
  let main_v14 : FVec F S4096x2048 .bf16 := Host.absf main_arg3
  let main_cst_4 : FVec F S_ .bf16 := constant S_ .bf16 0x7F80#16
  let main_v15 : FVec F S4096x2048 .bf16 := broadcastInDim S4096x2048 ![] bcast_S_S4096x2048 main_cst_4
  let main_v16 : IVec S4096x2048 1 := cmpf .olt main_v14 main_v15
  fn_part1 (F := F) main_v13 main_v16
-- ==== Pre_finite_mla.lean ====
abbrev S4096x2048 : Shape := ⟨2, ![4096, 2048]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2048 .bf16) (main_arg1 : FVec F S4096x2048 .bf16) (main_arg2 : FVec F S4096x2048 .bf16) (main_arg3 : FVec F S4096x1024 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x1024 .bf16 := Host.absf main_arg3
  let main_cst_4 : FVec F S_ .bf16 := constant S_ .bf16 0x7F80#16
  let main_v15 : FVec F S4096x1024 .bf16 := broadcastInDim S4096x1024 ![] bcast_S_S4096x1024 main_cst_4
  let main_v16 : IVec S4096x1024 1 := cmpf .olt main_v14 main_v15
  fn_part1 (F := F) main_v13 main_v16
-- ==== Kernel.lean ====
abbrev S4096x8320 : Shape := ⟨2, ![4096, 8320]⟩
abbrev S4096x1024 : Shape := ⟨2, ![4096, 1024]⟩
abbrev S8x4096x128 : Shape := ⟨3, ![8, 4096, 128]⟩
abbrev S512x128 : Shape := ⟨2, ![512, 128]⟩
abbrev S4096x128 : Shape := ⟨2, ![4096, 128]⟩
abbrev S1x512x128 : Shape := ⟨3, ![1, 512, 128]⟩
abbrev S256x256 : Shape := ⟨2, ![256, 256]⟩
abbrev S512x1 : Shape := ⟨2, ![512, 1]⟩
abbrev S512x512 : Shape := ⟨2, ![512, 512]⟩
abbrev S512x256 : Shape := ⟨2, ![512, 256]⟩
abbrev S512 : Shape := ⟨1, ![512]⟩

abbrev nBuf : Space → Nat
  | .hbm => 7
  | .vmem => 26
  | .smem => 0
  | _ => 0

abbrev bufTy : (tb : Table) → Fin (tcTables nBuf tb) → BufTy
  | .hbm, ⟨0, _⟩ => ⟨S4096x8320, .bf16⟩
  | .hbm, ⟨1, _⟩ => ⟨S4096x1024, .bf16⟩
  | .hbm, ⟨2, _⟩ => ⟨S4096x1024, .f32⟩
  | .hbm, ⟨3, _⟩ => ⟨S8x4096x128, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S1x512x128, .f32⟩
  | .local _ .vmem, ⟨19, _⟩ => ⟨S1x512x128, .f32⟩
  | .local _ .vmem, ⟨20, _⟩ => ⟨S512x128, .f32⟩
  | .local _ .vmem, ⟨21, _⟩ => ⟨S512x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v21 : BitVec 32 := Scalar.muli arg1 c512_i32
  v21
def k0_off1 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_6 : Index := 0#32
  ![v23.toNat, 0]
@[reducible] def k0_t1_loop (i : grid0.Coords) : Scf.Loop 32 :=
  let c0_i32 : BitVec 32 := 0#32
  let arg1 : BitVec 32 := BitVec.ofNat 32 (i 1).val
  let v68 : BitVec 32 := Scalar.subi arg1 c0_i32
  let c1_i32 : BitVec 32 := 1#32
  let v70 : BitVec 32 := Scalar.divsi v68 c1_i32
  let v71 : BitVec 32 := Scalar.muli v70 c1_i32
  let v72 : BitVec 32 := Scalar.addi c0_i32 v71
  let c1_i32_19 : BitVec 32 := 1#32
  ⟨c0_i32, v72, c1_i32_19⟩
def k0_mult2 (i : grid0.Coords) (k0_t1 : Fin (k0_t1_loop i).trips) : BitVec 32 :=
  let arg1 : BitVec 32 := BitVec.ofNat 32 (i 1).val
  let c1_i32_26 : BitVec 32 := 1#32
  let v79 : BitVec 32 := Scalar.subi arg1 c1_i32_26
  let c0_i32 : BitVec 32 := 0#32
  let c1_i32_19 : BitVec 32 := 1#32
  let arg7 : BitVec 32 := Scf.iv c0_i32 c1_i32_19 k0_t1
  let v80 : BitVec 32 := Scalar.subi v79 arg7
  let c512_i32_27 : BitVec 32 := 512#32
  let v86 : BitVec 32 := Scalar.muli v80 c512_i32_27
  v86
def k0_off2 (i : grid0.Coords) (k0_t1 : Fin (k0_t1_loop i).trips) : Fin 2 → Nat :=
  let arg1 : BitVec 32 := BitVec.ofNat 32 (i 1).val
  let c1_i32_26 : BitVec 32 := 1#32
  let v79 : BitVec 32 := Scalar.subi arg1 c1_i32_26
  let c0_i32 : BitVec 32 := 0#32
  let c1_i32_19 : BitVec 32 := 1#32
  let arg7 : BitVec 32 := Scf.iv c0_i32 c1_i32_19 k0_t1
  let v80 : BitVec 32 := Scalar.subi v79 arg7
  let c512_i32_27 : BitVec 32 := 512#32
  let v86 : BitVec 32 := Scalar.muli v80 c512_i32_27
  let v87 : BitVec 32 := v86
  let v88 : Index := Scalar.indexCast v87
  let c0_28 : Index := 0#32
  ![v88.toNat, 0]
@[reducible] def k0_t2_loop (i : grid0.Coords) : Scf.Loop 32 :=
  let c0_i32 : BitVec 32 := 0#32
  let arg1 : BitVec 32 := BitVec.ofNat 32 (i 1).val
  let v68 : BitVec 32 := Scalar.subi arg1 c0_i32
  let c1_i32 : BitVec 32 := 1#32
  let v70 : BitVec 32 := Scalar.divsi v68 c1_i32
  let v71 : BitVec 32 := Scalar.muli v70 c1_i32
  let v72 : BitVec 32 := Scalar.addi c0_i32 v71
  let v69 : BitVec 32 := Scalar.addi c0_i32 v68
  let c1_i32_20 : BitVec 32 := 1#32
  ⟨v72, v69, c1_i32_20⟩
def k0_mult3 (i : grid0.Coords) (k0_t2 : Fin (k0_t2_loop i).trips) : BitVec 32 :=
  let arg1 : BitVec 32 := BitVec.ofNat 32 (i 1).val
  let c1_i32_26 : BitVec 32 := 1#32
  let v79 : BitVec 32 := Scalar.subi arg1 c1_i32_26
  let c0_i32 : BitVec 32 := 0#32
  let v68 : BitVec 32 := Scalar.subi arg1 c0_i32
  let c1_i32 : BitVec 32 := 1#32
  let v70 : BitVec 32 := Scalar.divsi v68 c1_i32
  let v71 : BitVec 32 := Scalar.muli v70 c1_i32
  let v72 : BitVec 32 := Scalar.addi c0_i32 v71
  let c1_i32_20 : BitVec 32 := 1#32
  let arg7 : BitVec 32 := Scf.iv v72 c1_i32_20 k0_t2
  let v80 : BitVec 32 := Scalar.subi v79 arg7
  let c512_i32_27 : BitVec 32 := 512#32
  let v86 : BitVec 32 := Scalar.muli v80 c512_i32_27
  v86
def k0_off3 (i : grid0.Coords) (k0_t2 : Fin (k0_t2_loop i).trips) : Fin 2 → Nat :=
  let arg1 : BitVec 32 := BitVec.ofNat 32 (i 1).val
  let c1_i32_26 : BitVec 32 := 1#32
  let v79 : BitVec 32 := Scalar.subi arg1 c1_i32_26
  let c0_i32 : BitVec 32 := 0#32
  let v68 : BitVec 32 := Scalar.subi arg1 c0_i32
  let c1_i32 : BitVec 32 := 1#32
  let v70 : BitVec 32 := Scalar.divsi v68 c1_i32
  let v71 : BitVec 32 := Scalar.muli v70 c1_i32
  let v72 : BitVec 32 := Scalar.addi c0_i32 v71
  let c1_i32_20 : BitVec 32 := 1#32
  let arg7 : BitVec 32 := Scf.iv v72 c1_i32_20 k0_t2
  let v80 : BitVec 32 := Scalar.subi v79 arg7
  let c512_i32_27 : BitVec 32 := 512#32
  let v86 : BitVec 32 := Scalar.muli v80 c512_i32_27
  let v87 : BitVec 32 := v86
  let v88 : Index := Scalar.indexCast v87
  let c0_28 : Index := 0#32
  ![v88.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_14 : BitVec 32 := 1#32
  ⟨c0_i32_13, v32, c1_i32_14⟩
def k1_mult1 (i : grid1.Coords) (k1_t1 : Fin (k1_t1_loop i).trips) : BitVec 32 :=
  let c0_i32_13 : BitVec 32 := 0#32
  let c1_i32_14 : BitVec 32 := 1#32
  let arg10 : BitVec 32 := Scf.iv c0_i32_13 c1_i32_14 k1_t1
  let c512_i32_45 : BitVec 32 := 512#32
  let v127 : BitVec 32 := Scalar.muli arg10 c512_i32_45
  v127
def k1_off1 (i : grid1.Coords) (k1_t1 : Fin (k1_t1_loop i).trips) : Fin 2 → Nat :=
  let c0_i32_13 : BitVec 32 := 0#32
  let c1_i32_14 : BitVec 32 := 1#32
  let arg10 : BitVec 32 := Scf.iv c0_i32_13 c1_i32_14 k1_t1
  let c512_i32_45 : BitVec 32 := 512#32
  let v127 : BitVec 32 := Scalar.muli arg10 c512_i32_45
  let v128 : BitVec 32 := v127
  let v129 : Index := Scalar.indexCast v128
  let c0_46 : Index := 0#32
  ![v129.toNat, 0]
@[reducible] def k1_t2_loop (i : grid1.Coords) : Scf.Loop 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let v29 : BitVec 32 := Scalar.addi c0_i32_13 v28
  let c1_i32_15 : BitVec 32 := 1#32
  ⟨v32, v29, c1_i32_15⟩
def k1_mult2 (i : grid1.Coords) (k1_t2 : Fin (k1_t2_loop i).trips) : BitVec 32 :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg10 : BitVec 32 := Scf.iv v32 c1_i32_15 k1_t2
  let c512_i32_45 : BitVec 32 := 512#32
  let v127 : BitVec 32 := Scalar.muli arg10 c512_i32_45
  v127
def k1_off2 (i : grid1.Coords) (k1_t2 : Fin (k1_t2_loop i).trips) : Fin 2 → Nat :=
  let c0_i32_13 : BitVec 32 := 0#32
  let arg1 : BitVec 32 := BitVec.ofNat 32 (i 1).val
  let v28 : BitVec 32 := Scalar.subi arg1 c0_i32_13
  let c1_i32 : BitVec 32 := 1#32
  let v30 : BitVec 32 := Scalar.divsi v28 c1_i32
  let v31 : BitVec 32 := Scalar.muli v30 c1_i32
  let v32 : BitVec 32 := Scalar.addi c0_i32_13 v31
  let c1_i32_15 : BitVec 32 := 1#32
  let arg10 : BitVec 32 := Scf.iv v32 c1_i32_15 k1_t2
  let c512_i32_45 : BitVec 32 := 512#32
  let v127 : BitVec 32 := Scalar.muli arg10 c512_i32_45
  let v128 : BitVec 32 := v127
  let v129 : Index := Scalar.indexCast v128
  let c0_46 : Index := 0#32
  ![v129.toNat, 0]
def k1_mult3 (i : grid1.Coords) : BitVec 32 :=
  let arg1 : BitVec 32 := BitVec.ofNat 32 (i 1).val
  let c512_i32 : BitVec 32 := 512#32
  let v35 : BitVec 32 := Scalar.muli arg1 c512_i32
  v35
def k1_off3 (i : grid1.Coords) : Fin 2 → Nat :=
  let arg1 : BitVec 32 := BitVec.ofNat 32 (i 1).val
  let c512_i32 : BitVec 32 := 512#32
  let v35 : BitVec 32 := Scalar.muli arg1 c512_i32
  let v36 : BitVec 32 := v35
  let v37 : Index := Scalar.indexCast v36
  let c0_16 : Index := 0#32
  ![v37.toNat, 0]
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4096x8320 : Shape := ⟨2, ![4096, 8320]⟩
abbrev S4096x1024 : Shape := ⟨2, ![4096, 1024]⟩
abbrev S4096x512 : Shape := ⟨2, ![4096, 512]⟩
abbrev S4096x4224 : Shape := ⟨2, ![4096, 4224]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x128x4096 : Shape := ⟨4, ![1, 8, 128, 4096]⟩

abbrev nBuf : Space → Nat
  | .hbm => 183
  | .vmem => 0
  | .smem => 0
  | _ => 0

abbrev hbmTy0_0 (i : Nat) : BufTy := match i % 128 with
  | 0 => ⟨S4096x8320, .bf16⟩
  | 1 => ⟨S4096x1024, .bf16⟩
  | 2 => ⟨S4096x8320, .f32⟩
  | 3 => ⟨S4096x512, .f32⟩
  | 4 => ⟨S4096x512, .f32⟩
  | 5 => ⟨S4096x1024, .f32⟩
  | 6 => ⟨S4096x1024, .f32⟩
  | 7 => ⟨S4096x1024, .f32⟩
  | 8 => ⟨S4096x4224, .f32⟩
  | 9 => ⟨S1x4096x8x128, .f32⟩
  | 10 => ⟨S1x8x4096x128, .f32⟩
  | 11 => ⟨S1x4096x8x128, .f32⟩
  | 12 => ⟨S1x8x4096x128, .f32⟩
  | 13 => ⟨S1x4096x8x128, .f32⟩
  | 14 => ⟨S1x8x4096x128, .f32⟩
  | 15 => ⟨S1x8x4096x4096, .f32⟩
  | 16 => ⟨S_, .f32⟩
  | 17 => ⟨S1x8x4096x4096, .f32⟩
  | 18 => ⟨S1x8x4096x4096, .f32⟩
  | 19 => ⟨S4096, .i32⟩
  | 20 => ⟨S4096, .i32⟩
  | 21 => ⟨S1x4096, .i32⟩
  | 22 => ⟨S4096x1, .i32⟩
  | 23 => ⟨S4096x4096, .i32⟩
  | 24 => ⟨S4096x4096, .i32⟩
  | 25 => ⟨S4096x4096, .i1⟩
  | 26 => ⟨S1x8x4096x4096, .f32⟩
  | 27 => ⟨S_, .f32⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S1x8x4096x4096, .i1⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S_, .f32⟩
  | 42 => ⟨S1x8x4096x4096, .f32⟩
  | 43 => ⟨S1x8x4096x4096, .i1⟩
  | 44 => ⟨S_, .f32⟩
  | 45 => ⟨S1x8x4096x4096, .f32⟩
  | 46 => ⟨S1x8x4096x4096, .f32⟩
  | 47 => ⟨S_, .f32⟩
  | 48 => ⟨S1x8x4096x4096, .f32⟩
  | 49 => ⟨S1x8x4096x4096, .i1⟩
  | 50 => ⟨S_, .f32⟩
  | 51 => ⟨S1x8x4096x4096, .f32⟩
  | 52 => ⟨S1x8x4096x4096, .f32⟩
  | 53 => ⟨S1x8x4096x4096, .f32⟩
  | 54 => ⟨S1x8x4096x4096, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S1x8x4096x4096, .f32⟩
  | 63 => ⟨S1x8x4096x4096, .i1⟩
  | 64 => ⟨S_, .f32⟩
  | 65 => ⟨S1x8x4096x4096, .f32⟩
  | 66 => ⟨S1x8x4096x4096, .f32⟩
  | 67 => ⟨S1x8x4096x4096, .f32⟩
  | 68 => ⟨S1x8x4096x4096, .f32⟩
  | 69 => ⟨S1x8x4096x4096, .f32⟩
  | 70 => ⟨S_, .f32⟩
  | 71 => ⟨S1x8x4096x4096, .f32⟩
  | 72 => ⟨S1x8x4096x4096, .f32⟩
  | 73 => ⟨S1x8x4096x4096, .f32⟩
  | 74 => ⟨S1x8x4096x4096, .f32⟩
  | 75 => ⟨S1x8x4096x4096, .f32⟩
  | 76 => ⟨S_, .f32⟩
  | 77 => ⟨S1x8x4096x4096, .f32⟩
  | 78 => ⟨S1x8x4096x4096, .f32⟩
  | 79 => ⟨S1x8x4096x4096, .f32⟩
  | 80 => ⟨S1x8x4096x4096, .f32⟩
  | 81 => ⟨S1x8x4096x4096, .i1⟩
  | 82 => ⟨S1x8x4096x4096, .f32⟩
  | 83 => ⟨S1x8x4096x4096, .f32⟩
  | 84 => ⟨S1x8x4096x4096, .f32⟩
  | 85 => ⟨S1x8x4096x4096, .f32⟩
  | 86 => ⟨S1x8x4096x4096, .f32⟩
  | 87 => ⟨S1x8x4096x4096, .f32⟩
  | 88 => ⟨S1x8x4096x4096, .f32⟩
  | 89 => ⟨S1x8x4096x4096, .f32⟩
  | 90 => ⟨S_, .f32⟩
  | 91 => ⟨S1x8x4096x4096, .f32⟩
  | 92 => ⟨S1x8x4096x4096, .i1⟩
  | 93 => ⟨S_, .f32⟩
  | 94 => ⟨S1x8x4096x4096, .f32⟩
  | 95 => ⟨S1x8x4096x4096, .f32⟩
  | 96 => ⟨S_, .f32⟩
  | 97 => ⟨S1x8x4096x4096, .f32⟩
  | 98 => ⟨S1x8x4096x4096, .i1⟩
  | 99 => ⟨S_, .f32⟩
  | 100 => ⟨S1x8x4096x4096, .f32⟩
  | 101 => ⟨S1x8x4096x4096, .f32⟩
  | 102 => ⟨S1x8x4096x4096, .f32⟩
  | 103 => ⟨S1x8x4096x4096, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S1x8x4096x4096, .f32⟩
  | 112 => ⟨S1x8x4096x4096, .i1⟩
  | 113 => ⟨S_, .f32⟩
  | 114 => ⟨S1x8x4096x4096, .f32⟩
  | 115 => ⟨S1x8x4096x4096, .f32⟩
  | 116 => ⟨S1x8x4096x4096, .f32⟩
  | 117 => ⟨S1x8x4096x4096, .f32⟩
  | 118 => ⟨S1x8x4096x4096, .f32⟩
  | 119 => ⟨S_, .f32⟩
  | 120 => ⟨S1x8x4096x4096, .f32⟩
  | 121 => ⟨S1x8x4096x4096, .f32⟩
  | 122 => ⟨S1x8x4096x4096, .f32⟩
  | 123 => ⟨S_, .f32⟩
  | 124 => ⟨S_, .f32⟩
  | 125 => ⟨S1x8x4096x4096, .i1⟩
  | 126 => ⟨S1x8x4096x4096, .f32⟩
  | 127 => ⟨S1x8x4096x4096, .f32⟩
  | _ => ⟨S4096x8320, .bf16⟩

abbrev hbmTy0_1 (i : Nat) : BufTy := match i % 128 with
  | 0 => ⟨S_, .f32⟩
  | 1 => ⟨S1x8x4096x4096, .f32⟩
  | 2 => ⟨S_, .f32⟩
  | 3 => ⟨S_, .f32⟩
  | 4 => ⟨S1x8x4096x4096, .f32⟩
  | 5 => ⟨S1x8x4096x4096, .f32⟩
  | 6 => ⟨S1x8x4096x4096, .f32⟩
  | 7 => ⟨S1x8x4096x4096, .f32⟩
  | 8 => ⟨S_, .f32⟩
  | 9 => ⟨S_, .f32⟩
  | 10 => ⟨S1x8x4096x4096, .i1⟩
  | 11 => ⟨S1x8x4096x4096, .f32⟩
  | 12 => ⟨S1x8x4096x4096, .f32⟩
  | 13 => ⟨S_, .f32⟩
  | 14 => ⟨S1x8x4096x4096, .f32⟩
  | 15 => ⟨S1x8x4096x128, .f32⟩
  | 16 => ⟨S1x4096x8x128, .f32⟩
  | 17 => ⟨S4096x1024, .f32⟩
  | 18 => ⟨S4096x1024, .f32⟩
  | 19 => ⟨S1x4096x8x128, .f32⟩
  | 20 => ⟨S1x8x4096x128, .f32⟩
  | 21 => ⟨S1x8x128x4096, .f32⟩
  | 22 => ⟨S1x8x4096x128, .f32⟩
  | 23 => ⟨S1x8x4096x4096, .f32⟩
  | 24 => ⟨S_, .f32⟩
  | 25 => ⟨S1x8x4096x4096, .f32⟩
  | 26 => ⟨S1x8x4096x4096, .f32⟩
  | 27 => ⟨S1x8x4096x4096, .f32⟩
  | 28 => ⟨S1x8x4096x4096, .f32⟩
  | 29 => ⟨S_, .f32⟩
  | 30 => ⟨S_, .f32⟩
  | 31 => ⟨S1x8x4096x4096, .f32⟩
  | 32 => ⟨S1x8x4096x4096, .f32⟩
  | 33 => ⟨S_, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S1x8x4096x4096, .f32⟩
  | 42 => ⟨S1x8x4096x4096, .f32⟩
  | 43 => ⟨S1x8x4096x4096, .f32⟩
  | 44 => ⟨S_, .f32⟩
  | 45 => ⟨S1x8x4096x4096, .f32⟩
  | 46 => ⟨S1x8x4096x4096, .f32⟩
  | 47 => ⟨S1x8x4096x128, .f32⟩
  | 48 => ⟨S1x8x4096x128, .f32⟩
  | 49 => ⟨S1x4096x8x128, .f32⟩
  | 50 => ⟨S4096x1024, .f32⟩
  | 51 => ⟨S1x4096x8x128, .f32⟩
  | 52 => ⟨S4096x1024, .f32⟩
  | 53 => ⟨S1x4096x8x128, .f32⟩
  | 54 => ⟨S4096x1024, .f32⟩
  | _ => ⟨S4096x8320, .bf16⟩

abbrev hbmTy (i : Nat) : BufTy := match i / 128 with
  | 0 => hbmTy0_0 i
  | 1 => hbmTy0_1 i
  | _ => ⟨S4096x8320, .bf16⟩

abbrev bufTy : (tb : Table) → Fin (tcTables nBuf tb) → BufTy
  | .hbm, ⟨i, _⟩ => hbmTy i
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_v24 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1_0 : Ref sig .tc := ⟨.hbm, 89, rfl⟩
abbrev main_call1_call0_cst_0 : Ref sig .tc := ⟨.hbm, 90, rfl⟩
abbrev main_call1_call0_v13 : Ref sig .tc := ⟨.hbm, 91, rfl⟩
abbrev main_call1_call0_v14 : Ref sig .tc := ⟨.hbm, 92, rfl⟩
abbrev main_call1_call0_cst_1 : Ref sig .tc := ⟨.hbm, 93, rfl⟩
abbrev main_call1_call0_v15 : Ref sig .tc := ⟨.hbm, 94, rfl⟩
abbrev main_call1_call0_v16 : Ref sig .tc := ⟨.hbm, 95, rfl⟩
abbrev main_call1_call0_cst_2 : Ref sig .tc := ⟨.hbm, 96, rfl⟩
abbrev main_call1_call0_v17 : Ref sig .tc := ⟨.hbm, 97, rfl⟩
abbrev main_call1_call0_v18 : Ref sig .tc := ⟨.hbm, 98, rfl⟩
abbrev main_call1_call0_cst_3 : Ref sig .tc := ⟨.hbm, 99, rfl⟩
abbrev main_call1_call0_v19 : Ref sig .tc := ⟨.hbm, 100, rfl⟩
abbrev main_call1_call0_v20 : Ref sig .tc := ⟨.hbm, 101, rfl⟩
abbrev main_call1_call0_v21 : Ref sig .tc := ⟨.hbm, 102, rfl⟩
abbrev main_v25_1 : Ref sig .tc := ⟨.hbm, 103, rfl⟩
abbrev main_call1_call0_cst_4 : Ref sig .tc := ⟨.hbm, 104, rfl⟩
abbrev main_call1_call0_cst_5 : Ref sig .tc := ⟨.hbm, 105, rfl⟩
abbrev main_call1_call0_v23 : Ref sig .tc := ⟨.hbm, 106, rfl⟩
abbrev main_call1_call0_cst_6 : Ref sig .tc := ⟨.hbm, 107, rfl⟩
abbrev main_call1_call0_cst_7 : Ref sig .tc := ⟨.hbm, 108, rfl⟩
abbrev main_call1_call0_v24 : Ref sig .tc := ⟨.hbm, 109, rfl⟩
abbrev main_call1_call0_cst_8 : Ref sig .tc := ⟨.hbm, 110, rfl⟩
abbrev main_call1_call0_v25 : Ref sig .tc := ⟨.hbm, 111, rfl⟩
abbrev main_call1_call0_v26 : Ref sig .tc := ⟨.hbm, 112, rfl⟩
abbrev main_call1_call0_cst_9 : Ref sig .tc := ⟨.hbm, 113, rfl⟩
abbrev main_call1_call0_v27 : Ref sig .tc := ⟨.hbm, 114, rfl⟩
abbrev main_call1_call0_v28 : Ref sig .tc := ⟨.hbm, 115, rfl⟩
abbrev main_call1_call0_v29 : Ref sig .tc := ⟨.hbm, 116, rfl⟩
abbrev main_call1_call0_v30 : Ref sig .tc := ⟨.hbm, 117, rfl⟩
abbrev main_call1_call0_v31 : Ref sig .tc := ⟨.hbm, 118, rfl⟩
abbrev main_call1_call0_cst_10 : Ref sig .tc := ⟨.hbm, 119, rfl⟩
abbrev main_call1_call0_v32 : Ref sig .tc := ⟨.hbm, 120, rfl⟩
abbrev main_v25_2 : Ref sig .tc := ⟨.hbm, 121, rfl⟩
abbrev main_v25_0 : Ref sig .tc := ⟨.hbm, 122, rfl⟩
abbrev main_cst_0 : Ref sig .tc := ⟨.hbm, 123, rfl⟩
abbrev main_call2_v0 : Ref sig .tc := ⟨.hbm, 124, rfl⟩
abbrev main_v26_1 : Ref sig .tc := ⟨.hbm, 125, rfl⟩
abbrev main_call2_v2 : Ref sig .tc := ⟨.hbm, 126, rfl⟩
abbrev main_v26_0 : Ref sig .tc := ⟨.hbm, 127, rfl⟩
abbrev main_call2_cst : Ref sig .tc := ⟨.hbm, 128, rfl⟩
abbrev main_v26_2 : Ref sig .tc := ⟨.hbm, 129, rfl⟩
abbrev main_call3_cst : Ref sig .tc := ⟨.hbm, 130, rfl⟩
abbrev main_call3_v0 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_1 : Ref sig .tc := ⟨.hbm, 136, rfl⟩
abbrev main_call4_v0 : Ref sig .tc := ⟨.hbm, 137, rfl⟩
abbrev main_v31_1 : Ref sig .tc := ⟨.hbm, 138, rfl⟩
abbrev main_call4_v2 : Ref sig .tc := ⟨.hbm, 139, rfl⟩
abbrev main_v31_0 : Ref sig .tc := ⟨.hbm, 140, rfl⟩
abbrev main_call4_cst : Ref sig .tc := ⟨.hbm, 141, rfl⟩
abbrev main_v31_2 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_call5_cst : Ref sig .tc := ⟨.hbm, 152, rfl⟩
abbrev main_call5_v0 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_call6_cst : Ref sig .tc := ⟨.hbm, 157, rfl⟩
abbrev main_call6_v0 : Ref sig .tc := ⟨.hbm, 158, rfl⟩
abbrev main_v44 : Ref sig .tc := ⟨.hbm, 159, rfl⟩
abbrev main_v45 : Ref sig .tc := ⟨.hbm, 160, rfl⟩
abbrev main_call7_cst : Ref sig .tc := ⟨.hbm, 161, rfl⟩
abbrev main_call7_v0 : Ref sig .tc := ⟨.hbm, 162, rfl⟩
abbrev main_v46 : Ref sig .tc := ⟨.hbm, 163, rfl⟩
abbrev main_call8_v0 : Ref sig .tc := ⟨.hbm, 164, rfl⟩
abbrev main_call8_v1 : Ref sig .tc := ⟨.hbm, 165, rfl⟩
abbrev main_v47 : Ref sig .tc := ⟨.hbm, 166, rfl⟩
abbrev main_v48 : Ref sig .tc := ⟨.hbm, 167, rfl⟩
abbrev main_call9_v0 : Ref sig .tc := ⟨.hbm, 168, rfl⟩
abbrev main_call9_v1 : Ref sig .tc := ⟨.hbm, 169, rfl⟩
abbrev main_v49 : Ref sig .tc := ⟨.hbm, 170, rfl⟩
abbrev main_v50 : Ref sig .tc := ⟨.hbm, 171, rfl⟩
abbrev main_cst_2 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== Mla.lean ====
abbrev S4096x2048 : Shape := ⟨2, ![4096, 2048]⟩
abbrev S4096x1024 : Shape := ⟨2, ![4096, 1024]⟩
abbrev S8x4096x1 : Shape := ⟨3, ![8, 4096, 1]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S1x512x1 : Shape := ⟨3, ![1, 512, 1]⟩
abbrev S512x1 : Shape := ⟨2, ![512, 1]⟩
abbrev S512x512 : Shape := ⟨2, ![512, 512]⟩
abbrev S512 : Shape := ⟨1, ![512]⟩

abbrev nBuf : Space → Nat
  | .hbm => 9
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x1024, .bf16⟩
  | .hbm, ⟨4, _⟩ => ⟨S4096x1024, .f32⟩
  | .hbm, ⟨5, _⟩ => ⟨S8x4096x1, .f32⟩
  | .hbm, ⟨6, _⟩ => ⟨S4096x2048, .f32⟩
  | .hbm, ⟨7, _⟩ => ⟨S4096x2048, .f32⟩
  | .hbm, ⟨8, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | .local _ .vmem, ⟨10, _⟩ => ⟨S512x256, .bf16⟩
  | .local _ .vmem, ⟨11, _⟩ => ⟨S512x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S512x128, .f32⟩
  | .local _ .vmem, ⟨17, _⟩ => ⟨S512x128, .f32⟩
  | .local _ .vmem, ⟨18, _⟩ => ⟨S512x128, .bf16⟩
  | .local _ .vmem, ⟨19, _⟩ => ⟨S512x128, .bf16⟩
  | .local _ .vmem, ⟨20, _⟩ => ⟨S1x512x1, .f32⟩
  | .local _ .vmem, ⟨21, _⟩ => ⟨S1x512x1, .f32⟩
  | .local _ .vmem, ⟨22, _⟩ => ⟨S512x256, .f32⟩
  | .local _ .vmem, ⟨23, _⟩ => ⟨S512x256, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_17 : BitVec 32 := 512#32
  let v48 : BitVec 32 := Scalar.muli arg7 c512_i32_17
  v48
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_17 : BitVec 32 := 512#32
  let v48 : BitVec 32 := Scalar.muli arg7 c512_i32_17
  let v49 : BitVec 32 := v48
  let v50 : Index := Scalar.indexCast v49
  let c0_18 : Index := 0#32
  ![v50.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_17 : BitVec 32 := 512#32
  let v48 : BitVec 32 := Scalar.muli arg7 c512_i32_17
  let v49 : BitVec 32 := v48
  let v68 : Index := Scalar.indexCast v49
  let c0_22 : Index := 0#32
  ![v68.toNat, 0]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_17 : BitVec 32 := 512#32
  let v48 : BitVec 32 := Scalar.muli arg7 c512_i32_17
  v48
def k0_off3 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_17 : BitVec 32 := 512#32
  let v48 : BitVec 32 := Scalar.muli arg7 c512_i32_17
  let v49 : BitVec 32 := v48
  let v50 : Index := Scalar.indexCast v49
  let c0_18 : Index := 0#32
  ![v50.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c512_i32_17 : BitVec 32 := 512#32
  let v48 : BitVec 32 := Scalar.muli arg7 c512_i32_17
  let v49 : BitVec 32 := v48
  let v68 : Index := Scalar.indexCast v49
  let c0_22 : Index := 0#32
  ![v68.toNat, 0]
def k0_mult3 (i : grid0.Coords) : BitVec 32 :=
  let arg1 : BitVec 32 := BitVec.ofNat 32 (i 1).val
  let c512_i32 : BitVec 32 := 512#32
  let v11 : BitVec 32 := Scalar.muli arg1 c512_i32
  v11
def k0_off5 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off6 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v36 : Index := Scalar.indexCast v12
  let c0_10 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k1_mult1 (i : grid1.Coords) (k1_t1 : Fin (k1_t1_loop i).trips) : BitVec 32 :=
  let c0_i32_10 : BitVec 32 := 0#32
  let c1_i32_11 : BitVec 32 := 1#32
  let arg11 : BitVec 32 := Scf.iv c0_i32_10 c1_i32_11 k1_t1
  let c512_i32_28 : BitVec 32 := 512#32
  let v61 : BitVec 32 := Scalar.muli arg11 c512_i32_28
  v61
def k1_off1 (i : grid1.Coords) (k1_t1 : Fin (k1_t1_loop i).trips) : Fin 2 → Nat :=
  let c0_i32_10 : BitVec 32 := 0#32
  let c1_i32_11 : BitVec 32 := 1#32
  let arg11 : BitVec 32 := Scf.iv c0_i32_10 c1_i32_11 k1_t1
  let c512_i32_28 : BitVec 32 := 512#32
  let v61 : BitVec 32 := Scalar.muli arg11 c512_i32_28
  let v62 : BitVec 32 := v61
  let v63 : Index := Scalar.indexCast v62
  let c0_29 : Index := 0#32
  ![v63.toNat, 0]
def k1_off2 (i : grid1.Coords) (k1_t1 : Fin (k1_t1_loop i).trips) : Fin 2 → Nat :=
  let c0_i32_10 : BitVec 32 := 0#32
  let c1_i32_11 : BitVec 32 := 1#32
  let arg11 : BitVec 32 := Scf.iv c0_i32_10 c1_i32_11 k1_t1
  let c512_i32_28 : BitVec 32 := 512#32
  let v61 : BitVec 32 := Scalar.muli arg11 c512_i32_28
  let v62 : BitVec 32 := v61
  let v65 : Index := Scalar.indexCast v62
  let c0_30 : Index := 0#32
  ![v65.toNat, 0]
@[reducible] def k1_t2_loop (i : grid1.Coords) : Scf.Loop 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k1_mult2 (i : grid1.Coords) (k1_t2 : Fin (k1_t2_loop i).trips) : BitVec 32 :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg11 : BitVec 32 := Scf.iv v18 c1_i32_12 k1_t2
  let c512_i32_28 : BitVec 32 := 512#32
  let v61 : BitVec 32 := Scalar.muli arg11 c512_i32_28
  v61
def k1_off3 (i : grid1.Coords) (k1_t2 : Fin (k1_t2_loop i).trips) : Fin 2 → Nat :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg11 : BitVec 32 := Scf.iv v18 c1_i32_12 k1_t2
  let c512_i32_28 : BitVec 32 := 512#32
  let v61 : BitVec 32 := Scalar.muli arg11 c512_i32_28
  let v62 : BitVec 32 := v61
  let v63 : Index := Scalar.indexCast v62
  let c0_29 : Index := 0#32
  ![v63.toNat, 0]
def k1_off4 (i : grid1.Coords) (k1_t2 : Fin (k1_t2_loop i).trips) : Fin 2 → Nat :=
  let c0_i32_10 : BitVec 32 := 0#32
  let arg1 : BitVec 32 := BitVec.ofNat 32 (i 1).val
  let v14 : BitVec 32 := Scalar.subi arg1 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg11 : BitVec 32 := Scf.iv v18 c1_i32_12 k1_t2
  let c512_i32_28 : BitVec 32 := 512#32
  let v61 : BitVec 32 := Scalar.muli arg11 c512_i32_28
  let v62 : BitVec 32 := v61
  let v65 : Index := Scalar.indexCast v62
  let c0_30 : Index := 0#32
  ![v65.toNat, 0]
def k1_mult3 (i : grid1.Coords) : BitVec 32 :=
  let arg1 : BitVec 32 := BitVec.ofNat 32 (i 1).val
  let c512_i32 : BitVec 32 := 512#32
  let v21 : BitVec 32 := Scalar.muli arg1 c512_i32
  v21
def k1_off5 (i : grid1.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_13 : Index := 0#32
  ![v23.toNat, 0]
def k1_off6 (i : grid1.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v25 : Index := Scalar.indexCast v22
  let c0_14 : Index := 0#32
  ![v25.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== MlaIdeal.lean ====
variable {F : FTy → Type} [FloatOps F] [Named F]
def κ : String → Option EReal := fun
  | "mask" => some ⊥
  | _ => none
-- ==== MlaRefIdeal.lean ====
abbrev S4096x2048 : Shape := ⟨2, ![4096, 2048]⟩
abbrev S4096x1024 : Shape := ⟨2, ![4096, 1024]⟩
abbrev S1x4096x8x256 : Shape := ⟨4, ![1, 4096, 8, 256]⟩
abbrev S1x8x4096x256 : Shape := ⟨4, ![1, 8, 4096, 256]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S8x4096 : Shape := ⟨2, ![8, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1x4096x8x256, .f32⟩
  | .hbm, ⟨11, _⟩ => ⟨S1x8x4096x256, .f32⟩
  | .hbm, ⟨12, _⟩ => ⟨S1x4096x8x256, .f32⟩
  | .hbm, ⟨13, _⟩ => ⟨S1x8x4096x256, .f32⟩
  | .hbm, ⟨14, _⟩ => ⟨S1x4096x8x128, .f32⟩
  | .hbm, ⟨15, _⟩ => ⟨S1x8x4096x128, .f32⟩
  | .hbm, ⟨16, _⟩ => ⟨S1x8x4096x4096, .f32⟩
  | .hbm, ⟨17, _⟩ => ⟨S4096, .i32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S1x8x4096x4096, .i1⟩
  | .hbm, ⟨27, _⟩ => ⟨S1x8x4096x4096, .f32⟩
  | .hbm, ⟨28, _⟩ => ⟨S1x8x4096x4096, .f32⟩
  | .hbm, ⟨29, _⟩ => ⟨S_, .f32⟩
  | .hbm, ⟨30, _⟩ => ⟨S1x8x4096x4096, .f32⟩
  | .hbm, ⟨31, _⟩ => ⟨S_, .f32⟩
  | .hbm, ⟨32, _⟩ => ⟨S1x8x4096, .f32⟩
  | .hbm, ⟨33, _⟩ => ⟨S1x8x4096x1, .f32⟩
  | .hbm, ⟨34, _⟩ => ⟨S1x8x4096x4096, .f32⟩
  | .hbm, ⟨35, _⟩ => ⟨S1x8x4096x4096, .i1⟩
  | .hbm, ⟨36, _⟩ => ⟨S1x8x4096x4096, .f32⟩
  | .hbm, ⟨37, _⟩ => ⟨S_, .f32⟩
  | .hbm, ⟨38, _⟩ => ⟨S1x8x4096, .f32⟩
  | .hbm, ⟨39, _⟩ => ⟨S_, .f32⟩
  | .hbm, ⟨40, _⟩ => ⟨S1x8x4096, .f32⟩
  | .hbm, ⟨41, _⟩ => ⟨S1x8x4096, .f32⟩
  | .hbm, ⟨42, _⟩ => ⟨S_, .f32⟩
  | .hbm, ⟨43, _⟩ => ⟨S1x8x4096, .f32⟩
  | .hbm, ⟨44, _⟩ => ⟨S1x8x4096, .i1⟩
  | .hbm, ⟨45, _⟩ => ⟨S_, .f32⟩
  | .hbm, ⟨46, _⟩ => ⟨S1x8x4096, .f32⟩
  | .hbm, ⟨47, _⟩ => ⟨S1x8x4096, .i1⟩
  | .hbm, ⟨48, _⟩ => ⟨S_, .f32⟩
  | .hbm, ⟨49, _⟩ => ⟨S1x8x4096, .f32⟩
  | .hbm, ⟨50, _⟩ => ⟨S_, .f32⟩
  | .hbm, ⟨51, _⟩ => ⟨S1x8x4096, .f32⟩
  | .hbm, ⟨52, _⟩ => ⟨S_, .f32⟩
  | .hbm, ⟨53, _⟩ => ⟨S1x8x4096, .f32⟩
  | .hbm, ⟨54, _⟩ => ⟨S1x8x4096, .f32⟩
  | .hbm, ⟨55, _⟩ => ⟨S1x8x4096, .f32⟩
  | .hbm, ⟨56, _⟩ => ⟨S1x8x4096x1, .f32⟩
  | .hbm, ⟨57, _⟩ => ⟨S1x8x4096x4096, .f32⟩
  | .hbm, ⟨58, _⟩ => ⟨S1x8x4096x4096, .f32⟩
  | .hbm, ⟨59, _⟩ => ⟨S1x8x4096x4096, .f32⟩
  | .hbm, ⟨60, _⟩ => ⟨S_, .f32⟩
  | .hbm, ⟨61, _⟩ => ⟨S1x8x4096, .f32⟩
  | .hbm, ⟨62, _⟩ => ⟨S1x8x4096x1, .f32⟩
  | .hbm, ⟨63, _⟩ => ⟨S1x8x4096x4096, .f32⟩
  | .hbm, ⟨64, _⟩ => ⟨S1x8x4096x4096, .f32⟩
  | .hbm, ⟨65, _⟩ => ⟨S1x8x4096x1, .f32⟩
  | .hbm, ⟨66, _⟩ => ⟨S_, .f32⟩
  | .hbm, ⟨67, _⟩ => ⟨S1x8x4096x1, .f32⟩
  | .hbm, ⟨68, _⟩ => ⟨S1x8x4096x1, .f32⟩
  | .hbm, ⟨69, _⟩ => ⟨S1x8x4096x128, .f32⟩
  | .hbm, ⟨70, _⟩ => ⟨S1x4096x8x128, .f32⟩
  | .hbm, ⟨71, _⟩ => ⟨S4096x1024, .f32⟩
  | .hbm, ⟨72, _⟩ => ⟨S1x4096x8x128, .f32⟩
  | .hbm, ⟨73, _⟩ => ⟨S1x8x4096x128, .f32⟩
  | .hbm, ⟨74, _⟩ => ⟨S1x8x128x4096, .f32⟩
  | .hbm, ⟨75, _⟩ => ⟨S1x8x4096x128, .f32⟩
  | .hbm, ⟨76, _⟩ => ⟨S1x8x4096x4096, .f32⟩
  | .hbm, ⟨77, _⟩ => ⟨S1x8x4096x4096, .f32⟩
  | .hbm, ⟨78, _⟩ => ⟨S1x8x4096x4096, .f32⟩
  | .hbm, ⟨79, _⟩ => ⟨S1x8x4096x4096, .f32⟩
  | .hbm, ⟨80, _⟩ => ⟨S_, .f32⟩
  | .hbm, ⟨81, _⟩ => ⟨S1x8x4096, .f32⟩
  | .hbm, ⟨82, _⟩ => ⟨S1x8x4096x1, .f32⟩
  | .hbm, ⟨83, _⟩ => ⟨S1x8x4096x1, .f32⟩
  | .hbm, ⟨84, _⟩ => ⟨S1x8x4096x4096, .f32⟩
  | .hbm, ⟨85, _⟩ => ⟨S1x8x4096x4096, .f32⟩
  | .hbm, ⟨86, _⟩ => ⟨S_, .f32⟩
  | .hbm, ⟨87, _⟩ => ⟨S8x4096, .f32⟩
  | .hbm, ⟨88, _⟩ => ⟨S1x8x4096, .f32⟩
  | .hbm, ⟨89, _⟩ => ⟨S1x8x4096x4096, .f32⟩
  | .hbm, ⟨90, _⟩ => ⟨S1x8x4096x4096, .f32⟩
  | .hbm, ⟨91, _⟩ => ⟨S1x8x4096x4096, .f32⟩
  | .hbm, ⟨92, _⟩ => ⟨S_, .f32⟩
  | .hbm, ⟨93, _⟩ => ⟨S1x8x4096x4096, .f32⟩
  | .hbm, ⟨94, _⟩ => ⟨S1x8x4096x4096, .f32⟩
  | .hbm, ⟨95, _⟩ => ⟨S1x8x4096x256, .f32⟩
  | .hbm, ⟨96, _⟩ => ⟨S1x8x4096x256, .f32⟩
  | .hbm, ⟨97, _⟩ => ⟨S1x4096x8x128, .f32⟩
  | .hbm, ⟨98, _⟩ => ⟨S4096x1024, .f32⟩
  | .hbm, ⟨99, _⟩ => ⟨S1x4096x8x256, .f32⟩
  | .hbm, ⟨100, _⟩ => ⟨S4096x2048, .f32⟩
  | .hbm, ⟨101, _⟩ => ⟨S1x4096x8x256, .f32⟩
  | .hbm, ⟨102, _⟩ => ⟨S4096x2048, .f32⟩
  | .hbm, ⟨103, _⟩ => ⟨S_, .f32⟩
  | .hbm, ⟨104, _⟩ => ⟨S4096x2048, .f32⟩
  | .hbm, ⟨105, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_v20_1 : Ref sig .tc := ⟨.hbm, 26, rfl⟩
abbrev main_call0_v2 : Ref sig .tc := ⟨.hbm, 27, rfl⟩
abbrev main_v20_0 : Ref sig .tc := ⟨.hbm, 28, rfl⟩
abbrev main_call0_cst : Ref sig .tc := ⟨.hbm, 29, rfl⟩
abbrev main_v20_2 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Ffn.lean ====
abbrev S4096x2048 : Shape := ⟨2, ![4096, 2048]⟩
abbrev S8x1024x2816 : Shape := ⟨3, ![8, 1024, 2816]⟩
abbrev S8x704x2048 : Shape := ⟨3, ![8, 704, 2048]⟩
abbrev S4x2048x2816 : Shape := ⟨3, ![4, 2048, 2816]⟩
abbrev S2048x11264 : Shape := ⟨2, ![2048, 11264]⟩
abbrev S1x2048x256 : Shape := ⟨3, ![1, 2048, 256]⟩
abbrev S2048x256 : Shape := ⟨2, ![2048, 256]⟩
abbrev S5632x2048 : Shape := ⟨2, ![5632, 2048]⟩
abbrev S4096x11264 : Shape := ⟨2, ![4096, 11264]⟩
abbrev S4096x5632 : Shape := ⟨2, ![4096, 5632]⟩
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S1024x256 : Shape := ⟨2, ![1024, 256]⟩
abbrev S512x2048 : Shape := ⟨2, ![512, 2048]⟩
abbrev S2x4x1024x2816 : Shape := ⟨4, ![2, 4, 1024, 2816]⟩
abbrev S4096x1024 : Shape := ⟨2, ![4096, 1024]⟩
abbrev S4096x256 : Shape := ⟨2, ![4096, 256]⟩
abbrev S1x1x1024x256 : Shape := ⟨4, ![1, 1, 1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S8x1024x2816, .bf16⟩
  | .hbm, ⟨2, _⟩ => ⟨S8x704x2048, .bf16⟩
  | .hbm, ⟨3, _⟩ => ⟨S4096x2048, .bf16⟩
  | .hbm, ⟨4, _⟩ => ⟨S4x2048x2816, .bf16⟩
  | .hbm, ⟨5, _⟩ => ⟨S2048x11264, .bf16⟩
  | .hbm, ⟨6, _⟩ => ⟨S5632x2048, .bf16⟩
  | .hbm, ⟨7, _⟩ => ⟨S4096x11264, .bf16⟩
  | .hbm, ⟨8, _⟩ => ⟨S4096x5632, .bf16⟩
  | .hbm, ⟨9, _⟩ => ⟨S4096x11264, .bf16⟩
  | .hbm, ⟨10, _⟩ => ⟨S2x4x1024x2816, .bf16⟩
  | .local _ .vmem, ⟨0, _⟩ => ⟨S1x2048x256, .bf16⟩
  | .local _ .vmem, ⟨1, _⟩ => ⟨S1x2048x256, .bf16⟩
  | .local _ .vmem, ⟨2, _⟩ => ⟨S2048x256, .bf16⟩
  | .local _ .vmem, ⟨3, _⟩ => ⟨S2048x256, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S4096x1024, .bf16⟩
  | .local _ .vmem, ⟨21, _⟩ => ⟨S4096x1024, .bf16⟩
  | .local _ .vmem, ⟨22, _⟩ => ⟨S4096x256, .bf16⟩
  | .local _ .vmem, ⟨23, _⟩ => ⟨S4096x256, .bf16⟩
  | .local _ .vmem, ⟨24, _⟩ => ⟨S1x1x1024x256, .bf16⟩
  | .local _ .vmem, ⟨25, _⟩ => ⟨S1x1x1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![1, 44], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c22_i32 : BitVec 32 := 22#32
  let v27 : BitVec 32 := Scalar.muli c22_i32 v26
  let v28 : BitVec 32 := Scalar.addi v16 v27
  let c11_i32 : BitVec 32 := 11#32
  let v29 : BitVec 32 := Scalar.divsi v28 c11_i32
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c0_i32_12 : BitVec 32 := 0#32
  let v35 : BitVec 1 := Scalar.cmpi .sgt c11_i32 c0_i32_12
  let v36 : BitVec 32 := Scalar.extui v35
  let c0_i32_13 : BitVec 32 := 0#32
  let v37 : BitVec 1 := Scalar.cmpi .slt c11_i32 c0_i32_13
  let v38 : BitVec 32 := Scalar.extui v37
  let v39 : BitVec 32 := Scalar.subi v36 v38
  let v40 : BitVec 1 := Scalar.cmpi .ne v34 v39
  let v41 : BitVec 32 := Scalar.remsi v28 c11_i32
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let c2_i32_16 : BitVec 32 := 2#32
  let v46 : BitVec 32 := Scalar.divsi arg1 c2_i32_16
  let c0_i32_17 : BitVec 32 := 0#32
  let v47 : BitVec 1 := Scalar.cmpi .sgt arg1 c0_i32_17
  let v48 : BitVec 32 := Scalar.extui v47
  let c0_i32_18 : BitVec 32 := 0#32
  let v49 : BitVec 1 := Scalar.cmpi .slt arg1 c0_i32_18
  let v50 : BitVec 32 := Scalar.extui v49
  let v51 : BitVec 32 := Scalar.subi v48 v50
  let c0_i32_19 : BitVec 32 := 0#32
  let v52 : BitVec 1 := Scalar.cmpi .sgt c2_i32_16 c0_i32_19
  let v53 : BitVec 32 := Scalar.extui v52
  let c0_i32_20 : BitVec 32 := 0#32
  let v54 : BitVec 1 := Scalar.cmpi .slt c2_i32_16 c0_i32_20
  let v55 : BitVec 32 := Scalar.extui v54
  let v56 : BitVec 32 := Scalar.subi v53 v55
  let v57 : BitVec 1 := Scalar.cmpi .ne v51 v56
  let v58 : BitVec 32 := Scalar.remsi arg1 c2_i32_16
  let c0_i32_21 : BitVec 32 := 0#32
  let v59 : BitVec 1 := Scalar.cmpi .ne v58 c0_i32_21
  let v60 : BitVec 1 := Scalar.andi v57 v59
  let c1_i32_22 : BitVec 32 := 1#32
  let v61 : BitVec 32 := Scalar.subi v46 c1_i32_22
  let v62 : BitVec 32 := Scalar.select v60 v61 v46
  let c2_i32_23 : BitVec 32 := 2#32
  let c0_i32_24 : BitVec 32 := 0#32
  let v63 : BitVec 1 := Scalar.cmpi .eq c2_i32_23 c0_i32_24
  let c1_i32_25 : BitVec 32 := 1#32
  let v64 : BitVec 32 := Scalar.select v63 c1_i32_25 c2_i32_23
  let v65 : BitVec 32 := Scalar.remsi arg1 v64
  let c0_i32_26 : BitVec 32 := 0#32
  let v66 : BitVec 1 := Scalar.cmpi .ne v65 c0_i32_26
  let c0_i32_27 : BitVec 32 := 0#32
  let v67 : BitVec 1 := Scalar.cmpi .slt v65 c0_i32_27
  let c0_i32_28 : BitVec 32 := 0#32
  let v68 : BitVec 1 := Scalar.cmpi .slt v64 c0_i32_28
  let v69 : BitVec 1 := Scalar.xori v67 v68
  let v70 : BitVec 1 := Scalar.andi v69 v66
  let v71 : BitVec 32 := Scalar.addi v65 v64
  let v72 : BitVec 32 := Scalar.select v70 v71 v65
  let c22_i32_29 : BitVec 32 := 22#32
  let v73 : BitVec 32 := Scalar.muli c22_i32_29 v72
  let v74 : BitVec 32 := Scalar.addi v62 v73
  let c11_i32_30 : BitVec 32 := 11#32
  let c0_i32_31 : BitVec 32 := 0#32
  let v75 : BitVec 1 := Scalar.cmpi .eq c11_i32_30 c0_i32_31
  let c1_i32_32 : BitVec 32 := 1#32
  let v76 : BitVec 32 := Scalar.select v75 c1_i32_32 c11_i32_30
  let v77 : BitVec 32 := Scalar.remsi v74 v76
  let c0_i32_33 : BitVec 32 := 0#32
  let v78 : BitVec 1 := Scalar.cmpi .ne v77 c0_i32_33
  let c0_i32_34 : BitVec 32 := 0#32
  let v79 : BitVec 1 := Scalar.cmpi .slt v77 c0_i32_34
  let c0_i32_35 : BitVec 32 := 0#32
  let v80 : BitVec 1 := Scalar.cmpi .slt v76 c0_i32_35
  let v81 : BitVec 1 := Scalar.xori v79 v80
  let v82 : BitVec 1 := Scalar.andi v81 v78
  let v83 : BitVec 32 := Scalar.addi v77 v76
  let v84 : BitVec 32 := Scalar.select v82 v83 v77
  let c0_i32_36 : BitVec 32 := 0#32
  ![v45.toNat, arg0.toNat, v84.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 44, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c22_i32 : BitVec 32 := 22#32
  let v27 : BitVec 32 := Scalar.muli c22_i32 v26
  let v28 : BitVec 32 := Scalar.addi v16 v27
  let c1_i32_10 : BitVec 32 := 1#32
  let v29 : BitVec 32 := Scalar.divsi arg0 c1_i32_10
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .slt arg0 c0_i32_12
  let v33 : BitVec 32 := Scalar.extui v32
  let v34 : BitVec 32 := Scalar.subi v31 v33
  let c0_i32_13 : BitVec 32 := 0#32
  let v35 : BitVec 1 := Scalar.cmpi .sgt c1_i32_10 c0_i32_13
  let v36 : BitVec 32 := Scalar.extui v35
  let c0_i32_14 : BitVec 32 := 0#32
  let v37 : BitVec 1 := Scalar.cmpi .slt c1_i32_10 c0_i32_14
  let v38 : BitVec 32 := Scalar.extui v37
  let v39 : BitVec 32 := Scalar.subi v36 v38
  let v40 : BitVec 1 := Scalar.cmpi .ne v34 v39
  let v41 : BitVec 32 := Scalar.remsi arg0 c1_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c11_i32 : BitVec 32 := 11#32
  let v46 : BitVec 32 := Scalar.divsi v28 c11_i32
  let c0_i32_17 : BitVec 32 := 0#32
  let v47 : BitVec 1 := Scalar.cmpi .sgt v28 c0_i32_17
  let v48 : BitVec 32 := Scalar.extui v47
  let c0_i32_18 : BitVec 32 := 0#32
  let v49 : BitVec 1 := Scalar.cmpi .slt v28 c0_i32_18
  let v50 : BitVec 32 := Scalar.extui v49
  let v51 : BitVec 32 := Scalar.subi v48 v50
  let c0_i32_19 : BitVec 32 := 0#32
  let v52 : BitVec 1 := Scalar.cmpi .sgt c11_i32 c0_i32_19
  let v53 : BitVec 32 := Scalar.extui v52
  let c0_i32_20 : BitVec 32 := 0#32
  let v54 : BitVec 1 := Scalar.cmpi .slt c11_i32 c0_i32_20
  let v55 : BitVec 32 := Scalar.extui v54
  let v56 : BitVec 32 := Scalar.subi v53 v55
  let v57 : BitVec 1 := Scalar.cmpi .ne v51 v56
  let v58 : BitVec 32 := Scalar.remsi v28 c11_i32
  let c0_i32_21 : BitVec 32 := 0#32
  let v59 : BitVec 1 := Scalar.cmpi .ne v58 c0_i32_21
  let v60 : BitVec 1 := Scalar.andi v57 v59
  let c1_i32_22 : BitVec 32 := 1#32
  let v61 : BitVec 32 := Scalar.subi v46 c1_i32_22
  let v62 : BitVec 32 := Scalar.select v60 v61 v46
  let c1_i32_23 : BitVec 32 := 1#32
  let c0_i32_24 : BitVec 32 := 0#32
  let v63 : BitVec 1 := Scalar.cmpi .eq c1_i32_23 c0_i32_24
  let c1_i32_25 : BitVec 32 := 1#32
  let v64 : BitVec 32 := Scalar.select v63 c1_i32_25 c1_i32_23
  let v65 : BitVec 32 := Scalar.remsi arg0 v64
  let c0_i32_26 : BitVec 32 := 0#32
  let v66 : BitVec 1 := Scalar.cmpi .ne v65 c0_i32_26
  let c0_i32_27 : BitVec 32 := 0#32
  let v67 : BitVec 1 := Scalar.cmpi .slt v65 c0_i32_27
  let c0_i32_28 : BitVec 32 := 0#32
  let v68 : BitVec 1 := Scalar.cmpi .slt v64 c0_i32_28
  let v69 : BitVec 1 := Scalar.xori v67 v68
  let v70 : BitVec 1 := Scalar.andi v69 v66
  let v71 : BitVec 32 := Scalar.addi v65 v64
  let v72 : BitVec 32 := Scalar.select v70 v71 v65
  let c11_i32_29 : BitVec 32 := 11#32
  let c0_i32_30 : BitVec 32 := 0#32
  let v73 : BitVec 1 := Scalar.cmpi .eq c11_i32_29 c0_i32_30
  let c1_i32_31 : BitVec 32 := 1#32
  let v74 : BitVec 32 := Scalar.select v73 c1_i32_31 c11_i32_29
  let v75 : BitVec 32 := Scalar.remsi v28 v74
  let c0_i32_32 : BitVec 32 := 0#32
  let v76 : BitVec 1 := Scalar.cmpi .ne v75 c0_i32_32
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let v80 : BitVec 1 := Scalar.andi v79 v76
  let v81 : BitVec 32 := Scalar.addi v75 v74
  let v82 : BitVec 32 := Scalar.select v80 v81 v75
  let c0_i32_35 : BitVec 32 := 0#32
  ![v45.toNat, v62.toNat, v72.toNat, v82.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== FfnRefIdeal.lean ====
abbrev S4096x2048 : Shape := ⟨2, ![4096, 2048]⟩
abbrev S8x1024x2816 : Shape := ⟨3, ![8, 1024, 2816]⟩
abbrev S8x704x2048 : Shape := ⟨3, ![8, 704, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S11264x2048 : Shape := ⟨2, ![11264, 2048]⟩
abbrev S2x1024x4x2816 : Shape := ⟨4, ![2, 1024, 4, 2816]⟩
abbrev S2x4x1024x2816 : Shape := ⟨4, ![2, 4, 1024, 2816]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x2816, .bf16⟩
  | .hbm, ⟨2, _⟩ => ⟨S8x704x2048, .bf16⟩
  | .hbm, ⟨3, _⟩ => ⟨S4096x2048, .bf16⟩
  | .hbm, ⟨4, _⟩ => ⟨S4096x2048, .f32⟩
  | .hbm, ⟨5, _⟩ => ⟨S8x1024x2816, .f32⟩
  | .hbm, ⟨6, _⟩ => ⟨S8x704x2048, .f32⟩
  | .hbm, ⟨7, _⟩ => ⟨S4096x2048, .f32⟩
  | .hbm, ⟨8, _⟩ => ⟨S4x2048x2816, .f32⟩
  | .hbm, ⟨9, _⟩ => ⟨S2048x4x2816, .f32⟩
  | .hbm, ⟨10, _⟩ => ⟨S2048x11264, .f32⟩
  | .hbm, ⟨11, _⟩ => ⟨S5632x2048, .f32⟩
  | .hbm, ⟨12, _⟩ => ⟨S4096x11264, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x11264, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S_, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x2048, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x11264, .f32⟩
  | .hbm, ⟨51, _⟩ => ⟨S11264x2048, .f32⟩
  | .hbm, ⟨52, _⟩ => ⟨S2048x11264, .f32⟩
  | .hbm, ⟨53, _⟩ => ⟨S2x1024x4x2816, .f32⟩
  | .hbm, ⟨54, _⟩ => ⟨S2x4x1024x2816, .f32⟩
  | .hbm, ⟨55, _⟩ => ⟨S4096x5632, .bf16⟩
  | .hbm, ⟨56, _⟩ => ⟨S2x4x1024x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_v16_2 : Ref sig .tc := ⟨.hbm, 35, rfl⟩
abbrev main_call1_cst_1 : Ref sig .tc := ⟨.hbm, 36, rfl⟩
abbrev main_call1_v6 : Ref sig .tc := ⟨.hbm, 37, rfl⟩
abbrev main_call1_v7 : Ref sig .tc := ⟨.hbm, 38, rfl⟩
abbrev main_v16_1 : Ref sig .tc := ⟨.hbm, 39, rfl⟩
abbrev main_v16_0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH2.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S2048x11264, .f32⟩
  | .hbm, ⟨3, _⟩ => ⟨S_, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwFfnOut.lean ====
abbrev S4096x5632 : Shape := ⟨2, ![4096, 5632]⟩
abbrev S4096x2048 : Shape := ⟨2, ![4096, 2048]⟩
abbrev S2x4x704x2048 : Shape := ⟨4, ![2, 4, 704, 2048]⟩
abbrev S2048x1408 : Shape := ⟨2, ![2048, 1408]⟩
abbrev S2048x1024 : Shape := ⟨2, ![2048, 1024]⟩
abbrev S2x1x704x1024 : Shape := ⟨4, ![2, 1, 704, 1024]⟩
abbrev S1408x1024 : Shape := ⟨2, ![1408, 1024]⟩
abbrev S704x1024 : Shape := ⟨2, ![704, 1024]⟩
abbrev S1x1x704x1024 : Shape := ⟨4, ![1, 1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S2x4x704x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x704x1024, .bf16⟩
  | .local _ .vmem, ⟨5, _⟩ => ⟨S2x1x704x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwFfnOutRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x2x704x2048 : Shape := ⟨4, ![4, 2, 704, 2048]⟩
abbrev S2x4x704x2048 : Shape := ⟨4, ![2, 4, 704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4x2x704x2048, .f32⟩
  | .hbm, ⟨10, _⟩ => ⟨S2x4x704x2048, .f32⟩
  | .hbm, ⟨11, _⟩ => ⟨S2x4x704x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4096x2048 : Shape := ⟨2, ![4096, 2048]⟩
abbrev S2048x8320 : Shape := ⟨2, ![2048, 8320]⟩
abbrev S4096x8320 : Shape := ⟨2, ![4096, 8320]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x8320, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x8320 : Shape := ⟨2, ![2048, 8320]⟩
abbrev S4096x8320 : Shape := ⟨2, ![4096, 8320]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8320, .bf16⟩
  | .hbm, ⟨2, _⟩ => ⟨S4096x2048, .f32⟩
  | .hbm, ⟨3, _⟩ => ⟨S2048x8320, .f32⟩
  | .hbm, ⟨4, _⟩ => ⟨S4096x8320, .f32⟩
  | .hbm, ⟨5, _⟩ => ⟨S4096x8320, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DH1.lean ====
abbrev S4096x8320 : Shape := ⟨2, ![4096, 8320]⟩
abbrev S2048x8320 : Shape := ⟨2, ![2048, 8320]⟩
abbrev S_ : Shape := ⟨0, ![]⟩
abbrev S1x2048 : Shape := ⟨2, ![1, 2048]⟩
abbrev S4096x2048 : Shape := ⟨2, ![4096, 2048]⟩
abbrev S1024x1664 : Shape := ⟨2, ![1024, 1664]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x8320, .bf16⟩
  | .hbm, ⟨1, _⟩ => ⟨S2048x8320, .bf16⟩
  | .hbm, ⟨2, _⟩ => ⟨S_, .f32⟩
  | .hbm, ⟨3, _⟩ => ⟨S1x2048, .f32⟩
  | .hbm, ⟨4, _⟩ => ⟨S4096x2048, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH1RefIdeal.lean ====
abbrev S4096x8320 : Shape := ⟨2, ![4096, 8320]⟩
abbrev S2048x8320 : Shape := ⟨2, ![2048, 8320]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S2048x8320, .bf16⟩
  | .hbm, ⟨2, _⟩ => ⟨S_, .f32⟩
  | .hbm, ⟨3, _⟩ => ⟨S4096x2048, .f32⟩
  | .hbm, ⟨4, _⟩ => ⟨S2048x8320, .f32⟩
  | .hbm, ⟨5, _⟩ => ⟨S4096x8320, .f32⟩
  | .hbm, ⟨6, _⟩ => ⟨S4096x8320, .f32⟩
  | .hbm, ⟨7, _⟩ => ⟨S4096x2048, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwIn.lean ====
abbrev S4096x2048 : Shape := ⟨2, ![4096, 2048]⟩
abbrev S4096x8320 : Shape := ⟨2, ![4096, 8320]⟩
abbrev S2048x8320 : Shape := ⟨2, ![2048, 8320]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8320, .bf16⟩
  | .hbm, ⟨2, _⟩ => ⟨S2048x8320, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S4096x2048 : Shape := ⟨2, ![4096, 2048]⟩
abbrev S4096x8320 : Shape := ⟨2, ![4096, 8320]⟩
abbrev S_ : Shape := ⟨0, ![]⟩
abbrev S2048x8320 : Shape := ⟨2, ![2048, 8320]⟩
abbrev S8320x2048 : Shape := ⟨2, ![8320, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8320, .bf16⟩
  | .hbm, ⟨2, _⟩ => ⟨S_, .f32⟩
  | .hbm, ⟨3, _⟩ => ⟨S2048x8320, .f32⟩
  | .hbm, ⟨4, _⟩ => ⟨S4096x2048, .f32⟩
  | .hbm, ⟨5, _⟩ => ⟨S4096x8320, .f32⟩
  | .hbm, ⟨6, _⟩ => ⟨S4096x8320, .f32⟩
  | .hbm, ⟨7, _⟩ => ⟨S8320x2048, .f32⟩
  | .hbm, ⟨8, _⟩ => ⟨S2048x8320, .f32⟩
  | .hbm, ⟨9, _⟩ => ⟨S2048x8320, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMerged.lean ====
abbrev S4096x2048 : Shape := ⟨2, ![4096, 2048]⟩
abbrev S2048x2048 : Shape := ⟨2, ![2048, 2048]⟩
abbrev S_ : Shape := ⟨0, ![]⟩
abbrev S1x2048 : Shape := ⟨2, ![1, 2048]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S1x2048, .f32⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DMergedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GwOut.lean ====
abbrev S4096x2048 : Shape := ⟨2, ![4096, 2048]⟩
abbrev S2x4x256x2048 : Shape := ⟨4, ![2, 4, 256, 2048]⟩
abbrev S4096x512 : Shape := ⟨2, ![4096, 512]⟩
abbrev S4096x1024 : Shape := ⟨2, ![4096, 1024]⟩
abbrev S2x1x256x1024 : Shape := ⟨4, ![2, 1, 256, 1024]⟩
abbrev S512x1024 : Shape := ⟨2, ![512, 1024]⟩
abbrev S256x1024 : Shape := ⟨2, ![256, 1024]⟩
abbrev S1x1x256x1024 : Shape := ⟨4, ![1, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4x256x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S2x1x256x1024, .bf16⟩
  | .local _ .vmem, ⟨5, _⟩ => ⟨S2x1x256x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutRefIdeal.lean ====
abbrev S4096x2048 : Shape := ⟨2, ![4096, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S2x4x256x2048, .f32⟩
  | .hbm, ⟨11, _⟩ => ⟨S2x4x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Branch.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024x2048, .f32⟩
  | .hbm, ⟨3, _⟩ => ⟨S4096x2048, .f32⟩
  | .hbm, ⟨4, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DBranch.lean ====
abbrev S4096x2048 : Shape := ⟨2, ![4096, 2048]⟩
abbrev S1024x2048 : Shape := ⟨2, ![1024, 2048]⟩
abbrev S_ : Shape := ⟨0, ![]⟩
abbrev S1x1024 : Shape := ⟨2, ![1, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S1x1024, .f32⟩
  | .hbm, ⟨4, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DBranchRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GwBranch.lean ====
abbrev S4096x1024 : Shape := ⟨2, ![4096, 1024]⟩
abbrev S4096x2048 : Shape := ⟨2, ![4096, 2048]⟩
abbrev S2x4x512x512 : Shape := ⟨4, ![2, 4, 512, 512]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2x4x512x512, .bf16⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S1x1x512x512, .bf16⟩
  | .local _ .vmem, ⟨5, _⟩ => ⟨S1x1x512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwBranchRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S2x512x4x512, .f32⟩
  | .hbm, ⟨9, _⟩ => ⟨S2x4x512x512, .f32⟩
  | .hbm, ⟨10, _⟩ => ⟨S2x4x512x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DUp.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpRefIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GwUp.lean ====
abbrev S4096x512 : Shape := ⟨2, ![4096, 512]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gate.lean ====
abbrev S4096x2048 : Shape := ⟨2, ![4096, 2048]⟩
abbrev S4096x8320 : Shape := ⟨2, ![4096, 8320]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x8320, .bf16⟩
  | .hbm, ⟨3, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S4096x2048 : Shape := ⟨2, ![4096, 2048]⟩
abbrev S4096x8320 : Shape := ⟨2, ![4096, 8320]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x8320, .bf16⟩
  | .hbm, ⟨3, _⟩ => ⟨S4096x8320, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== GateBwd.lean ====
abbrev S4096x2048 : Shape := ⟨2, ![4096, 2048]⟩
abbrev S4096x8320 : Shape := ⟨2, ![4096, 8320]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x8320, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateBwdRefIdeal.lean ====
abbrev S4096x2048 : Shape := ⟨2, ![4096, 2048]⟩
abbrev S4096x8320 : Shape := ⟨2, ![4096, 8320]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x8320, .bf16⟩
  | .hbm, ⟨4, _⟩ => ⟨S4096x8320, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | .hbm, ⟨44, _⟩ => ⟨S4096x2048, .bf16⟩
  | .hbm, ⟨45, _⟩ => ⟨S4096x2048, .bf16⟩
  | .hbm, ⟨46, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Norm1.lean ====
abbrev S4096x2048 : Shape := ⟨2, ![4096, 2048]⟩
abbrev S1x2048 : Shape := ⟨2, ![1, 2048]⟩
abbrev S1x12288 : Shape := ⟨2, ![1, 12288]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1RefIdeal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Norm1Bwd.lean ====
abbrev S4096x2048 : Shape := ⟨2, ![4096, 2048]⟩
abbrev S1x2048 : Shape := ⟨2, ![1, 2048]⟩
abbrev S1x12288 : Shape := ⟨2, ![1, 12288]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x12288, .f32⟩
  | .hbm, ⟨5, _⟩ => ⟨S4096x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1BwdRefIdeal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x12288, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S5x2048, .f32⟩
  | .hbm, ⟨69, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Norm2.lean ====
abbrev S4096x2048 : Shape := ⟨2, ![4096, 2048]⟩
abbrev S1x2048 : Shape := ⟨2, ![1, 2048]⟩
abbrev S1x12288 : Shape := ⟨2, ![1, 12288]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x12288, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2RefIdeal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Norm2Bwd.lean ====
abbrev S4096x2048 : Shape := ⟨2, ![4096, 2048]⟩
abbrev S1x2048 : Shape := ⟨2, ![1, 2048]⟩
abbrev S1x12288 : Shape := ⟨2, ![1, 12288]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x12288, .f32⟩
  | .hbm, ⟨6, _⟩ => ⟨S4096x2048, .f32⟩
  | .hbm, ⟨7, _⟩ => ⟨S4096x2048, .bf16⟩
  | .hbm, ⟨8, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm2BwdRefIdeal.lean ====
abbrev S4096x2048 : Shape := ⟨2, ![4096, 2048]⟩
abbrev S1x2048 : Shape := ⟨2, ![1, 2048]⟩
abbrev S1x12288 : Shape := ⟨2, ![1, 12288]⟩
abbrev S_ : Shape := ⟨0, ![]⟩
abbrev S4096 : Shape := ⟨1, ![4096]⟩
abbrev S4096x1 : Shape := ⟨2, ![4096, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x12288, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .bf16⟩
  | .hbm, ⟨78, _⟩ => ⟨S_, .f32⟩
  | .hbm, ⟨79, _⟩ => ⟨S4x2048, .f32⟩
  | .hbm, ⟨80, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Latent.lean ====
abbrev S4096x8320 : Shape := ⟨2, ![4096, 8320]⟩
abbrev S1x512 : Shape := ⟨2, ![1, 512]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x8320, .bf16⟩
  | .hbm, ⟨1, _⟩ => ⟨S1x512, .f32⟩
  | .hbm, ⟨2, _⟩ => ⟨S1x512, .f32⟩
  | .hbm, ⟨3, _⟩ => ⟨S4096x512, .bf16⟩
  | .hbm, ⟨4, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatentRefIdeal.lean ====
abbrev S4096x8320 : Shape := ⟨2, ![4096, 8320]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S1x512, .f32⟩
  | .hbm, ⟨2, _⟩ => ⟨S1x512, .f32⟩
  | .hbm, ⟨3, _⟩ => ⟨S4096x8320, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .bf16⟩
  | .hbm, ⟨37, _⟩ => ⟨S4096x512, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== LatentBwd.lean ====
abbrev S4096x512 : Shape := ⟨2, ![4096, 512]⟩
abbrev S4096x8320 : Shape := ⟨2, ![4096, 8320]⟩
abbrev S1x512 : Shape := ⟨2, ![1, 512]⟩
abbrev S8x512 : Shape := ⟨2, ![8, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x8320, .bf16⟩
  | .hbm, ⟨3, _⟩ => ⟨S1x512, .f32⟩
  | .hbm, ⟨4, _⟩ => ⟨S1x512, .f32⟩
  | .hbm, ⟨5, _⟩ => ⟨S4096x512, .bf16⟩
  | .hbm, ⟨6, _⟩ => ⟨S4096x512, .bf16⟩
  | .hbm, ⟨7, _⟩ => ⟨S8x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LatentBwdRefIdeal.lean ====
abbrev S4096x512 : Shape := ⟨2, ![4096, 512]⟩
abbrev S4096x8320 : Shape := ⟨2, ![4096, 8320]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩
abbrev S6x512 : Shape := ⟨2, ![6, 512]⟩
abbrev S8x512 : Shape := ⟨2, ![8, 512]⟩

abbrev nBuf : Space → Nat
  | .hbm => 99
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x8320, .bf16⟩
  | .hbm, ⟨3, _⟩ => ⟨S1x512, .f32⟩
  | .hbm, ⟨4, _⟩ => ⟨S1x512, .f32⟩
  | .hbm, ⟨5, _⟩ => ⟨S4096x8320, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x512, .f32⟩
  | .hbm, ⟨58, _⟩ => ⟨S4096x512, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x512, .f32⟩
  | .hbm, ⟨82, _⟩ => ⟨S4096x512, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .bf16⟩
  | .hbm, ⟨95, _⟩ => ⟨S4096x512, .bf16⟩
  | .hbm, ⟨96, _⟩ => ⟨S_, .f32⟩
  | .hbm, ⟨97, _⟩ => ⟨S6x512, .f32⟩
  | .hbm, ⟨98, _⟩ => ⟨S8x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Loss.lean ====
abbrev S4096x2048 : Shape := ⟨2, ![4096, 2048]⟩
abbrev S1x12288 : Shape := ⟨2, ![1, 12288]⟩
abbrev S8x2048 : Shape := ⟨2, ![8, 2048]⟩
abbrev S8x128 : Shape := ⟨2, ![8, 128]⟩
abbrev S256x2048 : Shape := ⟨2, ![256, 2048]⟩
abbrev S1x2048 : Shape := ⟨2, ![1, 2048]⟩
abbrev S2048 : Shape := ⟨1, ![2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x12288, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | .local _ .vmem, ⟨12, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x2048 : Shape := ⟨2, ![4096, 2048]⟩
abbrev S1x12288 : Shape := ⟨2, ![1, 12288]⟩
abbrev S1x2048 : Shape := ⟨2, ![1, 2048]⟩
abbrev S_ : Shape := ⟨0, ![]⟩
abbrev S4096 : Shape := ⟨1, ![4096]⟩
abbrev S2048 : Shape := ⟨1, ![2048]⟩
abbrev S7x2048 : Shape := ⟨2, ![7, 2048]⟩
abbrev S8x2048 : Shape := ⟨2, ![8, 2048]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x12288, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .bf16⟩
  | .hbm, ⟨38, _⟩ => ⟨S_, .f32⟩
  | .hbm, ⟨39, _⟩ => ⟨S7x2048, .f32⟩
  | .hbm, ⟨40, _⟩ => ⟨S8x2048, .f32⟩
  | .hbm, ⟨41, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Ada.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaRefIdeal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== StepAda.lean ====
abbrev S2048x8 : Shape := ⟨2, ![2048, 8]⟩
abbrev S8x3072 : Shape := ⟨2, ![8, 3072]⟩
abbrev S2048x3072 : Shape := ⟨2, ![2048, 3072]⟩
abbrev S256x8 : Shape := ⟨2, ![256, 8]⟩
abbrev S8x1024 : Shape := ⟨2, ![8, 1024]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x8, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S256x8, .f32⟩
  | .local _ .vmem, ⟨1, _⟩ => ⟨S256x8, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepAdaRefIdeal.lean ====
abbrev S2048x8 : Shape := ⟨2, ![2048, 8]⟩
abbrev S8x3072 : Shape := ⟨2, ![8, 3072]⟩
abbrev S2048x3072 : Shape := ⟨2, ![2048, 3072]⟩
abbrev S8x2048 : Shape := ⟨2, ![8, 2048]⟩
abbrev S3072x2048 : Shape := ⟨2, ![3072, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x3072, .f32⟩
  | .hbm, ⟨7, _⟩ => ⟨S3072x2048, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S_, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== StepVec.lean ====
abbrev S8x18048 : Shape := ⟨2, ![8, 18048]⟩
abbrev S1x18048 : Shape := ⟨2, ![1, 18048]⟩

abbrev nBuf : Space → Nat
  | .hbm => 8
  | .vmem => 8
  | .smem => 0
  | _ => 0

abbrev bufTy : (tb : Table) → Fin (tcTables nBuf tb) → BufTy
  | .hbm, ⟨0, _⟩ => ⟨S8x18048, .f32⟩
  | .hbm, ⟨1, _⟩ => ⟨S1x18048, .f32⟩
  | .hbm, ⟨2, _⟩ => ⟨S1x18048, .f32⟩
  | .hbm, ⟨3, _⟩ => ⟨S1x18048, .f32⟩
  | .hbm, ⟨4, _⟩ => ⟨S1x18048, .f32⟩
  | .hbm, ⟨5, _⟩ => ⟨S1x18048, .f32⟩
  | .hbm, ⟨6, _⟩ => ⟨S1x18048, .f32⟩
  | .hbm, ⟨7, _⟩ => ⟨S1x18048, .f32⟩
  | .local _ .vmem, ⟨0, _⟩ => ⟨S8x18048, .f32⟩
  | .local _ .vmem, ⟨1, _⟩ => ⟨S1x18048, .f32⟩
  | .local _ .vmem, ⟨2, _⟩ => ⟨S1x18048, .f32⟩
  | .local _ .vmem, ⟨3, _⟩ => ⟨S1x18048, .f32⟩
  | .local _ .vmem, ⟨4, _⟩ => ⟨S1x18048, .f32⟩
  | .local _ .vmem, ⟨5, _⟩ => ⟨S1x18048, .f32⟩
  | .local _ .vmem, ⟨6, _⟩ => ⟨S1x18048, .f32⟩
  | .local _ .vmem, ⟨7, _⟩ => ⟨S1x18048, .f32⟩
  | _, _ => ⟨S8x18048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x18048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x18048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== StepVecRefIdeal.lean ====
abbrev S8x18048 : Shape := ⟨2, ![8, 18048]⟩
abbrev S1x18048 : Shape := ⟨2, ![1, 18048]⟩
abbrev S_ : Shape := ⟨0, ![]⟩
abbrev S18048 : Shape := ⟨1, ![18048]⟩

abbrev nBuf : Space → Nat
  | .hbm => 40
  | .vmem => 0
  | .smem => 0
  | _ => 0

abbrev bufTy : (tb : Table) → Fin (tcTables nBuf tb) → BufTy
  | .hbm, ⟨0, _⟩ => ⟨S8x18048, .f32⟩
  | .hbm, ⟨1, _⟩ => ⟨S1x18048, .f32⟩
  | .hbm, ⟨2, _⟩ => ⟨S1x18048, .f32⟩
  | .hbm, ⟨3, _⟩ => ⟨S1x18048, .f32⟩
  | .hbm, ⟨4, _⟩ => ⟨S_, .f32⟩
  | .hbm, ⟨5, _⟩ => ⟨S18048, .f32⟩
  | .hbm, ⟨6, _⟩ => ⟨S1x18048, .f32⟩
  | .hbm, ⟨7, _⟩ => ⟨S_, .f32⟩
  | .hbm, ⟨8, _⟩ => ⟨S1x18048, .f32⟩
  | .hbm, ⟨9, _⟩ => ⟨S1x18048, .f32⟩
  | .hbm, ⟨10, _⟩ => ⟨S_, .f32⟩
  | .hbm, ⟨11, _⟩ => ⟨S1x18048, .f32⟩
  | .hbm, ⟨12, _⟩ => ⟨S1x18048, .f32⟩
  | .hbm, ⟨13, _⟩ => ⟨S1x18048, .f32⟩
  | .hbm, ⟨14, _⟩ => ⟨S_, .f32⟩
  | .hbm, ⟨15, _⟩ => ⟨S1x18048, .f32⟩
  | .hbm, ⟨16, _⟩ => ⟨S1x18048, .f32⟩
  | .hbm, ⟨17, _⟩ => ⟨S1x18048, .f32⟩
  | .hbm, ⟨18, _⟩ => ⟨S_, .f32⟩
  | .hbm, ⟨19, _⟩ => ⟨S1x18048, .f32⟩
  | .hbm, ⟨20, _⟩ => ⟨S1x18048, .f32⟩
  | .hbm, ⟨21, _⟩ => ⟨S1x18048, .f32⟩
  | .hbm, ⟨22, _⟩ => ⟨S_, .f32⟩
  | .hbm, ⟨23, _⟩ => ⟨S1x18048, .f32⟩
  | .hbm, ⟨24, _⟩ => ⟨S1x18048, .f32⟩
  | .hbm, ⟨25, _⟩ => ⟨S_, .f32⟩
  | .hbm, ⟨26, _⟩ => ⟨S1x18048, .f32⟩
  | .hbm, ⟨27, _⟩ => ⟨S1x18048, .f32⟩
  | .hbm, ⟨28, _⟩ => ⟨S1x18048, .f32⟩
  | .hbm, ⟨29, _⟩ => ⟨S_, .f32⟩
  | .hbm, ⟨30, _⟩ => ⟨S1x18048, .f32⟩
  | .hbm, ⟨31, _⟩ => ⟨S1x18048, .f32⟩
  | .hbm, ⟨32, _⟩ => ⟨S1x18048, .f32⟩
  | .hbm, ⟨33, _⟩ => ⟨S_, .f32⟩
  | .hbm, ⟨34, _⟩ => ⟨S1x18048, .f32⟩
  | .hbm, ⟨35, _⟩ => ⟨S1x18048, .f32⟩
  | .hbm, ⟨36, _⟩ => ⟨S1x18048, .f32⟩
  | .hbm, ⟨37, _⟩ => ⟨S_, .f32⟩
  | .hbm, ⟨38, _⟩ => ⟨S1x18048, .f32⟩
  | .hbm, ⟨39, _⟩ => ⟨S1x18048, .f32⟩
  | _, _ => ⟨S8x18048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== StepMat.lean ====
abbrev S2048x2816 : Shape := ⟨2, ![2048, 2816]⟩
abbrev S1024x2816 : Shape := ⟨2, ![1024, 2816]⟩
abbrev S1 : Shape := ⟨1, ![1]⟩
abbrev S64x2816 : Shape := ⟨2, ![64, 2816]⟩

abbrev nBuf : Space → Nat
  | .hbm => 9
  | .vmem => 18
  | .smem => 1
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | .local _ .vmem, ⟨16, _⟩ => ⟨S64x2816, .f32⟩
  | .local _ .vmem, ⟨17, _⟩ => ⟨S64x2816, .f32⟩
  | .local _ .smem, ⟨0, _⟩ => ⟨S1, .i32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StepMatRefIdeal.lean ====
abbrev S2048x2816 : Shape := ⟨2, ![2048, 2816]⟩
abbrev S1024x2816 : Shape := ⟨2, ![1024, 2816]⟩
abbrev S1 : Shape := ⟨1, ![1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S1, .i32⟩
  | .hbm, ⟨4, _⟩ => ⟨S2048x2816, .f32⟩
  | .hbm, ⟨5, _⟩ => ⟨S2048x2816, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x2816, .f32⟩
  | .hbm, ⟨10, _⟩ => ⟨S_, .i32⟩
  | .hbm, ⟨11, _⟩ => ⟨S_, .i1⟩
  | .hbm, ⟨12, _⟩ => ⟨S1024x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Up.lean ====
/-
  Real matrices as vectors of extended reals. A block of the kernel holds real numbers once the two arguments do, so every
  operation on a block is stated here as an equation between whole blocks: the block of a matrix `x` of reals, read on its
  first `a` rows and `b` columns, is `up a b x`.
-/
module

public import proofs.«01_k».proof.Proof.Gen.KernelIdeal
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pointwise.SelectCore

@[expose] public section

noncomputable section

namespace Cert.Sb

open Idealize.ShloMosaic hiding ix1 ix2 ix3 ix4 eq_ix1 eq_ix2 eq_ix3 eq_ix4
open ValueIdx

/-- What the arrays of a program hold. -/
abbrev _root_.Cert.Mem (nD : ℕ) (τ : Topo) (sig : RefSig) : Type := (ℓ : Loc nD τ sig) → Buf (Elt Ideal) ℓ
/-- An array that is as it was. -/
abbrev _root_.Cert.Kept {nD : ℕ} {τ : Topo} {sig : RefSig} (m m' : Mem nD τ sig) (c : Dev nD) (b : Ref sig .tc) : Prop := m' (c.tc.loc b) = m (c.tc.loc b)

/-- Matrices of reals, by row and column. -/
abbrev Mat := ℕ → ℕ → ℝ

/-- The first `a` rows and `b` columns of a matrix of reals, as a vector of extended reals. -/
def up (a b : ℕ) (φ : FTy) (x : Mat) : FVec Ideal ⟨2, ![a, b]⟩ φ := fun i => ((x (i 0).val (i 1).val : ℝ) : EReal)

theorem up_apply {a b : ℕ} {φ : FTy} (x : Mat) (r : Fin a) (c : Fin b) : up a b φ x (ix2 r c) = ((x r.val c.val : ℝ) : EReal) := rfl

/-- Two vectors of two axes agree when they do at every row and column. -/
theorem ext2 {a b : ℕ} {α : Type} {x y : (⟨2, ![a, b]⟩ : Shape).Idx → α} (h : ∀ (r : Fin a) (c : Fin b), x (ix2 r c) = y (ix2 r c)) : x = y := by
  funext i
  rw [eq_ix2 i]
  exact h _ _

/-- An index of two axes is a row and a column. -/
theorem exists_ix2 {a b : ℕ} (y : (⟨2, ![a, b]⟩ : Shape).Idx) : ∃ r d, y = ix2 r d := ⟨_, _, eq_ix2 y⟩

/-- Only the rows and columns inside count. -/
theorem up_congr {a b : ℕ} {φ : FTy} {x y : Mat} (h : ∀ i < a, ∀ j < b, x i j = y i j) : up a b φ x = up a b φ y :=
  ext2 fun r c => by rw [up_apply, up_apply, h r.val r.isLt c.val c.isLt]

/-- A finite sum of reals is the sum of their extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The sum over `Fin n` of products of reals, as the real sum over the numbers below `n`. -/
theorem sum_coe_mul {n : ℕ} (f g : ℕ → ℝ) :
    ∑ k : Fin n, ((f k.val : ℝ) : EReal) * ((g k.val : ℝ) : EReal) = ((∑ k ∈ Finset.range n, f k * g k : ℝ) : EReal) := by
  rw [Finset.sum_range, coe_sum]
  exact Finset.sum_congr rfl fun k _ => (EReal.coe_mul _ _).symm

theorem coe_min (x y : ℝ) : ((min x y : ℝ) : EReal) = min (x : EReal) (y : EReal) := EReal.coe_strictMono.monotone.map_min
theorem coe_max (x y : ℝ) : ((max x y : ℝ) : EReal) = max (x : EReal) (y : EReal) := EReal.coe_strictMono.monotone.map_max
theorem coe_abs (x : ℝ) : ((|x| : ℝ) : EReal) = max (x : EReal) (-(x : EReal)) := by rw [abs_eq_max_neg, coe_max, EReal.coe_neg]

section Pointwise
variable {a b : ℕ} {φ : FTy} (x y : Mat)

theorem up_add : addf (up a b φ x) (up a b φ y) = up a b φ fun i j => x i j + y i j :=
  ext2 fun r c => by rw [addf_apply, up_apply, up_apply, up_apply, EReal.coe_add]
theorem up_sub : subf (up a b φ x) (up a b φ y) = up a b φ fun i j => x i j - y i j :=
  ext2 fun r c => by rw [subf_apply, up_apply, up_apply, up_apply, EReal.coe_sub]
theorem up_mul : mulf (up a b φ x) (up a b φ y) = up a b φ fun i j => x i j * y i j :=
  ext2 fun r c => by rw [mulf_apply, up_apply, up_apply, up_apply, EReal.coe_mul]
theorem up_min : minimumf (up a b φ x) (up a b φ y) = up a b φ fun i j => min (x i j) (y i j) :=
  ext2 fun r c => by rw [minimumf_apply, up_apply, up_apply, up_apply, coe_min]
theorem up_abs : absf (up a b φ x) = up a b φ fun i j => |x i j| :=
  ext2 fun r c => by rw [up_apply, coe_abs]; rfl
theorem up_exp : exp (up a b φ x) = up a b φ fun i j => Real.exp (x i j) :=
  ext2 fun r c => rfl
theorem up_log (h : ∀ i j, 0 < x i j) : log (up a b φ x) = up a b φ fun i j => Real.log (x i j) :=
  ext2 fun r c => by
    show (if x r.val c.val ≤ 0 then (⊥ : EReal) else ((Real.log (x r.val c.val) : ℝ) : EReal)) = _
    rw [if_neg (not_le.2 (h _ _))]; rfl
theorem up_truncf (ψ : FTy) (h : ψ.bits < φ.bits) : truncf ψ (up a b φ x) h = up a b ψ x := rfl
theorem up_extf (ψ : FTy) (h : φ.bits < ψ.bits) : extf ψ (up a b φ x) h = up a b ψ x := rfl
theorem up_cast (h : (⟨2, ![a, b]⟩ : Shape).ShapeCasts ⟨2, ![a, b]⟩) : shapeCast ⟨2, ![a, b]⟩ (up a b φ x) h = up a b φ x :=
  shapeCast_self _ h

end Pointwise

/-! ## Constants -/

theorem up_const {a b : ℕ} {φ : FTy} (w : BitVec φ.bits) (v : ℝ) (h : Ideal.ofBits φ w = (v : EReal)) :
    constant ⟨2, ![a, b]⟩ φ w = up a b φ fun _ _ => v := ext2 fun r c => h
theorem up_bcast {a b : ℕ} {φ : FTy} (w : BitVec φ.bits) (v : ℝ) (h : Ideal.ofBits φ w = (v : EReal)) :
    broadcast ⟨2, ![a, b]⟩ (Scalar.ofBits φ w) = up a b φ fun _ _ => v := ext2 fun r c => h

/-- The factor before the scores, the 32-bit number nearest to one over the root of 128. -/
def scale : ℝ := (Ideal.ofBits .f32 0x3DB504F3#32).toReal

theorem ofBits_scale : Ideal.ofBits .f32 0x3DB504F3#32 = (scale : EReal) := by
  unfold scale
  have e : Ideal.ofBits .f32 0x3DB504F3#32 = ((11863283 * (2 ^ 27)⁻¹ : ℝ) : EReal) := by
    rw [EReal.coe_mul]; simp [Ideal.ofBits, Ideal.ieee]
  rw [e, EReal.toReal_coe]
theorem ofBits_zero : Ideal.ofBits .f32 0x00000000#32 = ((0 : ℝ) : EReal) := by simp [Ideal.ofBits, Ideal.ieee]
theorem ofBits_one : Ideal.ofBits .f32 0x3F800000#32 = ((1 : ℝ) : EReal) := by rw [Ideal.ofBits_one_f32, EReal.coe_one]

/-! ## Products -/

section Products
variable {M K N : ℕ} {φ ψ : FTy} (x y w : Mat)

/-- Rows times columns. -/
theorem up_matmul (p : Option ContractPrecision) :
    FloatOps.matmul (DotDims.plain M K N) p (up M K φ x) (up K N ψ y) (up M N .f32 w)
      = up M N .f32 fun i j => w i j + ∑ k ∈ Finset.range K, x i k * y k j :=
  ext2 fun r c => by
    rw [Ideal.matmul_plain_apply, up_apply, up_apply, EReal.coe_add]
    exact congrArg _ (sum_coe_mul (fun k => x r.val k) (fun k => y k c.val))

/-- Rows times rows. -/
theorem up_matmul_nt (p : Option ContractPrecision) :
    FloatOps.matmul (DotDims.transposedRhs M K N) p (up M K φ x) (up N K ψ y) (up M N .f32 w)
      = up M N .f32 fun i j => w i j + ∑ k ∈ Finset.range K, x i k * y j k :=
  ext2 fun r c => by
    rw [Ideal.matmul_transposedRhs_apply, up_apply, up_apply, EReal.coe_add]
    exact congrArg _ (sum_coe_mul (fun k => x r.val k) (fun k => y c.val k))

end Products

/-- Columns times columns, at the kernel's extents. -/
theorem up_matmul_tn {φ ψ : FTy} (x y w : Mat) (p : Option ContractPrecision) :
    FloatOps.matmul KernelIdeal.dot_S512x512_S512x128_S512x128_0_0_1_1_n_n p (up 512 512 φ x) (up 512 128 ψ y) (up 512 128 .f32 w)
      = up 512 128 .f32 fun i j => w i j + ∑ k ∈ Finset.range 512, x k i * y k j :=
  ext2 fun r c => by
    rw [Ideal.matmul_apply, up_apply, up_apply, EReal.coe_add]
    refine congrArg _ ?_
    have e := sum_coe_mul (n := 512) (fun k => x k r.val) (fun k => y k c.val)
    rw [← e, ← Equiv.sum_comp (contrEquiv1 KernelIdeal.dot_S512x512_S512x128_S512x128_0_0_1_1_n_n 512 rfl rfl).symm]
    refine Finset.sum_congr rfl fun k _ => ?_
    have hk := contrEquiv1_symm_val KernelIdeal.dot_S512x512_S512x128_S512x128_0_0_1_1_n_n 512 rfl rfl k
    refine congrArg₂ (· * ·) ?_ ?_
    · show ((x _ _ : ℝ) : EReal) = _
      exact congrArg (fun n => ((x n r.val : ℝ) : EReal)) hk
    · show ((y _ _ : ℝ) : EReal) = _
      exact congrArg (fun n => ((y n c.val : ℝ) : EReal)) hk

/-! ## Halves and row sums -/

/-- The columns from `o` on. -/
theorem up_slice {a n m : ℕ} {φ : FTy} (o : ℕ) (x : Mat) (h : (⟨2, ![a, n]⟩ : Shape).Slices ![0, o] ⟨2, ![a, m]⟩) :
    extractStridedSlice ⟨2, ![a, m]⟩ ![0, o] (up a n φ x) h = up a m φ fun i j => x i (o + j) :=
  ext2 fun r c => by rw [slice2_axis1_eq]; rfl

/-- Two halves side by side. -/
theorem up_concat {a n m l : ℕ} {φ : FTy} (x y : Mat) (h : Shape.Concatenates [⟨2, ![a, n]⟩, ⟨2, ![a, m]⟩] ⟨2, ![a, l]⟩ 1) :
    concatenate ⟨2, ![a, l]⟩ 1 [⟨⟨2, ![a, n]⟩, up a n φ x⟩, ⟨⟨2, ![a, m]⟩, up a m φ y⟩] h
      = up a l φ fun i j => if j < n then x i j else y i (j - n) :=
  ext2 fun r c => by
    rw [concatenate_pair_apply, up_apply]
    by_cases hc : c.val < n
    · rw [if_pos hc]; exact (dif_pos hc).trans rfl
    · rw [if_neg hc]; exact (dif_neg hc).trans rfl

/-- One column spread over `n`. -/
theorem up_spread {a n : ℕ} {φ : FTy} (x : Mat) (h : (⟨2, ![a, 1]⟩ : Shape).Broadcasts ⟨2, ![a, n]⟩) :
    broadcastTo ⟨2, ![a, n]⟩ (up a 1 φ x) h = up a n φ fun i _ => x i 0 :=
  ext2 fun r c => by
    rw [up_apply]
    show ((x _ _ : ℝ) : EReal) = _
    refine congrArg (fun n => ((x n 0 : ℝ) : EReal)) ?_
    show (if h1 : a = 1 then (⟨0, _⟩ : Fin a) else ⟨r.val, _⟩).val = r.val
    split
    · have := r.isLt; simp only; omega
    · rfl

/-- The sum along each row, kept as a column. -/
theorem up_rowSum {a n : ℕ} {φ : FTy} (x : Mat) (w : BitVec φ.bits) (h : (⟨2, ![a, n]⟩ : Shape).Reduces [1] ⟨1, ![a]⟩)
    (hφ : FKind.Formats φ) (hw : w = FKind.add.neutral φ hφ) (hs : (⟨1, ![a]⟩ : Shape).ShapeCasts ⟨2, ![a, 1]⟩) :
    shapeCast ⟨2, ![a, 1]⟩ (multiReduction .add [1] ⟨1, ![a]⟩ (up a n φ x) w h hφ hw) hs
      = up a 1 φ fun i _ => ∑ j ∈ Finset.range n, x i j :=
  ext2 fun r c => by
    rw [shapeCast_a_a1_apply, up_apply, coe_sum, Finset.sum_range]
    show (∑ i ∈ Finset.univ.filter (fun i => h.drop i = ix1 r), up a n φ x i) = _
    rw [Shape.Reduces.sum_filter_drop_single]
    refine Finset.sum_congr rfl fun k _ => ?_
    rfl

/-! ## Masks -/

/-- A choice by a mask is the choice by the mask's meaning. -/
theorem up_select {a b : ℕ} {φ : FTy} (m : IVec ⟨2, ![a, b]⟩ 1) (q : ℕ → ℕ → Prop) [∀ i j, Decidable (q i j)] (x y : Mat)
    (h : ∀ (r : Fin a) (c : Fin b), m (ix2 r c) = if q r.val c.val then 1#1 else 0#1) :
    select m (up a b φ x) (up a b φ y) = up a b φ fun i j => if q i j then x i j else y i j :=
  ext2 fun r c => by
    show Scalar.select (m (ix2 r c)) (up a b φ x (ix2 r c)) (up a b φ y (ix2 r c)) = _
    rw [h, up_apply, up_apply, up_apply]
    by_cases hq : q r.val c.val <;> simp [Scalar.select, hq]

/-- Two small numbers compared as signed words. -/
theorem slt_ofNat {m n : ℕ} (hm : m < 2 ^ 31) (hn : n < 2 ^ 31) : (BitVec.ofNat 32 m).slt (BitVec.ofNat 32 n) = decide (m < n) := by
  rw [BitVec.slt_eq_decide, BitVec.toInt_ofNat', BitVec.toInt_ofNat']
  congr 1
  rw [Int.bmod_eq_of_le (by omega) (by omega), Int.bmod_eq_of_le (by omega) (by omega)]
  exact propext Int.ofNat_lt

theorem eq_ofNat {m n : ℕ} (hm : m < 2 ^ 32) (hn : n < 2 ^ 32) : (BitVec.ofNat 32 m == BitVec.ofNat 32 n) = decide (m = n) := by
  rw [Bool.eq_iff_iff]
  simp only [beq_iff_eq, decide_eq_true_eq]
  constructor
  · intro h
    have := congrArg BitVec.toNat h
    rwa [BitVec.toNat_ofNat, BitVec.toNat_ofNat, Nat.mod_eq_of_lt hm, Nat.mod_eq_of_lt hn] at this
  · rintro rfl; rfl

end Cert.Sb
-- ==== Proof.Block.lean ====
/-
  What one block of 512 queries against 512 keys computes, as equations between blocks of reals: the logarithm of the gate, the
  sums of the later columns (made from two halves of 256 columns by a product with a triangle of ones), the sums of the earlier
  columns, and the two masks.
-/
module

public import proofs.«01_k».proof.Proof.Up
public import proofs.«01_k».proof.Proof.Gen.KernelIdeal.Skeleton

@[expose] public section

noncomputable section

namespace Cert.Sb

open Idealize.ShloMosaic
open ValueIdx
open KernelIdeal KernelIdeal.Gen

/-- The logarithm of the logistic function, as both programs write it. -/
def lb (z : ℝ) : ℝ := min z 0 - Real.log (1 + Real.exp (0 - |z|))

/-- The sum of the later columns of `l` inside a block of 512, onto the column `r`. -/
def tailB (l r : Mat) : Mat := fun i j => r i 0 + ∑ k ∈ Finset.Ico (j + 1) 512, l i k
/-- The sum of the earlier columns of `l` inside a block, onto the column `r`. -/
def leftB (l r : Mat) : Mat := fun i j => r i 0 + ∑ k ∈ Finset.range j, l i k
/-- The sum of all 512 columns of `l`, onto the column `r`. -/
def sumB (l r : Mat) : Mat := fun i _ => r i 0 + ∑ k ∈ Finset.range 512, l i k

/-! ## Sums cut at a column -/

/-- A sum weighted by «later than `j`» is the sum over the later columns. -/
theorem sum_later (f : ℕ → ℝ) (j n : ℕ) :
    ∑ k ∈ Finset.range n, f k * (if j < k then (1 : ℝ) else 0) = ∑ k ∈ Finset.Ico (j + 1) n, f k := by
  simp only [mul_ite, mul_one, mul_zero]
  rw [← Finset.sum_filter]
  refine Finset.sum_congr ?_ fun _ _ => rfl
  ext k; simp only [Finset.mem_filter, Finset.mem_range, Finset.mem_Ico]; omega

/-- A sum weighted by «earlier than `j`» is the sum over the earlier columns. -/
theorem sum_earlier (f : ℕ → ℝ) (j n : ℕ) (h : j ≤ n) :
    ∑ k ∈ Finset.range n, f k * (if k < j then (1 : ℝ) else 0) = ∑ k ∈ Finset.range j, f k := by
  simp only [mul_ite, mul_one, mul_zero]
  rw [← Finset.sum_filter]
  refine Finset.sum_congr ?_ fun _ _ => rfl
  ext k; simp only [Finset.mem_filter, Finset.mem_range]; omega

/-- A sum over shifted columns is the sum over the columns. -/
theorem sum_shift (f : ℕ → ℝ) (o a b : ℕ) : ∑ k ∈ Finset.Ico a b, f (o + k) = ∑ k ∈ Finset.Ico (o + a) (o + b), f k := by
  rw [Finset.sum_Ico_add, Nat.add_comm a o, Nat.add_comm b o]

theorem sum_shift_range (f : ℕ → ℝ) (o n : ℕ) : ∑ k ∈ Finset.range n, f (o + k) = ∑ k ∈ Finset.Ico o (o + n), f k := by
  rw [Finset.range_eq_Ico, sum_shift, Nat.add_zero]

theorem tail_halves (l r : Mat) (i j : ℕ) (hj : j < 512) :
    (if j < 256 then 0 + ∑ k ∈ Finset.range 256, l i (0 + k) * (if j < k then (1 : ℝ) else 0) + (r i 0 + ∑ k ∈ Finset.range 256, l i (256 + k))
      else 0 + ∑ k ∈ Finset.range 256, l i (256 + k) * (if j - 256 < k then (1 : ℝ) else 0) + r i 0) = tailB l r i j := by
  unfold tailB
  split
  · rename_i h
    rw [sum_later (fun k => l i (0 + k)), sum_shift_range (fun k => l i k), sum_shift (fun k => l i k),
      ← Finset.sum_Ico_consecutive (fun k => l i k) (show j + 1 ≤ 256 by omega) (show 256 ≤ 512 by omega)]
    simp only [Nat.zero_add]; ring
  · rename_i h
    rw [sum_later (fun k => l i (256 + k)), sum_shift (fun k => l i k), show 256 + (j - 256 + 1) = j + 1 by omega]
    ring

theorem left_halves (l r : Mat) (i j : ℕ) (hj : j < 512) :
    (if j < 256 then 0 + ∑ k ∈ Finset.range 256, l i (0 + k) * (if k < j then (1 : ℝ) else 0) + r i 0
      else 0 + ∑ k ∈ Finset.range 256, l i (256 + k) * (if k < j - 256 then (1 : ℝ) else 0) + (r i 0 + ∑ k ∈ Finset.range 256, l i (0 + k))) = leftB l r i j := by
  unfold leftB
  simp only [Nat.zero_add]
  split
  · rename_i h
    rw [sum_earlier (fun k => l i k) _ _ (by omega)]; ring
  · rename_i h
    rw [sum_earlier (fun k => l i (256 + k)) _ _ (by omega), sum_shift_range (fun k => l i k),
      show Finset.range j = Finset.Ico 0 j from Finset.range_eq_Ico j, show 256 + (j - 256) = j by omega,
      ← Finset.sum_Ico_consecutive (fun k => l i k) (show 0 ≤ 256 by omega) (show 256 ≤ j by omega), Finset.range_eq_Ico]
    ring

theorem sum_halves (l r : Mat) (i : ℕ) :
    r i 0 + ∑ k ∈ Finset.range 256, l i (256 + k) + ∑ k ∈ Finset.range 256, l i (0 + k) = sumB l r i 0 := by
  unfold sumB
  simp only [Nat.zero_add]
  rw [sum_shift_range (fun k => l i k), show Finset.range 512 = Finset.Ico 0 512 from Finset.range_eq_Ico 512,
    ← Finset.sum_Ico_consecutive (fun k => l i k) (show 0 ≤ 256 by omega) (show 256 ≤ 512 by omega), Finset.range_eq_Ico]
  ring

theorem sum_halves' (l r : Mat) (i : ℕ) :
    r i 0 + ∑ k ∈ Finset.range 256, l i (0 + k) + ∑ k ∈ Finset.range 256, l i (256 + k) = sumB l r i 0 := by
  rw [← sum_halves]; ring

/-! ## The operations at the kernel's shapes -/

section Ops
variable (x y w : Mat) {a b : ℕ}

theorem up_zero : constant ⟨2, ![a, b]⟩ .f32 0x00000000#32 = up a b .f32 fun _ _ => 0 := up_const _ 0 ofBits_zero
theorem up_bzero : broadcast ⟨2, ![a, b]⟩ (Scalar.ofBits .f32 0x00000000#32) = up a b .f32 fun _ _ => 0 := up_bcast _ 0 ofBits_zero
theorem up_bone : broadcast ⟨2, ![a, b]⟩ (Scalar.ofBits .f32 0x3F800000#32) = up a b .f32 fun _ _ => 1 := up_bcast _ 1 ofBits_one
theorem up_bscale : broadcast ⟨2, ![a, b]⟩ (Scalar.ofBits .f32 0x3DB504F3#32) = up a b .f32 fun _ _ => scale := up_bcast _ scale ofBits_scale

theorem mm_qk (φ ψ : FTy) : matmul dot_S512x128_S512x128_S512x512_1_1_0_0_n_n none (up 512 128 φ x) (up 512 128 ψ y) (up 512 512 .f32 w)
    = up 512 512 .f32 fun i j => w i j + ∑ k ∈ Finset.range 128, x i k * y j k := up_matmul_nt x y w none
theorem mm_half (φ ψ : FTy) : matmul dot_S512x256_S256x256_S512x256_1_0_0_1_n_n none (up 512 256 φ x) (up 256 256 ψ y) (up 512 256 .f32 w)
    = up 512 256 .f32 fun i j => w i j + ∑ k ∈ Finset.range 256, x i k * y k j := up_matmul x y w none
theorem mm_av (φ ψ : FTy) : matmul dot_S512x512_S512x128_S512x128_1_0_0_1_n_n none (up 512 512 φ x) (up 512 128 ψ y) (up 512 128 .f32 w)
    = up 512 128 .f32 fun i j => w i j + ∑ k ∈ Finset.range 512, x i k * y k j := up_matmul x y w none
theorem mm_tn (φ ψ : FTy) : matmul dot_S512x512_S512x128_S512x128_0_0_1_1_n_n none (up 512 512 φ x) (up 512 128 ψ y) (up 512 128 .f32 w)
    = up 512 128 .f32 fun i j => w i j + ∑ k ∈ Finset.range 512, x k i * y k j := up_matmul_tn x y w none

/-- The logarithm of the gate of a block of scores. -/
theorem lb_ops : subf (minimumf (up a b .f32 x) (broadcast ⟨2, ![a, b]⟩ (Scalar.ofBits .f32 0x00000000#32)))
      (log (addf (broadcast ⟨2, ![a, b]⟩ (Scalar.ofBits .f32 0x3F800000#32))
        (exp (subf (broadcast ⟨2, ![a, b]⟩ (Scalar.ofBits .f32 0x00000000#32)) (absf (up a b .f32 x))))))
    = up a b .f32 fun i j => lb (x i j) := by
  rw [up_bzero, up_bone, up_min, up_abs, up_sub, up_exp, up_add, up_log _ (fun i j => by positivity), up_sub]
  rfl

end Ops

/-! ## The triangles and the masks -/

theorem upper_eq : k0_pay27 = up 256 256 .bf16 fun k j => if j < k then 1 else 0 := by
  unfold k0_pay27
  dsimp only
  rw [up_bone, up_bzero, up_select _ (fun k j => j < k)]
  · rfl
  · intro r c
    show BitVec.ofBool ((BitVec.ofNat 32 (0 * 256 + c.val)).slt (BitVec.ofNat 32 (0 * 256 + r.val))) = _
    rw [Nat.zero_mul, Nat.zero_add, Nat.zero_add, slt_ofNat (by omega) (by omega)]
    by_cases h : c.val < r.val <;> simp [h]

theorem before_eq : k1_pay14 = up 256 256 .bf16 fun k j => if k < j then 1 else 0 := by
  unfold k1_pay14
  dsimp only
  rw [up_bone, up_bzero, up_select _ (fun k j => k < j)]
  · rfl
  · intro r c
    show BitVec.ofBool ((BitVec.ofNat 32 (0 * 256 + r.val)).slt (BitVec.ofNat 32 (0 * 256 + c.val))) = _
    rw [Nat.zero_mul, Nat.zero_add, Nat.zero_add, slt_ofNat (by omega) (by omega)]
    by_cases h : r.val < c.val <;> simp [h]

/-- The mask of the diagonal block: strictly earlier keys. -/
theorem mask_select (x y : Mat) : select k0_pay33 (up 512 512 .f32 x) (up 512 512 .f32 y) = up 512 512 .f32 fun i j => if j < i then x i j else y i j := by
  refine up_select _ (fun i j => j < i) x y ?_
  intro r c
  show BitVec.ofBool ((BitVec.ofNat 32 (0 * 512 + c.val)).slt (BitVec.ofNat 32 (0 * 512 + r.val))) = _
  rw [Nat.zero_mul, Nat.zero_add, Nat.zero_add, slt_ofNat (by omega) (by omega)]
  by_cases h : c.val < r.val <;> simp [h]

/-- The mask of one lane. -/
theorem lane_select (n : ℕ) (hn : n < 2 ^ 32) (h : S512x128.Iotas .tc 32 [1]) (x y : Mat) :
    select (cmpi .eq (iota .tc S512x128 32 [1] h) (broadcast S512x128 (BitVec.ofNat 32 n))) (up 512 128 .f32 x) (up 512 128 .f32 y)
      = up 512 128 .f32 fun i j => if j = n then x i j else y i j := by
  refine up_select _ (fun _ j => j = n) x y ?_
  intro r c
  show BitVec.ofBool (BitVec.ofNat 32 (0 * 128 + c.val) == BitVec.ofNat 32 n) = _
  rw [Nat.zero_mul, Nat.zero_add, eq_ofNat (by omega) hn]
  by_cases h : c.val = n <;> simp [h]

/-! ## The later and the earlier columns -/

/-- The column of running sums after a block. -/
theorem sum_ops (l r : Mat) (h₁ : S512x512.Slices ![0, 256] S512x256) (h₂ : S512x512.Slices ![0, 0] S512x256) (hr : S512x256.Reduces [1] S512)
    (hs : S512.ShapeCasts S512x1) (hφ : FKind.Formats .f32) (hw : (0x00000000#32 : BitVec 32) = FKind.add.neutral .f32 hφ) :
    addf (addf (up 512 1 .f32 r) (shapeCast S512x1 (multiReduction .add [1] S512 (extractStridedSlice S512x256 ![0, 256] (up 512 512 .f32 l) h₁) 0x00000000#32 hr hφ hw) hs))
      (shapeCast S512x1 (multiReduction .add [1] S512 (extractStridedSlice S512x256 ![0, 0] (up 512 512 .f32 l) h₂) 0x00000000#32 hr hφ hw) hs)
    = up 512 1 .f32 (sumB l r) := by
  rw [up_slice, up_slice, up_rowSum, up_rowSum, up_add, up_add]
  exact up_congr fun i _ j hj => by
    obtain rfl : j = 0 := by omega
    exact sum_halves l r i

/-- The same, the left half first. -/
theorem sum_ops' (l r : Mat) (h₂ : S512x512.Slices ![0, 256] S512x256) (h₁ : S512x512.Slices ![0, 0] S512x256) (hr : S512x256.Reduces [1] S512)
    (hs : S512.ShapeCasts S512x1) (hφ : FKind.Formats .f32) (hw : (0x00000000#32 : BitVec 32) = FKind.add.neutral .f32 hφ) :
    addf (addf (up 512 1 .f32 r) (shapeCast S512x1 (multiReduction .add [1] S512 (extractStridedSlice S512x256 ![0, 0] (up 512 512 .f32 l) h₁) 0x00000000#32 hr hφ hw) hs))
      (shapeCast S512x1 (multiReduction .add [1] S512 (extractStridedSlice S512x256 ![0, 256] (up 512 512 .f32 l) h₂) 0x00000000#32 hr hφ hw) hs)
    = up 512 1 .f32 (sumB l r) := by
  rw [up_slice, up_slice, up_rowSum, up_rowSum, up_add, up_add]
  exact up_congr fun i _ j hj => by
    obtain rfl : j = 0 := by omega
    exact sum_halves' l r i

/-- The row sums of a half, as a column. -/
def sumOp (x : FVec Ideal S512x256 .f32) : FVec Ideal S512x1 .f32 :=
  shapeCast S512x1 (multiReduction .add [1] S512 x 0x00000000#32 reduces_S512x256_S512 (.inl rfl) rfl) shapeCasts_S512_S512x1

theorem sumOp_eq (x : Mat) : sumOp (up 512 256 .f32 x) = up 512 1 .f32 fun i _ => ∑ j ∈ Finset.range 256, x i j :=
  up_rowSum x _ _ _ _ _

/-- The sums of the later columns, from two halves. -/
def tailOp (l : FVec Ideal S512x512 .f32) (r : FVec Ideal S512x1 .f32) : FVec Ideal S512x512 .f32 :=
  concatenate S512x512 1
    [⟨S512x256, addf (matmul dot_S512x256_S256x256_S512x256_1_0_0_1_n_n none (truncf .bf16 (extractStridedSlice S512x256 ![0, 0] l slices_S512x512_o0_0_S512x256) bitsLt_bf16_f32)
        (k0_pay27) (constant S512x256 .f32 0x00000000#32))
      (broadcastTo S512x256 (addf r (sumOp (extractStridedSlice S512x256 ![0, 256] l slices_S512x512_o0_256_S512x256))) broadcasts_S512x1_S512x256)⟩,
     ⟨S512x256, addf (matmul dot_S512x256_S256x256_S512x256_1_0_0_1_n_n none (truncf .bf16 (extractStridedSlice S512x256 ![0, 256] l slices_S512x512_o0_256_S512x256) bitsLt_bf16_f32)
        (k0_pay27) (constant S512x256 .f32 0x00000000#32))
      (broadcastTo S512x256 r broadcasts_S512x1_S512x256)⟩] concatenates_S512x256_S512x256_S512x512_d1

theorem tail_ops (l r : Mat) : tailOp (up 512 512 .f32 l) (up 512 1 .f32 r) = up 512 512 .f32 (tailB l r) := by
  unfold tailOp
  rw [upper_eq, up_slice, up_slice, sumOp_eq, up_add, up_truncf, up_truncf, up_zero, mm_half, mm_half, up_spread, up_spread, up_add, up_add, up_concat]
  exact up_congr fun i _ j hj => tail_halves l r i j hj

/-- The sums of the earlier columns, from two halves. -/
def leftOp (l : FVec Ideal S512x512 .f32) (r : FVec Ideal S512x1 .f32) : FVec Ideal S512x512 .f32 :=
  concatenate S512x512 1
    [⟨S512x256, addf (matmul dot_S512x256_S256x256_S512x256_1_0_0_1_n_n none (truncf .bf16 (extractStridedSlice S512x256 ![0, 0] l slices_S512x512_o0_0_S512x256) bitsLt_bf16_f32)
        (k1_pay14) (constant S512x256 .f32 0x00000000#32))
      (broadcastTo S512x256 r broadcasts_S512x1_S512x256)⟩,
     ⟨S512x256, addf (matmul dot_S512x256_S256x256_S512x256_1_0_0_1_n_n none (truncf .bf16 (extractStridedSlice S512x256 ![0, 256] l slices_S512x512_o0_256_S512x256) bitsLt_bf16_f32)
        (k1_pay14) (constant S512x256 .f32 0x00000000#32))
      (broadcastTo S512x256 (addf r (sumOp (extractStridedSlice S512x256 ![0, 0] l slices_S512x512_o0_0_S512x256))) broadcasts_S512x1_S512x256)⟩] concatenates_S512x256_S512x256_S512x512_d1

theorem left_ops (l r : Mat) : leftOp (up 512 512 .f32 l) (up 512 1 .f32 r) = up 512 512 .f32 (leftB l r) := by
  unfold leftOp
  rw [before_eq, up_slice, up_slice, sumOp_eq, up_add, up_truncf, up_truncf, up_zero, mm_half, mm_half, up_spread, up_spread, up_add, up_add, up_concat]
  exact up_congr fun i _ j hj => left_halves l r i j hj

/-- The column of one lane. -/
def laneOp (x : FVec Ideal S512x128 .f32) (w : BitVec 32) : FVec Ideal S512x1 .f32 :=
  shapeCast S512x1 (multiReduction .add [1] S512 (select (cmpi .eq (iota .tc S512x128 32 [1] iota_S512x128_d1_w32) (broadcast S512x128 w)) x
    (broadcast S512x128 (Scalar.ofBits .f32 0x00000000#32))) 0x00000000#32 reduces_S512x128_S512 (.inl rfl) rfl) shapeCasts_S512_S512x1

theorem lane_ops (x : Mat) (n : ℕ) (hn : n < 128) : laneOp (up 512 128 .f32 x) (BitVec.ofNat 32 n) = up 512 1 .f32 fun i _ => x i n := by
  have e := lane_select n (by omega) iota_S512x128_d1_w32 x fun _ _ => 0
  rw [← up_bzero] at e
  unfold laneOp
  rw [e]
  refine (up_rowSum _ _ _ _ _ _).trans ?_
  exact up_congr fun i _ _ _ => by rw [Finset.sum_ite_eq' (Finset.range 128) n, if_pos (Finset.mem_range.2 hn)]

end Cert.Sb
-- ==== Proof.Stick.lean ====
/-
  Stick-breaking attention of one head over the reals: a query of row `t` meets the keys of the earlier rows `s < t`, the weight
  of `s` being the gate's value there times one minus the gate's value at every row strictly between. The gradients of the three
  inputs are written from the same weights. The second half of the file cuts the sums at blocks of 512 rows.
-/
module

public import proofs.«01_k».proof.Proof.Block

@[expose] public section

noncomputable section

namespace Cert.Sb

section Defs
variable (q k v dy : Mat)

/-- The scores. -/
def zM : Mat := fun t s => ∑ d ∈ Finset.range 128, q t d * scale * k s d
/-- The logarithm of one minus the gate, at the earlier keys. -/
def lomM : Mat := fun t s => if s < t then lb (zM q k t s) - zM q k t s else 0
/-- Its sum over the keys of the blocks from `m` on. -/
def runM : Mat := fun t m => ∑ j ∈ Finset.Ico (512 * m) 4096, lomM q k t j
/-- Its sum over the keys after `s`. -/
def tailM : Mat := fun t s => ∑ j ∈ Finset.Ico (s + 1) 4096, lomM q k t j
/-- The weights. -/
def attM : Mat := fun t s => if s < t then Real.exp (lb (zM q k t s) + tailM q k t s) else 0
/-- The output. -/
def outM : Mat := fun t d => ∑ s ∈ Finset.range 4096, attM q k t s * v s d
/-- The output's part from the blocks from `m` on. -/
def accM (m : ℕ) : Mat := fun t d => ∑ s ∈ Finset.Ico (512 * m) 4096, attM q k t s * v s d
/-- The gradient of the weights' logarithms. -/
def dlM : Mat := fun t s => attM q k t s * ∑ d ∈ Finset.range 128, dy t d * v s d
/-- Its sum over the keys before `s`. -/
def leftM : Mat := fun t s => ∑ j ∈ Finset.range s, dlM q k v dy t j
/-- Its sum over the keys of the blocks before `m`. -/
def prefM : Mat := fun t m => ∑ j ∈ Finset.range (512 * m), dlM q k v dy t j
/-- The gradient of the scores. -/
def dzM : Mat := fun t s => if s < t then dlM q k v dy t s * (1 - Real.exp (lb (zM q k t s))) - Real.exp (lb (zM q k t s)) * leftM q k v dy t s else 0
/-- The gradient of the queries before the scale, from the blocks before `m`. -/
def dqM (m : ℕ) : Mat := fun t d => ∑ s ∈ Finset.range (512 * m), dzM q k v dy t s * k s d
/-- The gradient of the keys, from the query blocks before `m`. -/
def dkM (m : ℕ) : Mat := fun s d => ∑ t ∈ Finset.range (512 * m), dzM q k v dy t s * (q t d * scale)
/-- The gradient of the values, from the query blocks before `m`. -/
def dvM (m : ℕ) : Mat := fun s d => ∑ t ∈ Finset.range (512 * m), attM q k t s * dy t d

end Defs

/-- The rows of a matrix from `o` on. -/
def rows (o : ℕ) (x : Mat) : Mat := fun i j => x (o + i) j

section Cuts
variable (q k v dy : Mat)

/-- A sum over the blocks from `m` on is the block `m` and those after it. -/
theorem sum_cut (f : ℕ → ℝ) (m : ℕ) (hm : m < 8) :
    ∑ j ∈ Finset.Ico (512 * m) 4096, f j = ∑ j ∈ Finset.Ico (512 * (m + 1)) 4096, f j + ∑ j ∈ Finset.range 512, f (512 * m + j) := by
  rw [sum_shift_range f, ← Finset.sum_Ico_consecutive f (show 512 * m ≤ 512 * m + 512 by omega) (show 512 * m + 512 ≤ 4096 by omega)]
  rw [show 512 * (m + 1) = 512 * m + 512 by ring]; ring

/-- A sum over the blocks before `m + 1` is the blocks before `m` and the block `m`. -/
theorem sum_grow (f : ℕ → ℝ) (m : ℕ) :
    ∑ j ∈ Finset.range (512 * (m + 1)), f j = ∑ j ∈ Finset.range (512 * m), f j + ∑ j ∈ Finset.range 512, f (512 * m + j) := by
  rw [show 512 * (m + 1) = 512 * m + 512 by ring, Finset.sum_range_add]

/-- A sum of terms that vanish from block `m` on. -/
theorem sum_stop (f : ℕ → ℝ) (m : ℕ) (hm : m ≤ 8) (h : ∀ j, 512 * m ≤ j → f j = 0) :
    ∑ j ∈ Finset.range 4096, f j = ∑ j ∈ Finset.range (512 * m), f j := by
  refine (Finset.sum_subset (fun j hj => ?_) fun j _ hj => h j ?_).symm
  · simp only [Finset.mem_range] at *; omega
  · simpa only [Finset.mem_range, not_lt] using hj

theorem sum_none (f : ℕ → ℝ) (m : ℕ) (h : ∀ j, 512 * m ≤ j → f j = 0) : ∑ j ∈ Finset.Ico (512 * m) 4096, f j = 0 :=
  Finset.sum_eq_zero fun j hj => h j (Finset.mem_Ico.1 hj).1

theorem lomM_none {t s : ℕ} (h : t ≤ s) : lomM q k t s = 0 := if_neg (by omega)
theorem attM_none {t s : ℕ} (h : t ≤ s) : attM q k t s = 0 := if_neg (by omega)
theorem dlM_none {t s : ℕ} (h : t ≤ s) : dlM q k v dy t s = 0 := by rw [dlM, attM_none q k h, zero_mul]
theorem dzM_none {t s : ℕ} (h : t ≤ s) : dzM q k v dy t s = 0 := if_neg (by omega)

/-- Before the diagonal block nothing has been summed. -/
theorem runM_last {t m : ℕ} (h : t < 512 * m) : runM q k t m = 0 := sum_none _ m fun j hj => lomM_none q k (by omega)
theorem accM_last {t m d : ℕ} (h : t < 512 * m) : accM q k v m t d = 0 := sum_none _ m fun j hj => by rw [attM_none q k (by omega), zero_mul]
theorem accM_zero : accM q k v 0 = outM q k v := by
  funext t d; unfold accM outM; rw [Nat.mul_zero, Finset.range_eq_Ico]

theorem runM_cut (t m : ℕ) (hm : m < 8) : runM q k t m = runM q k t (m + 1) + ∑ j ∈ Finset.range 512, lomM q k t (512 * m + j) := sum_cut _ m hm
theorem accM_cut (t m d : ℕ) (hm : m < 8) :
    accM q k v m t d = accM q k v (m + 1) t d + ∑ j ∈ Finset.range 512, attM q k t (512 * m + j) * v (512 * m + j) d := sum_cut _ m hm
theorem tailM_cut (t m j : ℕ) (hm : m < 8) (hj : j < 512) :
    tailM q k t (512 * m + j) = runM q k t (m + 1) + ∑ l ∈ Finset.Ico (j + 1) 512, lomM q k t (512 * m + l) := by
  unfold tailM runM
  rw [sum_shift (lomM q k t), show 512 * (m + 1) = 512 * m + 512 by ring, show 512 * m + (j + 1) = 512 * m + j + 1 from rfl,
    ← Finset.sum_Ico_consecutive (lomM q k t) (show 512 * m + j + 1 ≤ 512 * m + 512 by omega) (show 512 * m + 512 ≤ 4096 by omega)]
  exact add_comm _ _
theorem prefM_grow (t m : ℕ) : prefM q k v dy t (m + 1) = prefM q k v dy t m + ∑ j ∈ Finset.range 512, dlM q k v dy t (512 * m + j) := sum_grow _ m
theorem leftM_cut (t m j : ℕ) : leftM q k v dy t (512 * m + j) = prefM q k v dy t m + ∑ l ∈ Finset.range j, dlM q k v dy t (512 * m + l) := by
  unfold leftM prefM; rw [Finset.sum_range_add]

/-! ## The block of queries `n` against the block of keys `m` -/

/-- The scores of the block. -/
theorem z_block (n m : ℕ) :
    (fun i j => 0 + ∑ d ∈ Finset.range 128, rows (512 * n) (fun t d => q t d * scale) i d * rows (512 * m) k j d)
      = fun i j => zM q k (512 * n + i) (512 * m + j) := by
  funext i j; rw [zero_add]; rfl

/-- The column of running sums before the block `m`. -/
def runC (n m : ℕ) : Mat := fun i _ => runM q k (512 * n + i) m
def prefC (n m : ℕ) : Mat := fun i _ => prefM q k v dy (512 * n + i) m
/-- One minus the gate, in logarithms, over the block. -/
def lomC (n m : ℕ) : Mat := fun i j => lomM q k (512 * n + i) (512 * m + j)
def attC (n m : ℕ) : Mat := fun i j => attM q k (512 * n + i) (512 * m + j)
def dlC (n m : ℕ) : Mat := fun i j => dlM q k v dy (512 * n + i) (512 * m + j)
def dzC (n m : ℕ) : Mat := fun i j => dzM q k v dy (512 * n + i) (512 * m + j)

theorem lom_off {n m i j : ℕ} (h : m < n) (hj : j < 512) :
    lb (zM q k (512 * n + i) (512 * m + j)) - zM q k (512 * n + i) (512 * m + j) = lomC q k n m i j :=
  (if_pos (by omega)).symm
theorem lom_diag (n i j : ℕ) :
    (if j < i then lb (zM q k (512 * n + i) (512 * n + j)) - zM q k (512 * n + i) (512 * n + j) else 0) = lomC q k n n i j := by
  unfold lomC lomM
  simp only [Nat.add_lt_add_iff_left]

theorem tail_block {n m i j : ℕ} (hm : m < 8) (hj : j < 512) :
    tailB (lomC q k n m) (runC q k n (m + 1)) i j = tailM q k (512 * n + i) (512 * m + j) := (tailM_cut q k _ m j hm hj).symm
theorem run_block {n m i : ℕ} (j : ℕ) (hm : m < 8) : sumB (lomC q k n m) (runC q k n (m + 1)) i j = runC q k n m i j := (runM_cut q k _ m hm).symm
theorem left_block (n m i j : ℕ) : leftB (dlC q k v dy n m) (prefC q k v dy n m) i j = leftM q k v dy (512 * n + i) (512 * m + j) :=
  (leftM_cut q k v dy _ m j).symm
theorem pref_block (n m i j : ℕ) : sumB (dlC q k v dy n m) (prefC q k v dy n m) i j = prefC q k v dy n (m + 1) i j := (prefM_grow q k v dy _ m).symm

theorem att_off {n m i j : ℕ} (h : m < n) (hn : n < 8) (hj : j < 512) :
    Real.exp (lb (zM q k (512 * n + i) (512 * m + j)) + tailB (lomC q k n m) (runC q k n (m + 1)) i j) = attC q k n m i j := by
  rw [tail_block q k (by omega) hj]
  exact (if_pos (by omega)).symm
theorem att_diag {n i j : ℕ} (hn : n < 8) (hj : j < 512) :
    (if j < i then Real.exp (lb (zM q k (512 * n + i) (512 * n + j)) + tailB (lomC q k n n) (runC q k n (n + 1)) i j) else 0) = attC q k n n i j := by
  rw [tail_block q k hn hj]
  unfold attC attM
  simp only [Nat.add_lt_add_iff_left]

theorem dz_off {n m i j : ℕ} (h : m < n) (hj : j < 512) :
    dlC q k v dy n m i j * (1 - Real.exp (lb (zM q k (512 * n + i) (512 * m + j))))
      - Real.exp (lb (zM q k (512 * n + i) (512 * m + j))) * leftB (dlC q k v dy n m) (prefC q k v dy n m) i j = dzC q k v dy n m i j := by
  rw [left_block]
  exact (if_pos (by omega)).symm
theorem dz_diag (n i j : ℕ) :
    (if j < i then dlC q k v dy n n i j * (1 - Real.exp (lb (zM q k (512 * n + i) (512 * n + j))))
      - Real.exp (lb (zM q k (512 * n + i) (512 * n + j))) * leftB (dlC q k v dy n n) (prefC q k v dy n n) i j else 0) = dzC q k v dy n n i j := by
  rw [left_block]
  unfold dzC dzM
  simp only [Nat.add_lt_add_iff_left]
  rfl

theorem dqM_grow (t m d : ℕ) : dqM q k v dy (m + 1) t d = dqM q k v dy m t d + ∑ j ∈ Finset.range 512, dzM q k v dy t (512 * m + j) * k (512 * m + j) d := sum_grow _ m
theorem dkM_grow (s m d : ℕ) :
    dkM q k v dy (m + 1) s d = dkM q k v dy m s d + ∑ i ∈ Finset.range 512, dzM q k v dy (512 * m + i) s * (q (512 * m + i) d * scale) := sum_grow _ m
theorem dvM_grow (s m d : ℕ) :
    dvM q k dy (m + 1) s d = dvM q k dy m s d + ∑ i ∈ Finset.range 512, attM q k (512 * m + i) s * dy (512 * m + i) d := sum_grow _ m

/-- The gradient of the queries is complete after the diagonal block. -/
theorem dqM_full {t m d : ℕ} (h : t < 512 * m) (hm : m ≤ 8) :
    dqM q k v dy m t d = ∑ s ∈ Finset.range 4096, dzM q k v dy t s * k s d :=
  (sum_stop _ m hm fun j hj => by rw [dzM_none q k v dy (by omega), zero_mul]).symm

end Cuts

end Cert.Sb
-- ==== Proof.FwdBlock.lean ====
/-
  The forward call's block: what its values hold when the queries of block `n` meet the keys of block `m`, and what the running
  column, the accumulator and the saved lanes become.
-/
module

public import proofs.«01_k».proof.Proof.Stick

@[expose] public section

noncomputable section

namespace Cert.Sb

open Idealize.ShloMosaic
open ValueIdx
open KernelIdeal KernelIdeal.Gen

section
variable (q k v : Mat) (n m : ℕ)

/-- The queries times the scale. -/
def qs : Mat := fun t d => q t d * scale

/-- The queries of block `n`, the keys and values of block `m`, as the kernel holds them. -/
abbrev qU : FVec Ideal S512x128 .bf16 := up 512 128 .bf16 (rows (512 * n) (qs q))
abbrev kU : FVec Ideal S512x128 .bf16 := up 512 128 .bf16 (rows (512 * m) k)

/-- The queries' block after the scale. -/
theorem pay26_eq : k0_pay26 (up 512 128 .bf16 (rows (512 * n) q)) = up 512 128 .bf16 (rows (512 * n) (qs q)) := by
  unfold k0_pay26
  dsimp only
  rw [up_extf, up_bscale, up_mul, up_truncf]
  rfl

/-! ## A block before the diagonal -/

/-- The scores. -/
theorem pay9_eq : k0_pay9 (up 512 128 .bf16 (rows (512 * n) (qs q))) (up 512 128 .bf16 (rows (512 * m) k))
    = up 512 512 .f32 fun i j => zM q k (512 * n + i) (512 * m + j) := by
  unfold k0_pay9
  dsimp only
  rw [up_zero, mm_qk, ← z_block]
  rfl

theorem pay10_eq : k0_pay10 (up 512 128 .bf16 (rows (512 * n) (qs q))) (up 512 128 .bf16 (rows (512 * m) k))
    = up 512 512 .f32 fun i j => lb (zM q k (512 * n + i) (512 * m + j)) := by
  unfold k0_pay10
  dsimp only
  rw [pay9_eq]
  exact lb_ops _

theorem pay11_eq (h : m < n) : k0_pay11 (up 512 128 .bf16 (rows (512 * n) (qs q))) (up 512 128 .bf16 (rows (512 * m) k))
    = up 512 512 .f32 (lomC q k n m) := by
  unfold k0_pay11
  dsimp only
  rw [pay9_eq, pay10_eq, up_sub]
  exact up_congr fun i _ j hj => lom_off q k h hj

/-- The running column after the block. -/
theorem pay15_eq (h : m < n) (hn : n < 8) :
    k0_pay15 (up 512 128 .bf16 (rows (512 * n) (qs q))) (up 512 1 .f32 (runC q k n (m + 1))) (up 512 128 .bf16 (rows (512 * m) k))
      = up 512 1 .f32 (runC q k n m) := by
  unfold k0_pay15 k0_pay13 k0_pay14 k0_pay12
  dsimp only
  rw [pay11_eq q k n m h]
  exact (sum_ops _ _ _ _ _ _ _ _).trans (up_congr fun i _ j _ => run_block q k j (by omega))

/-- The block's part of the output. -/
theorem pay16_eq (h : m < n) (hn : n < 8) :
    k0_pay16 (up 512 128 .bf16 (rows (512 * n) (qs q))) (k0_pay27) (up 512 1 .f32 (runC q k n (m + 1))) (up 512 128 .bf16 (rows (512 * m) k))
        (up 512 128 .bf16 (rows (512 * m) v))
      = up 512 128 .f32 fun i d => 0 + ∑ j ∈ Finset.range 512, attC q k n m i j * rows (512 * m) v j d := by
  show matmul dot_S512x512_S512x128_S512x128_1_0_0_1_n_n none (truncf .bf16 (exp (addf (k0_pay10 _ _) (tailOp (k0_pay11 _ _) _))) bitsLt_bf16_f32) _
    (constant S512x128 .f32 0x00000000#32) = _
  rw [pay11_eq q k n m h, pay10_eq, tail_ops, up_add, up_exp, up_truncf, up_zero, up_congr (fun i _ j hj => att_off q k h hn hj), mm_av]

/-- The accumulator after the block. -/
theorem acc_step (h : m < n) (hn : n < 8) :
    k0_pay5 (up 512 128 .f32 (rows (512 * n) (accM q k v (m + 1))))
        (k0_pay16 (up 512 128 .bf16 (rows (512 * n) (qs q))) (k0_pay27) (up 512 1 .f32 (runC q k n (m + 1))) (up 512 128 .bf16 (rows (512 * m) k))
        (up 512 128 .bf16 (rows (512 * m) v)))
      = up 512 128 .f32 (rows (512 * n) (accM q k v m)) := by
  rw [pay16_eq q k v n m h hn]
  unfold k0_pay5
  dsimp only
  rw [up_add]
  refine up_congr fun i _ d _ => ?_
  rw [zero_add]
  exact (accM_cut q k v _ m d (by omega)).symm

/-! ## The diagonal block -/

theorem pay31_eq : k0_pay31 (up 512 128 .bf16 (rows (512 * n) q)) (up 512 128 .bf16 (rows (512 * n) k))
    = up 512 512 .f32 fun i j => zM q k (512 * n + i) (512 * n + j) := by
  unfold k0_pay31
  dsimp only
  rw [pay26_eq]
  exact pay9_eq q k n n

theorem pay32_eq : k0_pay32 (up 512 128 .bf16 (rows (512 * n) q)) (up 512 128 .bf16 (rows (512 * n) k))
    = up 512 512 .f32 fun i j => lb (zM q k (512 * n + i) (512 * n + j)) := by
  unfold k0_pay32
  dsimp only
  rw [pay31_eq]
  exact lb_ops _

theorem pay34_eq : k0_pay34 (up 512 128 .bf16 (rows (512 * n) q)) (up 512 128 .bf16 (rows (512 * n) k))
    = up 512 512 .f32 (lomC q k n n) := by
  unfold k0_pay34
  dsimp only
  rw [pay31_eq, pay32_eq, up_sub, up_bzero, mask_select]
  exact up_congr fun i _ j _ => lom_diag q k n i j

/-- Nothing is in the running column before the diagonal block. -/
theorem pay28_eq : k0_pay28 = up 512 1 .f32 (runC q k n (n + 1)) := by
  unfold k0_pay28
  dsimp only
  rw [up_bzero]
  exact up_congr fun i _ j _ => (runM_last q k (by omega)).symm

theorem pay29_eq : k0_pay29 = up 512 128 .f32 (rows (512 * n) (accM q k v (n + 1))) := by
  unfold k0_pay29
  dsimp only
  rw [up_bzero]
  exact up_congr fun i _ j _ => (accM_last q k v (by omega)).symm

/-- The running column after the diagonal block. -/
theorem pay3_eq (hn : n < 8) :
    k0_pay3 (k0_pay28) (k0_pay34 (up 512 128 .bf16 (rows (512 * n) q)) (up 512 128 .bf16 (rows (512 * n) k)))
        (k0_pay35 (up 512 128 .bf16 (rows (512 * n) q)) (up 512 128 .bf16 (rows (512 * n) k)))
      = up 512 1 .f32 (runC q k n n) := by
  unfold k0_pay3 k0_pay35 k0_pay1 k0_pay2
  dsimp only
  rw [pay34_eq, pay28_eq q k n]
  exact (sum_ops _ _ _ _ _ _ _ _).trans (up_congr fun i _ j _ => run_block q k j hn)

/-- The accumulator after the diagonal block. -/
theorem pay4_eq (hn : n < 8) :
    k0_pay4 (k0_pay27) (k0_pay28) (k0_pay29)
        (k0_pay32 (up 512 128 .bf16 (rows (512 * n) q)) (up 512 128 .bf16 (rows (512 * n) k))) k0_pay33
        (k0_pay34 (up 512 128 .bf16 (rows (512 * n) q)) (up 512 128 .bf16 (rows (512 * n) k)))
        (k0_pay35 (up 512 128 .bf16 (rows (512 * n) q)) (up 512 128 .bf16 (rows (512 * n) k))) (up 512 128 .bf16 (rows (512 * n) v))
      = up 512 128 .f32 (rows (512 * n) (accM q k v n)) := by
  show addf (k0_pay29) (matmul dot_S512x512_S512x128_S512x128_1_0_0_1_n_n none (truncf .bf16 (select k0_pay33 (exp (addf (k0_pay32 _ _) (tailOp (k0_pay34 _ _) (k0_pay28))))
    (broadcast S512x512 (Scalar.ofBits .f32 0x00000000#32))) bitsLt_bf16_f32) _ (constant S512x128 .f32 0x00000000#32)) = _
  rw [pay34_eq, pay32_eq, pay28_eq q k n, pay29_eq q k v n, tail_ops, up_add, up_exp, up_bzero, mask_select, up_truncf, up_zero,
    up_congr (fun i _ j hj => att_diag q k hn hj), mm_av, up_add]
  refine up_congr fun i _ d _ => ?_
  rw [zero_add]
  exact (accM_cut q k v _ n d hn).symm

/-! ## The saved lanes -/

/-- The lanes of the blocks from `m` on hold the sums over the blocks after them; the others hold zero. -/
def lanesM (m : ℕ) : Mat := fun t l => if m ≤ l then runM q k t (l + 1) else 0

theorem pay30_eq (i : grid0.Coords) (hi : (i 1).val = n) (hn : n < 8) : k0_pay30 i = up 512 128 .f32 (rows (512 * n) (lanesM q k n)) := by
  unfold k0_pay30 k0_pay28
  dsimp only
  rw [up_bzero, up_bzero, up_cast, up_spread, hi, lane_select n (by omega)]
  refine up_congr fun r hr l _ => ?_
  rw [ite_self]
  unfold rows lanesM
  split
  · exact (runM_last q k (by omega)).symm
  · rfl

/-- A block's lane is set to the running column before it. -/
theorem lane_step (w : BitVec 32) (hw : w = BitVec.ofNat 32 m) (hm : m < 128) (h h₁ h₂) :
    select (cmpi .eq (iota .tc S512x128 32 [1] h) (broadcast S512x128 w))
        (broadcastTo S512x128 (shapeCast S512x1 (up 512 1 .f32 (runC q k n (m + 1))) h₁) h₂) (up 512 128 .f32 (rows (512 * n) (lanesM q k (m + 1))))
      = up 512 128 .f32 (rows (512 * n) (lanesM q k m)) := by
  subst hw
  rw [up_cast, up_spread, lane_select m (by omega)]
  refine up_congr fun r _ l _ => ?_
  unfold rows lanesM runC
  by_cases e : l = m
  · subst e; rw [if_pos rfl, if_pos (Nat.le_refl _)]
  · rw [if_neg e]
    by_cases h : m ≤ l
    · rw [if_pos h, if_pos (by omega)]
    · rw [if_neg h, if_neg (by omega)]

end

end Cert.Sb
-- ==== Proof.Loads.lean ====
/-
  A block of rows read from a buffer that holds a matrix, the same block after a store of such rows, and the places the
  kernel's counted loops read at.
-/
module

public import proofs.«01_k».proof.Proof.Stick
public import proofs.«01_k».proof.Proof.Gen.KernelIdeal.Frame
public import Idealize.ShloMosaic.Lib.Pipeline.Value
public import Idealize.ShloMosaic.Lib.Pipeline.ValueKit.Geometry
public import Idealize.ShloMosaic.Lib.Pipeline.ValueKit.Tiles
public import Idealize.ShloMosaic.Lib.WritesUnit
public import Idealize.ShloMosaic.Lib.VecWindow

@[expose] public section

noncomputable section

namespace Cert.Sb

open Idealize.ShloMosaic hiding ix1 ix2 ix3 ix4 eq_ix1 eq_ix2 eq_ix3 eq_ix4
open ValueIdx
open KernelIdeal KernelIdeal.Gen

/-- The rows from `o` on of a buffer of 4096 rows, at an index. -/
theorem ld_rows_at {Val : EltTy → Type} {e : EltTy} (X : S4096x128.Idx → Val e) (off : Fin 2 → ℕ) (o : ℕ) (h : off = ![o, 0])
    (inb : ∀ a, off a + S512x128.size a ≤ S4096x128.size a) (r : Fin 512) (c : Fin 128) (hr : o + r.val < 4096) :
    View.ld X (Rect.unit (s := S4096x128) off S512x128.size inb) (ix2 r c) = X (ix2 (⟨o + r.val, hr⟩ : Fin 4096) c) := by
  subst h
  exact View.ld_unit_apply_of X _ _ inb _ (ix2 (⟨o + r.val, hr⟩ : Fin 4096) c) (Fin.forall_fin_two.mpr ⟨rfl, (Nat.zero_add _).symm⟩)

theorem off_le {off : Fin 2 → ℕ} {o : ℕ} (h : off = ![o, 0]) (inb : ∀ a, off a + S512x128.size a ≤ S4096x128.size a) : o + 512 ≤ 4096 := by
  subst h
  exact inb 0

/-- The rows from `o` on of a matrix of 4096 rows. -/
theorem ld_rows {off : Fin 2 → ℕ} {o : ℕ} (h : off = ![o, 0]) (x : Mat) (X : Vec Ideal S4096x128 .bf16) (hX : X = up 4096 128 .bf16 x)
    (inb : ∀ a, off a + S512x128.size a ≤ S4096x128.size a) :
    View.ld X (Rect.unit (s := S4096x128) off S512x128.size inb) = up 512 128 .bf16 (rows o x) := by
  subst hX
  have ho := off_le h inb
  exact ext2 fun r c => ld_rows_at _ off o h inb r c (by omega)
theorem ld_rows' {off : Fin 2 → ℕ} {o : ℕ} (h : off = ![o, 0]) (x : Mat) (X : Vec Ideal S4096x128 .f32) (hX : X = up 4096 128 .f32 x)
    (inb : ∀ a, off a + S512x128.size a ≤ S4096x128.size a) :
    View.ld X (Rect.unit (s := S4096x128) off S512x128.size inb) = up 512 128 .f32 (rows o x) := by
  subst hX
  have ho := off_le h inb
  exact ext2 fun r c => ld_rows_at _ off o h inb r c (by omega)

/-- A load of a whole block. -/
theorem ld_all {s : Shape} {e : EltTy} (x : Vec Ideal s e) (off : Fin s.rank → ℕ) (inb : ∀ a, off a + s.size a ≤ s.size a) :
    View.ld (x : s.Idx → Elt Ideal e) (Rect.unit off s.size inb) = x := by
  funext y
  refine View.ld_unit_apply_of _ _ _ inb y y fun a => ?_
  have := inb a
  omega

/-- Rows put into a matrix. -/
def putRows (o : ℕ) (g x : Mat) : Mat := fun s d => if o ≤ s ∧ s < o + 512 then g (s - o) d else x s d

/-- A buffer of 4096 rows after a store of 512 of them. -/
theorem read_put {sig : RefSig} {κ : Kind} {sp : Space} (v : View sig κ sp S4096x128 .f32) (f : v.ty.Contents (Elt Ideal))
    (off : Fin 2 → ℕ) (o : ℕ) (h : off = ![o, 0]) (inb : ∀ a, off a + S512x128.size a ≤ S4096x128.size a)
    (g x : Mat) (L : List (View.Piece (Elt Ideal) S4096x128 .f32)) (hL : v.read (Elt Ideal) (v.writes (Elt Ideal) f L) = up 4096 128 .f32 x)
    (w : FVec Ideal S512x128 .f32) (hw : w = up 512 128 .f32 g) :
    v.read (Elt Ideal) (v.writes (Elt Ideal) f (⟨Rect.unit (s := S4096x128) off S512x128.size inb, w⟩ :: L)) = up 4096 128 .f32 (putRows o g x) := by
  subst hw
  refine ext2 fun r c => ?_
  refine (View.read_writes_cons_rows v f (d := ![4096, 128]) (W := 512) inb _ L (ix2 r c) h rfl rfl).trans ?_
  rw [hL]
  by_cases hr : o ≤ r.val ∧ r.val < o + 512
  · refine (dif_pos hr).trans ?_
    show _ = ((putRows o g x r.val c.val : ℝ) : EReal)
    rw [putRows, if_pos hr]
    rfl
  · refine (dif_neg hr).trans ?_
    show _ = ((putRows o g x r.val c.val : ℝ) : EReal)
    rw [putRows, if_neg hr]
    rfl

/-! ## Counts and places of the loops -/

theorem trips1 : ∀ n : Fin 8, Scf.trips 0#32 (Scalar.addi 0#32 (Scalar.muli (Scalar.divsi (Scalar.subi (BitVec.ofNat 32 n.val) 0#32) 1#32) 1#32)) 1#32 = n.val := by
  decide +kernel
theorem trips2 : ∀ n : Fin 8, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by decide +kernel
theorem fwd_trips1 (i : grid0.Coords) : (k0_t1_loop i).trips = (i 1).val := trips1 (i 1)
theorem fwd_trips2 (i : grid0.Coords) : (k0_t2_loop i).trips = 0 := trips2 (i 1)
theorem bwd_trips1 (i : grid1.Coords) : (k1_t1_loop i).trips = (i 1).val := trips1 (i 1)
theorem bwd_trips2 (i : grid1.Coords) : (k1_t2_loop i).trips = 0 := trips2 (i 1)

theorem ext_off {f : Fin 2 → ℕ} {a : ℕ} (h : f 0 = a) (h' : f 1 = 0) : f = ![a, 0] :=
  funext (Fin.forall_fin_two.mpr ⟨h, h'⟩)

theorem fwd_off1 (i : grid0.Coords) : k0_off1 i = ![512 * (i 1).val, 0] :=
  ext_off ((by decide +kernel : ∀ n : Fin 8, (Scalar.muli (BitVec.ofNat 32 n.val) 512#32).toNat = 512 * n.val) (i 1)) rfl
theorem bwd_off3 (i : grid1.Coords) : k1_off3 i = ![512 * (i 1).val, 0] :=
  ext_off ((by decide +kernel : ∀ n : Fin 8, (Scalar.muli (BitVec.ofNat 32 n.val) 512#32).toNat = 512 * n.val) (i 1)) rfl

theorem word_back : ∀ n k : Fin 8, k.val < n.val → Scalar.subi (Scalar.subi (BitVec.ofNat 32 n.val) 1#32) (Scf.iv 0#32 1#32 k.val) = BitVec.ofNat 32 (n.val - 1 - k.val) := by
  decide +kernel
theorem word_rows : ∀ n k : Fin 8, k.val < n.val → (Scalar.muli (Scalar.subi (Scalar.subi (BitVec.ofNat 32 n.val) 1#32) (Scf.iv 0#32 1#32 k.val)) 512#32).toNat = 512 * (n.val - 1 - k.val) := by
  decide +kernel
theorem word_rows' : ∀ k : Fin 8, (Scalar.muli (Scf.iv 0#32 1#32 k.val) 512#32).toNat = 512 * k.val := by
  decide +kernel

theorem fwd_off2 (i : grid0.Coords) (k : Fin (k0_t1_loop i).trips) : k0_off2 i k = ![512 * ((i 1).val - 1 - k.val), 0] := by
  have h : k.val < (i 1).val := (fwd_trips1 i) ▸ k.isLt
  have h8 : (i 1).val < 8 := (i 1).isLt
  exact ext_off (word_rows (i 1) ⟨k.val, by omega⟩ h) rfl
theorem bwd_off1 (i : grid1.Coords) (k : Fin (k1_t1_loop i).trips) : k1_off1 i k = ![512 * k.val, 0] := by
  have h : k.val < (i 1).val := (bwd_trips1 i) ▸ k.isLt
  have h8 : (i 1).val < 8 := (i 1).isLt
  exact ext_off (word_rows' ⟨k.val, by omega⟩) rfl

end Cert.Sb
-- ==== Proof.FwdLoop.lean ====
/-
  The forward call at one grid point: its loop runs over the blocks of keys before the queries' own, from the nearest to the
  first, and leaves the output's rows and the lanes' rows.
-/
module

public import proofs.«01_k».proof.Proof.FwdBlock
public import proofs.«01_k».proof.Proof.Loads

@[expose] public section

noncomputable section

namespace Cert.Sb

open Idealize.ShloMosaic
open ValueIdx Idealize.SL.Sem
open KernelIdeal KernelIdeal.Gen

section
variable (c : Dev nD) (i : grid0.Coords) (a2 : Memref sig .tc .vmem S512x128 .bf16) (w2 : a2.IsWhole)
  (a3 : Memref sig .tc .vmem S4096x128 .bf16) (w3 : a3.IsWhole) (a4 : Memref sig .tc .vmem S4096x128 .bf16) (w4 : a4.IsWhole)
  (a5 : Memref sig .tc .vmem S512x128 .f32) (w5 : a5.IsWhole) (a6 : Memref sig .tc .vmem S1x512x128 .f32) (w6 : a6.IsWhole)

/-- What one trip of the loop makes of the carried column, the carried sum and the carried lanes. -/
theorem fwd_trip (𝒱 : Variants) (bd : Option 𝒱.V) (a1 : BitVec 32) (v4 : FVec Ideal S512x128 .bf16) (v11 : FVec Ideal S256x256 .bf16) (v12 : IVec S512x128 32)
    (X3 : BufTy.Contents (Elt Ideal) a3.view.ty) (X4 : BufTy.Contents (Elt Ideal) a4.view.ty) (t : Fin (k0_t1_loop i).trips)
    (acc : FVec Ideal S512x1 .f32 × FVec Ideal S512x128 .f32 × FVec Ideal S512x128 .f32) :
    (trip_k0_t1 𝒱 c bd i a2 w2 a3 w3 a4 w4 a5 w5 a6 w6 a1 v4 v11 v12 X3 X4 t).1 acc
      = (k0_pay15 v4 acc.1 (View.ld (a3.view.read (Elt Ideal) X3) (Rect.unit (s := S4096x128) (k0_off2 i t) S512x128.size (k0_off2_inb i t))),
        k0_pay5 acc.2.1 (k0_pay16 v4 v11 acc.1 (View.ld (a3.view.read (Elt Ideal) X3) (Rect.unit (s := S4096x128) (k0_off2 i t) S512x128.size (k0_off2_inb i t)))
          (View.ld (a4.view.read (Elt Ideal) X4) (Rect.unit (s := S4096x128) (k0_off2 i t) S512x128.size (k0_off2_inb i t)))),
        k0_pay8 i a1 v12 0#32 1#32 t acc.1 acc.2.2) := by
  unfold trip_k0_t1
  rfl

variable (q k v : Mat) (n : ℕ)

/-- What the loop carries into the trip that meets block `m - 1`. -/
def fwdAt (m : ℕ) : FVec Ideal S512x1 .f32 × FVec Ideal S512x128 .f32 × FVec Ideal S512x128 .f32 :=
  (up 512 1 .f32 (runC q k n m), up 512 128 .f32 (rows (512 * n) (accM q k v m)), up 512 128 .f32 (rows (512 * n) (lanesM q k m)))

theorem fwd_step (𝒱 : Variants) (bd : Option 𝒱.V) (hn : (i 1).val = n) (X3 : BufTy.Contents (Elt Ideal) a3.view.ty) (X4 : BufTy.Contents (Elt Ideal) a4.view.ty)
    (h3 : a3.view.read (Elt Ideal) X3 = up 4096 128 .bf16 k) (h4 : a4.view.read (Elt Ideal) X4 = up 4096 128 .bf16 v) (t : Fin (k0_t1_loop i).trips) :
    (trip_k0_t1 𝒱 c bd i a2 w2 a3 w3 a4 w4 a5 w5 a6 w6 (BitVec.ofNat 32 n) (qU q n) k0_pay27 (iota .tc S512x128 32 [1] iota_S512x128_d1_w32) X3 X4 t).1
        (fwdAt q k v n (n - t.val)) = fwdAt q k v n (n - (t.val + 1)) := by
  have ht : t.val < n := hn ▸ fwd_trips1 i ▸ t.isLt
  have h8 : n < 8 := hn ▸ (i 1).isLt
  obtain ⟨m, hm⟩ : ∃ m, m = n - 1 - t.val := ⟨_, rfl⟩
  have e1 : n - t.val = m + 1 := by omega
  have e2 : n - (t.val + 1) = m := by omega
  have ho : k0_off2 i t = ![512 * m, 0] := by rw [fwd_off2, hn, hm]
  rw [fwd_trip, ld_rows ho k _ h3, ld_rows ho v _ h4, e1, e2]
  refine Prod.ext (pay15_eq q k n m (by omega) h8) (Prod.ext (acc_step q k v n m (by omega) h8) ?_)
  have hw : Scalar.subi (Scalar.subi (BitVec.ofNat 32 n) 1#32) (Scf.iv 0#32 1#32 t.val) = BitVec.ofNat 32 m := by
    rw [hm]
    exact word_back ⟨n, h8⟩ ⟨t.val, by omega⟩ ht
  exact lane_step q k n m _ hw (by omega) _ _ _

theorem fwd_loop (𝒱 : Variants) (bd : Option 𝒱.V) (hn : (i 1).val = n) (X3 : BufTy.Contents (Elt Ideal) a3.view.ty) (X4 : BufTy.Contents (Elt Ideal) a4.view.ty)
    (h3 : a3.view.read (Elt Ideal) X3 = up 4096 128 .bf16 k) (h4 : a4.view.read (Elt Ideal) X4 = up 4096 128 .bf16 v) (j : ℕ) (hj : j ≤ n) :
    st_k0_t1 𝒱 c bd i a2 w2 a3 w3 a4 w4 a5 w5 a6 w6 (BitVec.ofNat 32 n) (qU q n) k0_pay27 (iota .tc S512x128 32 [1] iota_S512x128_d1_w32) X3 X4
        (fwdAt q k v n n) j = fwdAt q k v n (n - j) := by
  induction j with
  | zero => rfl
  | succ j ih =>
    have hlt : j < (k0_t1_loop i).trips := by rw [fwd_trips1, hn]; omega
    refine (st_k0_t1_succ 𝒱 c bd i a2 w2 a3 w3 a4 w4 a5 w5 a6 w6 _ _ _ _ X3 X4 _ ⟨j, hlt⟩).trans ?_
    rw [ih (by omega)]
    exact fwd_step c i a2 w2 a3 w3 a4 w4 a5 w5 a6 w6 q k v n 𝒱 bd hn X3 X4 h3 h4 ⟨j, hlt⟩

/-- What the loop starts from: the diagonal block. -/
theorem fwd_init (hn : (i 1).val = n) (A B C : Vec Ideal S512x128 .bf16) (hA : A = up 512 128 .bf16 (rows (512 * n) q)) (hB : B = up 512 128 .bf16 (rows (512 * n) k))
    (hC : C = up 512 128 .bf16 (rows (512 * n) v)) :
    (k0_pay3 (F := Ideal) k0_pay28 (k0_pay34 A B) (k0_pay35 A B), k0_pay4 k0_pay27 k0_pay28 k0_pay29 (k0_pay32 A B) k0_pay33 (k0_pay34 A B) (k0_pay35 A B) C, k0_pay30 i)
      = fwdAt q k v n n := by
  have h8 : n < 8 := hn ▸ (i 1).isLt
  subst hA hB hC
  exact Prod.ext (pay3_eq q k n h8) (Prod.ext (pay4_eq q k v n h8) (pay30_eq q k n i hn h8))

/-- What the two loops make of the queries' block and the two buffers. -/
def fwdRun (𝒱 : Variants) (bd : Option 𝒱.V) (A : Vec Ideal S512x128 .bf16) (X3 : BufTy.Contents (Elt Ideal) a3.view.ty) (X4 : BufTy.Contents (Elt Ideal) a4.view.ty) :
    FVec Ideal S512x1 .f32 × FVec Ideal S512x128 .f32 × FVec Ideal S512x128 .f32 :=
  let B := View.ld (a3.view.read (Elt Ideal) X3) (Rect.unit (s := S4096x128) (k0_off1 i) S512x128.size (k0_off1_inb i))
  let C := View.ld (a4.view.read (Elt Ideal) X4) (Rect.unit (s := S4096x128) (k0_off1 i) S512x128.size (k0_off1_inb i))
  let r := st_k0_t1 𝒱 c bd i a2 w2 a3 w3 a4 w4 a5 w5 a6 w6 (BitVec.ofNat 32 (i 1).val) (k0_pay26 A) k0_pay27 (iota .tc S512x128 32 [1] iota_S512x128_d1_w32) X3 X4
    (k0_pay3 (F := Ideal) k0_pay28 (k0_pay34 A B) (k0_pay35 A B), k0_pay4 k0_pay27 k0_pay28 k0_pay29 (k0_pay32 A B) k0_pay33 (k0_pay34 A B) (k0_pay35 A B) C, k0_pay30 i)
    (k0_t1_loop i).trips
  st_k0_t2 𝒱 c bd i a2 w2 a3 w3 a4 w4 a5 w5 a6 w6 (BitVec.ofNat 32 (i 1).val) (k0_pay26 A) k0_pay27 (iota .tc S512x128 32 [1] iota_S512x128_d1_w32) (k0_t1_loop i).ub X3 X4
    (r.1, r.2.1, r.2.2) (k0_t2_loop i).trips

theorem fwdRun_eq (𝒱 : Variants) (bd : Option 𝒱.V) (hn : (i 1).val = n) (A : Vec Ideal S512x128 .bf16) (X3 : BufTy.Contents (Elt Ideal) a3.view.ty) (X4 : BufTy.Contents (Elt Ideal) a4.view.ty)
    (hA : A = up 512 128 .bf16 (rows (512 * n) q)) (h3 : a3.view.read (Elt Ideal) X3 = up 4096 128 .bf16 k) (h4 : a4.view.read (Elt Ideal) X4 = up 4096 128 .bf16 v) :
    fwdRun c i a2 w2 a3 w3 a4 w4 a5 w5 a6 w6 𝒱 bd A X3 X4 = fwdAt q k v n 0 := by
  have ho : k0_off1 i = ![512 * n, 0] := by rw [fwd_off1, hn]
  unfold fwdRun
  dsimp only
  rw [fwd_trips2, fwd_init i q k v n hn A _ _ hA (ld_rows ho k _ h3 _) (ld_rows ho v _ h4 _), fwd_trips1, hn, hA, pay26_eq,
    fwd_loop c i a2 w2 a3 w3 a4 w4 a5 w5 a6 w6 q k v n 𝒱 bd hn X3 X4 h3 h4 n le_rfl, Nat.sub_self]
  rfl

/-- The output's block at one grid point. -/
theorem fwd_out (hn : (i 1).val = n) (x0 : Vec Ideal S512x128 .bf16) (x1 x2 : Vec Ideal S4096x128 .bf16)
    (h0 : x0 = up 512 128 .bf16 (rows (512 * n) q)) (h1 : x1 = up 4096 128 .bf16 k) (h2 : x2 = up 4096 128 .bf16 v) :
    out0_A_3 c i a2 w2 a3 w3 a4 w4 a5 w5 a6 w6 x0 x1 x2 = up 512 128 .f32 (rows (512 * n) (outM q k v)) := by
  have e : out0_A_3 c i a2 w2 a3 w3 a4 w4 a5 w5 a6 w6 x0 x1 x2
      = (fwdRun c i a2 w2 a3 w3 a4 w4 a5 w5 a6 w6 Variants.none none
          (View.ld (a2.view.read (Elt Ideal) (w2.unread x0)) (Rect.unit ![0, 0] S512x128.size inb_S512x128_S512x128_0_0)) (w3.unread x1) (w4.unread x2)).2.1 := by
    unfold out0_A_3 kernelRun0_A
    dsimp only
    exact View.read_writes_full _ _ _ _ []
  rw [e, w2.read_unread, ld_all, fwdRun_eq c i a2 w2 a3 w3 a4 w4 a5 w5 a6 w6 q k v n Variants.none none hn x0 _ _ h0
    ((w3.read_unread x1).trans h1) ((w4.read_unread x2).trans h2)]
  show up 512 128 .f32 (rows (512 * n) (accM q k v 0)) = _
  rw [accM_zero]

/-- The lanes' block at one grid point. -/
theorem fwd_lanes (hn : (i 1).val = n) (x0 : Vec Ideal S512x128 .bf16) (x1 x2 : Vec Ideal S4096x128 .bf16)
    (h0 : x0 = up 512 128 .bf16 (rows (512 * n) q)) (h1 : x1 = up 4096 128 .bf16 k) (h2 : x2 = up 4096 128 .bf16 v) :
    out0_A_4 c i a2 w2 a3 w3 a4 w4 a5 w5 a6 w6 x0 x1 x2 = k0_pay7 (up 512 128 .f32 (rows (512 * n) (lanesM q k 0))) := by
  have e : out0_A_4 c i a2 w2 a3 w3 a4 w4 a5 w5 a6 w6 x0 x1 x2
      = k0_pay7 (fwdRun c i a2 w2 a3 w3 a4 w4 a5 w5 a6 w6 Variants.none none
          (View.ld (a2.view.read (Elt Ideal) (w2.unread x0)) (Rect.unit ![0, 0] S512x128.size inb_S512x128_S512x128_0_0)) (w3.unread x1) (w4.unread x2)).2.2 := by
    unfold out0_A_4 kernelRun0_A
    dsimp only
    exact View.read_writes_full _ _ _ _ []
  rw [e, w2.read_unread, ld_all, fwdRun_eq c i a2 w2 a3 w3 a4 w4 a5 w5 a6 w6 q k v n Variants.none none hn x0 _ _ h0
    ((w3.read_unread x1).trans h1) ((w4.read_unread x2).trans h2)]
  rfl

end

end Cert.Sb
-- ==== Proof.FwdArray.lean ====
/-
  The forward call's two arrays after the run: the output, all heads side by side, and the sums over the blocks of keys at and
  after each, head by head.
-/
module

public import proofs.«01_k».proof.Proof.FwdLoop

@[expose] public section

noncomputable section

namespace Cert.Sb

open Idealize.ShloMosaic hiding ix1 ix2 ix3 ix4 eq_ix1 eq_ix2 eq_ix3 eq_ix4
open ValueIdx Idealize.SL.Sem
open KernelIdeal KernelIdeal.Gen

/-- The columns of a head, from the column `o` of the projection on. -/
def head (P : Mat) (o h : ℕ) : Mat := fun t d => P t (o + 128 * h + d)
/-- Heads side by side. -/
def beside (f : ℕ → Mat) : Mat := fun t j => f (j / 128) t (j % 128)

theorem beside_at (f : ℕ → Mat) (h t : ℕ) {j : ℕ} (hj : j < 128) : f h t j = beside f t (128 * h + j) := by
  unfold beside
  rw [Nat.mul_add_div (by decide), Nat.div_eq_of_lt hj, Nat.mul_add_mod, Nat.mod_eq_of_lt hj, Nat.add_zero]
/-- Matrices one over another. -/
def stack (a b n : ℕ) (f : ℕ → Mat) : FVec Ideal ⟨3, ![a, b, n]⟩ .f32 := fun i => ((f (i 0).val (i 1).val (i 2).val : ℝ) : EReal)

/-- The queries, keys and values of head `h`, columns of the projection. -/
abbrev hq (P : Mat) (h : ℕ) : Mat := head P 1024 h
abbrev hk (P : Mat) (h : ℕ) : Mat := head P 2048 h
abbrev hv (P : Mat) (h : ℕ) : Mat := head P 3072 h

theorem at0 : ∀ t : Fin cfg0.N, (grid0.coords t 0).val = t.val / 8 ∧ (grid0.coords t 1).val = t.val % 8 := by decide +kernel

theorem idx0_0 : ∀ t : Fin cfg0.N, win0_0.index t = ![t.val % 8, 8 + t.val / 8] := by decide +kernel
theorem idx0_1 : ∀ t : Fin cfg0.N, win0_1.index t = ![0, 16 + t.val / 8] := by decide +kernel
theorem idx0_2 : ∀ t : Fin cfg0.N, win0_2.index t = ![0, 24 + t.val / 8] := by decide +kernel
theorem idx0_3 : ∀ t : Fin cfg0.N, win0_3.index t = ![t.val % 8, t.val / 8] := by decide +kernel
theorem idx0_4 : ∀ t : Fin cfg0.N, win0_4.index t = ![t.val / 8, t.val % 8, 0] := by decide +kernel

section
variable (V : (c : Dev nD) → (b : Ref sig .tc) → Buf (Elt Ideal) (c.tc.loc b)) (c : Dev nD) (P : Mat)
  (hP : V c main_arg0 = up 4096 8320 .bf16 P) (t : Fin cfg0.N)
include hP

theorem fblk_0 : iblk0 V c 0 t = up 512 128 .bf16 (rows (512 * (t.val % 8)) (hq P (t.val / 8))) := by
  refine ext2 fun r d => ?_
  blk_simp [iblk0, hP]
  rw [up_apply]
  unfold up rows hq head
  congr 2 <;> blk_simp [idx0_0] <;> simp <;> ring

theorem fblk_1 : iblk0 V c 1 t = up 4096 128 .bf16 (hk P (t.val / 8)) := by
  refine ext2 fun r d => ?_
  blk_simp [iblk0, hP]
  rw [up_apply]
  unfold up hk head
  congr 2 <;> blk_simp [idx0_1] <;> simp <;> ring

theorem fblk_2 : iblk0 V c 2 t = up 4096 128 .bf16 (hv P (t.val / 8)) := by
  refine ext2 fun r d => ?_
  blk_simp [iblk0, hP]
  rw [up_apply]
  unfold up hv head
  congr 2 <;> blk_simp [idx0_2] <;> simp <;> ring

/-- What the call leaves at a grid point. -/
theorem fwd_at : outsAt0 V c t
    = (up 512 128 .f32 (rows (512 * (t.val % 8)) (outM (hq P (t.val / 8)) (hk P (t.val / 8)) (hv P (t.val / 8)))),
       k0_pay7 (up 512 128 .f32 (rows (512 * (t.val % 8)) (lanesM (hq P (t.val / 8)) (hk P (t.val / 8)) 0)))) := by
  have hn : (grid0.coords t 1).val = t.val % 8 := (at0 t).2
  unfold outsAt0
  exact congrArg₂ Prod.mk
    (fwd_out c (grid0.coords t) _ _ _ _ _ _ _ _ _ _ (hq P (t.val / 8)) (hk P (t.val / 8)) (hv P (t.val / 8)) (t.val % 8) hn _ _ _
      (fblk_0 V c P hP t) (fblk_1 V c P hP t) (fblk_2 V c P hP t))
    (fwd_lanes c (grid0.coords t) _ _ _ _ _ _ _ _ _ _ (hq P (t.val / 8)) (hk P (t.val / 8)) (hv P (t.val / 8)) (t.val % 8) hn _ _ _
      (fblk_0 V c P hP t) (fblk_1 V c P hP t) (fblk_2 V c P hP t))

/-- The output: head by head, stick-breaking attention. -/
theorem fwd_array : (dat0 V c).arrAt 3 cfg0.N = up 4096 1024 .f32 (beside fun h => outM (hq P h) (hk P h) (hv P h)) := by
  refine (dat0 V c).arrAt_eq_of_covers 3 _ (by decide +kernel) fun t hf y => ?_
  blk_simp
  rw [after0_3]
  rw [fwd_at V c P hP t]
  dsimp only
  obtain ⟨r, d, rfl⟩ := exists_ix2 y
  rw [up_apply]
  unfold up rows
  congr 1
  blk_simp [idx0_3]
  refine (beside_at (fun h => outM (hq P h) (hk P h) (hv P h)) (t.val / 8) _ d.isLt).trans ?_
  congr 1 <;> simp <;> ring

/-- The sums over the blocks of keys, head by head. -/
theorem lanes_array : (dat0 V c).arrAt 4 cfg0.N = stack 8 4096 128 fun h => lanesM (hq P h) (hk P h) 0 := by
  refine (dat0 V c).arrAt_eq_of_covers 4 _ (by decide +kernel) fun t hf y => ?_
  blk_simp
  rw [after0_4]
  rw [fwd_at V c P hP t]
  obtain ⟨z, r, l, rfl⟩ : ∃ z r l, y = ix3 z r l := ⟨_, _, _, eq_ix3 y⟩
  obtain rfl : z = 0 := Subsingleton.elim _ _
  unfold k0_pay7
  dsimp only
  refine (shapeCast_ab_1ab_apply _ _ _ r l).trans ?_
  rw [up_apply]
  unfold stack rows
  congr 1
  blk_simp [idx0_4]
  congr 1 <;> simp
  ring

end

end Cert.Sb
-- ==== Proof.BwdBlock.lean ====
/-
  The backward call's block: what its values hold when the queries of block `n` meet the keys of block `m`, what the carried
  column and the gradient of the queries become, and what is added to the rows of the gradients of the keys and the values.
-/
module

public import proofs.«01_k».proof.Proof.FwdBlock

@[expose] public section

noncomputable section

namespace Cert.Sb

open Idealize.ShloMosaic hiding ix1 ix2 ix3 ix4 eq_ix1 eq_ix2 eq_ix3 eq_ix4
open ValueIdx
open KernelIdeal KernelIdeal.Gen

section
variable (q k v dy : Mat) (n m : ℕ)

/-- What the forward call saves: in lane `l` the sums over the blocks after `l`. -/
def runsM : Mat := fun t l => runM q k t (l + 1)

/-- What the queries of block `n` add to a gradient of the keys in the rows of block `m`. -/
def dkC : Mat := fun j d => ∑ i ∈ Finset.range 512, dzC q k v dy n m i j * rows (512 * n) (qs q) i d
/-- What the queries of block `n` add to a gradient of the values in the rows of block `m`. -/
def dvC : Mat := fun j d => ∑ i ∈ Finset.range 512, attC q k n m i j * rows (512 * n) dy i d

theorem lane_run (w : BitVec 32) (hw : w = BitVec.ofNat 32 m) (hm : m < 128) :
    laneOp (up 512 128 .f32 (rows (512 * n) (runsM q k))) w = up 512 1 .f32 (runC q k n (m + 1)) := by
  subst hw
  exact lane_ops _ m hm

theorem dl_sum : matmul dot_S512x128_S512x128_S512x512_1_1_0_0_n_n none (kU dy n) (kU v m) (constant S512x512 .f32 0x00000000#32)
    = up 512 512 .f32 fun i j => ∑ d ∈ Finset.range 128, dy (512 * n + i) d * v (512 * m + j) d := by
  rw [up_zero, mm_qk]
  exact up_congr fun i _ j _ => zero_add _

/-- The gradient of the weights' logarithms, over the block. -/
theorem dl_mul : mulf (up 512 512 .f32 (attC q k n m)) (matmul dot_S512x128_S512x128_S512x512_1_1_0_0_n_n none (kU dy n) (kU v m) (constant S512x512 .f32 0x00000000#32))
    = up 512 512 .f32 (dlC q k v dy n m) := by
  rw [dl_sum, up_mul]
  rfl

/-! ## A block before the diagonal -/

theorem bpay2_eq : k1_pay2 (qU q n) (kU k m) = up 512 512 .f32 fun i j => lb (zM q k (512 * n + i) (512 * m + j)) := pay10_eq q k n m

theorem bpay3_eq (h : m < n) (hn : n < 8) (i : grid1.Coords) (t : Fin (k1_t1_loop i).trips) (ht : t.val = m) :
    k1_pay3 i (qU q n) (up 512 128 .f32 (rows (512 * n) (runsM q k))) (iota .tc S512x128 32 [1] iota_S512x128_d1_w32) (k1_pay13) 0#32 1#32 t (kU k m)
      = up 512 512 .f32 (attC q k n m) := by
  show exp (addf (k0_pay10 _ _) (tailOp (k0_pay11 _ _) (laneOp _ (Scf.iv 0#32 1#32 t)))) = _
  rw [lane_run q k n m _ (by rw [ht]; show 0#32 + BitVec.ofNat 32 m * 1#32 = _; rw [BitVec.mul_one, BitVec.zero_add]) (by omega),
    pay11_eq q k n m h, pay10_eq, tail_ops, up_add, up_exp]
  exact up_congr fun i _ j hj => att_off q k h hn hj

theorem bpay4_eq (h : m < n) (hn : n < 8) (i : grid1.Coords) (t : Fin (k1_t1_loop i).trips) (ht : t.val = m) :
    k1_pay4 i (qU q n) (kU dy n) (up 512 128 .f32 (rows (512 * n) (runsM q k))) (iota .tc S512x128 32 [1] iota_S512x128_d1_w32) (k1_pay13) 0#32 1#32 t (kU k m) (kU v m)
      = up 512 512 .f32 (dlC q k v dy n m) := by
  unfold k1_pay4
  dsimp only
  rw [bpay3_eq q k n m h hn i t ht]
  exact dl_mul q k v dy n m

/-- The carried column after the block. -/
theorem bpay20_eq : k1_pay20 (up 512 1 .f32 (prefC q k v dy n m)) (up 512 512 .f32 (dlC q k v dy n m)) = up 512 1 .f32 (prefC q k v dy n (m + 1)) := by
  unfold k1_pay20 k1_pay18 k1_pay19 k1_pay17
  dsimp only
  exact (sum_ops' _ _ _ _ _ _ _ _).trans (up_congr fun i _ j _ => pref_block q k v dy n m i j)

/-- The gradient of the scores, over the block. -/
theorem bpay21_eq (h : m < n) :
    k1_pay21 (up 512 1 .f32 (prefC q k v dy n m)) (up 512 512 .f32 fun i j => lb (zM q k (512 * n + i) (512 * m + j))) (up 512 512 .f32 (dlC q k v dy n m))
      = up 512 512 .bf16 (dzC q k v dy n m) := by
  show truncf .bf16 (subf (mulf _ (subf (broadcast S512x512 (Scalar.ofBits .f32 0x3F800000#32)) (exp _))) (mulf (exp _) (leftOp _ _))) bitsLt_bf16_f32 = _
  rw [left_ops, up_exp, up_bone, up_sub, up_mul, up_mul, up_sub, up_truncf]
  exact up_congr fun i _ j hj => dz_off q k v dy h hj

/-- The rows of the keys' gradient after the block. -/
theorem bpay22_eq (h : m < n) (g : Mat) :
    k1_pay22 (kU q n) (up 512 1 .f32 (prefC q k v dy n m)) (up 512 512 .f32 fun i j => lb (zM q k (512 * n + i) (512 * m + j))) (up 512 512 .f32 (dlC q k v dy n m)) (up 512 128 .f32 g)
      = up 512 128 .f32 fun j d => g j d + dkC q k v dy n m j d := by
  unfold k1_pay22
  dsimp only
  rw [bpay21_eq q k v dy n m h, up_cast, show k1_pay11 (kU q n) = qU q n from pay26_eq q n, up_zero, mm_tn, up_add]
  exact up_congr fun i _ j _ => by rw [zero_add]; rfl

theorem dv_ops (g : Mat) (x : Mat) (hx : ∀ i < 512, ∀ j < 512, x i j = attC q k n m i j) :
    addf (shapeCast S512x128 (up 512 128 .f32 g) shapeCasts_S512x128_S512x128)
        (matmul dot_S512x512_S512x128_S512x128_0_0_1_1_n_n none (truncf .bf16 (up 512 512 .f32 x) bitsLt_bf16_f32) (kU dy n) (constant S512x128 .f32 0x00000000#32))
      = up 512 128 .f32 fun j d => g j d + dvC q k dy n m j d := by
  rw [up_congr hx, up_truncf, up_cast, up_zero, mm_tn, up_add]
  exact up_congr fun i _ j _ => by rw [zero_add]; rfl

/-- The rows of the values' gradient after the block. -/
theorem bpay23_eq (g : Mat) : k1_pay23 (kU dy n) (up 512 512 .f32 (attC q k n m)) (up 512 128 .f32 g)
      = up 512 128 .f32 fun j d => g j d + dvC q k dy n m j d := dv_ops q k dy n m g _ fun _ _ _ _ => rfl

/-- The gradient of the queries after the block. -/
theorem bpay24_eq (h : m < n) :
    k1_pay24 (up 512 1 .f32 (prefC q k v dy n m)) (up 512 128 .f32 (rows (512 * n) (dqM q k v dy m))) (kU k m)
        (up 512 512 .f32 fun i j => lb (zM q k (512 * n + i) (512 * m + j))) (up 512 512 .f32 (dlC q k v dy n m))
      = up 512 128 .f32 (rows (512 * n) (dqM q k v dy (m + 1))) := by
  unfold k1_pay24
  dsimp only
  rw [bpay21_eq q k v dy n m h, up_zero, mm_av, up_add]
  refine up_congr fun i _ d _ => ?_
  rw [zero_add]
  exact (dqM_grow q k v dy _ m d).symm

/-! ## The diagonal block -/

theorem bpay34_eq : k1_pay34 (qU q n) (kU k n) = up 512 512 .f32 fun i j => lb (zM q k (512 * n + i) (512 * n + j)) := pay10_eq q k n n

theorem bpay36_eq (hn : n < 8) :
    k1_pay36 (BitVec.ofNat 32 n) (qU q n) (up 512 128 .f32 (rows (512 * n) (runsM q k))) (iota .tc S512x128 32 [1] iota_S512x128_d1_w32) (k1_pay13) (kU k n)
      = up 512 512 .f32 (attC q k n n) := by
  show select k0_pay33 (exp (addf (k0_pay10 _ _) (tailOp (select k0_pay33 (subf (k0_pay10 _ _) (k0_pay9 _ _)) (broadcast S512x512 (Scalar.ofBits .f32 0x00000000#32)))
    (laneOp _ (BitVec.ofNat 32 n))))) (broadcast S512x512 (Scalar.ofBits .f32 0x00000000#32)) = _
  rw [lane_run q k n n _ rfl (by omega), pay10_eq, pay9_eq, up_sub, up_bzero, mask_select, up_congr (fun i _ j _ => lom_diag q k n i j), tail_ops, up_add, up_exp, mask_select]
  exact up_congr fun i _ j hj => att_diag q k hn hj

/-- The gradient of the scores, over the diagonal block. -/
theorem bpay37_eq :
    k1_pay37 (kU dy n) (k1_pay14) (up 512 1 .f32 (prefC q k v dy n n)) (kU v n) (up 512 512 .f32 fun i j => lb (zM q k (512 * n + i) (512 * n + j))) k1_pay35
        (up 512 512 .f32 (attC q k n n)) (constant S512x512 .f32 0x00000000#32)
      = up 512 512 .bf16 (dzC q k v dy n n) := by
  show truncf .bf16 (select k0_pay33 (subf (mulf (mulf _ (matmul dot_S512x128_S512x128_S512x512_1_1_0_0_n_n none _ _ _))
      (subf (broadcast S512x512 (Scalar.ofBits .f32 0x3F800000#32)) (exp _)))
    (mulf (exp _) (leftOp (mulf _ (matmul dot_S512x128_S512x128_S512x512_1_1_0_0_n_n none _ _ _)) _))) (broadcast S512x512 (Scalar.ofBits .f32 0x00000000#32))) bitsLt_bf16_f32 = _
  rw [dl_mul, left_ops, up_exp, up_bone, up_sub, up_mul, up_mul, up_sub, up_bzero, mask_select, up_truncf]
  exact up_congr fun i _ j hj => dz_diag q k v dy n i j

theorem bpay38_eq (g : Mat) :
    k1_pay38 (qU q n) (kU dy n) (k1_pay14) (up 512 1 .f32 (prefC q k v dy n n)) (kU v n) (up 512 512 .f32 fun i j => lb (zM q k (512 * n + i) (512 * n + j))) k1_pay35
        (up 512 512 .f32 (attC q k n n)) (constant S512x512 .f32 0x00000000#32) (up 512 128 .f32 g)
      = up 512 128 .f32 fun j d => g j d + dkC q k v dy n n j d := by
  unfold k1_pay38
  dsimp only
  rw [bpay37_eq q k v dy n, up_cast, up_zero, mm_tn, up_add]
  exact up_congr fun i _ j _ => by rw [zero_add]; rfl

theorem bpay39_eq (g : Mat) : k1_pay39 (kU dy n) (up 512 512 .f32 (attC q k n n)) (up 512 128 .f32 g)
      = up 512 128 .f32 fun j d => g j d + dvC q k dy n n j d := dv_ops q k dy n n g _ fun _ _ _ _ => rfl

/-- The gradient of the queries, after the diagonal block and the scale. -/
def dqF : Mat := fun t d => (∑ s ∈ Finset.range 4096, dzM q k v dy t s * k s d) * scale

theorem bpay40_eq (hn : n < 8) :
    k1_pay40 (kU dy n) (k1_pay14) (up 512 1 .f32 (prefC q k v dy n n)) (up 512 128 .f32 (rows (512 * n) (dqM q k v dy n))) (kU k n) (kU v n)
        (up 512 512 .f32 fun i j => lb (zM q k (512 * n + i) (512 * n + j))) k1_pay35 (up 512 512 .f32 (attC q k n n)) (constant S512x512 .f32 0x00000000#32)
      = up 512 128 .f32 (rows (512 * n) (dqF q k v dy)) := by
  unfold k1_pay40
  dsimp only
  rw [bpay37_eq q k v dy n, up_zero, mm_av, up_add, up_bscale, up_mul]
  refine up_congr fun i hi d _ => ?_
  rw [zero_add]
  show (dqM q k v dy n (512 * n + i) d + ∑ j ∈ Finset.range 512, dzM q k v dy (512 * n + i) (512 * n + j) * k (512 * n + j) d) * scale = _
  rw [← dqM_grow, dqM_full q k v dy (by omega) (by omega)]
  rfl

/-- Nothing is carried into the first block. -/
theorem bpay15_eq : k1_pay15 = up 512 1 .f32 (prefC q k v dy n 0) := by
  unfold k1_pay15
  dsimp only
  rw [up_bzero]
  exact up_congr fun i _ j _ => by simp [prefC, prefM]
theorem bpay16_eq : k1_pay16 = up 512 128 .f32 (rows (512 * n) (dqM q k v dy 0)) := by
  unfold k1_pay16
  dsimp only
  rw [up_bzero]
  exact up_congr fun i _ j _ => by simp [rows, dqM]

/-- The saved lanes' block, read as a matrix. -/
theorem bpay12_eq (x : Vec Ideal S1x512x128 .f32) (g : Mat) (h : ∀ (r : Fin 512) (l : Fin 128), x (ix3 (0 : Fin 1) r l) = ((g r.val l.val : ℝ) : EReal)) :
    k1_pay12 x = up 512 128 .f32 g := by
  unfold k1_pay12
  dsimp only
  exact ext2 fun r l => (shapeCast_1ab_ab_apply _ _ r l).trans (h r l)

end

end Cert.Sb
-- ==== Proof.BwdLoop.lean ====
/-
  The backward call's loop at one grid point: it runs over the blocks of keys before the queries' own, carries the sums to the
  left and the gradient of the queries, and adds to the rows of the gradients of the keys and the values.
-/
module

public import proofs.«01_k».proof.Proof.BwdBlock
public import proofs.«01_k».proof.Proof.Loads

@[expose] public section

noncomputable section

namespace Cert.Sb

open Idealize.ShloMosaic
open ValueIdx Idealize.SL.Sem
open KernelIdeal KernelIdeal.Gen

section Rows
variable (q k v dy : Mat) (n m : ℕ)

/-- The gradient of the keys when the queries of block `n` have met the blocks of keys before `m`. -/
def dkAt : Mat := fun s d => if s < 512 * m then dkM q k v dy (n + 1) s d else dkM q k v dy n s d
def dvAt : Mat := fun s d => if s < 512 * m then dvM q k dy (n + 1) s d else dvM q k dy n s d

theorem dkAt_zero : dkAt q k v dy n 0 = dkM q k v dy n := funext fun s => funext fun d => if_neg (by omega)
theorem dvAt_zero : dvAt q k dy n 0 = dvM q k dy n := funext fun s => funext fun d => if_neg (by omega)

theorem dkAt_last : dkAt q k v dy n (n + 1) = dkM q k v dy (n + 1) := by
  refine funext fun s => funext fun d => ?_
  unfold dkAt
  split_ifs with h
  · rfl
  · rw [dkM_grow, Finset.sum_eq_zero fun i hi => ?_, add_zero]
    rw [dzM_none q k v dy (by have := Finset.mem_range.mp hi; omega), zero_mul]
theorem dvAt_last : dvAt q k dy n (n + 1) = dvM q k dy (n + 1) := by
  refine funext fun s => funext fun d => ?_
  unfold dvAt
  split_ifs with h
  · rfl
  · rw [dvM_grow, Finset.sum_eq_zero fun i hi => ?_, add_zero]
    rw [attM_none q k (by have := Finset.mem_range.mp hi; omega), zero_mul]

theorem dkAt_put : putRows (512 * m) (fun j d => rows (512 * m) (dkAt q k v dy n m) j d + dkC q k v dy n m j d) (dkAt q k v dy n m) = dkAt q k v dy n (m + 1) := by
  refine funext fun s => funext fun d => ?_
  unfold putRows
  split_ifs with h
  · have hs : 512 * m + (s - 512 * m) = s := by omega
    show rows (512 * m) (dkAt q k v dy n m) (s - 512 * m) d + dkC q k v dy n m (s - 512 * m) d = _
    unfold rows dkAt dkC dzC rows qs
    rw [hs, if_neg (by omega), if_pos (by omega), dkM_grow]
  · unfold dkAt
    by_cases h' : s < 512 * m
    · rw [if_pos h', if_pos (by omega)]
    · rw [if_neg h', if_neg (by omega)]
theorem dvAt_put : putRows (512 * m) (fun j d => rows (512 * m) (dvAt q k dy n m) j d + dvC q k dy n m j d) (dvAt q k dy n m) = dvAt q k dy n (m + 1) := by
  refine funext fun s => funext fun d => ?_
  unfold putRows
  split_ifs with h
  · have hs : 512 * m + (s - 512 * m) = s := by omega
    show rows (512 * m) (dvAt q k dy n m) (s - 512 * m) d + dvC q k dy n m (s - 512 * m) d = _
    unfold rows dvAt dvC attC rows
    rw [hs, if_neg (by omega), if_pos (by omega), dvM_grow]
  · unfold dvAt
    by_cases h' : s < 512 * m
    · rw [if_pos h', if_pos (by omega)]
    · rw [if_neg h', if_neg (by omega)]

end Rows

section
variable (c : Dev nD) (i : grid1.Coords) (a2 : Memref sig .tc .vmem S512x128 .bf16) (w2 : a2.IsWhole)
  (a3 : Memref sig .tc .vmem S4096x128 .bf16) (w3 : a3.IsWhole) (a4 : Memref sig .tc .vmem S4096x128 .bf16) (w4 : a4.IsWhole)
  (a5 : Memref sig .tc .vmem S512x128 .bf16) (w5 : a5.IsWhole) (a6 : Memref sig .tc .vmem S1x512x128 .f32) (w6 : a6.IsWhole)
  (a7 : Memref sig .tc .vmem S512x128 .f32) (w7 : a7.IsWhole) (a8 : Memref sig .tc .vmem S4096x128 .f32) (w8 : a8.IsWhole)
  (a9 : Memref sig .tc .vmem S4096x128 .f32) (w9 : a9.IsWhole)

section Trip
variable (𝒱 : Variants) (bd : Option 𝒱.V) (v3 v8 : Vec Ideal S512x128 .bf16) (v9 : Vec Ideal S1x512x128 .f32) (v11 : IVec S512x128 32)
  (X3 : BufTy.Contents (Elt Ideal) a3.view.ty) (X4 : BufTy.Contents (Elt Ideal) a4.view.ty) (t : Fin (k1_t1_loop i).trips)
  (acc : FVec Ideal S512x1 .f32 × FVec Ideal S512x128 .f32) (f8 : BufTy.Contents (Elt Ideal) a8.view.ty) (f9 : BufTy.Contents (Elt Ideal) a9.view.ty)

/-- The block of keys, or of values, that a trip loads. -/
abbrev kT : Vec Ideal S512x128 .bf16 := View.ld (a3.view.read (Elt Ideal) X3) (Rect.unit (s := S4096x128) (k1_off1 i t) S512x128.size (k1_off1_inb i t))
/-- The rows of a gradient that a trip adds to. -/
abbrev gT (f : BufTy.Contents (Elt Ideal) a8.view.ty) : Vec Ideal S512x128 .f32 := View.ld (a8.view.read (Elt Ideal) f) (Rect.unit (s := S4096x128) (k1_off1 i t) S512x128.size (k1_off1_inb i t))

theorem bwd_trip_acc :
    (trip_k1_t1 𝒱 c bd i a2 w2 a3 w3 a4 w4 a5 w5 a6 w6 a7 w7 a8 w8 a9 w9 v3 v8 v9 v11 X3 X4 t).1 acc f8 f9
      = (k1_pay20 acc.1 (k1_pay4 i (k1_pay11 v3) v8 (k1_pay12 v9) v11 k1_pay13 0#32 1#32 t (kT i a3 X3 t) (kT i a4 X4 t)),
        k1_pay24 acc.1 acc.2 (kT i a3 X3 t) (k1_pay2 (k1_pay11 v3) (kT i a3 X3 t))
          (k1_pay4 i (k1_pay11 v3) v8 (k1_pay12 v9) v11 k1_pay13 0#32 1#32 t (kT i a3 X3 t) (kT i a4 X4 t))) := by
  unfold trip_k1_t1
  rfl

theorem bwd_trip_dk :
    (trip_k1_t1 𝒱 c bd i a2 w2 a3 w3 a4 w4 a5 w5 a6 w6 a7 w7 a8 w8 a9 w9 v3 v8 v9 v11 X3 X4 t).2.1 acc f8 f9
      = [⟨Rect.unit (s := S4096x128) (k1_off1 i t) S512x128.size (k1_off1_inb i t), k1_pay22 v3 acc.1 (k1_pay2 (k1_pay11 v3) (kT i a3 X3 t))
          (k1_pay4 i (k1_pay11 v3) v8 (k1_pay12 v9) v11 k1_pay13 0#32 1#32 t (kT i a3 X3 t) (kT i a4 X4 t)) (gT i a8 t f8)⟩] := by
  unfold trip_k1_t1
  rfl

theorem bwd_trip_dv :
    (trip_k1_t1 𝒱 c bd i a2 w2 a3 w3 a4 w4 a5 w5 a6 w6 a7 w7 a8 w8 a9 w9 v3 v8 v9 v11 X3 X4 t).2.2.1 acc f8 f9
      = [⟨Rect.unit (s := S4096x128) (k1_off1 i t) S512x128.size (k1_off1_inb i t),
          k1_pay23 v8 (k1_pay3 i (k1_pay11 v3) (k1_pay12 v9) v11 k1_pay13 0#32 1#32 t (kT i a3 X3 t)) (gT i a9 t f9)⟩] := by
  unfold trip_k1_t1
  rfl

end Trip

variable (q k v dy : Mat) (n : ℕ)

/-- What the loop carries, and what the two gradients' buffers hold, before the trip that meets block `m`. -/
structure BwdAt (G8 : BufTy.Contents (Elt Ideal) a8.view.ty) (G9 : BufTy.Contents (Elt Ideal) a9.view.ty) (m : ℕ)
    (st : (FVec Ideal S512x1 .f32 × FVec Ideal S512x128 .f32) × List (View.Piece (Elt Ideal) S4096x128 .f32) × List (View.Piece (Elt Ideal) S4096x128 .f32)) : Prop where
  left : st.1.1 = up 512 1 .f32 (prefC q k v dy n m)
  dq : st.1.2 = up 512 128 .f32 (rows (512 * n) (dqM q k v dy m))
  dk : a8.view.read (Elt Ideal) (a8.view.writes (Elt Ideal) G8 st.2.1) = up 4096 128 .f32 (dkAt q k v dy n m)
  dv : a9.view.read (Elt Ideal) (a9.view.writes (Elt Ideal) G9 st.2.2) = up 4096 128 .f32 (dvAt q k dy n m)

variable (𝒱 : Variants) (bd : Option 𝒱.V) (hn : (i 1).val = n) (X3 : BufTy.Contents (Elt Ideal) a3.view.ty) (X4 : BufTy.Contents (Elt Ideal) a4.view.ty)
  (h3 : a3.view.read (Elt Ideal) X3 = up 4096 128 .bf16 k) (h4 : a4.view.read (Elt Ideal) X4 = up 4096 128 .bf16 v)
  (A D : Vec Ideal S512x128 .bf16) (R : Vec Ideal S1x512x128 .f32) (hA : A = up 512 128 .bf16 (rows (512 * n) q)) (hD : D = up 512 128 .bf16 (rows (512 * n) dy))
  (hR : k1_pay12 R = up 512 128 .f32 (rows (512 * n) (runsM q k)))
  (G8 : BufTy.Contents (Elt Ideal) a8.view.ty) (G9 : BufTy.Contents (Elt Ideal) a9.view.ty)

include hn h3 h4 hA hD hR in
theorem bwd_loop (hG8 : a8.view.read (Elt Ideal) G8 = up 4096 128 .f32 (dkM q k v dy n)) (hG9 : a9.view.read (Elt Ideal) G9 = up 4096 128 .f32 (dvM q k dy n)) (m : ℕ) (hm : m ≤ n) :
    BwdAt a8 a9 q k v dy n G8 G9 m
      (st_k1_t1 𝒱 c bd i a2 w2 a3 w3 a4 w4 a5 w5 a6 w6 a7 w7 a8 w8 a9 w9 A D R (iota .tc S512x128 32 [1] iota_S512x128_d1_w32) X3 X4 G8 G9
        (k1_pay15, k1_pay16) m) := by
  induction m with
  | zero => exact ⟨bpay15_eq q k v dy n, bpay16_eq q k v dy n, by rw [dkAt_zero]; exact hG8, by rw [dvAt_zero]; exact hG9⟩
  | succ m ih =>
    have h8 : n < 8 := hn ▸ (i 1).isLt
    have hlt : m < (k1_t1_loop i).trips := by rw [bwd_trips1, hn]; omega
    obtain ⟨i1, i2, i3, i4⟩ := ih (by omega)
    rw [show m + 1 = (⟨m, hlt⟩ : Fin (k1_t1_loop i).trips).val + 1 from rfl, st_k1_t1_succ]
    dsimp only
    generalize st_k1_t1 𝒱 c bd i a2 w2 a3 w3 a4 w4 a5 w5 a6 w6 a7 w7 a8 w8 a9 w9 A D R (iota .tc S512x128 32 [1] iota_S512x128_d1_w32) X3 X4 G8 G9
        (k1_pay15, k1_pay16) m = st at i1 i2 i3 i4 ⊢
    have ho : k1_off1 i ⟨m, hlt⟩ = ![512 * m, 0] := bwd_off1 i ⟨m, hlt⟩
    have ek : kT i a3 X3 ⟨m, hlt⟩ = kU k m := ld_rows ho k _ h3 _
    have ev : kT i a4 X4 ⟨m, hlt⟩ = kU v m := ld_rows ho v _ h4 _
    have eq : k1_pay11 (kU q n) = qU q n := pay26_eq q n
    have mn : m < n := by omega
    refine ⟨?_, ?_, ?_, ?_⟩
    · refine (congrArg Prod.fst (bwd_trip_acc ..)).trans ?_
      dsimp only
      rw [hA, hD, hR, ek, ev, eq, i1, bpay4_eq q k v dy n m mn h8 i ⟨m, hlt⟩ rfl]
      exact bpay20_eq q k v dy n m
    · refine (congrArg Prod.snd (bwd_trip_acc ..)).trans ?_
      dsimp only
      rw [hA, hD, hR, ek, ev, eq, i1, i2, bpay4_eq q k v dy n m mn h8 i ⟨m, hlt⟩ rfl, bpay2_eq]
      exact bpay24_eq q k v dy n m mn
    · dsimp only
      rw [bwd_trip_dk, List.singleton_append, ← dkAt_put]
      refine read_put a8.view G8 _ _ ho _ _ _ _ i3 _ ?_
      rw [hA, hD, hR, ek, ev, eq, i1, bpay4_eq q k v dy n m mn h8 i ⟨m, hlt⟩ rfl, bpay2_eq, show gT i a8 ⟨m, hlt⟩ _ = _ from ld_rows' ho _ _ i3 _]
      exact bpay22_eq q k v dy n m mn _
    · dsimp only
      rw [bwd_trip_dv, List.singleton_append, ← dvAt_put]
      refine read_put a9.view G9 _ _ ho _ _ _ _ i4 _ ?_
      rw [hA, hD, hR, ek, eq, bpay3_eq q k n m mn h8 i ⟨m, hlt⟩ rfl, show gT i a9 ⟨m, hlt⟩ _ = _ from ld_rows' ho _ _ i4 _]
      exact bpay23_eq q k dy n m _

end

end Cert.Sb
-- ==== Proof.BwdOut.lean ====
/-
  The backward call at one grid point, after its diagonal block: the rows of the queries' gradient, and the gradients of the
  keys and the values with the query block added. The first point of a head starts both from zero.
-/
module

public import proofs.«01_k».proof.Proof.BwdLoop

@[expose] public section

noncomputable section

namespace Cert.Sb

open Idealize.ShloMosaic
open ValueIdx Idealize.SL.Sem
open KernelIdeal KernelIdeal.Gen

section Pieces
variable (i : grid1.Coords) (A D : Vec Ideal S512x128 .bf16) (R : Vec Ideal S1x512x128 .f32) (K V : Vec Ideal S4096x128 .bf16)
  (p : FVec Ideal S512x1 .f32) (a : FVec Ideal S512x128 .f32)

/-- The diagonal block's rows of a buffer. -/
abbrev dg {e : EltTy} (X : Vec Ideal S4096x128 e) : Vec Ideal S512x128 e := View.ld X (Rect.unit (s := S4096x128) (k1_off3 i) S512x128.size (k1_off3_inb i))
/-- The diagonal block's weights. -/
abbrev dgA : FVec Ideal S512x512 .f32 :=
  k1_pay36 (BitVec.ofNat 32 (i 1).val) (k1_pay11 A) (k1_pay12 R) (iota .tc S512x128 32 [1] iota_S512x128_d1_w32) k1_pay13 (dg i K)

/-- What is stored for the keys, the values and the queries. -/
def dkPay (g : Vec Ideal S512x128 .f32) : FVec Ideal S512x128 .f32 :=
  k1_pay38 (k1_pay11 A) D k1_pay14 p (dg i V) (k1_pay34 (k1_pay11 A) (dg i K)) k1_pay35 (dgA i A R K) (constant S512x512 .f32 0x00000000#32) g
def dvPay (g : Vec Ideal S512x128 .f32) : FVec Ideal S512x128 .f32 := k1_pay39 D (dgA i A R K) g
def dqPay : FVec Ideal S512x128 .f32 :=
  k1_pay40 D k1_pay14 p a (dg i K) (dg i V) (k1_pay34 (k1_pay11 A) (dg i K)) k1_pay35 (dgA i A R K) (constant S512x512 .f32 0x00000000#32)

abbrev put8 (w : FVec Ideal S512x128 .f32) : View.Piece (Elt Ideal) S4096x128 .f32 := ⟨Rect.unit (s := S4096x128) (k1_off3 i) S512x128.size (k1_off3_inb i), w⟩

variable (q k v dy : Mat) (n : ℕ) (hn : (i 1).val = n) (hA : A = up 512 128 .bf16 (rows (512 * n) q)) (hD : D = up 512 128 .bf16 (rows (512 * n) dy))
  (hR : k1_pay12 R = up 512 128 .f32 (rows (512 * n) (runsM q k))) (hK : K = up 4096 128 .bf16 k) (hV : V = up 4096 128 .bf16 v)
  (hp : p = up 512 1 .f32 (prefC q k v dy n n)) (ha : a = up 512 128 .f32 (rows (512 * n) (dqM q k v dy n)))

include hn hA hR hK in
theorem dgA_eq : dgA i A R K = up 512 512 .f32 (attC q k n n) := by
  have h8 : n < 8 := hn ▸ (i 1).isLt
  have ho : k1_off3 i = ![512 * n, 0] := by rw [bwd_off3, hn]
  unfold dgA
  rw [hA, hR, show dg i K = kU k n from ld_rows ho k K hK _, show k1_pay11 (kU q n) = qU q n from pay26_eq q n, hn]
  exact bpay36_eq q k n h8

include hn hA hD hR hK hV hp in
theorem dkPay_eq (g : Mat) : dkPay i A D R K V p (up 512 128 .f32 g) = up 512 128 .f32 fun j d => g j d + dkC q k v dy n n j d := by
  have ho : k1_off3 i = ![512 * n, 0] := by rw [bwd_off3, hn]
  unfold dkPay
  rw [dgA_eq i A R K q k n hn hA hR hK, hA, hD, hp, show dg i K = kU k n from ld_rows ho k K hK _, show dg i V = kU v n from ld_rows ho v V hV _,
    show k1_pay11 (kU q n) = qU q n from pay26_eq q n, bpay34_eq]
  exact bpay38_eq q k v dy n g

include hn hA hD hR hK in
theorem dvPay_eq (g : Mat) : dvPay i A D R K (up 512 128 .f32 g) = up 512 128 .f32 fun j d => g j d + dvC q k dy n n j d := by
  unfold dvPay
  rw [dgA_eq i A R K q k n hn hA hR hK, hD]
  exact bpay39_eq q k dy n g

include hn hA hD hR hK hV hp ha in
theorem dqPay_eq : dqPay i A D R K V p a = up 512 128 .f32 (rows (512 * n) (dqF q k v dy)) := by
  have h8 : n < 8 := hn ▸ (i 1).isLt
  have ho : k1_off3 i = ![512 * n, 0] := by rw [bwd_off3, hn]
  unfold dqPay
  rw [dgA_eq i A R K q k n hn hA hR hK, hA, hD, hp, ha, show dg i K = kU k n from ld_rows ho k K hK _, show dg i V = kU v n from ld_rows ho v V hV _,
    show k1_pay11 (kU q n) = qU q n from pay26_eq q n, bpay34_eq]
  exact bpay40_eq q k v dy n h8

end Pieces

/-- A grid point: its buffers, and the blocks it finds in the first five. -/
structure Pt where
  c : Dev nD
  i : grid1.Coords
  a2 : Memref sig .tc .vmem S512x128 .bf16
  w2 : a2.IsWhole
  a3 : Memref sig .tc .vmem S4096x128 .bf16
  w3 : a3.IsWhole
  a4 : Memref sig .tc .vmem S4096x128 .bf16
  w4 : a4.IsWhole
  a5 : Memref sig .tc .vmem S512x128 .bf16
  w5 : a5.IsWhole
  a6 : Memref sig .tc .vmem S1x512x128 .f32
  w6 : a6.IsWhole
  a7 : Memref sig .tc .vmem S512x128 .f32
  w7 : a7.IsWhole
  a8 : Memref sig .tc .vmem S4096x128 .f32
  w8 : a8.IsWhole
  a9 : Memref sig .tc .vmem S4096x128 .f32
  w9 : a9.IsWhole
  x0 : Vec Ideal S512x128 .bf16
  x1 : Vec Ideal S4096x128 .bf16
  x2 : Vec Ideal S4096x128 .bf16
  x3 : Vec Ideal S512x128 .bf16
  x4 : Vec Ideal S1x512x128 .f32

namespace Pt
variable (P : Pt)

/-- What the body reads of the five blocks. -/
abbrev A : Vec Ideal S512x128 .bf16 := View.ld (P.a2.view.read (Elt Ideal) (P.w2.unread P.x0)) (Rect.unit ![0, 0] S512x128.size inb_S512x128_S512x128_0_0)
abbrev D : Vec Ideal S512x128 .bf16 := View.ld (P.a5.view.read (Elt Ideal) (P.w5.unread P.x3)) (Rect.unit ![0, 0] S512x128.size inb_S512x128_S512x128_0_0)
abbrev R : Vec Ideal S1x512x128 .f32 := View.ld (P.a6.view.read (Elt Ideal) (P.w6.unread P.x4)) (Rect.unit ![0, 0, 0] S1x512x128.size inb_S1x512x128_S1x512x128_0_0_0)
abbrev K := P.a3.view.read (Elt Ideal) (P.w3.unread P.x1)
abbrev V := P.a4.view.read (Elt Ideal) (P.w4.unread P.x2)

theorem A_eq : P.A = P.x0 := (ld_all _ _ _).trans (P.w2.read_unread _)
theorem D_eq : P.D = P.x3 := (ld_all _ _ _).trans (P.w5.read_unread _)
theorem R_eq : P.R = P.x4 := (ld_all _ _ _).trans (P.w6.read_unread _)

section Loops
variable (G8 : BufTy.Contents (Elt Ideal) P.a8.view.ty) (G9 : BufTy.Contents (Elt Ideal) P.a9.view.ty)
  (H8 : List (View.Piece (Elt Ideal) S4096x128 .f32) → BufTy.Contents (Elt Ideal) P.a8.view.ty)
  (H9 : List (View.Piece (Elt Ideal) S4096x128 .f32) → BufTy.Contents (Elt Ideal) P.a9.view.ty)

/-- The two loops: the one that runs, and the remainder, which makes no trip. -/
def L :=
  st_k1_t1 Variants.none P.c none P.i P.a2 P.w2 P.a3 P.w3 P.a4 P.w4 P.a5 P.w5 P.a6 P.w6 P.a7 P.w7 P.a8 P.w8 P.a9 P.w9 P.A P.D P.R
    (iota .tc S512x128 32 [1] iota_S512x128_d1_w32) (P.w3.unread P.x1) (P.w4.unread P.x2) G8 G9 (k1_pay15, k1_pay16) (k1_t1_loop P.i).trips
def E :=
  st_k1_t2 Variants.none P.c none P.i P.a2 P.w2 P.a3 P.w3 P.a4 P.w4 P.a5 P.w5 P.a6 P.w6 P.a7 P.w7 P.a8 P.w8 P.a9 P.w9 P.A P.D P.R
    (iota .tc S512x128 32 [1] iota_S512x128_d1_w32) (k1_t1_loop P.i).ub (P.w3.unread P.x1) (P.w4.unread P.x2)
    (H8 (P.L G8 G9).2.1) (H9 (P.L G8 G9).2.2) ((P.L G8 G9).1.1, (P.L G8 G9).1.2) (k1_t2_loop P.i).trips

theorem E_eq : P.E G8 G9 H8 H9 = ((P.L G8 G9).1, [], []) := by
  unfold E
  rw [bwd_trips2]
  rfl

end Loops

/-- The three payloads. -/
abbrev dk (p : FVec Ideal S512x1 .f32) (g : Vec Ideal S512x128 .f32) := dkPay P.i P.A P.D P.R P.K P.V p g
abbrev dv (g : Vec Ideal S512x128 .f32) := dvPay P.i P.A P.D P.R P.K g
abbrev dq (s : FVec Ideal S512x1 .f32 × FVec Ideal S512x128 .f32) := dqPay P.i P.A P.D P.R P.K P.V s.1 s.2

abbrev zero8 : List (View.Piece (Elt Ideal) S4096x128 .f32) := [⟨Rect.unit ![0, 0] S4096x128.size inb_S4096x128_S4096x128_0_0, k1_pay9 (F := Ideal)⟩]
abbrev zero9 : List (View.Piece (Elt Ideal) S4096x128 .f32) := [⟨Rect.unit ![0, 0] S4096x128.size inb_S4096x128_S4096x128_0_0, k1_pay10 (F := Ideal)⟩]
abbrev base8 : BufTy.Contents (Elt Ideal) P.a8.view.ty := P.a8.view.writes (Elt Ideal) P.a8.view.junk zero8
abbrev base9 : BufTy.Contents (Elt Ideal) P.a9.view.ty := P.a9.view.writes (Elt Ideal) P.a9.view.junk zero9

section First
variable (hc0 : cond1_0 P.i)

/-- The first point of a head: what it stores, the remainder loop's state, and the stores in words. -/
abbrev firstRun := kernelRun1_A P.c P.i P.a2 P.w2 P.a3 P.w3 P.a4 P.w4 P.a5 P.w5 P.a6 P.w6 P.a7 P.w7 P.a8 P.w8 P.a9 P.w9 hc0 P.x0 P.x1 P.x2 P.x3 P.x4
abbrev firstE := P.E P.base8 P.base9 (fun L => P.a8.view.writes (Elt Ideal) P.a8.view.junk (L ++ zero8)) (fun L => P.a9.view.writes (Elt Ideal) P.a9.view.junk (L ++ zero9))

theorem first_dk : (P.firstRun hc0).2.1
    = let W := P.firstE.2.1 ++ ((P.L P.base8 P.base9).2.1 ++ zero8)
      put8 P.i (P.dk P.firstE.1.1 (dg P.i (P.a8.view.read (Elt Ideal) (P.a8.view.writes (Elt Ideal) P.a8.view.junk W)))) :: W := by
  unfold firstRun kernelRun1_A
  rfl

theorem first_dv : (P.firstRun hc0).2.2.1
    = let W := P.firstE.2.2 ++ ((P.L P.base8 P.base9).2.2 ++ zero9)
      put8 P.i (P.dv (dg P.i (P.a9.view.read (Elt Ideal) (P.a9.view.writes (Elt Ideal) P.a9.view.junk W)))) :: W := by
  unfold firstRun kernelRun1_A
  rfl

end First

section Later
variable (hc0 : ¬ cond1_0 P.i) (xo6 xo7 : Vec Ideal S4096x128 .f32)

/-- A later point: the same. -/
abbrev laterRun := kernelRun1_B P.c P.i P.a2 P.w2 P.a3 P.w3 P.a4 P.w4 P.a5 P.w5 P.a6 P.w6 P.a7 P.w7 P.a8 P.w8 P.a9 P.w9 hc0 P.x0 P.x1 P.x2 P.x3 P.x4 xo6 xo7
abbrev laterE := P.E (P.w8.unread xo6) (P.w9.unread xo7) (P.a8.view.writes (Elt Ideal) (P.w8.unread xo6)) (P.a9.view.writes (Elt Ideal) (P.w9.unread xo7))

theorem later_dk : (P.laterRun hc0 xo6 xo7).2.1
    = let W := (P.laterE xo6 xo7).2.1 ++ (P.L (P.w8.unread xo6) (P.w9.unread xo7)).2.1
      put8 P.i (P.dk (P.laterE xo6 xo7).1.1 (dg P.i (P.a8.view.read (Elt Ideal) (P.a8.view.writes (Elt Ideal) (P.w8.unread xo6) W)))) :: W := by
  unfold laterRun kernelRun1_B
  rfl

theorem later_dv : (P.laterRun hc0 xo6 xo7).2.2.1
    = let W := (P.laterE xo6 xo7).2.2 ++ (P.L (P.w8.unread xo6) (P.w9.unread xo7)).2.2
      put8 P.i (P.dv (dg P.i (P.a9.view.read (Elt Ideal) (P.a9.view.writes (Elt Ideal) (P.w9.unread xo7) W)))) :: W := by
  unfold laterRun kernelRun1_B
  rfl

end Later

/-! ## What a grid point leaves -/

variable (q k v dy : Mat) (n : ℕ)

/-- The blocks are those of query block `n` of the matrices. -/
structure Holds : Prop where
  hn : (P.i 1).val = n
  h0 : P.x0 = up 512 128 .bf16 (rows (512 * n) q)
  h1 : P.x1 = up 4096 128 .bf16 k
  h2 : P.x2 = up 4096 128 .bf16 v
  h3 : P.x3 = up 512 128 .bf16 (rows (512 * n) dy)
  h4 : k1_pay12 P.x4 = up 512 128 .f32 (rows (512 * n) (runsM q k))

variable {P q k v dy n} (h : P.Holds q k v dy n)
include h

section Ends
variable {G8 : BufTy.Contents (Elt Ideal) P.a8.view.ty} {G9 : BufTy.Contents (Elt Ideal) P.a9.view.ty}
  (hG8 : P.a8.view.read (Elt Ideal) G8 = up 4096 128 .f32 (dkM q k v dy n)) (hG9 : P.a9.view.read (Elt Ideal) G9 = up 4096 128 .f32 (dvM q k dy n))
include hG8 hG9

theorem L_at : BwdAt P.a8 P.a9 q k v dy n G8 G9 n (P.L G8 G9) := by
  unfold L
  rw [bwd_trips1, h.hn]
  exact bwd_loop P.c P.i P.a2 P.w2 P.a3 P.w3 P.a4 P.w4 P.a5 P.w5 P.a6 P.w6 P.a7 P.w7 P.a8 P.w8 P.a9 P.w9 q k v dy n Variants.none none h.hn _ _
    ((P.w3.read_unread _).trans h.h1) ((P.w4.read_unread _).trans h.h2) _ _ _ (P.A_eq.trans h.h0) (P.D_eq.trans h.h3)
    ((congrArg k1_pay12 P.R_eq).trans h.h4) G8 G9 hG8 hG9 n le_rfl

theorem end_dq : P.dq (P.L G8 G9).1 = up 512 128 .f32 (rows (512 * n) (dqF q k v dy)) := by
  obtain ⟨i1, i2, -, -⟩ := L_at h hG8 hG9
  exact dqPay_eq P.i _ _ _ _ _ _ _ q k v dy n h.hn (P.A_eq.trans h.h0) (P.D_eq.trans h.h3) ((congrArg k1_pay12 P.R_eq).trans h.h4)
    ((P.w3.read_unread _).trans h.h1) ((P.w4.read_unread _).trans h.h2) i1 i2

theorem end_dk : P.a8.view.read (Elt Ideal) (P.a8.view.writes (Elt Ideal) G8
      (put8 P.i (P.dk (P.L G8 G9).1.1 (dg P.i (P.a8.view.read (Elt Ideal) (P.a8.view.writes (Elt Ideal) G8 (P.L G8 G9).2.1)))) :: (P.L G8 G9).2.1))
    = up 4096 128 .f32 (dkM q k v dy (n + 1)) := by
  obtain ⟨i1, -, i3, -⟩ := L_at h hG8 hG9
  have ho : k1_off3 P.i = ![512 * n, 0] := by rw [bwd_off3, h.hn]
  rw [← dkAt_last, ← dkAt_put]
  refine read_put P.a8.view G8 _ _ ho _ _ _ _ i3 _ ?_
  rw [show dg P.i _ = _ from ld_rows' ho _ _ i3 _]
  exact dkPay_eq P.i _ _ _ _ _ _ q k v dy n h.hn (P.A_eq.trans h.h0) (P.D_eq.trans h.h3) ((congrArg k1_pay12 P.R_eq).trans h.h4)
    ((P.w3.read_unread _).trans h.h1) ((P.w4.read_unread _).trans h.h2) i1 _

theorem end_dv : P.a9.view.read (Elt Ideal) (P.a9.view.writes (Elt Ideal) G9
      (put8 P.i (P.dv (dg P.i (P.a9.view.read (Elt Ideal) (P.a9.view.writes (Elt Ideal) G9 (P.L G8 G9).2.2)))) :: (P.L G8 G9).2.2))
    = up 4096 128 .f32 (dvM q k dy (n + 1)) := by
  obtain ⟨-, -, -, i4⟩ := L_at h hG8 hG9
  have ho : k1_off3 P.i = ![512 * n, 0] := by rw [bwd_off3, h.hn]
  rw [← dvAt_last, ← dvAt_put]
  refine read_put P.a9.view G9 _ _ ho _ _ _ _ i4 _ ?_
  rw [show dg P.i _ = _ from ld_rows' ho _ _ i4 _]
  exact dvPay_eq P.i _ _ _ _ q k dy n h.hn (P.A_eq.trans h.h0) (P.D_eq.trans h.h3) ((congrArg k1_pay12 P.R_eq).trans h.h4)
    ((P.w3.read_unread _).trans h.h1) _

end Ends

/-- The first point of a head. -/
theorem first_eq (hc0 : cond1_0 P.i) (hz : n = 0) :
    out1_A_5 P.c P.i P.a2 P.w2 P.a3 P.w3 P.a4 P.w4 P.a5 P.w5 P.a6 P.w6 P.a7 P.w7 P.a8 P.w8 P.a9 P.w9 hc0 P.x0 P.x1 P.x2 P.x3 P.x4 = up 512 128 .f32 (rows (512 * n) (dqF q k v dy))
    ∧ out1_A_6 P.c P.i P.a2 P.w2 P.a3 P.w3 P.a4 P.w4 P.a5 P.w5 P.a6 P.w6 P.a7 P.w7 P.a8 P.w8 P.a9 P.w9 hc0 P.x0 P.x1 P.x2 P.x3 P.x4 = up 4096 128 .f32 (dkM q k v dy (n + 1))
    ∧ out1_A_7 P.c P.i P.a2 P.w2 P.a3 P.w3 P.a4 P.w4 P.a5 P.w5 P.a6 P.w6 P.a7 P.w7 P.a8 P.w8 P.a9 P.w9 hc0 P.x0 P.x1 P.x2 P.x3 P.x4 = up 4096 128 .f32 (dvM q k dy (n + 1)) := by
  have e8 : P.a8.view.read (Elt Ideal) P.base8 = up 4096 128 .f32 (dkM q k v dy n) := by
    refine (View.read_writes_full _ _ _ _ []).trans ?_
    unfold k1_pay9
    dsimp only
    rw [up_bzero, hz]
    exact up_congr fun i _ j _ => by simp [dkM]
  have e9 : P.a9.view.read (Elt Ideal) P.base9 = up 4096 128 .f32 (dvM q k dy n) := by
    refine (View.read_writes_full _ _ _ _ []).trans ?_
    unfold k1_pay10
    dsimp only
    rw [up_bzero, hz]
    exact up_congr fun i _ j _ => by simp [dvM]
  refine ⟨?_, ?_, ?_⟩
  · refine Eq.trans (?_ : _ = P.dq P.firstE.1) ?_
    · unfold out1_A_5 kernelRun1_A
      dsimp only
      exact View.read_writes_full _ _ _ _ []
    · rw [firstE, E_eq]
      exact end_dq h e8 e9
  · refine (View.read_writes_of_cover _ _ P.a8.view P.a8.view.junk _ (cover1_A_6 P.c P.i P.a2 P.w2 P.a3 P.w3 P.a4 P.w4 P.a5 P.w5 P.a6 P.w6 P.a7 P.w7 P.a8 P.w8 P.a9 P.w9 hc0 P.x0 P.x1 P.x2 P.x3 P.x4)).trans ?_
    rw [first_dk]
    dsimp only
    rw [firstE, E_eq]
    dsimp only
    rw [List.nil_append, ← List.cons_append, View.writes_append, View.writes_append]
    exact end_dk h e8 e9
  · refine (View.read_writes_of_cover _ _ P.a9.view P.a9.view.junk _ (cover1_A_7 P.c P.i P.a2 P.w2 P.a3 P.w3 P.a4 P.w4 P.a5 P.w5 P.a6 P.w6 P.a7 P.w7 P.a8 P.w8 P.a9 P.w9 hc0 P.x0 P.x1 P.x2 P.x3 P.x4)).trans ?_
    rw [first_dv]
    dsimp only
    rw [firstE, E_eq]
    dsimp only
    rw [List.nil_append, ← List.cons_append, View.writes_append, View.writes_append]
    exact end_dv h e8 e9

/-- A later point. -/
theorem later_eq (hc0 : ¬ cond1_0 P.i) {xo6 xo7 : Vec Ideal S4096x128 .f32}
    (h6 : xo6 = up 4096 128 .f32 (dkM q k v dy n)) (h7 : xo7 = up 4096 128 .f32 (dvM q k dy n)) :
    out1_B_5 P.c P.i P.a2 P.w2 P.a3 P.w3 P.a4 P.w4 P.a5 P.w5 P.a6 P.w6 P.a7 P.w7 P.a8 P.w8 P.a9 P.w9 hc0 P.x0 P.x1 P.x2 P.x3 P.x4 xo6 xo7 = up 512 128 .f32 (rows (512 * n) (dqF q k v dy))
    ∧ out1_B_6 P.c P.i P.a2 P.w2 P.a3 P.w3 P.a4 P.w4 P.a5 P.w5 P.a6 P.w6 P.a7 P.w7 P.a8 P.w8 P.a9 P.w9 hc0 P.x0 P.x1 P.x2 P.x3 P.x4 xo6 xo7 = up 4096 128 .f32 (dkM q k v dy (n + 1))
    ∧ out1_B_7 P.c P.i P.a2 P.w2 P.a3 P.w3 P.a4 P.w4 P.a5 P.w5 P.a6 P.w6 P.a7 P.w7 P.a8 P.w8 P.a9 P.w9 hc0 P.x0 P.x1 P.x2 P.x3 P.x4 xo6 xo7 = up 4096 128 .f32 (dvM q k dy (n + 1)) := by
  have e8 := (P.w8.read_unread xo6).trans h6
  have e9 := (P.w9.read_unread xo7).trans h7
  refine ⟨?_, ?_, ?_⟩
  · refine Eq.trans (?_ : _ = P.dq (P.laterE xo6 xo7).1) ?_
    · unfold out1_B_5 kernelRun1_B
      dsimp only
      exact View.read_writes_full _ _ _ _ []
    · rw [laterE, E_eq]
      exact end_dq h e8 e9
  · unfold out1_B_6
    rw [later_dk]
    dsimp only
    rw [laterE, E_eq]
    dsimp only
    rw [List.nil_append]
    exact end_dk h e8 e9
  · unfold out1_B_7
    rw [later_dv]
    dsimp only
    rw [laterE, E_eq]
    dsimp only
    rw [List.nil_append]
    exact end_dv h e8 e9

end Pt

end Cert.Sb
-- ==== Proof.BwdArray.lean ====
/-
  The backward call's three arrays after the run: the gradients of the queries, the keys and the values, all heads side by
  side. The gradients of the keys and the values of a head stay in their buffers over the head's eight grid points.
-/
module

public import proofs.«01_k».proof.Proof.FwdArray
public import proofs.«01_k».proof.Proof.BwdOut

@[expose] public section

noncomputable section

namespace Cert.Sb

open Idealize.ShloMosaic
open ValueIdx Idealize.SL.Sem
open KernelIdeal KernelIdeal.Gen

/-- The columns of a head of the output's gradient. -/
abbrev hd (D : Mat) (h : ℕ) : Mat := head D 0 h

theorem at1 : ∀ t : Fin cfg1.N, (grid1.coords t 0).val = t.val / 8 ∧ (grid1.coords t 1).val = t.val % 8 := by decide +kernel

theorem idx1_0 : ∀ t : Fin cfg1.N, win1_0.index t = ![t.val % 8, 8 + t.val / 8] := by decide +kernel
theorem idx1_1 : ∀ t : Fin cfg1.N, win1_1.index t = ![0, 16 + t.val / 8] := by decide +kernel
theorem idx1_2 : ∀ t : Fin cfg1.N, win1_2.index t = ![0, 24 + t.val / 8] := by decide +kernel
theorem idx1_3 : ∀ t : Fin cfg1.N, win1_3.index t = ![t.val % 8, t.val / 8] := by decide +kernel
theorem idx1_4 : ∀ t : Fin cfg1.N, win1_4.index t = ![t.val / 8, t.val % 8, 0] := by decide +kernel
theorem idx1_5 : ∀ t : Fin cfg1.N, win1_5.index t = ![t.val % 8, t.val / 8] := by decide +kernel
theorem idx1_6 : ∀ t : Fin cfg1.N, win1_6.index t = ![0, t.val / 8] := by decide +kernel
theorem idx1_7 : ∀ t : Fin cfg1.N, win1_7.index t = ![0, t.val / 8] := by decide +kernel

section
variable (V : (c : Dev nD) → (b : Ref sig .tc) → Buf (Elt Ideal) (c.tc.loc b)) (c : Dev nD) (P D : Mat)
  (hP : V c main_arg0 = up 4096 8320 .bf16 P) (hD : V c main_arg1 = up 4096 1024 .bf16 D)
  (hL : V c main_v0_1 = stack 8 4096 128 fun h => lanesM (hq P h) (hk P h) 0) (t : Fin cfg1.N)

include hP in
theorem bblk_0 : iblk1 V c 0 t = up 512 128 .bf16 (rows (512 * (t.val % 8)) (hq P (t.val / 8))) := by
  refine ext2 fun r d => ?_
  blk_simp [iblk1, hP]
  rw [up_apply]
  unfold up rows hq head
  congr 2 <;> blk_simp [idx1_0] <;> simp <;> ring

include hP in
theorem bblk_1 : iblk1 V c 1 t = up 4096 128 .bf16 (hk P (t.val / 8)) := by
  refine ext2 fun r d => ?_
  blk_simp [iblk1, hP]
  rw [up_apply]
  unfold up hk head
  congr 2 <;> blk_simp [idx1_1] <;> simp <;> ring

include hP in
theorem bblk_2 : iblk1 V c 2 t = up 4096 128 .bf16 (hv P (t.val / 8)) := by
  refine ext2 fun r d => ?_
  blk_simp [iblk1, hP]
  rw [up_apply]
  unfold up hv head
  congr 2 <;> blk_simp [idx1_2] <;> simp <;> ring

include hD in
theorem bblk_3 : iblk1 V c 3 t = up 512 128 .bf16 (rows (512 * (t.val % 8)) (hd D (t.val / 8))) := by
  refine ext2 fun r d => ?_
  blk_simp [iblk1, hD]
  rw [up_apply]
  unfold up rows hd head
  congr 2 <;> blk_simp [idx1_3] <;> simp <;> ring

include hL in
theorem bblk_4 : k1_pay12 (iblk1 V c 4 t) = up 512 128 .f32 (rows (512 * (t.val % 8)) (runsM (hq P (t.val / 8)) (hk P (t.val / 8)))) := by
  refine bpay12_eq _ _ fun r l => ?_
  blk_simp [iblk1, hL]
  unfold stack rows
  rw [show runsM (hq P (t.val / 8)) (hk P (t.val / 8)) = lanesM (hq P (t.val / 8)) (hk P (t.val / 8)) 0 from by funext a b; simp [runsM, lanesM]]
  congr 2 <;> blk_simp [idx1_4] <;> simp <;> ring

/-- What the backward call leaves after a grid point of head `h`, query block `n`. -/
abbrev bwdPt (P D : Mat) (h n : ℕ) : Vec Ideal S512x128 .f32 × Vec Ideal S4096x128 .f32 × Vec Ideal S4096x128 .f32 :=
  (up 512 128 .f32 (rows (512 * n) (dqF (hq P h) (hk P h) (hv P h) (hd D h))),
   up 4096 128 .f32 (dkM (hq P h) (hk P h) (hv P h) (hd D h) (n + 1)), up 4096 128 .f32 (dvM (hq P h) (hk P h) (hd D h) (n + 1)))

theorem triple {α β γ : Type} {a a' : α} {b b' : β} {d d' : γ} (h : a = a' ∧ b = b' ∧ d = d') : (a, b, d) = (a', b', d') := by
  obtain ⟨rfl, rfl, rfl⟩ := h
  rfl

/-- The backward call's grid point. -/
abbrev pt : Pt :=
  ⟨c, grid1.coords t, ms1_0 t, hs1_0 t, ms1_1 t, hs1_1 t, ms1_2 t, hs1_2 t, ms1_3 t, hs1_3 t, ms1_4 t, hs1_4 t, ms1_5 t, hs1_5 t, ms1_6 t, hs1_6 t,
    ms1_7 t, hs1_7 t, iblk1 V c 0 t, iblk1 V c 1 t, iblk1 V c 2 t, iblk1 V c 3 t, iblk1 V c 4 t⟩

include hP hD hL in
theorem holds {n : ℕ} (h0 : t.val % 8 = n) : (pt V c t).Holds (hq P (t.val / 8)) (hk P (t.val / 8)) (hv P (t.val / 8)) (hd D (t.val / 8)) n := by
  subst h0
  exact ⟨(at1 t).2, bblk_0 V c P hP t, bblk_1 V c P hP t, bblk_2 V c P hP t, bblk_3 V c D hD t, bblk_4 V c P hL t⟩

include hP hD hL in
theorem bwd_at_zero (h0 : t.val % 8 = 0) : outsAt1 V c t.val t.isLt = bwdPt P D (t.val / 8) 0 := by
  rw [outsAt1_A V c t h0]
  exact triple (Pt.first_eq (holds V c P D hP hD hL t h0) _ rfl)

include hP hD hL in
theorem bwd_at_succ (n : ℕ) (h0 : t.val % 8 = n + 1)
    (ih : outsAt1 V c (t.val - 1) (Nat.lt_of_le_of_lt (Nat.sub_le _ _) t.isLt) = bwdPt P D (t.val / 8) n) :
    outsAt1 V c t.val t.isLt = bwdPt P D (t.val / 8) (n + 1) := by
  rw [outsAt1_B V c t (by omega), ih]
  exact triple (Pt.later_eq (holds V c P D hP hD hL t h0) _ rfl rfl)

include hP hD hL in
theorem bwd_at (n : ℕ) : ∀ t : Fin cfg1.N, t.val % 8 = n → outsAt1 V c t.val t.isLt = bwdPt P D (t.val / 8) n := by
  induction n with
  | zero => exact fun t h0 => bwd_at_zero V c P D hP hD hL t h0
  | succ n ih =>
    intro t h0
    refine bwd_at_succ V c P D hP hD hL t n h0 ?_
    have h := ih ⟨t.val - 1, Nat.lt_of_le_of_lt (Nat.sub_le _ _) t.isLt⟩ (by simp only; omega)
    rw [show t.val / 8 = (t.val - 1) / 8 by omega]
    exact h

include hP hD hL

/-- The gradient of the queries, head by head. -/
theorem dq_array : (dat1 V c).arrAt 5 cfg1.N = up 4096 1024 .f32 (beside fun h => dqF (hq P h) (hk P h) (hv P h) (hd D h)) := by
  refine (dat1 V c).arrAt_eq_of_covers 5 _ (by decide +kernel) fun t hf y => ?_
  blk_simp
  rw [after1_5, bwd_at V c P D hP hD hL _ t rfl]
  dsimp only
  obtain ⟨r, d, rfl⟩ := exists_ix2 y
  rw [up_apply]
  unfold up rows
  congr 1
  blk_simp [idx1_5]
  refine (beside_at (fun h => dqF (hq P h) (hk P h) (hv P h) (hd D h)) (t.val / 8) _ d.isLt).trans ?_
  congr 1 <;> simp <;> ring

/-- The gradient of the keys, head by head. -/
theorem dk_array : (dat1 V c).arrAt 6 cfg1.N = up 4096 1024 .f32 (beside fun h => dkM (hq P h) (hk P h) (hv P h) (hd D h) 8) := by
  refine (dat1 V c).arrAt_eq_of_covers 6 _ (by decide +kernel) fun t hf y => ?_
  blk_simp
  rw [after1_6, bwd_at V c P D hP hD hL 7 t ((flush1_6 t).mp hf)]
  dsimp only
  obtain ⟨r, d, rfl⟩ := exists_ix2 y
  rw [up_apply]
  unfold up
  congr 1
  blk_simp [idx1_6]
  refine (beside_at (fun h => dkM (hq P h) (hk P h) (hv P h) (hd D h) 8) (t.val / 8) _ d.isLt).trans ?_
  congr 1 <;> simp <;> ring

/-- The gradient of the values, head by head. -/
theorem dv_array : (dat1 V c).arrAt 7 cfg1.N = up 4096 1024 .f32 (beside fun h => dvM (hq P h) (hk P h) (hd D h) 8) := by
  refine (dat1 V c).arrAt_eq_of_covers 7 _ (by decide +kernel) fun t hf y => ?_
  blk_simp
  rw [after1_7, bwd_at V c P D hP hD hL 7 t ((flush1_7 t).mp hf)]
  dsimp only
  obtain ⟨r, d, rfl⟩ := exists_ix2 y
  rw [up_apply]
  unfold up
  congr 1
  blk_simp [idx1_7]
  refine (beside_at (fun h => dvM (hq P h) (hk P h) (hd D h) 8) (t.val / 8) _ d.isLt).trans ?_
  congr 1 <;> simp <;> ring

end

end Cert.Sb
-- ==== Proof.KernelRun.lean ====
/-
  The run of the two calls, with what every result array holds at the end: the memory after the second call.
-/
module

public import proofs.«01_k».proof.Proof.BwdArray

@[expose] public section

noncomputable section

namespace Cert.Sb

open KernelIdeal KernelIdeal.Gen
open Idealize.ShloMosaic
open TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : Mem nD τ sig) (ρ : Dev nD → PrngReg)

/-- Every unscoped array ends at what the second call leaves. -/
theorem run_mem : θ_run defs (onTc main) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c => h c)

section
variable (c : Dev nD) (P D : Mat) (hP : m (c.tc.loc main_arg0) = up 4096 8320 .bf16 P) (hD : m (c.tc.loc main_arg1) = up 4096 1024 .bf16 D)

include hP in
theorem V1_arg0 : V1 m ρ c main_arg0 = up 4096 8320 .bf16 P := (W1_args m ρ c main_arg0 (by decide)).trans hP
include hD in
theorem V1_arg1 : V1 m ρ c main_arg1 = up 4096 1024 .bf16 D := (W1_args m ρ c main_arg1 (by decide)).trans hD
include hP in
theorem V1_lanes : V1 m ρ c main_v0_1 = stack 8 4096 128 fun h => lanesM (hq P h) (hk P h) 0 :=
  (W1_arr m ρ c 4).trans (lanes_array (V0 m ρ) c P hP)

include hP in
theorem mem_y : W2 m ρ c (Proc.devRef .tc main_v0_0) = up 4096 1024 .f32 (beside fun h => outM (hq P h) (hk P h) (hv P h)) :=
  (W2_of_ne m ρ c main_v0_0 (by decide)).trans ((W1_arr m ρ c 3).trans (fwd_array (V0 m ρ) c P hP))
include hP hD in
theorem mem_dq : W2 m ρ c (Proc.devRef .tc main_v1_0) = up 4096 1024 .f32 (beside fun h => dqF (hq P h) (hk P h) (hv P h) (hd D h)) :=
  (W2_arr m ρ c 5).trans (dq_array (V1 m ρ) c P D (V1_arg0 m ρ c P hP) (V1_arg1 m ρ c D hD) (V1_lanes m ρ c P hP))
include hP hD in
theorem mem_dk : W2 m ρ c (Proc.devRef .tc main_v1_1) = up 4096 1024 .f32 (beside fun h => dkM (hq P h) (hk P h) (hv P h) (hd D h) 8) :=
  (W2_arr m ρ c 6).trans (dk_array (V1 m ρ) c P D (V1_arg0 m ρ c P hP) (V1_arg1 m ρ c D hD) (V1_lanes m ρ c P hP))
include hP hD in
theorem mem_dv : W2 m ρ c (Proc.devRef .tc main_v1_2) = up 4096 1024 .f32 (beside fun h => dvM (hq P h) (hk P h) (hd D h) 8) :=
  (W2_arr m ρ c 7).trans (dv_array (V1 m ρ) c P D (V1_arg0 m ρ c P hP) (V1_arg1 m ρ c D hD) (V1_lanes m ρ c P hP))
end

/-- The two calls: the results, of the arguments' matrices. -/
theorem kernel_run (P D : Dev nD → Mat) (hP : ∀ c : Dev nD, m (c.tc.loc main_arg0) = up 4096 8320 .bf16 (P c))
    (hD : ∀ c : Dev nD, m (c.tc.loc main_arg1) = up 4096 1024 .bf16 (D c)) :
    θ_run defs (onTc main) ⟨m, fun _ => 0, ρ⟩ (fun r => ∀ c,
      r.2.mem (c.tc.loc main_v0_0) = up 4096 1024 .f32 (beside fun h => outM (hq (P c) h) (hk (P c) h) (hv (P c) h))
      ∧ r.2.mem (c.tc.loc main_v1_0) = up 4096 1024 .f32 (beside fun h => dqF (hq (P c) h) (hk (P c) h) (hv (P c) h) (hd (D c) h))
      ∧ r.2.mem (c.tc.loc main_v1_1) = up 4096 1024 .f32 (beside fun h => dkM (hq (P c) h) (hk (P c) h) (hv (P c) h) (hd (D c) h) 8)
      ∧ r.2.mem (c.tc.loc main_v1_2) = up 4096 1024 .f32 (beside fun h => dvM (hq (P c) h) (hk (P c) h) (hd (D c) h) 8)
      ∧ Kept m r.2.mem c main_arg0 ∧ Kept m r.2.mem c main_arg1) :=
  (θ_run defs _ _).mono (fun _ h c =>
    ⟨(h c _ (mem_uc main_v0_0 (by decide))).trans (mem_y m ρ c (P c) (hP c)),
     (h c _ (mem_uc main_v1_0 (by decide))).trans (mem_dq m ρ c (P c) (D c) (hP c) (hD c)),
     (h c _ (mem_uc main_v1_1 (by decide))).trans (mem_dk m ρ c (P c) (D c) (hP c) (hD c)),
     (h c _ (mem_uc main_v1_2 (by decide))).trans (mem_dv m ρ c (P c) (D c) (hP c) (hD c)),
     (h c _ (mem_uc main_arg0 (by decide))).trans (W2_main_arg0 m ρ c),
     (h c _ (mem_uc main_arg1 (by decide))).trans (W2_main_arg1 m ρ c)⟩) (run_mem m ρ)

end Cert.Sb
-- ==== Proof.MlaSoft.lean ====
/-
  Latent attention of one head over the reals, and the online form of its softmax. A query of row `t` meets the keys of the
  rows `s ≤ t`; its weights are the exponentials of the scores over their sum, and the gradients of the three inputs are
  written from the same weights. The kernel keeps, for every row, a maximum that may still be `-∞`, a sum and a weighted sum,
  both scaled by the exponential of minus the maximum: one lemma says what a block of scores does to the three.
-/
module

public import proofs.«01_k».proof.Proof.Stick
public import proofs.«01_k».proof.Proof.Gen.MlaIdeal.Skeleton

@[expose] public section

noncomputable section

namespace Cert.Mla

open Idealize.ShloMosaic hiding ix1 ix2 ix3 ix4 eq_ix1 eq_ix2 eq_ix3 eq_ix4
open ValueIdx
open Sb (Mat up up_apply ext2 up_congr rows)
open MlaIdeal MlaIdeal.Gen

/-- The factor on the queries' gradient, the 32-bit number nearest to one over the root of 192. -/
def scale : ℝ := (Ideal.ofBits .f32 0x3D93CD3A#32).toReal

theorem ofBits_scale : Ideal.ofBits .f32 0x3D93CD3A#32 = (scale : EReal) := by
  unfold scale
  have e : Ideal.ofBits .f32 0x3D93CD3A#32 = ((9686330 * (2 ^ 27)⁻¹ : ℝ) : EReal) := by
    rw [EReal.coe_mul]; simp [Ideal.ofBits, Ideal.ieee]
  rw [e, EReal.toReal_coe]

section Defs
variable (q k v dy : Mat)

/-- The scores. -/
def zM : Mat := fun t s => ∑ d ∈ Finset.range 256, q t d * k s d
/-- Their exponentials, at the keys a query meets. -/
def wM : Mat := fun t s => if s ≤ t then Real.exp (zM q k t s) else 0
/-- The sum of the exponentials over the blocks of keys before `m`. -/
def nA (m t : ℕ) : ℝ := ∑ s ∈ Finset.range (512 * m), wM q k t s
/-- The sum over all keys. -/
def nM (t : ℕ) : ℝ := ∑ s ∈ Finset.range 4096, wM q k t s
/-- The weights. -/
def pM : Mat := fun t s => wM q k t s / nM q k t
/-- The values weighted by the exponentials, over the blocks of keys before `m`. -/
def aA (m : ℕ) : Mat := fun t d => ∑ s ∈ Finset.range (512 * m), wM q k t s * v s d
/-- The output. -/
def yM : Mat := fun t d => ∑ s ∈ Finset.range 4096, pM q k t s * v s d
/-- The gradient of a weight. -/
def dpM : Mat := fun t s => ∑ d ∈ Finset.range 128, dy t d * v s d
/-- The product of a row of the output with its gradient. -/
def deltaM (t : ℕ) : ℝ := ∑ d ∈ Finset.range 128, dy t d * yM q k v t d
/-- The gradient of a score. -/
def dsM : Mat := fun t s => pM q k t s * (dpM v dy t s - deltaM q k v dy t)
/-- The gradient of the queries before its factor, over the blocks of keys before `m`. -/
def dqA (m : ℕ) : Mat := fun t d => ∑ s ∈ Finset.range (512 * m), dsM q k v dy t s * k s d
/-- The gradient of the queries. -/
def dqM : Mat := fun t d => (∑ s ∈ Finset.range 4096, dsM q k v dy t s * k s d) * scale
/-- The gradients of the keys and of the values, from the blocks of queries before `n`. -/
def dkA (n : ℕ) : Mat := fun s d => ∑ t ∈ Finset.range (512 * n), dsM q k v dy t s * q t d
def dvA (n : ℕ) : Mat := fun s d => ∑ t ∈ Finset.range (512 * n), pM q k t s * dy t d

theorem wM_none {t s : ℕ} (h : t < s) : wM q k t s = 0 := if_neg (by omega)
theorem wM_nonneg (t s : ℕ) : 0 ≤ wM q k t s := by
  unfold wM
  split
  · exact (Real.exp_pos _).le
  · exact le_rfl
theorem pM_none {t s : ℕ} (h : t < s) : pM q k t s = 0 := by rw [pM, wM_none q k h, zero_div]
theorem dsM_none {t s : ℕ} (h : t < s) : dsM q k v dy t s = 0 := by rw [dsM, pM_none q k h, zero_mul]

theorem nM_pos (t : ℕ) : 0 < nM q k t := by
  refine lt_of_lt_of_le ?_ (Finset.single_le_sum (f := fun s => wM q k t s) (fun s _ => wM_nonneg q k t s) (Finset.mem_range.2 (show 0 < 4096 by omega)))
  show 0 < wM q k t 0
  rw [wM, if_pos (Nat.zero_le t)]
  exact Real.exp_pos _

theorem nA_all (n i : ℕ) (hn : n < 8) (hi : i < 512) : nA q k (n + 1) (512 * n + i) = nM q k (512 * n + i) :=
  (Sb.sum_stop (fun s => wM q k (512 * n + i) s) (n + 1) (by omega) fun s hs => wM_none q k (by omega)).symm

theorem aA_all (n i d : ℕ) (hn : n < 8) (hi : i < 512) :
    aA q k v (n + 1) (512 * n + i) d / nM q k (512 * n + i) = yM q k v (512 * n + i) d := by
  unfold aA yM pM
  rw [Finset.sum_div, Sb.sum_stop _ (n + 1) (by omega) fun s hs => by rw [wM_none q k (show 512 * n + i < s by omega), zero_div, zero_mul]]
  exact Finset.sum_congr rfl fun s _ => by ring

theorem dqA_all (n i d : ℕ) (hn : n < 8) (hi : i < 512) : dqA q k v dy (n + 1) (512 * n + i) d * scale = dqM q k v dy (512 * n + i) d := by
  unfold dqA dqM
  rw [Sb.sum_stop _ (n + 1) (by omega) fun s hs => by rw [dsM_none q k v dy (show 512 * n + i < s by omega), zero_mul]]

end Defs

/-! ## Rows that may still be `-∞` -/

/-- A column of extended reals. -/
def col (M : ℕ → EReal) : FVec Ideal S512x1 .f32 := fun i => M (i 0).val
/-- Reals where the mask allows them, `-∞` elsewhere. -/
def mk (q : ℕ → ℕ → Prop) [∀ i j, Decidable (q i j)] (x : Mat) : FVec Ideal S512x512 .f32 :=
  fun i => if q (i 0).val (i 1).val then ((x (i 0).val (i 1).val : ℝ) : EReal) else ⊥
/-- The exponential of a number or of `-∞`. -/
def ex (M : EReal) : ℝ := if M = ⊥ then 0 else Real.exp M.toReal

theorem ex_bot : ex ⊥ = 0 := if_pos rfl
theorem ex_coe (r : ℝ) : ex (r : EReal) = Real.exp r := by rw [ex, if_neg (EReal.coe_ne_bot r), EReal.toReal_coe]

/-- The largest of finitely many numbers, some of them perhaps `-∞` but not all, is a number. -/
theorem fold_real {n : ℕ} (f : Fin n → EReal) (h : ∀ j, f j ≠ ⊤) (j₀ : Fin n) (h₀ : f j₀ ≠ ⊥) :
    ∃ r : ℝ, (Finset.univ : Finset (Fin n)).fold max (⊥ : EReal) f = (r : EReal) := by
  have h1 : (Finset.univ : Finset (Fin n)).fold max (⊥ : EReal) f ≠ ⊤ :=
    ((Finset.fold_max_lt _).2 ⟨bot_lt_top, fun j _ => lt_top_iff_ne_top.2 (h j)⟩).ne
  have h2 : (Finset.univ : Finset (Fin n)).fold max (⊥ : EReal) f ≠ ⊥ := by
    have := Finset.le_fold_max (b := (⊥ : EReal)) (f := f) (s := Finset.univ) (f j₀) |>.2 (.inr ⟨j₀, Finset.mem_univ _, le_rfl⟩)
    exact fun e => h₀ (le_bot_iff.1 (e ▸ this))
  exact ⟨_, (EReal.coe_toReal h1 h2).symm⟩

theorem ofBits_bot : Ideal.ofBits .f32 0xFF800000#32 = ⊥ := by simp [Ideal.ofBits, Ideal.ieee]

/-! ## The operations of one block -/

/-- The new maximum of every row. -/
def maxOp (m : FVec Ideal S512x1 .f32) (S : FVec Ideal S512x512 .f32) : FVec Ideal S512x1 .f32 :=
  maximumf m (shapeCast S512x1 (multiReduction .maximumf [1] S512 S 0xFF800000#32 reduces_S512x512_S512 (.inl rfl) rfl) shapeCasts_S512_S512x1)
/-- The exponentials of the scores over the new maximum. -/
def wOp (m : FVec Ideal S512x1 .f32) (S : FVec Ideal S512x512 .f32) : FVec Ideal S512x512 .f32 :=
  exp (subf S (broadcastTo S512x512 (maxOp m S) broadcasts_S512x1_S512x512))
/-- The factor of what was summed before. -/
def alphaOp (m : FVec Ideal S512x1 .f32) (S : FVec Ideal S512x512 .f32) : FVec Ideal S512x1 .f32 := exp (subf m (maxOp m S))
/-- The sum along each row, kept as a column. -/
def rowSumOp (x : FVec Ideal S512x512 .f32) : FVec Ideal S512x1 .f32 :=
  shapeCast S512x1 (multiReduction .add [1] S512 x 0x00000000#32 reduces_S512x512_S512 (.inl rfl) rfl) shapeCasts_S512_S512x1
theorem rowSumOp_eq (x : Mat) : rowSumOp (up 512 512 .f32 x) = up 512 1 .f32 fun i _ => ∑ j ∈ Finset.range 512, x i j :=
  Sb.up_rowSum x _ _ _ _ _
/-- The new sum. -/
def sumOp (m l : FVec Ideal S512x1 .f32) (S : FVec Ideal S512x512 .f32) : FVec Ideal S512x1 .f32 :=
  addf (mulf (alphaOp m S) l) (rowSumOp (wOp m S))
/-- The new weighted sum. -/
def accOp (m : FVec Ideal S512x1 .f32) (a : FVec Ideal S512x128 .f32) (S : FVec Ideal S512x512 .f32) (v : FVec Ideal S512x128 .bf16) : FVec Ideal S512x128 .f32 :=
  addf (mulf (broadcastTo S512x128 (alphaOp m S) broadcasts_S512x1_S512x128) a)
    (matmul dot_S512x512_S512x128_S512x128_1_0_0_1_n_n none (truncf .bf16 (wOp m S) bitsLt_bf16_f32) v (constant S512x128 .f32 0x00000000#32))

section Step
variable (M : ℕ → EReal) (q : ℕ → ℕ → Prop) [∀ i j, Decidable (q i j)] (x : Mat)

theorem maxOp_real (hM : ∀ i < 512, M i ≠ ⊤) (hq : ∀ i < 512, ∃ j < 512, q i j) :
    ∃ N : ℕ → ℝ, maxOp (col M) (mk q x) = up 512 1 .f32 fun i _ => N i := by
  have key : ∀ r : Fin 512, ∃ n : ℝ, maxOp (col M) (mk q x) (ix2 r (0 : Fin 1)) = (n : EReal) := by
    intro r
    obtain ⟨j, hj, hqj⟩ := hq r.val r.isLt
    have e : maxOp (col M) (mk q x) (ix2 r (0 : Fin 1))
        = max (M r.val) ((Finset.univ : Finset (Fin 512)).fold max (⊥ : EReal) fun j => if q r.val j.val then ((x r.val j.val : ℝ) : EReal) else ⊥) := by
      unfold maxOp
      rw [maximumf_apply, shapeCast_a_a1_apply]
      refine congrArg (max _) ?_
      refine (Ideal.multiReduction_maximumf_single (mk q x) _ reduces_S512x512_S512 (.inl rfl) rfl (ix1 r)).trans ?_
      show Finset.fold max (Ideal.ofBits .f32 0xFF800000#32) _ _ = _
      rw [ofBits_bot]
      rfl
    obtain ⟨b, hb⟩ := fold_real (fun j : Fin 512 => if q r.val j.val then ((x r.val j.val : ℝ) : EReal) else ⊥)
      (fun j => by split <;> simp) ⟨j, hj⟩ (by simp only [if_pos hqj]; exact EReal.coe_ne_bot _)
    rw [e, hb]
    rcases eq_or_ne (M r.val) ⊥ with h | h
    · exact ⟨b, by rw [h]; exact max_eq_right bot_le⟩
    · rw [← EReal.coe_toReal (hM r.val r.isLt) h, ← Sb.coe_max]
      exact ⟨_, rfl⟩
  choose f hf using key
  refine ⟨fun i => if h : i < 512 then f ⟨i, h⟩ else 0, ext2 fun r c => ?_⟩
  obtain rfl : c = 0 := Subsingleton.elim _ _
  rw [hf r, up_apply]
  simp only [r.isLt, dif_pos]

/-- The factor of the earlier sums, from the old maximum and the new one. -/
theorem exp_col (N : ℕ → ℝ) (hM : ∀ i < 512, M i ≠ ⊤) :
    exp (subf (col M) (up 512 1 .f32 fun i _ => N i)) = up 512 1 .f32 fun i _ => ex (M i) / Real.exp (N i) :=
  ext2 fun r c => by
    show Ideal.exp (M r.val - ((N r.val : ℝ) : EReal)) = ((ex (M r.val) / Real.exp (N r.val) : ℝ) : EReal)
    rcases eq_or_ne (M r.val) ⊥ with h | h
    · rw [h, EReal.bot_sub, ex_bot, zero_div]; rfl
    · rw [← EReal.coe_toReal (hM r.val r.isLt) h, ← EReal.coe_sub, ex_coe, ← Real.exp_sub]; rfl

theorem exp_mk (N : ℕ → ℝ) :
    exp (subf (mk q x) (up 512 512 .f32 fun i _ => N i)) = up 512 512 .f32 fun i j => (if q i j then Real.exp (x i j) else 0) / Real.exp (N i) :=
  ext2 fun r c => by
    show Ideal.exp ((if q r.val c.val then ((x r.val c.val : ℝ) : EReal) else ⊥) - ((N r.val : ℝ) : EReal)) = _
    rw [up_apply]
    by_cases h : q r.val c.val
    · rw [if_pos h, if_pos h, ← EReal.coe_sub, ← Real.exp_sub]; rfl
    · rw [if_neg h, if_neg h, EReal.bot_sub, zero_div]; rfl

/-- What one block of scores does to the maximum, the sum and the weighted sum. -/
theorem step (l a v : Mat) (hM : ∀ i < 512, M i ≠ ⊤) (hq : ∀ i < 512, ∃ j < 512, q i j) :
    ∃ (N : ℕ → ℝ) (l' a' : Mat), maxOp (col M) (mk q x) = (up 512 1 .f32 fun i _ => N i) ∧ sumOp (col M) (up 512 1 .f32 l) (mk q x) = up 512 1 .f32 l'
      ∧ accOp (col M) (up 512 128 .f32 a) (mk q x) (up 512 128 .bf16 v) = up 512 128 .f32 a'
      ∧ (∀ i, Real.exp (N i) * l' i 0 = ex (M i) * l i 0 + ∑ j ∈ Finset.range 512, if q i j then Real.exp (x i j) else 0)
      ∧ ∀ i d, Real.exp (N i) * a' i d = ex (M i) * a i d + ∑ j ∈ Finset.range 512, (if q i j then Real.exp (x i j) else 0) * v j d := by
  obtain ⟨N, hN⟩ := maxOp_real M q x hM hq
  refine ⟨N, fun i _ => ex (M i) / Real.exp (N i) * l i 0 + ∑ j ∈ Finset.range 512, (if q i j then Real.exp (x i j) else 0) / Real.exp (N i),
    fun i d => ex (M i) / Real.exp (N i) * a i d + (0 + ∑ j ∈ Finset.range 512, (if q i j then Real.exp (x i j) else 0) / Real.exp (N i) * v j d), hN, ?_, ?_, ?_, ?_⟩
  · unfold sumOp alphaOp wOp
    rw [hN, exp_col M N hM, Sb.up_spread, exp_mk, Sb.up_mul, rowSumOp_eq, Sb.up_add]
    refine up_congr fun i _ j hj => ?_
    obtain rfl : j = 0 := by omega
    rfl
  · unfold accOp alphaOp wOp
    rw [hN, exp_col M N hM, Sb.up_spread, Sb.up_spread, exp_mk, Sb.up_truncf, Sb.up_mul, Sb.up_zero]
    rw [show (matmul dot_S512x512_S512x128_S512x128_1_0_0_1_n_n none (up 512 512 .bf16 _) (up 512 128 .bf16 v) (up 512 128 .f32 _) : FVec Ideal S512x128 .f32) = _ from Sb.up_matmul _ _ _ none,
      Sb.up_add]
  · intro i
    have h := (Real.exp_pos (N i)).ne'
    dsimp only
    rw [mul_add, Finset.mul_sum]
    congr 1
    · field_simp
    · exact Finset.sum_congr rfl fun j _ => by field_simp
  · intro i d
    have h := (Real.exp_pos (N i)).ne'
    dsimp only
    rw [zero_add, mul_add, Finset.mul_sum]
    congr 1
    · field_simp
    · exact Finset.sum_congr rfl fun j _ => by field_simp

end Step

end Cert.Mla
-- ==== Proof.MlaLoads.lean ====
/-
  A block of 512 rows read from a buffer of 4096 rows of any width, the buffer after a store of such rows, and the places the
  loops of the latent attention read at.
-/
module

public import proofs.«01_k».proof.Proof.Loads
public import proofs.«01_k».proof.Proof.MlaSoft
public import proofs.«01_k».proof.Proof.Gen.MlaIdeal.Frame

@[expose] public section

noncomputable section

namespace Cert.Mla

open Idealize.ShloMosaic hiding ix1 ix2 ix3 ix4 eq_ix1 eq_ix2 eq_ix3 eq_ix4
open ValueIdx
open Sb (Mat up up_apply ext2 up_congr rows putRows ext_off word_rows')
open MlaIdeal MlaIdeal.Gen

section Width
variable {w : ℕ}

/-- The rows from `o` on of a buffer of 4096 rows, at an index. -/
theorem ld_rows_at {Val : EltTy → Type} {e : EltTy} (X : (⟨2, ![4096, w]⟩ : Shape).Idx → Val e) (off : Fin 2 → ℕ) (o : ℕ) (h : off = ![o, 0])
    (inb : ∀ a, off a + (⟨2, ![512, w]⟩ : Shape).size a ≤ (⟨2, ![4096, w]⟩ : Shape).size a) (r : Fin 512) (c : Fin w) (hr : o + r.val < 4096) :
    View.ld X (Rect.unit (s := ⟨2, ![4096, w]⟩) off (⟨2, ![512, w]⟩ : Shape).size inb) (ix2 r c) = X (ix2 (⟨o + r.val, hr⟩ : Fin 4096) c) := by
  subst h
  exact View.ld_unit_apply_of X _ _ inb _ (ix2 (⟨o + r.val, hr⟩ : Fin 4096) c) (Fin.forall_fin_two.mpr ⟨rfl, (Nat.zero_add _).symm⟩)

theorem off_le {off : Fin 2 → ℕ} {o : ℕ} (h : off = ![o, 0]) (inb : ∀ a, off a + (⟨2, ![512, w]⟩ : Shape).size a ≤ (⟨2, ![4096, w]⟩ : Shape).size a) : o + 512 ≤ 4096 := by
  subst h
  exact inb 0

/-- The rows from `o` on of a matrix of 4096 rows, in either format. -/
theorem ld_rows {off : Fin 2 → ℕ} {o : ℕ} (h : off = ![o, 0]) (x : Mat) (X : Vec Ideal ⟨2, ![4096, w]⟩ .bf16) (hX : X = up 4096 w .bf16 x)
    (inb : ∀ a, off a + (⟨2, ![512, w]⟩ : Shape).size a ≤ (⟨2, ![4096, w]⟩ : Shape).size a) :
    View.ld X (Rect.unit (s := ⟨2, ![4096, w]⟩) off (⟨2, ![512, w]⟩ : Shape).size inb) = up 512 w .bf16 (rows o x) := by
  subst hX
  have ho := off_le h inb
  exact ext2 fun r c => ld_rows_at _ off o h inb r c (by omega)
theorem ld_rows' {off : Fin 2 → ℕ} {o : ℕ} (h : off = ![o, 0]) (x : Mat) (X : Vec Ideal ⟨2, ![4096, w]⟩ .f32) (hX : X = up 4096 w .f32 x)
    (inb : ∀ a, off a + (⟨2, ![512, w]⟩ : Shape).size a ≤ (⟨2, ![4096, w]⟩ : Shape).size a) :
    View.ld X (Rect.unit (s := ⟨2, ![4096, w]⟩) off (⟨2, ![512, w]⟩ : Shape).size inb) = up 512 w .f32 (rows o x) := by
  subst hX
  have ho := off_le h inb
  exact ext2 fun r c => ld_rows_at _ off o h inb r c (by omega)

/-- A buffer of 4096 rows after a store of 512 of them. -/
theorem read_put {sig : RefSig} {κ : Kind} {sp : Space} (v : View sig κ sp ⟨2, ![4096, w]⟩ .f32) (f : v.ty.Contents (Elt Ideal))
    (off : Fin 2 → ℕ) (o : ℕ) (h : off = ![o, 0]) (inb : ∀ a, off a + (⟨2, ![512, w]⟩ : Shape).size a ≤ (⟨2, ![4096, w]⟩ : Shape).size a)
    (g x : Mat) (L : List (View.Piece (Elt Ideal) ⟨2, ![4096, w]⟩ .f32)) (hL : v.read (Elt Ideal) (v.writes (Elt Ideal) f L) = up 4096 w .f32 x)
    (y : FVec Ideal ⟨2, ![512, w]⟩ .f32) (hy : y = up 512 w .f32 g) :
    v.read (Elt Ideal) (v.writes (Elt Ideal) f (⟨Rect.unit (s := ⟨2, ![4096, w]⟩) off (⟨2, ![512, w]⟩ : Shape).size inb, y⟩ :: L)) = up 4096 w .f32 (putRows o g x) := by
  subst hy
  refine ext2 fun r c => ?_
  refine (View.read_writes_cons_rows v f (d := ![4096, w]) (W := 512) inb _ L (ix2 r c) h rfl rfl).trans ?_
  rw [hL]
  by_cases hr : o ≤ r.val ∧ r.val < o + 512
  · refine (dif_pos hr).trans ?_
    show _ = ((putRows o g x r.val c.val : ℝ) : EReal)
    rw [putRows, if_pos hr]
    rfl
  · refine (dif_neg hr).trans ?_
    show _ = ((putRows o g x r.val c.val : ℝ) : EReal)
    rw [putRows, if_neg hr]
    rfl

end Width

/-! ## Counts and places of the loops -/

theorem fwd_trips1 (i : grid0.Coords) : (k0_t1_loop i).trips = (i 1).val := Sb.trips1 (i 1)
theorem fwd_trips2 (i : grid0.Coords) : (k0_t2_loop i).trips = 0 := Sb.trips2 (i 1)
theorem bwd_trips1 (i : grid1.Coords) : (k1_t1_loop i).trips = (i 1).val := Sb.trips1 (i 1)
theorem bwd_trips2 (i : grid1.Coords) : (k1_t2_loop i).trips = 0 := Sb.trips2 (i 1)

theorem word_own : ∀ n : Fin 8, (Scalar.muli (BitVec.ofNat 32 n.val) 512#32).toNat = 512 * n.val := by decide +kernel

theorem fwd_off5 (i : grid0.Coords) : k0_off5 i = ![512 * (i 1).val, 0] := ext_off (word_own (i 1)) rfl
theorem fwd_off6 (i : grid0.Coords) : k0_off6 i = ![512 * (i 1).val, 0] := ext_off (word_own (i 1)) rfl
theorem bwd_off5 (i : grid1.Coords) : k1_off5 i = ![512 * (i 1).val, 0] := ext_off (word_own (i 1)) rfl
theorem bwd_off6 (i : grid1.Coords) : k1_off6 i = ![512 * (i 1).val, 0] := ext_off (word_own (i 1)) rfl

theorem fwd_lt (i : grid0.Coords) (t : Fin (k0_t1_loop i).trips) : t.val < 8 := by
  have h : t.val < (i 1).val := (fwd_trips1 i) ▸ t.isLt
  have h8 : (i 1).val < 8 := (i 1).isLt
  omega
theorem bwd_lt (i : grid1.Coords) (t : Fin (k1_t1_loop i).trips) : t.val < 8 := by
  have h : t.val < (i 1).val := (bwd_trips1 i) ▸ t.isLt
  have h8 : (i 1).val < 8 := (i 1).isLt
  omega

theorem fwd_off1 (i : grid0.Coords) (t : Fin (k0_t1_loop i).trips) : k0_off1 i t = ![512 * t.val, 0] := ext_off (word_rows' ⟨t.val, fwd_lt i t⟩) rfl
theorem fwd_off2 (i : grid0.Coords) (t : Fin (k0_t1_loop i).trips) : k0_off2 i t = ![512 * t.val, 0] := ext_off (word_rows' ⟨t.val, fwd_lt i t⟩) rfl
theorem bwd_off1 (i : grid1.Coords) (t : Fin (k1_t1_loop i).trips) : k1_off1 i t = ![512 * t.val, 0] := ext_off (word_rows' ⟨t.val, bwd_lt i t⟩) rfl
theorem bwd_off2 (i : grid1.Coords) (t : Fin (k1_t1_loop i).trips) : k1_off2 i t = ![512 * t.val, 0] := ext_off (word_rows' ⟨t.val, bwd_lt i t⟩) rfl

end Cert.Mla
-- ==== Proof.MlaFwd.lean ====
/-
  The forward call of the latent attention at one grid point: the blocks of keys before the queries' own, then their own with
  its mask, leave the output's rows and the logarithms of the rows' sums.
-/
module

public import proofs.«01_k».proof.Proof.MlaLoads

@[expose] public section

noncomputable section

namespace Cert.Mla

open Idealize.ShloMosaic hiding ix1 ix2 ix3 ix4 eq_ix1 eq_ix2 eq_ix3 eq_ix4
open ValueIdx Idealize.SL.Sem
open Sb (Mat up up_apply ext2 up_congr rows ld_all)
open MlaIdeal MlaIdeal.Gen

/-- Two small numbers compared as signed words. -/
theorem sle_ofNat {m n : ℕ} (hm : m < 2 ^ 31) (hn : n < 2 ^ 31) : (BitVec.ofNat 32 m).sle (BitVec.ofNat 32 n) = decide (m ≤ n) := by
  rw [BitVec.sle_eq_decide, BitVec.toInt_ofNat', BitVec.toInt_ofNat']
  congr 1
  rw [Int.bmod_eq_of_le (by omega) (by omega), Int.bmod_eq_of_le (by omega) (by omega)]
  exact propext Int.ofNat_le

/-- The mask of the diagonal block: no later keys. -/
theorem mask_at (r c : Fin 512) : (k1_pay22 : IVec S512x512 1) (ix2 r c) = if c.val ≤ r.val then 1#1 else 0#1 := by
  show BitVec.ofBool ((BitVec.ofNat 32 (0 * 512 + c.val)).sle (BitVec.ofNat 32 (0 * 512 + r.val))) = _
  rw [Nat.zero_mul, Nat.zero_add, Nat.zero_add, sle_ofNat (by omega) (by omega)]
  by_cases h : c.val ≤ r.val <;> simp [h]

/-- The constant of the mask stands for `-∞`. -/
theorem mask_bot : (Named.named κ "mask" 0xF149F2CA#32 : Ideal .f32) = (⊥ : EReal) :=
  IdealRules.named_const.ideal_named_scalar κ "mask" _ _ rfl

section Scores
variable (q k : Mat) (n m : ℕ)

/-- The scores of a block, whatever their mask. -/
def zB : Mat := fun i j => zM q k (512 * n + i) (512 * m + j)

theorem scores_eq : matmul dot_S512x256_S512x256_S512x512_1_1_0_0_n_n none (up 512 256 .bf16 (rows (512 * n) q)) (up 512 256 .bf16 (rows (512 * m) k))
    (constant S512x512 .f32 0x00000000#32) = up 512 512 .f32 (zB q k n m) := by
  rw [Sb.up_zero]
  refine (Sb.up_matmul_nt _ _ _ none).trans (up_congr fun i _ j _ => ?_)
  rw [zero_add]
  rfl

theorem pay6_eq (h : m < n) : k0_pay6 (up 512 256 .bf16 (rows (512 * n) q)) (up 512 256 .bf16 (rows (512 * m) k))
    = mk (fun i j => 512 * m + j ≤ 512 * n + i) (zB q k n m) := by
  unfold k0_pay6
  dsimp only
  rw [scores_eq]
  refine ext2 fun r c => ?_
  refine (if_pos ?_).symm
  have := c.isLt
  show 512 * m + c.val ≤ 512 * n + r.val
  omega

theorem pay18_eq : k0_pay18 (up 512 256 .bf16 (rows (512 * n) q)) (up 512 256 .bf16 (rows (512 * n) k))
    = mk (fun i j => 512 * n + j ≤ 512 * n + i) (zB q k n n) := by
  unfold k0_pay18
  dsimp only
  rw [scores_eq]
  refine ext2 fun r c => ?_
  show Scalar.select ((k1_pay22 : IVec S512x512 1) (ix2 r c)) (up 512 512 .f32 (zB q k n n) (ix2 r c)) (Named.named κ "mask" 0xF149F2CA#32) = _
  rw [mask_at, mask_bot]
  show _ = (if 512 * n + c.val ≤ 512 * n + r.val then ((zB q k n n r.val c.val : ℝ) : EReal) else ⊥)
  by_cases h : c.val ≤ r.val
  · rw [if_pos h, if_pos (by omega)]; rfl
  · rw [if_neg h, if_neg (by omega)]; rfl

end Scores

/-! ## The carried triple -/

variable (q k v : Mat) (n : ℕ)

/-- What is carried before the block `m` of keys: a maximum that may still be `-∞`, and the sums over the blocks before `m`
    divided by its exponential. -/
def FwdAt (m : ℕ) (s : FVec Ideal S512x1 .f32 × FVec Ideal S512x1 .f32 × FVec Ideal S512x128 .f32) : Prop :=
  ∃ (M : ℕ → EReal) (l a : Mat), s = (col M, up 512 1 .f32 l, up 512 128 .f32 a) ∧ ∀ i < 512, M i ≠ ⊤
    ∧ ex (M i) * l i 0 = nA q k m (512 * n + i) ∧ ∀ d, ex (M i) * a i d = aA q k v m (512 * n + i) d

theorem fwd_block (m : ℕ) (hm : m ≤ n) (s : FVec Ideal S512x1 .f32 × FVec Ideal S512x1 .f32 × FVec Ideal S512x128 .f32) (hs : FwdAt q k v n m s)
    (S : FVec Ideal S512x512 .f32) (hS : S = mk (fun i j => 512 * m + j ≤ 512 * n + i) (zB q k n m)) :
    ∃ (N : ℕ → ℝ) (l a : Mat), maxOp s.1 S = (up 512 1 .f32 fun i _ => N i) ∧ sumOp s.1 s.2.1 S = up 512 1 .f32 l
      ∧ accOp s.1 s.2.2 S (up 512 128 .bf16 (rows (512 * m) v)) = up 512 128 .f32 a
      ∧ ∀ i < 512, Real.exp (N i) * l i 0 = nA q k (m + 1) (512 * n + i) ∧ ∀ d, Real.exp (N i) * a i d = aA q k v (m + 1) (512 * n + i) d := by
  obtain ⟨M, l, a, rfl, h⟩ := hs
  subst hS
  obtain ⟨N, l', a', e1, e2, e3, e4, e5⟩ := step M (fun i j => 512 * m + j ≤ 512 * n + i) (zB q k n m) l a (rows (512 * m) v) (fun i hi => (h i hi).1)
    (fun i _ => ⟨0, by omega, by omega⟩)
  refine ⟨N, l', a', e1, e2, e3, fun i hi => ⟨?_, fun d => ?_⟩⟩
  · rw [e4, (h i hi).2.1, nA, nA, Sb.sum_grow]
    rfl
  · rw [e5, (h i hi).2.2, aA, aA, Sb.sum_grow]
    rfl

theorem fwd_grow (m : ℕ) (hm : m ≤ n) (s : FVec Ideal S512x1 .f32 × FVec Ideal S512x1 .f32 × FVec Ideal S512x128 .f32) (hs : FwdAt q k v n m s)
    (S : FVec Ideal S512x512 .f32) (hS : S = mk (fun i j => 512 * m + j ≤ 512 * n + i) (zB q k n m)) :
    FwdAt q k v n (m + 1) (maxOp s.1 S, sumOp s.1 s.2.1 S, accOp s.1 s.2.2 S (up 512 128 .bf16 (rows (512 * m) v))) := by
  obtain ⟨N, l, a, e1, e2, e3, h⟩ := fwd_block q k v n m hm s hs S hS
  refine ⟨fun i => (N i : EReal), l, a, Prod.ext e1 (Prod.ext e2 e3), fun i hi => ⟨EReal.coe_ne_top _, ?_, fun d => ?_⟩⟩
  · rw [ex_coe]; exact (h i hi).1
  · rw [ex_coe]; exact (h i hi).2 d

theorem fwd_start : FwdAt q k v n 0 (k0_pay3 (F := Ideal), k0_pay4 (F := Ideal), k0_pay5) := by
  refine ⟨fun _ => ⊥, fun _ _ => 0, fun _ _ => 0, Prod.ext ?_ (Prod.ext Sb.up_bzero Sb.up_bzero), fun i _ => ⟨bot_ne_top, ?_, fun d => ?_⟩⟩
  · exact ext2 fun r c => mask_bot
  · simp [nA]
  · simp [aA]

section
variable (c : Dev nD) (i : grid0.Coords) (a2 : Memref sig .tc .vmem S512x256 .bf16) (w2 : a2.IsWhole)
  (a3 : Memref sig .tc .vmem S4096x256 .bf16) (w3 : a3.IsWhole) (a4 : Memref sig .tc .vmem S4096x128 .bf16) (w4 : a4.IsWhole)
  (a5 : Memref sig .tc .vmem S512x128 .f32) (w5 : a5.IsWhole) (a6 : Memref sig .tc .vmem S1x512x1 .f32) (w6 : a6.IsWhole)

/-- What one trip of the loop makes of what it carries. -/
theorem fwd_trip (𝒱 : Variants) (bd : Option 𝒱.V) (A : FVec Ideal S512x256 .bf16)
    (X3 : BufTy.Contents (Elt Ideal) a3.view.ty) (X4 : BufTy.Contents (Elt Ideal) a4.view.ty) (t : Fin (k0_t1_loop i).trips)
    (s : FVec Ideal S512x1 .f32 × FVec Ideal S512x1 .f32 × FVec Ideal S512x128 .f32) (K : FVec Ideal S512x256 .bf16) (V : FVec Ideal S512x128 .bf16)
    (hK : View.ld (a3.view.read (Elt Ideal) X3) (Rect.unit (s := S4096x256) (k0_off1 i t) S512x256.size (k0_off1_inb i t)) = K)
    (hV : View.ld (a4.view.read (Elt Ideal) X4) (Rect.unit (s := S4096x128) (k0_off2 i t) S512x128.size (k0_off2_inb i t)) = V) :
    (trip_k0_t1 𝒱 c bd i a2 w2 a3 w3 a4 w4 a5 w5 a6 w6 A X3 X4 t).1 s
      = (maxOp s.1 (k0_pay6 A K), sumOp s.1 s.2.1 (k0_pay6 A K), accOp s.1 s.2.2 (k0_pay6 A K) V) := by
  subst hK hV
  unfold trip_k0_t1
  rfl

theorem fwd_loop (𝒱 : Variants) (bd : Option 𝒱.V) (hn : (i 1).val = n) (X3 : BufTy.Contents (Elt Ideal) a3.view.ty) (X4 : BufTy.Contents (Elt Ideal) a4.view.ty)
    (h3 : a3.view.read (Elt Ideal) X3 = up 4096 256 .bf16 k) (h4 : a4.view.read (Elt Ideal) X4 = up 4096 128 .bf16 v) (m : ℕ) (hm : m ≤ n) :
    FwdAt q k v n m (st_k0_t1 𝒱 c bd i a2 w2 a3 w3 a4 w4 a5 w5 a6 w6 (up 512 256 .bf16 (rows (512 * n) q)) X3 X4
        (k0_pay3 (F := Ideal), k0_pay4 (F := Ideal), k0_pay5) m) := by
  induction m with
  | zero => exact fwd_start q k v n
  | succ m ih =>
    have hlt : m < (k0_t1_loop i).trips := by rw [fwd_trips1, hn]; omega
    rw [show m + 1 = (⟨m, hlt⟩ : Fin (k0_t1_loop i).trips).val + 1 from rfl, st_k0_t1_succ]
    have e := fwd_trip c i a2 w2 a3 w3 a4 w4 a5 w5 a6 w6 𝒱 bd (up 512 256 .bf16 (rows (512 * n) q)) X3 X4 ⟨m, hlt⟩
      (st_k0_t1 𝒱 c bd i a2 w2 a3 w3 a4 w4 a5 w5 a6 w6 (up 512 256 .bf16 (rows (512 * n) q)) X3 X4
        (k0_pay3 (F := Ideal), k0_pay4 (F := Ideal), k0_pay5) m) _ _
      (ld_rows (fwd_off1 i ⟨m, hlt⟩) k _ h3 _) (ld_rows (fwd_off2 i ⟨m, hlt⟩) v _ h4 _)
    refine Eq.mpr (congrArg (FwdAt q k v n (m + 1)) e) ?_
    exact fwd_grow q k v n m (by omega) _ (ih (by omega)) _ (pay6_eq q k n m (by omega))

/-- What the two loops carry into the diagonal block. -/
def fwdRun (𝒱 : Variants) (bd : Option 𝒱.V) (A : Vec Ideal S512x256 .bf16) (X3 : BufTy.Contents (Elt Ideal) a3.view.ty) (X4 : BufTy.Contents (Elt Ideal) a4.view.ty) :
    FVec Ideal S512x1 .f32 × FVec Ideal S512x1 .f32 × FVec Ideal S512x128 .f32 :=
  let r := st_k0_t1 𝒱 c bd i a2 w2 a3 w3 a4 w4 a5 w5 a6 w6 A X3 X4 (k0_pay3 (F := Ideal), k0_pay4 (F := Ideal), k0_pay5) (k0_t1_loop i).trips
  st_k0_t2 𝒱 c bd i a2 w2 a3 w3 a4 w4 a5 w5 a6 w6 A X3 X4 (r.1, r.2.1, r.2.2) (k0_t2_loop i).trips

theorem fwdRun_at (𝒱 : Variants) (bd : Option 𝒱.V) (hn : (i 1).val = n) (X3 : BufTy.Contents (Elt Ideal) a3.view.ty) (X4 : BufTy.Contents (Elt Ideal) a4.view.ty)
    (h3 : a3.view.read (Elt Ideal) X3 = up 4096 256 .bf16 k) (h4 : a4.view.read (Elt Ideal) X4 = up 4096 128 .bf16 v) :
    FwdAt q k v n n (fwdRun c i a2 w2 a3 w3 a4 w4 a5 w5 a6 w6 𝒱 bd (up 512 256 .bf16 (rows (512 * n) q)) X3 X4) := by
  unfold fwdRun
  dsimp only
  rw [fwd_trips2, fwd_trips1, hn]
  exact fwd_loop q k v n c i a2 w2 a3 w3 a4 w4 a5 w5 a6 w6 𝒱 bd hn X3 X4 h3 h4 n le_rfl

/-- The logarithms of the rows' sums, of the queries from row `o` on. -/
def lseM (o : ℕ) : Mat := fun i _ => Real.log (nM q k (o + i))

section Out
variable (hn : (i 1).val = n) (x0 : Vec Ideal S512x256 .bf16) (x1 : Vec Ideal S4096x256 .bf16) (x2 : Vec Ideal S4096x128 .bf16)
    (h0 : x0 = up 512 256 .bf16 (rows (512 * n) q)) (h1 : x1 = up 4096 256 .bf16 k) (h2 : x2 = up 4096 128 .bf16 v)

include hn h0 h1 h2 in
/-- The output's block at one grid point. -/
theorem fwd_out : out0_A_3 c i a2 w2 a3 w3 a4 w4 a5 w5 a6 w6 x0 x1 x2 = up 512 128 .f32 (rows (512 * n) (yM q k v)) := by
  have h8 : n < 8 := hn ▸ (i 1).isLt
  have e : out0_A_3 c i a2 w2 a3 w3 a4 w4 a5 w5 a6 w6 x0 x1 x2
      = (let A : Vec Ideal S512x256 .bf16 := View.ld (a2.view.read (Elt Ideal) (w2.unread x0)) (Rect.unit ![0, 0] S512x256.size inb_S512x256_S512x256_0_0)
         let K : Vec Ideal S512x256 .bf16 := View.ld (a3.view.read (Elt Ideal) (w3.unread x1)) (Rect.unit (s := S4096x256) (k0_off5 i) S512x256.size (k0_off5_inb i))
         let V : Vec Ideal S512x128 .bf16 := View.ld (a4.view.read (Elt Ideal) (w4.unread x2)) (Rect.unit (s := S4096x128) (k0_off6 i) S512x128.size (k0_off6_inb i))
         let s := fwdRun c i a2 w2 a3 w3 a4 w4 a5 w5 a6 w6 Variants.none none A (w3.unread x1) (w4.unread x2)
         divf (accOp s.1 s.2.2 (k0_pay18 A K) V) (broadcastTo S512x128 (sumOp s.1 s.2.1 (k0_pay18 A K)) broadcasts_S512x1_S512x128)) := by
    unfold out0_A_3 kernelRun0_A
    dsimp only
    exact View.read_writes_full _ _ _ _ []
  rw [e]
  dsimp only
  have h3 := (w3.read_unread x1).trans h1
  have h4 := (w4.read_unread x2).trans h2
  rw [w2.read_unread, ld_all, h0, ld_rows ((fwd_off5 i).trans (by rw [hn])) k _ h3 _, ld_rows ((fwd_off6 i).trans (by rw [hn])) v _ h4 _]
  obtain ⟨N, l, a, -, e2, e3, hh⟩ := fwd_block q k v n n le_rfl _ (fwdRun_at q k v n c i a2 w2 a3 w3 a4 w4 a5 w5 a6 w6 Variants.none none hn _ _ h3 h4)
    _ (pay18_eq q k n)
  rw [e2, e3, Sb.up_spread]
  refine ext2 fun r d => ?_
  obtain ⟨hl, ha⟩ := hh r.val r.isLt
  rw [nA_all q k n _ h8 r.isLt] at hl
  have hp := nM_pos q k (512 * n + r.val)
  have hE := Real.exp_pos (N r.val)
  have hl0 : l r.val 0 ≠ 0 := fun h => by rw [h, mul_zero] at hl; exact hp.ne hl
  rw [divf_apply, up_apply, up_apply, up_apply, Ideal.div_coe hl0, ← EReal.coe_mul]
  refine congrArg _ ?_
  show a r.val d.val * (1 / l r.val 0) = yM q k v (512 * n + r.val) d.val
  rw [← aA_all q k v n _ _ h8 r.isLt, ← ha, ← hl]
  field_simp

include hn h0 h1 h2 in
/-- The block of logarithms at one grid point. -/
theorem fwd_lse : out0_A_4 c i a2 w2 a3 w3 a4 w4 a5 w5 a6 w6 x0 x1 x2
    = shapeCast S1x512x1 (up 512 1 .f32 (lseM q k (512 * n)) : FVec Ideal S512x1 .f32) shapeCasts_S512x1_S1x512x1 := by
  have h8 : n < 8 := hn ▸ (i 1).isLt
  have e : out0_A_4 c i a2 w2 a3 w3 a4 w4 a5 w5 a6 w6 x0 x1 x2
      = (let A : Vec Ideal S512x256 .bf16 := View.ld (a2.view.read (Elt Ideal) (w2.unread x0)) (Rect.unit ![0, 0] S512x256.size inb_S512x256_S512x256_0_0)
         let K : Vec Ideal S512x256 .bf16 := View.ld (a3.view.read (Elt Ideal) (w3.unread x1)) (Rect.unit (s := S4096x256) (k0_off5 i) S512x256.size (k0_off5_inb i))
         let s := fwdRun c i a2 w2 a3 w3 a4 w4 a5 w5 a6 w6 Variants.none none A (w3.unread x1) (w4.unread x2)
         shapeCast S1x512x1 (addf (maxOp s.1 (k0_pay18 A K)) (log (sumOp s.1 s.2.1 (k0_pay18 A K)))) shapeCasts_S512x1_S1x512x1) := by
    unfold out0_A_4 kernelRun0_A
    dsimp only
    exact View.read_writes_full _ _ _ _ []
  rw [e]
  dsimp only
  have h3 := (w3.read_unread x1).trans h1
  have h4 := (w4.read_unread x2).trans h2
  rw [w2.read_unread, ld_all, h0, ld_rows ((fwd_off5 i).trans (by rw [hn])) k _ h3 _]
  obtain ⟨N, l, a, e1, e2, -, hh⟩ := fwd_block q k v n n le_rfl _ (fwdRun_at q k v n c i a2 w2 a3 w3 a4 w4 a5 w5 a6 w6 Variants.none none hn _ _ h3 h4)
    _ (pay18_eq q k n)
  rw [e1, e2]
  refine congrArg (fun x : FVec Ideal S512x1 .f32 => shapeCast S1x512x1 x shapeCasts_S512x1_S1x512x1) (ext2 fun r d => ?_)
  obtain rfl : d = 0 := Subsingleton.elim _ _
  obtain ⟨hl, -⟩ := hh r.val r.isLt
  rw [nA_all q k n _ h8 r.isLt] at hl
  have hp := nM_pos q k (512 * n + r.val)
  have hE := Real.exp_pos (N r.val)
  have hl0 : 0 < l r.val 0 := by
    rw [← hl] at hp
    exact (mul_pos_iff_of_pos_left hE).1 hp
  show ((N r.val : ℝ) : EReal) + (if l r.val 0 ≤ 0 then (⊥ : EReal) else ((Real.log (l r.val 0) : ℝ) : EReal)) = _
  rw [if_neg (not_le.2 hl0), ← EReal.coe_add]
  refine congrArg _ ?_
  show _ = Real.log (nM q k (512 * n + r.val))
  rw [← hl, Real.log_mul hE.ne' hl0.ne', Real.log_exp]

end Out

end

end Cert.Mla
-- ==== Proof.MlaBwd.lean ====
/-
  The backward call's loop at one grid point: it runs over the blocks of keys before the queries' own, carries the gradient of
  the queries and adds to the rows of the gradients of the keys and the values.
-/
module

public import proofs.«01_k».proof.Proof.MlaFwd

@[expose] public section

noncomputable section

namespace Cert.Mla

open Idealize.ShloMosaic hiding ix1 ix2 ix3 ix4 eq_ix1 eq_ix2 eq_ix3 eq_ix4
open ValueIdx Idealize.SL.Sem
open Sb (Mat up up_apply ext2 up_congr rows putRows ld_all)
open MlaIdeal MlaIdeal.Gen

/-! ## Rows that grow block by block -/

/-- Rows before the block `m` have met the queries of block `n`, the others have not. -/
def partAt (T : ℕ → Mat) (n m : ℕ) : Mat := fun s d => if s < 512 * m then T (n + 1) s d else T n s d

theorem partAt_zero (T : ℕ → Mat) (n : ℕ) : partAt T n 0 = T n := funext fun s => funext fun d => if_neg (by omega)

theorem partAt_last (T : ℕ → Mat) (n : ℕ) (h : ∀ s d, 512 * (n + 1) ≤ s → T (n + 1) s d = T n s d) : partAt T n (n + 1) = T (n + 1) := by
  refine funext fun s => funext fun d => ?_
  unfold partAt
  split_ifs with hs
  · rfl
  · exact (h s d (by omega)).symm

theorem partAt_put (T : ℕ → Mat) (n m : ℕ) (C : Mat) (h : ∀ j d, T (n + 1) (512 * m + j) d = T n (512 * m + j) d + C j d) :
    putRows (512 * m) (fun j d => rows (512 * m) (partAt T n m) j d + C j d) (partAt T n m) = partAt T n (m + 1) := by
  refine funext fun s => funext fun d => ?_
  unfold putRows
  split_ifs with hs
  · obtain ⟨j, rfl⟩ : ∃ j, s = 512 * m + j := ⟨s - 512 * m, by omega⟩
    rw [Nat.add_sub_cancel_left]
    unfold rows partAt
    dsimp only
    rw [if_neg (by omega), if_pos (by omega), h]
  · unfold partAt
    by_cases h' : s < 512 * m
    · rw [if_pos h', if_pos (by omega)]
    · rw [if_neg h', if_neg (by omega)]

/-! ## Products of columns -/

theorem mm_tn256 {φ ψ : FTy} (x y w : Mat) :
    matmul dot_S512x512_S512x256_S512x256_0_0_1_1_n_n none (up 512 512 φ x) (up 512 256 ψ y) (up 512 256 .f32 w)
      = up 512 256 .f32 fun i j => w i j + ∑ k ∈ Finset.range 512, x k i * y k j :=
  ext2 fun r c => by
    show FloatOps.matmul dot_S512x512_S512x256_S512x256_0_0_1_1_n_n none (up 512 512 φ x) (up 512 256 ψ y) (up 512 256 .f32 w) (ix2 r c) = _
    rw [Ideal.matmul_apply, up_apply, up_apply, EReal.coe_add]
    refine congrArg _ ?_
    have e := Sb.sum_coe_mul (n := 512) (fun k => x k r.val) (fun k => y k c.val)
    rw [← e, ← Equiv.sum_comp (contrEquiv1 dot_S512x512_S512x256_S512x256_0_0_1_1_n_n 512 rfl rfl).symm]
    refine Finset.sum_congr rfl fun k _ => ?_
    have hk := contrEquiv1_symm_val dot_S512x512_S512x256_S512x256_0_0_1_1_n_n 512 rfl rfl k
    refine congrArg₂ (· * ·) ?_ ?_
    · show ((x _ _ : ℝ) : EReal) = _
      exact congrArg (fun n => ((x n r.val : ℝ) : EReal)) hk
    · show ((y _ _ : ℝ) : EReal) = _
      exact congrArg (fun n => ((y n c.val : ℝ) : EReal)) hk

theorem mm_tn128 {φ ψ : FTy} (x y w : Mat) :
    matmul dot_S512x512_S512x128_S512x128_0_0_1_1_n_n none (up 512 512 φ x) (up 512 128 ψ y) (up 512 128 .f32 w)
      = up 512 128 .f32 fun i j => w i j + ∑ k ∈ Finset.range 512, x k i * y k j := Sb.up_matmul_tn x y w none
theorem mm_nt128 {φ ψ : FTy} (x y w : Mat) :
    matmul dot_S512x128_S512x128_S512x512_1_1_0_0_n_n none (up 512 128 φ x) (up 512 128 ψ y) (up 512 512 .f32 w)
      = up 512 512 .f32 fun i j => w i j + ∑ k ∈ Finset.range 128, x i k * y j k := Sb.up_matmul_nt x y w none
theorem mm_256 {φ ψ : FTy} (x y w : Mat) :
    matmul dot_S512x512_S512x256_S512x256_1_0_0_1_n_n none (up 512 512 φ x) (up 512 256 ψ y) (up 512 256 .f32 w)
      = up 512 256 .f32 fun i j => w i j + ∑ k ∈ Finset.range 512, x i k * y k j := Sb.up_matmul x y w none

/-- The sums along the rows of a block of 128 columns, kept as a column. -/
def rowSum128 (x : FVec Ideal S512x128 .f32) : FVec Ideal S512x1 .f32 :=
  shapeCast S512x1 (multiReduction .add [1] S512 x 0x00000000#32 reduces_S512x128_S512 (.inl rfl) rfl) shapeCasts_S512_S512x1
theorem rowSum128_eq (x : Mat) : rowSum128 (up 512 128 .f32 x) = up 512 1 .f32 fun i _ => ∑ j ∈ Finset.range 128, x i j :=
  Sb.up_rowSum x _ _ _ _ _

/-! ## One block -/

section Block
variable (q k v dy : Mat) (n m : ℕ)

/-- The weights and the scores' gradients of a block. -/
def pB : Mat := fun i j => pM q k (512 * n + i) (512 * m + j)
def dsB : Mat := fun i j => dsM q k v dy (512 * n + i) (512 * m + j)
/-- What a block adds to the gradients of the keys, the values and the queries. -/
def dkC : Mat := fun j d => ∑ i ∈ Finset.range 512, dsB q k v dy n m i j * rows (512 * n) q i d
def dvC : Mat := fun j d => ∑ i ∈ Finset.range 512, pB q k n m i j * rows (512 * n) dy i d
def dqC : Mat := fun i d => ∑ j ∈ Finset.range 512, dsB q k v dy n m i j * rows (512 * m) k j d

theorem dk_grow (j d : ℕ) : dkA q k v dy (n + 1) (512 * m + j) d = dkA q k v dy n (512 * m + j) d + dkC q k v dy n m j d := Sb.sum_grow _ n
theorem dv_grow (j d : ℕ) : dvA q k dy (n + 1) (512 * m + j) d = dvA q k dy n (512 * m + j) d + dvC q k dy n m j d := Sb.sum_grow _ n
theorem dq_grow (i d : ℕ) : dqA q k v dy (m + 1) (512 * n + i) d = dqA q k v dy m (512 * n + i) d + dqC q k v dy n m i d := Sb.sum_grow _ m

theorem dk_last (s d : ℕ) (h : 512 * (n + 1) ≤ s) : dkA q k v dy (n + 1) s d = dkA q k v dy n s d := by
  unfold dkA
  rw [Sb.sum_grow, Finset.sum_eq_zero (s := Finset.range 512) fun i hi => ?_, add_zero]
  rw [dsM_none q k v dy (by have := Finset.mem_range.mp hi; omega), zero_mul]
theorem dv_last (s d : ℕ) (h : 512 * (n + 1) ≤ s) : dvA q k dy (n + 1) s d = dvA q k dy n s d := by
  unfold dvA
  rw [Sb.sum_grow, Finset.sum_eq_zero (s := Finset.range 512) fun i hi => ?_, add_zero]
  rw [pM_none q k (by have := Finset.mem_range.mp hi; omega), zero_mul]

theorem exp_score (i j : ℕ) (h : 512 * m + j ≤ 512 * n + i) : Real.exp (zB q k n m i j - lseM q k (512 * n) i 0) = pB q k n m i j := by
  unfold zB lseM pB pM wM
  rw [if_pos h, Real.exp_sub, Real.exp_log (nM_pos q k _)]

/-- The blocks that are read: queries, keys, values and gradients of the output. -/
abbrev qU : FVec Ideal S512x256 .bf16 := up 512 256 .bf16 (rows (512 * n) q)
abbrev vU : FVec Ideal S512x128 .bf16 := up 512 128 .bf16 (rows (512 * n) v)
abbrev yU : FVec Ideal S512x128 .f32 := up 512 128 .f32 (rows (512 * n) (yM q k v))

variable (R : Vec Ideal S1x512x1 .f32) (hR : k1_pay9 R = up 512 1 .f32 (lseM q k (512 * n)))

include hR in
theorem pay11_eq (h : m < n) : k1_pay11 (qU q n) R (qU k m) = up 512 512 .f32 (pB q k n m) := by
  unfold k1_pay11
  dsimp only
  rw [hR, scores_eq, Sb.up_spread, Sb.up_sub, Sb.up_exp]
  exact up_congr fun i _ j hj => exp_score q k n m i j (by omega)

include hR in
theorem pay1_eq : k1_pay1 (k1_pay21 (qU q n) R (qU k n)) k1_pay22 k1_pay23 = up 512 512 .f32 (pB q k n n) := by
  unfold k1_pay1 k1_pay21 k1_pay23
  dsimp only
  rw [hR, scores_eq, Sb.up_spread, Sb.up_sub, Sb.up_exp, Sb.up_bzero, Sb.up_select _ (fun i j => j ≤ i) _ _ mask_at]
  refine up_congr fun i _ j _ => ?_
  split_ifs with h
  · exact exp_score q k n n i j (by omega)
  · exact (pM_none q k (by omega)).symm

theorem pay8_eq : k1_pay8 (vU dy n) (yU q k v n) = up 512 1 .f32 fun i _ => deltaM q k v dy (512 * n + i) := by
  have e : k1_pay8 (vU dy n) (yU q k v n) = rowSum128 (mulf (extf .f32 (vU dy n) bitsLt_bf16_f32) (shapeCast S512x128 (yU q k v n) shapeCasts_S512x128_S512x128)) := rfl
  rw [e, Sb.up_extf, Sb.up_cast, Sb.up_mul, rowSum128_eq]
  rfl

/-- The gradients of a block of scores from its weights. -/
theorem ds_eq : truncf .bf16 (mulf (up 512 512 .f32 (pB q k n m))
      (subf (matmul dot_S512x128_S512x128_S512x512_1_1_0_0_n_n none (vU dy n) (vU v m) (constant S512x512 .f32 0x00000000#32))
        (broadcastTo S512x512 (k1_pay8 (vU dy n) (yU q k v n)) broadcasts_S512x1_S512x512))) bitsLt_bf16_f32 = up 512 512 .bf16 (dsB q k v dy n m) := by
  rw [pay8_eq, Sb.up_zero, mm_nt128, Sb.up_spread, Sb.up_sub, Sb.up_mul, Sb.up_truncf]
  refine up_congr fun i _ j _ => ?_
  rw [zero_add]
  rfl

include hR in
theorem pay12_eq (h : m < n) : k1_pay12 (qU q n) (vU dy n) (yU q k v n) R (qU k m) (vU v m) = up 512 512 .bf16 (dsB q k v dy n m) := by
  unfold k1_pay12
  dsimp only
  rw [pay11_eq q k n m R hR h]
  exact ds_eq q k v dy n m

include hR in
theorem pay2_eq : k1_pay2 (vU dy n) (k1_pay8 (vU dy n) (yU q k v n)) (vU v n) (k1_pay21 (qU q n) R (qU k n)) k1_pay22 k1_pay23
    = up 512 512 .bf16 (dsB q k v dy n n) := by
  unfold k1_pay2
  dsimp only
  rw [pay1_eq q k n R hR]
  exact ds_eq q k v dy n n

/-- What is stored for the keys and the values, and what is carried for the queries. -/
theorem dk_ops (g : Mat) : addf (shapeCast S512x256 (up 512 256 .f32 g : FVec Ideal S512x256 .f32) shapeCasts_S512x256_S512x256)
      (matmul dot_S512x512_S512x256_S512x256_0_0_1_1_n_n none (up 512 512 .bf16 (dsB q k v dy n m)) (qU q n) (constant S512x256 .f32 0x00000000#32))
    = up 512 256 .f32 fun j d => g j d + dkC q k v dy n m j d := by
  rw [Sb.up_cast, Sb.up_zero, mm_tn256, Sb.up_add]
  exact up_congr fun j _ d _ => by rw [zero_add]; rfl
theorem dv_ops (g : Mat) : addf (shapeCast S512x128 (up 512 128 .f32 g : FVec Ideal S512x128 .f32) shapeCasts_S512x128_S512x128)
      (matmul dot_S512x512_S512x128_S512x128_0_0_1_1_n_n none (truncf .bf16 (up 512 512 .f32 (pB q k n m)) bitsLt_bf16_f32) (vU dy n) (constant S512x128 .f32 0x00000000#32))
    = up 512 128 .f32 fun j d => g j d + dvC q k dy n m j d := by
  rw [Sb.up_cast, Sb.up_zero, Sb.up_truncf, mm_tn128, Sb.up_add]
  exact up_congr fun j _ d _ => by rw [zero_add]; rfl
theorem dq_ops : addf (up 512 256 .f32 (rows (512 * n) (dqA q k v dy m)))
      (matmul dot_S512x512_S512x256_S512x256_1_0_0_1_n_n none (up 512 512 .bf16 (dsB q k v dy n m)) (qU k m) (constant S512x256 .f32 0x00000000#32))
    = up 512 256 .f32 (rows (512 * n) (dqA q k v dy (m + 1))) := by
  rw [Sb.up_zero, mm_256, Sb.up_add]
  refine up_congr fun i _ d _ => ?_
  rw [zero_add]
  exact (dq_grow q k v dy n m i d).symm

end Block

/-! ## The loop -/

section
variable (c : Dev nD) (i : grid1.Coords) (a2 : Memref sig .tc .vmem S512x256 .bf16) (w2 : a2.IsWhole)
  (a3 : Memref sig .tc .vmem S4096x256 .bf16) (w3 : a3.IsWhole) (a4 : Memref sig .tc .vmem S4096x128 .bf16) (w4 : a4.IsWhole)
  (a5 : Memref sig .tc .vmem S512x128 .f32) (w5 : a5.IsWhole) (a6 : Memref sig .tc .vmem S512x128 .bf16) (w6 : a6.IsWhole)
  (a7 : Memref sig .tc .vmem S1x512x1 .f32) (w7 : a7.IsWhole) (a8 : Memref sig .tc .vmem S512x256 .f32) (w8 : a8.IsWhole)
  (a9 : Memref sig .tc .vmem S4096x256 .f32) (w9 : a9.IsWhole) (a10 : Memref sig .tc .vmem S4096x128 .f32) (w10 : a10.IsWhole)

section Trip
variable (𝒱 : Variants) (bd : Option 𝒱.V) (A : Vec Ideal S512x256 .bf16) (D : Vec Ideal S512x128 .bf16) (O : Vec Ideal S512x128 .f32) (R : Vec Ideal S1x512x1 .f32)
  (X3 : BufTy.Contents (Elt Ideal) a3.view.ty) (X4 : BufTy.Contents (Elt Ideal) a4.view.ty) (t : Fin (k1_t1_loop i).trips)
  (acc : FVec Ideal S512x256 .f32) (f9 : BufTy.Contents (Elt Ideal) a9.view.ty) (f10 : BufTy.Contents (Elt Ideal) a10.view.ty)

/-- The blocks of keys and of values that a trip loads, and the rows of the two gradients that it adds to. -/
abbrev kT : Vec Ideal S512x256 .bf16 := View.ld (a3.view.read (Elt Ideal) X3) (Rect.unit (s := S4096x256) (k1_off1 i t) S512x256.size (k1_off1_inb i t))
abbrev vT : Vec Ideal S512x128 .bf16 := View.ld (a4.view.read (Elt Ideal) X4) (Rect.unit (s := S4096x128) (k1_off2 i t) S512x128.size (k1_off2_inb i t))
abbrev gkT : Vec Ideal S512x256 .f32 := View.ld (a9.view.read (Elt Ideal) f9) (Rect.unit (s := S4096x256) (k1_off1 i t) S512x256.size (k1_off1_inb i t))
abbrev gvT : Vec Ideal S512x128 .f32 := View.ld (a10.view.read (Elt Ideal) f10) (Rect.unit (s := S4096x128) (k1_off2 i t) S512x128.size (k1_off2_inb i t))

theorem bwd_trip_acc :
    (trip_k1_t1 𝒱 c bd i a2 w2 a3 w3 a4 w4 a5 w5 a6 w6 a7 w7 a8 w8 a9 w9 a10 w10 A D O R X3 X4 t).1 acc f9 f10
      = k1_pay15 A D O R acc (kT i a3 X3 t) (vT i a4 X4 t) := by
  unfold trip_k1_t1
  rfl
theorem bwd_trip_dk :
    (trip_k1_t1 𝒱 c bd i a2 w2 a3 w3 a4 w4 a5 w5 a6 w6 a7 w7 a8 w8 a9 w9 a10 w10 A D O R X3 X4 t).2.1 acc f9 f10
      = [⟨Rect.unit (s := S4096x256) (k1_off1 i t) S512x256.size (k1_off1_inb i t), k1_pay13 A D O R (kT i a3 X3 t) (vT i a4 X4 t) (gkT i a9 t f9)⟩] := by
  unfold trip_k1_t1
  rfl
theorem bwd_trip_dv :
    (trip_k1_t1 𝒱 c bd i a2 w2 a3 w3 a4 w4 a5 w5 a6 w6 a7 w7 a8 w8 a9 w9 a10 w10 A D O R X3 X4 t).2.2.1 acc f9 f10
      = [⟨Rect.unit (s := S4096x128) (k1_off2 i t) S512x128.size (k1_off2_inb i t), k1_pay14 A D R (kT i a3 X3 t) (gvT i a10 t f10)⟩] := by
  unfold trip_k1_t1
  rfl

end Trip

variable (q k v dy : Mat) (n : ℕ)

/-- What the loop carries, and what the two gradients' buffers hold, before the trip that meets block `m`. -/
structure BwdAt (G9 : BufTy.Contents (Elt Ideal) a9.view.ty) (G10 : BufTy.Contents (Elt Ideal) a10.view.ty) (m : ℕ)
    (st : FVec Ideal S512x256 .f32 × List (View.Piece (Elt Ideal) S4096x256 .f32) × List (View.Piece (Elt Ideal) S4096x128 .f32)) : Prop where
  dq : st.1 = up 512 256 .f32 (rows (512 * n) (dqA q k v dy m))
  dk : a9.view.read (Elt Ideal) (a9.view.writes (Elt Ideal) G9 st.2.1) = up 4096 256 .f32 (partAt (dkA q k v dy) n m)
  dv : a10.view.read (Elt Ideal) (a10.view.writes (Elt Ideal) G10 st.2.2) = up 4096 128 .f32 (partAt (dvA q k dy) n m)

variable (𝒱 : Variants) (bd : Option 𝒱.V) (hn : (i 1).val = n) (X3 : BufTy.Contents (Elt Ideal) a3.view.ty) (X4 : BufTy.Contents (Elt Ideal) a4.view.ty)
  (h3 : a3.view.read (Elt Ideal) X3 = up 4096 256 .bf16 k) (h4 : a4.view.read (Elt Ideal) X4 = up 4096 128 .bf16 v)
  (A : Vec Ideal S512x256 .bf16) (D : Vec Ideal S512x128 .bf16) (O : Vec Ideal S512x128 .f32) (R : Vec Ideal S1x512x1 .f32)
  (hA : A = qU q n) (hD : D = vU dy n) (hO : O = yU q k v n) (hR : k1_pay9 R = up 512 1 .f32 (lseM q k (512 * n)))
  (G9 : BufTy.Contents (Elt Ideal) a9.view.ty) (G10 : BufTy.Contents (Elt Ideal) a10.view.ty)

include hn h3 h4 hA hD hO hR in
theorem bwd_loop (hG9 : a9.view.read (Elt Ideal) G9 = up 4096 256 .f32 (dkA q k v dy n)) (hG10 : a10.view.read (Elt Ideal) G10 = up 4096 128 .f32 (dvA q k dy n)) (m : ℕ) (hm : m ≤ n) :
    BwdAt a9 a10 q k v dy n G9 G10 m
      (st_k1_t1 𝒱 c bd i a2 w2 a3 w3 a4 w4 a5 w5 a6 w6 a7 w7 a8 w8 a9 w9 a10 w10 A D O R X3 X4 G9 G10 k1_pay10 m) := by
  induction m with
  | zero =>
    refine ⟨?_, by rw [partAt_zero]; exact hG9, by rw [partAt_zero]; exact hG10⟩
    refine Sb.up_bzero.trans (up_congr fun i _ d _ => ?_)
    simp [rows, dqA]
  | succ m ih =>
    have hlt : m < (k1_t1_loop i).trips := by rw [bwd_trips1, hn]; omega
    obtain ⟨i1, i2, i3⟩ := ih (by omega)
    rw [show m + 1 = (⟨m, hlt⟩ : Fin (k1_t1_loop i).trips).val + 1 from rfl, st_k1_t1_succ]
    dsimp only
    generalize st_k1_t1 𝒱 c bd i a2 w2 a3 w3 a4 w4 a5 w5 a6 w6 a7 w7 a8 w8 a9 w9 a10 w10 A D O R X3 X4 G9 G10 k1_pay10 m = st at i1 i2 i3 ⊢
    have ok : k1_off1 i ⟨m, hlt⟩ = ![512 * m, 0] := bwd_off1 i ⟨m, hlt⟩
    have ov : k1_off2 i ⟨m, hlt⟩ = ![512 * m, 0] := bwd_off2 i ⟨m, hlt⟩
    have ek : kT i a3 X3 ⟨m, hlt⟩ = qU k m := ld_rows ok k _ h3 _
    have ev : vT i a4 X4 ⟨m, hlt⟩ = vU v m := ld_rows ov v _ h4 _
    have mn : m < n := by omega
    subst hA hD hO
    refine ⟨?_, ?_, ?_⟩
    · refine (bwd_trip_acc ..).trans ?_
      rw [ek, ev, i1]
      unfold k1_pay15
      dsimp only
      rw [pay12_eq q k v dy n m R hR mn]
      exact dq_ops q k v dy n m
    · dsimp only
      rw [bwd_trip_dk, List.singleton_append, ← partAt_put (dkA q k v dy) n m (dkC q k v dy n m) (dk_grow q k v dy n m)]
      refine read_put a9.view G9 _ _ ok _ _ _ _ i2 _ ?_
      rw [ek, ev, show gkT i a9 ⟨m, hlt⟩ _ = _ from ld_rows' ok _ _ i2 _]
      unfold k1_pay13
      dsimp only
      rw [pay12_eq q k v dy n m R hR mn]
      exact dk_ops q k v dy n m _
    · dsimp only
      rw [bwd_trip_dv, List.singleton_append, ← partAt_put (dvA q k dy) n m (dvC q k dy n m) (dv_grow q k dy n m)]
      refine read_put a10.view G10 _ _ ov _ _ _ _ i3 _ ?_
      rw [ek, show gvT i a10 ⟨m, hlt⟩ _ = _ from ld_rows' ov _ _ i3 _]
      unfold k1_pay14
      dsimp only
      rw [pay11_eq q k n m R hR mn]
      exact dv_ops q k dy n m _

end

end Cert.Mla
-- ==== Proof.MlaBwdOut.lean ====
/-
  The backward call at one grid point, after its diagonal block: the rows of the queries' gradient, and the gradients of the
  keys and the values with the query block added. The first point of a head starts both from zero.
-/
module

public import proofs.«01_k».proof.Proof.MlaBwd

@[expose] public section

noncomputable section

namespace Cert.Mla

open Idealize.ShloMosaic
open ValueIdx Idealize.SL.Sem
open Sb (Mat up up_apply ext2 up_congr rows putRows ld_all)
open MlaIdeal MlaIdeal.Gen

section Pieces
variable (i : grid1.Coords) (A : Vec Ideal S512x256 .bf16) (D : Vec Ideal S512x128 .bf16) (O : Vec Ideal S512x128 .f32) (R : Vec Ideal S1x512x1 .f32)
  (K : Vec Ideal S4096x256 .bf16) (V : Vec Ideal S4096x128 .bf16) (a : FVec Ideal S512x256 .f32)

/-- The diagonal block's rows of a buffer of the keys' or of the values' width. -/
abbrev dgK {e : EltTy} (X : Vec Ideal S4096x256 e) : Vec Ideal S512x256 e := View.ld X (Rect.unit (s := S4096x256) (k1_off5 i) S512x256.size (k1_off5_inb i))
abbrev dgV {e : EltTy} (X : Vec Ideal S4096x128 e) : Vec Ideal S512x128 e := View.ld X (Rect.unit (s := S4096x128) (k1_off6 i) S512x128.size (k1_off6_inb i))

/-- What is stored for the keys, the values and the queries. -/
def dkPay (g : Vec Ideal S512x256 .f32) : FVec Ideal S512x256 .f32 :=
  k1_pay3 A D (k1_pay8 D O) (dgV i V) (k1_pay21 A R (dgK i K)) k1_pay22 k1_pay23 g
def dvPay (g : Vec Ideal S512x128 .f32) : FVec Ideal S512x128 .f32 := k1_pay4 D (k1_pay21 A R (dgK i K)) k1_pay22 k1_pay23 g
def dqPay : FVec Ideal S512x256 .f32 :=
  k1_pay5 D (k1_pay8 D O) a (dgK i K) (dgV i V) (k1_pay21 A R (dgK i K)) k1_pay22 k1_pay23

abbrev putK (w : FVec Ideal S512x256 .f32) : View.Piece (Elt Ideal) S4096x256 .f32 := ⟨Rect.unit (s := S4096x256) (k1_off5 i) S512x256.size (k1_off5_inb i), w⟩
abbrev putV (w : FVec Ideal S512x128 .f32) : View.Piece (Elt Ideal) S4096x128 .f32 := ⟨Rect.unit (s := S4096x128) (k1_off6 i) S512x128.size (k1_off6_inb i), w⟩

variable (q k v dy : Mat) (n : ℕ) (hn : (i 1).val = n) (hA : A = qU q n) (hD : D = vU dy n) (hO : O = yU q k v n)
  (hR : k1_pay9 R = up 512 1 .f32 (lseM q k (512 * n))) (hK : K = up 4096 256 .bf16 k) (hV : V = up 4096 128 .bf16 v)
  (ha : a = up 512 256 .f32 (rows (512 * n) (dqA q k v dy n)))

include hn hA hD hO hR hK hV in
theorem dkPay_eq (g : Mat) : dkPay i A D O R K V (up 512 256 .f32 g) = up 512 256 .f32 fun j d => g j d + dkC q k v dy n n j d := by
  have ok : k1_off5 i = ![512 * n, 0] := by rw [bwd_off5, hn]
  have ov : k1_off6 i = ![512 * n, 0] := by rw [bwd_off6, hn]
  unfold dkPay
  rw [show dgK i K = qU k n from ld_rows ok k K hK _, show dgV i V = vU v n from ld_rows ov v V hV _]
  subst hA hD hO
  unfold k1_pay3
  dsimp only
  rw [pay2_eq q k v dy n R hR]
  exact dk_ops q k v dy n n g

include hn hA hD hR hK in
theorem dvPay_eq (g : Mat) : dvPay i A D R K (up 512 128 .f32 g) = up 512 128 .f32 fun j d => g j d + dvC q k dy n n j d := by
  have ok : k1_off5 i = ![512 * n, 0] := by rw [bwd_off5, hn]
  unfold dvPay
  rw [show dgK i K = qU k n from ld_rows ok k K hK _]
  subst hA hD
  unfold k1_pay4
  dsimp only
  rw [pay1_eq q k n R hR]
  exact dv_ops q k dy n n g

include hn hA hD hO hR hK hV ha in
theorem dqPay_eq : dqPay i A D O R K V a = up 512 256 .f32 (rows (512 * n) (dqM q k v dy)) := by
  have h8 : n < 8 := hn ▸ (i 1).isLt
  have ok : k1_off5 i = ![512 * n, 0] := by rw [bwd_off5, hn]
  have ov : k1_off6 i = ![512 * n, 0] := by rw [bwd_off6, hn]
  unfold dqPay
  rw [show dgK i K = qU k n from ld_rows ok k K hK _, show dgV i V = vU v n from ld_rows ov v V hV _]
  subst hA hD hO ha
  unfold k1_pay5
  dsimp only
  rw [pay2_eq q k v dy n R hR, dq_ops, Sb.up_bcast _ _ ofBits_scale, Sb.up_mul]
  exact up_congr fun r hr d _ => dqA_all q k v dy n r d h8 hr

end Pieces

/-- A grid point: its buffers, and the blocks it finds in the first six. -/
structure Pt where
  c : Dev nD
  i : grid1.Coords
  a2 : Memref sig .tc .vmem S512x256 .bf16
  w2 : a2.IsWhole
  a3 : Memref sig .tc .vmem S4096x256 .bf16
  w3 : a3.IsWhole
  a4 : Memref sig .tc .vmem S4096x128 .bf16
  w4 : a4.IsWhole
  a5 : Memref sig .tc .vmem S512x128 .f32
  w5 : a5.IsWhole
  a6 : Memref sig .tc .vmem S512x128 .bf16
  w6 : a6.IsWhole
  a7 : Memref sig .tc .vmem S1x512x1 .f32
  w7 : a7.IsWhole
  a8 : Memref sig .tc .vmem S512x256 .f32
  w8 : a8.IsWhole
  a9 : Memref sig .tc .vmem S4096x256 .f32
  w9 : a9.IsWhole
  a10 : Memref sig .tc .vmem S4096x128 .f32
  w10 : a10.IsWhole
  x0 : Vec Ideal S512x256 .bf16
  x1 : Vec Ideal S4096x256 .bf16
  x2 : Vec Ideal S4096x128 .bf16
  x3 : Vec Ideal S512x128 .f32
  x4 : Vec Ideal S512x128 .bf16
  x5 : Vec Ideal S1x512x1 .f32

namespace Pt
variable (P : Pt)

/-- What the body reads of the six blocks. -/
abbrev A : Vec Ideal S512x256 .bf16 := View.ld (P.a2.view.read (Elt Ideal) (P.w2.unread P.x0)) (Rect.unit ![0, 0] S512x256.size inb_S512x256_S512x256_0_0)
abbrev D : Vec Ideal S512x128 .bf16 := View.ld (P.a6.view.read (Elt Ideal) (P.w6.unread P.x4)) (Rect.unit ![0, 0] S512x128.size inb_S512x128_S512x128_0_0)
abbrev O : Vec Ideal S512x128 .f32 := View.ld (P.a5.view.read (Elt Ideal) (P.w5.unread P.x3)) (Rect.unit ![0, 0] S512x128.size inb_S512x128_S512x128_0_0)
abbrev R : Vec Ideal S1x512x1 .f32 := View.ld (P.a7.view.read (Elt Ideal) (P.w7.unread P.x5)) (Rect.unit ![0, 0, 0] S1x512x1.size inb_S1x512x1_S1x512x1_0_0_0)
abbrev K := P.a3.view.read (Elt Ideal) (P.w3.unread P.x1)
abbrev V := P.a4.view.read (Elt Ideal) (P.w4.unread P.x2)

theorem A_eq : P.A = P.x0 := (ld_all _ _ _).trans (P.w2.read_unread _)
theorem D_eq : P.D = P.x4 := (ld_all _ _ _).trans (P.w6.read_unread _)
theorem O_eq : P.O = P.x3 := (ld_all _ _ _).trans (P.w5.read_unread _)
theorem R_eq : P.R = P.x5 := (ld_all _ _ _).trans (P.w7.read_unread _)

section Loops
variable (G9 : BufTy.Contents (Elt Ideal) P.a9.view.ty) (G10 : BufTy.Contents (Elt Ideal) P.a10.view.ty)
  (H9 : List (View.Piece (Elt Ideal) S4096x256 .f32) → BufTy.Contents (Elt Ideal) P.a9.view.ty)
  (H10 : List (View.Piece (Elt Ideal) S4096x128 .f32) → BufTy.Contents (Elt Ideal) P.a10.view.ty)

/-- The two loops: the one that runs, and the remainder, which makes no trip. -/
def L :=
  st_k1_t1 Variants.none P.c none P.i P.a2 P.w2 P.a3 P.w3 P.a4 P.w4 P.a5 P.w5 P.a6 P.w6 P.a7 P.w7 P.a8 P.w8 P.a9 P.w9 P.a10 P.w10
    P.A P.D P.O P.R (P.w3.unread P.x1) (P.w4.unread P.x2) G9 G10 k1_pay10 (k1_t1_loop P.i).trips
def E :=
  st_k1_t2 Variants.none P.c none P.i P.a2 P.w2 P.a3 P.w3 P.a4 P.w4 P.a5 P.w5 P.a6 P.w6 P.a7 P.w7 P.a8 P.w8 P.a9 P.w9 P.a10 P.w10
    P.A P.D P.O P.R (P.w3.unread P.x1) (P.w4.unread P.x2) (H9 (P.L G9 G10).2.1) (H10 (P.L G9 G10).2.2) (P.L G9 G10).1 (k1_t2_loop P.i).trips

theorem E_eq : P.E G9 G10 H9 H10 = ((P.L G9 G10).1, [], []) := by
  unfold E
  rw [bwd_trips2]
  rfl

end Loops

/-- The three payloads. -/
abbrev dk (g : Vec Ideal S512x256 .f32) := dkPay P.i P.A P.D P.O P.R P.K P.V g
abbrev dv (g : Vec Ideal S512x128 .f32) := dvPay P.i P.A P.D P.R P.K g
abbrev dq (a : FVec Ideal S512x256 .f32) := dqPay P.i P.A P.D P.O P.R P.K P.V a

abbrev zero9 : List (View.Piece (Elt Ideal) S4096x256 .f32) := [⟨Rect.unit ![0, 0] S4096x256.size inb_S4096x256_S4096x256_0_0, k1_pay6 (F := Ideal)⟩]
abbrev zero10 : List (View.Piece (Elt Ideal) S4096x128 .f32) := [⟨Rect.unit ![0, 0] S4096x128.size inb_S4096x128_S4096x128_0_0, k1_pay7 (F := Ideal)⟩]
abbrev base9 : BufTy.Contents (Elt Ideal) P.a9.view.ty := P.a9.view.writes (Elt Ideal) P.a9.view.junk zero9
abbrev base10 : BufTy.Contents (Elt Ideal) P.a10.view.ty := P.a10.view.writes (Elt Ideal) P.a10.view.junk zero10

section First
variable (hc0 : cond1_0 P.i)

/-- The first point of a head: what it stores, the remainder loop's state, and the stores in words. -/
abbrev firstRun := kernelRun1_A P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5
abbrev firstE := P.E P.base9 P.base10 (fun L => P.a9.view.writes (Elt Ideal) P.a9.view.junk (L ++ zero9)) (fun L => P.a10.view.writes (Elt Ideal) P.a10.view.junk (L ++ zero10))

theorem first_dk : (P.firstRun hc0).2.1
    = let W := P.firstE.2.1 ++ ((P.L P.base9 P.base10).2.1 ++ zero9)
      putK P.i (P.dk (dgK P.i (P.a9.view.read (Elt Ideal) (P.a9.view.writes (Elt Ideal) P.a9.view.junk W)))) :: W := by
  unfold firstRun kernelRun1_A
  rfl

theorem first_dv : (P.firstRun hc0).2.2.1
    = let W := P.firstE.2.2 ++ ((P.L P.base9 P.base10).2.2 ++ zero10)
      putV P.i (P.dv (dgV P.i (P.a10.view.read (Elt Ideal) (P.a10.view.writes (Elt Ideal) P.a10.view.junk W)))) :: W := by
  unfold firstRun kernelRun1_A
  rfl

end First

section Later
variable (hc0 : ¬ cond1_0 P.i) (xo7 : Vec Ideal S4096x256 .f32) (xo8 : Vec Ideal S4096x128 .f32)

/-- A later point: the same. -/
abbrev laterRun := kernelRun1_B P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 xo7 xo8
abbrev laterE := P.E (P.w9.unread xo7) (P.w10.unread xo8) (P.a9.view.writes (Elt Ideal) (P.w9.unread xo7)) (P.a10.view.writes (Elt Ideal) (P.w10.unread xo8))

theorem later_dk : (P.laterRun hc0 xo7 xo8).2.1
    = let W := (P.laterE xo7 xo8).2.1 ++ (P.L (P.w9.unread xo7) (P.w10.unread xo8)).2.1
      putK P.i (P.dk (dgK P.i (P.a9.view.read (Elt Ideal) (P.a9.view.writes (Elt Ideal) (P.w9.unread xo7) W)))) :: W := by
  unfold laterRun kernelRun1_B
  rfl

theorem later_dv : (P.laterRun hc0 xo7 xo8).2.2.1
    = let W := (P.laterE xo7 xo8).2.2 ++ (P.L (P.w9.unread xo7) (P.w10.unread xo8)).2.2
      putV P.i (P.dv (dgV P.i (P.a10.view.read (Elt Ideal) (P.a10.view.writes (Elt Ideal) (P.w10.unread xo8) W)))) :: W := by
  unfold laterRun kernelRun1_B
  rfl

end Later

/-! ## What a grid point leaves -/

variable (q k v dy : Mat) (n : ℕ)

/-- The blocks are those of query block `n` of the matrices. -/
structure Holds : Prop where
  hn : (P.i 1).val = n
  h0 : P.x0 = qU q n
  h1 : P.x1 = up 4096 256 .bf16 k
  h2 : P.x2 = up 4096 128 .bf16 v
  h3 : P.x3 = yU q k v n
  h4 : P.x4 = vU dy n
  h5 : k1_pay9 P.x5 = up 512 1 .f32 (lseM q k (512 * n))

variable {P q k v dy n} (h : P.Holds q k v dy n)
include h

section Ends
variable {G9 : BufTy.Contents (Elt Ideal) P.a9.view.ty} {G10 : BufTy.Contents (Elt Ideal) P.a10.view.ty}
  (hG9 : P.a9.view.read (Elt Ideal) G9 = up 4096 256 .f32 (dkA q k v dy n)) (hG10 : P.a10.view.read (Elt Ideal) G10 = up 4096 128 .f32 (dvA q k dy n))
include hG9 hG10

theorem L_at : BwdAt P.a9 P.a10 q k v dy n G9 G10 n (P.L G9 G10) := by
  unfold L
  rw [bwd_trips1, h.hn]
  exact bwd_loop P.c P.i P.a2 P.w2 P.a3 P.w3 P.a4 P.w4 P.a5 P.w5 P.a6 P.w6 P.a7 P.w7 P.a8 P.w8 P.a9 P.w9 P.a10 P.w10 q k v dy n Variants.none none h.hn _ _
    ((P.w3.read_unread _).trans h.h1) ((P.w4.read_unread _).trans h.h2) _ _ _ _ (P.A_eq.trans h.h0) (P.D_eq.trans h.h4) (P.O_eq.trans h.h3)
    ((congrArg (k1_pay9) P.R_eq).trans h.h5) G9 G10 hG9 hG10 n le_rfl

theorem end_dq : P.dq (P.L G9 G10).1 = up 512 256 .f32 (rows (512 * n) (dqM q k v dy)) :=
  dqPay_eq P.i _ _ _ _ _ _ _ q k v dy n h.hn (P.A_eq.trans h.h0) (P.D_eq.trans h.h4) (P.O_eq.trans h.h3)
    ((congrArg (k1_pay9) P.R_eq).trans h.h5) ((P.w3.read_unread _).trans h.h1) ((P.w4.read_unread _).trans h.h2) (L_at h hG9 hG10).dq

theorem end_dk : P.a9.view.read (Elt Ideal) (P.a9.view.writes (Elt Ideal) G9
      (putK P.i (P.dk (dgK P.i (P.a9.view.read (Elt Ideal) (P.a9.view.writes (Elt Ideal) G9 (P.L G9 G10).2.1)))) :: (P.L G9 G10).2.1))
    = up 4096 256 .f32 (dkA q k v dy (n + 1)) := by
  have i3 := (L_at h hG9 hG10).dk
  have ho : k1_off5 P.i = ![512 * n, 0] := by rw [bwd_off5, h.hn]
  rw [← partAt_last (dkA q k v dy) n (dk_last q k v dy n), ← partAt_put (dkA q k v dy) n n (dkC q k v dy n n) (dk_grow q k v dy n n)]
  refine read_put P.a9.view G9 _ _ ho _ _ _ _ i3 _ ?_
  rw [show dgK P.i _ = _ from ld_rows' ho _ _ i3 _]
  exact dkPay_eq P.i _ _ _ _ _ _ q k v dy n h.hn (P.A_eq.trans h.h0) (P.D_eq.trans h.h4) (P.O_eq.trans h.h3)
    ((congrArg (k1_pay9) P.R_eq).trans h.h5) ((P.w3.read_unread _).trans h.h1) ((P.w4.read_unread _).trans h.h2) _

theorem end_dv : P.a10.view.read (Elt Ideal) (P.a10.view.writes (Elt Ideal) G10
      (putV P.i (P.dv (dgV P.i (P.a10.view.read (Elt Ideal) (P.a10.view.writes (Elt Ideal) G10 (P.L G9 G10).2.2)))) :: (P.L G9 G10).2.2))
    = up 4096 128 .f32 (dvA q k dy (n + 1)) := by
  have i4 := (L_at h hG9 hG10).dv
  have ho : k1_off6 P.i = ![512 * n, 0] := by rw [bwd_off6, h.hn]
  rw [← partAt_last (dvA q k dy) n (dv_last q k dy n), ← partAt_put (dvA q k dy) n n (dvC q k dy n n) (dv_grow q k dy n n)]
  refine read_put P.a10.view G10 _ _ ho _ _ _ _ i4 _ ?_
  rw [show dgV P.i _ = _ from ld_rows' ho _ _ i4 _]
  exact dvPay_eq P.i _ _ _ _ q k dy n h.hn (P.A_eq.trans h.h0) (P.D_eq.trans h.h4)
    ((congrArg (k1_pay9) P.R_eq).trans h.h5) ((P.w3.read_unread _).trans h.h1) _

end Ends

/-- The first point of a head. -/
theorem first_eq (hc0 : cond1_0 P.i) (hz : n = 0) :
    out1_A_6 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 = up 512 256 .f32 (rows (512 * n) (dqM q k v dy))
    ∧ out1_A_7 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 = up 4096 256 .f32 (dkA q k v dy (n + 1))
    ∧ out1_A_8 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 = up 4096 128 .f32 (dvA q k dy (n + 1)) := by
  have e9 : P.a9.view.read (Elt Ideal) P.base9 = up 4096 256 .f32 (dkA q k v dy n) := by
    refine (View.read_writes_full _ _ _ _ []).trans ?_
    unfold k1_pay6
    dsimp only
    rw [Sb.up_bzero, hz]
    exact up_congr fun i _ j _ => by simp [dkA]
  have e10 : P.a10.view.read (Elt Ideal) P.base10 = up 4096 128 .f32 (dvA q k dy n) := by
    refine (View.read_writes_full _ _ _ _ []).trans ?_
    unfold k1_pay7
    dsimp only
    rw [Sb.up_bzero, hz]
    exact up_congr fun i _ j _ => by simp [dvA]
  refine ⟨?_, ?_, ?_⟩
  · refine Eq.trans (?_ : _ = P.dq P.firstE.1) ?_
    · unfold out1_A_6 kernelRun1_A
      dsimp only
      exact View.read_writes_full _ _ _ _ []
    · rw [firstE, E_eq]
      exact end_dq h e9 e10
  · refine (View.read_writes_of_cover _ _ P.a9.view P.a9.view.junk _ (cover1_A_7 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5)).trans ?_
    rw [first_dk]
    dsimp only
    rw [firstE, E_eq]
    dsimp only
    rw [List.nil_append, ← List.cons_append, View.writes_append, View.writes_append]
    exact end_dk h e9 e10
  · refine (View.read_writes_of_cover _ _ P.a10.view P.a10.view.junk _ (cover1_A_8 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5)).trans ?_
    rw [first_dv]
    dsimp only
    rw [firstE, E_eq]
    dsimp only
    rw [List.nil_append, ← List.cons_append, View.writes_append, View.writes_append]
    exact end_dv h e9 e10

/-- A later point. -/
theorem later_eq (hc0 : ¬ cond1_0 P.i) {xo7 : Vec Ideal S4096x256 .f32} {xo8 : Vec Ideal S4096x128 .f32}
    (h7 : xo7 = up 4096 256 .f32 (dkA q k v dy n)) (h8 : xo8 = up 4096 128 .f32 (dvA q k dy n)) :
    out1_B_6 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 xo7 xo8 = up 512 256 .f32 (rows (512 * n) (dqM q k v dy))
    ∧ out1_B_7 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 xo7 xo8 = up 4096 256 .f32 (dkA q k v dy (n + 1))
    ∧ out1_B_8 P.c P.i P.a2 P.w2 P.a3 P.w3 P.a4 P.w4 P.a5 P.w5 P.a6 P.w6 P.a7 P.w7 P.a8 P.w8 P.a9 P.w9 P.a10 P.w10 hc0 P.x0 P.x1 P.x2 P.x3 P.x4 P.x5 xo7 xo8 = up 4096 128 .f32 (dvA q k dy (n + 1)) := by
  have e9 := (P.w9.read_unread xo7).trans h7
  have e10 := (P.w10.read_unread xo8).trans h8
  refine ⟨?_, ?_, ?_⟩
  · refine Eq.trans (?_ : _ = P.dq (P.laterE xo7 xo8).1) ?_
    · unfold out1_B_6 kernelRun1_B
      dsimp only
      exact View.read_writes_full _ _ _ _ []
    · rw [laterE, E_eq]
      exact end_dq h e9 e10
  · unfold out1_B_7
    rw [later_dk]
    dsimp only
    rw [laterE, E_eq]
    dsimp only
    rw [List.nil_append]
    exact end_dk h e9 e10
  · unfold out1_B_8
    rw [later_dv]
    dsimp only
    rw [laterE, E_eq]
    dsimp only
    rw [List.nil_append]
    exact end_dv h e9 e10

end Pt

end Cert.Mla
-- ==== Proof.MlaArray.lean ====
/-
  The arrays of the latent attention's two calls after the run: the output and the logarithms of the rows' sums, then the
  gradients of the queries, the keys and the values, all heads side by side. The gradients of the keys and the values of a head
  stay in their buffers over the head's eight grid points.
-/
module

public import proofs.«01_k».proof.Proof.MlaBwdOut
public import proofs.«01_k».proof.Proof.BwdArray

@[expose] public section

noncomputable section

namespace Cert.Mla

open Idealize.ShloMosaic hiding ix1 ix2 ix3 ix4 eq_ix1 eq_ix2 eq_ix3 eq_ix4
open ValueIdx Idealize.SL.Sem
open Sb (Mat up up_apply ext2 up_congr rows head beside beside_at stack triple exists_ix2)
open MlaIdeal MlaIdeal.Gen

/-- The 256 columns of a head, and heads of 256 columns side by side. -/
def wide (P : Mat) (h : ℕ) : Mat := fun t d => P t (256 * h + d)
def besideW (f : ℕ → Mat) : Mat := fun t j => f (j / 256) t (j % 256)

theorem besideW_at (f : ℕ → Mat) (h t : ℕ) {j : ℕ} (hj : j < 256) : f h t j = besideW f t (256 * h + j) := by
  unfold besideW
  rw [Nat.mul_add_div (by decide), Nat.div_eq_of_lt hj, Nat.mul_add_mod, Nat.mod_eq_of_lt hj, Nat.add_zero]

/-- The values of head `h`, columns of the array of keys and values. -/
abbrev hv (P : Mat) (h : ℕ) : Mat := head P 1024 h
/-- The columns of a head of the output's gradient. -/
abbrev hd (D : Mat) (h : ℕ) : Mat := head D 0 h

/-- The five arrays, of the arguments' matrices. -/
def yA (q k kv : Mat) : Mat := beside fun h => yM (wide q h) (wide k h) (hv kv h)
def lseA (q k : Mat) : ℕ → Mat := fun h => lseM (wide q h) (wide k h) 0
def dqO (q k kv dy : Mat) : Mat := besideW fun h => dqM (wide q h) (wide k h) (hv kv h) (hd dy h)
def dkO (q k kv dy : Mat) : Mat := besideW fun h => dkA (wide q h) (wide k h) (hv kv h) (hd dy h) 8
def dvO (q k dy : Mat) : Mat := beside fun h => dvA (wide q h) (wide k h) (hd dy h) 8

theorem lse_at (q k : Mat) {h h' o r t : ℕ} (a b : ℕ) (hh : h = h') (ht : o + r = t) : lseM (wide q h) (wide k h) o r a = lseA q k h' t b := by
  subst hh ht
  unfold lseA lseM
  rw [Nat.zero_add]

theorem at0 : ∀ t : Fin cfg0.N, (grid0.coords t 0).val = t.val / 8 ∧ (grid0.coords t 1).val = t.val % 8 := by decide +kernel

theorem idx0_0 : ∀ t : Fin cfg0.N, win0_0.index t = ![t.val % 8, t.val / 8] := by decide +kernel
theorem idx0_1 : ∀ t : Fin cfg0.N, win0_1.index t = ![0, t.val / 8] := by decide +kernel
theorem idx0_2 : ∀ t : Fin cfg0.N, win0_2.index t = ![0, 8 + t.val / 8] := by decide +kernel
theorem idx0_3 : ∀ t : Fin cfg0.N, win0_3.index t = ![t.val % 8, t.val / 8] := by decide +kernel
theorem idx0_4 : ∀ t : Fin cfg0.N, win0_4.index t = ![t.val / 8, t.val % 8, 0] := by decide +kernel

theorem at1 : ∀ t : Fin cfg1.N, (grid1.coords t 0).val = t.val / 8 ∧ (grid1.coords t 1).val = t.val % 8 := by decide +kernel

theorem idx1_0 : ∀ t : Fin cfg1.N, win1_0.index t = ![t.val % 8, t.val / 8] := by decide +kernel
theorem idx1_1 : ∀ t : Fin cfg1.N, win1_1.index t = ![0, t.val / 8] := by decide +kernel
theorem idx1_2 : ∀ t : Fin cfg1.N, win1_2.index t = ![0, 8 + t.val / 8] := by decide +kernel
theorem idx1_3 : ∀ t : Fin cfg1.N, win1_3.index t = ![t.val % 8, t.val / 8] := by decide +kernel
theorem idx1_4 : ∀ t : Fin cfg1.N, win1_4.index t = ![t.val % 8, t.val / 8] := by decide +kernel
theorem idx1_5 : ∀ t : Fin cfg1.N, win1_5.index t = ![t.val / 8, t.val % 8, 0] := by decide +kernel
theorem idx1_6 : ∀ t : Fin cfg1.N, win1_6.index t = ![t.val % 8, t.val / 8] := by decide +kernel
theorem idx1_7 : ∀ t : Fin cfg1.N, win1_7.index t = ![0, t.val / 8] := by decide +kernel
theorem idx1_8 : ∀ t : Fin cfg1.N, win1_8.index t = ![0, t.val / 8] := by decide +kernel

section
variable (V : (c : Dev nD) → (b : Ref sig .tc) → Buf (Elt Ideal) (c.tc.loc b)) (c : Dev nD) (q k kv dy : Mat)
  (hq : V c main_arg0 = up 4096 2048 .bf16 q) (hk : V c main_arg1 = up 4096 2048 .bf16 k) (hkv : V c main_arg2 = up 4096 2048 .bf16 kv)

section Fwd
variable (t : Fin cfg0.N)

include hq in
theorem fblk_0 : iblk0 V c 0 t = qU (wide q (t.val / 8)) (t.val % 8) := by
  refine ext2 fun r d => ?_
  blk_simp [iblk0, hq]
  rw [qU, up_apply]
  unfold up rows wide
  congr 2 <;> blk_simp [idx0_0] <;> simp <;> ring

include hk in
theorem fblk_1 : iblk0 V c 1 t = up 4096 256 .bf16 (wide k (t.val / 8)) := by
  refine ext2 fun r d => ?_
  blk_simp [iblk0, hk]
  rw [up_apply]
  unfold up wide
  congr 2 <;> blk_simp [idx0_1] <;> simp <;> ring

include hkv in
theorem fblk_2 : iblk0 V c 2 t = up 4096 128 .bf16 (hv kv (t.val / 8)) := by
  refine ext2 fun r d => ?_
  blk_simp [iblk0, hkv]
  rw [up_apply]
  unfold up hv head
  congr 2 <;> blk_simp [idx0_2] <;> simp <;> ring

include hq hk hkv in
/-- What the forward call leaves at a grid point. -/
theorem fwd_at : outsAt0 V c t
    = (yU (wide q (t.val / 8)) (wide k (t.val / 8)) (hv kv (t.val / 8)) (t.val % 8),
       shapeCast S1x512x1 (up 512 1 .f32 (lseM (wide q (t.val / 8)) (wide k (t.val / 8)) (512 * (t.val % 8))) : FVec Ideal S512x1 .f32) shapeCasts_S512x1_S1x512x1) := by
  have hn : (grid0.coords t 1).val = t.val % 8 := (at0 t).2
  unfold outsAt0
  exact congrArg₂ Prod.mk
    (fwd_out (wide q (t.val / 8)) (wide k (t.val / 8)) (hv kv (t.val / 8)) (t.val % 8) c (grid0.coords t) _ _ _ _ _ _ _ _ _ _ hn _ _ _
      (fblk_0 V c q hq t) (fblk_1 V c k hk t) (fblk_2 V c kv hkv t))
    (fwd_lse (wide q (t.val / 8)) (wide k (t.val / 8)) (hv kv (t.val / 8)) (t.val % 8) c (grid0.coords t) _ _ _ _ _ _ _ _ _ _ hn _ _ _
      (fblk_0 V c q hq t) (fblk_1 V c k hk t) (fblk_2 V c kv hkv t))

include hq hk hkv

/-- The output: head by head, latent attention. -/
theorem y_array : (dat0 V c).arrAt 3 cfg0.N = up 4096 1024 .f32 (yA q k kv) := by
  refine (dat0 V c).arrAt_eq_of_covers 3 _ (by decide +kernel) fun t hf y => ?_
  blk_simp
  rw [after0_3]
  rw [fwd_at V c q k kv hq hk hkv t]
  dsimp only
  obtain ⟨r, d, rfl⟩ := exists_ix2 y
  rw [yU, up_apply]
  unfold up rows
  congr 1
  blk_simp [idx0_3]
  refine (beside_at (fun h => yM (wide q h) (wide k h) (hv kv h)) (t.val / 8) _ d.isLt).trans ?_
  unfold yA
  congr 1 <;> simp <;> ring

/-- The logarithms of the rows' sums, head by head. -/
theorem lse_array : (dat0 V c).arrAt 4 cfg0.N = stack 8 4096 1 (lseA q k) := by
  refine (dat0 V c).arrAt_eq_of_covers 4 _ (by decide +kernel) fun t hf y => ?_
  blk_simp
  rw [after0_4]
  rw [fwd_at V c q k kv hq hk hkv t]
  obtain ⟨z, r, l, rfl⟩ : ∃ z r l, y = ix3 z r l := ⟨_, _, _, eq_ix3 y⟩
  obtain rfl : z = 0 := Subsingleton.elim _ _
  dsimp only
  refine (shapeCast_ab_1ab_apply _ _ _ r l).trans ?_
  rw [up_apply]
  unfold stack
  refine congrArg _ (lse_at q k _ _ ?_ ?_)
  · blk_simp [idx0_4]
  · blk_simp [idx0_4]
    simp
    ring

end Fwd

section Bwd
variable (hdy : V c main_arg3 = up 4096 1024 .bf16 dy) (hy : V c main_v0_0 = up 4096 1024 .f32 (yA q k kv)) (hl : V c main_v0_1 = stack 8 4096 1 (lseA q k))
  (t : Fin cfg1.N)

include hq in
theorem bblk_0 : iblk1 V c 0 t = qU (wide q (t.val / 8)) (t.val % 8) := by
  refine ext2 fun r d => ?_
  blk_simp [iblk1, hq]
  rw [qU, up_apply]
  unfold up rows wide
  congr 2 <;> blk_simp [idx1_0] <;> simp <;> ring

include hk in
theorem bblk_1 : iblk1 V c 1 t = up 4096 256 .bf16 (wide k (t.val / 8)) := by
  refine ext2 fun r d => ?_
  blk_simp [iblk1, hk]
  rw [up_apply]
  unfold up wide
  congr 2 <;> blk_simp [idx1_1] <;> simp <;> ring

include hkv in
theorem bblk_2 : iblk1 V c 2 t = up 4096 128 .bf16 (hv kv (t.val / 8)) := by
  refine ext2 fun r d => ?_
  blk_simp [iblk1, hkv]
  rw [up_apply]
  unfold up hv head
  congr 2 <;> blk_simp [idx1_2] <;> simp <;> ring

include hy in
theorem bblk_3 : iblk1 V c 3 t = yU (wide q (t.val / 8)) (wide k (t.val / 8)) (hv kv (t.val / 8)) (t.val % 8) := by
  refine ext2 fun r d => ?_
  blk_simp [iblk1, hy]
  rw [yU, up_apply]
  unfold up rows
  congr 1
  refine Eq.trans ?_ (beside_at (fun h => yM (wide q h) (wide k h) (hv kv h)) (t.val / 8) _ d.isLt).symm
  unfold yA
  congr 1 <;> blk_simp [idx1_3] <;> simp <;> ring

include hdy in
theorem bblk_4 : iblk1 V c 4 t = vU (hd dy (t.val / 8)) (t.val % 8) := by
  refine ext2 fun r d => ?_
  blk_simp [iblk1, hdy]
  rw [vU, up_apply]
  unfold up rows hd head
  congr 2 <;> blk_simp [idx1_4] <;> simp <;> ring

include hl in
theorem bblk_5 : k1_pay9 (iblk1 V c 5 t) = up 512 1 .f32 (lseM (wide q (t.val / 8)) (wide k (t.val / 8)) (512 * (t.val % 8))) := by
  refine ext2 fun r l => ?_
  obtain rfl : l = 0 := Subsingleton.elim _ _
  unfold k1_pay9
  refine (shapeCast_1ab_ab_apply _ _ r 0).trans ?_
  blk_simp [iblk1, hl]
  rw [up_apply]
  unfold stack
  refine congrArg _ (lse_at q k _ _ ?_ ?_).symm
  · blk_simp [idx1_5]
  · blk_simp [idx1_5]
    simp
    ring

/-- What the backward call leaves after a grid point of head `h`, query block `n`. -/
abbrev bwdPt (q k kv dy : Mat) (h n : ℕ) : Vec Ideal S512x256 .f32 × Vec Ideal S4096x256 .f32 × Vec Ideal S4096x128 .f32 :=
  (up 512 256 .f32 (rows (512 * n) (dqM (wide q h) (wide k h) (hv kv h) (hd dy h))),
   up 4096 256 .f32 (dkA (wide q h) (wide k h) (hv kv h) (hd dy h) (n + 1)), up 4096 128 .f32 (dvA (wide q h) (wide k h) (hd dy h) (n + 1)))

/-- The backward call's grid point. -/
abbrev pt : Pt :=
  ⟨c, grid1.coords t, ms1_0 t, hs1_0 t, ms1_1 t, hs1_1 t, ms1_2 t, hs1_2 t, ms1_3 t, hs1_3 t, ms1_4 t, hs1_4 t, ms1_5 t, hs1_5 t, ms1_6 t, hs1_6 t,
    ms1_7 t, hs1_7 t, ms1_8 t, hs1_8 t, iblk1 V c 0 t, iblk1 V c 1 t, iblk1 V c 2 t, iblk1 V c 3 t, iblk1 V c 4 t, iblk1 V c 5 t⟩

include hq hk hkv hdy hy hl

theorem holds {n : ℕ} (h0 : t.val % 8 = n) : (pt V c t).Holds (wide q (t.val / 8)) (wide k (t.val / 8)) (hv kv (t.val / 8)) (hd dy (t.val / 8)) n := by
  subst h0
  exact ⟨(at1 t).2, bblk_0 V c q hq t, bblk_1 V c k hk t, bblk_2 V c kv hkv t, bblk_3 V c q k kv hy t, bblk_4 V c dy hdy t, bblk_5 V c q k hl t⟩

theorem bwd_at_zero (h0 : t.val % 8 = 0) : outsAt1 V c t.val t.isLt = bwdPt q k kv dy (t.val / 8) 0 := by
  rw [outsAt1_A V c t h0]
  exact triple (Pt.first_eq (holds V c q k kv dy hq hk hkv hdy hy hl t h0) _ rfl)

theorem bwd_at_succ (n : ℕ) (h0 : t.val % 8 = n + 1)
    (ih : outsAt1 V c (t.val - 1) (Nat.lt_of_le_of_lt (Nat.sub_le _ _) t.isLt) = bwdPt q k kv dy (t.val / 8) n) :
    outsAt1 V c t.val t.isLt = bwdPt q k kv dy (t.val / 8) (n + 1) := by
  rw [outsAt1_B V c t (by omega), ih]
  exact triple (Pt.later_eq (holds V c q k kv dy hq hk hkv hdy hy hl t h0) _ rfl rfl)

theorem bwd_at (n : ℕ) : ∀ t : Fin cfg1.N, t.val % 8 = n → outsAt1 V c t.val t.isLt = bwdPt q k kv dy (t.val / 8) n := by
  induction n with
  | zero => exact fun t h0 => bwd_at_zero V c q k kv dy hq hk hkv hdy hy hl t h0
  | succ n ih =>
    intro t h0
    refine bwd_at_succ V c q k kv dy hq hk hkv hdy hy hl t n h0 ?_
    have h := ih ⟨t.val - 1, Nat.lt_of_le_of_lt (Nat.sub_le _ _) t.isLt⟩ (by simp only; omega)
    rw [show t.val / 8 = (t.val - 1) / 8 by omega]
    exact h

/-- The gradient of the queries, head by head. -/
theorem dq_array : (dat1 V c).arrAt 6 cfg1.N = up 4096 2048 .f32 (dqO q k kv dy) := by
  refine (dat1 V c).arrAt_eq_of_covers 6 _ (by decide +kernel) fun t hf y => ?_
  blk_simp
  rw [after1_6, bwd_at V c q k kv dy hq hk hkv hdy hy hl _ t rfl]
  dsimp only
  obtain ⟨r, d, rfl⟩ := exists_ix2 y
  rw [up_apply]
  unfold up rows
  congr 1
  blk_simp [idx1_6]
  refine (besideW_at (fun h => dqM (wide q h) (wide k h) (hv kv h) (hd dy h)) (t.val / 8) _ d.isLt).trans ?_
  unfold dqO
  congr 1 <;> simp <;> ring

/-- The gradient of the keys, head by head. -/
theorem dk_array : (dat1 V c).arrAt 7 cfg1.N = up 4096 2048 .f32 (dkO q k kv dy) := by
  refine (dat1 V c).arrAt_eq_of_covers 7 _ (by decide +kernel) fun t hf y => ?_
  blk_simp
  rw [after1_7, bwd_at V c q k kv dy hq hk hkv hdy hy hl 7 t ((flush1_7 t).mp hf)]
  dsimp only
  obtain ⟨r, d, rfl⟩ := exists_ix2 y
  rw [up_apply]
  unfold up
  congr 1
  blk_simp [idx1_7]
  refine (besideW_at (fun h => dkA (wide q h) (wide k h) (hv kv h) (hd dy h) 8) (t.val / 8) _ d.isLt).trans ?_
  unfold dkO
  congr 1 <;> simp <;> ring

/-- The gradient of the values, head by head. -/
theorem dv_array : (dat1 V c).arrAt 8 cfg1.N = up 4096 1024 .f32 (dvO q k dy) := by
  refine (dat1 V c).arrAt_eq_of_covers 8 _ (by decide +kernel) fun t hf y => ?_
  blk_simp
  rw [after1_8, bwd_at V c q k kv dy hq hk hkv hdy hy hl 7 t ((flush1_8 t).mp hf)]
  dsimp only
  obtain ⟨r, d, rfl⟩ := exists_ix2 y
  rw [up_apply]
  unfold up
  congr 1
  blk_simp [idx1_8]
  refine (beside_at (fun h => dvA (wide q h) (wide k h) (hd dy h) 8) (t.val / 8) _ d.isLt).trans ?_
  unfold dvO
  congr 1 <;> simp <;> ring

end Bwd

end

end Cert.Mla
-- ==== Proof.MlaRun.lean ====
/-
  The run of the two calls of the latent attention, with what every result array holds at the end: the memory after the second call.
-/
module

public import proofs.«01_k».proof.Proof.MlaArray

@[expose] public section

noncomputable section

namespace Cert.Mla

open Sb (Mat up stack)
open MlaIdeal MlaIdeal.Gen
open Idealize.ShloMosaic
open TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : Mem nD τ sig) (ρ : Dev nD → PrngReg)

/-- Every unscoped array ends at what the second call leaves. -/
theorem run_mem : θ_run defs (onTc main) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c => h c)

section
variable (c : Dev nD) (q k kv dy : Mat) (hq : m (c.tc.loc main_arg0) = up 4096 2048 .bf16 q) (hk : m (c.tc.loc main_arg1) = up 4096 2048 .bf16 k)
  (hkv : m (c.tc.loc main_arg2) = up 4096 2048 .bf16 kv) (hdy : m (c.tc.loc main_arg3) = up 4096 1024 .bf16 dy)

include hq in
theorem V1_q : V1 m ρ c main_arg0 = up 4096 2048 .bf16 q := (W1_args m ρ c main_arg0 (by decide)).trans hq
include hk in
theorem V1_k : V1 m ρ c main_arg1 = up 4096 2048 .bf16 k := (W1_args m ρ c main_arg1 (by decide)).trans hk
include hkv in
theorem V1_kv : V1 m ρ c main_arg2 = up 4096 2048 .bf16 kv := (W1_args m ρ c main_arg2 (by decide)).trans hkv
include hdy in
theorem V1_dy : V1 m ρ c main_arg3 = up 4096 1024 .bf16 dy := (W1_args m ρ c main_arg3 (by decide)).trans hdy
include hq hk hkv
theorem V1_y : V1 m ρ c main_v0_0 = up 4096 1024 .f32 (yA q k kv) := (W1_arr m ρ c 3).trans (y_array (V0 m ρ) c q k kv hq hk hkv)
theorem V1_lse : V1 m ρ c main_v0_1 = stack 8 4096 1 (lseA q k) := (W1_arr m ρ c 4).trans (lse_array (V0 m ρ) c q k kv hq hk hkv)

/-- The output is read by the second call and stays as it is. -/
theorem mem_y : W2 m ρ c (Proc.devRef .tc main_v0_0) = up 4096 1024 .f32 (yA q k kv) :=
  (W2_of m ρ c main_v0_0 (by decide)).trans (V1_y m ρ c q k kv hq hk hkv)
include hdy
theorem mem_dq : W2 m ρ c (Proc.devRef .tc main_v1_0) = up 4096 2048 .f32 (dqO q k kv dy) :=
  (W2_arr m ρ c 6).trans (dq_array (V1 m ρ) c q k kv dy (V1_q m ρ c q hq) (V1_k m ρ c k hk) (V1_kv m ρ c kv hkv) (V1_dy m ρ c dy hdy)
    (V1_y m ρ c q k kv hq hk hkv) (V1_lse m ρ c q k kv hq hk hkv))
theorem mem_dk : W2 m ρ c (Proc.devRef .tc main_v1_1) = up 4096 2048 .f32 (dkO q k kv dy) :=
  (W2_arr m ρ c 7).trans (dk_array (V1 m ρ) c q k kv dy (V1_q m ρ c q hq) (V1_k m ρ c k hk) (V1_kv m ρ c kv hkv) (V1_dy m ρ c dy hdy)
    (V1_y m ρ c q k kv hq hk hkv) (V1_lse m ρ c q k kv hq hk hkv))
theorem mem_dv : W2 m ρ c (Proc.devRef .tc main_v1_2) = up 4096 1024 .f32 (dvO q k dy) :=
  (W2_arr m ρ c 8).trans (dv_array (V1 m ρ) c q k kv dy (V1_q m ρ c q hq) (V1_k m ρ c k hk) (V1_kv m ρ c kv hkv) (V1_dy m ρ c dy hdy)
    (V1_y m ρ c q k kv hq hk hkv) (V1_lse m ρ c q k kv hq hk hkv))
end

/-- The two calls: the results, of the arguments' matrices. -/
theorem kernel_run (q k kv dy : Dev nD → Mat) (hq : ∀ c : Dev nD, m (c.tc.loc main_arg0) = up 4096 2048 .bf16 (q c))
    (hk : ∀ c : Dev nD, m (c.tc.loc main_arg1) = up 4096 2048 .bf16 (k c))
    (hkv : ∀ c : Dev nD, m (c.tc.loc main_arg2) = up 4096 2048 .bf16 (kv c))
    (hdy : ∀ c : Dev nD, m (c.tc.loc main_arg3) = up 4096 1024 .bf16 (dy c)) :
    θ_run defs (onTc main) ⟨m, fun _ => 0, ρ⟩ (fun r => ∀ c,
      r.2.mem (c.tc.loc main_v0_0) = up 4096 1024 .f32 (yA (q c) (k c) (kv c))
      ∧ r.2.mem (c.tc.loc main_v1_0) = up 4096 2048 .f32 (dqO (q c) (k c) (kv c) (dy c))
      ∧ r.2.mem (c.tc.loc main_v1_1) = up 4096 2048 .f32 (dkO (q c) (k c) (kv c) (dy c))
      ∧ r.2.mem (c.tc.loc main_v1_2) = up 4096 1024 .f32 (dvO (q c) (k c) (dy c))
      ∧ Kept m r.2.mem c main_arg0 ∧ Kept m r.2.mem c main_arg1 ∧ Kept m r.2.mem c main_arg2 ∧ Kept m r.2.mem c main_arg3) :=
  (θ_run defs _ _).mono (fun _ h c =>
    ⟨(h c _ (mem_uc main_v0_0 (by decide))).trans (mem_y m ρ c _ _ _ (hq c) (hk c) (hkv c)),
     (h c _ (mem_uc main_v1_0 (by decide))).trans (mem_dq m ρ c _ _ _ _ (hq c) (hk c) (hkv c) (hdy c)),
     (h c _ (mem_uc main_v1_1 (by decide))).trans (mem_dk m ρ c _ _ _ _ (hq c) (hk c) (hkv c) (hdy c)),
     (h c _ (mem_uc main_v1_2 (by decide))).trans (mem_dv m ρ c _ _ _ _ (hq c) (hk c) (hkv c) (hdy c)),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_mem m ρ)

end Cert.Mla
-- ==== Proof.MlaRef.lean ====
/-
  What the reference of the latent attention computes, one array at a time, over reals: the heads, the scores, the largest of each row,
  the exponentials over it, the weights, and the gradients of the scores; then the four results. An index reads (one, head, row, column).
-/
module

public import proofs.«01_k».proof.Proof.MlaArray
public import proofs.«01_k».proof.Proof.Gen.MlaRefIdeal.Read

@[expose] public section

noncomputable section

namespace Cert.Mla.Ref

open Idealize.ShloMosaic hiding ix1 ix2 ix3 ix4 eq_ix1 eq_ix2 eq_ix3 eq_ix4
open ValueIdx
open Sb (Mat up up_apply head beside sum_coe_mul ofBits_zero)
open MlaRefIdeal MlaRefIdeal.Gen MlaRefIdeal.Read

/-! ## Real numbers -/

theorem div_real (a : ℝ) {b : ℝ} (hb : b ≠ 0) : Ideal.div (a : EReal) (b : EReal) = ((a / b : ℝ) : EReal) := by
  rw [Ideal.div_coe hb, ← EReal.coe_mul, mul_one_div]

theorem one_bits : Ideal.ofBits .f32 0x3F800000#32 = ((1 : ℝ) : EReal) := by
  have e : Ideal.ofBits .f32 0x3F800000#32 = ((8388608 * (2 ^ 23)⁻¹ : ℝ) : EReal) := by
    rw [EReal.coe_mul]; simp [Ideal.ofBits, Ideal.ieee]
  rw [e]
  norm_num

theorem sum_real {n : ℕ} (f : ℕ → ℝ) : ∑ k : Fin n, ((f k.val : ℝ) : EReal) = ((∑ k ∈ Finset.range n, f k : ℝ) : EReal) := by
  have e := sum_coe_mul (n := n) f fun _ => 1
  simpa using e

section
variable (q k v dy : Mat)

/-- The product of a row of the output with its gradient is the row's weights against the gradients of the weights. -/
theorem delta_swap (t : ℕ) : deltaM q k v dy t = ∑ s ∈ Finset.range 4096, pM q k t s * dpM v dy t s := by
  unfold deltaM yM dpM
  simp only [Finset.mul_sum]
  rw [Finset.sum_comm]
  exact Finset.sum_congr rfl fun s _ => Finset.sum_congr rfl fun d _ => by ring

/-- The gradient of a score from exponentials that all carry one positive factor. -/
theorem ds_scaled (t s : ℕ) {E : ℝ} (hE : E ≠ 0) :
    (dpM v dy t s / (nM q k t * E) + -∑ l ∈ Finset.range 4096, dpM v dy t l * (1 / (nM q k t * E * (nM q k t * E))) * (wM q k t l * E)) * (wM q k t s * E)
      = dsM q k v dy t s := by
  have hn : nM q k t ≠ 0 := (nM_pos q k t).ne'
  have e : ∑ l ∈ Finset.range 4096, dpM v dy t l * (1 / (nM q k t * E * (nM q k t * E))) * (wM q k t l * E)
      = (∑ l ∈ Finset.range 4096, pM q k t l * dpM v dy t l) / (nM q k t * E) := by
    rw [Finset.sum_div]
    refine Finset.sum_congr rfl fun l _ => ?_
    unfold pM
    field_simp
  rw [e, ← delta_swap]
  unfold dsM pM
  field_simp
  ring

end

/-! ## The heads -/

section
variable (Q K V D : Mat)

/-- The four arguments. -/
abbrev qs : FVec Ideal S4096x2048 .bf16 := up 4096 2048 .bf16 Q
abbrev ds : FVec Ideal S4096x1024 .bf16 := up 4096 1024 .bf16 D

theorem row256 {a t h d : ℕ} (ha : a < 1) (hh : h < 8) (hd : d < 256) : (((a * 4096 + t) * 8 + h) * 256 + d) / 2048 = t := by omega
theorem col256 {a t h d : ℕ} (ha : a < 1) (hh : h < 8) (hd : d < 256) : (((a * 4096 + t) * 8 + h) * 256 + d) % 2048 = 256 * h + d := by omega
theorem row128 {a t h d : ℕ} (ha : a < 1) (hh : h < 8) (hd : d < 128) : (((a * 4096 + t) * 8 + h) * 128 + d) / 1024 = t := by omega
theorem col128 {a t h d : ℕ} (ha : a < 1) (hh : h < 8) (hd : d < 128) : (((a * 4096 + t) * 8 + h) * 128 + d) % 1024 = 128 * h + d := by omega

theorem q_at (i : S1x8x4096x256.Idx) : val_main_v7 (F := Ideal) (qs Q) i = ((wide Q (i 1).val (i 2).val (i 3).val : ℝ) : EReal) := by
  rw [val_main_v7_apply, val_main_v6_apply, val_main_v0_apply]
  show ((Q (((((i 0).val * 4096 + (i 2).val) * 8 + (i 1).val) * 256 + (i 3).val) / 2048)
    (((((i 0).val * 4096 + (i 2).val) * 8 + (i 1).val) * 256 + (i 3).val) % 2048) : ℝ) : EReal) = _
  rw [row256 (i 0).isLt (i 1).isLt (i 3).isLt, col256 (i 0).isLt (i 1).isLt (i 3).isLt]
  rfl
theorem k_at (i : S1x8x4096x256.Idx) : val_main_v9 (F := Ideal) (qs K) i = ((wide K (i 1).val (i 2).val (i 3).val : ℝ) : EReal) := by
  rw [val_main_v9_apply, val_main_v8_apply, val_main_v1_apply]
  show ((K (((((i 0).val * 4096 + (i 2).val) * 8 + (i 1).val) * 256 + (i 3).val) / 2048)
    (((((i 0).val * 4096 + (i 2).val) * 8 + (i 1).val) * 256 + (i 3).val) % 2048) : ℝ) : EReal) = _
  rw [row256 (i 0).isLt (i 1).isLt (i 3).isLt, col256 (i 0).isLt (i 1).isLt (i 3).isLt]
  rfl
theorem v_at (i : S1x8x4096x128.Idx) : val_main_v11 (F := Ideal) (qs V) i = ((hv V (i 1).val (i 2).val (i 3).val : ℝ) : EReal) := by
  rw [val_main_v11_apply, val_main_v10_apply, val_main_v5_apply, val_main_v3_apply]
  show ((V (((((i 0).val * 4096 + (i 2).val) * 8 + (i 1).val) * 128 + (i 3).val) / 1024)
    (1024 + ((((i 0).val * 4096 + (i 2).val) * 8 + (i 1).val) * 128 + (i 3).val) % 1024) : ℝ) : EReal) = _
  rw [row128 (i 0).isLt (i 1).isLt (i 3).isLt, col128 (i 0).isLt (i 1).isLt (i 3).isLt, ← add_assoc]
  rfl
theorem dy_at (i : S1x8x4096x128.Idx) : val_main_v53 (F := Ideal) (ds D) i = ((hd D (i 1).val (i 2).val (i 3).val : ℝ) : EReal) := by
  rw [val_main_v53_apply, val_main_v52_apply, val_main_v2_apply]
  show ((D (((((i 0).val * 4096 + (i 2).val) * 8 + (i 1).val) * 128 + (i 3).val) / 1024)
    (((((i 0).val * 4096 + (i 2).val) * 8 + (i 1).val) * 128 + (i 3).val) % 1024) : ℝ) : EReal) = _
  rw [row128 (i 0).isLt (i 1).isLt (i 3).isLt, col128 (i 0).isLt (i 1).isLt (i 3).isLt]
  show _ = ((D _ (0 + _ + _) : ℝ) : EReal)
  rw [zero_add]

/-! ## The scores and the weights -/

/-- The scores of a head, their exponentials at the keys a query meets, and the sums of those. -/
abbrev zH (h : ℕ) : Mat := zM (wide Q h) (wide K h)
abbrev wH (h : ℕ) : Mat := wM (wide Q h) (wide K h)
abbrev nH (h t : ℕ) : ℝ := nM (wide Q h) (wide K h) t

theorem z_at (i : S1x8x4096x4096.Idx) : val_main_v12 (F := Ideal) (qs Q) (qs K) i = ((zH Q K (i 1).val (i 2).val (i 3).val : ℝ) : EReal) := by
  unfold zH zM
  rw [val_main_v12_apply, ← sum_coe_mul]
  exact Finset.sum_congr rfl fun k _ => by rw [q_at, k_at]

/-- Which keys a query meets. -/
theorem mask_at (i : S1x8x4096x4096.Idx) : val_main_v20_1 (F := Ideal) i = if (i 3).val ≤ (i 2).val then 1#1 else 0#1 := by
  rw [val_main_v20_1_apply, val_main_v19_apply, val_main_v17_apply, val_main_v18_apply, val_main_v15_apply, val_main_v16_apply, val_main_v14_apply,
    val_main_v13_apply]
  have h0 : (i 2).val < 4096 := (i 2).isLt
  have h1 : (i 3).val < 4096 := (i 3).isLt
  show BitVec.ofBool ((BitVec.ofNat 32 (i 3).val).sle (BitVec.ofNat 32 (i 2).val)) = _
  rw [sle_ofNat (by omega) (by omega)]
  by_cases h : (i 3).val ≤ (i 2).val <;> simp [h]

theorem select_at (p : Prop) [Decidable p] (x y : EReal) : Scalar.select (if p then 1#1 else 0#1) x y = if p then x else y := by
  by_cases h : p
  · rw [if_pos h, if_pos h]; rfl
  · rw [if_neg h, if_neg h]; rfl

/-- A row of scores, `-∞` where the query doesn't meet the key. -/
def masked (h t s : ℕ) : EReal := if s ≤ t then ((zH Q K h t s : ℝ) : EReal) else ⊥

theorem masked_at (i : S1x8x4096x4096.Idx) : val_main_v20_0 (F := Ideal) (qs Q) (qs K) i = masked Q K (i 1).val (i 2).val (i 3).val := by
  rw [val_main_v20_0_apply, mask_at, z_at, val_main_call0_v2_apply, val_main_call0_v0_apply, val_main_cst_apply]
  exact (select_at _ _ _).trans (by rw [show FloatOps.ofBits (F := Ideal) .f32 0xFF800000#32 = (⊥ : EReal) from ofBits_bot]; rfl)

/-- The largest of a row. -/
def top (h t : ℕ) : ℝ := EReal.toReal ((Finset.univ : Finset (Fin 4096)).fold max (⊥ : EReal) fun s => masked Q K h t s.val)

theorem fold_masked (h t : ℕ) : ((Finset.univ : Finset (Fin 4096)).fold max (⊥ : EReal) fun s => masked Q K h t s.val) = ((top Q K h t : ℝ) : EReal) := by
  obtain ⟨r, hr⟩ := fold_real (fun s : Fin 4096 => masked Q K h t s.val) (fun s => by unfold masked; split <;> simp) ⟨0, by decide⟩
    (by dsimp only; unfold masked; rw [if_pos (Nat.zero_le t)]; exact EReal.coe_ne_bot _)
  unfold top
  rw [hr, EReal.toReal_coe]

theorem top_at (i : S1x8x4096.Idx) : val_main_v28 (F := Ideal) (qs Q) (qs K) i = ((top Q K (i 1).val (i 2).val : ℝ) : EReal) := by
  have e : val_main_v21 (F := Ideal) (qs Q) (qs K) i = ((top Q K (i 1).val (i 2).val : ℝ) : EReal) := by
    unfold val_main_v21
    refine (Host.reduce_eq_fold_single (FloatOps.maximumf (F := Ideal) (φ := .f32)) _ _ _ (by decide) _ i).trans ?_
    refine Eq.trans ?_ (fold_masked Q K (i 1).val (i 2).val)
    show Finset.fold max (Ideal.ofBits .f32 0xFF800000#32) _ _ = _
    rw [ofBits_bot]
    exact Finset.fold_congr fun s _ => masked_at Q K _
  rw [val_main_v28_apply, val_main_v27_apply, val_main_cst_2_apply, e]
  show max (Ideal.ofBits .f32 0xFF800000#32) _ = _
  rw [ofBits_bot]
  exact max_eq_right bot_le

/-- The factor all exponentials of a row carry. -/
def fac (h t : ℕ) : ℝ := Real.exp (-top Q K h t)
theorem fac_ne (h t : ℕ) : fac Q K h t ≠ 0 := (Real.exp_pos _).ne'

theorem e_at (i : S1x8x4096x4096.Idx) : val_main_v41 (F := Ideal) (qs Q) (qs K) i
    = ((wH Q K (i 1).val (i 2).val (i 3).val * fac Q K (i 1).val (i 2).val : ℝ) : EReal) := by
  rw [val_main_v41_apply, val_main_v40_apply, masked_at, val_main_v39_apply, val_main_v38_apply, top_at]
  show Ideal.exp (masked Q K (i 1).val (i 2).val (i 3).val - ((top Q K (i 1).val (i 2).val : ℝ) : EReal)) = _
  unfold masked wH wM fac
  split
  · rw [← EReal.coe_sub, ← Real.exp_add]; rfl
  · rw [zero_mul, EReal.bot_sub]; rfl

theorem n_at (i : S1x8x4096.Idx) : val_main_v42 (F := Ideal) (qs Q) (qs K) i
    = ((nH Q K (i 1).val (i 2).val * fac Q K (i 1).val (i 2).val : ℝ) : EReal) := by
  rw [val_main_v42_apply, val_main_cst_8_apply]
  refine Eq.trans (congrArg₂ (· + ·) ((ofBits_zero : Ideal.ofBits .f32 0x00000000#32 = _).trans EReal.coe_zero) rfl) ?_
  unfold nH nM
  rw [zero_add, Finset.sum_mul, ← sum_real]
  exact Finset.sum_congr rfl fun k _ => by rw [e_at]

theorem nf_ne (h t : ℕ) : nH Q K h t * fac Q K h t ≠ 0 := mul_ne_zero (nM_pos _ _ t).ne' (fac_ne Q K h t)

theorem p_at (i : S1x8x4096x4096.Idx) : val_main_v45 (F := Ideal) (qs Q) (qs K) i
    = ((pM (wide Q (i 1).val) (wide K (i 1).val) (i 2).val (i 3).val : ℝ) : EReal) := by
  rw [val_main_v45_apply, e_at, val_main_v44_apply, val_main_v43_apply, n_at]
  refine (div_real _ (nf_ne Q K _ _)).trans ?_
  rw [mul_div_mul_right _ _ (fac_ne Q K _ _)]
  rfl

/-! ## The gradient of the scores -/

theorem dp_at (i : S1x8x4096x4096.Idx) : val_main_v56 (F := Ideal) (qs V) (ds D) i
    = ((dpM (hv V (i 1).val) (hd D (i 1).val) (i 2).val (i 3).val : ℝ) : EReal) := by
  unfold dpM
  rw [val_main_v56_apply, ← sum_coe_mul]
  exact Finset.sum_congr rfl fun k _ => by rw [dy_at, v_at]

/-- What a row's sum contributes to each of its scores' gradients. -/
def inner (h t : ℕ) : ℝ :=
  ∑ l ∈ Finset.range 4096, dpM (hv V h) (hd D h) t l * (1 / (nH Q K h t * fac Q K h t * (nH Q K h t * fac Q K h t))) * (wH Q K h t l * fac Q K h t)

theorem inv_at (i : S1x8x4096x1.Idx) : val_main_v48 (F := Ideal) (qs Q) (qs K) i
    = ((1 / (nH Q K (i 1).val (i 2).val * fac Q K (i 1).val (i 2).val * (nH Q K (i 1).val (i 2).val * fac Q K (i 1).val (i 2).val)) : ℝ) : EReal) := by
  rw [val_main_v48_apply, val_main_v46_apply, val_main_v43_apply, n_at, val_main_v47_apply, val_main_cst_9_apply]
  show Ideal.div (Ideal.ofBits .f32 0x3F800000#32) (((_ : ℝ) : EReal) * ((_ : ℝ) : EReal)) = _
  rw [one_bits, ← EReal.coe_mul]
  exact div_real _ (mul_ne_zero (nf_ne Q K _ _) (nf_ne Q K _ _))

theorem term_at (i : S1x8x4096x4096.Idx) : val_main_v59 (F := Ideal) (qs Q) (qs K) (qs V) (ds D) i
    = ((dpM (hv V (i 1).val) (hd D (i 1).val) (i 2).val (i 3).val
        * (1 / (nH Q K (i 1).val (i 2).val * fac Q K (i 1).val (i 2).val * (nH Q K (i 1).val (i 2).val * fac Q K (i 1).val (i 2).val)))
        * (wH Q K (i 1).val (i 2).val (i 3).val * fac Q K (i 1).val (i 2).val) : ℝ) : EReal) := by
  rw [val_main_v59_apply, val_main_v58_apply, dp_at, val_main_v57_apply, inv_at, e_at]
  show ((_ : ℝ) : EReal) * ((_ : ℝ) : EReal) * ((_ : ℝ) : EReal) = _
  rw [← EReal.coe_mul, ← EReal.coe_mul]

theorem inner_at (i : S1x8x4096.Idx) : val_main_v60 (F := Ideal) (qs Q) (qs K) (qs V) (ds D) i
    = ((inner Q K V D (i 1).val (i 2).val : ℝ) : EReal) := by
  rw [val_main_v60_apply, val_main_cst_10_apply]
  refine Eq.trans (congrArg₂ (· + ·) ((ofBits_zero : Ideal.ofBits .f32 0x00000000#32 = _).trans EReal.coe_zero) rfl) ?_
  unfold inner
  rw [zero_add, ← sum_real]
  exact Finset.sum_congr rfl fun k _ => by rw [term_at]

theorem neg_at (i : S1x8x4096x1.Idx) : val_main_v62 (F := Ideal) (qs Q) (qs K) (qs V) (ds D) i
    = ((-inner Q K V D (i 1).val (i 2).val : ℝ) : EReal) := by
  have h1 : (i 1).val < 8 := (i 1).isLt
  have h2 : (i 2).val < 4096 := (i 2).isLt
  have h0 : (i 0).val < 1 := (i 0).isLt
  have h3 : (i 3).val < 1 := (i 3).isLt
  rw [val_main_v62_apply, val_main_v61_apply, inner_at]
  show -((inner Q K V D (((((i 0).val * 8 + (i 1).val) * 4096 + (i 2).val) * 1 + (i 3).val) / 4096 % 8)
    (((((i 0).val * 8 + (i 1).val) * 4096 + (i 2).val) * 1 + (i 3).val) % 4096) : ℝ) : EReal) = _
  rw [← EReal.coe_neg, show ((((i 0).val * 8 + (i 1).val) * 4096 + (i 2).val) * 1 + (i 3).val) / 4096 % 8 = (i 1).val by omega,
    show ((((i 0).val * 8 + (i 1).val) * 4096 + (i 2).val) * 1 + (i 3).val) % 4096 = (i 2).val by omega]

/-- The index of a row, its axes of one put back. -/
def unflat (j : S8x4096.Idx) : S1x8x4096x1.Idx := ix4 (0 : Fin 1) (j 0) (j 1) (0 : Fin 1)

/-- The sum over the two axes of one leaves each number as it is. -/
theorem flat_at (j : S8x4096.Idx) : val_main_v65 (F := Ideal) (qs Q) (qs K) (qs V) (ds D) j
    = ((-inner Q K V D (j 0).val (j 1).val : ℝ) : EReal) := by
  unfold val_main_v65
  show Ideal.ofBits .f32 0x00000000#32
    + ∑ i ∈ Finset.univ.filter (fun i => reducesTo_S1x8x4096x1_S8x4096_d0_3.drop i = j), val_main_v62 (F := Ideal) (qs Q) (qs K) (qs V) (ds D) i = _
  have key : ∀ i : S1x8x4096x1.Idx, reducesTo_S1x8x4096x1_S8x4096_d0_3.drop i = j ↔ i = unflat j := by
    intro i
    have d0 := reducesTo_S1x8x4096x1_S8x4096_d0_3.drop_apply_val_of_eq i 0 1 (by decide)
    have d1 := reducesTo_S1x8x4096x1_S8x4096_d0_3.drop_apply_val_of_eq i 1 2 (by decide)
    constructor
    · rintro rfl
      refine (eq_ix4 i).trans ?_
      unfold unflat
      congr 1
      · exact Subsingleton.elim (α := Fin 1) _ _
      · exact Subsingleton.elim (α := Fin 1) _ _
    · rintro rfl
      funext b
      match b with
      | ⟨0, _⟩ => exact Fin.ext d0
      | ⟨1, _⟩ => exact Fin.ext d1
  have one : Finset.univ.filter (fun i => reducesTo_S1x8x4096x1_S8x4096_d0_3.drop i = j) = {unflat j} := by
    ext i
    rw [Finset.mem_filter, Finset.mem_singleton]
    exact ⟨fun h => (key i).1 h.2, fun h => ⟨Finset.mem_univ _, (key i).2 h⟩⟩
  rw [one, Finset.sum_singleton, neg_at, ofBits_zero, EReal.coe_zero, zero_add]
  rfl

theorem ds_at (i : S1x8x4096x4096.Idx) : val_main_v70 (F := Ideal) (qs Q) (qs K) (qs V) (ds D) i
    = ((dsM (wide Q (i 1).val) (wide K (i 1).val) (hv V (i 1).val) (hd D (i 1).val) (i 2).val (i 3).val : ℝ) : EReal) := by
  rw [val_main_v70_apply, mask_at, val_main_v69_apply, val_main_v68_apply, val_main_v64_apply, dp_at, val_main_v63_apply, val_main_v43_apply, n_at,
    val_main_v67_apply, val_main_v66_apply, flat_at, e_at, val_main_call1_v0_apply, val_main_call1_cst_apply]
  refine (select_at _ _ _).trans ?_
  split
  · show (Ideal.div ((_ : ℝ) : EReal) ((_ : ℝ) : EReal) + ((_ : ℝ) : EReal)) * ((_ : ℝ) : EReal) = _
    rw [div_real _ (nf_ne Q K _ _), ← EReal.coe_add, ← EReal.coe_mul]
    exact congrArg _ (ds_scaled _ _ _ _ _ _ (fac_ne Q K _ _))
  · rename_i h
    rw [dsM_none _ _ _ _ (not_le.1 h)]
    exact ofBits_zero

/-! ## The results -/

theorem y_at (i : S1x8x4096x128.Idx) : val_main_v49 (F := Ideal) (qs Q) (qs K) (qs V) i
    = ((yM (wide Q (i 1).val) (wide K (i 1).val) (hv V (i 1).val) (i 2).val (i 3).val : ℝ) : EReal) := by
  unfold yM
  rw [val_main_v49_apply, ← sum_coe_mul]
  exact Finset.sum_congr rfl fun k _ => by rw [p_at, v_at]

theorem dv_at (i : S1x8x4096x128.Idx) : val_main_v55 (F := Ideal) (qs Q) (qs K) (ds D) i
    = ((dvA (wide Q (i 1).val) (wide K (i 1).val) (hd D (i 1).val) 8 (i 2).val (i 3).val : ℝ) : EReal) := by
  unfold dvA
  rw [val_main_v55_apply, val_main_v54_apply, ← sum_coe_mul]
  exact Finset.sum_congr rfl fun k _ => by rw [p_at, dy_at, mul_comm]

theorem dk_at (i : S1x8x4096x256.Idx) : val_main_v71 (F := Ideal) (qs Q) (qs K) (qs V) (ds D) i
    = ((dkA (wide Q (i 1).val) (wide K (i 1).val) (hv V (i 1).val) (hd D (i 1).val) 8 (i 2).val (i 3).val : ℝ) : EReal) := by
  unfold dkA
  rw [val_main_v71_apply, ← sum_coe_mul]
  exact Finset.sum_congr rfl fun k _ => by rw [ds_at, q_at]

theorem dq_at (i : S1x8x4096x256.Idx) : val_main_v72 (F := Ideal) (qs Q) (qs K) (qs V) (ds D) i
    = ((∑ s ∈ Finset.range 4096, dsM (wide Q (i 1).val) (wide K (i 1).val) (hv V (i 1).val) (hd D (i 1).val) (i 2).val s * wide K (i 1).val s (i 3).val : ℝ) : EReal) := by
  rw [val_main_v72_apply, ← sum_coe_mul]
  exact Finset.sum_congr rfl fun k _ => by rw [ds_at, k_at]

/-- Heads of 128 columns side by side again, and heads of 256. -/
theorem lay {x : S1x8x4096x128.Idx → EReal} {f : ℕ → Mat} (hx : ∀ i, x i = ((f (i 1).val (i 2).val (i 3).val : ℝ) : EReal))
    (i : S4096x1024.Idx) (j : S1x8x4096x128.Idx) (h1 : (j 1).val = ((i 0).val * 1024 + (i 1).val) / 128 % 8)
    (h2 : (j 2).val = ((i 0).val * 1024 + (i 1).val) / 1024 % 4096) (h3 : (j 3).val = ((i 0).val * 1024 + (i 1).val) % 128) :
    x j = up 4096 1024 .f32 (beside f) i := by
  have b0 : (i 0).val < 4096 := (i 0).isLt
  have b1 : (i 1).val < 1024 := (i 1).isLt
  rw [hx, h1, h2, h3]
  show _ = ((f ((i 1).val / 128) (i 0).val ((i 1).val % 128) : ℝ) : EReal)
  rw [show ((i 0).val * 1024 + (i 1).val) / 128 % 8 = (i 1).val / 128 by omega, show ((i 0).val * 1024 + (i 1).val) / 1024 % 4096 = (i 0).val by omega,
    show ((i 0).val * 1024 + (i 1).val) % 128 = (i 1).val % 128 by omega]
theorem layW {x : S1x8x4096x256.Idx → EReal} {f : ℕ → Mat} (hx : ∀ i, x i = ((f (i 1).val (i 2).val (i 3).val : ℝ) : EReal))
    (i : S4096x2048.Idx) (j : S1x8x4096x256.Idx) (h1 : (j 1).val = ((i 0).val * 2048 + (i 1).val) / 256 % 8)
    (h2 : (j 2).val = ((i 0).val * 2048 + (i 1).val) / 2048 % 4096) (h3 : (j 3).val = ((i 0).val * 2048 + (i 1).val) % 256) :
    x j = ((besideW f (i 0).val (i 1).val : ℝ) : EReal) := by
  have b0 : (i 0).val < 4096 := (i 0).isLt
  have b1 : (i 1).val < 2048 := (i 1).isLt
  rw [hx, h1, h2, h3]
  show _ = ((f ((i 1).val / 256) (i 0).val ((i 1).val % 256) : ℝ) : EReal)
  rw [show ((i 0).val * 2048 + (i 1).val) / 256 % 8 = (i 1).val / 256 by omega, show ((i 0).val * 2048 + (i 1).val) / 2048 % 4096 = (i 0).val by omega,
    show ((i 0).val * 2048 + (i 1).val) % 256 = (i 1).val % 256 by omega]

theorem y_eq : val_main_v51 (F := Ideal) (qs Q) (qs K) (qs V) = up 4096 1024 .f32 (yA Q K V) :=
  funext fun i => by
    rw [val_main_v51_apply, val_main_v50_apply]
    exact lay (f := fun h => yM (wide Q h) (wide K h) (hv V h)) (y_at Q K V) i _ rfl rfl rfl
theorem dv_eq : val_main_v74 (F := Ideal) (qs Q) (qs K) (ds D) = up 4096 1024 .f32 (dvO Q K D) :=
  funext fun i => by
    rw [val_main_v74_apply, val_main_v73_apply]
    exact lay (f := fun h => dvA (wide Q h) (wide K h) (hd D h) 8) (dv_at Q K D) i _ rfl rfl rfl
theorem dk_eq : val_main_v76 (F := Ideal) (qs Q) (qs K) (qs V) (ds D) = up 4096 2048 .f32 (dkO Q K V D) :=
  funext fun i => by
    rw [val_main_v76_apply, val_main_v75_apply]
    exact layW (f := fun h => dkA (wide Q h) (wide K h) (hv V h) (hd D h) 8) (dk_at Q K V D) i _ rfl rfl rfl
theorem dq_eq : val_main_v80 (F := Ideal) (qs Q) (qs K) (qs V) (ds D) = up 4096 2048 .f32 (dqO Q K V D) :=
  funext fun i => by
    rw [val_main_v80_apply, val_main_v78_apply, val_main_v77_apply, val_main_v79_apply, val_main_cst_12_apply,
      layW (f := fun h t d => ∑ s ∈ Finset.range 4096, dsM (wide Q h) (wide K h) (hv V h) (hd D h) t s * wide K h s d) (dq_at Q K V D) i _ rfl rfl rfl]
    show ((_ : ℝ) : EReal) * Ideal.ofBits .f32 0x3D93CD3A#32 = _
    rw [ofBits_scale, ← EReal.coe_mul]
    rfl

end

end Cert.Mla.Ref
-- ==== Proof.RefScan.lean ====
/-
  The reference's two running sums along the keys, over reals: the sum of a row from a column on, and the sum of a row up to a
  column, each written as a sum over a window of the whole row's length, the row padded with zeros on one side.
-/
module

public import proofs.«01_k».proof.Proof.Stick
public import proofs.«01_k».proof.Proof.Gen.ReferenceIdeal.Read

@[expose] public section

noncomputable section

namespace Cert.Sb.Ref

open Idealize.ShloMosaic hiding ix1 ix2 ix3 ix4 eq_ix1 eq_ix2 eq_ix3 eq_ix4
open ValueIdx
open ReferenceIdeal ReferenceIdeal.Gen

/-- A fold that adds is a sum. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The positions of a window one wide on the first three axes. -/
def windowPos : Fin 4096 ≃ (⟨4, ![1, 1, 1, 4096]⟩ : Shape).Idx where
  toFun k := ix4 0 0 0 k
  invFun w := w 3
  left_inv _ := rfl
  right_inv w := funext fun a => match a with
    | ⟨0, _⟩ => (Subsingleton.elim (α := Fin 1) _ _ : (0 : Fin 1) = w 0)
    | ⟨1, _⟩ => (Subsingleton.elim (α := Fin 1) _ _ : (0 : Fin 1) = w 1)
    | ⟨2, _⟩ => (Subsingleton.elim (α := Fin 1) _ _ : (0 : Fin 1) = w 2)
    | ⟨3, _⟩ => rfl

/-- A window sum from zero, along the last axis, as a sum over the window's columns. -/
theorem window_sum (lo hi : Fin 4 → ℕ) (x : S1x8x4096x4096.Idx → EReal)
    (h : S1x8x4096x4096.ReduceWindows ![1, 1, 1, 4096] ![1, 1, 1, 1] lo hi S1x8x4096x4096) (j : S1x8x4096x4096.Idx) :
    Ideal.hostReduceWindowAdd ![1, 1, 1, 4096] ![1, 1, 1, 1] lo hi h x 0 j
      = ∑ k : Fin 4096, if hin : ∀ a : Fin 4, lo a ≤ (j a).val * (![1, 1, 1, 1] : Fin 4 → ℕ) a + (windowPos k a).val
            ∧ (j a).val * (![1, 1, 1, 1] : Fin 4 → ℕ) a + (windowPos k a).val - lo a < S1x8x4096x4096.size a
          then x (fun a => ⟨(j a).val * (![1, 1, 1, 1] : Fin 4 → ℕ) a + (windowPos k a).val - lo a, (hin a).2⟩) else 0 := by
  unfold Ideal.hostReduceWindowAdd Host.reduceWindow
  dsimp only
  rw [foldl_sum, zero_add, ← Fin.sum_univ_def]
  exact (Finset.sum_congr rfl fun n _ => dite_congr rfl (fun _ => rfl) fun _ => rfl).trans ((Equiv.sum_comp (Shape.rowMajor ⟨4, ![1, 1, 1, 4096]⟩).symm
    (fun w => if hin : ∀ a : Fin 4, lo a ≤ (j a).val * (![1, 1, 1, 1] : Fin 4 → ℕ) a + (w a).val
            ∧ (j a).val * (![1, 1, 1, 1] : Fin 4 → ℕ) a + (w a).val - lo a < S1x8x4096x4096.size a
          then x (fun a => ⟨(j a).val * (![1, 1, 1, 1] : Fin 4 → ℕ) a + (w a).val - lo a, (hin a).2⟩) else 0)).trans (Equiv.sum_comp windowPos _).symm)

/-- The columns of a row from `c` on. -/
theorem sum_from (g : ℕ → ℝ) (c : ℕ) (hc : c ≤ 4096) :
    ∑ k ∈ Finset.range 4096, (if c + k < 4096 then g (c + k) else 0) = ∑ l ∈ Finset.Ico c 4096, g l := by
  rw [Finset.sum_Ico_eq_sum_range, ← Finset.sum_filter]
  refine Finset.sum_congr ?_ fun _ _ => rfl
  ext k; simp only [Finset.mem_filter, Finset.mem_range]; omega

/-- The columns of a row up to `c`. -/
theorem sum_upto (g : ℕ → ℝ) (c : ℕ) (hc : c < 4096) :
    ∑ k ∈ Finset.range 4096, (if 4095 ≤ c + k then g (c + k - 4095) else 0) = ∑ l ∈ Finset.range (c + 1), g l := by
  have e : ∑ k ∈ Finset.range 4096, (if 4095 ≤ c + k then g (c + k - 4095) else 0)
      = ∑ k ∈ Finset.Ico (4095 - c) 4096, g (c + k - 4095) := by
    rw [← Finset.sum_filter]
    refine Finset.sum_congr ?_ fun _ _ => rfl
    ext k; simp only [Finset.mem_filter, Finset.mem_range, Finset.mem_Ico]; omega
  rw [e, Finset.sum_Ico_eq_sum_range, show 4096 - (4095 - c) = c + 1 by omega]
  exact Finset.sum_congr rfl fun k _ => by rw [show c + (4095 - c + k) - 4095 = k by omega]

/-- The sum of a row from a column on. -/
theorem suffix_sum {x : S1x8x4096x4096.Idx → EReal} {f : ℕ → Mat}
    (hx : ∀ i, x i = ((f (i 1).val (i 2).val (i 3).val : ℝ) : EReal))
    (h : S1x8x4096x4096.ReduceWindows ![1, 1, 1, 4096] ![1, 1, 1, 1] ![0, 0, 0, 0] ![0, 0, 0, 4095] S1x8x4096x4096) (j : S1x8x4096x4096.Idx) :
    Ideal.hostReduceWindowAdd ![1, 1, 1, 4096] ![1, 1, 1, 1] ![0, 0, 0, 0] ![0, 0, 0, 4095] h x 0 j
      = ((∑ l ∈ Finset.Ico (j 3).val 4096, f (j 1).val (j 2).val l : ℝ) : EReal) := by
  have h0 : (j 0).val < 1 := (j 0).isLt
  have h1 : (j 1).val < 8 := (j 1).isLt
  have h2 : (j 2).val < 4096 := (j 2).isLt
  have h3 : (j 3).val < 4096 := (j 3).isLt
  rw [window_sum, ← sum_from _ _ h3.le, Finset.sum_range, coe_sum]
  refine Finset.sum_congr rfl fun k _ => ?_
  by_cases hk : (j 3).val + k.val < 4096
  · rw [if_pos hk, dif_pos, hx]
    · show ((f ((j 1).val * 1 + 0 - 0) ((j 2).val * 1 + 0 - 0) ((j 3).val * 1 + k.val - 0) : ℝ) : EReal) = _
      simp only [Nat.mul_one, Nat.add_zero, Nat.sub_zero]
    · intro a
      match a with
      | ⟨0, _⟩ => exact ⟨Nat.zero_le _, by show (j 0).val * 1 + 0 - 0 < 1; omega⟩
      | ⟨1, _⟩ => exact ⟨Nat.zero_le _, by show (j 1).val * 1 + 0 - 0 < 8; omega⟩
      | ⟨2, _⟩ => exact ⟨Nat.zero_le _, by show (j 2).val * 1 + 0 - 0 < 4096; omega⟩
      | ⟨3, _⟩ => exact ⟨Nat.zero_le _, by show (j 3).val * 1 + k.val - 0 < 4096; omega⟩
  · rw [if_neg hk, dif_neg, EReal.coe_zero]
    intro hin
    have := (hin 3).2
    change (j 3).val * 1 + k.val - 0 < 4096 at this
    omega

/-- The sum of a row up to a column. -/
theorem prefix_sum {x : S1x8x4096x4096.Idx → EReal} {f : ℕ → Mat}
    (hx : ∀ i, x i = ((f (i 1).val (i 2).val (i 3).val : ℝ) : EReal))
    (h : S1x8x4096x4096.ReduceWindows ![1, 1, 1, 4096] ![1, 1, 1, 1] ![0, 0, 0, 4095] ![0, 0, 0, 0] S1x8x4096x4096) (j : S1x8x4096x4096.Idx) :
    Ideal.hostReduceWindowAdd ![1, 1, 1, 4096] ![1, 1, 1, 1] ![0, 0, 0, 4095] ![0, 0, 0, 0] h x 0 j
      = ((∑ l ∈ Finset.range ((j 3).val + 1), f (j 1).val (j 2).val l : ℝ) : EReal) := by
  have h0 : (j 0).val < 1 := (j 0).isLt
  have h1 : (j 1).val < 8 := (j 1).isLt
  have h2 : (j 2).val < 4096 := (j 2).isLt
  have h3 : (j 3).val < 4096 := (j 3).isLt
  rw [window_sum, ← sum_upto _ _ h3, Finset.sum_range, coe_sum]
  refine Finset.sum_congr rfl fun k _ => ?_
  by_cases hk : 4095 ≤ (j 3).val + k.val
  · rw [if_pos hk, dif_pos, hx]
    · show ((f ((j 1).val * 1 + 0 - 0) ((j 2).val * 1 + 0 - 0) ((j 3).val * 1 + k.val - 4095) : ℝ) : EReal) = _
      simp only [Nat.mul_one, Nat.add_zero, Nat.sub_zero]
    · intro a
      match a with
      | ⟨0, _⟩ => exact ⟨Nat.zero_le _, by show (j 0).val * 1 + 0 - 0 < 1; omega⟩
      | ⟨1, _⟩ => exact ⟨Nat.zero_le _, by show (j 1).val * 1 + 0 - 0 < 8; omega⟩
      | ⟨2, _⟩ => exact ⟨Nat.zero_le _, by show (j 2).val * 1 + 0 - 0 < 4096; omega⟩
      | ⟨3, _⟩ => exact ⟨by show 4095 ≤ (j 3).val * 1 + k.val; omega, by show (j 3).val * 1 + k.val - 4095 < 4096; have := k.isLt; omega⟩
  · rw [if_neg hk, dif_neg, EReal.coe_zero]
    intro hin
    have := (hin 3).1
    change 4095 ≤ (j 3).val * 1 + k.val at this
    omega

/-! ## The soft maximum with zero -/

/-- The logarithm of one plus the exponential, as the reference writes it. -/
def sp (x : ℝ) : ℝ := max x 0 + Real.log (1 + Real.exp (-|x|))

theorem sp_neg (z : ℝ) : -sp (-z) = lb z := by
  unfold sp lb
  rw [abs_neg, zero_sub]
  have : max (-z) 0 = -min z 0 := by rcases le_total z 0 with h | h <;> simp [h]
  rw [this]; ring

theorem sp_pos (z : ℝ) : -sp z = lb z - z := by
  unfold sp lb
  rw [zero_sub]
  have : max z 0 = z - min z 0 := by rcases le_total z 0 with h | h <;> simp [h]
  rw [this]; ring

/-- The logistic function and that of the opposite number add to one. -/
theorem exp_lb (z : ℝ) : Real.exp (lb z - z) = 1 - Real.exp (lb z) := by
  have key : Real.exp (lb z) * (1 + Real.exp (-z)) = 1 := by
    unfold lb
    rw [zero_sub, Real.exp_sub, Real.exp_log (by positivity)]
    rcases le_total z 0 with h | h
    · rw [min_eq_left h, abs_of_nonpos h, neg_neg, div_mul_eq_mul_div, mul_add, ← Real.exp_add, add_neg_cancel, Real.exp_zero, mul_one,
        add_comm, div_self (by positivity)]
    · rw [min_eq_right h, abs_of_nonneg h, Real.exp_zero, div_mul_eq_mul_div, one_mul, div_self (by positivity)]
  rw [sub_eq_add_neg, Real.exp_add]
  linarith

end Cert.Sb.Ref
-- ==== Proof.RefValue.lean ====
/-
  What the reference computes, one array at a time, over reals: the heads, the scores, the logarithms of the gates and of their
  complements, the weights, and the gradients of the scores; then the four results. An index reads (one, head, row, column).
-/
module

public import proofs.«01_k».proof.Proof.RefScan
public import proofs.«01_k».proof.Proof.BwdArray

@[expose] public section

noncomputable section

namespace Cert.Sb.Ref

open Idealize.ShloMosaic
open ValueIdx
open ReferenceIdeal ReferenceIdeal.Gen ReferenceIdeal.Read

/-! ## One element -/

theorem inf_bits : Ideal.ofBits .f32 0x7F800000#32 = ⊤ := by simp [Ideal.ofBits, Ideal.ieee]

theorem une_self (x : EReal) : FloatOps.cmpf (F := Ideal) (φ := .f32) .une x x = 0#1 := by
  show BitVec.ofBool _ = _
  simp

theorem oeq_inf (r : ℝ) : FloatOps.cmpf (F := Ideal) (φ := .f32) .oeq (r : EReal) (⊤ : EReal) = 0#1 := by
  show Ideal.cmp .oeq (r : EReal) ⊤ = 0#1
  simp [Ideal.cmp]

/-- A real is not infinite. -/
theorem keep (r : ℝ) (y x : EReal) :
    Scalar.select (FloatOps.cmpf (F := Ideal) (φ := .f32) .oeq (r : EReal) (Ideal.ofBits .f32 0x7F800000#32)) y x = x := by
  rw [inf_bits, oeq_inf]; rfl

theorem log1p_exp (r : ℝ) : Ideal.log1p (Ideal.exp (r : EReal)) = ((Real.log (1 + Real.exp r) : ℝ) : EReal) := by
  show Ideal.log (1 + ((Real.exp r : ℝ) : EReal)) = _
  rw [← EReal.coe_one, ← EReal.coe_add]
  show (if 1 + Real.exp r ≤ 0 then (⊥ : EReal) else _) = _
  rw [if_neg (not_le.2 (by positivity))]

/-- The exponential of a difference whose terms are replaced where they are infinite. -/
theorem exp_diff (a b : ℝ) (y w : EReal) :
    FloatOps.hostUnary (F := Ideal) (φ := .f32) .exp (FloatOps.subf (F := Ideal) (φ := .f32)
      (Scalar.select (FloatOps.cmpf (F := Ideal) (φ := .f32) .oeq (a : EReal) (FloatOps.ofBits (F := Ideal) .f32 0x7F800000#32)) y (a : EReal))
      (Scalar.select (FloatOps.cmpf (F := Ideal) (φ := .f32) .oeq (b : EReal) (FloatOps.ofBits (F := Ideal) .f32 0x7F800000#32)) w (b : EReal)))
      = ((Real.exp (a - b) : ℝ) : EReal) :=
  (congrArg₂ (fun p q : EReal => Ideal.exp (p - q)) (keep a y a) (keep b w b)).trans (by rw [← EReal.coe_sub]; rfl)

/-- The chain of operations that makes the soft maximum with zero. -/
theorem sp_chain (r : ℝ) :
    max (r : EReal) ((0 : ℝ) : EReal) + Ideal.log1p (Ideal.exp (-(max ((r : EReal) - ((0 : ℝ) : EReal)) (-((r : EReal) - ((0 : ℝ) : EReal))))))
      = ((sp r : ℝ) : EReal) := by
  rw [← EReal.coe_sub, sub_zero, ← coe_abs, ← EReal.coe_neg, log1p_exp, ← coe_max, ← EReal.coe_add]
  rfl

/-! ## The heads -/

section
variable (P D : Mat)

/-- The first argument. -/
abbrev xs : FVec Ideal S4096x8320 .bf16 := up 4096 8320 .bf16 P
/-- The second. -/
abbrev ys : FVec Ideal S4096x1024 .bf16 := up 4096 1024 .bf16 D

theorem split_row {a t h d : ℕ} (ha : a < 1) (hh : h < 8) (hd : d < 128) : (((a * 4096 + t) * 8 + h) * 128 + d) / 1024 = t := by omega
theorem split_col {a t h d : ℕ} (ha : a < 1) (hh : h < 8) (hd : d < 128) : (((a * 4096 + t) * 8 + h) * 128 + d) % 1024 = 128 * h + d := by omega

theorem q_at (i : S1x8x4096x128.Idx) : val_main_v8 (F := Ideal) (xs P) i = ((hq P (i 1).val (i 2).val (i 3).val : ℝ) : EReal) := by
  rw [val_main_v8_apply, val_main_v7_apply, val_main_v3_apply, val_main_v0_apply]
  show ((P (((((i 0).val * 4096 + (i 2).val) * 8 + (i 1).val) * 128 + (i 3).val) / 1024)
    (1024 + ((((i 0).val * 4096 + (i 2).val) * 8 + (i 1).val) * 128 + (i 3).val) % 1024) : ℝ) : EReal) = _
  rw [split_row (i 0).isLt (i 1).isLt (i 3).isLt, split_col (i 0).isLt (i 1).isLt (i 3).isLt, ← add_assoc]
  rfl
theorem k_at (i : S1x8x4096x128.Idx) : val_main_v10 (F := Ideal) (xs P) i = ((hk P (i 1).val (i 2).val (i 3).val : ℝ) : EReal) := by
  rw [val_main_v10_apply, val_main_v9_apply, val_main_v4_apply, val_main_v0_apply]
  show ((P (((((i 0).val * 4096 + (i 2).val) * 8 + (i 1).val) * 128 + (i 3).val) / 1024)
    (2048 + ((((i 0).val * 4096 + (i 2).val) * 8 + (i 1).val) * 128 + (i 3).val) % 1024) : ℝ) : EReal) = _
  rw [split_row (i 0).isLt (i 1).isLt (i 3).isLt, split_col (i 0).isLt (i 1).isLt (i 3).isLt, ← add_assoc]
  rfl
theorem v_at (i : S1x8x4096x128.Idx) : val_main_v12 (F := Ideal) (xs P) i = ((hv P (i 1).val (i 2).val (i 3).val : ℝ) : EReal) := by
  rw [val_main_v12_apply, val_main_v11_apply, val_main_v5_apply, val_main_v0_apply]
  show ((P (((((i 0).val * 4096 + (i 2).val) * 8 + (i 1).val) * 128 + (i 3).val) / 1024)
    (3072 + ((((i 0).val * 4096 + (i 2).val) * 8 + (i 1).val) * 128 + (i 3).val) % 1024) : ℝ) : EReal) = _
  rw [split_row (i 0).isLt (i 1).isLt (i 3).isLt, split_col (i 0).isLt (i 1).isLt (i 3).isLt, ← add_assoc]
  rfl
theorem dy_at (i : S1x8x4096x128.Idx) : val_main_v37 (F := Ideal) (ys D) i = ((hd D (i 1).val (i 2).val (i 3).val : ℝ) : EReal) := by
  rw [val_main_v37_apply, val_main_v36_apply, val_main_v35_apply]
  show ((D (((((i 0).val * 4096 + (i 2).val) * 8 + (i 1).val) * 128 + (i 3).val) / 1024)
    (((((i 0).val * 4096 + (i 2).val) * 8 + (i 1).val) * 128 + (i 3).val) % 1024) : ℝ) : EReal) = _
  rw [split_row (i 0).isLt (i 1).isLt (i 3).isLt, split_col (i 0).isLt (i 1).isLt (i 3).isLt]
  show _ = ((D _ (0 + _ + _) : ℝ) : EReal)
  rw [zero_add]

/-! ## The scores and the gates -/

/-- The scores of a head. -/
abbrev zH (h : ℕ) : Mat := zM (hq P h) (hk P h)

theorem z_at (i : S1x8x4096x4096.Idx) : val_main_v15 (F := Ideal) (xs P) i = ((zH P (i 1).val (i 2).val (i 3).val : ℝ) : EReal) := by
  rw [val_main_v15_apply, val_main_v13_apply, val_main_v14_apply, val_main_cst_apply]
  have e : ∑ k : Fin 128, val_main_v8 (F := Ideal) (xs P) (lidx_main_v13 i k) * val_main_v10 (F := Ideal) (xs P) (ridx_main_v13 i k)
      = ((∑ d ∈ Finset.range 128, hq P (i 1).val (i 2).val d * hk P (i 1).val (i 3).val d : ℝ) : EReal) := by
    rw [← sum_coe_mul]
    exact Finset.sum_congr rfl fun k _ => by rw [q_at, k_at]
  rw [e]
  show _ * Ideal.ofBits .f32 0x3DB504F3#32 = _
  rw [ofBits_scale, ← EReal.coe_mul, Finset.sum_mul]
  unfold zH zM
  exact congrArg _ (Finset.sum_congr rfl fun d _ => by ring)

theorem softplus0_at (i : S1x8x4096x4096.Idx) :
    val_main_call0_v1_0 (F := Ideal) (xs P) i = ((sp (-zH P (i 1).val (i 2).val (i 3).val) : ℝ) : EReal) := by
  rw [val_main_call0_v1_0_apply, val_main_call0_call0_v4_apply, une_self]
  show (if (0#1 : BitVec 1) = 1 then _ else _) = _
  rw [if_neg (by decide), ← sp_chain, EReal.coe_neg, ← z_at P i, ← ofBits_zero]
  rfl

theorem softplus1_at (i : S1x8x4096x4096.Idx) :
    val_main_call1_v1_0 (F := Ideal) (xs P) i = ((sp (zH P (i 1).val (i 2).val (i 3).val) : ℝ) : EReal) := by
  rw [val_main_call1_v1_0_apply, val_main_call1_call0_v4_apply, une_self]
  show (if (0#1 : BitVec 1) = 1 then _ else _) = _
  rw [if_neg (by decide), ← sp_chain, ← z_at P i, ← ofBits_zero]
  have e : val_main_call1_v0 (F := Ideal) (xs P) i = val_main_v15 (F := Ideal) (xs P) i := neg_neg _
  rw [← e]
  rfl

/-- The logarithm of the gate. -/
theorem lb_at (i : S1x8x4096x4096.Idx) : val_main_v23_0 (F := Ideal) (xs P) i = ((lb (zH P (i 1).val (i 2).val (i 3).val) : ℝ) : EReal) := by
  rw [val_main_v23_0_apply, softplus0_at, ← sp_neg, EReal.coe_neg]
  rfl

/-- The logarithm of its complement. -/
theorem lom_at (i : S1x8x4096x4096.Idx) : val_main_v25_0 (F := Ideal) (xs P) i
    = ((lb (zH P (i 1).val (i 2).val (i 3).val) - zH P (i 1).val (i 2).val (i 3).val : ℝ) : EReal) := by
  rw [val_main_v25_0_apply, softplus1_at, ← sp_pos, EReal.coe_neg]
  rfl

/-- The complement of the gate. -/
theorem comp_at (i : S1x8x4096x4096.Idx) : val_main_v23_1 (F := Ideal) (xs P) i
    = ((1 - Real.exp (lb (zH P (i 1).val (i 2).val (i 3).val)) : ℝ) : EReal) := by
  have e : val_main_call0_v0 (F := Ideal) (xs P) i = ((-zH P (i 1).val (i 2).val (i 3).val : ℝ) : EReal) :=
    (congrArg (fun x : EReal => -x) (z_at P i)).trans (EReal.coe_neg _).symm
  rw [val_main_v23_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, softplus0_at, e]
  refine (exp_diff _ _ _ _).trans ?_
  rw [← exp_lb, ← sp_neg, show ∀ a b : ℝ, -a - b = -b - a from fun a b => by ring]

/-- The gate. -/
theorem gate_at (i : S1x8x4096x4096.Idx) : val_main_v25_1 (F := Ideal) (xs P) i
    = ((Real.exp (lb (zH P (i 1).val (i 2).val (i 3).val)) : ℝ) : EReal) := by
  have e : val_main_call1_v0 (F := Ideal) (xs P) i = ((zH P (i 1).val (i 2).val (i 3).val : ℝ) : EReal) :=
    (neg_neg (val_main_v15 (F := Ideal) (xs P) i : EReal)).trans (z_at P i)
  rw [val_main_v25_1_apply, val_main_call1_call0_v21_apply, val_main_call1_call0_v16_apply, val_main_call1_call0_v20_apply,
    val_main_call1_call0_v14_apply, val_main_call1_call0_v18_apply, val_main_call1_call0_v13_apply, val_main_call1_call0_v17_apply,
    val_main_call1_call0_cst_0_apply, val_main_call1_call0_cst_2_apply, softplus1_at, e]
  refine (exp_diff _ _ _ _).trans ?_
  rw [show ∀ a b : ℝ, a - b = a + -b from fun a b => by ring, sp_pos, add_sub_cancel]

/-! ## The weights -/

/-- Which keys a query meets. -/
theorem mask_at (i : S4096x4096.Idx) : val_main_v22 (F := Ideal) i = if (i 1).val < (i 0).val then 1#1 else 0#1 := by
  rw [val_main_v22_apply, val_main_v20_apply, val_main_v21_apply, val_main_v18_apply, val_main_v19_apply, val_main_v17_apply, val_main_v16_apply]
  have h0 : (i 0).val < 4096 := (i 0).isLt
  have h1 : (i 1).val < 4096 := (i 1).isLt
  show BitVec.ofBool ((BitVec.ofNat 32 (i 1).val).slt (BitVec.ofNat 32 (i 0).val)) = _
  rw [slt_ofNat (by omega) (by omega)]
  by_cases h : (i 1).val < (i 0).val <;> simp [h]

theorem mask26_at (i : S1x8x4096x4096.Idx) : val_main_v26_1 (F := Ideal) i = if (i 3).val < (i 2).val then 1#1 else 0#1 := by
  rw [val_main_v26_1_apply, mask_at]
theorem mask31_at (i : S1x8x4096x4096.Idx) : val_main_v31_1 (F := Ideal) i = if (i 3).val < (i 2).val then 1#1 else 0#1 := by
  rw [val_main_v31_1_apply, mask_at]

/-- A masked real. -/
theorem select_at (p : Prop) [Decidable p] (x : ℝ) :
    Scalar.select (if p then 1#1 else 0#1) (x : EReal) (Ideal.ofBits .f32 0x00000000#32) = ((if p then x else 0 : ℝ) : EReal) := by
  rw [ofBits_zero]
  by_cases h : p
  · rw [if_pos h, if_pos h]; rfl
  · rw [if_neg h, if_neg h]; rfl

theorem lomM_at (i : S1x8x4096x4096.Idx) : val_main_v26_0 (F := Ideal) (xs P) i
    = ((lomM (hq P (i 1).val) (hk P (i 1).val) (i 2).val (i 3).val : ℝ) : EReal) := by
  rw [val_main_v26_0_apply, mask26_at, lom_at]
  exact select_at _ _

theorem suffix_at (i : S1x8x4096x4096.Idx) : val_main_v27 (F := Ideal) (xs P) i
    = ((∑ l ∈ Finset.Ico (i 3).val 4096, lomM (hq P (i 1).val) (hk P (i 1).val) (i 2).val l : ℝ) : EReal) := by
  have e : val_main_call3_v0 (F := Ideal) (Shape.Idx.first h_S_) = (0 : EReal) := by
    rw [val_main_call3_v0_apply, val_main_call3_cst_apply]
    exact ofBits_zero.trans EReal.coe_zero
  unfold val_main_v27 Host.reduceWindowAdd
  rw [e]
  exact suffix_sum (f := fun h => lomM (hq P h) (hk P h)) (lomM_at P)
    reduceWindows_S1x8x4096x4096_S1x8x4096x4096_w1s1p0_0_w1s1p0_0_w1s1p0_0_w4096s1p0_4095 i

theorem tail_at (i : S1x8x4096x4096.Idx) : val_main_v28 (F := Ideal) (xs P) i
    = ((tailM (hq P (i 1).val) (hk P (i 1).val) (i 2).val (i 3).val : ℝ) : EReal) := by
  rw [val_main_v28_apply, suffix_at, lomM_at]
  show ((_ : ℝ) : EReal) - ((_ : ℝ) : EReal) = _
  rw [← EReal.coe_sub, Finset.sum_eq_sum_Ico_succ_bot (show (i 3).val < 4096 from (i 3).isLt), add_sub_cancel_left]
  rfl

theorem exp_at (i : S1x8x4096x4096.Idx) : val_main_v30 (F := Ideal) (xs P) i
    = ((Real.exp (lb (zH P (i 1).val (i 2).val (i 3).val) + tailM (hq P (i 1).val) (hk P (i 1).val) (i 2).val (i 3).val) : ℝ) : EReal) := by
  rw [val_main_v30_apply, val_main_v29_apply, lb_at, tail_at]
  show Ideal.exp (((_ : ℝ) : EReal) + ((_ : ℝ) : EReal)) = _
  rw [← EReal.coe_add]; rfl

theorem att_at (i : S1x8x4096x4096.Idx) : val_main_v31_0 (F := Ideal) (xs P) i
    = ((attM (hq P (i 1).val) (hk P (i 1).val) (i 2).val (i 3).val : ℝ) : EReal) := by
  rw [val_main_v31_0_apply, mask31_at, exp_at]
  exact select_at _ _

/-! ## The gradient of the scores -/

/-- The gradient of the weights, before the mask. -/
theorem datt_at (i : S1x8x4096x4096.Idx) : val_main_v40 (F := Ideal) (xs P) (ys D) i
    = ((∑ d ∈ Finset.range 128, hd D (i 1).val (i 2).val d * hv P (i 1).val (i 3).val d : ℝ) : EReal) := by
  rw [val_main_v40_apply, ← sum_coe_mul]
  exact Finset.sum_congr rfl fun k _ => by rw [dy_at, v_at]

theorem dl_at (i : S1x8x4096x4096.Idx) : val_main_v42 (F := Ideal) (xs P) (ys D) i
    = ((dlM (hq P (i 1).val) (hk P (i 1).val) (hv P (i 1).val) (hd D (i 1).val) (i 2).val (i 3).val : ℝ) : EReal) := by
  rw [val_main_v42_apply, val_main_v41_apply, mask31_at, datt_at, exp_at]
  refine Eq.trans (congrArg (· * _) (select_at _ _)) ?_
  show ((_ : ℝ) : EReal) * ((_ : ℝ) : EReal) = _
  rw [← EReal.coe_mul]
  unfold dlM attM
  split_ifs
  · rw [mul_comm]
  · rw [zero_mul, zero_mul]

theorem prefix_at (i : S1x8x4096x4096.Idx) : val_main_v44 (F := Ideal) (xs P) (ys D) i
    = ((∑ l ∈ Finset.range ((i 3).val + 1), dlM (hq P (i 1).val) (hk P (i 1).val) (hv P (i 1).val) (hd D (i 1).val) (i 2).val l : ℝ) : EReal) := by
  have e : val_main_call6_v0 (F := Ideal) (Shape.Idx.first h_S_) = (0 : EReal) := by
    rw [val_main_call6_v0_apply, val_main_call6_cst_apply]
    exact ofBits_zero.trans EReal.coe_zero
  unfold val_main_v44 Host.reduceWindowAdd
  rw [e]
  exact prefix_sum (f := fun h => dlM (hq P h) (hk P h) (hv P h) (hd D h)) (dl_at P D)
    reduceWindows_S1x8x4096x4096_S1x8x4096x4096_w1s1p0_0_w1s1p0_0_w1s1p0_0_w4096s1p4095_0 i

theorem left_at (i : S1x8x4096x4096.Idx) : val_main_v46 (F := Ideal) (xs P) (ys D) i
    = ((if (i 3).val < (i 2).val then leftM (hq P (i 1).val) (hk P (i 1).val) (hv P (i 1).val) (hd D (i 1).val) (i 2).val (i 3).val else 0 : ℝ) : EReal) := by
  rw [val_main_v46_apply, mask26_at, val_main_v45_apply, val_main_v43_apply, prefix_at, dl_at]
  refine Eq.trans ?_ (select_at _ _)
  show Scalar.select _ (-((_ : ℝ) : EReal) + ((_ : ℝ) : EReal)) _ = _
  rw [← EReal.coe_neg, ← EReal.coe_add, Finset.sum_range_succ, neg_add_cancel_comm_assoc]
  rfl

theorem dz_at (i : S1x8x4096x4096.Idx) : val_main_v52 (F := Ideal) (xs P) (ys D) i
    = ((dzM (hq P (i 1).val) (hk P (i 1).val) (hv P (i 1).val) (hd D (i 1).val) (i 2).val (i 3).val * scale : ℝ) : EReal) := by
  rw [val_main_v52_apply, val_main_v50_apply, val_main_v48_apply, val_main_v47_apply, val_main_v49_apply, val_main_call8_v1_apply,
    val_main_call9_v1_apply, val_main_call8_v0_apply, val_main_call9_v0_apply, left_at, dl_at, gate_at, comp_at, val_main_v51_apply,
    val_main_cst_2_apply]
  show (-(-(-((_ : ℝ) : EReal) * ((_ : ℝ) : EReal))) + -(-((_ : ℝ) : EReal) * ((_ : ℝ) : EReal))) * Ideal.ofBits .f32 0x3DB504F3#32 = _
  rw [ofBits_scale]
  simp only [← EReal.coe_neg, ← EReal.coe_mul, ← EReal.coe_add]
  refine congrArg _ (congrArg (· * scale) ?_)
  unfold dzM
  split_ifs with h
  · ring
  · rw [dlM_none _ _ _ _ (by omega)]; ring

/-! ## The results -/

theorem out_at (i : S1x8x4096x128.Idx) : val_main_v32 (F := Ideal) (xs P) i
    = ((outM (hq P (i 1).val) (hk P (i 1).val) (hv P (i 1).val) (i 2).val (i 3).val : ℝ) : EReal) := by
  unfold outM
  rw [val_main_v32_apply, ← sum_coe_mul]
  exact Finset.sum_congr rfl fun k _ => by rw [att_at, v_at]

theorem dv_at (i : S1x8x4096x128.Idx) : val_main_v39 (F := Ideal) (xs P) (ys D) i
    = ((dvM (hq P (i 1).val) (hk P (i 1).val) (hd D (i 1).val) 8 (i 2).val (i 3).val : ℝ) : EReal) := by
  unfold dvM
  rw [val_main_v39_apply, val_main_v38_apply, ← sum_coe_mul]
  exact Finset.sum_congr rfl fun k _ => by rw [att_at, dy_at, mul_comm]

theorem dk_at (i : S1x8x4096x128.Idx) : val_main_v53 (F := Ideal) (xs P) (ys D) i
    = ((dkM (hq P (i 1).val) (hk P (i 1).val) (hv P (i 1).val) (hd D (i 1).val) 8 (i 2).val (i 3).val : ℝ) : EReal) := by
  unfold dkM
  rw [val_main_v53_apply]
  rw [Finset.sum_congr rfl fun t _ => (by ring : dzM (hq P (i 1).val) (hk P (i 1).val) (hv P (i 1).val) (hd D (i 1).val) t (i 2).val * (hq P (i 1).val t (i 3).val * scale)
    = dzM (hq P (i 1).val) (hk P (i 1).val) (hv P (i 1).val) (hd D (i 1).val) t (i 2).val * scale * hq P (i 1).val t (i 3).val), ← sum_coe_mul]
  exact Finset.sum_congr rfl fun k _ => by rw [dz_at, q_at]

theorem dq_at (i : S1x8x4096x128.Idx) : val_main_v54 (F := Ideal) (xs P) (ys D) i
    = ((dqF (hq P (i 1).val) (hk P (i 1).val) (hv P (i 1).val) (hd D (i 1).val) (i 2).val (i 3).val : ℝ) : EReal) := by
  unfold dqF
  rw [val_main_v54_apply, Finset.sum_mul]
  rw [Finset.sum_congr rfl fun s _ => (by ring : dzM (hq P (i 1).val) (hk P (i 1).val) (hv P (i 1).val) (hd D (i 1).val) (i 2).val s * hk P (i 1).val s (i 3).val * scale
    = dzM (hq P (i 1).val) (hk P (i 1).val) (hv P (i 1).val) (hd D (i 1).val) (i 2).val s * scale * hk P (i 1).val s (i 3).val), ← sum_coe_mul]
  exact Finset.sum_congr rfl fun k _ => by rw [dz_at, k_at]

/-- The heads side by side again. -/
theorem lay {x : S1x8x4096x128.Idx → EReal} {f : ℕ → Mat} (hx : ∀ i, x i = ((f (i 1).val (i 2).val (i 3).val : ℝ) : EReal))
    (i : S4096x1024.Idx) (j : S1x8x4096x128.Idx) (h1 : (j 1).val = ((i 0).val * 1024 + (i 1).val) / 128 % 8)
    (h2 : (j 2).val = ((i 0).val * 1024 + (i 1).val) / 1024 % 4096) (h3 : (j 3).val = ((i 0).val * 1024 + (i 1).val) % 128) :
    x j = up 4096 1024 .f32 (beside f) i := by
  have b0 : (i 0).val < 4096 := (i 0).isLt
  have b1 : (i 1).val < 1024 := (i 1).isLt
  rw [hx, h1, h2, h3]
  show _ = ((f ((i 1).val / 128) (i 0).val ((i 1).val % 128) : ℝ) : EReal)
  rw [show ((i 0).val * 1024 + (i 1).val) / 128 % 8 = (i 1).val / 128 by omega, show ((i 0).val * 1024 + (i 1).val) / 1024 % 4096 = (i 0).val by omega,
    show ((i 0).val * 1024 + (i 1).val) % 128 = (i 1).val % 128 by omega]

theorem out_eq : val_main_v34 (F := Ideal) (xs P) = up 4096 1024 .f32 (beside fun h => outM (hq P h) (hk P h) (hv P h)) :=
  funext fun i => by
    rw [val_main_v34_apply, val_main_v33_apply]
    exact lay (f := fun h => outM (hq P h) (hk P h) (hv P h)) (out_at P) i _ rfl rfl rfl
theorem dq_eq : val_main_v60 (F := Ideal) (xs P) (ys D) = up 4096 1024 .f32 (beside fun h => dqF (hq P h) (hk P h) (hv P h) (hd D h)) :=
  funext fun i => by
    rw [val_main_v60_apply, val_main_v59_apply]
    exact lay (f := fun h => dqF (hq P h) (hk P h) (hv P h) (hd D h)) (dq_at P D) i _ rfl rfl rfl
theorem dk_eq : val_main_v58 (F := Ideal) (xs P) (ys D) = up 4096 1024 .f32 (beside fun h => dkM (hq P h) (hk P h) (hv P h) (hd D h) 8) :=
  funext fun i => by
    rw [val_main_v58_apply, val_main_v57_apply]
    exact lay (f := fun h => dkM (hq P h) (hk P h) (hv P h) (hd D h) 8) (dk_at P D) i _ rfl rfl rfl
theorem dv_eq : val_main_v56 (F := Ideal) (xs P) (ys D) = up 4096 1024 .f32 (beside fun h => dvM (hq P h) (hk P h) (hd D h) 8) :=
  funext fun i => by
    rw [val_main_v56_apply, val_main_v55_apply]
    exact lay (f := fun h => dvM (hq P h) (hk P h) (hd D h) 8) (dv_at P D) i _ rfl rfl rfl

end

end Cert.Sb.Ref
-- ==== Proof.Finite.lean ====
/-
  The precondition: both arguments are finite, so each is the vector of a real matrix. And the reference's run, its results
  stated from those matrices.
-/
module

public import proofs.«01_k».proof.Proof.RefValue
public import proofs.«01_k».proof.Pre_finite
public import Idealize.ShloMosaic.Lib.ReduceAll

@[expose] public section

noncomputable section

namespace Cert.Sb

open Idealize.ShloMosaic hiding ix1 ix2 ix3 ix4 eq_ix1 eq_ix2 eq_ix3 eq_ix4
open ValueIdx Idealize.SL.Sem

instance pre_facts : Pre_finite.Facts where
  bcast_S_S4096x8320 := by decide
  reducesTo_S4096x8320_S_d0_1 := by decide
  h_S_ := by decide
  bcast_S_S4096x1024 := by decide
  reducesTo_S4096x1024_S_d0_1 := by decide

/-- The matrix of the real parts. -/
def realOf {a b : ℕ} {φ : FTy} (x : FVec Ideal ⟨2, ![a, b]⟩ φ) : Mat := fun i j =>
  if h : i < a ∧ j < b then EReal.toReal (x (ix2 ⟨i, h.1⟩ ⟨j, h.2⟩)) else 0

/-- A number whose absolute value is below infinity is real. -/
theorem real_of_abs (x : EReal) (h : FloatOps.cmpf (F := Ideal) (φ := .bf16) .olt (FloatOps.hostAbsf (F := Ideal) (φ := .bf16) x) (FloatOps.ofBits (F := Ideal) .bf16 0x7F80#16) = 1#1) :
    ((EReal.toReal x : ℝ) : EReal) = x := by
  have e : Ideal.ofBits .bf16 0x7F80#16 = ⊤ := by simp [Ideal.ofBits, Ideal.ieee]
  change Ideal.cmp .olt (max x (-x)) (Ideal.ofBits .bf16 0x7F80#16) = 1#1 at h
  rw [e] at h
  induction x with
  | bot => simp [Ideal.cmp] at h
  | coe r => rfl
  | top => simp [Ideal.cmp] at h

/-- A vector of reals is its matrix. -/
theorem up_realOf {a b : ℕ} {φ : FTy} (x : FVec Ideal ⟨2, ![a, b]⟩ φ) (h : ∀ i, ((EReal.toReal (x i) : ℝ) : EReal) = x i) : x = up a b φ (realOf x) :=
  ext2 fun r c => by
    rw [up_apply]; unfold realOf
    rw [dif_pos ⟨r.isLt, c.isLt⟩]
    exact (h (ix2 r c)).symm

theorem finite_real (x : FVec Ideal ⟨2, ![4096, 8320]⟩ .bf16) (y : FVec Ideal ⟨2, ![4096, 1024]⟩ .bf16)
    (h : Pre_finite.fn x y = fun _ => 1#1) :
    x = up 4096 8320 .bf16 (realOf x) ∧ y = up 4096 1024 .bf16 (realOf y) := by
  have h0 := congrFun h (Shape.Idx.first (by decide))
  unfold Pre_finite.fn at h0
  dsimp only at h0
  have : Subsingleton Pre_finite.S_.Idx := ⟨fun a b => funext fun i => i.elim0⟩
  obtain ⟨hx, hy⟩ := IntOp.andi_eq_one.1 h0
  exact ⟨up_realOf x fun i => real_of_abs _ (Host.reduce_andi_all _ _ _ _ _ hx i),
    up_realOf y fun i => real_of_abs _ (Host.reduce_andi_all _ _ _ _ _ hy i)⟩

section
open ReferenceIdeal

/-- The reference's run from the two matrices. -/
theorem reference_run (m : Mem nD τ sig)
    (ρ : Dev nD → PrngReg) (P D : Dev nD → Mat)
    (hP : ∀ c : Dev nD, m (c.tc.loc main_arg0) = up 4096 8320 .bf16 (P c))
    (hD : ∀ c : Dev nD, m (c.tc.loc main_arg1) = up 4096 1024 .bf16 (D c)) :
    θ_run (defs) (onTc main) ⟨m, fun _ => 0, ρ⟩ (fun r => ∀ c,
      r.2.mem (c.tc.loc main_v34)
          = up 4096 1024 .f32 (beside fun h => outM (hq (P c) h) (hk (P c) h) (hv (P c) h))
      ∧ r.2.mem (c.tc.loc main_v60)
          = up 4096 1024 .f32 (beside fun h => dqF (hq (P c) h) (hk (P c) h) (hv (P c) h) (hd (D c) h))
      ∧ r.2.mem (c.tc.loc main_v58)
          = up 4096 1024 .f32 (beside fun h => dkM (hq (P c) h) (hk (P c) h) (hv (P c) h) (hd (D c) h) 8)
      ∧ r.2.mem (c.tc.loc main_v56)
          = up 4096 1024 .f32 (beside fun h => dvM (hq (P c) h) (hk (P c) h) (hd (D c) h) 8)
      ∧ Kept m r.2.mem c main_arg0 ∧ Kept m r.2.mem c main_arg1) := by
  refine (θ_run defs _ _).mono (fun r h c => ?_) (Value.run m ρ)
  obtain ⟨h0, h1, h2, h3, h4, h5⟩ := h c
  refine ⟨h0.trans ((Read.val_main_v34_eq _).trans ?_), h1.trans ((Read.val_main_v60_eq _).trans ?_),
    h2.trans ((Read.val_main_v58_eq _).trans ?_), h3.trans ((Read.val_main_v56_eq _).trans ?_), h4, h5⟩
  · exact (congrArg (Read.val_main_v34) (hP c)).trans (Ref.out_eq (P c))
  · exact (congrArg₂ (Read.val_main_v60) (hP c) (hD c)).trans (Ref.dq_eq (P c) (D c))
  · exact (congrArg₂ (Read.val_main_v58) (hP c) (hD c)).trans (Ref.dk_eq (P c) (D c))
  · exact (congrArg₂ (Read.val_main_v56) (hP c) (hD c)).trans (Ref.dv_eq (P c) (D c))

end

end Cert.Sb
-- ==== Proof.MlaFinite.lean ====
/-
  The latent attention's precondition: the four arguments are finite, so each is the vector of a real matrix. And the reference's run,
  its results stated from those matrices.
-/
module

public import proofs.«01_k».proof.Proof.MlaRef
public import proofs.«01_k».proof.Proof.Finite
public import proofs.«01_k».proof.Pre_finite_mla
public import proofs.«01_k».proof.Proof.Gen.MlaRefIdeal.Run

@[expose] public section

noncomputable section

namespace Cert.Mla

open Idealize.ShloMosaic
open ValueIdx TcCoe Idealize.SL.Sem
open Sb (Mat up realOf up_realOf real_of_abs)

instance pre_facts : Pre_finite_mla.Facts where
  bcast_S_S4096x2048 := by decide
  reducesTo_S4096x2048_S_d0_1 := by decide
  h_S_ := by decide
  bcast_S_S4096x1024 := by decide
  reducesTo_S4096x1024_S_d0_1 := by decide

theorem finite_real (x0 x1 x2 : FVec Ideal ⟨2, ![4096, 2048]⟩ .bf16) (x3 : FVec Ideal ⟨2, ![4096, 1024]⟩ .bf16)
    (h : Pre_finite_mla.fn x0 x1 x2 x3 = fun _ => 1#1) :
    x0 = up 4096 2048 .bf16 (realOf x0) ∧ x1 = up 4096 2048 .bf16 (realOf x1) ∧ x2 = up 4096 2048 .bf16 (realOf x2)
      ∧ x3 = up 4096 1024 .bf16 (realOf x3) := by
  have e := congrFun h (Shape.Idx.first (by decide))
  unfold Pre_finite_mla.fn Pre_finite_mla.fn_part1 at e
  dsimp only at e
  have : Subsingleton Pre_finite_mla.S_.Idx := ⟨fun a b => funext fun i => i.elim0⟩
  obtain ⟨e012, h3⟩ := IntOp.andi_eq_one.1 e
  obtain ⟨e01, h2⟩ := IntOp.andi_eq_one.1 e012
  obtain ⟨h0, h1⟩ := IntOp.andi_eq_one.1 e01
  exact ⟨up_realOf x0 fun i => real_of_abs _ (Host.reduce_andi_all _ _ _ _ _ h0 i), up_realOf x1 fun i => real_of_abs _ (Host.reduce_andi_all _ _ _ _ _ h1 i),
    up_realOf x2 fun i => real_of_abs _ (Host.reduce_andi_all _ _ _ _ _ h2 i), up_realOf x3 fun i => real_of_abs _ (Host.reduce_andi_all _ _ _ _ _ h3 i)⟩

section
open MlaRefIdeal

/-- The reference's run from the four matrices. -/
theorem reference_run (m : Mem nD τ sig) (ρ : Dev nD → PrngReg) (q k kv dy : Dev nD → Mat)
    (hq : ∀ c : Dev nD, m (c.tc.loc main_arg0) = up 4096 2048 .bf16 (q c))
    (hk : ∀ c : Dev nD, m (c.tc.loc main_arg1) = up 4096 2048 .bf16 (k c))
    (hkv : ∀ c : Dev nD, m (c.tc.loc main_arg2) = up 4096 2048 .bf16 (kv c))
    (hdy : ∀ c : Dev nD, m (c.tc.loc main_arg3) = up 4096 1024 .bf16 (dy c)) :
    θ_run (defs) (onTc main) ⟨m, fun _ => 0, ρ⟩ (fun r => ∀ c,
      r.2.mem (c.tc.loc main_v51) = up 4096 1024 .f32 (yA (q c) (k c) (kv c))
      ∧ r.2.mem (c.tc.loc main_v80) = up 4096 2048 .f32 (dqO (q c) (k c) (kv c) (dy c))
      ∧ r.2.mem (c.tc.loc main_v76) = up 4096 2048 .f32 (dkO (q c) (k c) (kv c) (dy c))
      ∧ r.2.mem (c.tc.loc main_v74) = up 4096 1024 .f32 (dvO (q c) (k c) (dy c))
      ∧ Kept m r.2.mem c main_arg0 ∧ Kept m r.2.mem c main_arg1 ∧ Kept m r.2.mem c main_arg2 ∧ Kept m r.2.mem c main_arg3) := by
  refine (θ_run defs _ _).mono (fun r h c => ?_) (Value.run m ρ)
  obtain ⟨h0, h1, h2, h3, hr⟩ := h c
  refine ⟨h0.trans ((Read.val_main_v51_eq _ _).trans ?_), h1.trans ((Read.val_main_v80_eq _ _).trans ?_),
    h2.trans ((Read.val_main_v76_eq _ _).trans ?_), h3.trans ((Read.val_main_v74_eq _ _).trans ?_), hr⟩
  · rw [hq c, hk c, hkv c]; exact Ref.y_eq (q c) (k c) (kv c)
  · rw [hq c, hk c, hkv c, hdy c]; exact Ref.dq_eq (q c) (k c) (kv c) (dy c)
  · rw [hq c, hk c, hkv c, hdy c]; exact Ref.dk_eq (q c) (k c) (kv c) (dy c)
  · rw [hq c, hk c, hdy c]; exact Ref.dv_eq (q c) (k c) (dy c)

end

end Cert.Mla
-- ==== Proof.RefRun.lean ====
/-
  From a run of a reference that names its result and keeps its arguments: its frame, and the same run with the result named otherwise.
-/
module

public import Idealize.ShloMosaic.Lib.Quiescent
public import Idealize.ShloMosaic.Lib.Claim

@[expose] public section

namespace Cert.Mm

open Idealize.ShloMosaic Idealize.SL.Sem

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}

/-- A program without semaphores: what is kept is its frame. -/
theorem frame_of {Q K : PUnit × MemSt nD τ sig Val → Dev nD → Prop} (hs : sig.nSem + sig.nDmaSem = 0) (f : ∀ r c, Q r c → K r c)
    (h : θ_run defs p s fun r => ∀ c, Q r c) : θ_run defs p s fun r => (∀ c, K r c) ∧ r.2.sem = fun _ => 0 :=
  (θ_run defs _ _).mono (fun r h => ⟨fun c => f r c (h c), sem_eq_zero_of_no_sems hs r.2⟩) h

/-- The same where the first part is the one result. -/
theorem frame_of_run {N K : PUnit × MemSt nD τ sig Val → Dev nD → Prop} (hs : sig.nSem + sig.nDmaSem = 0) (h : θ_run defs p s fun r => ∀ c, N r c ∧ K r c) :
    θ_run defs p s fun r => (∀ c, K r c) ∧ r.2.sem = fun _ => 0 :=
  frame_of hs (fun _ _ h => h.2) h

/-- The one result, named otherwise. -/
theorem run_of_eq {β : Dev nD → Type} {g : PUnit × MemSt nD τ sig Val → (c : Dev nD) → β c} {v w : (c : Dev nD) → β c} {K : PUnit × MemSt nD τ sig Val → Dev nD → Prop}
    (e : ∀ c, v c = w c) (h : θ_run defs p s fun r => ∀ c, g r c = v c ∧ K r c) : θ_run defs p s fun r => ∀ c, g r c = w c ∧ K r c :=
  (θ_run defs _ _).mono (fun _ h c => ⟨(h c).1.trans (e c), (h c).2⟩) h

end Cert.Mm
-- ==== Proof.Prod.lean ====
/-
  Products of matrices of extended reals. A plain product summed a block of columns at a time is the whole product, whatever the
  entries, since addition of extended reals is associative: no entry has to be finite here. A block of a matrix `x`, read on its
  first `a` rows and `b` columns, is `ev a b x`.
-/
module

public import proofs.«01_k».proof.Proof.Loads
public import proofs.«01_k».proof.Proof.RefRun

@[expose] public section

noncomputable section

namespace Cert.Mm

open Idealize.ShloMosaic hiding ix1 ix2 ix3 ix4 eq_ix1 eq_ix2 eq_ix3 eq_ix4
open ValueIdx
open Sb (ext2)

/-- Matrices of extended reals, by row and column. -/
abbrev EMat := ℕ → ℕ → EReal

/-- The first `a` rows and `b` columns of a matrix. -/
def ev (a b : ℕ) (φ : FTy) (x : EMat) : FVec Ideal ⟨2, ![a, b]⟩ φ := fun i => x (i 0).val (i 1).val

/-! The shapes that come often: all the rows of one device, a block of rows, a row, eight rows of sums, the modulation's row; the projected rows, the
latents' rows and a row of these. -/

abbrev evT := ev 4096 2048 .f32
abbrev evTb := ev 4096 2048 .bf16
abbrev evB := ev 256 2048 .f32
abbrev evBb := ev 256 2048 .bf16
abbrev evR := ev 1 2048 .f32
abbrev evS := ev 8 2048 .f32
abbrev evM := ev 1 12288 .f32
abbrev evP := ev 4096 8320 .bf16
abbrev evK := ev 4096 512 .bf16
abbrev evQ := ev 1 512 .f32

theorem ev_apply {a b : ℕ} {φ : FTy} (x : EMat) (r : Fin a) (c : Fin b) : ev a b φ x (ix2 r c) = x r.val c.val := rfl

/-- Only the rows and columns inside count. -/
theorem ev_congr {a b : ℕ} {φ : FTy} {x y : EMat} (h : ∀ i < a, ∀ j < b, x i j = y i j) : ev a b φ x = ev a b φ y :=
  ext2 fun r c => h r.val r.isLt c.val c.isLt

/-- The matrix an array holds, nothing outside. -/
def ofv {a b : ℕ} {φ : FTy} (X : FVec Ideal ⟨2, ![a, b]⟩ φ) : EMat := fun i j => if h : i < a ∧ j < b then X (ix2 ⟨i, h.1⟩ ⟨j, h.2⟩) else 0

theorem ofv_at {a b : ℕ} {φ : FTy} (X : FVec Ideal ⟨2, ![a, b]⟩ φ) {i j : ℕ} (hi : i < a) (hj : j < b) : ofv X i j = X (ix2 ⟨i, hi⟩ ⟨j, hj⟩) := dif_pos ⟨hi, hj⟩

theorem ev_ofv {a b : ℕ} {φ : FTy} (X : FVec Ideal ⟨2, ![a, b]⟩ φ) : ev a b φ (ofv X) = X := ext2 fun r c => ofv_at X r.isLt c.isLt
theorem of_ofv {a b : ℕ} {φ : FTy} {X : FVec Ideal ⟨2, ![a, b]⟩ φ} : X = ev a b φ (ofv X) := (ev_ofv X).symm

/-- The rows from `r` and the columns from `c` on. -/
def off (r c : ℕ) (x : EMat) : EMat := fun i j => x (r + i) (c + j)
/-- Rows and columns exchanged. -/
def tr (x : EMat) : EMat := fun i j => x j i
/-- Rows times columns, over `K` places. -/
def prod (K : ℕ) (x y : EMat) : EMat := fun i j => ∑ k ∈ Finset.range K, x i k * y k j

theorem prod_off (K r c : ℕ) (x y : EMat) : prod K (off r 0 x) (off 0 c y) = off r c (prod K x y) := by
  funext i j
  simp [prod, off]

theorem off_zero (x : EMat) : off 0 0 x = x := by
  funext i j
  simp [off]
/-- Reading an array at places shifted by `p` rows and `q` columns. -/
theorem ev_block {m n a b : ℕ} {φ : FTy} {X : EMat} {p q : ℕ} {B : FVec Ideal ⟨2, ![m, n]⟩ φ} (hB : B = ev m n φ X)
    {f : (⟨2, ![a, b]⟩ : Shape).Idx → (⟨2, ![m, n]⟩ : Shape).Idx} (h : ∀ y, (f y 0).val = p + (y 0).val ∧ (f y 1).val = q + (y 1).val) :
    (fun y => B (f y)) = ev a b φ (off p q X) := by
  subst hB
  funext y
  exact congrArg₂ X (h y).1 (h y).2
/-- Reading an array from its first place on. -/
theorem ev_whole {m n a b : ℕ} {φ : FTy} {X : EMat} {B : FVec Ideal ⟨2, ![m, n]⟩ φ} (hB : B = ev m n φ X)
    {f : (⟨2, ![a, b]⟩ : Shape).Idx → (⟨2, ![m, n]⟩ : Shape).Idx} (h : ∀ y, (f y 0).val = (y 0).val ∧ (f y 1).val = (y 1).val) :
    (fun y => B (f y)) = ev a b φ X := by
  subst hB
  funext y
  exact congrArg₂ X (h y).1 (h y).2
theorem tr_tr (x : EMat) : tr (tr x) = x := rfl

theorem prod_congr {K i j : ℕ} {x x' y y' : EMat} (hx : ∀ k < K, x i k = x' i k) (hy : ∀ k < K, y k j = y' k j) : prod K x y i j = prod K x' y' i j :=
  Finset.sum_congr rfl fun k hk => by rw [hx k (Finset.mem_range.1 hk), hy k (Finset.mem_range.1 hk)]

/-- One more block of places. -/
theorem prod_add (K L : ℕ) (x y : EMat) (i j : ℕ) : prod (K + L) x y i j = prod K x y i j + prod L (off 0 K x) (off K 0 y) i j := by
  simp only [prod, off, Nat.zero_add]
  exact Finset.sum_range_add _ _ _

theorem prod_comm (K : ℕ) (x y : EMat) (i j : ℕ) : prod K x y i j = prod K (tr y) (tr x) j i :=
  Finset.sum_congr rfl fun _ _ => mul_comm _ _

/-! ## Sums of blocks -/

theorem ev_add {a b : ℕ} {φ : FTy} (x y : EMat) : addf (ev a b φ x) (ev a b φ y) = ev a b φ fun i j => x i j + y i j := rfl
theorem ev_cast {a b : ℕ} {φ : FTy} (x : EMat) (h : (⟨2, ![a, b]⟩ : Shape).ShapeCasts ⟨2, ![a, b]⟩) : shapeCast ⟨2, ![a, b]⟩ (ev a b φ x) h = ev a b φ x :=
  shapeCast_self _ h

/-- A row of zeros added to every row. -/
theorem ev_add_zero_row {a b : ℕ} (x : EMat) (z : FVec Ideal ⟨2, ![1, b]⟩ .f32) (hz : ∀ y, z y = (0 : EReal))
    (hs : (⟨2, ![1, b]⟩ : Shape).ShapeCasts ⟨2, ![1, b]⟩) (hb : (⟨2, ![1, b]⟩ : Shape).Broadcasts ⟨2, ![a, b]⟩) :
    addf (ev a b .f32 x) (broadcastTo ⟨2, ![a, b]⟩ (shapeCast ⟨2, ![1, b]⟩ z hs) hb) = ev a b .f32 x :=
  ext2 fun r d => by
    rw [shapeCast_self]
    exact (congrArg (x r.val d.val + ·) (hz _)).trans (add_zero _)

/-! ## A block's product -/

/-- Columns times columns. -/
def tnDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simp only [List.finRange]; exact List.Perm.swap _ _ _, by simp only [List.finRange]; exact List.Perm.swap _ _ _, rfl, Nat.two_pos, fun b => by fin_cases b <;> rfl⟩

section
variable {M K N : ℕ} {φ ψ : FTy} (p : Option ContractPrecision) (x y : EMat)

theorem zero_at (i : (⟨2, ![M, N]⟩ : Shape).Idx) : constant (F := Ideal) ⟨2, ![M, N]⟩ .f32 0x00000000#32 i = 0 :=
  (Sb.ofBits_zero : Ideal.ofBits .f32 0x00000000#32 = _).trans EReal.coe_zero

/-- Rows times columns. -/
theorem ev_nn : matmul (DotDims.plain M K N) p (ev M K φ x) (ev K N ψ y) (constant ⟨2, ![M, N]⟩ .f32 0x00000000#32) = ev M N .f32 (prod K x y) :=
  ext2 fun r c => by
    refine (Ideal.matmul_plain_apply p _ _ _ r c).trans ?_
    rw [zero_at, zero_add]
    exact (Finset.sum_range (fun k => x r.val k * y k c.val)).symm

/-- Rows times rows. -/
theorem ev_nt : matmul (DotDims.transposedRhs M K N) p (ev M K φ x) (ev N K ψ y) (constant ⟨2, ![M, N]⟩ .f32 0x00000000#32) = ev M N .f32 (prod K x (tr y)) :=
  ext2 fun r c => by
    refine (Ideal.matmul_transposedRhs_apply p _ _ _ r c).trans ?_
    rw [zero_at, zero_add]
    exact (Finset.sum_range (fun k => x r.val k * y c.val k)).symm

/-- Columns times columns. -/
theorem ev_tn : matmul (tnDims K M N) p (ev K M φ x) (ev K N ψ y) (constant ⟨2, ![M, N]⟩ .f32 0x00000000#32) = ev M N .f32 (prod K (tr x) y) :=
  ext2 fun r c => by
    refine (Ideal.matmul_apply _ _ _ _ _ _).trans ?_
    rw [zero_at, zero_add, ev_apply]
    refine Eq.trans ?_ (Finset.sum_range (fun k => x k r.val * y k c.val)).symm
    rw [← Equiv.sum_comp (contrEquiv1 (tnDims K M N) K rfl rfl).symm]
    refine Finset.sum_congr rfl fun k _ => ?_
    have hk := contrEquiv1_symm_val (tnDims K M N) K rfl rfl k
    refine congrArg₂ (· * ·) ?_ ?_
    · exact congrArg (fun n => x n r.val) hk
    · exact congrArg (fun n => y n c.val) hk
end

/-! ## Matrices in pieces -/

/-- An array of pieces, `a` by `b` of them, each of `r` rows and `n` columns. -/
def pieces (a b r n : ℕ) (φ : FTy) (x : ℕ → ℕ → EMat) : FVec Ideal ⟨4, ![a, b, r, n]⟩ φ := fun i => x (i 0).val (i 1).val (i 2).val (i 3).val

theorem pieces_apply {a b r n : ℕ} {φ : FTy} (x : ℕ → ℕ → EMat) (p : Fin a) (q : Fin b) (i : Fin r) (j : Fin n) :
    pieces a b r n φ x (ix4 p q i j) = x p.val q.val i.val j.val := rfl

/-- Two arrays of four axes agree when they do at every index. -/
theorem ext4 {a b r n : ℕ} {α : Type} {x y : (⟨4, ![a, b, r, n]⟩ : Shape).Idx → α}
    (h : ∀ (p : Fin a) (q : Fin b) (i : Fin r) (j : Fin n), x (ix4 p q i j) = y (ix4 p q i j)) : x = y := by
  funext i
  rw [eq_ix4 i]
  exact h _ _ _ _

/-- A matrix as the one piece there is. -/
theorem ev_piece {r n : ℕ} {φ : FTy} (x : EMat) (h : (⟨2, ![r, n]⟩ : Shape).ShapeCasts ⟨4, ![1, 1, r, n]⟩) (p q : Fin 1) (i : Fin r) (j : Fin n) :
    shapeCast ⟨4, ![1, 1, r, n]⟩ (ev r n φ x) h (ix4 p q i j) = x i.val j.val := by
  rw [shapeCast_apply (ev r n φ x) h (ix4 p q i j) (ix2 i j) (by
    rw [Shape.rowMajor_val_two, Shape.rowMajor_val_four]
    have hp := p.isLt
    have hq := q.isLt
    show i.val * n + j.val = ((p.val * 1 + q.val) * r + i.val) * n + j.val
    rw [show p.val = 0 by omega, show q.val = 0 by omega, Nat.zero_mul, Nat.zero_add])]
  rfl

/-- A buffer stored to once, all of it. -/
theorem stored {s : Shape} {e : EltTy} (o : Fin s.rank → ℕ) (inb : ∀ a, o a + s.size a ≤ s.size a) (h : ∀ a, o a = 0) (w : s.Idx → Elt Ideal e) :
    View.canon (Val := Elt Ideal) (e := e) [⟨Rect.unit o s.size inb, w⟩] = w :=
  View.canon_cons_unit_lit inb w [] h

/-- Rows of a matrix from `o` on. -/
theorem ev_rows {a b r : ℕ} {φ : FTy} (o : ℕ) (x : EMat) (h : (⟨2, ![a, b]⟩ : Shape).Slices ![o, 0] ⟨2, ![r, b]⟩) :
    extractStridedSlice ⟨2, ![r, b]⟩ ![o, 0] (ev a b φ x) h = ev r b φ (off o 0 x) :=
  ext2 fun i j => rfl

/-! ## A load of a whole buffer -/

theorem load_all {sig : RefSig} {sp : Space} {s : Shape} {e : EltTy} (b : Memref sig .tc sp s e) (h : b.IsWhole) (x : Vec Ideal s e)
    (o : Fin s.rank → ℕ) (inb : ∀ a, o a + s.size a ≤ s.size a) :
    View.readAt (Elt Ideal) b.view (Rect.unit o s.size inb).toLoadRect (h.unread x) = x := by
  show View.ld (b.view.read (Elt Ideal) (h.unread x)) (Rect.unit o s.size inb) = x
  rw [h.read_unread, Sb.ld_all]

/-! ## A running sum over blocks -/

/-- A buffer set to a block's product at every `n`-th point, and added to by the block's product at the others. -/
theorem running {a b : ℕ} (n tk N : ℕ) (hn : 1 < n) (S : (t : ℕ) → t < N → FVec Ideal ⟨2, ![a, b]⟩ .f32) (X Y : ℕ → EMat)
    (h0 : ∀ t h, t % n = 0 → S t h = ev a b .f32 (prod tk (off 0 (tk * (t % n)) (X (t / n))) (off (tk * (t % n)) 0 (Y (t / n)))))
    (h1 : ∀ t h s, ¬ (t + 1) % n = 0 → S t (Nat.lt_of_succ_lt h) = ev a b .f32 s → S (t + 1) h
      = ev a b .f32 fun i j => s i j + prod tk (off 0 (tk * ((t + 1) % n)) (X ((t + 1) / n))) (off (tk * ((t + 1) % n)) 0 (Y ((t + 1) / n))) i j) :
    ∀ t h, S t h = ev a b .f32 (prod (tk * (t % n + 1)) (X (t / n)) (Y (t / n))) := by
  have start : ∀ t h, t % n = 0 → S t h = ev a b .f32 (prod (tk * (t % n + 1)) (X (t / n)) (Y (t / n))) := fun t h hz => by
    rw [h0 t h hz, hz, Nat.mul_zero, Nat.zero_add, Nat.mul_one, off_zero, off_zero]
  intro t
  induction t with
  | zero => exact fun h => start 0 h (Nat.zero_mod n)
  | succ t ih =>
    intro h
    by_cases hz : (t + 1) % n = 0
    · exact start _ h hz
    · have e : (t + 1) % n = t % n + 1 := by
        rcases Nat.lt_or_ge (t % n + 1) n with hl | hl
        · rw [Nat.add_mod, Nat.mod_eq_of_lt hn, Nat.mod_eq_of_lt hl]
        · have := Nat.mod_lt t (show 0 < n by omega)
          exact absurd (by rw [Nat.add_mod, Nat.mod_eq_of_lt hn, show t % n + 1 = n by omega, Nat.mod_self]) hz
      have q : (t + 1) / n = t / n := by
        rw [Nat.succ_div, if_neg fun hd => hz (Nat.mod_eq_zero_of_dvd hd), Nat.add_zero]
      rw [h1 t h _ hz (ih _), e, q, Nat.mul_succ tk (t % n + 1)]
      exact ev_congr fun i _ j _ => (prod_add _ _ _ _ i j).symm

end Cert.Mm
-- ==== Proof.FfnTile.lean ====
/-
  What one grid point of the feed-forward block's calls computes: columns of the first weights moved, the first product with the
  gate on its result, the product with the second weights' transpose with the gate's gradient on its result, and the first weights'
  gradient.
-/
module

public import proofs.«01_k».proof.Proof.Prod
public import proofs.«01_k».proof.Proof.Gen.FfnIdeal.Frame

@[expose] public section

noncomputable section

namespace Cert.Mm.Ffn

open Idealize.ShloMosaic hiding ix1 ix2 ix3 ix4 eq_ix1 eq_ix2 eq_ix3 eq_ix4
open ValueIdx
open Sb (ext2 ld_all)
open FfnIdeal FfnIdeal.Gen

/-! ## The gate -/

/-- The logistic function. -/
abbrev sg (g : EReal) : EReal := Ideal.logistic g
/-- The gated value. -/
def act (g u : EReal) : EReal := g * sg g * u
/-- The gradient at the gate. -/
def dGate (d g u : EReal) : EReal := d * u * sg g * (1 + g * (1 - sg g))
/-- The gradient at the gated factor. -/
def dUp (d g : EReal) : EReal := d * g * sg g

/-! ## Blocks of columns side by side -/

/-- Blocks of `w` columns side by side. -/
def cat (w : ℕ) (f : ℕ → EMat) : EMat := fun i j => f (j / w) i (j % w)

theorem cat_at (f : ℕ → EMat) (k i : ℕ) {j : ℕ} (hj : j < 256) : cat 256 f i (256 * k + j) = f k i j := by
  unfold cat
  rw [Nat.mul_add_div (by decide), Nat.div_eq_of_lt hj, Nat.mul_add_mod, Nat.mod_eq_of_lt hj, Nat.add_zero]

/-- Columns from `o` on. -/
theorem ev_cols {a b w : ℕ} {φ : FTy} (o : ℕ) (x : EMat) (h : (⟨2, ![a, b]⟩ : Shape).Slices ![0, o] ⟨2, ![a, w]⟩) :
    extractStridedSlice ⟨2, ![a, w]⟩ ![0, o] (ev a b φ x) h = ev a w φ fun i j => x i (o + j) :=
  ext2 fun i j => congrArg (fun n => x n (o + j.val)) (Nat.zero_add i.val)
theorem ev_extf {a b : ℕ} (x : EMat) (h : FTy.bf16.bits < FTy.f32.bits) : extf .f32 (ev a b .bf16 x) h = ev a b .f32 x := rfl

/-- An element of 256-column blocks side by side. -/
theorem piece_at {C : ℕ} {α : Type} (xs : List ((s : Shape) × (s.Idx → α))) (h : Shape.Concatenates (xs.map (·.1)) ⟨2, ![1024, C]⟩ 1) (r : Fin 1024) (c : Fin C)
    (k : ℕ) (hk : k < xs.length) (x : S1024x256.Idx → α) (hx : xs[k] = ⟨S1024x256, x⟩) (pre : ℕ)
    (hpre : (((xs.take k).map (·.1)).map fun s => if h : s.rank = 2 then s.size ((1 : Fin 2).cast h.symm) else 0).sum = pre)
    (j : Fin 256) (e : c.val = pre + j.val) : concatenate ⟨2, ![1024, C]⟩ 1 xs h (ix2 r c) = x (ix2 r j) :=
  concatenate_apply_piece (t := ⟨2, ![1024, C]⟩) (1 : Fin 2) xs h (ix2 r c) k hk S1024x256 x hx rfl pre hpre (ix2 r j)
    (Fin.forall_fin_two.mpr ⟨fun _ => rfl, fun hb => absurd rfl hb⟩) e.symm

section
variable {α : Type} (f : ℕ → ℕ → ℕ → α) (x0 x1 x2 x3 : S1024x256.Idx → α) (h0 : ∀ r j, x0 (ix2 r j) = f 0 r.val j.val) (h1 : ∀ r j, x1 (ix2 r j) = f 1 r.val j.val)
  (h2 : ∀ r j, x2 (ix2 r j) = f 2 r.val j.val) (h3 : ∀ r j, x3 (ix2 r j) = f 3 r.val j.val)

include h0 h1 in
theorem two_blocks (h : Shape.Concatenates [S1024x256, S1024x256] S1024x512 1) (r : Fin 1024) (c : Fin 512) :
    concatenate S1024x512 1 [⟨S1024x256, x0⟩, ⟨S1024x256, x1⟩] h (ix2 r c) = f (c.val / 256) r.val (c.val % 256) := by
  have hc := c.isLt
  have hj : c.val % 256 < 256 := Nat.mod_lt _ (by decide)
  obtain e | e : c.val / 256 = 0 ∨ c.val / 256 = 1 := by omega
  · exact (piece_at [⟨S1024x256, x0⟩, ⟨S1024x256, x1⟩] h r c 0 (by simp) x0 rfl 0 rfl ⟨_, hj⟩ (by simp only; omega)).trans (by rw [h0, e])
  · exact (piece_at [⟨S1024x256, x0⟩, ⟨S1024x256, x1⟩] h r c 1 (by simp) x1 rfl 256 rfl ⟨_, hj⟩ (by simp only; omega)).trans (by rw [h1, e])

include h0 h1 h2 h3 in
theorem four_blocks (h : Shape.Concatenates [S1024x256, S1024x256, S1024x256, S1024x256] S1024x1024 1) (r c : Fin 1024) :
    concatenate S1024x1024 1 [⟨S1024x256, x0⟩, ⟨S1024x256, x1⟩, ⟨S1024x256, x2⟩, ⟨S1024x256, x3⟩] h (ix2 r c) = f (c.val / 256) r.val (c.val % 256) := by
  have hc := c.isLt
  have hj : c.val % 256 < 256 := Nat.mod_lt _ (by decide)
  obtain e | e | e | e : c.val / 256 = 0 ∨ c.val / 256 = 1 ∨ c.val / 256 = 2 ∨ c.val / 256 = 3 := by omega
  · exact (piece_at [⟨S1024x256, x0⟩, ⟨S1024x256, x1⟩, ⟨S1024x256, x2⟩, ⟨S1024x256, x3⟩] h r c 0 (by simp) x0 rfl 0 rfl ⟨_, hj⟩ (by simp only; omega)).trans (by rw [h0, e])
  · exact (piece_at [⟨S1024x256, x0⟩, ⟨S1024x256, x1⟩, ⟨S1024x256, x2⟩, ⟨S1024x256, x3⟩] h r c 1 (by simp) x1 rfl 256 rfl ⟨_, hj⟩ (by simp only; omega)).trans (by rw [h1, e])
  · exact (piece_at [⟨S1024x256, x0⟩, ⟨S1024x256, x1⟩, ⟨S1024x256, x2⟩, ⟨S1024x256, x3⟩] h r c 2 (by simp) x2 rfl 512 rfl ⟨_, hj⟩ (by simp only; omega)).trans (by rw [h2, e])
  · exact (piece_at [⟨S1024x256, x0⟩, ⟨S1024x256, x1⟩, ⟨S1024x256, x2⟩, ⟨S1024x256, x3⟩] h r c 3 (by simp) x3 rfl 768 rfl ⟨_, hj⟩ (by simp only; omega)).trans (by rw [h3, e])
end

/-- The gated values of a matrix whose columns come as 256 gates, then their 256 factors. -/
def actM (x : EMat) : EMat := cat 256 fun k i j => act (x i (512 * k + j)) (x i (512 * k + 256 + j))
/-- The gradients at those columns, from the gated values' gradient. -/
def dffM (d x : EMat) : EMat := cat 256 fun k i j =>
  if k % 2 = 0 then dGate (d i (256 * (k / 2) + j)) (x i (512 * (k / 2) + j)) (x i (512 * (k / 2) + 256 + j))
  else dUp (d i (256 * (k / 2) + j)) (x i (512 * (k / 2) + j))

theorem actM_off (r n : ℕ) (x : EMat) : actM (off r (1024 * n) x) = off r (512 * n) (actM x) := by
  funext i j
  unfold actM off cat
  dsimp only
  rw [show (512 * n + j) / 256 = 2 * n + j / 256 by omega, show (512 * n + j) % 256 = j % 256 by omega]
  congr 2 <;> omega
theorem dffM_off (r n : ℕ) (d x : EMat) : dffM (off r (512 * n) d) (off r (1024 * n) x) = off r (1024 * n) (dffM d x) := by
  funext i j
  unfold dffM off cat
  dsimp only
  rw [show (1024 * n + j) / 256 = 4 * n + j / 256 by omega, show (1024 * n + j) % 256 = j % 256 by omega,
    show (4 * n + j / 256) % 2 = j / 256 % 2 by omega, show (4 * n + j / 256) / 2 = 2 * n + j / 256 / 2 by omega]
  congr 2 <;> first | omega | (congr 1; omega)

/-! ## The calls' blocks -/

theorem one_bits : Scalar.ofBits (F := Ideal) .f32 0x3F800000#32 = (1 : EReal) :=
  (Sb.ofBits_one : Ideal.ofBits .f32 0x3F800000#32 = _).trans EReal.coe_one

theorem in_prod (x y : EMat) : k1_pay1 (ev 1024 2048 .bf16 x) (ev 2048 1024 .bf16 y) = ev 1024 1024 .f32 (prod 2048 x y) := by
  unfold k1_pay1
  dsimp only
  rw [ev_cast]
  exact ev_nn none x y
theorem in_sum (x y : EMat) : k1_pay2 (ev 1024 2048 .bf16 x) (ev 2048 1024 .bf16 y) = ev 1024 1024 .bf16 (prod 2048 x y) :=
  congrArg (fun z => truncf .bf16 z bitsLt_bf16_f32) (in_prod x y)
theorem in_gate (x y : EMat) : k1_pay3 (ev 1024 2048 .bf16 x) (ev 2048 1024 .bf16 y) = ev 1024 512 .bf16 (actM (prod 2048 x y)) := by
  unfold k1_pay3
  dsimp only
  rw [in_prod]
  generalize prod 2048 x y = z
  rw [ev_cols, ev_cols, ev_cols, ev_cols]
  exact ext2 fun r c => two_blocks (fun k i j => act (z i (512 * k + j)) (z i (512 * k + 256 + j))) _ _ (fun _ _ => rfl) (fun _ _ => rfl) concatenates_S1024x256_S1024x256_S1024x512_d1 r c

theorem d_gate (d w x : EMat) : k2_pay1 (ev 1024 2048 .bf16 d) (ev 512 2048 .bf16 w) (ev 1024 1024 .bf16 x)
    = ev 1024 1024 .bf16 (dffM (prod 2048 d (tr w)) x) := by
  unfold k2_pay1
  dsimp only
  rw [ev_cast, ev_cast, one_bits]
  erw [ev_nt none d w]
  generalize prod 2048 d (tr w) = z
  rw [ev_extf, ev_cols, ev_cols, ev_cols, ev_cols, ev_cols, ev_cols]
  exact ext2 fun r c => four_blocks (fun k i j =>
    if k % 2 = 0 then dGate (z i (256 * (k / 2) + j)) (x i (512 * (k / 2) + j)) (x i (512 * (k / 2) + 256 + j))
    else dUp (z i (256 * (k / 2) + j)) (x i (512 * (k / 2) + j))) _ _ _ _ (fun _ _ => rfl) (fun _ _ => rfl) (fun _ _ => rfl) (fun _ _ => rfl)
    concatenates_S1024x256_S1024x256_S1024x256_S1024x256_S1024x1024_d1 r c

theorem gw_block (x y : EMat) (p q : Fin 1) (i : Fin 1024) (j : Fin 256) :
    k3_pay1 (F := Ideal) (ev 4096 1024 .bf16 x) (ev 4096 256 .bf16 y) (ix4 p q i j) = prod 4096 (tr x) y i.val j.val := by
  unfold k3_pay1
  rw [ev_cast]
  erw [ev_tn none x y]
  exact ev_piece (φ := .bf16) (prod 4096 (tr x) y) shapeCasts_S1024x256_S1x1x1024x256 p q i j

end Cert.Mm.Ffn
-- ==== Proof.FfnArray.lean ====
/-
  The arrays the feed-forward block's four calls leave: the first weights with gates and factors interleaved, the first product and its
  gated values, the gradient at the first product, and the first weights' gradient in pieces.
-/
module

public import proofs.«01_k».proof.Proof.FfnTile

@[expose] public section

noncomputable section

namespace Cert.Mm.Ffn

open Idealize.ShloMosaic hiding ix1 ix2 ix3 ix4 eq_ix1 eq_ix2 eq_ix3 eq_ix4
open ValueIdx Idealize.SL.Sem
open Sb (ext2 ld_all exists_ix2)
open FfnIdeal FfnIdeal.Gen

/-! ## The order of the columns -/

/-- Where the `k`-th block of 256 columns comes from: gates and factors in turn. -/
def src (k : ℕ) : ℕ := k / 2 + 22 * (k % 2)
/-- Where the `k`-th block goes. -/
def dst (k : ℕ) : ℕ := 2 * (k % 22) + k / 22

theorem dst_src {k : ℕ} (h : k < 44) : dst (src k) = k := by unfold dst src; omega

/-- Blocks of 256 columns put in turn. -/
def mixed (W : EMat) : EMat := cat 256 fun k i j => W i (256 * src k + j)
/-- And back. -/
def unmixed (W : EMat) : EMat := cat 256 fun k i j => W i (256 * dst k + j)

/-- A matrix of columns in `a` parts of `n`, one part after another. -/
def parts (a r n : ℕ) (φ : FTy) (W : EMat) : FVec Ideal ⟨3, ![a, r, n]⟩ φ := fun i => W (i 1).val (n * (i 0).val + (i 2).val)

/-! ## The grids -/

theorem idx0_0 : ∀ t : Fin cfg0.N, win0_0.index t = ![src t.val / 11, 0, src t.val % 11] :=
  (by decide +kernel : ∀ t : Fin grid0.N, win0_0.index t = ![(t.val / 2 + 22 * (t.val % 2)) / 11, 0, (t.val / 2 + 22 * (t.val % 2)) % 11])
theorem idx0_1 : ∀ t : Fin cfg0.N, win0_1.index t = ![0, t.val] := by decide +kernel
theorem idx1_0 : ∀ t : Fin cfg1.N, win1_0.index t = ![t.val / 11, 0] := by decide +kernel
theorem idx1_1 : ∀ t : Fin cfg1.N, win1_1.index t = ![0, t.val % 11] := by decide +kernel
theorem idx1_2 : ∀ t : Fin cfg1.N, win1_2.index t = ![t.val / 11, t.val % 11] := by decide +kernel
theorem idx1_3 : ∀ t : Fin cfg1.N, win1_3.index t = ![t.val / 11, t.val % 11] := by decide +kernel
theorem idx2_0 : ∀ t : Fin cfg2.N, win2_0.index t = ![t.val / 11, 0] := by decide +kernel
theorem idx2_1 : ∀ t : Fin cfg2.N, win2_1.index t = ![t.val % 11, 0] := by decide +kernel
theorem idx2_2 : ∀ t : Fin cfg2.N, win2_2.index t = ![t.val / 11, t.val % 11] := by decide +kernel
theorem idx2_3 : ∀ t : Fin cfg2.N, win2_3.index t = ![t.val / 11, t.val % 11] := by decide +kernel
theorem idx3_0 : ∀ t : Fin cfg3.N, win3_0.index t = ![0, t.val / 44] := by decide +kernel
theorem idx3_1 : ∀ t : Fin cfg3.N, win3_1.index t = ![0, t.val % 44] := by decide +kernel
theorem idx3_2 : ∀ t : Fin cfg3.N, win3_2.index t = ![t.val / 44, src (t.val % 44) / 11, 0, src (t.val % 44) % 11] :=
  (by decide +kernel : ∀ t : Fin grid3.N, win3_2.index t = ![t.val / 44, (t.val % 44 / 2 + 22 * (t.val % 44 % 2)) / 11, 0, (t.val % 44 / 2 + 22 * (t.val % 44 % 2)) % 11])

section
variable (V : (c : Dev nD) → (b : Ref sig .tc) → Buf (Elt Ideal) (c.tc.loc b)) (c : Dev nD)

/-! ## The first weights, gates and factors in turn -/

section
variable (W : EMat) (hW : V c main_v0 = parts 4 2048 2816 .bf16 W)
include hW

theorem mix_block (t : Fin cfg0.N) : k0_pay1 (iblk0 V c 0 t) = ev 2048 256 .bf16 fun i j => W i (256 * src t.val + j) := by
  refine ext2 fun r d => ?_
  unfold k0_pay1
  refine (shapeCast_1ab_ab_apply _ _ r d).trans ?_
  rw [ev_apply]
  blk_simp [iblk0, hW]
  unfold parts
  have e2 : ((ix3 (0 : Fin 1) r d) 2).val = d.val := rfl
  congr 1 <;> blk_simp [idx0_0] <;> simp <;> omega

theorem mix_array : (dat0 V c).arrAt 1 cfg0.N = ev 2048 11264 .bf16 (mixed W) := by
  refine (dat0 V c).arrAt_eq_of_covers 1 _ (by decide +kernel) fun t hf y => ?_
  blk_simp
  rw [after0_1]
  unfold out0_1
  rw [stored _ _ (by decide), ld_all, mix_block V c W hW]
  obtain ⟨r, d, rfl⟩ := exists_ix2 y
  rw [ev_apply]
  unfold ev
  refine (cat_at (fun k i j => W i (256 * src k + j)) t.val r.val d.isLt).symm.trans ?_
  unfold mixed
  congr 1 <;> blk_simp [idx0_1] <;> simp <;> ring
end

/-! ## The first product and the gated values -/

section
variable (H X : EMat) (hH : V c main_arg0 = ev 4096 2048 .bf16 H) (hX : V c main_v1 = ev 2048 11264 .bf16 X)
include hH hX

theorem in_blocks (t : Fin cfg1.N) : iblk1 V c 0 t = ev 1024 2048 .bf16 (off (1024 * (t.val / 11)) 0 H)
    ∧ iblk1 V c 1 t = ev 2048 1024 .bf16 (off 0 (1024 * (t.val % 11)) X) := by
  constructor
  · refine ext2 fun r d => ?_
    blk_simp [iblk1, hH]
    rw [ev_apply]
    unfold ev off
    congr 1 <;> blk_simp [idx1_0] <;> simp <;> ring
  · refine ext2 fun r d => ?_
    blk_simp [iblk1, hX]
    rw [ev_apply]
    unfold ev off
    congr 1 <;> blk_simp [idx1_1] <;> simp <;> ring

theorem sum_array : (dat1 V c).arrAt 2 cfg1.N = ev 4096 11264 .bf16 (prod 2048 H X) := by
  refine (dat1 V c).arrAt_eq_of_covers 2 _ (by decide +kernel) fun t hf y => ?_
  blk_simp
  rw [after1_2]
  unfold out1_2
  rw [stored _ _ (by decide), ld_all, ld_all, (in_blocks V c H X hH hX t).1, (in_blocks V c H X hH hX t).2, in_sum, prod_off]
  exact (congrFun (ev_block rfl fun _ => by constructor <;> blk_simp [idx1_2] <;> simp <;> ring) y).symm

theorem act_array : (dat1 V c).arrAt 3 cfg1.N = ev 4096 5632 .bf16 (actM (prod 2048 H X)) := by
  refine (dat1 V c).arrAt_eq_of_covers 3 _ (by decide +kernel) fun t hf y => ?_
  blk_simp
  rw [after1_3]
  unfold out1_3
  rw [stored _ _ (by decide), ld_all, ld_all, (in_blocks V c H X hH hX t).1, (in_blocks V c H X hH hX t).2, in_gate, prod_off, actM_off]
  exact (congrFun (ev_block rfl fun _ => by constructor <;> blk_simp [idx1_3] <;> simp <;> ring) y).symm
end

/-! ## The gradient at the first product -/

section
variable (D Wo X : EMat) (hD : V c main_arg3 = ev 4096 2048 .bf16 D) (hW : V c main_v2 = ev 5632 2048 .bf16 Wo)
  (hX : V c main_v3_0 = ev 4096 11264 .bf16 X)
include hD hW hX

theorem d_blocks (t : Fin cfg2.N) : iblk2 V c 0 t = ev 1024 2048 .bf16 (off (1024 * (t.val / 11)) 0 D)
    ∧ iblk2 V c 1 t = ev 512 2048 .bf16 (off (512 * (t.val % 11)) 0 Wo)
    ∧ iblk2 V c 2 t = ev 1024 1024 .bf16 (off (1024 * (t.val / 11)) (1024 * (t.val % 11)) X) := by
  refine ⟨?_, ?_, ?_⟩
  · refine ext2 fun r d => ?_
    blk_simp [iblk2, hD]
    rw [ev_apply]
    unfold ev off
    congr 1 <;> blk_simp [idx2_0] <;> simp <;> ring
  · refine ext2 fun r d => ?_
    blk_simp [iblk2, hW]
    rw [ev_apply]
    unfold ev off
    congr 1 <;> blk_simp [idx2_1] <;> simp <;> ring
  · refine ext2 fun r d => ?_
    blk_simp [iblk2, hX]
    rw [ev_apply]
    unfold ev off
    congr 1 <;> blk_simp [idx2_2] <;> simp <;> ring

theorem d_array : (dat2 V c).arrAt 3 cfg2.N = ev 4096 11264 .bf16 (dffM (prod 2048 D (tr Wo)) X) := by
  refine (dat2 V c).arrAt_eq_of_covers 3 _ (by decide +kernel) fun t hf y => ?_
  obtain ⟨e0, e1, e2⟩ := d_blocks V c D Wo X hD hW hX t
  blk_simp
  rw [after2_3]
  unfold out2_3
  rw [stored _ _ (by decide), ld_all, ld_all, ld_all, e0, e1, e2, d_gate, show tr (off (512 * (t.val % 11)) 0 Wo) = off 0 (512 * (t.val % 11)) (tr Wo) from rfl,
    prod_off, dffM_off]
  exact (congrFun (ev_block rfl fun _ => by constructor <;> blk_simp [idx2_3] <;> simp <;> ring) y).symm
end

/-! ## The first weights' gradient -/

section
variable (H D : EMat) (hH : V c main_arg0 = ev 4096 2048 .bf16 H) (hD : V c main_v4 = ev 4096 11264 .bf16 D)
include hH hD

theorem gw_blocks (t : Fin cfg3.N) : iblk3 V c 0 t = ev 4096 1024 .bf16 (off 0 (1024 * (t.val / 44)) H)
    ∧ iblk3 V c 1 t = ev 4096 256 .bf16 (off 0 (256 * (t.val % 44)) D) := by
  constructor
  · refine ext2 fun r d => ?_
    blk_simp [iblk3, hH]
    rw [ev_apply]
    unfold ev off
    congr 1 <;> blk_simp [idx3_0] <;> simp <;> ring
  · refine ext2 fun r d => ?_
    blk_simp [iblk3, hD]
    rw [ev_apply]
    unfold ev off
    congr 1 <;> blk_simp [idx3_1] <;> simp <;> ring

theorem gw_array : (dat3 V c).arrAt 2 cfg3.N = pieces 2 4 1024 2816 .bf16 fun p q i j => prod 4096 (tr H) (unmixed D) (1024 * p + i) (2816 * q + j) := by
  refine (dat3 V c).arrAt_eq_of_covers 2 _ (by decide +kernel) fun t hf y => ?_
  have h44 : t.val % 44 < 44 := Nat.mod_lt _ (by decide)
  blk_simp
  rw [after3_2]
  unfold out3_2
  rw [stored _ _ (by decide), ld_all, ld_all, (gw_blocks V c H D hH hD t).1, (gw_blocks V c H D hH hD t).2]
  obtain ⟨p, q, r, d, rfl⟩ : ∃ p q r d, y = ix4 p q r d := ⟨_, _, _, _, eq_ix4 y⟩
  obtain rfl : p = 0 := Subsingleton.elim _ _
  obtain rfl : q = 0 := Subsingleton.elim _ _
  rw [gw_block]
  unfold pieces
  refine Eq.trans (b := prod 4096 (tr H) (unmixed D) (1024 * (t.val / 44) + r.val) (256 * src (t.val % 44) + d.val)) ?_ ?_
  · refine Finset.sum_congr rfl fun k _ => ?_
    unfold unmixed
    rw [cat_at _ _ _ d.isLt, dst_src h44]
    simp [off, tr]
  have e3 : ((ix4 (0 : Fin 1) (0 : Fin 1) r d) 3).val = d.val := rfl
  congr 1 <;> blk_simp [idx3_2] <;> simp <;> omega
end
end

end Cert.Mm.Ffn
-- ==== Proof.FfnRun.lean ====
/-
  The run of the feed-forward block's four calls: the gated values and the first weights' gradient at the end, in the columns' own order.
-/
module

public import proofs.«01_k».proof.Proof.FfnArray
public import Idealize.ShloMosaic.Lib.Claim

@[expose] public section

noncomputable section

namespace Cert.Mm.Ffn

open Idealize.ShloMosaic hiding ix1 ix2 ix3 ix4 eq_ix1 eq_ix2 eq_ix3 eq_ix4
open ValueIdx
open TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Sb (ext2)
open FfnIdeal FfnIdeal.Gen

/-! ## Back in order -/

theorem mixed_gate (P : EMat) (i k : ℕ) {j : ℕ} (hj : j < 256) : mixed P i (512 * k + j) = P i (256 * k + j) := by
  rw [show 512 * k + j = 256 * (2 * k) + j by ring]
  unfold mixed
  rw [cat_at _ _ _ hj]
  unfold src
  congr 1
  omega
theorem mixed_up (P : EMat) (i k : ℕ) {j : ℕ} (hj : j < 256) : mixed P i (512 * k + 256 + j) = P i (5632 + (256 * k + j)) := by
  rw [show 512 * k + 256 + j = 256 * (2 * k + 1) + j by ring]
  unfold mixed
  rw [cat_at _ _ _ hj]
  unfold src
  congr 1
  omega

/-- The gated values of a matrix of all gates, then all factors. -/
def gated (P : EMat) : EMat := fun i j => act (P i j) (P i (5632 + j))
/-- The gradient at that matrix. -/
def gradM (d P : EMat) : EMat := fun i c => if c < 5632 then dGate (d i c) (P i c) (P i (5632 + c)) else dUp (d i (c - 5632)) (P i (c - 5632))

theorem actM_mixed (P : EMat) (i j : ℕ) : actM (mixed P) i j = gated P i j := by
  have hj : j % 256 < 256 := Nat.mod_lt _ (by decide)
  unfold actM cat gated
  dsimp only
  rw [mixed_gate _ _ _ hj, mixed_up _ _ _ hj, Nat.div_add_mod]

theorem dffM_mixed (d P : EMat) (i : ℕ) {c : ℕ} (hc : c < 11264) : unmixed (dffM d (mixed P)) i c = gradM d P i c := by
  have hj : c % 256 < 256 := Nat.mod_lt _ (by decide)
  unfold unmixed cat dffM
  dsimp only
  rw [cat_at _ _ _ hj, mixed_gate _ _ _ hj, mixed_up _ _ _ hj]
  unfold gradM dst
  by_cases h : c < 5632
  · rw [if_pos h, if_pos (by omega), show 256 * ((2 * (c / 256 % 22) + c / 256 / 22) / 2) + c % 256 = c by omega]
  · rw [if_neg h, if_neg (by omega), show 256 * ((2 * (c / 256 % 22) + c / 256 / 22) / 2) + c % 256 = c - 5632 by omega]

/-! ## The weights, gathered from eight pieces -/

/-- The first weights: two halves of rows by four parts of columns. -/
def wIn (x : FVec Ideal S8x1024x2816 .bf16) : EMat := fun i c =>
  if h : i < 2048 ∧ c < 11264 then x (ix3 ⟨2 * (c / 2816) + i / 1024, by omega⟩ ⟨i % 1024, by omega⟩ ⟨c % 2816, by omega⟩) else 0
/-- The second weights: eight parts of rows. -/
def wOut (x : FVec Ideal S8x704x2048 .bf16) : EMat := fun i c =>
  if h : i < 5632 ∧ c < 2048 then x (ix3 ⟨i / 704, by omega⟩ ⟨i % 704, by omega⟩ ⟨c, h.2⟩) else 0

theorem wIn_at (x : FVec Ideal S8x1024x2816 .bf16) {i c : ℕ} (hi : i < 2048) (hc : c < 11264) :
    wIn x i c = x (ix3 ⟨2 * (c / 2816) + i / 1024, by omega⟩ ⟨i % 1024, by omega⟩ ⟨c % 2816, by omega⟩) := dif_pos ⟨hi, hc⟩
theorem wOut_at (x : FVec Ideal S8x704x2048 .bf16) {i c : ℕ} (hi : i < 5632) (hc : c < 2048) :
    wOut x i c = x (ix3 ⟨i / 704, by omega⟩ ⟨i % 704, by omega⟩ ⟨c, hc⟩) := dif_pos ⟨hi, hc⟩

theorem wIn_cast (x : FVec Ideal S8x1024x2816 .bf16) (h : S8x1024x2816.ShapeCasts S4x2048x2816) : shapeCast S4x2048x2816 x h = parts 4 2048 2816 .bf16 (wIn x) := by
  funext y
  obtain ⟨p, i, j, rfl⟩ : ∃ p i j, y = ix3 p i j := ⟨_, _, _, eq_ix3 y⟩
  have hp : p.val < 4 := p.isLt
  have hi : i.val < 2048 := i.isLt
  have hj : j.val < 2816 := j.isLt
  have hc : 2816 * p.val + j.val < 11264 := by omega
  show _ = wIn x i.val (2816 * p.val + j.val)
  rw [wIn_at x hi hc]
  refine shapeCast_apply x h _ _ ?_
  rw [Shape.rowMajor_val_three, Shape.rowMajor_val_three]
  show ((2 * ((2816 * p.val + j.val) / 2816) + i.val / 1024) * 1024 + i.val % 1024) * 2816 + (2816 * p.val + j.val) % 2816 = (p.val * 2048 + i.val) * 2816 + j.val
  omega

theorem wOut_cast (x : FVec Ideal S8x704x2048 .bf16) (h : S8x704x2048.ShapeCasts S5632x2048) : shapeCast S5632x2048 x h = ev 5632 2048 .bf16 (wOut x) :=
  ext2 fun i j => by
    rw [ev_apply, wOut_at x i.isLt j.isLt]
    refine shapeCast_apply x h _ _ ?_
    rw [Shape.rowMajor_val_three, Shape.rowMajor_val_two]
    show (i.val / 704 * 704 + i.val % 704) * 2048 + j.val = i.val * 2048 + j.val
    omega

/-! ## The run -/

variable (m : Mem nD τ sig) (ρ : Dev nD → PrngReg)

/-- Every unscoped array ends at what the fourth call leaves. -/
theorem run_mem : θ_run defs (onTc (τ := τ) main) ⟨m, fun _ => 0, ρ⟩ (fun r => ∀ c : Dev nD, ∀ b ∈ Pipeline.ucRefs τ sig,
      r.2.mem (((c : Thread nD τ)).1, b) = W6 m ρ c b) :=
  Pipeline.θ_run_regions_kit_sems (pcfgs) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => h c)

section
variable (c : Dev nD) (H D W Wo : EMat) (hH : m (c.tc.loc main_arg0) = evTb H)
  (hD : m (c.tc.loc main_arg3) = evTb D)
  (hW : shapeCast S4x2048x2816 (m (c.tc.loc main_arg1)) shapeCasts_S8x1024x2816_S4x2048x2816 = parts 4 2048 2816 .bf16 W)
  (hWo : shapeCast S5632x2048 (m (c.tc.loc main_arg2)) shapeCasts_S8x704x2048_S5632x2048 = ev 5632 2048 .bf16 Wo)

include hW in
theorem V1_w : V1 m ρ c main_v0 = parts 4 2048 2816 .bf16 W := by
  refine Eq.trans ?_ hW
  unfold_abbrev_sides
  after_results
  rfl
include hW in
theorem V3_w : V3 m ρ c main_v1 = ev 2048 11264 .bf16 (mixed W) :=
  (W3_of m ρ c main_v1 (by decide)).trans ((W2_arr m ρ c 1).trans (mix_array (V1 m ρ) c W (V1_w m ρ c W hW)))
include hWo in
theorem V3_wo : V3 m ρ c main_v2 = ev 5632 2048 .bf16 Wo := by
  have h2 : W2 m ρ c (Proc.devRef .tc main_arg2) = m (c.tc.loc main_arg2) := W2_args m ρ c main_arg2 (by decide)
  have h3 : V3 m ρ c main_v2 = shapeCast S5632x2048 (W2 m ρ c (Proc.devRef .tc main_arg2)) shapeCasts_S8x704x2048_S5632x2048 := by
    unfold_abbrev_sides
    after_results
    rfl
  exact h3.trans ((congrArg (fun x => shapeCast S5632x2048 x shapeCasts_S8x704x2048_S5632x2048) h2).trans hWo)

include hH in
theorem V3_h : V3 m ρ c main_arg0 = evTb H := (W3_args m ρ c main_arg0 (by decide)).trans hH
include hH hW in
theorem V4_sum : V4 m ρ c main_v3_0 = ev 4096 11264 .bf16 (mixed (prod 2048 H W)) :=
  (W4_arr m ρ c 2).trans (sum_array (V3 m ρ) c H (mixed W) (V3_h m ρ c H hH) (V3_w m ρ c W hW))
include hH hD hW hWo in
theorem V5_d : V5 m ρ c main_v4 = ev 4096 11264 .bf16 (dffM (prod 2048 D (tr Wo)) (mixed (prod 2048 H W))) :=
  (W5_arr m ρ c 3).trans (d_array (V4 m ρ) c D Wo _ ((W4_args m ρ c main_arg3 (by decide)).trans hD)
    ((W4_of m ρ c main_v2 (by decide)).trans (V3_wo m ρ c Wo hWo)) (V4_sum m ρ c H W hH hW))

include hH hW in
theorem mem_act : W6 m ρ c (Proc.devRef .tc main_v3_1) = ev 4096 5632 .bf16 (gated (prod 2048 H W)) :=
  ((W6_of_ne m ρ c main_v3_1 (by decide)).trans ((W5_of_ne m ρ c main_v3_1 (by decide)).trans ((W4_arr m ρ c 3).trans
    (act_array (V3 m ρ) c H (mixed W) (V3_h m ρ c H hH) (V3_w m ρ c W hW))))).trans
    (ev_congr fun i _ j _ => actM_mixed (prod 2048 H W) i j)
include hH hD hW hWo in
theorem mem_gw : W6 m ρ c (Proc.devRef .tc main_v5)
    = pieces 2 4 1024 2816 .bf16 fun p q i j => prod 4096 (tr H) (gradM (prod 2048 D (tr Wo)) (prod 2048 H W)) (1024 * p + i) (2816 * q + j) := by
  refine ((W6_arr m ρ c 2).trans (gw_array (V5 m ρ) c H _ ((W5_args m ρ c main_arg0 (by decide)).trans hH) (V5_d m ρ c H D W Wo hH hD hW hWo))).trans ?_
  refine ext4 fun p q i j => ?_
  rw [pieces_apply, pieces_apply]
  exact prod_congr (fun _ _ => rfl) fun k _ => dffM_mixed _ _ _ (by omega)
end

/-- The four calls: the results, of the arguments' matrices. -/
theorem run : θ_run defs (onTc (τ := τ) main) ⟨m, fun _ => 0, ρ⟩ fun r => ∀ c : Dev nD,
      r.2.mem (c.tc.loc main_v3_1) = ev 4096 5632 .bf16 (gated (prod 2048
        (ofv (a := 4096) (b := 2048) (φ := .bf16) (m (c.tc.loc main_arg0))) (wIn (m (c.tc.loc main_arg1)))))
      ∧ r.2.mem (c.tc.loc main_v5) = pieces 2 4 1024 2816 .bf16 (fun p q i j =>
        prod 4096 (tr (ofv (a := 4096) (b := 2048) (φ := .bf16) (m (c.tc.loc main_arg0))))
          (gradM (prod 2048 (ofv (a := 4096) (b := 2048) (φ := .bf16) (m (c.tc.loc main_arg3))) (tr (wOut (m (c.tc.loc main_arg2)))))
            (prod 2048 (ofv (a := 4096) (b := 2048) (φ := .bf16) (m (c.tc.loc main_arg0))) (wIn (m (c.tc.loc main_arg1)))))
          (1024 * p + i) (2816 * q + j))
      ∧ Kept m r.2.mem c main_arg0 ∧ Kept m r.2.mem c main_arg1 ∧ Kept m r.2.mem c main_arg2 ∧ Kept m r.2.mem c main_arg3 :=
  (θ_run defs _ _).mono (fun _ h c =>
    ⟨(h c _ (mem_uc main_v3_1 (by decide))).trans (mem_act m ρ c _ _ of_ofv (wIn_cast _ _)),
     (h c _ (mem_uc main_v5 (by decide))).trans (mem_gw m ρ c _ _ _ _ of_ofv of_ofv (wIn_cast _ _) (wOut_cast _ _)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_mem m ρ)

end Cert.Mm.Ffn
-- ==== Proof.FfnRef.lean ====
/-
  What the reference of the feed-forward block computes: the gated values of the first product, and the first weights' gradient, its
  gate gradient in the form a sum of two products has. On reals that is the form the calls compute.
-/
module

public import proofs.«01_k».proof.Proof.FfnRun
public import proofs.«01_k».proof.Proof.Gen.FfnRefIdeal.Run
public import proofs.«01_k».proof.Proof.Gen.FfnRefIdeal.Read

@[expose] public section

noncomputable section

namespace Cert.Mm.Ffn

open Idealize.ShloMosaic hiding ix1 ix2 ix3 ix4 eq_ix1 eq_ix2 eq_ix3 eq_ix4
open ValueIdx TcCoe Idealize.SL.Sem
open Sb (ext2)
open FfnRefIdeal FfnRefIdeal.Read

/-! ## Reals -/

/-- No infinity. -/
def Real1 (x : EReal) : Prop := ∃ r : ℝ, x = r

theorem real_mul {x y : EReal} : Real1 x → Real1 y → Real1 (x * y) := fun ⟨a, ha⟩ ⟨b, hb⟩ => ⟨a * b, by rw [ha, hb, EReal.coe_mul]⟩
theorem real_add {x y : EReal} : Real1 x → Real1 y → Real1 (x + y) := fun ⟨a, ha⟩ ⟨b, hb⟩ => ⟨a + b, by rw [ha, hb, EReal.coe_add]⟩

theorem real_prod {K i j : ℕ} {x y : EMat} (hx : ∀ k < K, Real1 (x i k)) (hy : ∀ k < K, Real1 (y k j)) : Real1 (prod K x y i j) := by
  unfold prod
  refine Finset.sum_induction _ Real1 (fun _ _ => real_add) ⟨0, EReal.coe_zero.symm⟩ fun k hk => ?_
  exact real_mul (hx k (Finset.mem_range.1 hk)) (hy k (Finset.mem_range.1 hk))

/-- The gate's gradient, multiplied out. -/
theorem dGate_sum {d g u : EReal} : Real1 d → Real1 g → Real1 u → d * u * sg g + g * (d * u) * (sg g * (1 - sg g)) = dGate d g u := by
  rintro ⟨d, rfl⟩ ⟨g, rfl⟩ ⟨u, rfl⟩
  unfold dGate sg
  rw [Ideal.logistic_coe]
  simp only [← EReal.coe_one, ← EReal.coe_sub, ← EReal.coe_mul, ← EReal.coe_add]
  congr 1
  ring

/-! ## The reference -/

theorem one_host : FloatOps.ofBits (F := Ideal) .f32 0x3F800000#32 = (1 : EReal) := one_bits

section
variable (x0 : FVec Ideal S4096x2048 .bf16) (x1 : FVec Ideal S8x1024x2816 .bf16) (x2 : FVec Ideal S8x704x2048 .bf16) (x3 : FVec Ideal S4096x2048 .bf16)

/-- The first product. -/
abbrev ff : EMat := prod 2048 (ofv x0) (wIn x1)
/-- The gated values' gradient. -/
abbrev dAct : EMat := prod 2048 (ofv x3) (tr (wOut x2))

/-- The first weights' pieces, one behind the other. -/
theorem w_piece (q : Fin 4) (k : Fin 2048) (j : Fin 2816) : val_main_v4 (F := Ideal) x1 (ix3 q k j) = wIn x1 k.val (2816 * q.val + j.val) := by
  have hq := q.isLt
  have hk := k.isLt
  have hj := j.isLt
  rw [val_main_v4_apply, val_main_v1_apply, wIn_at x1 hk (by omega)]
  refine congrArg x1 ((eq_ix3 _).trans (congr (congrArg₂ ix3 (Fin.ext ?_) (Fin.ext ?_)) (Fin.ext ?_)))
  · show ((q.val * 2048 + k.val) * 2816 + j.val) / 2883584 = 2 * ((2816 * q.val + j.val) / 2816) + k.val / 1024
    omega
  · show ((q.val * 2048 + k.val) * 2816 + j.val) / 2816 % 1024 = k.val % 1024
    omega
  · show ((q.val * 2048 + k.val) * 2816 + j.val) % 2816 = (2816 * q.val + j.val) % 2816
    omega

/-- The first weights as one matrix. -/
theorem w_at (k : Fin 2048) (c : Fin 11264) : val_main_v6 (F := Ideal) x1 (ix2 k c) = wIn x1 k.val c.val := by
  have hk := k.isLt
  have hc := c.isLt
  have e : idx_main_v6 (ix2 k c) = ix3 k ⟨c.val / 2816, by omega⟩ ⟨c.val % 2816, by omega⟩ := by
    refine (eq_ix3 _).trans (congr (congrArg₂ ix3 (Fin.ext ?_) (Fin.ext ?_)) (Fin.ext ?_))
    · show (k.val * 11264 + c.val) / 11264 = k.val
      omega
    · show (k.val * 11264 + c.val) / 2816 % 4 = c.val / 2816
      omega
    · show (k.val * 11264 + c.val) % 2816 = c.val % 2816
      omega
  rw [val_main_v6_apply, e, val_main_v5_apply]
  refine (congrArg (val_main_v4 (F := Ideal) x1) (eq_ix3 _)).trans ((w_piece x1 ⟨c.val / 2816, by omega⟩ k ⟨c.val % 2816, by omega⟩).trans ?_)
  exact congrArg (wIn x1 k.val) (Nat.div_add_mod c.val 2816)

theorem wo_at (k : Fin 5632) (c : Fin 2048) : val_main_v7 (F := Ideal) x2 (ix2 k c) = wOut x2 k.val c.val := by
  have hk := k.isLt
  have hc := c.isLt
  rw [val_main_v7_apply, val_main_v2_apply, wOut_at x2 hk hc]
  refine congrArg x2 ((eq_ix3 _).trans ?_)
  refine congr (congrArg₂ ix3 (Fin.ext ?_) (Fin.ext ?_)) (Fin.ext ?_)
  · show (k.val * 2048 + c.val) / 1441792 = k.val / 704
    omega
  · show (k.val * 2048 + c.val) / 2048 % 704 = k.val % 704
    omega
  · show (k.val * 2048 + c.val) % 2048 = c.val
    omega

theorem ff_at (r : Fin 4096) (c : Fin 11264) : val_main_v8 (F := Ideal) x0 x1 (ix2 r c) = ff x0 x1 r.val c.val := by
  rw [val_main_v8_apply]
  unfold ff prod
  rw [Finset.sum_range]
  refine Finset.sum_congr rfl fun k _ => ?_
  rw [ofv_at x0 r.isLt k.isLt, ← w_at x1 k c]
  exact congrArg₂ (· * ·) (congrArg x0 (eq_ix2 _)) (congrArg _ (eq_ix2 _))

theorem gate_at (r : Fin 4096) (c : Fin 5632) : val_main_v9 (F := Ideal) x0 x1 (ix2 r c) = ff x0 x1 r.val c.val := by
  rw [val_main_v9_apply]
  exact (congrArg _ (eq_ix2 _)).trans (ff_at x0 x1 r ⟨c.val, by omega⟩)
theorem up_at (r : Fin 4096) (c : Fin 5632) : val_main_v10 (F := Ideal) x0 x1 (ix2 r c) = ff x0 x1 r.val (5632 + c.val) := by
  rw [val_main_v10_apply]
  exact (congrArg _ (eq_ix2 _)).trans (ff_at x0 x1 r ⟨5632 + c.val, by omega⟩)
theorem gate_again : val_main_v14 (F := Ideal) x0 x1 = val_main_v9 (F := Ideal) x0 x1 := rfl
theorem up_again : val_main_v15 (F := Ideal) x0 x1 = val_main_v10 (F := Ideal) x0 x1 := rfl

theorem sg_at (i : S4096x5632.Idx) : val_main_call0_v5 (F := Ideal) x0 x1 i = sg (val_main_v9 (F := Ideal) x0 x1 i) := by
  rw [val_main_call0_v5_apply, val_main_call0_v4_apply, val_main_call0_cst_0_apply, val_main_call0_v3_apply, val_main_call0_v2_apply, val_main_call0_cst_apply,
    val_main_call0_v1_apply, val_main_call0_v0_apply, one_host]
  rfl
theorem sg_again : val_main_v16_2 (F := Ideal) x0 x1 = val_main_call0_v5 (F := Ideal) x0 x1 := rfl

/-- The gated values. -/
theorem ref_act : val_main_v28 (F := Ideal) x0 x1 = ev 4096 5632 .bf16 (gated (ff x0 x1)) :=
  ext2 fun r c => by
    rw [val_main_v28_apply, val_main_v12_apply, val_main_v11_apply, sg_at, gate_at, up_at]
    rfl

theorem d_at (r : Fin 4096) (c : Fin 5632) : val_main_v19 (F := Ideal) x2 x3 (ix2 r c) = dAct x2 x3 r.val c.val := by
  rw [val_main_v19_apply]
  unfold dAct prod tr
  rw [Finset.sum_range]
  refine Finset.sum_congr rfl fun k _ => ?_
  rw [ofv_at x3 r.isLt k.isLt, ← wo_at x2 c k]
  exact congrArg₂ (· * ·) (congrArg x3 (eq_ix2 _)) (congrArg _ (eq_ix2 _))

variable (h0 : ∀ i, Real1 (x0 i)) (h1 : ∀ i, Real1 (x1 i)) (h2 : ∀ i, Real1 (x2 i)) (h3 : ∀ i, Real1 (x3 i))

include h0 h1 in
theorem ff_real {r c : ℕ} (hr : r < 4096) (hc : c < 11264) : Real1 (ff x0 x1 r c) :=
  real_prod (fun k hk => ofv_at x0 hr hk ▸ h0 _) (fun k hk => wIn_at x1 hk hc ▸ h1 _)
include h2 h3 in
theorem d_real {r c : ℕ} (hr : r < 4096) (hc : c < 5632) : Real1 (dAct x2 x3 r c) :=
  real_prod (fun k hk => ofv_at x3 hr hk ▸ h3 _) (fun k hk => show Real1 (wOut x2 c k) from wOut_at x2 hc hk ▸ h2 _)

include h0 h1 h2 h3 in
theorem dgate_at (r : Fin 4096) (c : Fin 5632) :
    val_main_v22 (F := Ideal) x0 x1 x2 x3 (ix2 r c) = dGate (dAct x2 x3 r.val c.val) (ff x0 x1 r.val c.val) (ff x0 x1 r.val (5632 + c.val)) := by
  rw [val_main_v22_apply, val_main_call2_v1_apply, val_main_call2_v2_apply, val_main_call2_v0_apply, val_main_v21_apply, val_main_v16_1_apply, val_main_call1_v7_apply,
    val_main_call1_v6_apply, val_main_call1_cst_1_apply, sg_again, gate_again, up_again, sg_at, gate_at, up_at, d_at, one_host]
  exact dGate_sum (d_real x2 x3 h2 h3 r.isLt c.isLt) (ff_real x0 x1 h0 h1 r.isLt (by omega)) (ff_real x0 x1 h0 h1 r.isLt (by omega))

theorem dup_at (r : Fin 4096) (c : Fin 5632) : val_main_v20 (F := Ideal) x0 x1 x2 x3 (ix2 r c) = dUp (dAct x2 x3 r.val c.val) (ff x0 x1 r.val c.val) := by
  rw [val_main_v20_apply, val_main_v16_0_apply, sg_again, gate_again, sg_at, gate_at, d_at]
  show ff x0 x1 r.val c.val * sg (ff x0 x1 r.val c.val) * dAct x2 x3 r.val c.val = _
  unfold dUp
  rw [mul_comm, mul_assoc]

include h0 h1 h2 h3 in
/-- The gradient at the first product. -/
theorem dff_at (r : Fin 4096) (c : Fin 11264) : val_main_v23 (F := Ideal) x0 x1 x2 x3 (ix2 r c) = gradM (dAct x2 x3) (ff x0 x1) r.val c.val := by
  have hc := c.isLt
  unfold val_main_v23 gradM
  by_cases h : c.val < 5632
  · rw [if_pos h, ← dgate_at x0 x1 x2 x3 h0 h1 h2 h3 r ⟨c.val, h⟩]
    exact concatenate_pair_apply_left (t := S4096x11264) (s₁ := S4096x5632) (s₂ := S4096x5632) (1 : Fin 2) (val_main_v22 (F := Ideal) x0 x1 x2 x3)
      (val_main_v20 x0 x1 x2 x3) _ (ix2 r c) rfl (ix2 r ⟨c.val, h⟩) (Fin.forall_fin_two.mpr ⟨rfl, rfl⟩)
  · rw [if_neg h, ← dup_at x0 x1 x2 x3 r ⟨c.val - 5632, by omega⟩]
    exact concatenate_pair_apply_right (t := S4096x11264) (s₁ := S4096x5632) (s₂ := S4096x5632) (1 : Fin 2) (val_main_v22 (F := Ideal) x0 x1 x2 x3)
      (val_main_v20 (F := Ideal) x0 x1 x2 x3) _ (ix2 r c) rfl rfl (ix2 r ⟨c.val - 5632, by omega⟩) (Fin.forall_fin_two.mpr ⟨fun _ => rfl, fun hb => absurd rfl hb⟩)
      (Nat.sub_add_cancel (Nat.le_of_not_lt h))

include h0 h1 h2 h3 in
/-- The first weights' gradient. -/
theorem ref_gw : val_main_v29 (F := Ideal) x0 x1 x2 x3 = pieces 2 4 1024 2816 .bf16 fun p q i j => prod 4096 (tr (ofv x0)) (gradM (dAct x2 x3) (ff x0 x1)) (1024 * p + i) (2816 * q + j) :=
  ext4 fun p q i j => by
    have hp := p.isLt
    have hq := q.isLt
    have hi := i.isLt
    have hj := j.isLt
    have hr : 1024 * p.val + i.val < 2048 := by omega
    have hc : 2816 * q.val + j.val < 11264 := by omega
    rw [val_main_v29_apply, val_main_v27_apply, val_main_v26_apply, val_main_v25_apply, val_main_v24_apply, pieces_apply]
    unfold prod tr
    rw [Finset.sum_range]
    refine Finset.sum_congr rfl fun k _ => ?_
    rw [ofv_at x0 k.isLt hr, mul_comm, ← dff_at x0 x1 x2 x3 h0 h1 h2 h3 k ⟨_, hc⟩]
    refine congrArg₂ (· * ·) (congrArg x0 ?_) (congrArg _ ?_)
    · refine (eq_ix2 _).trans (congrArg₂ ix2 rfl (Fin.ext ?_))
      show (((p.val * 1024 + i.val) * 4 + q.val) * 2816 + j.val) / 11264 = _
      dsimp only
      omega
    · refine (eq_ix2 _).trans (congrArg₂ ix2 rfl (Fin.ext ?_))
      show (((p.val * 1024 + i.val) * 4 + q.val) * 2816 + j.val) % 11264 = _
      dsimp only
      omega
end

end Cert.Mm.Ffn
-- ==== Proof.FfnFinite.lean ====
/-
  The feed-forward block's precondition: every entry of the four arguments is a real. And the reference's run, its results stated as the
  calls' are.
-/
module

public import proofs.«01_k».proof.Proof.FfnRef
public import proofs.«01_k».proof.Proof.Finite
public import proofs.«01_k».proof.Pre_finite_ffn

@[expose] public section

noncomputable section

namespace Cert.Mm.Ffn

open Idealize.ShloMosaic
open ValueIdx TcCoe Idealize.SL.Sem

instance pre_facts : Pre_finite_ffn.Facts where
  bcast_S_S4096x2048 := by decide
  reducesTo_S4096x2048_S_d0_1 := by decide
  h_S_ := by decide
  bcast_S_S8x1024x2816 := by decide
  reducesTo_S8x1024x2816_S_d0_1_2 := by decide
  bcast_S_S8x704x2048 := by decide
  reducesTo_S8x704x2048_S_d0_1_2 := by decide

section
open FfnRefIdeal

theorem finite_real (x0 : FVec Ideal S4096x2048 .bf16) (x1 : FVec Ideal S8x1024x2816 .bf16) (x2 : FVec Ideal S8x704x2048 .bf16) (x3 : FVec Ideal S4096x2048 .bf16)
    (h : Pre_finite_ffn.fn x0 x1 x2 x3 = fun _ => 1#1) :
    (∀ i, Real1 (x0 i)) ∧ (∀ i, Real1 (x1 i)) ∧ (∀ i, Real1 (x2 i)) ∧ ∀ i, Real1 (x3 i) := by
  have e := congrFun h (Shape.Idx.first (by decide))
  unfold Pre_finite_ffn.fn Pre_finite_ffn.fn_part1 at e
  dsimp only at e
  have : Subsingleton Pre_finite_ffn.S_.Idx := ⟨fun a b => funext fun i => i.elim0⟩
  obtain ⟨e012, h3⟩ := IntOp.andi_eq_one.1 e
  obtain ⟨e01, h2⟩ := IntOp.andi_eq_one.1 e012
  obtain ⟨h0, h1⟩ := IntOp.andi_eq_one.1 e01
  exact ⟨fun i => ⟨_, (Sb.real_of_abs _ (Host.reduce_andi_all _ _ _ _ _ h0 i)).symm⟩, fun i => ⟨_, (Sb.real_of_abs _ (Host.reduce_andi_all _ _ _ _ _ h1 i)).symm⟩,
    fun i => ⟨_, (Sb.real_of_abs _ (Host.reduce_andi_all _ _ _ _ _ h2 i)).symm⟩, fun i => ⟨_, (Sb.real_of_abs _ (Host.reduce_andi_all _ _ _ _ _ h3 i)).symm⟩⟩

end

end Cert.Mm.Ffn
-- ==== Proof.ProjArray.lean ====
/-
  The block's first projection, as its call leaves it: at each block of rows and columns the product over the whole inner axis.
-/
module

public import proofs.«01_k».proof.Proof.Prod
public import proofs.«01_k».proof.Proof.Gen.ProjIdeal.Value

@[expose] public section

noncomputable section

namespace Cert.Mm.Proj

open Idealize.ShloMosaic
open ValueIdx TcCoe Idealize.SL.Sem
open Sb (ext2 ld_all exists_ix2)
open ProjIdeal ProjIdeal.Gen

/-! ## One block -/

theorem block (x y : EMat) : out0_2 (F := Ideal) (ev 1024 2048 .bf16 x) (ev 2048 1664 .bf16 y) = ev 1024 1664 .bf16 (prod 2048 x y) := by
  unfold out0_2
  refine (stored _ _ (fun a => by fin_cases a <;> rfl) _).trans ?_
  refine (congrArg₂ k0_pay1 (ld_all _ _ _) (ld_all _ _ _)).trans ?_
  unfold k0_pay1
  exact congrArg (fun v => truncf .bf16 v bitsLt_bf16_f32) (ev_nn none x y)

/-! ## The grid -/

theorem idx_0 : ∀ t : Fin cfg0.N, win0_0.index t = ![t.val % 4, 0] := by decide +kernel
theorem idx_1 : ∀ t : Fin cfg0.N, win0_1.index t = ![0, t.val / 4] := by decide +kernel
theorem idx_2 : ∀ t : Fin cfg0.N, win0_2.index t = ![t.val % 4, t.val / 4] := by decide +kernel

section
variable (m : Mem nD τ sig) (c : Dev nD) (A B : EMat)
  (hA : m (c.tc.loc main_arg0) = ev 4096 2048 .bf16 A) (hB : m (c.tc.loc main_arg1) = ev 2048 8320 .bf16 B)

include hA in
theorem blk_0 (t : Fin cfg0.N) : iblk m c 0 t = ev 1024 2048 .bf16 (off (1024 * (t.val % 4)) 0 A) := by
  have hA' : V m c main_arg0 = ev 4096 2048 .bf16 A := hA
  refine ext2 fun r d => ?_
  blk_simp [iblk, hA']
  rw [ev_apply]
  unfold ev off
  congr 1 <;> blk_simp [idx_0] <;> simp <;> ring

include hB in
theorem blk_1 (t : Fin cfg0.N) : iblk m c 1 t = ev 2048 1664 .bf16 (off 0 (1664 * (t.val / 4)) B) := by
  have hB' : V m c main_arg1 = ev 2048 8320 .bf16 B := hB
  refine ext2 fun r d => ?_
  blk_simp [iblk, hB']
  rw [ev_apply]
  unfold ev off
  congr 1 <;> blk_simp [idx_1] <;> simp <;> ring

include hA hB in
/-- The result: the whole product. -/
theorem array : (dats m 0 c).arrAt 2 cfg0.N = ev 4096 8320 .bf16 (prod 2048 A B) := by
  refine (dats m 0 c).arrAt_eq_of_covers 2 _ (by decide +kernel) fun t _ y => ?_
  blk_simp
  rw [after0_2, blk_0 m c A hA, blk_1 m c B hB, block]
  obtain ⟨r, d, rfl⟩ := exists_ix2 y
  rw [ev_apply]
  unfold ev
  refine Eq.trans (b := prod 2048 A B (1024 * (t.val % 4) + r.val) (1664 * (t.val / 4) + d.val)) ?_ ?_
  · simp [prod, off]
  congr 1 <;> blk_simp [idx_2] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v0) = evP (prod 2048 (ofv (a := 4096) (b := 2048) (φ := .bf16) (m (c.tc.loc main_arg0)))
        (ofv (a := 2048) (b := 8320) (φ := .bf16) (m (c.tc.loc main_arg1))))
      ∧ Kept m r.2.mem c main_arg0 ∧ Kept m r.2.mem c main_arg1 :=
  run_of_eq (fun c => array m c _ _ of_ofv of_ofv) (Value.run_blocks m ρ)

end Cert.Mm.Proj
-- ==== Proof.DH1Array.lean ====
/-
  The gradient of the first projection's input, as its call leaves it: at each block of rows and columns a running sum over five blocks
  of the inner axis, a row of zeros added at the last.
-/
module

public import proofs.«01_k».proof.Proof.Prod
public import proofs.«01_k».proof.Proof.Gen.DH1Ideal.Value
public import Idealize.ShloMosaic.Lib.Claim

@[expose] public section

noncomputable section

namespace Cert.Mm.DH1

open Idealize.ShloMosaic
open ValueIdx TcCoe Idealize.SL.Sem
open Sb (ext2 ld_all exists_ix2)
open DH1Ideal DH1Ideal.Gen

/-! ## One block -/

theorem pay1_eq (x y : EMat) : k0_pay1 (ev 1024 1664 .bf16 x) (ev 1024 1664 .bf16 y) = ev 1024 1024 .f32 (prod 1664 x (tr y)) :=
  ev_nt none x y
theorem pay2_eq (x y : EMat) : k0_pay2 (ev 1024 1664 .bf16 x) (ev 1024 1664 .bf16 y) = ev 1024 1024 .f32 (prod 1664 x (tr y)) :=
  (shapeCast_self _ _).trans (pay1_eq x y)
theorem pay3_eq (x y s : EMat) : k0_pay3 (ev 1024 1664 .bf16 x) (ev 1024 1664 .bf16 y) (ev 1024 1024 .f32 s)
    = ev 1024 1024 .f32 fun i j => s i j + prod 1664 x (tr y) i j :=
  (shapeCast_self _ _).trans (congrArg (addf _) (pay1_eq x y))

theorem pay4_eq (s : EMat) (z : Vec Ideal S1x1024 .f32) (hz : ∀ y, z y = (0 : EReal)) : k0_pay4 (ev 1024 1024 .f32 s) z = ev 1024 1024 .f32 s :=
  ext2 fun r d => by
    unfold k0_pay4
    rw [shapeCast_self]
    exact (congrArg (s r.val d.val + ·) (hz _)).trans (add_zero _)

section
variable (c : Dev nD) (i : grid0.Coords) (a3 a4 : Memref sig .tc .vmem S1024x1664 .bf16) (a5 : Memref sig .tc .vmem S1x1024 .f32) (a6 a7 : Memref sig .tc .vmem S1024x1024 .f32)
  (w3 : a3.IsWhole) (w4 : a4.IsWhole) (w5 : a5.IsWhole) (w6 : a6.IsWhole) (w7 : a7.IsWhole)
  (x0 x1 : Vec Ideal S1024x1664 .bf16) (x2 : Vec Ideal S1x1024 .f32) (xs : Vec Ideal S1024x1024 .f32)

theorem first_sum (h0 : cond0_0 i) (h1 : ¬ cond0_1 i) (h2 : ¬ cond0_2 i) :
    sout0_A_0 c i a3 w3 a4 w4 a5 w5 a6 w6 a7 w7 h0 h1 h2 x0 x1 x2 = k0_pay2 x0 x1 := by
  unfold sout0_A_0 kernelRun0_A
  dsimp only
  refine (View.read_writes_full _ _ _ _ []).trans ?_
  rw [load_all, load_all]

theorem mid_sum (h0 : ¬ cond0_0 i) (h1 : cond0_1 i) (h2 : ¬ cond0_2 i) :
    sout0_B_0 c i a3 w3 a4 w4 a5 w5 a6 w6 a7 w7 h0 h1 h2 x0 x1 x2 xs = k0_pay3 x0 x1 xs := by
  unfold sout0_B_0 kernelRun0_B
  dsimp only
  refine (View.read_writes_full _ _ _ _ []).trans ?_
  rw [load_all, load_all, load_all]

theorem last_sum (h0 : ¬ cond0_0 i) (h1 : cond0_1 i) (h2 : cond0_2 i) :
    sout0_C_0 c i a3 w3 a4 w4 a5 w5 a6 w6 a7 w7 h0 h1 h2 x0 x1 x2 xs = k0_pay3 x0 x1 xs := by
  unfold sout0_C_0 kernelRun0_C
  dsimp only
  refine (View.read_writes_full _ _ _ _ []).trans ?_
  rw [load_all, load_all, load_all]

theorem last_out (h0 : ¬ cond0_0 i) (h1 : cond0_1 i) (h2 : cond0_2 i) :
    out0_C_3 c i a3 w3 a4 w4 a5 w5 a6 w6 a7 w7 h0 h1 h2 x0 x1 x2 xs = k0_pay4 (k0_pay3 x0 x1 xs) x2 := by
  unfold out0_C_3 kernelRun0_C
  dsimp only
  refine (View.read_writes_full _ _ _ _ []).trans (congrArg₂ k0_pay4 ?_ (load_all _ _ _ _ _))
  refine (ld_all _ _ _).trans ?_
  refine (View.read_writes_full _ _ _ _ []).trans ?_
  rw [load_all, load_all, load_all]
end

/-! ## The grid -/

theorem idx_0 : ∀ t : Fin cfg0.N, win0_0.index t = ![t.val / 5 / 2, t.val % 5] := by decide +kernel
theorem idx_1 : ∀ t : Fin cfg0.N, win0_1.index t = ![t.val / 5 % 2, t.val % 5] := by decide +kernel
theorem idx_3 : ∀ t : Fin cfg0.N, win0_3.index t = ![t.val / 5 / 2, t.val / 5 % 2] := by decide +kernel

section
variable (m : Mem nD τ sig) (c : Dev nD) (A B : EMat)
  (hA : m (c.tc.loc main_arg0) = ev 4096 8320 .bf16 A) (hB : m (c.tc.loc main_arg1) = ev 2048 8320 .bf16 B)

/-- The rows of the two factors that a block of the result takes. -/
abbrev atA (q : ℕ) : EMat := off (1024 * (q / 2)) 0 A
abbrev atB (q : ℕ) : EMat := tr (off (1024 * (q % 2)) 0 B)

include hA in
theorem blk_0 (t : Fin cfg0.N) : iblk m c 0 t = ev 1024 1664 .bf16 (off 0 (1664 * (t.val % 5)) (atA A (t.val / 5))) := by
  have hA' : V m c main_arg0 = ev 4096 8320 .bf16 A := hA
  refine ext2 fun r d => ?_
  blk_simp [iblk, hA']
  rw [ev_apply]
  unfold ev atA off
  congr 1 <;> blk_simp [idx_0] <;> simp <;> ring

include hB in
theorem blk_1 (t : Fin cfg0.N) : iblk m c 1 t = ev 1024 1664 .bf16 (tr (off (1664 * (t.val % 5)) 0 (atB B (t.val / 5)))) := by
  have hB' : V m c main_arg1 = ev 2048 8320 .bf16 B := hB
  refine ext2 fun r d => ?_
  blk_simp [iblk, hB']
  rw [ev_apply]
  unfold ev atB off tr
  congr 1 <;> blk_simp [idx_1] <;> simp <;> ring

/-- The added row is zero. -/
theorem blk_2 (t : Fin cfg0.N) (y : S1x1024.Idx) : iblk m c 2 t y = (0 : EReal) := by
  have hV : V m c main_v0 = broadcastInDim S1x2048 ![] bcast_S_S1x2048 (constant (F := Ideal) S_ .f32 0x00000000#32) := by
    unfold_abbrev_sides
    after_results
  blk_simp [iblk, hV]
  exact (Sb.ofBits_zero : Ideal.ofBits .f32 0x00000000#32 = _).trans EReal.coe_zero

include hA hB in
/-- The running sum after a point. -/
theorem sums : ∀ t h, (outsAt0 m c t h).2 = ev 1024 1024 .f32 (prod (1664 * (t % 5 + 1)) (atA A (t / 5)) (atB B (t / 5))) := by
  refine running 5 1664 cfg0.N (by decide) (fun t h => (outsAt0 m c t h).2) (atA A) (atB B) (fun t h hz => ?_) (fun t h s hz hs => ?_)
  · rw [outsAt0_A m c ⟨t, h⟩ hz (by simp only [hz]; omega) (by simp only [hz]; omega)]
    dsimp only
    rw [first_sum, blk_0 m c A hA, blk_1 m c B hB, pay2_eq, tr_tr]
  · have e : (outsAt0 m c (t + 1) h).2 = k0_pay3 (iblk m c 0 ⟨t + 1, h⟩) (iblk m c 1 ⟨t + 1, h⟩) (outsAt0 m c t (Nat.lt_of_succ_lt h)).2 := by
      by_cases hl : (t + 1) % 5 = 4
      · rw [outsAt0_C m c ⟨t + 1, h⟩ hz (by simp only; omega) hl]
        dsimp only
        rw [last_sum]
        rfl
      · rw [outsAt0_B m c ⟨t + 1, h⟩ hz (by simp only; omega) hl]
        dsimp only
        rw [mid_sum]
        rfl
    rw [e, hs, blk_0 m c A hA, blk_1 m c B hB, pay3_eq, tr_tr]

include hA hB in
/-- The result: the whole product. -/
theorem array : (dats m 0 c).arrAt 3 cfg0.N = ev 4096 2048 .f32 (prod 8320 A (tr B)) := by
  refine (dats m 0 c).arrAt_eq_of_covers 3 _ (by decide +kernel) fun t hf y => ?_
  have h4 : t.val % 5 = 4 := (flush0_3 t).1 hf
  have e : (outsAt0 m c t.val t.isLt).1 = k0_pay4 (outsAt0 m c t.val t.isLt).2 (iblk m c 2 t) := by
    rw [outsAt0_C m c t (by omega) (by omega) h4]
    dsimp only
    rw [last_out, last_sum]
  blk_simp
  rw [after0_3, e, sums m c A B hA hB t, h4, pay4_eq _ _ (blk_2 m c t)]
  obtain ⟨r, d, rfl⟩ := exists_ix2 y
  rw [ev_apply]
  unfold ev
  refine Eq.trans (b := prod 8320 A (tr B) (1024 * (t.val / 5 / 2) + r.val) (1024 * (t.val / 5 % 2) + d.val)) ?_ ?_
  · simp [prod, off, tr]
  congr 1 <;> blk_simp [idx_3] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v1) = evT (prod 8320 (ofv (a := 4096) (b := 8320) (φ := .bf16) (m (c.tc.loc main_arg0)))
        (tr (ofv (a := 2048) (b := 8320) (φ := .bf16) (m (c.tc.loc main_arg1)))))
      ∧ Kept m r.2.mem c main_arg0 ∧ Kept m r.2.mem c main_arg1 :=
  run_of_eq (fun c => array m c _ _ of_ofv of_ofv) (Value.run_blocks m ρ)

end Cert.Mm.DH1
-- ==== Proof.GwInArray.lean ====
/-
  The gradient of the weights of the block's first projection, as its call leaves it: at each block of rows and columns a running sum
  over the two halves of the tokens.
-/
module

public import proofs.«01_k».proof.Proof.Prod
public import proofs.«01_k».proof.Proof.Gen.GwInIdeal.Value

@[expose] public section

noncomputable section

namespace Cert.Mm.GwIn

open Idealize.ShloMosaic
open ValueIdx TcCoe Idealize.SL.Sem
open Sb (ext2 ld_all exists_ix2)
open GwInIdeal GwInIdeal.Gen

/-! ## One block -/

theorem pay1_eq (x y : EMat) : k0_pay1 (ev 2048 1024 .bf16 x) (ev 2048 1664 .bf16 y) = ev 1024 1664 .f32 (prod 2048 (tr x) y) :=
  ev_tn none x y
theorem pay2_eq (x y : EMat) : k0_pay2 (ev 2048 1024 .bf16 x) (ev 2048 1664 .bf16 y) = ev 1024 1664 .f32 (prod 2048 (tr x) y) :=
  (shapeCast_self _ _).trans (pay1_eq x y)
theorem pay3_eq (x y s : EMat) : k0_pay3 (ev 2048 1024 .bf16 x) (ev 2048 1664 .bf16 y) (ev 1024 1664 .f32 s)
    = ev 1024 1664 .f32 fun i j => s i j + prod 2048 (tr x) y i j :=
  (shapeCast_self _ _).trans (congrArg (addf _) (pay1_eq x y))

theorem pay4_eq (s : EMat) : k0_pay4 (ev 1024 1664 .f32 s) = ev 1024 1664 .bf16 s := rfl

section
variable (c : Dev nD) (i : grid0.Coords) (a3 : Memref sig .tc .vmem S2048x1024 .bf16) (a4 : Memref sig .tc .vmem S2048x1664 .bf16) (a5 : Memref sig .tc .vmem S1024x1664 .bf16)
  (a6 : Memref sig .tc .vmem S1024x1664 .f32) (w3 : a3.IsWhole) (w4 : a4.IsWhole) (w5 : a5.IsWhole) (w6 : a6.IsWhole) (x0 : Vec Ideal S2048x1024 .bf16) (x1 : Vec Ideal S2048x1664 .bf16) (xs : Vec Ideal S1024x1664 .f32)

theorem first_sum (h0 : cond0_0 i) (h1 : ¬ cond0_1 i) (h2 : ¬ cond0_2 i) :
    sout0_A_0 c i a3 w3 a4 w4 a5 w5 a6 w6 h0 h1 h2 x0 x1 = k0_pay2 x0 x1 := by
  unfold sout0_A_0 kernelRun0_A
  dsimp only
  refine (View.read_writes_full _ _ _ _ []).trans ?_
  rw [load_all, load_all]

theorem last_sum (h0 : ¬ cond0_0 i) (h1 : cond0_1 i) (h2 : cond0_2 i) :
    sout0_B_0 c i a3 w3 a4 w4 a5 w5 a6 w6 h0 h1 h2 x0 x1 xs = k0_pay3 x0 x1 xs := by
  unfold sout0_B_0 kernelRun0_B
  dsimp only
  refine (View.read_writes_full _ _ _ _ []).trans ?_
  rw [load_all, load_all, load_all]

theorem last_out (h0 : ¬ cond0_0 i) (h1 : cond0_1 i) (h2 : cond0_2 i) :
    out0_B_2 c i a3 w3 a4 w4 a5 w5 a6 w6 h0 h1 h2 x0 x1 xs = k0_pay4 (k0_pay3 x0 x1 xs) := by
  unfold out0_B_2 kernelRun0_B
  dsimp only
  refine (View.read_writes_full _ _ _ _ []).trans (congrArg k0_pay4 ?_)
  refine (ld_all _ _ _).trans ?_
  refine (View.read_writes_full _ _ _ _ []).trans ?_
  rw [load_all, load_all, load_all]
end

/-! ## The grid -/

theorem idx_0 : ∀ t : Fin cfg0.N, win0_0.index t = ![t.val % 2, t.val / 2 / 5] := by decide +kernel
theorem idx_1 : ∀ t : Fin cfg0.N, win0_1.index t = ![t.val % 2, t.val / 2 % 5] := by decide +kernel
theorem idx_2 : ∀ t : Fin cfg0.N, win0_2.index t = ![t.val / 2 / 5, t.val / 2 % 5] := by decide +kernel

section
variable (m : Mem nD τ sig) (c : Dev nD) (A B : EMat)
  (hA : m (c.tc.loc main_arg0) = ev 4096 2048 .bf16 A) (hB : m (c.tc.loc main_arg1) = ev 4096 8320 .bf16 B)

/-- The rows of the two factors that a block of the result takes. -/
abbrev atA (q : ℕ) : EMat := tr (off 0 (1024 * (q / 5)) A)
abbrev atB (q : ℕ) : EMat := off 0 (1664 * (q % 5)) B

include hA in
theorem blk_0 (t : Fin cfg0.N) : iblk m c 0 t = ev 2048 1024 .bf16 (tr (off 0 (2048 * (t.val % 2)) (atA A (t.val / 2)))) := by
  have hA' : V m c main_arg0 = ev 4096 2048 .bf16 A := hA
  refine ext2 fun r d => ?_
  blk_simp [iblk, hA']
  rw [ev_apply]
  unfold ev atA off tr
  congr 1 <;> blk_simp [idx_0] <;> simp <;> ring

include hB in
theorem blk_1 (t : Fin cfg0.N) : iblk m c 1 t = ev 2048 1664 .bf16 (off (2048 * (t.val % 2)) 0 (atB B (t.val / 2))) := by
  have hB' : V m c main_arg1 = ev 4096 8320 .bf16 B := hB
  refine ext2 fun r d => ?_
  blk_simp [iblk, hB']
  rw [ev_apply]
  unfold ev atB off
  congr 1 <;> blk_simp [idx_1] <;> simp <;> ring

include hA hB in
/-- The running sum after a point. -/
theorem sums : ∀ t h, (outsAt0 m c t h).2 = ev 1024 1664 .f32 (prod (2048 * (t % 2 + 1)) (atA A (t / 2)) (atB B (t / 2))) := by
  refine running 2 2048 cfg0.N (by decide) (fun t h => (outsAt0 m c t h).2) (atA A) (atB B) (fun t h hz => ?_) (fun t h s hz hs => ?_)
  · rw [outsAt0_A m c ⟨t, h⟩ hz (by simp only [hz]; decide) (by simp only [hz]; decide)]
    dsimp only
    rw [first_sum, blk_0 m c A hA, blk_1 m c B hB, pay2_eq, tr_tr]
  · have e : (outsAt0 m c (t + 1) h).2 = k0_pay3 (iblk m c 0 ⟨t + 1, h⟩) (iblk m c 1 ⟨t + 1, h⟩) (outsAt0 m c t (Nat.lt_of_succ_lt h)).2 := by
      have h1 : (t + 1) % 2 = 1 := by omega
      rw [outsAt0_B m c ⟨t + 1, h⟩ hz h1 h1]
      dsimp only
      rw [last_sum]
      rfl
    rw [e, hs, blk_0 m c A hA, blk_1 m c B hB, pay3_eq, tr_tr]

include hA hB in
/-- The result: the whole product. -/
theorem array : (dats m 0 c).arrAt 2 cfg0.N = ev 2048 8320 .bf16 (prod 4096 (tr A) B) := by
  refine (dats m 0 c).arrAt_eq_of_covers 2 _ (by decide +kernel) fun t hf y => ?_
  have h1 : t.val % 2 = 1 := (flush0_2 t).1 hf
  have e : (outsAt0 m c t.val t.isLt).1 = k0_pay4 (outsAt0 m c t.val t.isLt).2 := by
    rw [outsAt0_B m c t (by omega) h1 h1]
    dsimp only
    rw [last_out, last_sum]
  blk_simp
  rw [after0_2, e, sums m c A B hA hB t, h1, pay4_eq]
  obtain ⟨r, d, rfl⟩ := exists_ix2 y
  rw [ev_apply]
  unfold ev
  refine Eq.trans (b := prod 4096 (tr A) B (1024 * (t.val / 2 / 5) + r.val) (1664 * (t.val / 2 % 5) + d.val)) ?_ ?_
  · simp [prod, off, tr]
  congr 1 <;> blk_simp [idx_2] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v0) = ev 2048 8320 .bf16 (
        prod 4096 (tr (ofv (a := 4096) (b := 2048) (φ := .bf16) (m (c.tc.loc main_arg0))))
          (ofv (a := 4096) (b := 8320) (φ := .bf16) (m (c.tc.loc main_arg1))))
      ∧ Kept m r.2.mem c main_arg0 ∧ Kept m r.2.mem c main_arg1 :=
  run_of_eq (fun c => array m c _ _ of_ofv of_ofv) (Value.run_blocks m ρ)

end Cert.Mm.GwIn
-- ==== Proof.InRef.lean ====
/-
  What the references of the first projection and of its two gradients compute: rows times columns, rows times rows, columns times columns.
-/
module

public import proofs.«01_k».proof.Proof.Prod
public import proofs.«01_k».proof.Proof.Gen.ProjRefIdeal.Run
public import proofs.«01_k».proof.Proof.Gen.ProjRefIdeal.Read
public import proofs.«01_k».proof.Proof.Gen.DH1RefIdeal.Run
public import proofs.«01_k».proof.Proof.Gen.DH1RefIdeal.Read
public import proofs.«01_k».proof.Proof.Gen.GwInRefIdeal.Run
public import proofs.«01_k».proof.Proof.Gen.GwInRefIdeal.Read

@[expose] public section

noncomputable section

namespace Cert.Mm

open Idealize.ShloMosaic hiding ix1 ix2 ix3 ix4 eq_ix1 eq_ix2 eq_ix3 eq_ix4
open ValueIdx TcCoe Idealize.SL.Sem
open Sb (ext2)

open ProjRefIdeal ProjRefIdeal.Read in
theorem Proj.ref_value (x0 : FVec Ideal S4096x2048 .bf16) (x1 : FVec Ideal S2048x8320 .bf16) :
    val_main_v3 (F := Ideal) x0 x1 = ev 4096 8320 .bf16 (prod 2048 (ofv x0) (ofv x1)) :=
  ext2 fun r c => by
    rw [val_main_v3_apply]
    refine (val_main_v2_apply x0 x1 (ix2 r c)).trans ?_
    rw [ev_apply]
    unfold prod
    rw [Finset.sum_range]
    refine Finset.sum_congr rfl fun k _ => ?_
    rw [ofv_at x0 r.isLt k.isLt, ofv_at x1 k.isLt c.isLt]
    exact congrArg₂ (· * ·) (congrArg x0 (eq_ix2 _)) (congrArg x1 (eq_ix2 _))

open DH1RefIdeal DH1RefIdeal.Read in
theorem DH1.ref_value (x0 : FVec Ideal S4096x8320 .bf16) (x1 : FVec Ideal S2048x8320 .bf16) :
    val_main_v4 (F := Ideal) x0 x1 = ev 4096 2048 .f32 (prod 8320 (ofv x0) (tr (ofv x1))) :=
  ext2 fun r c => by
    rw [val_main_v4_apply, ev_apply]
    unfold prod tr
    rw [Finset.sum_range]
    refine Finset.sum_congr rfl fun k _ => ?_
    rw [ofv_at x0 r.isLt k.isLt, ofv_at x1 c.isLt k.isLt]
    refine congrArg₂ (· * ·) (congrArg x0 (eq_ix2 _)) (congrArg x1 (eq_ix2 _))

open GwInRefIdeal GwInRefIdeal.Read in
theorem GwIn.ref_value (x0 : FVec Ideal S4096x2048 .bf16) (x1 : FVec Ideal S4096x8320 .bf16) :
    val_main_v6 (F := Ideal) x0 x1 = ev 2048 8320 .bf16 (prod 4096 (tr (ofv x0)) (ofv x1)) :=
  ext2 fun r c => by
    rw [val_main_v6_apply, val_main_v5_apply]
    refine (val_main_v4_apply x0 x1 _).trans ?_
    rw [ev_apply]
    unfold prod tr
    rw [Finset.sum_range]
    refine Finset.sum_congr rfl fun k _ => ?_
    rw [ofv_at x0 k.isLt r.isLt, ofv_at x1 k.isLt c.isLt, mul_comm]
    refine congrArg₂ (· * ·) (congrArg x0 (eq_ix2 _)) (congrArg x1 (eq_ix2 _))

end Cert.Mm
-- ==== Proof.FfnOutArray.lean ====
/-
  The feed-forward block's result, as the output call leaves it: at each block of rows and columns a running sum over the two halves of
  the inner axis.
-/
module

public import proofs.«01_k».proof.Proof.Prod
public import proofs.«01_k».proof.Proof.Gen.FfnOutIdeal.Value

@[expose] public section

noncomputable section

namespace Cert.Mm.FfnOut

open Idealize.ShloMosaic
open ValueIdx TcCoe Idealize.SL.Sem
open Sb (ext2 ld_all exists_ix2)
open FfnOutIdeal FfnOutIdeal.Gen

/-! ## One block -/

theorem pay1_eq (x y : EMat) : k0_pay1 (ev 1024 2816 .bf16 x) (ev 2816 1024 .bf16 y) = ev 1024 1024 .f32 (prod 2816 x y) :=
  ev_nn none x y
theorem pay2_eq (x y : EMat) : k0_pay2 (ev 1024 2816 .bf16 x) (ev 2816 1024 .bf16 y) = ev 1024 1024 .f32 (prod 2816 x y) :=
  (shapeCast_self _ _).trans (pay1_eq x y)
theorem pay3_eq (x y s : EMat) : k0_pay3 (ev 1024 2816 .bf16 x) (ev 2816 1024 .bf16 y) (ev 1024 1024 .f32 s)
    = ev 1024 1024 .f32 fun i j => s i j + prod 2816 x y i j :=
  (shapeCast_self _ _).trans (congrArg (addf _) (pay1_eq x y))

section
variable (c : Dev nD) (i : grid0.Coords) (a3 : Memref sig .tc .vmem S1024x2816 .bf16) (a4 : Memref sig .tc .vmem S2816x1024 .bf16) (a5 a6 : Memref sig .tc .vmem S1024x1024 .f32)
  (w3 : a3.IsWhole) (w4 : a4.IsWhole) (w5 : a5.IsWhole) (w6 : a6.IsWhole) (x0 : Vec Ideal S1024x2816 .bf16) (x1 : Vec Ideal S2816x1024 .bf16) (xs : Vec Ideal S1024x1024 .f32)

theorem first_sum (h0 : cond0_0 i) (h1 : ¬ cond0_1 i) (h2 : ¬ cond0_2 i) :
    sout0_A_0 c i a3 w3 a4 w4 a5 w5 a6 w6 h0 h1 h2 x0 x1 = k0_pay2 x0 x1 := by
  unfold sout0_A_0 kernelRun0_A
  dsimp only
  refine (View.read_writes_full _ _ _ _ []).trans ?_
  rw [load_all, load_all]

theorem last_sum (h0 : ¬ cond0_0 i) (h1 : cond0_1 i) (h2 : cond0_2 i) :
    sout0_B_0 c i a3 w3 a4 w4 a5 w5 a6 w6 h0 h1 h2 x0 x1 xs = k0_pay3 x0 x1 xs := by
  unfold sout0_B_0 kernelRun0_B
  dsimp only
  refine (View.read_writes_full _ _ _ _ []).trans ?_
  rw [load_all, load_all, load_all]

theorem last_out (h0 : ¬ cond0_0 i) (h1 : cond0_1 i) (h2 : cond0_2 i) :
    out0_B_2 c i a3 w3 a4 w4 a5 w5 a6 w6 h0 h1 h2 x0 x1 xs = k0_pay3 x0 x1 xs := by
  unfold out0_B_2 kernelRun0_B
  dsimp only
  refine (View.read_writes_full _ _ _ _ []).trans ?_
  refine (ld_all _ _ _).trans ?_
  refine (View.read_writes_full _ _ _ _ []).trans ?_
  rw [load_all, load_all, load_all]
end

/-! ## The grid -/

theorem idx_0 : ∀ t : Fin cfg0.N, win0_0.index t = ![t.val / 2 / 2, t.val % 2] := by decide +kernel
theorem idx_1 : ∀ t : Fin cfg0.N, win0_1.index t = ![t.val % 2, t.val / 2 % 2] := by decide +kernel
theorem idx_2 : ∀ t : Fin cfg0.N, win0_2.index t = ![t.val / 2 / 2, t.val / 2 % 2] := by decide +kernel

section
variable (m : Mem nD τ sig) (c : Dev nD) (A B : EMat)
  (hA : m (c.tc.loc main_arg0) = ev 4096 5632 .bf16 A) (hB : m (c.tc.loc main_arg1) = ev 5632 2048 .bf16 B)

/-- The rows of the two factors that a block of the result takes. -/
abbrev atA (q : ℕ) : EMat := off (1024 * (q / 2)) 0 A
abbrev atB (q : ℕ) : EMat := off 0 (1024 * (q % 2)) B

include hA in
theorem blk_0 (t : Fin cfg0.N) : iblk m c 0 t = ev 1024 2816 .bf16 (off 0 (2816 * (t.val % 2)) (atA A (t.val / 2))) := by
  have hA' : V m c main_arg0 = ev 4096 5632 .bf16 A := hA
  refine ext2 fun r d => ?_
  blk_simp [iblk, hA']
  rw [ev_apply]
  unfold ev atA off
  congr 1 <;> blk_simp [idx_0] <;> simp <;> ring

include hB in
theorem blk_1 (t : Fin cfg0.N) : iblk m c 1 t = ev 2816 1024 .bf16 (off (2816 * (t.val % 2)) 0 (atB B (t.val / 2))) := by
  have hB' : V m c main_arg1 = ev 5632 2048 .bf16 B := hB
  refine ext2 fun r d => ?_
  blk_simp [iblk, hB']
  rw [ev_apply]
  unfold ev atB off
  congr 1 <;> blk_simp [idx_1] <;> simp <;> ring

include hA hB in
/-- The running sum after a point. -/
theorem sums : ∀ t h, (outsAt0 m c t h).2 = ev 1024 1024 .f32 (prod (2816 * (t % 2 + 1)) (atA A (t / 2)) (atB B (t / 2))) := by
  refine running 2 2816 cfg0.N (by decide) (fun t h => (outsAt0 m c t h).2) (atA A) (atB B) (fun t h hz => ?_) (fun t h s hz hs => ?_)
  · rw [outsAt0_A m c ⟨t, h⟩ hz (by simp only [hz]; decide) (by simp only [hz]; decide)]
    dsimp only
    rw [first_sum, blk_0 m c A hA, blk_1 m c B hB, pay2_eq]
  · have e : (outsAt0 m c (t + 1) h).2 = k0_pay3 (iblk m c 0 ⟨t + 1, h⟩) (iblk m c 1 ⟨t + 1, h⟩) (outsAt0 m c t (Nat.lt_of_succ_lt h)).2 := by
      have h1 : (t + 1) % 2 = 1 := by omega
      rw [outsAt0_B m c ⟨t + 1, h⟩ hz h1 h1]
      dsimp only
      rw [last_sum]
      rfl
    rw [e, hs, blk_0 m c A hA, blk_1 m c B hB, pay3_eq]

include hA hB in
/-- The result: the whole product. -/
theorem array : (dats m 0 c).arrAt 2 cfg0.N = ev 4096 2048 .f32 (prod 5632 A B) := by
  refine (dats m 0 c).arrAt_eq_of_covers 2 _ (by decide +kernel) fun t hf y => ?_
  have h3 : t.val % 2 = 1 := (flush0_2 t).1 hf
  have e : (outsAt0 m c t.val t.isLt).1 = (outsAt0 m c t.val t.isLt).2 := by
    rw [outsAt0_B m c t (by omega) h3 h3]
    dsimp only
    rw [last_out, last_sum]
  blk_simp
  rw [after0_2, e, sums m c A B hA hB t, h3]
  obtain ⟨r, d, rfl⟩ := exists_ix2 y
  rw [ev_apply]
  unfold ev
  refine Eq.trans (b := prod 5632 A B (1024 * (t.val / 2 / 2) + r.val) (1024 * (t.val / 2 % 2) + d.val)) ?_ ?_
  · simp [prod, off]
  congr 1 <;> blk_simp [idx_2] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v0) = evT (prod 5632 (ofv (a := 4096) (b := 5632) (φ := .bf16) (m (c.tc.loc main_arg0)))
        (ofv (a := 5632) (b := 2048) (φ := .bf16) (m (c.tc.loc main_arg1))))
      ∧ Kept m r.2.mem c main_arg0 ∧ Kept m r.2.mem c main_arg1 :=
  run_of_eq (fun c => array m c _ _ of_ofv of_ofv) (Value.run_blocks m ρ)

end Cert.Mm.FfnOut
-- ==== Proof.FfnOutRef.lean ====
/-
  What the reference of the feed-forward block's result computes: rows times columns.
-/
module

public import proofs.«01_k».proof.Proof.Prod
public import proofs.«01_k».proof.Proof.Gen.FfnOutRefIdeal.Run
public import proofs.«01_k».proof.Proof.Gen.FfnOutRefIdeal.Read

@[expose] public section

noncomputable section

namespace Cert.Mm.FfnOut

open Idealize.ShloMosaic hiding ix1 ix2 ix3 ix4 eq_ix1 eq_ix2 eq_ix3 eq_ix4
open ValueIdx TcCoe Idealize.SL.Sem
open Sb (ext2)
open FfnOutRefIdeal FfnOutRefIdeal.Read

theorem ref_value (x0 : FVec Ideal S4096x5632 .bf16) (x1 : FVec Ideal S5632x2048 .bf16) :
    val_main_v2 (F := Ideal) x0 x1 = ev 4096 2048 .f32 (prod 5632 (ofv x0) (ofv x1)) :=
  ext2 fun r c => by
    rw [val_main_v2_apply, ev_apply]
    unfold prod
    rw [Finset.sum_range]
    refine Finset.sum_congr rfl fun k _ => ?_
    rw [ofv_at x0 r.isLt k.isLt, ofv_at x1 k.isLt c.isLt]
    refine congrArg₂ (· * ·) (congrArg x0 (eq_ix2 _)) (congrArg x1 (eq_ix2 _))

end Cert.Mm.FfnOut
-- ==== Proof.DH2Array.lean ====
/-
  The gradient of the feed-forward block's input, as the second call leaves it: at each block of rows and columns a running sum over
  four blocks of the inner axis.
-/
module

public import proofs.«01_k».proof.Proof.Prod
public import proofs.«01_k».proof.Proof.Gen.DH2Ideal.Value

@[expose] public section

noncomputable section

namespace Cert.Mm.DH2

open Idealize.ShloMosaic
open ValueIdx TcCoe Idealize.SL.Sem
open Sb (ext2 ld_all exists_ix2)
open DH2Ideal DH2Ideal.Gen

/-! ## One block -/

theorem pay1_eq (x y : EMat) : k0_pay1 (ev 1024 2816 .bf16 x) (ev 1024 2816 .bf16 y) = ev 1024 1024 .f32 (prod 2816 x (tr y)) :=
  ev_nt none x y
theorem pay2_eq (x y : EMat) : k0_pay2 (ev 1024 2816 .bf16 x) (ev 1024 2816 .bf16 y) = ev 1024 1024 .f32 (prod 2816 x (tr y)) :=
  (shapeCast_self _ _).trans (pay1_eq x y)
theorem pay3_eq (x y s : EMat) : k0_pay3 (ev 1024 2816 .bf16 x) (ev 1024 2816 .bf16 y) (ev 1024 1024 .f32 s)
    = ev 1024 1024 .f32 fun i j => s i j + prod 2816 x (tr y) i j :=
  (shapeCast_self _ _).trans (congrArg (addf _) (pay1_eq x y))

section
variable (c : Dev nD) (i : grid0.Coords) (a3 a4 : Memref sig .tc .vmem S1024x2816 .bf16) (a5 a6 : Memref sig .tc .vmem S1024x1024 .f32) (w3 : a3.IsWhole) (w4 : a4.IsWhole) (w5 : a5.IsWhole)
  (w6 : a6.IsWhole) (x0 x1 : Vec Ideal S1024x2816 .bf16) (xs : Vec Ideal S1024x1024 .f32)

theorem first_sum (h0 : cond0_0 i) (h1 : ¬ cond0_1 i) (h2 : ¬ cond0_2 i) :
    sout0_A_0 c i a3 w3 a4 w4 a5 w5 a6 w6 h0 h1 h2 x0 x1 = k0_pay2 x0 x1 := by
  unfold sout0_A_0 kernelRun0_A
  dsimp only
  refine (View.read_writes_full _ _ _ _ []).trans ?_
  rw [load_all, load_all]

theorem mid_sum (h0 : ¬ cond0_0 i) (h1 : cond0_1 i) (h2 : ¬ cond0_2 i) :
    sout0_B_0 c i a3 w3 a4 w4 a5 w5 a6 w6 h0 h1 h2 x0 x1 xs = k0_pay3 x0 x1 xs := by
  unfold sout0_B_0 kernelRun0_B
  dsimp only
  refine (View.read_writes_full _ _ _ _ []).trans ?_
  rw [load_all, load_all, load_all]

theorem last_sum (h0 : ¬ cond0_0 i) (h1 : cond0_1 i) (h2 : cond0_2 i) :
    sout0_C_0 c i a3 w3 a4 w4 a5 w5 a6 w6 h0 h1 h2 x0 x1 xs = k0_pay3 x0 x1 xs := by
  unfold sout0_C_0 kernelRun0_C
  dsimp only
  refine (View.read_writes_full _ _ _ _ []).trans ?_
  rw [load_all, load_all, load_all]

theorem last_out (h0 : ¬ cond0_0 i) (h1 : cond0_1 i) (h2 : cond0_2 i) :
    out0_C_2 c i a3 w3 a4 w4 a5 w5 a6 w6 h0 h1 h2 x0 x1 xs = k0_pay3 x0 x1 xs := by
  unfold out0_C_2 kernelRun0_C
  dsimp only
  refine (View.read_writes_full _ _ _ _ []).trans ?_
  refine (ld_all _ _ _).trans ?_
  refine (View.read_writes_full _ _ _ _ []).trans ?_
  rw [load_all, load_all, load_all]
end

/-! ## The grid -/

theorem idx_0 : ∀ t : Fin cfg0.N, win0_0.index t = ![t.val / 4 / 2, t.val % 4] := by decide +kernel
theorem idx_1 : ∀ t : Fin cfg0.N, win0_1.index t = ![t.val / 4 % 2, t.val % 4] := by decide +kernel
theorem idx_2 : ∀ t : Fin cfg0.N, win0_2.index t = ![t.val / 4 / 2, t.val / 4 % 2] := by decide +kernel

section
variable (m : Mem nD τ sig) (c : Dev nD) (A B : EMat)
  (hA : m (c.tc.loc main_arg0) = ev 4096 11264 .bf16 A) (hB : m (c.tc.loc main_arg1) = ev 2048 11264 .bf16 B)

/-- The rows of the two factors that a block of the result takes. -/
abbrev atA (q : ℕ) : EMat := off (1024 * (q / 2)) 0 A
abbrev atB (q : ℕ) : EMat := tr (off (1024 * (q % 2)) 0 B)

include hA in
theorem blk_0 (t : Fin cfg0.N) : iblk m c 0 t = ev 1024 2816 .bf16 (off 0 (2816 * (t.val % 4)) (atA A (t.val / 4))) := by
  have hA' : V m c main_arg0 = ev 4096 11264 .bf16 A := hA
  refine ext2 fun r d => ?_
  blk_simp [iblk, hA']
  rw [ev_apply]
  unfold ev atA off
  congr 1 <;> blk_simp [idx_0] <;> simp <;> ring

include hB in
theorem blk_1 (t : Fin cfg0.N) : iblk m c 1 t = ev 1024 2816 .bf16 (tr (off (2816 * (t.val % 4)) 0 (atB B (t.val / 4)))) := by
  have hB' : V m c main_arg1 = ev 2048 11264 .bf16 B := hB
  refine ext2 fun r d => ?_
  blk_simp [iblk, hB']
  rw [ev_apply]
  unfold ev atB off tr
  congr 1 <;> blk_simp [idx_1] <;> simp <;> ring

include hA hB in
/-- The running sum after a point. -/
theorem sums : ∀ t h, (outsAt0 m c t h).2 = ev 1024 1024 .f32 (prod (2816 * (t % 4 + 1)) (atA A (t / 4)) (atB B (t / 4))) := by
  refine running 4 2816 cfg0.N (by decide) (fun t h => (outsAt0 m c t h).2) (atA A) (atB B) (fun t h hz => ?_) (fun t h s hz hs => ?_)
  · rw [outsAt0_A m c ⟨t, h⟩ hz (by simp only [hz]; omega) (by simp only [hz]; omega)]
    dsimp only
    rw [first_sum, blk_0 m c A hA, blk_1 m c B hB, pay2_eq, tr_tr]
  · have e : (outsAt0 m c (t + 1) h).2 = k0_pay3 (iblk m c 0 ⟨t + 1, h⟩) (iblk m c 1 ⟨t + 1, h⟩) (outsAt0 m c t (Nat.lt_of_succ_lt h)).2 := by
      by_cases hl : (t + 1) % 4 = 3
      · rw [outsAt0_C m c ⟨t + 1, h⟩ hz (by simp only; omega) hl]
        dsimp only
        rw [last_sum]
        rfl
      · rw [outsAt0_B m c ⟨t + 1, h⟩ hz (by simp only; omega) hl]
        dsimp only
        rw [mid_sum]
        rfl
    rw [e, hs, blk_0 m c A hA, blk_1 m c B hB, pay3_eq, tr_tr]

include hA hB in
/-- The result: the whole product. -/
theorem array : (dats m 0 c).arrAt 2 cfg0.N = ev 4096 2048 .f32 (prod 11264 A (tr B)) := by
  refine (dats m 0 c).arrAt_eq_of_covers 2 _ (by decide +kernel) fun t hf y => ?_
  have h3 : t.val % 4 = 3 := (flush0_2 t).1 hf
  have e : (outsAt0 m c t.val t.isLt).1 = (outsAt0 m c t.val t.isLt).2 := by
    rw [outsAt0_C m c t (by omega) (by omega) h3]
    dsimp only
    rw [last_out, last_sum]
  blk_simp
  rw [after0_2, e, sums m c A B hA hB t, h3]
  obtain ⟨r, d, rfl⟩ := exists_ix2 y
  rw [ev_apply]
  unfold ev
  refine Eq.trans (b := prod 11264 A (tr B) (1024 * (t.val / 4 / 2) + r.val) (1024 * (t.val / 4 % 2) + d.val)) ?_ ?_
  · simp [prod, off, tr]
  congr 1 <;> blk_simp [idx_2] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v0) = evT (prod 11264 (ofv (a := 4096) (b := 11264) (φ := .bf16) (m (c.tc.loc main_arg0)))
        (tr (ofv (a := 2048) (b := 11264) (φ := .bf16) (m (c.tc.loc main_arg1)))))
      ∧ Kept m r.2.mem c main_arg0 ∧ Kept m r.2.mem c main_arg1 :=
  run_of_eq (fun c => array m c _ _ of_ofv of_ofv) (Value.run_blocks m ρ)

end Cert.Mm.DH2
-- ==== Proof.DH2Ref.lean ====
/-
  What the reference of the feed-forward block's input gradient computes: rows times rows.
-/
module

public import proofs.«01_k».proof.Proof.Prod
public import proofs.«01_k».proof.Proof.Gen.DH2RefIdeal.Run
public import proofs.«01_k».proof.Proof.Gen.DH2RefIdeal.Read

@[expose] public section

noncomputable section

namespace Cert.Mm.DH2

open Idealize.ShloMosaic hiding ix1 ix2 ix3 ix4 eq_ix1 eq_ix2 eq_ix3 eq_ix4
open ValueIdx TcCoe Idealize.SL.Sem
open Sb (ext2)
open DH2RefIdeal DH2RefIdeal.Read

theorem ref_value (x0 : FVec Ideal S4096x11264 .bf16) (x1 : FVec Ideal S2048x11264 .bf16) :
    val_main_v4 (F := Ideal) x0 x1 = ev 4096 2048 .f32 (prod 11264 (ofv x0) (tr (ofv x1))) :=
  ext2 fun r c => by
    rw [val_main_v4_apply, ev_apply]
    unfold prod tr
    rw [Finset.sum_range]
    refine Finset.sum_congr rfl fun k _ => ?_
    rw [ofv_at x0 r.isLt k.isLt, ofv_at x1 c.isLt k.isLt]
    refine congrArg₂ (· * ·) (congrArg x0 (eq_ix2 _)) (congrArg x1 (eq_ix2 _))

end Cert.Mm.DH2
-- ==== Proof.GwFfnOutArray.lean ====
/-
  The gradient of the feed-forward block's second weights, as its call leaves it in pieces: at each block of rows and columns a running
  sum over the two halves of the tokens.
-/
module

public import proofs.«01_k».proof.Proof.Prod
public import proofs.«01_k».proof.Proof.Gen.GwFfnOutIdeal.Value
public import Idealize.ShloMosaic.Lib.WritesUnit

@[expose] public section

noncomputable section

namespace Cert.Mm.GwFfnOut

open Idealize.ShloMosaic hiding ix1 ix2 ix3 ix4 eq_ix1 eq_ix2 eq_ix3 eq_ix4
open ValueIdx TcCoe Idealize.SL.Sem
open Sb (ext2 ld_all)
open GwFfnOutIdeal GwFfnOutIdeal.Gen

/-! ## One block -/

theorem pay1_eq (x y : EMat) : k0_pay1 (ev 2048 1408 .bf16 x) (ev 2048 1024 .bf16 y) = ev 1408 1024 .f32 (prod 2048 (tr x) y) :=
  ev_tn none x y
theorem pay2_eq (x y : EMat) : k0_pay2 (ev 2048 1408 .bf16 x) (ev 2048 1024 .bf16 y) = ev 1408 1024 .f32 (prod 2048 (tr x) y) :=
  (shapeCast_self _ _).trans (pay1_eq x y)
theorem pay3_eq (x y s : EMat) : k0_pay3 (ev 2048 1408 .bf16 x) (ev 2048 1024 .bf16 y) (ev 1408 1024 .f32 s)
    = ev 1408 1024 .f32 fun i j => s i j + prod 2048 (tr x) y i j :=
  (shapeCast_self _ _).trans (congrArg (addf _) (pay1_eq x y))

theorem pay4_at (s : EMat) (q : Fin 1) (r : Fin 704) (d : Fin 1024) : k0_pay4 (F := Ideal) (ev 1408 1024 .f32 s) (ix4 0 q r d) = s (704 * 0 + r.val) d.val := by
  unfold k0_pay4
  rw [ev_rows]
  refine (ev_piece (φ := .bf16) (off 0 0 s) shapeCasts_S704x1024_S1x1x704x1024 0 q r d).trans ?_
  simp [off]
theorem pay5_at (s : EMat) (q : Fin 1) (r : Fin 704) (d : Fin 1024) : k0_pay5 (F := Ideal) (ev 1408 1024 .f32 s) (ix4 0 q r d) = s (704 * 1 + r.val) d.val := by
  unfold k0_pay5
  rw [ev_rows]
  refine (ev_piece (φ := .bf16) (off 704 0 s) shapeCasts_S704x1024_S1x1x704x1024 0 q r d).trans ?_
  simp [off]

section
variable (c : Dev nD) (i : grid0.Coords) (a3 : Memref sig .tc .vmem S2048x1408 .bf16) (a4 : Memref sig .tc .vmem S2048x1024 .bf16) (a5 : Memref sig .tc .vmem S2x1x704x1024 .bf16)
  (a6 : Memref sig .tc .vmem S1408x1024 .f32) (w3 : a3.IsWhole) (w4 : a4.IsWhole) (w5 : a5.IsWhole) (w6 : a6.IsWhole) (x0 : Vec Ideal S2048x1408 .bf16) (x1 : Vec Ideal S2048x1024 .bf16) (xs : Vec Ideal S1408x1024 .f32)

theorem first_sum (h0 : cond0_0 i) (h1 : ¬ cond0_1 i) (h2 : ¬ cond0_2 i) :
    sout0_A_0 c i a3 w3 a4 w4 a5 w5 a6 w6 h0 h1 h2 x0 x1 = k0_pay2 x0 x1 := by
  unfold sout0_A_0 kernelRun0_A
  dsimp only
  refine (View.read_writes_full _ _ _ _ []).trans ?_
  rw [load_all, load_all]

theorem last_sum (h0 : ¬ cond0_0 i) (h1 : cond0_1 i) (h2 : cond0_2 i) :
    sout0_B_0 c i a3 w3 a4 w4 a5 w5 a6 w6 h0 h1 h2 x0 x1 xs = k0_pay3 x0 x1 xs := by
  unfold sout0_B_0 kernelRun0_B
  dsimp only
  refine (View.read_writes_full _ _ _ _ []).trans ?_
  rw [load_all, load_all, load_all]

/-- The two pieces stored at the last of a block's points. -/
theorem last_out (s : EMat) (h0 : ¬ cond0_0 i) (h1 : cond0_1 i) (h2 : cond0_2 i) (h : k0_pay3 x0 x1 xs = ev 1408 1024 .f32 s) :
    out0_B_2 c i a3 w3 a4 w4 a5 w5 a6 w6 h0 h1 h2 x0 x1 xs = pieces 2 1 704 1024 .bf16 fun p _ r d => s (704 * p + r) d := by
  unfold out0_B_2 kernelRun0_B
  dsimp only
  have e : kernelRun0_B.sl.v12 c a3 w3 a4 w4 a6 w6 x0 x1 xs = ev 1408 1024 .f32 s := by
    unfold kernelRun0_B.sl.v12
    refine (ld_all _ _ _).trans ?_
    refine (View.read_writes_full _ _ _ _ []).trans ?_
    rw [load_all, load_all, load_all, h]
  refine ext4 fun p q r d => ?_
  rw [pieces_apply]
  obtain rfl | rfl : p = 0 ∨ p = 1 := by omega
  · refine (View.read_writes_cons_unit_of_not_mem _ _ _ _ _ _ rfl 0 (Or.inl Nat.zero_lt_one)).trans ?_
    refine (View.read_writes_cons_unit_of_mem _ _ _ _ _ _ (ix4 0 q r d) rfl (fun a => by fin_cases a <;> simp)).trans ?_
    rw [e]
    exact pay4_at s q r d
  · refine (View.read_writes_cons_unit_of_mem _ _ _ _ _ _ (ix4 0 q r d) rfl (fun a => by fin_cases a <;> simp)).trans ?_
    rw [e]
    exact pay5_at s q r d
end

/-! ## The grid -/

theorem idx_0 : ∀ t : Fin cfg0.N, win0_0.index t = ![t.val % 2, t.val / 2 / 2] := by decide +kernel
theorem idx_1 : ∀ t : Fin cfg0.N, win0_1.index t = ![t.val % 2, t.val / 2 % 2] := by decide +kernel
theorem idx_2 : ∀ t : Fin cfg0.N, win0_2.index t = ![0, t.val / 2 / 2, 0, t.val / 2 % 2] := by decide +kernel

section
variable (m : Mem nD τ sig) (c : Dev nD) (A B : EMat)
  (hA : m (c.tc.loc main_arg0) = ev 4096 5632 .bf16 A) (hB : m (c.tc.loc main_arg1) = ev 4096 2048 .bf16 B)

/-- The rows of the two factors that a block of the result takes. -/
abbrev atA (q : ℕ) : EMat := tr (off 0 (1408 * (q / 2)) A)
abbrev atB (q : ℕ) : EMat := off 0 (1024 * (q % 2)) B

include hA in
theorem blk_0 (t : Fin cfg0.N) : iblk m c 0 t = ev 2048 1408 .bf16 (tr (off 0 (2048 * (t.val % 2)) (atA A (t.val / 2)))) := by
  have hA' : V m c main_arg0 = ev 4096 5632 .bf16 A := hA
  refine ext2 fun r d => ?_
  blk_simp [iblk, hA']
  rw [ev_apply]
  unfold ev atA off tr
  congr 1 <;> blk_simp [idx_0] <;> simp <;> ring

include hB in
theorem blk_1 (t : Fin cfg0.N) : iblk m c 1 t = ev 2048 1024 .bf16 (off (2048 * (t.val % 2)) 0 (atB B (t.val / 2))) := by
  have hB' : V m c main_arg1 = ev 4096 2048 .bf16 B := hB
  refine ext2 fun r d => ?_
  blk_simp [iblk, hB']
  rw [ev_apply]
  unfold ev atB off
  congr 1 <;> blk_simp [idx_1] <;> simp <;> ring

include hA hB in
/-- The running sum after a point. -/
theorem sums : ∀ t h, (outsAt0 m c t h).2 = ev 1408 1024 .f32 (prod (2048 * (t % 2 + 1)) (atA A (t / 2)) (atB B (t / 2))) := by
  refine running 2 2048 cfg0.N (by decide) (fun t h => (outsAt0 m c t h).2) (atA A) (atB B) (fun t h hz => ?_) (fun t h s hz hs => ?_)
  · rw [outsAt0_A m c ⟨t, h⟩ hz (by simp only [hz]; decide) (by simp only [hz]; decide)]
    dsimp only
    rw [first_sum, blk_0 m c A hA, blk_1 m c B hB, pay2_eq, tr_tr]
  · have e : (outsAt0 m c (t + 1) h).2 = k0_pay3 (iblk m c 0 ⟨t + 1, h⟩) (iblk m c 1 ⟨t + 1, h⟩) (outsAt0 m c t (Nat.lt_of_succ_lt h)).2 := by
      have h1 : (t + 1) % 2 = 1 := by omega
      rw [outsAt0_B m c ⟨t + 1, h⟩ hz h1 h1]
      dsimp only
      rw [last_sum]
      rfl
    rw [e, hs, blk_0 m c A hA, blk_1 m c B hB, pay3_eq, tr_tr]

include hA hB in
/-- The result: the whole product, its rows dealt out in pieces. -/
theorem array : (dats m 0 c).arrAt 2 cfg0.N = pieces 2 4 704 2048 .bf16 fun p q r d => prod 4096 (tr A) B (1408 * q + 704 * p + r) d := by
  refine (dats m 0 c).arrAt_eq_of_covers 2 _ (by decide +kernel) fun t hf y => ?_
  have h1 : t.val % 2 = 1 := (flush0_2 t).1 hf
  have e : (outsAt0 m c t.val t.isLt).1 = pieces 2 1 704 1024 .bf16 fun p _ r d => prod 4096 (atA A (t.val / 2)) (atB B (t.val / 2)) (704 * p + r) d := by
    have h := sums m c A B hA hB t.val t.isLt
    rw [outsAt0_B m c t (by omega) h1 h1] at h ⊢
    dsimp only at h ⊢
    rw [last_sum, h1] at h
    exact last_out _ _ _ _ _ _ _ _ _ _ _ _ _ _ _ _ _ h
  blk_simp
  rw [after0_2, e]
  obtain ⟨p, q, r, d, rfl⟩ : ∃ p q r d, y = ix4 p q r d := ⟨_, _, _, _, eq_ix4 y⟩
  obtain rfl : q = 0 := Subsingleton.elim _ _
  rw [pieces_apply]
  unfold pieces
  refine Eq.trans (b := prod 4096 (tr A) B (1408 * (t.val / 2 / 2) + 704 * p.val + r.val) (1024 * (t.val / 2 % 2) + d.val)) ?_ ?_
  · simp [prod, off, tr, Nat.add_assoc]
  congr 1 <;> blk_simp [idx_2] <;> simp <;> ring

end

theorem run (m : Mem nD τ sig) (ρ : Dev nD → PrngReg) :
    θ_run defs (onTc (τ := τ) main) ⟨m, fun _ => 0, ρ⟩ fun r => ∀ c : Dev nD,
      r.2.mem (c.tc.loc main_v0) = pieces 2 4 704 2048 .bf16 (fun p q i j =>
        prod 4096 (tr (ofv (a := 4096) (b := 5632) (φ := .bf16) (m (c.tc.loc main_arg0))))
          (ofv (a := 4096) (b := 2048) (φ := .bf16) (m (c.tc.loc main_arg1))) (1408 * q + 704 * p + i) j)
      ∧ Kept m r.2.mem c main_arg0 ∧ Kept m r.2.mem c main_arg1 :=
  run_of_eq (fun c => array m c _ _ of_ofv of_ofv) (Value.run_blocks m ρ)

end Cert.Mm.GwFfnOut
-- ==== Proof.GwFfnOutRef.lean ====
/-
  What the reference of the gradient of the feed-forward block's second weights computes: columns times columns, the
  rows dealt out in pieces.
-/
module

public import proofs.«01_k».proof.Proof.Prod
public import proofs.«01_k».proof.Proof.Gen.GwFfnOutRefIdeal.Run
public import proofs.«01_k».proof.Proof.Gen.GwFfnOutRefIdeal.Read

@[expose] public section

noncomputable section

namespace Cert.Mm.GwFfnOut

open Idealize.ShloMosaic hiding ix1 ix2 ix3 ix4 eq_ix1 eq_ix2 eq_ix3 eq_ix4
open ValueIdx TcCoe Idealize.SL.Sem
open Sb (ext2)
open GwFfnOutRefIdeal GwFfnOutRefIdeal.Read

theorem ref_value (x0 : FVec Ideal S4096x5632 .bf16) (x1 : FVec Ideal S4096x2048 .bf16) :
    val_main_v8 (F := Ideal) x0 x1 = pieces 2 4 704 2048 .bf16 fun p q i j => prod 4096 (tr (ofv x0)) (ofv x1) (1408 * q + 704 * p + i) j :=
  ext4 fun p q r c => by
    rw [val_main_v8_apply]
    refine (val_main_v7_apply (F := Ideal) x0 x1 _).trans ?_
    rw [val_main_v6_apply, val_main_v5_apply, val_main_v4_apply, pieces_apply]
    have hr : 1408 * q.val + 704 * p.val + r.val < 5632 := by omega
    unfold prod tr
    rw [Finset.sum_range]
    refine Finset.sum_congr rfl fun k _ => ?_
    rw [ofv_at x0 k.isLt hr, ofv_at x1 k.isLt c.isLt, mul_comm]
    have hc := c.isLt
    refine congrArg₂ (· * ·) (congrArg x0 ?_) (congrArg x1 ?_)
    · refine (eq_ix2 _).trans (congrArg₂ ix2 rfl (Fin.ext ?_))
      show (((q.val * 2 + p.val) * 704 + r.val) * 2048 + c.val) / 2048 = _
      dsimp only
      omega
    · refine (eq_ix2 _).trans (congrArg₂ ix2 rfl (Fin.ext ?_))
      show (((q.val * 2 + p.val) * 704 + r.val) * 2048 + c.val) % 2048 = _
      dsimp only
      omega

end Cert.Mm.GwFfnOut
-- ==== Proof.OutArray.lean ====
/-
  The output projection and its two gradients, as their calls leave them: at each block the product over the whole inner axis.
-/
module

public import proofs.«01_k».proof.Proof.Prod
public import proofs.«01_k».proof.Proof.Gen.OutIdeal.Value
public import proofs.«01_k».proof.Proof.Gen.DMergedIdeal.Value
public import proofs.«01_k».proof.Proof.Gen.GwOutIdeal.Value
public import Idealize.ShloMosaic.Lib.Claim

@[expose] public section

noncomputable section

namespace Cert.Mm

open Idealize.ShloMosaic hiding ix1 ix2 ix3 ix4 eq_ix1 eq_ix2 eq_ix3 eq_ix4
open ValueIdx TcCoe Idealize.SL.Sem
open Sb (ext2 ld_all exists_ix2)

/-! ## The projection -/

namespace Out
open OutIdeal OutIdeal.Gen

theorem block (x y : EMat) : out0_2 (F := Ideal) (ev 1024 2048 .bf16 x) (ev 2048 1024 .bf16 y) = ev 1024 1024 .f32 (prod 2048 x y) := by
  unfold out0_2
  refine (stored _ _ (fun a => by fin_cases a <;> rfl) _).trans ?_
  exact (congrArg₂ k0_pay1 (ld_all _ _ _) (ld_all _ _ _)).trans (ev_nn none x y)

theorem idx : ∀ t : Fin cfg0.N, win0_0.index t = ![t.val / 2, 0] ∧ win0_1.index t = ![0, t.val % 2] ∧ win0_2.index t = ![t.val / 2, t.val % 2] := by decide +kernel

section
variable (m : Mem nD τ sig) (c : Dev nD) (A B : EMat)

theorem blk_0 (hA : V m c main_arg0 = ev 4096 2048 .bf16 A) (t : Fin cfg0.N) : iblk m c 0 t = ev 1024 2048 .bf16 (off (1024 * (t.val / 2)) 0 A) :=
  ev_block hA fun _ => by constructor <;> blk_simp [(idx t).1] <;> simp <;> ring

theorem blk_1 (hB : V m c main_arg1 = ev 2048 2048 .bf16 B) (t : Fin cfg0.N) : iblk m c 1 t = ev 2048 1024 .bf16 (off 0 (1024 * (t.val % 2)) B) :=
  ev_block hB fun _ => by constructor <;> blk_simp [(idx t).2.1] <;> simp <;> ring

/-- The result: the whole product. -/
theorem array (hA : V m c main_arg0 = ev 4096 2048 .bf16 A) (hB : V m c main_arg1 = ev 2048 2048 .bf16 B) :
    (dats m 0 c).arrAt 2 cfg0.N = ev 4096 2048 .f32 (prod 2048 A B) := by
  refine (dats m 0 c).arrAt_eq_of_covers 2 _ (by decide +kernel) fun t _ y => ?_
  blk_simp
  rw [after0_2, blk_0 m c A hA, blk_1 m c B hB, block, prod_off]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = ev 4096 2048 .f32 (prod 2048 (ofv (a := 4096) (b := 2048) (φ := .bf16) (m (c.tc.loc main_arg0)))
        (ofv (a := 2048) (b := 2048) (φ := .bf16) (m (c.tc.loc main_arg1))))
      ∧ Kept m r.2.mem c main_arg0 ∧ Kept m r.2.mem c main_arg1 :=
  run_of_eq (fun c => array m c _ _ of_ofv of_ofv) (Value.run_blocks m ρ)

end Out

/-! ## The gradient of its input -/

namespace DMerged
open DMergedIdeal DMergedIdeal.Gen

theorem block (x y : EMat) (z : Vec Ideal S1x1024 .f32) (hz : ∀ i, z i = (0 : EReal)) :
    out0_3 (ev 1024 2048 .bf16 x) (ev 1024 2048 .bf16 y) z = ev 1024 1024 .bf16 (prod 2048 x (tr y)) := by
  unfold out0_3
  refine (stored _ _ (fun a => by fin_cases a <;> rfl) _).trans ?_
  rw [ld_all, ld_all, ld_all]
  unfold k0_pay1
  refine congrArg (fun v => truncf .bf16 v bitsLt_bf16_f32) (?_ : _ = ev 1024 1024 .f32 (prod 2048 x (tr y)))
  exact (congrArg (addf · _) (ev_nt none x y)).trans (ev_add_zero_row _ z hz _ _)

theorem idx : ∀ t : Fin cfg0.N, win0_0.index t = ![t.val / 2, 0] ∧ win0_1.index t = ![t.val % 2, 0] ∧ win0_3.index t = ![t.val / 2, t.val % 2] := by decide +kernel

section
variable (m : Mem nD τ sig) (c : Dev nD) (A B : EMat)

theorem blk_0 (hA : V m c main_arg0 = ev 4096 2048 .bf16 A) (t : Fin cfg0.N) : iblk m c 0 t = ev 1024 2048 .bf16 (off (1024 * (t.val / 2)) 0 A) :=
  ev_block hA fun _ => by constructor <;> blk_simp [(idx t).1] <;> simp <;> ring

theorem blk_1 (hB : V m c main_arg1 = ev 2048 2048 .bf16 B) (t : Fin cfg0.N) : iblk m c 1 t = ev 1024 2048 .bf16 (tr (off 0 (1024 * (t.val % 2)) (tr B))) :=
  ext2 fun r d => by
    blk_simp [iblk, hB]
    rw [ev_apply]
    unfold ev off tr
    congr 1 <;> blk_simp [(idx t).2.1] <;> simp <;> ring

/-- The added row is zero. -/
theorem blk_2 (t : Fin cfg0.N) (y : S1x1024.Idx) : iblk m c 2 t y = (0 : EReal) := by
  have hV : V m c main_v0 = broadcastInDim S1x2048 ![] bcast_S_S1x2048 (constant (F := Ideal) S_ .f32 0x00000000#32) := by
    unfold_abbrev_sides
    after_results
  blk_simp [iblk, hV]
  exact (Sb.ofBits_zero : Ideal.ofBits .f32 0x00000000#32 = _).trans EReal.coe_zero

/-- The result: the whole product. -/
theorem array (hA : V m c main_arg0 = ev 4096 2048 .bf16 A) (hB : V m c main_arg1 = ev 2048 2048 .bf16 B) :
    (dats m 0 c).arrAt 3 cfg0.N = ev 4096 2048 .bf16 (prod 2048 A (tr B)) := by
  refine (dats m 0 c).arrAt_eq_of_covers 3 _ (by decide +kernel) fun t _ y => ?_
  blk_simp
  rw [after0_3, blk_0 m c A hA, blk_1 m c B hB, block _ _ _ (blk_2 m c t), tr_tr, prod_off]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v1) = ev 4096 2048 .bf16 (prod 2048 (ofv (a := 4096) (b := 2048) (φ := .bf16) (m (c.tc.loc main_arg0)))
        (tr (ofv (a := 2048) (b := 2048) (φ := .bf16) (m (c.tc.loc main_arg1)))))
      ∧ Kept m r.2.mem c main_arg0 ∧ Kept m r.2.mem c main_arg1 :=
  (θ_run defs _ _).mono (fun _ h c => ⟨(h c).1.trans (array m c _ _ ((V_main_arg0 m c).trans of_ofv) ((V_main_arg1 m c).trans of_ofv)), (h c).2⟩) (Value.run_blocks m ρ)

end DMerged

/-! ## The gradient of its weights, in pieces of rows -/

namespace GwOut
open GwOutIdeal GwOutIdeal.Gen

theorem block (x y : EMat) : out0_2 (F := Ideal) (ev 4096 512 .bf16 x) (ev 4096 1024 .bf16 y)
    = pieces 2 1 256 1024 .bf16 fun p _ r d => prod 4096 (tr x) y (256 * p + r) d := by
  have e : k0_pay1 (ev 4096 512 .bf16 x) (ev 4096 1024 .bf16 y) = ev 512 1024 .f32 (prod 4096 (tr x) y) := ev_tn none x y
  refine ext4 fun p q r d => ?_
  unfold out0_2
  rw [ld_all, ld_all, pieces_apply]
  refine (Value.canon2_eq _ _ _).trans ?_
  refine (congrFun e (Value.ix2_0 (ix4 p q r d))).trans ?_
  rw [Nat.mul_comm 256]
  rfl

theorem idx : ∀ t : Fin cfg0.N, win0_0.index t = ![0, t.val % 4] ∧ win0_1.index t = ![0, t.val / 4] ∧ win0_2.index t = ![0, t.val % 4, 0, t.val / 4] := by decide +kernel

section
variable (m : Mem nD τ sig) (c : Dev nD) (A B : EMat)

theorem blk_0 (hA : V m c main_arg0 = ev 4096 2048 .bf16 A) (t : Fin cfg0.N) : iblk m c 0 t = ev 4096 512 .bf16 (tr (off (512 * (t.val % 4)) 0 (tr A))) :=
  ext2 fun r d => by
    blk_simp [iblk, hA]
    rw [ev_apply]
    unfold ev off tr
    congr 1 <;> blk_simp [(idx t).1] <;> simp <;> ring

theorem blk_1 (hB : V m c main_arg1 = evTb B) (t : Fin cfg0.N) : iblk m c 1 t = ev 4096 1024 .bf16 (off 0 (1024 * (t.val / 4)) B) :=
  ev_block hB fun _ => by constructor <;> blk_simp [(idx t).2.1] <;> simp <;> ring

/-- The result: the whole product, its rows dealt out in pieces. -/
theorem array (hA : V m c main_arg0 = evTb A) (hB : V m c main_arg1 = evTb B) :
    (dats m 0 c).arrAt 2 cfg0.N = pieces 2 4 256 2048 .bf16 fun p q r d => prod 4096 (tr A) B (512 * q + 256 * p + r) d := by
  refine (dats m 0 c).arrAt_eq_of_covers 2 _ (by decide +kernel) fun t _ y => ?_
  blk_simp
  rw [after0_2, blk_0 m c A hA, blk_1 m c B hB, block, tr_tr]
  obtain ⟨p, q, r, d, rfl⟩ : ∃ p q r d, y = ix4 p q r d := ⟨_, _, _, _, eq_ix4 y⟩
  obtain rfl : q = 0 := Subsingleton.elim _ _
  rw [pieces_apply, prod_off]
  unfold pieces off
  congr 1 <;> blk_simp [(idx t).2.2] <;> simp <;> ring
end

theorem run (m : Mem nD τ sig) (ρ : Dev nD → PrngReg) :
    θ_run defs (onTc (τ := τ) main) ⟨m, fun _ => 0, ρ⟩ fun r => ∀ c : Dev nD,
      r.2.mem (c.tc.loc main_v0) = pieces 2 4 256 2048 .bf16 (fun p q i j =>
        prod 4096 (tr (ofv (a := 4096) (b := 2048) (φ := .bf16) (m (c.tc.loc main_arg0))))
          (ofv (a := 4096) (b := 2048) (φ := .bf16) (m (c.tc.loc main_arg1))) (512 * q + 256 * p + i) j)
      ∧ Kept m r.2.mem c main_arg0 ∧ Kept m r.2.mem c main_arg1 :=
  run_of_eq (fun c => array m c _ _ of_ofv of_ofv) (Value.run_blocks m ρ)

end GwOut

end Cert.Mm
-- ==== Proof.BranchArray.lean ====
/-
  A branch's projection to the block's width and its two gradients, as their calls leave them: at each block the product over the whole inner axis.
-/
module

public import proofs.«01_k».proof.Proof.Prod
public import proofs.«01_k».proof.Proof.Gen.BranchIdeal.Value
public import proofs.«01_k».proof.Proof.Gen.DBranchIdeal.Value
public import proofs.«01_k».proof.Proof.Gen.GwBranchIdeal.Value
public import Idealize.ShloMosaic.Lib.Claim

@[expose] public section

noncomputable section

namespace Cert.Mm

open Idealize.ShloMosaic hiding ix1 ix2 ix3 ix4 eq_ix1 eq_ix2 eq_ix3 eq_ix4
open ValueIdx TcCoe Idealize.SL.Sem
open Sb (ext2 ld_all exists_ix2)

/-! ## The projection -/

namespace Branch
open BranchIdeal BranchIdeal.Gen

theorem block (x y : EMat) : out0_2 (F := Ideal) (ev 1024 1024 .f32 x) (ev 1024 1024 .bf16 y) = ev 1024 1024 .bf16 (prod 1024 x y) := by
  unfold out0_2
  refine (stored _ _ (fun a => by fin_cases a <;> rfl) _).trans ?_
  refine (congrArg₂ k0_pay1 (ld_all _ _ _) (ld_all _ _ _)).trans ?_
  unfold k0_pay1
  exact congrArg (fun v => truncf .bf16 v bitsLt_bf16_f32) (ev_nn (φ := .bf16) none x y)

theorem idx : ∀ t : Fin cfg0.N, win0_0.index t = ![t.val / 2, 0] ∧ win0_1.index t = ![0, t.val % 2] ∧ win0_2.index t = ![t.val / 2, t.val % 2] := by decide +kernel

section
variable (m : Mem nD τ sig) (c : Dev nD) (A B : EMat)

theorem blk_0 (hA : V m c main_arg0 = ev 4096 1024 .f32 A) (t : Fin cfg0.N) : iblk m c 0 t = ev 1024 1024 .f32 (off (1024 * (t.val / 2)) 0 A) :=
  ev_block hA fun _ => by constructor <;> blk_simp [(idx t).1] <;> simp <;> ring

theorem blk_1 (hB : V m c main_arg1 = ev 1024 2048 .bf16 B) (t : Fin cfg0.N) : iblk m c 1 t = ev 1024 1024 .bf16 (off 0 (1024 * (t.val % 2)) B) :=
  ev_block hB fun _ => by constructor <;> blk_simp [(idx t).2.1] <;> simp <;> ring

/-- The result: the whole product. -/
theorem array (hA : V m c main_arg0 = ev 4096 1024 .f32 A) (hB : V m c main_arg1 = ev 1024 2048 .bf16 B) :
    (dats m 0 c).arrAt 2 cfg0.N = evTb (prod 1024 A B) := by
  refine (dats m 0 c).arrAt_eq_of_covers 2 _ (by decide +kernel) fun t _ y => ?_
  blk_simp
  rw [after0_2, blk_0 m c A hA, blk_1 m c B hB, block, prod_off]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = evTb (prod 1024 (ofv (a := 4096) (b := 1024) (φ := .f32) (m (c.tc.loc main_arg0)))
        (ofv (a := 1024) (b := 2048) (φ := .bf16) (m (c.tc.loc main_arg1))))
      ∧ Kept m r.2.mem c main_arg0 ∧ Kept m r.2.mem c main_arg1 :=
  run_of_eq (fun c => array m c _ _ of_ofv of_ofv) (Value.run_blocks m ρ)

end Branch

/-! ## The gradient of its input -/

namespace DBranch
open DBranchIdeal DBranchIdeal.Gen

theorem block (x y : EMat) (z : Vec Ideal S1x1024 .f32) (hz : ∀ i, z i = (0 : EReal)) :
    out0_3 (ev 1024 2048 .bf16 x) (ev 1024 2048 .bf16 y) z = ev 1024 1024 .bf16 (prod 2048 x (tr y)) := by
  unfold out0_3
  refine (stored _ _ (fun a => by fin_cases a <;> rfl) _).trans ?_
  rw [ld_all, ld_all, ld_all]
  unfold k0_pay1
  refine congrArg (fun v => truncf .bf16 v bitsLt_bf16_f32) (?_ : _ = ev 1024 1024 .f32 (prod 2048 x (tr y)))
  exact (congrArg (addf · _) (ev_nt none x y)).trans (ev_add_zero_row _ z hz _ _)

theorem idx : ∀ t : Fin cfg0.N, win0_0.index t = ![t.val, 0] ∧ win0_1.index t = ![0, 0] ∧ win0_3.index t = ![t.val, 0] := by decide +kernel

section
variable (m : Mem nD τ sig) (c : Dev nD) (A B : EMat)

theorem blk_0 (hA : V m c main_arg0 = evTb A) (t : Fin cfg0.N) : iblk m c 0 t = ev 1024 2048 .bf16 (off (1024 * t.val) 0 A) :=
  ev_block hA fun _ => by constructor <;> blk_simp [(idx t).1] <;> simp <;> ring

theorem blk_1 (hB : V m c main_arg1 = ev 1024 2048 .bf16 B) (t : Fin cfg0.N) : iblk m c 1 t = ev 1024 2048 .bf16 B :=
  ev_whole hB fun _ => by constructor <;> blk_simp [(idx t).2.1]

/-- The added row is zero. -/
theorem blk_2 (t : Fin cfg0.N) (y : S1x1024.Idx) : iblk m c 2 t y = (0 : EReal) := by
  have hV : V m c main_v0 = broadcastInDim S1x1024 ![] bcast_S_S1x1024 (constant (F := Ideal) S_ .f32 0x00000000#32) := by
    unfold_abbrev_sides
    after_results
  blk_simp [iblk, hV]
  exact (Sb.ofBits_zero : Ideal.ofBits .f32 0x00000000#32 = _).trans EReal.coe_zero

/-- The result: the whole product. -/
theorem array (hA : V m c main_arg0 = evTb A) (hB : V m c main_arg1 = ev 1024 2048 .bf16 B) :
    (dats m 0 c).arrAt 3 cfg0.N = ev 4096 1024 .bf16 (prod 2048 A (tr B)) := by
  refine (dats m 0 c).arrAt_eq_of_covers 3 _ (by decide +kernel) fun t _ y => ?_
  blk_simp
  rw [after0_3, blk_0 m c A hA, blk_1 m c B hB, block _ _ _ (blk_2 m c t)]
  rw [← off_zero (tr B), prod_off, off_zero]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v1) = ev 4096 1024 .bf16 (prod 2048 (ofv (a := 4096) (b := 2048) (φ := .bf16) (m (c.tc.loc main_arg0)))
        (tr (ofv (a := 1024) (b := 2048) (φ := .bf16) (m (c.tc.loc main_arg1)))))
      ∧ Kept m r.2.mem c main_arg0 ∧ Kept m r.2.mem c main_arg1 :=
  (θ_run defs _ _).mono (fun _ h c => ⟨(h c).1.trans (array m c _ _ ((V_main_arg0 m c).trans of_ofv) ((V_main_arg1 m c).trans of_ofv)), (h c).2⟩) (Value.run_blocks m ρ)

end DBranch

/-! ## The gradient of its weights, in pieces of columns -/

namespace GwBranch
open GwBranchIdeal GwBranchIdeal.Gen

theorem block (x y : EMat) : out0_2 (F := Ideal) (ev 4096 512 .f32 x) (evK y)
    = pieces 1 1 512 512 .bf16 fun _ _ r d => prod 4096 (tr x) y r d := by
  have e : matmul dot_S4096x512_S4096x512_S512x512_0_0_1_1_n_n none (truncf .bf16 (ev 4096 512 .f32 x) bitsLt_bf16_f32) (evK y)
      (constant S512x512 .f32 0x00000000#32) = ev 512 512 .f32 (prod 4096 (tr x) y) := ev_tn (φ := .bf16) none x y
  unfold out0_2
  refine (stored _ _ (fun a => by fin_cases a <;> rfl) _).trans ?_
  refine (congrArg₂ k0_pay1 (ld_all _ _ _) (ld_all _ _ _)).trans ?_
  refine ext4 fun p q r d => ?_
  unfold k0_pay1
  rw [e, pieces_apply]
  exact ev_piece (φ := .bf16) (prod 4096 (tr x) y) shapeCasts_S512x512_S1x1x512x512 p q r d

theorem idx : ∀ t : Fin cfg0.N, win0_0.index t = ![0, t.val / 4] ∧ win0_1.index t = ![0, t.val % 4] ∧ win0_2.index t = ![t.val / 4, t.val % 4, 0, 0] := by decide +kernel

section
variable (m : Mem nD τ sig) (c : Dev nD) (A B : EMat)

theorem blk_0 (hA : V m c main_arg0 = ev 4096 1024 .f32 A) (t : Fin cfg0.N) : iblk m c 0 t = ev 4096 512 .f32 (tr (off (512 * (t.val / 4)) 0 (tr A))) :=
  ext2 fun r d => by
    blk_simp [iblk, hA]
    rw [ev_apply]
    unfold ev off tr
    congr 1 <;> blk_simp [(idx t).1] <;> simp <;> ring

theorem blk_1 (hB : V m c main_arg1 = evTb B) (t : Fin cfg0.N) : iblk m c 1 t = evK (off 0 (512 * (t.val % 4)) B) :=
  ev_block hB fun _ => by constructor <;> blk_simp [(idx t).2.1] <;> simp <;> ring

/-- The result: the whole product, its columns dealt out in pieces. -/
theorem array (hA : V m c main_arg0 = ev 4096 1024 .f32 A) (hB : V m c main_arg1 = evTb B) :
    (dats m 0 c).arrAt 2 cfg0.N = pieces 2 4 512 512 .bf16 fun p q r d => prod 4096 (tr A) B (512 * p + r) (512 * q + d) := by
  refine (dats m 0 c).arrAt_eq_of_covers 2 _ (by decide +kernel) fun t _ y => ?_
  blk_simp
  rw [after0_2, blk_0 m c A hA, blk_1 m c B hB, block, tr_tr]
  obtain ⟨p, q, r, d, rfl⟩ : ∃ p q r d, y = ix4 p q r d := ⟨_, _, _, _, eq_ix4 y⟩
  obtain rfl : p = 0 := Subsingleton.elim _ _
  obtain rfl : q = 0 := Subsingleton.elim _ _
  rw [pieces_apply, prod_off]
  unfold pieces off
  have e2 : ((ix4 (0 : Fin 1) (0 : Fin 1) r d) 2).val = r.val := rfl
  have e3 : ((ix4 (0 : Fin 1) (0 : Fin 1) r d) 3).val = d.val := rfl
  congr 1 <;> blk_simp [(idx t).2.2] <;> simp <;> omega
end

theorem run (m : Mem nD τ sig) (ρ : Dev nD → PrngReg) :
    θ_run defs (onTc (τ := τ) main) ⟨m, fun _ => 0, ρ⟩ fun r => ∀ c : Dev nD,
      r.2.mem (c.tc.loc main_v0) = pieces 2 4 512 512 .bf16 (fun p q i j =>
        prod 4096 (tr (ofv (a := 4096) (b := 1024) (φ := .f32) (m (c.tc.loc main_arg0))))
          (ofv (a := 4096) (b := 2048) (φ := .bf16) (m (c.tc.loc main_arg1))) (512 * p + i) (512 * q + j))
      ∧ Kept m r.2.mem c main_arg0 ∧ Kept m r.2.mem c main_arg1 :=
  run_of_eq (fun c => array m c _ _ of_ofv of_ofv) (Value.run_blocks m ρ)

end GwBranch

end Cert.Mm
-- ==== Proof.UpArray.lean ====
/-
  The latent attention's projection up from a latent and its two gradients, as their calls leave them: at each block the product over the whole inner axis.
-/
module

public import proofs.«01_k».proof.Proof.Prod
public import proofs.«01_k».proof.Proof.Gen.UpIdeal.Value
public import proofs.«01_k».proof.Proof.Gen.DUpIdeal.Value
public import proofs.«01_k».proof.Proof.Gen.GwUpIdeal.Value

@[expose] public section

noncomputable section

namespace Cert.Mm

open Idealize.ShloMosaic
open ValueIdx TcCoe Idealize.SL.Sem
open Sb (ext2 ld_all exists_ix2)

/-! ## The projection -/

namespace Up
open UpIdeal UpIdeal.Gen

theorem block (x y : EMat) : out0_2 (F := Ideal) (ev 1024 512 .bf16 x) (ev 512 1024 .bf16 y) = ev 1024 1024 .bf16 (prod 512 x y) := by
  unfold out0_2
  refine (stored _ _ (fun a => by fin_cases a <;> rfl) _).trans ?_
  refine (congrArg₂ k0_pay1 (ld_all _ _ _) (ld_all _ _ _)).trans ?_
  unfold k0_pay1
  exact congrArg (fun v => truncf .bf16 v bitsLt_bf16_f32) (ev_nn none x y)

theorem idx : ∀ t : Fin cfg0.N, win0_0.index t = ![t.val / 2, 0] ∧ win0_1.index t = ![0, t.val % 2] ∧ win0_2.index t = ![t.val / 2, t.val % 2] := by decide +kernel

section
variable (m : Mem nD τ sig) (c : Dev nD) (A B : EMat)

theorem blk_0 (hA : V m c main_arg0 = evK A) (t : Fin cfg0.N) : iblk m c 0 t = ev 1024 512 .bf16 (off (1024 * (t.val / 2)) 0 A) :=
  ev_block hA fun _ => by constructor <;> blk_simp [(idx t).1] <;> simp <;> ring

theorem blk_1 (hB : V m c main_arg1 = ev 512 2048 .bf16 B) (t : Fin cfg0.N) : iblk m c 1 t = ev 512 1024 .bf16 (off 0 (1024 * (t.val % 2)) B) :=
  ev_block hB fun _ => by constructor <;> blk_simp [(idx t).2.1] <;> simp <;> ring

/-- The result: the whole product. -/
theorem array (hA : V m c main_arg0 = evK A) (hB : V m c main_arg1 = ev 512 2048 .bf16 B) :
    (dats m 0 c).arrAt 2 cfg0.N = evTb (prod 512 A B) := by
  refine (dats m 0 c).arrAt_eq_of_covers 2 _ (by decide +kernel) fun t _ y => ?_
  blk_simp
  rw [after0_2, blk_0 m c A hA, blk_1 m c B hB, block, prod_off]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = evTb (prod 512 (ofv (a := 4096) (b := 512) (φ := .bf16) (m (c.tc.loc main_arg0)))
        (ofv (a := 512) (b := 2048) (φ := .bf16) (m (c.tc.loc main_arg1))))
      ∧ Kept m r.2.mem c main_arg0 ∧ Kept m r.2.mem c main_arg1 :=
  run_of_eq (fun c => array m c _ _ of_ofv of_ofv) (Value.run_blocks m ρ)

end Up

/-! ## The gradient of its input -/

namespace DUp
open DUpIdeal DUpIdeal.Gen

theorem block (x y : EMat) : out0_2 (F := Ideal) (ev 1024 2048 .bf16 x) (ev 512 2048 .bf16 y) = ev 1024 512 .bf16 (prod 2048 x (tr y)) := by
  unfold out0_2
  refine (stored _ _ (fun a => by fin_cases a <;> rfl) _).trans ?_
  refine (congrArg₂ k0_pay1 (ld_all _ _ _) (ld_all _ _ _)).trans ?_
  unfold k0_pay1
  exact congrArg (fun v => truncf .bf16 v bitsLt_bf16_f32) (ev_nt none x y)

theorem idx : ∀ t : Fin cfg0.N, win0_0.index t = ![t.val, 0] ∧ win0_1.index t = ![0, 0] ∧ win0_2.index t = ![t.val, 0] := by decide +kernel

section
variable (m : Mem nD τ sig) (c : Dev nD) (A B : EMat)

theorem blk_0 (hA : V m c main_arg0 = evTb A) (t : Fin cfg0.N) : iblk m c 0 t = ev 1024 2048 .bf16 (off (1024 * t.val) 0 A) :=
  ev_block hA fun _ => by constructor <;> blk_simp [(idx t).1] <;> simp <;> ring

theorem blk_1 (hB : V m c main_arg1 = ev 512 2048 .bf16 B) (t : Fin cfg0.N) : iblk m c 1 t = ev 512 2048 .bf16 B :=
  ev_whole hB fun _ => by constructor <;> blk_simp [(idx t).2.1]

/-- The result: the whole product. -/
theorem array (hA : V m c main_arg0 = evTb A) (hB : V m c main_arg1 = ev 512 2048 .bf16 B) :
    (dats m 0 c).arrAt 2 cfg0.N = evK (prod 2048 A (tr B)) := by
  refine (dats m 0 c).arrAt_eq_of_covers 2 _ (by decide +kernel) fun t _ y => ?_
  blk_simp
  rw [after0_2, blk_0 m c A hA, blk_1 m c B hB, block]
  rw [← off_zero (tr B), prod_off, off_zero]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = evK (prod 2048 (ofv (a := 4096) (b := 2048) (φ := .bf16) (m (c.tc.loc main_arg0)))
        (tr (ofv (a := 512) (b := 2048) (φ := .bf16) (m (c.tc.loc main_arg1)))))
      ∧ Kept m r.2.mem c main_arg0 ∧ Kept m r.2.mem c main_arg1 :=
  run_of_eq (fun c => array m c _ _ of_ofv of_ofv) (Value.run_blocks m ρ)

end DUp

/-! ## The gradient of its weights -/

namespace GwUp
open GwUpIdeal GwUpIdeal.Gen

theorem block (x y : EMat) : out0_2 (F := Ideal) (evK x) (ev 4096 1024 .bf16 y) = ev 512 1024 .bf16 (prod 4096 (tr x) y) := by
  unfold out0_2
  refine (stored _ _ (fun a => by fin_cases a <;> rfl) _).trans ?_
  refine (congrArg₂ k0_pay1 (ld_all _ _ _) (ld_all _ _ _)).trans ?_
  unfold k0_pay1
  exact congrArg (fun v => truncf .bf16 v bitsLt_bf16_f32) (ev_tn none x y)

theorem idx : ∀ t : Fin cfg0.N, win0_0.index t = ![0, 0] ∧ win0_1.index t = ![0, t.val] ∧ win0_2.index t = ![0, t.val] := by decide +kernel

section
variable (m : Mem nD τ sig) (c : Dev nD) (A B : EMat)

theorem blk_0 (hA : V m c main_arg0 = evK A) (t : Fin cfg0.N) : iblk m c 0 t = evK A :=
  ev_whole hA fun _ => by constructor <;> blk_simp [(idx t).1]

theorem blk_1 (hB : V m c main_arg1 = evTb B) (t : Fin cfg0.N) : iblk m c 1 t = ev 4096 1024 .bf16 (off 0 (1024 * t.val) B) :=
  ev_block hB fun _ => by constructor <;> blk_simp [(idx t).2.1] <;> simp <;> ring

/-- The result: the whole product. -/
theorem array (hA : V m c main_arg0 = evK A) (hB : V m c main_arg1 = evTb B) :
    (dats m 0 c).arrAt 2 cfg0.N = ev 512 2048 .bf16 (prod 4096 (tr A) B) := by
  refine (dats m 0 c).arrAt_eq_of_covers 2 _ (by decide +kernel) fun t _ y => ?_
  blk_simp
  rw [after0_2, blk_0 m c A hA, blk_1 m c B hB, block]
  rw [← off_zero (tr A), prod_off, off_zero]
  exact (congrFun (ev_block rfl fun _ => by constructor <;> blk_simp [(idx t).2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = ev 512 2048 .bf16 (prod 4096 (tr (ofv (a := 4096) (b := 512) (φ := .bf16) (m (c.tc.loc main_arg0))))
        (ofv (a := 4096) (b := 2048) (φ := .bf16) (m (c.tc.loc main_arg1))))
      ∧ Kept m r.2.mem c main_arg0 ∧ Kept m r.2.mem c main_arg1 :=
  run_of_eq (fun c => array m c _ _ of_ofv of_ofv) (Value.run_blocks m ρ)

end GwUp

end Cert.Mm
-- ==== Proof.WidthRef.lean ====
/-
  What the references of the output projection, of a branch's projection and of the projection up from a latent compute, and those of their gradients:
  rows times columns, rows times rows, columns times columns.
-/
module

public import proofs.«01_k».proof.Proof.Prod
public import proofs.«01_k».proof.Proof.Gen.OutRefIdeal.Run
public import proofs.«01_k».proof.Proof.Gen.OutRefIdeal.Read
public import proofs.«01_k».proof.Proof.Gen.DMergedRefIdeal.Run
public import proofs.«01_k».proof.Proof.Gen.DMergedRefIdeal.Read
public import proofs.«01_k».proof.Proof.Gen.GwOutRefIdeal.Run
public import proofs.«01_k».proof.Proof.Gen.GwOutRefIdeal.Read
public import proofs.«01_k».proof.Proof.Gen.BranchRefIdeal.Run
public import proofs.«01_k».proof.Proof.Gen.BranchRefIdeal.Read
public import proofs.«01_k».proof.Proof.Gen.DBranchRefIdeal.Run
public import proofs.«01_k».proof.Proof.Gen.DBranchRefIdeal.Read
public import proofs.«01_k».proof.Proof.Gen.GwBranchRefIdeal.Run
public import proofs.«01_k».proof.Proof.Gen.GwBranchRefIdeal.Read
public import proofs.«01_k».proof.Proof.Gen.UpRefIdeal.Run
public import proofs.«01_k».proof.Proof.Gen.UpRefIdeal.Read
public import proofs.«01_k».proof.Proof.Gen.DUpRefIdeal.Run
public import proofs.«01_k».proof.Proof.Gen.DUpRefIdeal.Read
public import proofs.«01_k».proof.Proof.Gen.GwUpRefIdeal.Run
public import proofs.«01_k».proof.Proof.Gen.GwUpRefIdeal.Read

@[expose] public section

noncomputable section

namespace Cert.Mm

open Idealize.ShloMosaic hiding ix1 ix2 ix3 ix4 eq_ix1 eq_ix2 eq_ix3 eq_ix4
open ValueIdx TcCoe Idealize.SL.Sem
open Sb (ext2)

/-! ## A sum of products of elements -/

section
variable {a b d e K : ℕ} {φ ψ : FTy} (x : FVec Ideal ⟨2, ![a, b]⟩ φ) (y : FVec Ideal ⟨2, ![d, e]⟩ ψ)

/-- Elements at chosen places, multiplied and summed: a product of two matrices, when the places run along the inner axis. -/
theorem sum_prod (X Y : EMat) {i j : ℕ} (f : Fin K → (⟨2, ![a, b]⟩ : Shape).Idx) (g : Fin K → (⟨2, ![d, e]⟩ : Shape).Idx)
    (hf : ∀ k, ofv x (f k 0).val (f k 1).val = X i k.val) (hg : ∀ k, ofv y (g k 0).val (g k 1).val = Y k.val j) :
    ∑ k : Fin K, (x (f k) : EReal) * y (g k) = prod K X Y i j := by
  unfold prod
  rw [Finset.sum_range]
  refine Finset.sum_congr rfl fun k _ => ?_
  rw [← hf k, ← hg k, ofv_at x (f k 0).isLt (f k 1).isLt, ofv_at y (g k 0).isLt (g k 1).isLt]
  exact congrArg₂ (· * ·) (congrArg x (eq_ix2 _)) (congrArg y (eq_ix2 _))
end

open OutRefIdeal OutRefIdeal.Read in
theorem Out.ref_value (x0 : FVec Ideal S4096x2048 .bf16) (x1 : FVec Ideal S2048x2048 .bf16) :
    val_main_v2 (F := Ideal) x0 x1 = evT (prod 2048 (ofv x0) (ofv x1)) :=
  ext2 fun _ _ => (val_main_v2_apply x0 x1 _).trans (sum_prod x0 x1 _ _ _ _ (fun _ => rfl) fun _ => rfl)

open DMergedRefIdeal DMergedRefIdeal.Read in
theorem DMerged.ref_value (x0 : FVec Ideal S4096x2048 .bf16) (x1 : FVec Ideal S2048x2048 .bf16) :
    val_main_v5 (F := Ideal) x0 x1 = evTb (prod 2048 (ofv x0) (tr (ofv x1))) :=
  ext2 fun _ _ => (val_main_v4_apply x0 x1 _).trans (sum_prod x0 x1 _ _ _ _ (fun _ => rfl) fun _ => rfl)

open BranchRefIdeal BranchRefIdeal.Read in
theorem Branch.ref_value (x0 : FVec Ideal S4096x1024 .f32) (x1 : FVec Ideal S1024x2048 .bf16) :
    val_main_v2 (F := Ideal) x0 x1 = evTb (prod 1024 (ofv x0) (ofv x1)) :=
  ext2 fun _ _ => (val_main_v1_apply x0 x1 _).trans (sum_prod x0 x1 _ _ _ _ (fun _ => rfl) fun _ => rfl)

open DBranchRefIdeal DBranchRefIdeal.Read in
theorem DBranch.ref_value (x0 : FVec Ideal S4096x2048 .bf16) (x1 : FVec Ideal S1024x2048 .bf16) :
    val_main_v5 (F := Ideal) x0 x1 = ev 4096 1024 .bf16 (prod 2048 (ofv x0) (tr (ofv x1))) :=
  ext2 fun _ _ => (val_main_v4_apply x0 x1 _).trans (sum_prod x0 x1 _ _ _ _ (fun _ => rfl) fun _ => rfl)

open UpRefIdeal UpRefIdeal.Read in
theorem Up.ref_value (x0 : FVec Ideal S4096x512 .bf16) (x1 : FVec Ideal S512x2048 .bf16) :
    val_main_v3 (F := Ideal) x0 x1 = evTb (prod 512 (ofv x0) (ofv x1)) :=
  ext2 fun _ _ => (val_main_v2_apply x0 x1 _).trans (sum_prod x0 x1 _ _ _ _ (fun _ => rfl) fun _ => rfl)

open DUpRefIdeal DUpRefIdeal.Read in
theorem DUp.ref_value (x0 : FVec Ideal S4096x2048 .bf16) (x1 : FVec Ideal S512x2048 .bf16) :
    val_main_v5 (F := Ideal) x0 x1 = evK (prod 2048 (ofv x0) (tr (ofv x1))) :=
  ext2 fun _ _ => (val_main_v4_apply x0 x1 _).trans (sum_prod x0 x1 _ _ _ _ (fun _ => rfl) fun _ => rfl)

open GwUpRefIdeal GwUpRefIdeal.Read in
theorem GwUp.ref_value (x0 : FVec Ideal S4096x512 .bf16) (x1 : FVec Ideal S4096x2048 .bf16) :
    val_main_v6 (F := Ideal) x0 x1 = ev 512 2048 .bf16 (prod 4096 (tr (ofv x0)) (ofv x1)) :=
  ext2 fun r c => by
    rw [val_main_v6_apply, val_main_v5_apply]
    exact (val_main_v4_apply x0 x1 _).trans ((sum_prod x1 x0 (tr (ofv x1)) (ofv x0) _ _ (fun _ => rfl) fun _ => rfl).trans (prod_comm _ _ _ _ _))

open GwOutRefIdeal GwOutRefIdeal.Read in
theorem GwOut.ref_value (x0 : FVec Ideal S4096x2048 .bf16) (x1 : FVec Ideal S4096x2048 .bf16) :
    val_main_v8 (F := Ideal) x0 x1 = pieces 2 4 256 2048 .bf16 fun p q i j => prod 4096 (tr (ofv x0)) (ofv x1) (512 * q + 256 * p + i) j :=
  ext4 fun p q r c => by
    rw [val_main_v8_apply]
    refine (val_main_v7_apply (F := Ideal) x0 x1 _).trans ?_
    rw [val_main_v6_apply, val_main_v5_apply, pieces_apply]
    have hc := c.isLt
    have e0 : (((q.val * 2 + p.val) * 256 + r.val) * 2048 + c.val) / 2048 = 512 * q.val + 256 * p.val + r.val := by omega
    have e1 : (((q.val * 2 + p.val) * 256 + r.val) * 2048 + c.val) % 2048 = c.val := by omega
    refine (val_main_v4_apply x0 x1 _).trans ((sum_prod x1 x0 (tr (ofv x1)) (ofv x0) _ _ (fun k => ?_) fun k => ?_).trans (prod_comm _ _ _ _ _))
    · exact congrArg (ofv x1 k.val) e1
    · exact congrArg (ofv x0 k.val) e0

open GwBranchRefIdeal GwBranchRefIdeal.Read in
theorem GwBranch.ref_value (x0 : FVec Ideal S4096x1024 .f32) (x1 : FVec Ideal S4096x2048 .bf16) :
    val_main_v7 (F := Ideal) x0 x1 = pieces 2 4 512 512 .bf16 fun p q i j => prod 4096 (tr (ofv x0)) (ofv x1) (512 * p + i) (512 * q + j) :=
  ext4 fun p q r c => by
    rw [val_main_v7_apply]
    refine (val_main_v6_apply (F := Ideal) x0 x1 _).trans ?_
    rw [val_main_v5_apply, val_main_v4_apply, pieces_apply]
    have hc := c.isLt
    have e0 : (((p.val * 512 + r.val) * 4 + q.val) * 512 + c.val) / 2048 = 512 * p.val + r.val := by omega
    have e1 : (((p.val * 512 + r.val) * 4 + q.val) * 512 + c.val) % 2048 = 512 * q.val + c.val := by omega
    refine (val_main_v3_apply x0 x1 _).trans ((sum_prod x1 x0 (tr (ofv x1)) (ofv x0) _ _ (fun k => ?_) fun k => ?_).trans (prod_comm _ _ _ _ _))
    · exact congrArg (ofv x1 k.val) e1
    · exact congrArg (ofv x0 k.val) e0

end Cert.Mm
-- ==== Proof.GateArray.lean ====
/-
  The merge of the two branches under their gates and its gradient, as their calls leave them: element by element, from blocks of rows.
-/
module

public import proofs.«01_k».proof.Proof.Prod
public import proofs.«01_k».proof.Proof.Gen.GateIdeal.Value
public import proofs.«01_k».proof.Proof.Gen.GateBwdIdeal.Value

@[expose] public section

noncomputable section

namespace Cert.Mm

open Idealize.ShloMosaic
open ValueIdx TcCoe Idealize.SL.Sem
open Sb (ext2 ld_all exists_ix2)

/-! ## The formulas -/

/-- Two branches added, each under the logistic function of its gate. -/
def mergeM (pa pb ga gb : EMat) : EMat := fun i j => Ideal.logistic (ga i j) * pa i j + Ideal.logistic (gb i j) * pb i j

theorem mergeM_off (r c : ℕ) (pa pb ga gb : EMat) : mergeM (off r c pa) (off r c pb) (off r c ga) (off r c gb) = off r c (mergeM pa pb ga gb) := rfl

/-- The gradient of a branch. -/
def dBranchM (d g : EMat) : EMat := fun i j => d i j * Ideal.logistic (g i j)

/-- The gradient of a gate. -/
def dGateM (d p g : EMat) : EMat := fun i j => d i j * p i j * Ideal.logistic (g i j) * (1 - Ideal.logistic (g i j))

theorem dBranchM_off (r c : ℕ) (d g : EMat) : dBranchM (off r c d) (off r c g) = off r c (dBranchM d g) := rfl
theorem dGateM_off (r c : ℕ) (d p g : EMat) : dGateM (off r c d) (off r c p) (off r c g) = off r c (dGateM d p g) := rfl

/-! ## The merge -/

namespace Gate
open GateIdeal GateIdeal.Gen

theorem block (pa pb ga gb : EMat) : k0_pay1 (ev 256 2048 .bf16 ga) (ev 256 2048 .bf16 pa) (ev 256 2048 .bf16 gb) (ev 256 2048 .bf16 pb)
    = ev 256 2048 .bf16 (mergeM pa pb ga gb) := rfl

section
variable (c : Dev nD) (i : grid0.Coords) (a1 a2 a3 a4 a5 : Memref sig .tc .vmem S256x2048 .bf16) (w1 : a1.IsWhole) (w2 : a2.IsWhole) (w3 : a3.IsWhole) (w4 : a4.IsWhole) (w5 : a5.IsWhole) (x0 x1 x2 x3 : Vec Ideal S256x2048 .bf16)

theorem out_eq : out0_A_4 c i a1 w1 a2 w2 a3 w3 a4 w4 a5 w5 x0 x1 x2 x3 = k0_pay1 x2 x0 x3 x1 := by
  unfold out0_A_4 kernelRun0_A
  dsimp only
  refine (View.read_writes_full _ _ _ _ []).trans ?_
  rw [load_all, load_all, load_all, load_all]
end

theorem idx : ∀ t : Fin cfg0.N, win0_0.index t = ![t.val, 0] ∧ win0_1.index t = ![t.val, 0] ∧ win0_2.index t = ![t.val, 2] ∧ win0_3.index t = ![t.val, 3] ∧ win0_4.index t = ![t.val, 0] := by decide +kernel

section
variable (m : Mem nD τ sig) (c : Dev nD) (A B P : EMat)

theorem blk_0 (hA : V m c main_arg0 = ev 4096 2048 .bf16 A) (t : Fin cfg0.N) : iblk m c 0 t = ev 256 2048 .bf16 (off (256 * t.val) 0 A) :=
  ev_block hA fun _ => by constructor <;> blk_simp [(idx t).1] <;> simp <;> ring

theorem blk_1 (hB : V m c main_arg1 = ev 4096 2048 .bf16 B) (t : Fin cfg0.N) : iblk m c 1 t = ev 256 2048 .bf16 (off (256 * t.val) 0 B) :=
  ev_block hB fun _ => by constructor <;> blk_simp [(idx t).2.1] <;> simp <;> ring

theorem blk_2 (hP : V m c main_arg2 = ev 4096 8320 .bf16 P) (t : Fin cfg0.N) : X0_2 m c t = ev 256 2048 .bf16 (off (256 * t.val) 0 (off 0 4096 P)) :=
  ext2 fun r d => by
    unfold X0_2 Pipeline.Window.fill
    rw [dif_pos (moved0_2 t _)]
    blk_simp [iblk, hP]
    rw [ev_apply]
    unfold ev off
    refine congrArg₂ P ?_ ?_ <;> blk_simp [(idx t).2.2.1]
    simp
    ring

theorem blk_3 (hP : V m c main_arg2 = ev 4096 8320 .bf16 P) (t : Fin cfg0.N) : X0_3 m c t = ev 256 2048 .bf16 (off (256 * t.val) 0 (off 0 6144 P)) :=
  ext2 fun r d => by
    unfold X0_3 Pipeline.Window.fill
    rw [dif_pos (moved0_3 t _)]
    blk_simp [iblk, hP]
    rw [ev_apply]
    unfold ev off
    refine congrArg₂ P ?_ ?_ <;> blk_simp [(idx t).2.2.2.1]
    simp
    ring

/-- The result: the merge of the whole arrays. -/
theorem array (hA : V m c main_arg0 = ev 4096 2048 .bf16 A) (hB : V m c main_arg1 = ev 4096 2048 .bf16 B) (hP : V m c main_arg2 = ev 4096 8320 .bf16 P) :
    (dats m 0 c).arrAt 4 cfg0.N = ev 4096 2048 .bf16 (mergeM A B (off 0 4096 P) (off 0 6144 P)) := by
  refine (dats m 0 c).arrAt_eq_of_covers 4 _ (by decide +kernel) fun t _ y => ?_
  blk_simp
  rw [after0_4]
  unfold outsAt0
  rw [out_eq, blk_0 m c A hA, blk_1 m c B hB, blk_2 m c P hP, blk_3 m c P hP, block, mergeM_off]
  exact (congrFun (ev_block rfl fun _ => by constructor <;> blk_simp [(idx t).2.2.2.2] <;> simp <;> ring) y).symm
end

theorem run (m : Mem nD τ sig) (ρ : Dev nD → PrngReg) :
    θ_run defs (onTc (τ := τ) main) ⟨m, fun _ => 0, ρ⟩ fun r => ∀ c : Dev nD,
      r.2.mem (c.tc.loc main_v0) = ev 4096 2048 .bf16 (mergeM (ofv (a := 4096) (b := 2048) (φ := .bf16) (m (c.tc.loc main_arg0)))
        (ofv (a := 4096) (b := 2048) (φ := .bf16) (m (c.tc.loc main_arg1)))
        (off 0 4096 (ofv (a := 4096) (b := 8320) (φ := .bf16) (m (c.tc.loc main_arg2))))
        (off 0 6144 (ofv (a := 4096) (b := 8320) (φ := .bf16) (m (c.tc.loc main_arg2)))))
      ∧ Kept m r.2.mem c main_arg0 ∧ Kept m r.2.mem c main_arg1 ∧ Kept m r.2.mem c main_arg2 :=
  run_of_eq (fun c => array m c _ _ _ of_ofv of_ofv of_ofv) (Value.run_blocks m ρ)

end Gate

/-! ## Its gradient -/

namespace GateBwd
open GateBwdIdeal GateBwdIdeal.Gen

theorem one_bits : Scalar.ofBits (F := Ideal) .f32 0x3F800000#32 = (1 : EReal) :=
  (Sb.ofBits_one : Ideal.ofBits .f32 0x3F800000#32 = _).trans EReal.coe_one

theorem block_branch_a (d g : EMat) : k0_pay3 (ev 256 2048 .bf16 d) (ev 256 2048 .bf16 g) = ev 256 2048 .bf16 (dBranchM d g) := rfl
theorem block_branch_b (d g : EMat) : k0_pay4 (ev 256 2048 .bf16 d) (ev 256 2048 .bf16 g) = ev 256 2048 .bf16 (dBranchM d g) := rfl
theorem block_gate_a (d p g : EMat) : k0_pay5 (F := Ideal) (ev 256 2048 .bf16 d) (ev 256 2048 .bf16 g) (ev 256 2048 .bf16 p) = ev 256 2048 .bf16 (dGateM d p g) := by
  unfold k0_pay5
  rw [one_bits]
  rfl
theorem block_gate_b (d p g : EMat) : k0_pay6 (F := Ideal) (ev 256 2048 .bf16 d) (ev 256 2048 .bf16 g) (ev 256 2048 .bf16 p) = ev 256 2048 .bf16 (dGateM d p g) := by
  unfold k0_pay6
  rw [one_bits]
  rfl

section
variable (c : Dev nD) (i : grid0.Coords) (a1 a2 a3 a4 a5 a6 a7 a8 a9 : Memref sig .tc .vmem S256x2048 .bf16) (w1 : a1.IsWhole) (w2 : a2.IsWhole) (w3 : a3.IsWhole) (w4 : a4.IsWhole)
  (w5 : a5.IsWhole) (w6 : a6.IsWhole) (w7 : a7.IsWhole) (w8 : a8.IsWhole) (w9 : a9.IsWhole) (x0 x1 x2 x3 x4 : Vec Ideal S256x2048 .bf16)

theorem out_branch_a : out0_A_5 c i a1 w1 a2 w2 a3 w3 a4 w4 a5 w5 a6 w6 a7 w7 a8 w8 a9 w9 x0 x1 x2 x3 x4 = k0_pay3 x0 x3 := by
  unfold out0_A_5 kernelRun0_A
  dsimp only
  refine (View.read_writes_full _ _ _ _ []).trans ?_
  rw [load_all, load_all]
theorem out_branch_b : out0_A_6 c i a1 w1 a2 w2 a3 w3 a4 w4 a5 w5 a6 w6 a7 w7 a8 w8 a9 w9 x0 x1 x2 x3 x4 = k0_pay4 x0 x4 := by
  unfold out0_A_6 kernelRun0_A
  dsimp only
  refine (View.read_writes_full _ _ _ _ []).trans ?_
  rw [load_all, load_all]
theorem out_gate_a : out0_A_7 c i a1 w1 a2 w2 a3 w3 a4 w4 a5 w5 a6 w6 a7 w7 a8 w8 a9 w9 x0 x1 x2 x3 x4 = k0_pay5 x0 x3 x1 := by
  unfold out0_A_7 kernelRun0_A
  dsimp only
  refine (View.read_writes_full _ _ _ _ []).trans ?_
  rw [load_all, load_all, load_all]
theorem out_gate_b : out0_A_8 c i a1 w1 a2 w2 a3 w3 a4 w4 a5 w5 a6 w6 a7 w7 a8 w8 a9 w9 x0 x1 x2 x3 x4 = k0_pay6 x0 x4 x2 := by
  unfold out0_A_8 kernelRun0_A
  dsimp only
  refine (View.read_writes_full _ _ _ _ []).trans ?_
  rw [load_all, load_all, load_all]
end

theorem idx_in : ∀ t : Fin cfg0.N, win0_0.index t = ![t.val, 0] ∧ win0_1.index t = ![t.val, 0] ∧ win0_2.index t = ![t.val, 0] ∧ win0_3.index t = ![t.val, 2] ∧ win0_4.index t = ![t.val, 3] := by decide +kernel
theorem idx_out : ∀ t : Fin cfg0.N, win0_5.index t = ![t.val, 0] ∧ win0_6.index t = ![t.val, 0] ∧ win0_7.index t = ![t.val, 0] ∧ win0_8.index t = ![t.val, 0] := by decide +kernel

section
variable (m : Mem nD τ sig) (c : Dev nD) (D A B P : EMat)

theorem blk_0 (hD : V m c main_arg0 = ev 4096 2048 .bf16 D) (t : Fin cfg0.N) : iblk m c 0 t = ev 256 2048 .bf16 (off (256 * t.val) 0 D) :=
  ev_block hD fun _ => by constructor <;> blk_simp [(idx_in t).1] <;> simp <;> ring

theorem blk_1 (hA : V m c main_arg1 = ev 4096 2048 .bf16 A) (t : Fin cfg0.N) : iblk m c 1 t = ev 256 2048 .bf16 (off (256 * t.val) 0 A) :=
  ev_block hA fun _ => by constructor <;> blk_simp [(idx_in t).2.1] <;> simp <;> ring

theorem blk_2 (hB : V m c main_arg2 = ev 4096 2048 .bf16 B) (t : Fin cfg0.N) : iblk m c 2 t = ev 256 2048 .bf16 (off (256 * t.val) 0 B) :=
  ev_block hB fun _ => by constructor <;> blk_simp [(idx_in t).2.2.1] <;> simp <;> ring

theorem blk_3 (hP : V m c main_arg3 = ev 4096 8320 .bf16 P) (t : Fin cfg0.N) : X0_3 m c t = ev 256 2048 .bf16 (off (256 * t.val) 0 (off 0 4096 P)) :=
  ext2 fun r d => by
    unfold X0_3 Pipeline.Window.fill
    rw [dif_pos (moved0_3 t _)]
    blk_simp [iblk, hP]
    rw [ev_apply]
    unfold ev off
    refine congrArg₂ P ?_ ?_ <;> blk_simp [(idx_in t).2.2.2.1]
    simp
    ring

theorem blk_4 (hP : V m c main_arg3 = ev 4096 8320 .bf16 P) (t : Fin cfg0.N) : X0_4 m c t = ev 256 2048 .bf16 (off (256 * t.val) 0 (off 0 6144 P)) :=
  ext2 fun r d => by
    unfold X0_4 Pipeline.Window.fill
    rw [dif_pos (moved0_4 t _)]
    blk_simp [iblk, hP]
    rw [ev_apply]
    unfold ev off
    refine congrArg₂ P ?_ ?_ <;> blk_simp [(idx_in t).2.2.2.2]
    simp
    ring

section
variable (hD : V m c main_arg0 = evTb D) (hA : V m c main_arg1 = evTb A) (hB : V m c main_arg2 = evTb B) (hP : V m c main_arg3 = evP P)

include hD hP in
/-- The gradient of the first branch. -/
theorem array_5 : (dats m 0 c).arrAt 5 cfg0.N = evTb (dBranchM D (off 0 4096 P)) := by
  refine (dats m 0 c).arrAt_eq_of_covers 5 _ (by decide +kernel) fun t _ y => ?_
  blk_simp
  rw [after0_5]
  unfold outsAt0
  dsimp only
  rw [out_branch_a, blk_0 m c D hD, blk_3 m c P hP, block_branch_a, dBranchM_off]
  exact (congrFun (ev_block rfl fun _ => by constructor <;> blk_simp [(idx_out t).1] <;> simp <;> ring) y).symm

include hD hP in
/-- The gradient of the second branch. -/
theorem array_6 : (dats m 0 c).arrAt 6 cfg0.N = evTb (dBranchM D (off 0 6144 P)) := by
  refine (dats m 0 c).arrAt_eq_of_covers 6 _ (by decide +kernel) fun t _ y => ?_
  blk_simp
  rw [after0_6]
  unfold outsAt0
  dsimp only
  rw [out_branch_b, blk_0 m c D hD, blk_4 m c P hP, block_branch_b, dBranchM_off]
  exact (congrFun (ev_block rfl fun _ => by constructor <;> blk_simp [(idx_out t).2.1] <;> simp <;> ring) y).symm

include hD hA hP in
/-- The gradient of the first gate. -/
theorem array_7 : (dats m 0 c).arrAt 7 cfg0.N = evTb (dGateM D A (off 0 4096 P)) := by
  refine (dats m 0 c).arrAt_eq_of_covers 7 _ (by decide +kernel) fun t _ y => ?_
  blk_simp
  rw [after0_7]
  unfold outsAt0
  dsimp only
  rw [out_gate_a, blk_0 m c D hD, blk_1 m c A hA, blk_3 m c P hP, block_gate_a, dGateM_off]
  exact (congrFun (ev_block rfl fun _ => by constructor <;> blk_simp [(idx_out t).2.2.1] <;> simp <;> ring) y).symm

include hD hB hP in
/-- The gradient of the second gate. -/
theorem array_8 : (dats m 0 c).arrAt 8 cfg0.N = evTb (dGateM D B (off 0 6144 P)) := by
  refine (dats m 0 c).arrAt_eq_of_covers 8 _ (by decide +kernel) fun t _ y => ?_
  blk_simp
  rw [after0_8]
  unfold outsAt0
  dsimp only
  rw [out_gate_b, blk_0 m c D hD, blk_2 m c B hB, blk_4 m c P hP, block_gate_b, dGateM_off]
  exact (congrFun (ev_block rfl fun _ => by constructor <;> blk_simp [(idx_out t).2.2.2] <;> simp <;> ring) y).symm
end
end

theorem run (m : Mem nD τ sig) (ρ : Dev nD → PrngReg) :
    θ_run defs (onTc (τ := τ) main) ⟨m, fun _ => 0, ρ⟩ fun r => ∀ c : Dev nD,
      r.2.mem (c.tc.loc main_v0_0) = evTb (dBranchM (ofv (a := 4096) (b := 2048) (φ := .bf16) (m (c.tc.loc main_arg0)))
        (off 0 4096 (ofv (a := 4096) (b := 8320) (φ := .bf16) (m (c.tc.loc main_arg3)))))
      ∧ r.2.mem (c.tc.loc main_v0_1) = evTb (dBranchM (ofv (a := 4096) (b := 2048) (φ := .bf16) (m (c.tc.loc main_arg0)))
        (off 0 6144 (ofv (a := 4096) (b := 8320) (φ := .bf16) (m (c.tc.loc main_arg3)))))
      ∧ r.2.mem (c.tc.loc main_v0_2) = evTb (dGateM (ofv (a := 4096) (b := 2048) (φ := .bf16) (m (c.tc.loc main_arg0)))
        (ofv (a := 4096) (b := 2048) (φ := .bf16) (m (c.tc.loc main_arg1)))
        (off 0 4096 (ofv (a := 4096) (b := 8320) (φ := .bf16) (m (c.tc.loc main_arg3)))))
      ∧ r.2.mem (c.tc.loc main_v0_3) = evTb (dGateM (ofv (a := 4096) (b := 2048) (φ := .bf16) (m (c.tc.loc main_arg0)))
        (ofv (a := 4096) (b := 2048) (φ := .bf16) (m (c.tc.loc main_arg2)))
        (off 0 6144 (ofv (a := 4096) (b := 8320) (φ := .bf16) (m (c.tc.loc main_arg3)))))
      ∧ Kept m r.2.mem c main_arg0 ∧ Kept m r.2.mem c main_arg1 ∧ Kept m r.2.mem c main_arg2 ∧ Kept m r.2.mem c main_arg3 :=
  (θ_run defs _ _).mono (fun _ h c => ⟨(h c).1.trans (array_5 m c _ _ of_ofv of_ofv),
    (h c).2.1.trans (array_6 m c _ _ of_ofv of_ofv),
    (h c).2.2.1.trans (array_7 m c _ _ _ of_ofv of_ofv of_ofv),
    (h c).2.2.2.1.trans (array_8 m c _ _ _ of_ofv of_ofv of_ofv), (h c).2.2.2.2⟩) (Value.run_blocks m ρ)

end GateBwd

end Cert.Mm
-- ==== Proof.GateRef.lean ====
/-
  What the references of the merge under the gates and of its gradient compute: at every element, the formulas of the calls.
-/
module

public import proofs.«01_k».proof.Proof.GateArray
public import proofs.«01_k».proof.Proof.Gen.GateRefIdeal.Run
public import proofs.«01_k».proof.Proof.Gen.GateRefIdeal.Read
public import proofs.«01_k».proof.Proof.Gen.GateBwdRefIdeal.Run
public import proofs.«01_k».proof.Proof.Gen.GateBwdRefIdeal.Read

@[expose] public section

noncomputable section

namespace Cert.Mm

open Idealize.ShloMosaic hiding ix1 ix2 ix3 ix4 eq_ix1 eq_ix2 eq_ix3 eq_ix4
open ValueIdx TcCoe Idealize.SL.Sem
open Sb (ext2)

theorem one_host_bits : FloatOps.ofBits (F := Ideal) .f32 0x3F800000#32 = (1 : EReal) := GateBwd.one_bits

/-- One over one plus the exponential of the opposite: the logistic function. -/
theorem logistic_host (x : EReal) : FloatOps.hostDivf (F := Ideal) (φ := .f32) (FloatOps.ofBits .f32 0x3F800000#32)
    (FloatOps.addf (FloatOps.ofBits .f32 0x3F800000#32) (FloatOps.hostUnary .exp (FloatOps.hostNegf x))) = Ideal.logistic x := by
  rw [one_host_bits]
  rfl

namespace Gate
open GateRefIdeal GateRefIdeal.Read
variable (x0 x1 : FVec Ideal S4096x2048 .bf16) (x2 : FVec Ideal S4096x8320 .bf16)

theorem gate_a (r : Fin 4096) (c : Fin 2048) : val_main_v10 (F := Ideal) x2 (ix2 r c) = Ideal.logistic (off 0 4096 (ofv x2) r.val c.val) := by
  rw [val_main_v10_apply, val_main_v9_apply, val_main_cst_0_apply, val_main_v8_apply, val_main_v7_apply, val_main_cst_apply, val_main_v6_apply, val_main_v5_apply, logistic_host]
  refine congrArg Ideal.logistic ((val_main_v3_apply (F := Ideal) x2 _).trans ?_)
  unfold off
  rw [Nat.zero_add, ofv_at x2 r.isLt (by have := c.isLt; omega)]
  exact congrArg x2 (eq_ix2 _)

theorem gate_b (r : Fin 4096) (c : Fin 2048) : val_main_v17 (F := Ideal) x2 (ix2 r c) = Ideal.logistic (off 0 6144 (ofv x2) r.val c.val) := by
  rw [val_main_v17_apply, val_main_v16_apply, val_main_cst_2_apply, val_main_v15_apply, val_main_v14_apply, val_main_cst_1_apply, val_main_v13_apply, val_main_v12_apply, logistic_host]
  refine congrArg Ideal.logistic ((val_main_v4_apply (F := Ideal) x2 _).trans ?_)
  unfold off
  rw [Nat.zero_add, ofv_at x2 r.isLt (by have := c.isLt; omega)]
  exact congrArg x2 (eq_ix2 _)

theorem ref_value : val_main_v20 (F := Ideal) x0 x1 x2 = ev 4096 2048 .bf16 (mergeM (ofv x0) (ofv x1) (off 0 4096 (ofv x2)) (off 0 6144 (ofv x2))) :=
  ext2 fun r c => by
    rw [val_main_v20_apply, val_main_v19_apply, val_main_v11_apply, val_main_v18_apply, gate_a, gate_b, ev_apply]
    unfold mergeM
    rw [ofv_at x0 r.isLt c.isLt, ofv_at x1 r.isLt c.isLt]
    rfl

end Gate

namespace GateBwd
open GateBwdRefIdeal GateBwdRefIdeal.Read
variable (x0 x1 x2 : FVec Ideal S4096x2048 .bf16) (x3 : FVec Ideal S4096x8320 .bf16)

theorem gate_a (r : Fin 4096) (c : Fin 2048) : val_main_v10 (F := Ideal) x3 (ix2 r c) = Ideal.logistic (off 0 4096 (ofv x3) r.val c.val) := by
  rw [val_main_v10_apply, val_main_v9_apply, val_main_cst_0_apply, val_main_v8_apply, val_main_v7_apply, val_main_cst_apply, val_main_v6_apply, val_main_v5_apply, logistic_host]
  refine congrArg Ideal.logistic ((val_main_v3_apply (F := Ideal) x3 _).trans ?_)
  unfold off
  rw [Nat.zero_add, ofv_at x3 r.isLt (by have := c.isLt; omega)]
  exact congrArg x3 (eq_ix2 _)

theorem gate_b (r : Fin 4096) (c : Fin 2048) : val_main_v20 (F := Ideal) x3 (ix2 r c) = Ideal.logistic (off 0 6144 (ofv x3) r.val c.val) := by
  rw [val_main_v20_apply, val_main_v19_apply, val_main_cst_3_apply, val_main_v18_apply, val_main_v17_apply, val_main_cst_2_apply, val_main_v16_apply, val_main_v15_apply, logistic_host]
  refine congrArg Ideal.logistic ((val_main_v4_apply (F := Ideal) x3 _).trans ?_)
  unfold off
  rw [Nat.zero_add, ofv_at x3 r.isLt (by have := c.isLt; omega)]
  exact congrArg x3 (eq_ix2 _)

theorem ref_branch_a : val_main_v33 (F := Ideal) x0 x3 = ev 4096 2048 .bf16 (dBranchM (ofv x0) (off 0 4096 (ofv x3))) :=
  ext2 fun r c => by
    rw [val_main_v33_apply, val_main_v30_apply, gate_a, val_main_v26_apply, ev_apply]
    unfold dBranchM
    rw [ofv_at x0 r.isLt c.isLt]
    exact mul_comm _ _

theorem ref_branch_b : val_main_v34 (F := Ideal) x0 x3 = ev 4096 2048 .bf16 (dBranchM (ofv x0) (off 0 6144 (ofv x3))) :=
  ext2 fun r c => by
    rw [val_main_v34_apply, val_main_v27_apply, gate_b, val_main_v26_apply, ev_apply]
    unfold dBranchM
    rw [ofv_at x0 r.isLt c.isLt]
    exact mul_comm _ _

theorem ref_gate_a : val_main_v35 (F := Ideal) x0 x1 x3 = ev 4096 2048 .bf16 (dGateM (ofv x0) (ofv x1) (off 0 4096 (ofv x3))) :=
  ext2 fun r c => by
    rw [val_main_v35_apply, val_main_v32_apply, val_main_v31_apply, val_main_v13_apply, val_main_v12_apply, gate_a, val_main_v26_apply, val_main_v1_apply, val_main_v11_apply, val_main_cst_1_apply, one_host_bits, ev_apply]
    unfold dGateM
    rw [ofv_at x0 r.isLt c.isLt, ofv_at x1 r.isLt c.isLt]
    exact (mul_assoc _ _ _).symm

theorem ref_gate_b : val_main_v36 (F := Ideal) x0 x2 x3 = ev 4096 2048 .bf16 (dGateM (ofv x0) (ofv x2) (off 0 6144 (ofv x3))) :=
  ext2 fun r c => by
    rw [val_main_v36_apply, val_main_v29_apply, val_main_v28_apply, val_main_v23_apply, val_main_v22_apply, gate_b, val_main_v26_apply, val_main_v2_apply, val_main_v21_apply, val_main_cst_4_apply, one_host_bits, ev_apply]
    unfold dGateM
    rw [ofv_at x0 r.isLt c.isLt, ofv_at x2 r.isLt c.isLt]
    exact (mul_assoc _ _ _).symm

end GateBwd

end Cert.Mm
-- ==== Proof.Norms.lean ====
/-
  The root mean square normalisation of the rows of a matrix of extended reals, its gradient, and the equation between the two ways the
  gradient is computed. With `ρ` one over the root of a row's mean square plus a small positive number, the calls take
  `ρ (d - x ρ mean (d x ρ))` and the transposed forward lines take `d ρ + 2 x (Σ x d) (-½ ρ³ / K)`. A mean square is never negative, so `ρ` is a
  real number that is not negative whatever the entries (zero where the mean square is infinite): it distributes over sums, and no entry has to be finite.
-/
module

public import proofs.«01_k».proof.Proof.Prod

@[expose] public section

noncomputable section

namespace Cert.Mm

open Idealize.ShloMosaic
open ValueIdx
open Sb (ext2)

/-! ## The formulas -/

/-- The widths of the stream and of the latent vectors, and the small number added to a mean square. -/
abbrev width : EReal := Ideal.ofBits .f32 0x45000000#32
abbrev width' : EReal := Ideal.ofBits .f32 0x44000000#32
abbrev tiny : EReal := Ideal.ofBits .f32 0x358637BD#32

/-- One over the root of the mean square of every row, plus `e`. -/
def invRms (K : ℕ) (c e : EReal) (x : EMat) (i : ℕ) : EReal := Ideal.rsqrt (Ideal.div (∑ k ∈ Finset.range K, x i k * x i k) c + e)

/-- Every row over its root mean square. -/
def normed (K : ℕ) (c e : EReal) (x : EMat) : EMat := fun i j => x i j * invRms K c e x i

/-- The gradient of the normalisation as the calls compute it. -/
def normBack (K : ℕ) (c e : EReal) (x d : EMat) : EMat := fun i j =>
  invRms K c e x i * (d i j - normed K c e x i j * Ideal.div (∑ k ∈ Finset.range K, d i k * normed K c e x i k) c)

/-- What every row's sum adds to its entries, as the transposed forward lines compute it. -/
def normCoef (K : ℕ) (c e h : EReal) (x d : EMat) (i : ℕ) : EReal :=
  Ideal.div ((∑ k ∈ Finset.range K, x i k * d i k) * (h * Ideal.div (invRms K c e x i) (Ideal.div (∑ k ∈ Finset.range K, x i k * x i k) c + e))) c

/-- The gradient of the normalisation as the transposed forward lines compute it. -/
def normTransposed (K : ℕ) (c e h : EReal) (x d : EMat) : EMat := fun i j =>
  d i j * invRms K c e x i + x i j * normCoef K c e h x d i + normCoef K c e h x d i * x i j

theorem invRms_off (K r : ℕ) (c e : EReal) (x : EMat) (i : ℕ) : invRms K c e (off r 0 x) i = invRms K c e x (r + i) := by simp [invRms, off]
theorem normed_off (K r : ℕ) (c e : EReal) (x : EMat) : normed K c e (off r 0 x) = off r 0 (normed K c e x) := by
  funext i j
  simp [normed, invRms_off, off]
theorem normBack_off (K r : ℕ) (c e : EReal) (x d : EMat) : normBack K c e (off r 0 x) (off r 0 d) = off r 0 (normBack K c e x d) := by
  funext i j
  simp [normBack, normed_off, invRms_off, off]

/-! ## Real factors that are not negative -/

theorem real_mul_add {r : ℝ} (h : 0 ≤ r) (x y : EReal) : (r : EReal) * (x + y) = r * x + r * y :=
  EReal.left_distrib_of_nonneg_of_ne_top (EReal.coe_nonneg.2 h) (EReal.coe_ne_top r) x y

theorem real_mul_sub {r : ℝ} (h : 0 ≤ r) (x y : EReal) : (r : EReal) * (x - y) = r * x - r * y := by
  rw [sub_eq_add_neg, sub_eq_add_neg, real_mul_add h, mul_neg]

theorem real_mul_sum {r : ℝ} (h : 0 ≤ r) (K : ℕ) (f : ℕ → EReal) : (r : EReal) * ∑ k ∈ Finset.range K, f k = ∑ k ∈ Finset.range K, (r : EReal) * f k := by
  induction K with
  | zero => simp
  | succ K ih => rw [Finset.sum_range_succ, Finset.sum_range_succ, real_mul_add h, ih]

/-- A product taken away is its two negative halves added. -/
theorem sub_two_halves {r : ℝ} (h : 0 ≤ r) (d u : EReal) : d - u * (r : EReal) = d + u * ((-(r / 2) : ℝ) : EReal) + u * ((-(r / 2) : ℝ) : EReal) := by
  rw [sub_eq_add_neg, add_assoc]
  refine congrArg (d + ·) ?_
  rcases h.eq_or_lt with rfl | hp
  · simp
  · induction u using EReal.rec with
    | bot => rw [EReal.bot_mul_coe_of_pos hp, EReal.bot_mul_coe_of_neg (by linarith)]; rfl
    | top => rw [EReal.top_mul_coe_of_pos hp, EReal.top_mul_coe_of_neg (by linarith)]; rfl
    | coe u => exact_mod_cast (by ring : -(u * r) = u * -(r / 2) + u * -(r / 2))

/-! ## The root mean square -/

theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

/-- The mean square plus `e` is infinite, its root's inverse then zero, or a positive real number. -/
theorem mean_cases (K : ℕ) {n e : ℝ} (hn : 0 < n) (he : 0 < e) (x : EMat) (i : ℕ) :
    Ideal.div (∑ k ∈ Finset.range K, x i k * x i k) (n : EReal) + (e : EReal) = ⊤ ∨ ∃ v : ℝ, 0 < v ∧ Ideal.div (∑ k ∈ Finset.range K, x i k * x i k) (n : EReal) + (e : EReal) = (v : EReal) := by
  have hs : 0 ≤ ∑ k ∈ Finset.range K, x i k * x i k := Finset.sum_nonneg fun k _ => sq_nonneg' _
  rw [Ideal.div_coe hn.ne']
  generalize (∑ k ∈ Finset.range K, x i k * x i k) = s at hs
  induction s using EReal.rec with
  | bot => simp at hs
  | top => left; rw [EReal.top_mul_coe_of_pos (by positivity)]; rfl
  | coe s =>
    right
    have hs' : 0 ≤ s := EReal.coe_nonneg.1 hs
    exact ⟨s * (1 / n) + e, by positivity, by push_cast; rfl⟩

/-- The two ways of computing the gradient agree, whatever the entries. -/
theorem normBack_eq (K : ℕ) {n e : ℝ} (hn : 0 < n) (he : 0 < e) (x d : EMat) (i j : ℕ) :
    normBack K (n : EReal) (e : EReal) x d i j = normTransposed K (n : EReal) (e : EReal) ((-(1 / 2) : ℝ) : EReal) x d i j := by
  unfold normBack normTransposed normCoef normed invRms
  rcases mean_cases K hn he x i with hv | ⟨v, hv, e'⟩
  · rw [hv, Ideal.rsqrt_top]
    have z : Ideal.div 0 ⊤ = 0 := by simp [Ideal.div]
    simp only [z, Ideal.div_coe hn.ne', mul_zero, zero_mul, add_zero]
  · rw [e', Ideal.rsqrt_coe, if_neg (by linarith), if_neg hv.ne']
    set r : ℝ := (Real.sqrt v)⁻¹ with hr
    have r0 : 0 ≤ r := by positivity
    rw [Ideal.div_coe hn.ne', Ideal.div_coe hn.ne', Ideal.div_coe hv.ne', real_mul_sub r0]
    have hsum : ∑ k ∈ Finset.range K, d i k * (x i k * (r : EReal)) = (r : EReal) * ∑ k ∈ Finset.range K, x i k * d i k := by
      rw [real_mul_sum r0]
      exact Finset.sum_congr rfl fun k _ => by rw [mul_comm (d i k), mul_comm (x i k) (r : EReal), mul_assoc]
    rw [hsum]
    generalize (∑ k ∈ Finset.range K, x i k * d i k) = s
    have hrr : r * (1 / v) = r * r * r := by
      have : 1 / v = r * r := by rw [hr, ← mul_inv, Real.mul_self_sqrt hv.le, one_div]
      rw [this, mul_assoc]
    have l : (r : EReal) * (x i j * (r : EReal) * ((r : EReal) * s * ((1 / n : ℝ) : EReal))) = (x i j * s) * ((r * r * r * (1 / n) : ℝ) : EReal) := by
      push_cast
      simp only [mul_comm, mul_left_comm, mul_assoc]
    have q : s * (((-(1 / 2) : ℝ) : EReal) * ((r : EReal) * ((1 / v : ℝ) : EReal))) * ((1 / n : ℝ) : EReal) = s * ((-(r * r * r * (1 / n) / 2) : ℝ) : EReal) := by
      rw [mul_assoc, ← EReal.coe_mul, ← EReal.coe_mul, ← EReal.coe_mul, hrr]
      congr 2
      ring
    rw [l, q, sub_two_halves (by positivity), mul_comm (r : EReal) (d i j), mul_assoc (x i j), mul_comm (s * _) (x i j)]

/-! ## The numbers of the calls -/

theorem ofBits_2048 : Ideal.ofBits .f32 0x45000000#32 = ((2048 : ℝ) : EReal) := by
  rw [show (2048 : ℝ) = 8388608 * (2 ^ 12)⁻¹ by norm_num, EReal.coe_mul]; simp [Ideal.ofBits, Ideal.ieee]
theorem ofBits_512 : Ideal.ofBits .f32 0x44000000#32 = ((512 : ℝ) : EReal) := by
  rw [show (512 : ℝ) = 8388608 * (2 ^ 14)⁻¹ by norm_num, EReal.coe_mul]; simp [Ideal.ofBits, Ideal.ieee]
theorem ofBits_neg_half : Ideal.ofBits .f32 0xBF000000#32 = ((-(1 / 2) : ℝ) : EReal) := by
  rw [show (-(1 / 2) : ℝ) = -(8388608 * (2 ^ 24)⁻¹) by norm_num, EReal.coe_neg, EReal.coe_mul]; simp [Ideal.ofBits, Ideal.ieee]

/-- The small number added to a mean square. -/
def eps : ℝ := (Ideal.ofBits .f32 0x358637BD#32).toReal
theorem eps_eq : Ideal.ofBits .f32 0x358637BD#32 = (eps : EReal) ∧ 0 < eps := by
  have e : Ideal.ofBits .f32 0x358637BD#32 = ((8796093 * (2 ^ 43)⁻¹ : ℝ) : EReal) := by
    rw [EReal.coe_mul]; simp [Ideal.ofBits, Ideal.ieee]
  unfold eps
  rw [e, EReal.toReal_coe]
  exact ⟨rfl, by positivity⟩

end Cert.Mm
-- ==== Proof.NormBlock.lean ====
/-
  What the vector operations of the normalisation calls do to blocks of matrices, and a buffer of eight rows whose first rows are added to one by one.
-/
module

public import proofs.«01_k».proof.Proof.Norms

@[expose] public section

noncomputable section

namespace Cert.Mm

open Idealize.ShloMosaic hiding ix1 ix2 ix3 ix4 eq_ix1 eq_ix2 eq_ix3 eq_ix4
open ValueIdx
open Sb (ext2)

/-! ## Vector operations -/

section
variable {a b : ℕ} {φ : FTy} (x y : EMat)

theorem ev_mul : mulf (ev a b φ x) (ev a b φ y) = ev a b φ fun i j => x i j * y i j := rfl
theorem ev_trunc (h : FTy.bf16.bits < FTy.f32.bits) : truncf .bf16 (ev a b .f32 x) h = ev a b .bf16 x := rfl
theorem ev_ext (h : FTy.bf16.bits < FTy.f32.bits) : extf .f32 (ev a b .bf16 x) h = ev a b .f32 x := rfl

/-- One row repeated. -/
theorem ev_repeat_row (h : (⟨2, ![1, b]⟩ : Shape).Broadcasts ⟨2, ![a, b]⟩) : broadcastTo ⟨2, ![a, b]⟩ (ev 1 b φ x) h = ev a b φ fun _ j => x 0 j :=
  ext2 fun r c => by rw [broadcastTo_1b_ab_apply]; rfl

/-- One column repeated. -/
theorem ev_repeat_col (h : (⟨2, ![a, 1]⟩ : Shape).Broadcasts ⟨2, ![a, b]⟩) : broadcastTo ⟨2, ![a, b]⟩ (ev a 1 φ x) h = ev a b φ fun i _ => x i 0 :=
  ext2 fun r c => broadcastTo_apply _ h (ix2 r c) (ix2 r (0 : Fin 1)) fun k => by
    match k with
    | ⟨0, _⟩ =>
      show r.val = if a = 1 then 0 else r.val
      split
      · have := r.isLt; omega
      · rfl
    | ⟨1, _⟩ => rfl

/-- The sum along each row, kept as a column. -/
theorem ev_row_sum (w : BitVec φ.bits) (h : (⟨2, ![a, b]⟩ : Shape).Reduces [1] ⟨1, ![a]⟩) (hφ : FKind.Formats φ) (hw : w = FKind.add.neutral φ hφ)
    (hs : (⟨1, ![a]⟩ : Shape).ShapeCasts ⟨2, ![a, 1]⟩) :
    shapeCast ⟨2, ![a, 1]⟩ (multiReduction .add [1] ⟨1, ![a]⟩ (ev a b φ x) w h hφ hw) hs = ev a 1 φ fun i _ => ∑ k ∈ Finset.range b, x i k :=
  ext2 fun r c => by
    rw [shapeCast_a_a1_apply, ev_apply, Finset.sum_range]
    exact (Ideal.multiReduction_add_single _ _ h hφ hw _).trans (Finset.sum_congr rfl fun k _ => rfl)

/-- The sum along each column, kept as a row. -/
theorem ev_col_sum (w : BitVec φ.bits) (h : (⟨2, ![a, b]⟩ : Shape).Reduces [0] ⟨1, ![b]⟩) (hφ : FKind.Formats φ) (hw : w = FKind.add.neutral φ hφ)
    (hs : (⟨1, ![b]⟩ : Shape).ShapeCasts ⟨2, ![1, b]⟩) :
    shapeCast ⟨2, ![1, b]⟩ (multiReduction .add [0] ⟨1, ![b]⟩ (ev a b φ x) w h hφ hw) hs = ev 1 b φ fun _ j => ∑ k ∈ Finset.range a, x k j :=
  ext2 fun r c => by
    rw [shapeCast_a_1a_apply, ev_apply, Finset.sum_range]
    exact (Ideal.multiReduction_add_single _ _ h hφ hw _).trans (Finset.sum_congr rfl fun k _ => rfl)
end

/-! ## The blocks of the normalisations -/

section
variable {a b : ℕ} (cb eb : BitVec 32) (x d z : EMat)

/-- The inverse root mean squares of the rows, as a column. -/
theorem inv_block (h : (⟨2, ![a, b]⟩ : Shape).Reduces [1] ⟨1, ![a]⟩) (hφ : FKind.Formats .f32) (hw : (0x00000000#32 : BitVec 32) = FKind.add.neutral .f32 hφ)
    (hs : (⟨1, ![a]⟩ : Shape).ShapeCasts ⟨2, ![a, 1]⟩) :
    rsqrt (addf (divf (shapeCast ⟨2, ![a, 1]⟩ (multiReduction .add [1] ⟨1, ![a]⟩ (mulf (ev a b .f32 x) (ev a b .f32 x)) 0x00000000#32 h hφ hw) hs)
        (broadcast ⟨2, ![a, 1]⟩ (Scalar.ofBits .f32 cb))) (broadcast ⟨2, ![a, 1]⟩ (Scalar.ofBits .f32 eb)))
      = ev a 1 .f32 fun i _ => invRms b (Ideal.ofBits .f32 cb) (Ideal.ofBits .f32 eb) x i := by
  rw [ev_mul, ev_row_sum]
  rfl

/-- The rows over their root mean squares. -/
theorem normed_block {c e : EReal} (h : (⟨2, ![a, 1]⟩ : Shape).Broadcasts ⟨2, ![a, b]⟩) :
    mulf (ev a b .f32 x) (broadcastTo ⟨2, ![a, b]⟩ (ev a 1 .f32 fun i _ => invRms b c e x i) h) = ev a b .f32 (normed b c e x) := by
  rw [ev_repeat_col]
  rfl

/-- One plus a scale. -/
theorem mod_block : addf (broadcast ⟨2, ![1, b]⟩ (Scalar.ofBits .f32 0x3F800000#32)) (ev 1 b .f32 x) = ev 1 b .f32 fun i j => 1 + x i j :=
  ev_congr fun i _ j _ => congrArg (· + x i j) ((Sb.ofBits_one : Ideal.ofBits .f32 0x3F800000#32 = _).trans EReal.coe_one)

/-- A row of sums with a block's sums added. -/
theorem sum_block (h : (⟨2, ![a, b]⟩ : Shape).Reduces [0] ⟨1, ![b]⟩) (hφ : FKind.Formats .f32) (hw : (0x00000000#32 : BitVec 32) = FKind.add.neutral .f32 hφ)
    (hs : (⟨1, ![b]⟩ : Shape).ShapeCasts ⟨2, ![1, b]⟩) (hz : (⟨2, ![1, b]⟩ : Shape).ShapeCasts ⟨2, ![1, b]⟩) :
    addf (shapeCast ⟨2, ![1, b]⟩ (ev 1 b .f32 z) hz) (shapeCast ⟨2, ![1, b]⟩ (multiReduction .add [0] ⟨1, ![b]⟩ (ev a b .f32 x) 0x00000000#32 h hφ hw) hs)
      = ev 1 b .f32 fun i j => z i j + ∑ k ∈ Finset.range a, x k j := by
  rw [shapeCast_self, ev_col_sum]
  rfl

/-- The gradient of a block of rows. -/
theorem back_block {e : EReal} (h : (⟨2, ![a, b]⟩ : Shape).Reduces [1] ⟨1, ![a]⟩) (hφ : FKind.Formats .f32) (hw : (0x00000000#32 : BitVec 32) = FKind.add.neutral .f32 hφ)
    (hs : (⟨1, ![a]⟩ : Shape).ShapeCasts ⟨2, ![a, 1]⟩) (hb hb' : (⟨2, ![a, 1]⟩ : Shape).Broadcasts ⟨2, ![a, b]⟩) :
    mulf (broadcastTo ⟨2, ![a, b]⟩ (ev a 1 .f32 fun i _ => invRms b (Ideal.ofBits .f32 cb) e x i) hb') (subf (ev a b .f32 d)
        (mulf (ev a b .f32 (normed b (Ideal.ofBits .f32 cb) e x)) (broadcastTo ⟨2, ![a, b]⟩
          (divf (shapeCast ⟨2, ![a, 1]⟩ (multiReduction .add [1] ⟨1, ![a]⟩ (mulf (ev a b .f32 d) (ev a b .f32 (normed b (Ideal.ofBits .f32 cb) e x))) 0x00000000#32 h hφ hw) hs)
            (broadcast ⟨2, ![a, 1]⟩ (Scalar.ofBits .f32 cb))) hb)))
      = ev a b .f32 (normBack b (Ideal.ofBits .f32 cb) e x d) := by
  have hd : divf (ev a 1 .f32 fun i _ => ∑ k ∈ Finset.range b, d i k * normed b (Ideal.ofBits .f32 cb) e x i k) (broadcast ⟨2, ![a, 1]⟩ (Scalar.ofBits .f32 cb))
      = ev a 1 .f32 fun i _ => Ideal.div (∑ k ∈ Finset.range b, d i k * normed b (Ideal.ofBits .f32 cb) e x i k) (Ideal.ofBits .f32 cb) := rfl
  rw [ev_mul, ev_row_sum, hd, ev_repeat_col, ev_repeat_col]
  rfl
end

/-! ## A buffer of rows -/

/-- A matrix with one row replaced. -/
def setRow (o : ℕ) (w x : EMat) : EMat := fun i j => if i = o then w 0 j else x i j

section
variable {sig : RefSig} {κ : Kind} {sp : Space} {b : ℕ} (v : View sig κ sp ⟨2, ![8, b]⟩ .f32) (f : v.ty.Contents (Elt Ideal))

/-- A buffer after a store of one row. -/
theorem read_set_row (o : ℕ) (inb : ∀ a, (![o, 0] : Fin 2 → ℕ) a + (![1, b] : Fin 2 → ℕ) a ≤ (⟨2, ![8, b]⟩ : Shape).size a)
    (L : List (View.Piece (Elt Ideal) ⟨2, ![8, b]⟩ .f32)) (x y : EMat) (hL : v.read (Elt Ideal) (v.writes (Elt Ideal) f L) = ev 8 b .f32 x)
    (w : FVec Ideal ⟨2, ![1, b]⟩ .f32) (hw : w = ev 1 b .f32 y) :
    v.read (Elt Ideal) (v.writes (Elt Ideal) f (⟨Rect.unit (s := ⟨2, ![8, b]⟩) ![o, 0] ![1, b] inb, w⟩ :: L)) = ev 8 b .f32 (setRow o y x) := by
  subst hw
  refine ext2 fun r c => ?_
  refine (View.read_writes_cons_rows v f (d := ![8, b]) (W := 1) inb _ L (ix2 r c) rfl rfl rfl).trans ?_
  rw [hL]
  by_cases hr : o ≤ r.val ∧ r.val < o + 1
  · refine (dif_pos hr).trans ?_
    rw [ev_apply, setRow, if_pos (by omega)]
    show y (r.val - o) (c.val - 0) = _
    rw [show r.val - o = 0 by omega, Nat.sub_zero]
  · refine (dif_neg hr).trans ?_
    rw [ev_apply, ev_apply, setRow, if_neg (by omega)]

/-- A load of one row. -/
theorem load_row (o : ℕ) (inb : ∀ a, (![o, 0] : Fin 2 → ℕ) a + (![1, b] : Fin 2 → ℕ) a ≤ (⟨2, ![8, b]⟩ : Shape).size a)
    (x : EMat) (h : v.read (Elt Ideal) f = ev 8 b .f32 x) :
    View.readAt (Elt Ideal) v (Rect.unit (s := ⟨2, ![8, b]⟩) ![o, 0] ![1, b] inb).toLoadRect f = ev 1 b .f32 (off o 0 x) := by
  show View.ld (v.read (Elt Ideal) f) (Rect.unit (s := ⟨2, ![8, b]⟩) ![o, 0] ![1, b] inb) = _
  rw [h]
  have h0 := inb 0
  exact ext2 fun r c => (View.ld_unit_apply_of _ _ _ inb _ (ix2 (⟨o + r.val, by have := r.isLt; simp at h0; omega⟩ : Fin 8) c)
    (Fin.forall_fin_two.mpr ⟨rfl, (Nat.zero_add _).symm⟩)).trans (congrArg (x (o + r.val)) (Nat.zero_add c.val).symm)
end

/-- Another row is not changed. -/
theorem row_setRow {b o p : ℕ} (h : o ≠ p) (y x : EMat) : ev 1 b .f32 (off o 0 (setRow p y x)) = ev 1 b .f32 (off o 0 x) :=
  ev_congr fun i hi j _ => if_neg (by omega)

/-- Stores that leave `x` in any buffer of eight rows, whatever it held. -/
structure Leaves {b : ℕ} (L : List (View.Piece (Elt Ideal) ⟨2, ![8, b]⟩ .f32)) (x : EMat) : Prop where
  read : ∀ {sig : RefSig} {κ : Kind} {sp : Space} (v : View sig κ sp ⟨2, ![8, b]⟩ .f32) (f : v.ty.Contents (Elt Ideal)), v.read (Elt Ideal) (v.writes (Elt Ideal) f L) = ev 8 b .f32 x

theorem leaves_zeros {b : ℕ} (o : Fin 2 → ℕ) (inb : ∀ a, o a + (⟨2, ![8, b]⟩ : Shape).size a ≤ (⟨2, ![8, b]⟩ : Shape).size a) (w : FVec Ideal ⟨2, ![8, b]⟩ .f32)
    (hw : w = broadcast ⟨2, ![8, b]⟩ (Scalar.ofBits .f32 0x00000000#32)) : Leaves [⟨Rect.unit (s := ⟨2, ![8, b]⟩) o (⟨2, ![8, b]⟩ : Shape).size inb, w⟩] fun _ _ => 0 where
  read v f := by
    rw [View.read_writes_full, hw]
    exact ext2 fun r c => (Sb.ofBits_zero : Ideal.ofBits .f32 0x00000000#32 = _).trans EReal.coe_zero

theorem leaves_row {b : ℕ} (o : ℕ) (inb : ∀ a, (![o, 0] : Fin 2 → ℕ) a + (![1, b] : Fin 2 → ℕ) a ≤ (⟨2, ![8, b]⟩ : Shape).size a)
    {L : List (View.Piece (Elt Ideal) ⟨2, ![8, b]⟩ .f32)} {x : EMat} (hL : Leaves L x) (y : EMat) :
    Leaves (⟨Rect.unit (s := ⟨2, ![8, b]⟩) ![o, 0] ![1, b] inb, ev 1 b .f32 y⟩ :: L) (setRow o y x) where
  read v f := read_set_row v f o inb L x y (hL.read v f) _ rfl

theorem leaves_load {b : ℕ} (o : ℕ) (inb : ∀ a, (![o, 0] : Fin 2 → ℕ) a + (![1, b] : Fin 2 → ℕ) a ≤ (⟨2, ![8, b]⟩ : Shape).size a)
    {L : List (View.Piece (Elt Ideal) ⟨2, ![8, b]⟩ .f32)} {x : EMat} (hL : Leaves L x) {sig : RefSig} {κ : Kind} {sp : Space} (v : View sig κ sp ⟨2, ![8, b]⟩ .f32) :
    v.readCov L (Rect.unit (s := ⟨2, ![8, b]⟩) ![o, 0] ![1, b] inb).toLoadRect = ev 1 b .f32 (off o 0 x) :=
  load_row v _ o inb x (hL.read v _)

/-- The eight rows of sums of `f 0`, `f 1`, … over the first `n` rows. -/
def sums (n : ℕ) (f : ℕ → EMat) : EMat := fun k j => ∑ i ∈ Finset.range n, f k i j

/-- Sums of one block more. -/
theorem sums_add (n b : ℕ) (f : ℕ → EMat) (k j : ℕ) : sums (n + b) f k j = sums n f k j + ∑ i ∈ Finset.range b, off n 0 (f k) i j := by
  simp only [sums, off, Nat.zero_add]
  exact Finset.sum_range_add _ _ _

end Cert.Mm
-- ==== Proof.NormHost.lean ====
/-
  What the host operations of the normalisations' references do to matrices: sums kept as rows or columns, repeated rows and columns, the inverse
  root mean squares, the gradient as the transposed forward lines write it, and rows put one under the other.
-/
module

public import proofs.«01_k».proof.Proof.NormBlock

@[expose] public section

noncomputable section

namespace Cert.Mm

open Idealize.ShloMosaic hiding ix1 ix2 ix3 ix4 eq_ix1 eq_ix2 eq_ix3 eq_ix4
open ValueIdx
open Sb (ext2)

/-- A vector read off a function. -/
def vec (a : ℕ) (φ : FTy) (v : ℕ → EReal) : FVec Ideal ⟨1, ![a]⟩ φ := fun i => v (i 0).val

section
variable {a b : ℕ} {φ : FTy} (x y : EMat) (v : ℕ → EReal)

theorem host_div : Host.divf (ev a b φ x) (ev a b φ y) = ev a b φ fun i j => Ideal.div (x i j) (y i j) := rfl
theorem host_rsqrt : Host.rsqrt (ev a b φ x) = ev a b φ fun i j => Ideal.rsqrt (x i j) := rfl

theorem host_zero {s : Shape} (i : s.Idx) : (constant s .f32 0x00000000#32 : FVec Ideal s .f32) i = 0 := Sb.ofBits_zero

/-- The sum along each row. -/
theorem host_row_sum (h : (⟨2, ![a, b]⟩ : Shape).ReducesTo [1] ⟨1, ![a]⟩) (hs : 0 < (⟨0, ![]⟩ : Shape).numel) (h' : (⟨2, ![a, b]⟩ : Shape).Reduces [1] ⟨1, ![a]⟩) :
    Host.reduceAdd (ev a b .f32 x) (constant ⟨0, ![]⟩ .f32 0x00000000#32) h hs = vec a .f32 fun i => ∑ k ∈ Finset.range b, x i k :=
  funext fun i => by
    simp only [Host.reduceAdd, Ideal.hostReduceAdd_def]
    rw [Ideal.hostReduceAdd_single h h', host_zero, zero_add]
    exact (Finset.sum_range (fun k => x (i 0).val k)).symm

/-- The sum along each column. -/
theorem host_col_sum (h : (⟨2, ![a, b]⟩ : Shape).ReducesTo [0] ⟨1, ![b]⟩) (hs : 0 < (⟨0, ![]⟩ : Shape).numel) (h' : (⟨2, ![a, b]⟩ : Shape).Reduces [0] ⟨1, ![b]⟩) :
    Host.reduceAdd (ev a b .f32 x) (constant ⟨0, ![]⟩ .f32 0x00000000#32) h hs = vec b .f32 fun j => ∑ k ∈ Finset.range a, x k j :=
  funext fun i => by
    simp only [Host.reduceAdd, Ideal.hostReduceAdd_def]
    rw [Ideal.hostReduceAdd_single h h', host_zero, zero_add]
    exact (Finset.sum_range (fun k => x k (i 0).val)).symm

/-- A vector as the columns. -/
theorem host_cols (h : (⟨1, ![a]⟩ : Shape).BroadcastsInDim ⟨2, ![a, b]⟩ ![0]) : broadcastInDim ⟨2, ![a, b]⟩ ![0] h (vec a φ v) = ev a b φ fun i _ => v i :=
  ext2 fun r c => (broadcastInDim_apply ![0] h _ (ix2 r c) (ix1 r) fun k => by
    match k with
    | ⟨0, _⟩ =>
      show r.val = if a = 1 then 0 else r.val
      split
      · have := r.isLt; omega
      · rfl)

theorem cast_col (h : (⟨1, ![a]⟩ : Shape).ShapeCasts ⟨2, ![a, 1]⟩) : shapeCast ⟨2, ![a, 1]⟩ (vec a φ v) h = ev a 1 φ fun i _ => v i :=
  ext2 fun r c => by rw [shapeCast_a_a1_apply]; rfl
theorem cast_row (h : (⟨1, ![b]⟩ : Shape).ShapeCasts ⟨2, ![1, b]⟩) : shapeCast ⟨2, ![1, b]⟩ (vec b φ v) h = ev 1 b φ fun _ j => v j :=
  ext2 fun r c => by rw [shapeCast_a_1a_apply]; rfl

/-- One number everywhere. -/
theorem host_fill (h : (⟨0, ![]⟩ : Shape).BroadcastsInDim ⟨2, ![a, b]⟩ ![]) (w : FVec Ideal ⟨0, ![]⟩ φ) :
    broadcastInDim ⟨2, ![a, b]⟩ ![] h w = ev a b φ fun _ _ => w ValueIdx.ix0 :=
  ext2 fun r c => broadcastInDim_scalar_apply h w (ix2 r c)

/-- One column repeated. -/
theorem host_repeat_col (h : (⟨2, ![a, 1]⟩ : Shape).BroadcastsInDim ⟨2, ![a, b]⟩ ![0, 1]) :
    broadcastInDim ⟨2, ![a, b]⟩ ![0, 1] h (ev a 1 φ x) = ev a b φ fun i _ => x i 0 :=
  ext2 fun r c => (broadcastInDim_apply ![0, 1] h _ (ix2 r c) (ix2 r (0 : Fin 1)) fun k => by
    match k with
    | ⟨0, _⟩ =>
      show r.val = if a = 1 then 0 else r.val
      split
      · have := r.isLt; omega
      · rfl
    | ⟨1, _⟩ => rfl)

/-- One row repeated. -/
theorem host_repeat_row (h : (⟨2, ![1, b]⟩ : Shape).BroadcastsInDim ⟨2, ![a, b]⟩ ![0, 1]) :
    broadcastInDim ⟨2, ![a, b]⟩ ![0, 1] h (ev 1 b φ x) = ev a b φ fun _ j => x 0 j :=
  ext2 fun r c => (broadcastInDim_apply ![0, 1] h _ (ix2 r c) (ix2 (0 : Fin 1) c) fun k => by
    match k with
    | ⟨0, _⟩ => rfl
    | ⟨1, _⟩ =>
      show c.val = if b = 1 then 0 else c.val
      split
      · have := c.isLt; omega
      · rfl)

/-- A window of columns. -/
theorem host_cut {w : ℕ} (o : ℕ) (h : (⟨2, ![a, b]⟩ : Shape).Slices ![0, o] ⟨2, ![a, w]⟩) :
    extractStridedSlice ⟨2, ![a, w]⟩ ![0, o] (ev a b φ x) h = ev a w φ (off 0 o x) := rfl
end

/-! ## The normalisation -/

section
variable {a b : ℕ} (cb eb hb : BitVec 32) (x d s g : EMat)

/-- The mean squares of the rows, plus a small number. -/
theorem mean_host (h : (⟨2, ![a, b]⟩ : Shape).ReducesTo [1] ⟨1, ![a]⟩) (hs : 0 < (⟨0, ![]⟩ : Shape).numel) (h' : (⟨2, ![a, b]⟩ : Shape).Reduces [1] ⟨1, ![a]⟩)
    (hc : (⟨1, ![a]⟩ : Shape).BroadcastsInDim ⟨2, ![a, 1]⟩ ![0]) (hf : (⟨0, ![]⟩ : Shape).BroadcastsInDim ⟨2, ![a, 1]⟩ ![]) :
    addf (Host.divf (broadcastInDim ⟨2, ![a, 1]⟩ ![0] hc (Host.reduceAdd (mulf (ev a b .f32 x) (ev a b .f32 x)) (constant ⟨0, ![]⟩ .f32 0x00000000#32) h hs))
        (broadcastInDim ⟨2, ![a, 1]⟩ ![] hf (constant ⟨0, ![]⟩ .f32 cb))) (broadcastInDim ⟨2, ![a, 1]⟩ ![] hf (constant ⟨0, ![]⟩ .f32 eb))
      = ev a 1 .f32 fun i _ => Ideal.div (∑ k ∈ Finset.range b, x i k * x i k) (Ideal.ofBits .f32 cb) + Ideal.ofBits .f32 eb := by
  rw [ev_mul, host_row_sum _ h hs h', host_cols, host_fill, host_fill]
  rfl

/-- The rows over their root mean squares. -/
theorem normed_host {c e : EReal} (h : (⟨2, ![a, 1]⟩ : Shape).BroadcastsInDim ⟨2, ![a, b]⟩ ![0, 1]) :
    mulf (ev a b .f32 x) (broadcastInDim ⟨2, ![a, b]⟩ ![0, 1] h (ev a 1 .f32 fun i _ => invRms b c e x i)) = ev a b .f32 (normed b c e x) := by
  rw [host_repeat_col]
  rfl

/-- One plus a scale. -/
theorem mod_host (h : (⟨0, ![]⟩ : Shape).BroadcastsInDim ⟨2, ![1, b]⟩ ![]) :
    addf (broadcastInDim ⟨2, ![1, b]⟩ ![] h (constant ⟨0, ![]⟩ .f32 0x3F800000#32)) (ev 1 b .f32 s) = ev 1 b .f32 fun i j => 1 + s i j := by
  rw [host_fill]
  exact ev_congr fun i _ j _ => congrArg (· + s i j) ((Sb.ofBits_one : Ideal.ofBits .f32 0x3F800000#32 = _).trans EReal.coe_one)

/-- The rows times a row. -/
theorem gained_host (h : (⟨2, ![1, b]⟩ : Shape).BroadcastsInDim ⟨2, ![a, b]⟩ ![0, 1]) :
    mulf (ev a b .f32 x) (broadcastInDim ⟨2, ![a, b]⟩ ![0, 1] h (ev 1 b .f32 g)) = ev a b .f32 fun i j => x i j * g 0 j := by
  rw [host_repeat_row]
  rfl

/-- A row times the rows. -/
theorem gated_host (h : (⟨2, ![1, b]⟩ : Shape).BroadcastsInDim ⟨2, ![a, b]⟩ ![0, 1]) :
    mulf (broadcastInDim ⟨2, ![a, b]⟩ ![0, 1] h (ev 1 b .f32 g)) (ev a b .f32 x) = ev a b .f32 fun i j => g 0 j * x i j := by
  rw [host_repeat_row]
  rfl

/-- The sums along the columns, as a row. -/
theorem sum_host (h : (⟨2, ![a, b]⟩ : Shape).ReducesTo [0] ⟨1, ![b]⟩) (hs : 0 < (⟨0, ![]⟩ : Shape).numel) (h' : (⟨2, ![a, b]⟩ : Shape).Reduces [0] ⟨1, ![b]⟩)
    (hc : (⟨1, ![b]⟩ : Shape).ShapeCasts ⟨2, ![1, b]⟩) :
    shapeCast ⟨2, ![1, b]⟩ (Host.reduceAdd (ev a b .f32 x) (constant ⟨0, ![]⟩ .f32 0x00000000#32) h hs) hc = ev 1 b .f32 fun _ j => ∑ k ∈ Finset.range a, x k j := by
  rw [host_col_sum _ h hs h', cast_row]

/-- What every row's sum adds to its entries. -/
theorem coef_host (h : (⟨2, ![a, b]⟩ : Shape).ReducesTo [1] ⟨1, ![a]⟩) (hs : 0 < (⟨0, ![]⟩ : Shape).numel) (h' : (⟨2, ![a, b]⟩ : Shape).Reduces [1] ⟨1, ![a]⟩)
    (hc : (⟨1, ![a]⟩ : Shape).ShapeCasts ⟨2, ![a, 1]⟩) (hf : (⟨0, ![]⟩ : Shape).BroadcastsInDim ⟨2, ![a, 1]⟩ ![])
    (h1 : (⟨2, ![a, 1]⟩ : Shape).ReducesTo [1] ⟨1, ![a]⟩) (h1' : (⟨2, ![a, 1]⟩ : Shape).Reduces [1] ⟨1, ![a]⟩) (hw : (⟨1, ![a]⟩ : Shape).BroadcastsInDim ⟨2, ![a, b]⟩ ![0]) :
    broadcastInDim ⟨2, ![a, b]⟩ ![0] hw (Host.reduceAdd (Host.divf (mulf
        (shapeCast ⟨2, ![a, 1]⟩ (Host.reduceAdd (mulf (ev a b .f32 x) (ev a b .f32 d)) (constant ⟨0, ![]⟩ .f32 0x00000000#32) h hs) hc)
        (mulf (broadcastInDim ⟨2, ![a, 1]⟩ ![] hf (constant ⟨0, ![]⟩ .f32 hb))
          (Host.divf (ev a 1 .f32 fun i _ => invRms b (Ideal.ofBits .f32 cb) (Ideal.ofBits .f32 eb) x i)
            (ev a 1 .f32 fun i _ => Ideal.div (∑ k ∈ Finset.range b, x i k * x i k) (Ideal.ofBits .f32 cb) + Ideal.ofBits .f32 eb))))
        (broadcastInDim ⟨2, ![a, 1]⟩ ![] hf (constant ⟨0, ![]⟩ .f32 cb))) (constant ⟨0, ![]⟩ .f32 0x00000000#32) h1 hs)
      = ev a b .f32 fun i _ => normCoef b (Ideal.ofBits .f32 cb) (Ideal.ofBits .f32 eb) (Ideal.ofBits .f32 hb) x d i := by
  rw [ev_mul, host_row_sum _ h hs h', cast_col, host_fill, host_fill, host_div, ev_mul, ev_mul, host_div, host_row_sum _ h1 hs h1', host_cols]
  refine ev_congr fun i _ j _ => ?_
  rw [Finset.sum_range_one]
  rfl

/-- The gradient of the normalisation. -/
theorem back_host {c e k : EReal} (h : (⟨2, ![a, 1]⟩ : Shape).BroadcastsInDim ⟨2, ![a, b]⟩ ![0, 1]) :
    addf (addf (mulf (ev a b .f32 d) (broadcastInDim ⟨2, ![a, b]⟩ ![0, 1] h (ev a 1 .f32 fun i _ => invRms b c e x i)))
        (mulf (ev a b .f32 x) (ev a b .f32 fun i _ => normCoef b c e k x d i))) (mulf (ev a b .f32 fun i _ => normCoef b c e k x d i) (ev a b .f32 x))
      = ev a b .f32 (normTransposed b c e k x d) := by
  rw [host_repeat_col]
  rfl
end

/-! ## Rows one under the other -/

/-- A row of one-row pieces. -/
theorem row_at {b : ℕ} (xs : List ((s : Shape) × (s.Idx → Ideal .f32))) (h : Shape.Concatenates (xs.map (·.1)) ⟨2, ![8, b]⟩ 0) (r : Fin 8) (c : Fin b) (y : EMat) (n : ℕ)
    (hk : r.val < xs.length) (hx : xs[r.val] = ⟨⟨2, ![n, b]⟩, ev n b .f32 y⟩) (hn : 0 < n)
    (hpre : (((xs.take r.val).map (·.1)).map fun s => if h : s.rank = 2 then s.size ((0 : Fin 2).cast h.symm) else 0).sum = r.val) :
    concatenate ⟨2, ![8, b]⟩ 0 xs h (ix2 r c) = y 0 c.val :=
  concatenate_apply_piece (t := ⟨2, ![8, b]⟩) (0 : Fin 2) xs h (ix2 r c) r.val hk ⟨2, ![n, b]⟩ _ hx rfl r.val hpre (ix2 (⟨0, hn⟩ : Fin n) c)
    (Fin.forall_fin_two.mpr ⟨fun hb => absurd rfl hb, fun _ => rfl⟩) rfl

/-- A row of the last piece. -/
theorem row_below {b : ℕ} (xs : List ((s : Shape) × (s.Idx → Ideal .f32))) (h : Shape.Concatenates (xs.map (·.1)) ⟨2, ![8, b]⟩ 0) (r : Fin 8) (c : Fin b) (y : EMat) (n k : ℕ)
    (hk : k < xs.length) (hx : xs[k] = ⟨⟨2, ![n, b]⟩, ev n b .f32 y⟩) (hr : k ≤ r.val) (hn : r.val < k + n)
    (hpre : (((xs.take k).map (·.1)).map fun s => if h : s.rank = 2 then s.size ((0 : Fin 2).cast h.symm) else 0).sum = k) :
    concatenate ⟨2, ![8, b]⟩ 0 xs h (ix2 r c) = y (r.val - k) c.val :=
  concatenate_apply_piece (t := ⟨2, ![8, b]⟩) (0 : Fin 2) xs h (ix2 r c) k hk ⟨2, ![n, b]⟩ _ hx rfl k hpre (ix2 (⟨r.val - k, by omega⟩ : Fin n) c)
    (Fin.forall_fin_two.mpr ⟨fun hb => absurd rfl hb, fun _ => rfl⟩) (by show k + (r.val - k) = r.val; omega)

end Cert.Mm
-- ==== Proof.Norm1BwdArray.lean ====
/-
  The gradient of the first normalisation and its modulation, as its call leaves it: the gradient of the input row by row, and the sums over the
  rows of the gradients of the shift, of the scale and of the gain, gathered a block of 256 rows at a time in a buffer of eight rows.
-/
module

public import proofs.«01_k».proof.Proof.NormBlock
public import proofs.«01_k».proof.Proof.Gen.Norm1BwdIdeal.Value

@[expose] public section

noncomputable section

namespace Cert.Mm

open Idealize.ShloMosaic
open ValueIdx TcCoe Idealize.SL.Sem
open Sb (ext2 ld_all exists_ix2)

/-! ## The formulas -/

/-- The gradient at the normalised rows: through the modulation and the gain. -/
def dNormed (d g s : EMat) : EMat := fun i j => d i j * g 0 j * (1 + s 0 j)

/-- The terms of the sums: for the shift, the scale and the gain, from the gradient and the normalised rows. -/
def modParts (d n g s : EMat) (k : ℕ) : EMat := fun i j =>
  if k = 0 then d i j else if k = 1 then d i j * n i j * g 0 j else if k = 2 then d i j * n i j * (1 + s 0 j) else 0

theorem dNormed_off (r : ℕ) (d g s : EMat) : dNormed (off r 0 d) g s = off r 0 (dNormed d g s) := by
  funext i j
  simp [dNormed, off]
theorem modParts_off (r : ℕ) (d n g s : EMat) (k : ℕ) : modParts (off r 0 d) (off r 0 n) g s k = off r 0 (modParts d n g s k) := by
  funext i j
  simp [modParts, off]

/-- Three rows added to, one after the other. -/
theorem three_rows_eq (d n g s z : EMat) :
    setRow 2 (fun i j => off 2 0 z i j + ∑ k ∈ Finset.range 256, d k j * n k j * (1 + s 0 j))
      (setRow 1 (fun i j => off 1 0 z i j + ∑ k ∈ Finset.range 256, d k j * n k j * g 0 j)
        (setRow 0 (fun i j => off 0 0 z i j + ∑ k ∈ Finset.range 256, d k j) z))
      = fun k j => z k j + sums 256 (modParts d n g s) k j := by
  funext k j
  unfold sums modParts setRow off
  by_cases h2 : k = 2
  · subst h2; simp
  · by_cases h1 : k = 1
    · subst h1; simp
    · by_cases h0 : k = 0
      · subst h0; simp
      · simp [h0, h1, h2]

theorem three_rows (d n g s z : EMat) {b : ℕ} :
    ev 8 b .f32 (setRow 2 (fun i j => off 2 0 z i j + ∑ k ∈ Finset.range 256, d k j * n k j * (1 + s 0 j))
      (setRow 1 (fun i j => off 1 0 z i j + ∑ k ∈ Finset.range 256, d k j * n k j * g 0 j)
        (setRow 0 (fun i j => off 0 0 z i j + ∑ k ∈ Finset.range 256, d k j) z)))
      = ev 8 b .f32 fun k j => z k j + sums 256 (modParts d n g s) k j :=
  congrArg (ev 8 b .f32) (three_rows_eq d n g s z)

namespace Norm1Bwd
open Norm1BwdIdeal Norm1BwdIdeal.Gen

/-! ## A block -/

theorem block_inv (x : EMat) : k0_pay5 (evB x) = ev 256 1 .f32 fun i _ => invRms 2048 width tiny x i :=
  inv_block _ _ x _ _ _ _

theorem block_normed (x : EMat) : k0_pay6 (evB x) = evB (normed 2048 width tiny x) := by
  unfold k0_pay6
  rw [block_inv]
  exact normed_block x _

theorem block_mod (s : EMat) : k0_pay4 (evR s) = evR fun i j => 1 + s i j := mod_block s

theorem block_shift (d z : EMat) : k0_pay8 (evB d) (evR z) = evR fun i j => z i j + ∑ k ∈ Finset.range 256, d k j :=
  sum_block d z _ _ _ _ _

theorem block_scale (d x g z : EMat) : k0_pay9 (evB d) (evB x) (evR g) (evR z)
    = evR fun i j => z i j + ∑ k ∈ Finset.range 256, d k j * normed 2048 width tiny x k j * g 0 j := by
  unfold k0_pay9 k0_pay7
  dsimp only
  rw [block_normed, ev_mul, ev_repeat_row, ev_mul]
  exact sum_block _ z _ _ _ _ _

theorem block_gain (d x s z : EMat) : k0_pay1 (k0_pay4 (evR s)) (k0_pay7 (evB d) (evB x)) (evR z)
    = evR fun i j => z i j + ∑ k ∈ Finset.range 256, d k j * normed 2048 width tiny x k j * (1 + s 0 j) := by
  unfold k0_pay1 k0_pay7
  dsimp only
  rw [block_mod, block_normed, ev_mul, ev_repeat_row, ev_mul]
  exact sum_block _ z _ _ _ _ _

theorem block_back (d x y g s : EMat) :
    k0_pay2 (evB d) (evR g) (k0_pay4 (evR s)) (k0_pay5 (evB x)) (k0_pay6 (evB x)) (evB y)
      = evB fun i j => y i j + normBack 2048 width tiny x (dNormed d g s) i j := by
  unfold k0_pay2
  dsimp only
  rw [block_mod, block_inv, block_normed, ev_repeat_row, ev_mul, ev_repeat_row, ev_mul]
  exact congrArg (addf (evB y)) (back_block _ x (dNormed d g s) _ _ _ _ _ _)

section
variable (c : Dev nD) (i : grid0.Coords) (a1 a2 a3 a6 : Memref sig .tc .vmem S256x2048 .f32) (a4 a5 : Memref sig .tc .vmem S1x2048 .f32) (a7 : Memref sig .tc .vmem S8x2048 .f32)
  (w1 : a1.IsWhole) (w2 : a2.IsWhole) (w3 : a3.IsWhole) (w4 : a4.IsWhole) (w5 : a5.IsWhole) (w6 : a6.IsWhole) (w7 : a7.IsWhole)
  (d x y g s z : EMat)

open kernelRun0_A.sl in
theorem out_A_5 (hc) : out0_A_5 (F := Ideal) c i a1 w1 a2 w2 a3 w3 a4 w4 a5 w5 a6 w6 a7 w7 hc
    (evB d) (evB x) (evB y) (evR g) (evR s) = evB fun i j => y i j + normBack 2048 width tiny x (dNormed d g s) i j := by
  unfold out0_A_5 kernelRun0_A
  dsimp only
  refine (View.read_writes_full _ _ _ _ []).trans ?_
  unfold r r_1 r_2 r_3 r_4
  rw [load_all, load_all, load_all, load_all, load_all]
  exact block_back d x y g s

open kernelRun0_B.sl in
theorem out_B_5 (hc) (w) : out0_B_5 (F := Ideal) c i a1 w1 a2 w2 a3 w3 a4 w4 a5 w5 a6 w6 a7 w7 hc
    (evB d) (evB x) (evB y) (evR g) (evR s) w = evB fun i j => y i j + normBack 2048 width tiny x (dNormed d g s) i j := by
  unfold out0_B_5 kernelRun0_B
  dsimp only
  refine (View.read_writes_full _ _ _ _ []).trans ?_
  unfold r r_1 r_2 r_3 r_4
  rw [load_all, load_all, load_all, load_all, load_all]
  exact block_back d x y g s

open kernelRun0_A.sl in
theorem out_A_6 (hc) : out0_A_6 (F := Ideal) c i a1 w1 a2 w2 a3 w3 a4 w4 a5 w5 a6 w6 a7 w7 hc
    (evB d) (evB x) (evB y) (evR g) (evR s) = evS (sums 256 (modParts d (normed 2048 width tiny x) g s)) := by
  unfold out0_A_6 kernelRun0_A
  dsimp only
  unfold v34 H6_3 r_6 r_5 v26 r_2 H6_2
  rw [load_all, load_all, load_all, load_all]
  have l0 : Leaves H6_1 fun _ _ => 0 := leaves_zeros _ _ _ rfl
  have e0 : v20 (F := Ideal) c a7 = evR (off 0 0 fun _ _ => 0) := leaves_load 0 _ l0 _
  rw [e0, block_shift]
  have l1 := leaves_row 0 inb_S8x2048_S1x2048_0_0 l0 fun i j => off 0 0 (fun _ _ => 0) i j + ∑ k ∈ Finset.range 256, d k j
  rw [leaves_load 1 inb_S8x2048_S1x2048_1_0 l1, row_setRow (by decide), block_scale]
  have l2 := leaves_row 1 inb_S8x2048_S1x2048_1_0 l1 fun i j => off 1 0 (fun _ _ => 0) i j
    + ∑ k ∈ Finset.range 256, d k j * normed 2048 width tiny x k j * g 0 j
  rw [leaves_load 2 inb_S8x2048_S1x2048_2_0 l2, row_setRow (by decide), row_setRow (by decide), block_gain]
  refine ((leaves_row 2 inb_S8x2048_S1x2048_2_0 l2 _).read VO0_6 _).trans ((three_rows _ _ _ _ _).trans ?_)
  exact ev_congr fun _ _ _ _ => zero_add _

open kernelRun0_B.sl in
theorem out_B_6 (hc) : out0_B_6 (F := Ideal) c i a1 w1 a2 w2 a3 w3 a4 w4 a5 w5 a6 w6 a7 w7 hc
    (evB d) (evB x) (evB y) (evR g) (evR s) (evS z) = evS fun k j => z k j + sums 256 (modParts d (normed 2048 width tiny x) g s) k j := by
  unfold out0_B_6 kernelRun0_B
  dsimp only
  unfold v34 r_6 r_5 v26 r_2
  have hz := w7.read_unread (Val := Elt Ideal) (evS z)
  rw [load_all, load_all, load_all, load_all, load_row _ _ 0 _ z hz, load_row _ _ 1 _ z hz, load_row _ _ 2 _ z hz, block_shift, block_scale, block_gain]
  exact (read_set_row _ _ 2 _ _ _ _ (read_set_row _ _ 1 _ _ _ _ (read_set_row _ _ 0 _ [] _ _ hz _ rfl) _ rfl) _ rfl).trans (three_rows _ _ _ _ _)
end

/-! ## The arrays -/

theorem idx : ∀ t : Fin cfg0.N, win0_0.index t = ![t.val, 0] ∧ win0_1.index t = ![t.val, 0] ∧ win0_2.index t = ![t.val, 0] ∧ win0_3.index t = ![0, 0]
    ∧ win0_4.index t = ![0, 1] ∧ win0_5.index t = ![t.val, 0] ∧ win0_6.index t = ![0, 0] := by decide +kernel

section
variable (m : Mem nD τ sig) (c : Dev nD) (D X Y G A : EMat)

theorem blk_0 (hD : V m c main_arg0 = evT D) (t : Fin cfg0.N) : iblk m c 0 t = evB (off (256 * t.val) 0 D) :=
  ev_block hD fun _ => by constructor <;> blk_simp [(idx t).1] <;> simp <;> ring

theorem blk_1 (hX : V m c main_arg1 = evT X) (t : Fin cfg0.N) : iblk m c 1 t = evB (off (256 * t.val) 0 X) :=
  ev_block hX fun _ => by constructor <;> blk_simp [(idx t).2.1] <;> simp <;> ring

theorem blk_2 (hY : V m c main_arg2 = evT Y) (t : Fin cfg0.N) : iblk m c 2 t = evB (off (256 * t.val) 0 Y) :=
  ev_block hY fun _ => by constructor <;> blk_simp [(idx t).2.2.1] <;> simp <;> ring

theorem blk_3 (hG : V m c main_arg3 = evR G) (t : Fin cfg0.N) : iblk m c 3 t = evR G :=
  ev_whole hG fun _ => by constructor <;> blk_simp [(idx t).2.2.2.1]

theorem blk_4 (hA : V m c main_arg4 = evM A) (t : Fin cfg0.N) : iblk m c 4 t = evR (off 0 2048 A) :=
  ev_block hA fun _ => by constructor <;> blk_simp [(idx t).2.2.2.2.1] <;> simp <;> try ring

variable (hD : V m c main_arg0 = evT D) (hX : V m c main_arg1 = evT X) (hY : V m c main_arg2 = evT Y)
  (hG : V m c main_arg3 = evR G) (hA : V m c main_arg4 = evM A)
include hD hX hY hG hA

/-- What a point leaves: its rows of the input's gradient, and the sums over the rows so far. -/
theorem outs (t : ℕ) (h : t < cfg0.N) : outsAt0 m c t h
    = (evB (off (256 * t) 0 fun i j => Y i j + normBack 2048 width tiny X (dNormed D G (off 0 2048 A)) i j),
      evS (sums (256 * (t + 1)) (modParts D (normed 2048 width tiny X) G (off 0 2048 A)))) := by
  have hN : cfg0.N = 16 := N_0
  induction t with
  | zero =>
    rw [outsAt0_A m c ⟨0, h⟩ rfl, blk_0 m c D hD, blk_1 m c X hX, blk_2 m c Y hY, blk_3 m c G hG, blk_4 m c A hA, out_A_5, out_A_6, dNormed_off, normBack_off, normed_off]
    refine congrArg₂ Prod.mk rfl (ev_congr fun k _ j _ => ?_)
    show sums 256 (modParts (off (256 * 0) 0 D) _ _ _) k j = _
    unfold sums
    refine Finset.sum_congr rfl fun i _ => ?_
    rw [modParts_off, off_zero]
  | succ t ih =>
    have hz : ¬ (t + 1) % 16 = 0 := by omega
    rw [outsAt0_B m c ⟨t + 1, h⟩ hz]
    simp only [Nat.add_sub_cancel]
    rw [ih (by omega), blk_0 m c D hD, blk_1 m c X hX, blk_2 m c Y hY, blk_3 m c G hG, blk_4 m c A hA, out_B_5, out_B_6, dNormed_off, normBack_off, normed_off]
    refine congrArg₂ Prod.mk rfl (ev_congr fun k _ j _ => ?_)
    show sums (256 * (t + 1)) _ k j + sums 256 (modParts (off (256 * (t + 1)) 0 D) _ _ _) k j = _
    rw [Nat.mul_succ 256 (t + 1), sums_add]
    refine congrArg (_ + ·) (Finset.sum_congr rfl fun i _ => ?_)
    rw [modParts_off]

/-- The input's gradient. -/
theorem array_5 : (dats m 0 c).arrAt 5 cfg0.N = evT fun i j => Y i j + normBack 2048 width tiny X (dNormed D G (off 0 2048 A)) i j := by
  refine (dats m 0 c).arrAt_eq_of_covers 5 _ (by decide +kernel) fun t _ y => ?_
  blk_simp
  rw [after0_5, outs m c D X Y G A hD hX hY hG hA]
  dsimp only
  generalize (fun i j => Y i j + normBack 2048 width tiny X (dNormed D G (off 0 2048 A)) i j) = E
  exact (congrFun (ev_block rfl fun _ => by constructor <;> blk_simp [(idx t).2.2.2.2.2.1] <;> simp <;> ring) y).symm

/-- The sums. -/
theorem array_6 : (dats m 0 c).arrAt 6 cfg0.N = evS (sums 4096 (modParts D (normed 2048 width tiny X) G (off 0 2048 A))) := by
  refine (dats m 0 c).arrAt_eq_of_covers 6 _ (by decide +kernel) fun t hf y => ?_
  have h15 : t.val % 16 = 15 := (flush0_6 t).1 hf
  have ht : t.val = 15 := by
    have := lt_of_lt_of_eq t.isLt (show cfg0.N = 16 from N_0)
    omega
  blk_simp
  rw [after0_6, outs m c D X Y G A hD hX hY hG hA, ht]
  dsimp only
  exact (congrFun (ev_whole rfl fun _ => by constructor <;> blk_simp [(idx t).2.2.2.2.2.2]) y).symm
end

/-- The two arrays in the words of the arguments. -/
def vals (D X Y : FVec Ideal ⟨2, ![4096, 2048]⟩ .f32) (G : FVec Ideal ⟨2, ![1, 2048]⟩ .f32) (A : FVec Ideal ⟨2, ![1, 12288]⟩ .f32) :
    FVec Ideal ⟨2, ![4096, 2048]⟩ .f32 × FVec Ideal ⟨2, ![8, 2048]⟩ .f32 :=
  (evT (fun i j => ofv Y i j + normBack 2048 width tiny (ofv X)
      (dNormed (ofv D) (ofv G) (off 0 2048 (ofv A))) i j),
    evS (sums 4096 (modParts (ofv D) (normed 2048 width tiny (ofv X)) (ofv G) (off 0 2048 (ofv A)))))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3)) (m (c.tc.loc main_arg4))
      r.2.mem (c.tc.loc main_v0_0) = v.1
      ∧ r.2.mem (c.tc.loc main_v0_1) = v.2
      ∧ Kept m r.2.mem c main_arg0 ∧ Kept m r.2.mem c main_arg1 ∧ Kept m r.2.mem c main_arg2 ∧ Kept m r.2.mem c main_arg3 ∧ Kept m r.2.mem c main_arg4 :=
  (θ_run defs _ _).mono (fun _ h c => ⟨(h c).1.trans (array_5 m c _ _ _ _ _ of_ofv of_ofv of_ofv of_ofv of_ofv),
    (h c).2.1.trans (array_6 m c _ _ _ _ _ of_ofv of_ofv of_ofv of_ofv of_ofv), (h c).2.2⟩) (Value.run_blocks m ρ)

end Norm1Bwd
end Cert.Mm
-- ==== Proof.Norm1BwdRef.lean ====
/-
  What the reference of the first normalisation's gradient computes: the gradient of the input and the sums over the rows, equal to those of the call.
-/
module

public import proofs.«01_k».proof.Proof.NormHost
public import proofs.«01_k».proof.Proof.Norm1BwdArray
public import proofs.«01_k».proof.Proof.Gen.Norm1BwdRefIdeal.Run
public import proofs.«01_k».proof.Proof.Gen.Norm1BwdRefIdeal.Read

@[expose] public section

noncomputable section

namespace Cert.Mm

open Idealize.ShloMosaic
open ValueIdx TcCoe Idealize.SL.Sem
open Sb (ext2)

namespace Norm1Bwd
open Norm1BwdRefIdeal Norm1BwdRefIdeal.Gen Norm1BwdRefIdeal.Read
variable (D X Y G A : EMat)

theorem ref_mean : val_main_v8 (F := Ideal) (ev 4096 2048 .f32 X)
    = ev 4096 1 .f32 fun i _ => Ideal.div (∑ k ∈ Finset.range 2048, X i k * X i k) (Ideal.ofBits .f32 0x45000000#32) + Ideal.ofBits .f32 0x358637BD#32 :=
  mean_host _ _ X reducesTo_S4096x2048_S4096_d1 h_S_ (by decide) bcast_S4096_S4096x1_0 bcast_S_S4096x1

theorem ref_inv : val_main_v9 (F := Ideal) (ev 4096 2048 .f32 X) = ev 4096 1 .f32 fun i _ => invRms 2048 width tiny X i := by
  unfold val_main_v9
  rw [ref_mean, host_rsqrt]
  rfl

theorem ref_normed : val_main_v14 (F := Ideal) (ev 4096 2048 .f32 X) = ev 4096 2048 .f32 (normed 2048 width tiny X) := by
  unfold val_main_v14 val_main_v13
  rw [ref_inv]
  exact normed_host X bcast_S4096x1_S4096x2048_0_1

theorem ref_mod : val_main_v18 (F := Ideal) (ev 1 12288 .f32 A) = ev 1 2048 .f32 fun i j => 1 + off 0 2048 A i j :=
  mod_host (off 0 2048 A) bcast_S_S1x2048

theorem ref_rows : val_main_v23 (F := Ideal) (ev 4096 2048 .f32 D) = ev 4096 2048 .f32 D := shapeCast_self _ _

theorem ref_scaled : val_main_v30 (F := Ideal) (ev 4096 2048 .f32 D) (ev 1 12288 .f32 A) = ev 4096 2048 .f32 fun i j => D i j * (1 + off 0 2048 A 0 j) := by
  unfold val_main_v30 val_main_v29
  rw [ref_mod, ref_rows]
  exact gained_host D _ bcast_S1x2048_S4096x2048_0_1

theorem ref_d : val_main_v35 (F := Ideal) (ev 4096 2048 .f32 D) (ev 1 2048 .f32 G) (ev 1 12288 .f32 A) = ev 4096 2048 .f32 (dNormed D G (off 0 2048 A)) := by
  unfold val_main_v35 val_main_v34
  rw [ref_scaled]
  exact (gained_host _ G bcast_S1x2048_S4096x2048_0_1).trans (ev_congr fun i _ j _ => mul_right_comm _ _ _)

theorem ref_coef : val_main_v45 (F := Ideal) (ev 4096 2048 .f32 D) (ev 4096 2048 .f32 X) (ev 1 2048 .f32 G) (ev 1 12288 .f32 A) = ev 4096 2048 .f32 fun i _ =>
    normCoef 2048 width tiny (Ideal.ofBits .f32 0xBF000000#32) X (dNormed D G (off 0 2048 A)) i := by
  unfold val_main_v45 val_main_v44 val_main_v43 val_main_v41 val_main_v38 val_main_v37 val_main_v36 val_main_v12 val_main_v10
  rw [ref_d, ref_inv, ref_mean]
  exact coef_host _ _ _ X _ reducesTo_S4096x2048_S4096_d1 h_S_ (by decide) shapeCasts_S4096_S4096x1 bcast_S_S4096x1 reducesTo_S4096x1_S4096_d1 (by decide) bcast_S4096_S4096x2048_0

/-- The gradient of the input. -/
theorem ref_5 : val_main_v50 (F := Ideal) (ev 4096 2048 .f32 D) (ev 4096 2048 .f32 X) (ev 4096 2048 .f32 Y) (ev 1 2048 .f32 G) (ev 1 12288 .f32 A)
    = ev 4096 2048 .f32 fun i j => Y i j + normBack 2048 width tiny X (dNormed D G (off 0 2048 A)) i j := by
  unfold val_main_v50 val_main_v49 val_main_v48 val_main_v47 val_main_v46 val_main_v40 val_main_v39
  rw [ref_d, ref_inv, ref_coef]
  refine (congrArg (addf (ev 4096 2048 .f32 Y)) (back_host X _ bcast_S4096x1_S4096x2048_0_1)).trans (ev_congr fun i _ j _ => congrArg (Y i j + ·) ?_)
  rw [width, ofBits_2048, ofBits_neg_half, tiny, eps_eq.1]
  exact (normBack_eq 2048 (by norm_num) eps_eq.2 _ _ _ _).symm

/-- The sums for the shift. -/
theorem ref_shift : val_main_v25 (F := Ideal) (ev 4096 2048 .f32 D) = ev 1 2048 .f32 fun _ j => ∑ k ∈ Finset.range 4096, D k j :=
  sum_host D reducesTo_S4096x2048_S2048_d0 h_S_ (by decide) shapeCasts_S2048_S1x2048

/-- The sums for the scale. -/
theorem ref_scale : val_main_v28 (F := Ideal) (ev 4096 2048 .f32 D) (ev 4096 2048 .f32 X) (ev 1 2048 .f32 G) = ev 1 2048 .f32 fun _ j => ∑ k ∈ Finset.range 4096,
    normed 2048 width tiny X k j * G 0 j * D k j := by
  unfold val_main_v28 val_main_v27 val_main_v26 val_main_v16 val_main_v15
  rw [ref_normed, ref_rows]
  refine Eq.trans ?_ (sum_host _ reducesTo_S4096x2048_S2048_d0 h_S_ (by decide) shapeCasts_S2048_S1x2048)
  exact congrArg (fun z => shapeCast S1x2048 (Host.reduceAdd (mulf z (ev 4096 2048 .f32 D)) (constant S_ .f32 0x00000000#32) reducesTo_S4096x2048_S2048_d0 h_S_) shapeCasts_S2048_S1x2048)
    (gained_host _ G bcast_S1x2048_S4096x2048_0_1)

/-- The sums for the gain. -/
theorem ref_gain : val_main_v33 (F := Ideal) (ev 4096 2048 .f32 D) (ev 4096 2048 .f32 X) (ev 1 12288 .f32 A) = ev 1 2048 .f32 fun _ j => ∑ k ∈ Finset.range 4096,
    normed 2048 width tiny X k j * (D k j * (1 + off 0 2048 A 0 j)) := by
  unfold val_main_v33 val_main_v32 val_main_v31
  rw [ref_normed, ref_scaled]
  exact sum_host (fun k j => normed 2048 width tiny X k j * (D k j * (1 + off 0 2048 A 0 j))) reducesTo_S4096x2048_S2048_d0 h_S_ (by decide) shapeCasts_S2048_S1x2048

/-- The sums. -/
theorem ref_6 : val_main_v52 (F := Ideal) (ev 4096 2048 .f32 D) (ev 4096 2048 .f32 X) (ev 1 2048 .f32 G) (ev 1 12288 .f32 A)
    = ev 8 2048 .f32 (sums 4096 (modParts D (normed 2048 width tiny X) G (off 0 2048 A))) := by
  have h3 : val_main_v51 (F := Ideal) = ev 5 2048 .f32 fun _ _ => 0 := (host_fill bcast_S_S5x2048 _).trans (ev_congr fun _ _ _ _ => host_zero _)
  unfold val_main_v52
  rw [ref_shift, ref_scale, ref_gain, h3]
  refine ext2 fun r c => ?_
  rw [ev_apply]
  unfold sums modParts
  match r with
  | ⟨0, hr⟩ => exact (row_at _ _ _ c _ 1 (by simp) rfl (by simp) rfl).trans (Finset.sum_congr rfl fun k _ => rfl)
  | ⟨1, hr⟩ =>
    refine (row_at _ _ _ c _ 1 (by simp) rfl (by simp) rfl).trans (Finset.sum_congr rfl fun k _ => ?_)
    exact (mul_comm _ _).trans (mul_assoc _ _ _).symm
  | ⟨2, hr⟩ =>
    refine (row_at _ _ _ c _ 1 (by simp) rfl (by simp) rfl).trans (Finset.sum_congr rfl fun k _ => ?_)
    exact (mul_left_comm _ _ _).trans (mul_assoc _ _ _).symm
  | ⟨k + 3, hr⟩ =>
    refine (row_below _ _ _ c _ 5 3 (by simp) rfl (by simp) (by simp; omega) rfl).trans ?_
    simp

/-- The two results in the words of the arguments. -/
theorem ref_vals (D X Y : FVec Ideal ⟨2, ![4096, 2048]⟩ .f32) (G : FVec Ideal ⟨2, ![1, 2048]⟩ .f32) (A : FVec Ideal ⟨2, ![1, 12288]⟩ .f32) :
    val_main_v50 (F := Ideal) D X Y G A = (vals D X Y G A).1 ∧ val_main_v52 (F := Ideal) D X G A = (vals D X Y G A).2 := by
  have e0 := ref_5 (ofv D) (ofv X) (ofv Y) (ofv G) (ofv A)
  have e1 := ref_6 (ofv D) (ofv X) (ofv G) (ofv A)
  rw [ev_ofv, ev_ofv, ev_ofv, ev_ofv, ev_ofv] at e0
  rw [ev_ofv, ev_ofv, ev_ofv, ev_ofv] at e1
  exact ⟨e0, e1⟩
end Norm1Bwd

end Cert.Mm
-- ==== Proof.Norm2BwdArray.lean ====
/-
  The gradient of the second normalisation, its modulation and the gated branch added before it, as its call leaves it: the gradients of the sum and
  of the branch row by row, and the sums over the rows of the gradients of the shift, of the scale, of the gain and of the gate, gathered a block of
  256 rows at a time in a buffer of eight rows.
-/
module

public import proofs.«01_k».proof.Proof.Norm1BwdArray
public import proofs.«01_k».proof.Proof.Gen.Norm2BwdIdeal.Value

@[expose] public section

noncomputable section

namespace Cert.Mm

open Idealize.ShloMosaic
open ValueIdx TcCoe Idealize.SL.Sem
open Sb (ext2 ld_all exists_ix2)

/-! ## The formulas -/

/-- The gradient of the sum: what came to it directly, and through the normalisation. -/
def dSum (y x d g s : EMat) : EMat := fun i j =>
  y i j + normBack 2048 width tiny x (dNormed d g s) i j

/-- The terms of the sums: the first normalisation's three, and the gradient of the sum times the branch. -/
def gateParts (d n g s w o : EMat) (k : ℕ) : EMat := if k = 3 then fun i j => w i j * o i j else modParts d n g s k

theorem dSum_off (r : ℕ) (y x d g s : EMat) : dSum (off r 0 y) (off r 0 x) (off r 0 d) g s = off r 0 (dSum y x d g s) := by
  unfold dSum
  rw [dNormed_off, normBack_off]
  rfl
theorem gateParts_off (r : ℕ) (d n g s w o : EMat) (k : ℕ) : gateParts (off r 0 d) (off r 0 n) g s (off r 0 w) (off r 0 o) k = off r 0 (gateParts d n g s w o k) := by
  unfold gateParts
  split
  · rfl
  · exact modParts_off r d n g s k

/-- A fourth row added to. -/
theorem fourth_row (d n g s w o z : EMat) {b : ℕ} :
    ev 8 b .f32 (setRow 3 (fun i j => off 3 0 z i j + ∑ k ∈ Finset.range 256, w k j * o k j) fun k j => z k j + sums 256 (modParts d n g s) k j)
      = ev 8 b .f32 fun k j => z k j + sums 256 (gateParts d n g s w o) k j :=
  ev_congr fun k _ j _ => by
    unfold setRow sums gateParts off
    by_cases h : k = 3
    · subst h; simp
    · simp [h]

namespace Norm2Bwd
open Norm2BwdIdeal Norm2BwdIdeal.Gen

/-! ## A block -/

theorem block_inv (x : EMat) : k0_pay4 (evB x) = ev 256 1 .f32 fun i _ => invRms 2048 width tiny x i :=
  Norm1Bwd.block_inv x

theorem block_shift (d z : EMat) : k0_pay7 (evB d) (evR z) = evR fun i j => z i j + ∑ k ∈ Finset.range 256, d k j :=
  Norm1Bwd.block_shift d z

theorem block_scale (d x g z : EMat) : k0_pay8 (evB d) (evB x) (evR g) (evR z)
    = evR fun i j => z i j + ∑ k ∈ Finset.range 256, d k j * normed 2048 width tiny x k j * g 0 j :=
  Norm1Bwd.block_scale d x g z

theorem block_gain (d x s z : EMat) : k0_pay9 (k0_pay3 (evR s)) (k0_pay6 (evB d) (evB x)) (evR z)
    = evR fun i j => z i j + ∑ k ∈ Finset.range 256, d k j * normed 2048 width tiny x k j * (1 + s 0 j) :=
  Norm1Bwd.block_gain d x s z

theorem block_sum (d x y g s : EMat) :
    k0_pay10 (evB d) (evR g) (k0_pay3 (evR s)) (k0_pay4 (evB x)) (k0_pay5 (evB x)) (evB y)
      = evB (dSum y x d g s) :=
  Norm1Bwd.block_back d x y g s

theorem block_gate (d x y g s z o : EMat) :
    k0_pay11 (evB d) (evR g) (k0_pay3 (evR s)) (k0_pay4 (evB x)) (k0_pay5 (evB x)) (evB y)
        (evR z) (evB o)
      = evR fun i j => z i j + ∑ k ∈ Finset.range 256, dSum y x d g s k j * o k j := by
  unfold k0_pay11
  dsimp only
  rw [block_sum, ev_mul]
  exact sum_block _ z _ _ _ _ _

theorem block_branch (w t : EMat) : k0_pay1 (evB w) (k0_pay12 (evR t)) = evBb fun i j => w i j * t 0 j := by
  unfold k0_pay1 k0_pay12
  dsimp only
  rw [ev_repeat_row]
  rfl

section
variable (c : Dev nD) (i : grid0.Coords) (a1 a2 a3 a4 a8 : Memref sig .tc .vmem S256x2048 .f32) (a5 a6 a7 : Memref sig .tc .vmem S1x2048 .f32) (a9 : Memref sig .tc .vmem S256x2048 .bf16)
  (a10 : Memref sig .tc .vmem S8x2048 .f32) (w1 : a1.IsWhole) (w2 : a2.IsWhole) (w3 : a3.IsWhole) (w4 : a4.IsWhole) (w5 : a5.IsWhole) (w6 : a6.IsWhole)
  (w7 : a7.IsWhole) (w8 : a8.IsWhole) (w9 : a9.IsWhole) (w10 : a10.IsWhole)
  (d x y o g s t z : EMat)

open kernelRun0_A.sl in
theorem out_A_7 (hc) : out0_A_7 (F := Ideal) c i a1 w1 a2 w2 a3 w3 a4 w4 a5 w5 a6 w6 a7 w7 a8 w8 a9 w9 a10 w10 hc
    (evB d) (evB x) (evB y) (evB o) (evR g) (evR s) (evR t) = evB (dSum y x d g s) := by
  unfold out0_A_7 kernelRun0_A
  dsimp only
  refine (View.read_writes_full _ _ _ _ []).trans ?_
  unfold r r_1 r_2 r_3 r_4
  rw [load_all, load_all, load_all, load_all, load_all]
  exact block_sum d x y g s

open kernelRun0_B.sl in
theorem out_B_7 (hc) (w) : out0_B_7 (F := Ideal) c i a1 w1 a2 w2 a3 w3 a4 w4 a5 w5 a6 w6 a7 w7 a8 w8 a9 w9 a10 w10 hc
    (evB d) (evB x) (evB y) (evB o) (evR g) (evR s) (evR t) w = evB (dSum y x d g s) := by
  unfold out0_B_7 kernelRun0_B
  dsimp only
  refine (View.read_writes_full _ _ _ _ []).trans ?_
  unfold r r_1 r_2 r_3 r_4
  rw [load_all, load_all, load_all, load_all, load_all]
  exact block_sum d x y g s

open kernelRun0_A.sl in
theorem out_A_8 (hc) : out0_A_8 (F := Ideal) c i a1 w1 a2 w2 a3 w3 a4 w4 a5 w5 a6 w6 a7 w7 a8 w8 a9 w9 a10 w10 hc
    (evB d) (evB x) (evB y) (evB o) (evR g) (evR s) (evR t) = evBb fun i j => dSum y x d g s i j * t 0 j := by
  unfold out0_A_8 kernelRun0_A
  dsimp only
  refine (View.read_writes_full _ _ _ _ []).trans ?_
  unfold r_7 r_8 r r_1 r_2 r_3 r_4
  rw [load_all, load_all, load_all, load_all, load_all, load_all, block_sum]
  exact block_branch _ t

open kernelRun0_B.sl in
theorem out_B_8 (hc) (w) : out0_B_8 (F := Ideal) c i a1 w1 a2 w2 a3 w3 a4 w4 a5 w5 a6 w6 a7 w7 a8 w8 a9 w9 a10 w10 hc
    (evB d) (evB x) (evB y) (evB o) (evR g) (evR s) (evR t) w = evBb fun i j => dSum y x d g s i j * t 0 j := by
  unfold out0_B_8 kernelRun0_B
  dsimp only
  refine (View.read_writes_full _ _ _ _ []).trans ?_
  unfold r_7 r_8 r r_1 r_2 r_3 r_4
  rw [load_all, load_all, load_all, load_all, load_all, load_all, block_sum]
  exact block_branch _ t

open kernelRun0_A.sl in
theorem out_A_9 (hc) : out0_A_9 (F := Ideal) c i a1 w1 a2 w2 a3 w3 a4 w4 a5 w5 a6 w6 a7 w7 a8 w8 a9 w9 a10 w10 hc
    (evB d) (evB x) (evB y) (evB o) (evR g) (evR s) (evR t) = evS (sums 256 (gateParts d (normed 2048 width tiny x) g s (dSum y x d g s) o)) := by
  unfold out0_A_9 kernelRun0_A
  dsimp only
  unfold v59 H9_4 v34 H9_3 r_6 r_5 v26 H9_2
    r r_1 r_2 r_3 r_4
  rw [load_all, load_all, load_all, load_all, load_all, load_all]
  have l0 : Leaves H9_1 fun _ _ => 0 := leaves_zeros _ _ _ rfl
  have e0 : v20 (F := Ideal) c a10 = evR (off 0 0 fun _ _ => 0) := leaves_load 0 _ l0 _
  rw [e0, block_shift]
  have l1 := leaves_row 0 inb_S8x2048_S1x2048_0_0 l0 fun i j => off 0 0 (fun _ _ => 0) i j + ∑ k ∈ Finset.range 256, d k j
  rw [leaves_load 1 inb_S8x2048_S1x2048_1_0 l1, row_setRow (by decide), block_scale]
  have l2 := leaves_row 1 inb_S8x2048_S1x2048_1_0 l1 fun i j => off 1 0 (fun _ _ => 0) i j
    + ∑ k ∈ Finset.range 256, d k j * normed 2048 width tiny x k j * g 0 j
  rw [leaves_load 2 inb_S8x2048_S1x2048_2_0 l2, row_setRow (by decide), row_setRow (by decide), block_gain]
  have l3 := leaves_row 2 inb_S8x2048_S1x2048_2_0 l2 fun i j => off 2 0 (fun _ _ => 0) i j
    + ∑ k ∈ Finset.range 256, d k j * normed 2048 width tiny x k j * (1 + s 0 j)
  rw [leaves_load 3 inb_S8x2048_S1x2048_3_0 l3, row_setRow (by decide), row_setRow (by decide), row_setRow (by decide), block_gate]
  refine ((leaves_row 3 inb_S8x2048_S1x2048_3_0 l3 _).read VO0_9 _).trans (Eq.trans ?_ ((fourth_row _ _ _ _ _ _ _).trans (ev_congr fun _ _ _ _ => zero_add _)))
  exact congrArg (fun w => evS (setRow 3 _ w)) (three_rows_eq d _ g s fun _ _ => 0)

open kernelRun0_B.sl in
theorem out_B_9 (hc) : out0_B_9 (F := Ideal) c i a1 w1 a2 w2 a3 w3 a4 w4 a5 w5 a6 w6 a7 w7 a8 w8 a9 w9 a10 w10 hc
    (evB d) (evB x) (evB y) (evB o) (evR g) (evR s) (evR t) (evS z) = evS fun k j => z k j + sums 256 (gateParts d (normed 2048 width tiny x) g s (dSum y x d g s) o) k j := by
  unfold out0_B_9 kernelRun0_B
  dsimp only
  unfold v59 v34 r_6 r_5 v26 r r_1 r_2
    r_3 r_4
  have hz := w10.read_unread (Val := Elt Ideal) (evS z)
  rw [load_all, load_all, load_all, load_all, load_all, load_all, load_row _ _ 0 _ z hz, load_row _ _ 1 _ z hz, load_row _ _ 2 _ z hz, load_row _ _ 3 _ z hz,
    block_shift, block_scale, block_gain, block_gate]
  refine (read_set_row _ _ 3 _ _ _ _ ((read_set_row _ _ 2 _ _ _ _ (read_set_row _ _ 1 _ _ _ _ (read_set_row _ _ 0 _ [] _ _ hz _ rfl) _ rfl) _ rfl).trans
    (three_rows _ _ _ _ _)) _ rfl).trans (fourth_row _ _ _ _ _ _ _)
end

/-! ## The arrays -/

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 4] ∧ win0_6.index t = ![0, 2] ∧ win0_7.index t = ![t.val, 0] ∧ win0_8.index t = ![t.val, 0] ∧ win0_9.index t = ![0, 0] := by decide +kernel

section
variable (m : Mem nD τ sig) (c : Dev nD) (D X Y O G A : EMat)

theorem blk_0 (hD : V m c main_arg0 = evT D) (t : Fin cfg0.N) : iblk m c 0 t = evB (off (256 * t.val) 0 D) :=
  ev_block hD fun _ => by constructor <;> blk_simp [(idx t).1] <;> simp <;> ring

theorem blk_1 (hX : V m c main_arg1 = evT X) (t : Fin cfg0.N) : iblk m c 1 t = evB (off (256 * t.val) 0 X) :=
  ev_block hX fun _ => by constructor <;> blk_simp [(idx t).2.1] <;> simp <;> ring

theorem blk_2 (hY : V m c main_arg2 = evT Y) (t : Fin cfg0.N) : iblk m c 2 t = evB (off (256 * t.val) 0 Y) :=
  ev_block hY fun _ => by constructor <;> blk_simp [(idx t).2.2.1] <;> simp <;> ring

theorem blk_3 (hO : V m c main_arg3 = evT O) (t : Fin cfg0.N) : iblk m c 3 t = evB (off (256 * t.val) 0 O) :=
  ev_block hO fun _ => by constructor <;> blk_simp [(idx t).2.2.2.1] <;> simp <;> ring

theorem blk_4 (hG : V m c main_arg4 = evR G) (t : Fin cfg0.N) : iblk m c 4 t = evR G :=
  ev_whole hG fun _ => by constructor <;> blk_simp [(idx t).2.2.2.2.1]

theorem blk_5 (hA : V m c main_arg5 = evM A) (t : Fin cfg0.N) : iblk m c 5 t = evR (off 0 8192 A) :=
  ev_block hA fun _ => by constructor <;> blk_simp [(idx t).2.2.2.2.2.1] <;> simp <;> try ring

theorem blk_6 (hA : V m c main_arg5 = evM A) (t : Fin cfg0.N) : iblk m c 6 t = evR (off 0 4096 A) :=
  ev_block hA fun _ => by constructor <;> blk_simp [(idx t).2.2.2.2.2.2.1] <;> simp <;> try ring

variable (hD : V m c main_arg0 = evT D) (hX : V m c main_arg1 = evT X) (hY : V m c main_arg2 = evT Y)
  (hO : V m c main_arg3 = evT O) (hG : V m c main_arg4 = evR G) (hA : V m c main_arg5 = evM A)
include hD hX hY hO hG hA

/-- What a point leaves: its rows of both gradients, and the sums over the rows so far. -/
theorem outs (t : ℕ) (h : t < cfg0.N) : outsAt0 m c t h
    = (evB (off (256 * t) 0 (dSum Y X D G (off 0 8192 A))),
      evBb (off (256 * t) 0 fun i j => dSum Y X D G (off 0 8192 A) i j * off 0 4096 A 0 j),
      evS (sums (256 * (t + 1)) (gateParts D (normed 2048 width tiny X) G (off 0 8192 A)
        (dSum Y X D G (off 0 8192 A)) O))) := by
  have hN : cfg0.N = 16 := N_0
  induction t with
  | zero =>
    rw [outsAt0_A m c ⟨0, h⟩ rfl, blk_0 m c D hD, blk_1 m c X hX, blk_2 m c Y hY, blk_3 m c O hO, blk_4 m c G hG, blk_5 m c A hA, blk_6 m c A hA,
      out_A_7, out_A_8, out_A_9, dSum_off, normed_off]
    refine congrArg₂ Prod.mk rfl (congrArg₂ Prod.mk (ev_congr fun i _ j _ => by simp [off]) (ev_congr fun k _ j _ => ?_))
    show sums 256 (gateParts (off (256 * 0) 0 D) _ _ _ _ _) k j = _
    unfold sums
    refine Finset.sum_congr rfl fun i _ => ?_
    rw [gateParts_off, off_zero]
  | succ t ih =>
    have hz : ¬ (t + 1) % 16 = 0 := by omega
    rw [outsAt0_B m c ⟨t + 1, h⟩ hz]
    simp only [Nat.add_sub_cancel]
    rw [ih (by omega), blk_0 m c D hD, blk_1 m c X hX, blk_2 m c Y hY, blk_3 m c O hO, blk_4 m c G hG, blk_5 m c A hA, blk_6 m c A hA,
      out_B_7, out_B_8, out_B_9, dSum_off, normed_off]
    refine congrArg₂ Prod.mk rfl (congrArg₂ Prod.mk (ev_congr fun i _ j _ => by simp [off]) (ev_congr fun k _ j _ => ?_))
    show sums (256 * (t + 1)) _ k j + sums 256 (gateParts (off (256 * (t + 1)) 0 D) _ _ _ _ _) k j = _
    rw [Nat.mul_succ 256 (t + 1), sums_add]
    refine congrArg (_ + ·) (Finset.sum_congr rfl fun i _ => ?_)
    rw [gateParts_off]

/-- The gradient of the sum. -/
theorem array_7 : (dats m 0 c).arrAt 7 cfg0.N = evT (dSum Y X D G (off 0 8192 A)) := by
  refine (dats m 0 c).arrAt_eq_of_covers 7 _ (by decide +kernel) fun t _ y => ?_
  blk_simp
  rw [after0_7, outs m c D X Y O G A hD hX hY hO hG hA]
  dsimp only
  generalize dSum Y X D G (off 0 8192 A) = E
  exact (congrFun (ev_block rfl fun _ => by constructor <;> blk_simp [(idx t).2.2.2.2.2.2.2.1] <;> simp <;> ring) y).symm

/-- The gradient of the branch. -/
theorem array_8 : (dats m 0 c).arrAt 8 cfg0.N = evTb fun i j => dSum Y X D G (off 0 8192 A) i j * off 0 4096 A 0 j := by
  refine (dats m 0 c).arrAt_eq_of_covers 8 _ (by decide +kernel) fun t _ y => ?_
  blk_simp
  rw [after0_8, outs m c D X Y O G A hD hX hY hO hG hA]
  dsimp only
  generalize (fun i j => dSum Y X D G (off 0 8192 A) i j * off 0 4096 A 0 j) = E
  exact (congrFun (ev_block rfl fun _ => by constructor <;> blk_simp [(idx t).2.2.2.2.2.2.2.2.1] <;> simp <;> ring) y).symm

/-- The sums. -/
theorem array_9 : (dats m 0 c).arrAt 9 cfg0.N = evS (sums 4096 (gateParts D (normed 2048 width tiny X) G (off 0 8192 A)
        (dSum Y X D G (off 0 8192 A)) O)) := by
  refine (dats m 0 c).arrAt_eq_of_covers 9 _ (by decide +kernel) fun t hf y => ?_
  have h15 : t.val % 16 = 15 := (flush0_9 t).1 hf
  have ht : t.val = 15 := by
    have := lt_of_lt_of_eq t.isLt (show cfg0.N = 16 from N_0)
    omega
  blk_simp
  rw [after0_9, outs m c D X Y O G A hD hX hY hO hG hA, ht]
  dsimp only
  exact (congrFun (ev_whole rfl fun _ => by constructor <;> blk_simp [(idx t).2.2.2.2.2.2.2.2.2]) y).symm
end

/-- The three arrays in the words of the arguments. -/
def vals (D X Y O : FVec Ideal ⟨2, ![4096, 2048]⟩ .f32) (G : FVec Ideal ⟨2, ![1, 2048]⟩ .f32) (A : FVec Ideal ⟨2, ![1, 12288]⟩ .f32) :
    FVec Ideal ⟨2, ![4096, 2048]⟩ .f32 × FVec Ideal ⟨2, ![4096, 2048]⟩ .bf16 × FVec Ideal ⟨2, ![8, 2048]⟩ .f32 :=
  (evT (dSum (ofv Y) (ofv X) (ofv D) (ofv G) (off 0 8192 (ofv A))),
    evTb (fun i j => dSum (ofv Y) (ofv X) (ofv D) (ofv G) (off 0 8192 (ofv A)) i j * off 0 4096 (ofv A) 0 j),
    evS (sums 4096 (gateParts (ofv D) (normed 2048 width tiny (ofv X)) (ofv G) (off 0 8192 (ofv A))
        (dSum (ofv Y) (ofv X) (ofv D) (ofv G) (off 0 8192 (ofv A))) (ofv O))))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3)) (m (c.tc.loc main_arg4)) (m (c.tc.loc main_arg5))
      r.2.mem (c.tc.loc main_v0_0) = v.1
      ∧ r.2.mem (c.tc.loc main_v0_1) = v.2.1
      ∧ r.2.mem (c.tc.loc main_v0_2) = v.2.2
      ∧ Kept m r.2.mem c main_arg0 ∧ Kept m r.2.mem c main_arg1 ∧ Kept m r.2.mem c main_arg2 ∧ Kept m r.2.mem c main_arg3 ∧ Kept m r.2.mem c main_arg4 ∧ Kept m r.2.mem c main_arg5 :=
  (θ_run defs _ _).mono (fun _ h c => ⟨(h c).1.trans (array_7 m c _ _ _ _ _ _ of_ofv of_ofv of_ofv of_ofv of_ofv of_ofv),
    (h c).2.1.trans (array_8 m c _ _ _ _ _ _ of_ofv of_ofv of_ofv of_ofv of_ofv of_ofv),
    (h c).2.2.1.trans (array_9 m c _ _ _ _ _ _ of_ofv of_ofv of_ofv of_ofv of_ofv of_ofv), (h c).2.2.2⟩) (Value.run_blocks m ρ)

end Norm2Bwd
end Cert.Mm
-- ==== Proof.Norm2BwdRef.lean ====
/-
  What the reference of the second normalisation's gradient computes: the gradients of the sum and of the branch and the sums over the rows, equal to
  those of the call.
-/
module

public import proofs.«01_k».proof.Proof.Norm1BwdRef
public import proofs.«01_k».proof.Proof.Norm2BwdArray
public import proofs.«01_k».proof.Proof.Gen.Norm2BwdRefIdeal.Run
public import proofs.«01_k».proof.Proof.Gen.Norm2BwdRefIdeal.Read

@[expose] public section

noncomputable section

namespace Cert.Mm

open Idealize.ShloMosaic
open ValueIdx TcCoe Idealize.SL.Sem
open Sb (ext2)

namespace Norm2Bwd
open Norm2BwdRefIdeal Norm2BwdRefIdeal.Gen Norm2BwdRefIdeal.Read
variable (D X Y O G A : EMat)

theorem ref_mean : val_main_v9 (F := Ideal) (ev 4096 2048 .f32 X)
    = ev 4096 1 .f32 fun i _ => Ideal.div (∑ k ∈ Finset.range 2048, X i k * X i k) (Ideal.ofBits .f32 0x45000000#32) + Ideal.ofBits .f32 0x358637BD#32 := Norm1Bwd.ref_mean X

theorem ref_inv : val_main_v10 (F := Ideal) (ev 4096 2048 .f32 X) = ev 4096 1 .f32 fun i _ => invRms 2048 width tiny X i := Norm1Bwd.ref_inv X

theorem ref_normed : val_main_v15 (F := Ideal) (ev 4096 2048 .f32 X) = ev 4096 2048 .f32 (normed 2048 width tiny X) := Norm1Bwd.ref_normed X

theorem ref_shift : val_main_v26 (F := Ideal) (ev 4096 2048 .f32 D) = ev 1 2048 .f32 fun _ j => ∑ k ∈ Finset.range 4096, D k j := Norm1Bwd.ref_shift D

theorem ref_scale : val_main_v29 (F := Ideal) (ev 4096 2048 .f32 D) (ev 4096 2048 .f32 X) (ev 1 2048 .f32 G) = ev 1 2048 .f32 fun _ j => ∑ k ∈ Finset.range 4096,
    normed 2048 width tiny X k j * G 0 j * D k j := Norm1Bwd.ref_scale D X G

theorem ref_scaled : val_main_v31 (F := Ideal) (ev 4096 2048 .f32 D) (ev 1 12288 .f32 A) = ev 4096 2048 .f32 fun i j => D i j * (1 + off 0 8192 A 0 j) := by
  have hm : val_main_v19 (F := Ideal) (ev 1 12288 .f32 A) = ev 1 2048 .f32 fun i j => 1 + off 0 8192 A i j := mod_host (off 0 8192 A) bcast_S_S1x2048
  have hr : val_main_v24 (F := Ideal) (ev 4096 2048 .f32 D) = ev 4096 2048 .f32 D := shapeCast_self _ _
  unfold val_main_v31 val_main_v30
  rw [hm, hr]
  exact gained_host D _ bcast_S1x2048_S4096x2048_0_1

/-- The sums for the gain. -/
theorem ref_gain : val_main_v34 (F := Ideal) (ev 4096 2048 .f32 D) (ev 4096 2048 .f32 X) (ev 1 12288 .f32 A) = ev 1 2048 .f32 fun _ j => ∑ k ∈ Finset.range 4096,
    normed 2048 width tiny X k j * (D k j * (1 + off 0 8192 A 0 j)) := by
  unfold val_main_v34 val_main_v33 val_main_v32
  rw [ref_normed, ref_scaled]
  exact sum_host (fun k j => normed 2048 width tiny X k j * (D k j * (1 + off 0 8192 A 0 j)))
    reducesTo_S4096x2048_S2048_d0 h_S_ (by decide) shapeCasts_S2048_S1x2048

theorem ref_d : val_main_v36 (F := Ideal) (ev 4096 2048 .f32 D) (ev 1 2048 .f32 G) (ev 1 12288 .f32 A) = ev 4096 2048 .f32 (dNormed D G (off 0 8192 A)) := by
  unfold val_main_v36 val_main_v35
  rw [ref_scaled]
  exact (gained_host _ G bcast_S1x2048_S4096x2048_0_1).trans (ev_congr fun i _ j _ => mul_right_comm _ _ _)

theorem ref_coef : val_main_v46 (F := Ideal) (ev 4096 2048 .f32 D) (ev 4096 2048 .f32 X) (ev 1 2048 .f32 G) (ev 1 12288 .f32 A) = ev 4096 2048 .f32 fun i _ =>
    normCoef 2048 width tiny (Ideal.ofBits .f32 0xBF000000#32) X (dNormed D G (off 0 8192 A)) i := by
  unfold val_main_v46 val_main_v45 val_main_v44 val_main_v42 val_main_v39 val_main_v38 val_main_v37 val_main_v13 val_main_v11
  rw [ref_d, ref_inv, ref_mean]
  exact coef_host _ _ _ X _ reducesTo_S4096x2048_S4096_d1 h_S_ (by decide) shapeCasts_S4096_S4096x1 bcast_S_S4096x1 reducesTo_S4096x1_S4096_d1 (by decide) bcast_S4096_S4096x2048_0

/-- The gradient of the sum. -/
theorem ref_7 : val_main_v51 (F := Ideal) (ev 4096 2048 .f32 D) (ev 4096 2048 .f32 X) (ev 4096 2048 .f32 Y) (ev 1 2048 .f32 G) (ev 1 12288 .f32 A)
    = ev 4096 2048 .f32 (dSum Y X D G (off 0 8192 A)) := by
  unfold val_main_v51 val_main_v50 val_main_v49 val_main_v48 val_main_v47 val_main_v41 val_main_v40
  rw [ref_d, ref_inv, ref_coef]
  refine (congrArg (addf (ev 4096 2048 .f32 Y)) (back_host X _ bcast_S4096x1_S4096x2048_0_1)).trans (ev_congr fun i _ j _ => congrArg (Y i j + ·) ?_)
  rw [width, ofBits_2048, ofBits_neg_half, tiny, eps_eq.1]
  exact (normBack_eq 2048 (by norm_num) eps_eq.2 _ _ _ _).symm

/-- The gradient of the branch. -/
theorem ref_8 : val_main_v59 (F := Ideal) (ev 4096 2048 .f32 D) (ev 4096 2048 .f32 X) (ev 4096 2048 .f32 Y) (ev 1 2048 .f32 G) (ev 1 12288 .f32 A)
    = ev 4096 2048 .bf16 fun i j => dSum Y X D G (off 0 8192 A) i j * off 0 4096 A 0 j := by
  unfold val_main_v59 val_main_v55 val_main_v54
  rw [ref_7]
  refine (congrArg (fun z => truncf .bf16 z bitsLt_bf16_f32) (gated_host _ (off 0 4096 A) bcast_S1x2048_S4096x2048_0_1)).trans ?_
  rw [ev_trunc]
  exact ev_congr fun i _ j _ => mul_comm _ _

/-- The sums. -/
theorem ref_9 : val_main_v61 (F := Ideal) (ev 4096 2048 .f32 D) (ev 4096 2048 .f32 X) (ev 4096 2048 .f32 Y) (ev 4096 2048 .f32 O) (ev 1 2048 .f32 G) (ev 1 12288 .f32 A)
    = ev 8 2048 .f32 (sums 4096 (gateParts D (normed 2048 width tiny X) G (off 0 8192 A)
        (dSum Y X D G (off 0 8192 A)) O)) := by
  have h3 : val_main_v58 (F := Ideal) (ev 4096 2048 .f32 D) (ev 4096 2048 .f32 X) (ev 4096 2048 .f32 Y) (ev 4096 2048 .f32 O) (ev 1 2048 .f32 G) (ev 1 12288 .f32 A)
      = ev 1 2048 .f32 fun _ j => ∑ k ∈ Finset.range 4096, dSum Y X D G (off 0 8192 A) k j * O k j := by
    unfold val_main_v58 val_main_v57 val_main_v56
    rw [ref_7]
    exact sum_host (fun k j => dSum Y X D G (off 0 8192 A) k j * O k j) reducesTo_S4096x2048_S2048_d0 h_S_ (by decide) shapeCasts_S2048_S1x2048
  have h4 : val_main_v60 (F := Ideal) = ev 4 2048 .f32 fun _ _ => 0 := (host_fill bcast_S_S4x2048 _).trans (ev_congr fun _ _ _ _ => host_zero _)
  unfold val_main_v61
  rw [ref_shift, ref_scale, ref_gain, h3, h4]
  refine ext2 fun r c => ?_
  rw [ev_apply]
  unfold sums gateParts modParts
  match r with
  | ⟨0, hr⟩ => exact (row_at _ _ _ c _ 1 (by simp) rfl (by simp) rfl).trans (Finset.sum_congr rfl fun k _ => rfl)
  | ⟨1, hr⟩ =>
    refine (row_at _ _ _ c _ 1 (by simp) rfl (by simp) rfl).trans (Finset.sum_congr rfl fun k _ => ?_)
    exact (mul_comm _ _).trans (mul_assoc _ _ _).symm
  | ⟨2, hr⟩ =>
    refine (row_at _ _ _ c _ 1 (by simp) rfl (by simp) rfl).trans (Finset.sum_congr rfl fun k _ => ?_)
    exact (mul_left_comm _ _ _).trans (mul_assoc _ _ _).symm
  | ⟨3, hr⟩ => exact (row_at _ _ _ c _ 1 (by simp) rfl (by simp) rfl).trans (Finset.sum_congr rfl fun k _ => rfl)
  | ⟨k + 4, hr⟩ =>
    refine (row_below _ _ _ c _ 4 4 (by simp) rfl (by simp) (by simp; omega) rfl).trans ?_
    simp

/-- The three results in the words of the arguments. -/
theorem ref_vals (D X Y O : FVec Ideal ⟨2, ![4096, 2048]⟩ .f32) (G : FVec Ideal ⟨2, ![1, 2048]⟩ .f32) (A : FVec Ideal ⟨2, ![1, 12288]⟩ .f32) :
    val_main_v51 (F := Ideal) D X Y G A = (vals D X Y O G A).1 ∧ val_main_v59 (F := Ideal) D X Y G A = (vals D X Y O G A).2.1 ∧ val_main_v61 (F := Ideal) D X Y O G A = (vals D X Y O G A).2.2 := by
  have e0 := ref_7 (ofv D) (ofv X) (ofv Y) (ofv G) (ofv A)
  have e1 := ref_8 (ofv D) (ofv X) (ofv Y) (ofv G) (ofv A)
  have e2 := ref_9 (ofv D) (ofv X) (ofv Y) (ofv O) (ofv G) (ofv A)
  rw [ev_ofv, ev_ofv, ev_ofv, ev_ofv, ev_ofv] at e0 e1
  rw [ev_ofv, ev_ofv, ev_ofv, ev_ofv, ev_ofv, ev_ofv] at e2
  exact ⟨e0, e1, e2⟩
end Norm2Bwd

end Cert.Mm
-- ==== Proof.LatentBwdArray.lean ====
/-
  The gradients of the two latent normalisations, as their call leaves them: those of the two latents row by row, and the sums over the rows of the
  gradients of the two gains, gathered a block of 512 rows at a time in a buffer of eight rows.
-/
module

public import proofs.«01_k».proof.Proof.NormBlock
public import proofs.«01_k».proof.Proof.Gen.LatentBwdIdeal.Value

@[expose] public section

noncomputable section

namespace Cert.Mm

open Idealize.ShloMosaic
open ValueIdx TcCoe Idealize.SL.Sem
open Sb (ext2 ld_all exists_ix2)

/-! ## The formulas -/

/-- The rows times a row. -/
def gained (d g : EMat) : EMat := fun i j => d i j * g 0 j

/-- The normalised rows of a latent, and the gradient of their mapping. -/
def latent (x : EMat) : EMat := normed 512 width' tiny x
def latentBack (x d g : EMat) : EMat := normBack 512 width' tiny x (gained d g)

/-- The terms of the sums: for the gains of the two latents. -/
def latentParts (d x e y : EMat) (k : ℕ) : EMat := fun i j =>
  if k = 0 then d i j * latent x i j else if k = 1 then e i j * latent y i j else 0

theorem latent_off (r : ℕ) (x : EMat) : latent (off r 0 x) = off r 0 (latent x) := normed_off _ _ _ _ _
theorem latentBack_off (r : ℕ) (x d g : EMat) : latentBack (off r 0 x) (off r 0 d) g = off r 0 (latentBack x d g) := by
  unfold latentBack
  rw [show gained (off r 0 d) g = off r 0 (gained d g) by funext i j; simp [gained, off], normBack_off]
theorem latentParts_off (r : ℕ) (d x e y : EMat) (k : ℕ) : latentParts (off r 0 d) (off r 0 x) (off r 0 e) (off r 0 y) k = off r 0 (latentParts d x e y k) := by
  unfold latentParts
  rw [latent_off, latent_off]
  funext i j
  simp [off]

/-- Two rows added to, one after the other. -/
theorem two_rows (d x e y z : EMat) {b : ℕ} :
    ev 8 b .f32 (setRow 1 (fun i j => off 1 0 z i j + ∑ k ∈ Finset.range 512, e k j * latent y k j)
        (setRow 0 (fun i j => off 0 0 z i j + ∑ k ∈ Finset.range 512, d k j * latent x k j) z))
      = ev 8 b .f32 fun k j => z k j + sums 512 (latentParts d x e y) k j := by
  refine congrArg (ev 8 b .f32) ?_
  funext k j
  unfold sums latentParts setRow off
  by_cases h1 : k = 1
  · subst h1; simp
  · by_cases h0 : k = 0
    · subst h0; simp
    · simp [h0, h1]

namespace LatentBwd
open LatentBwdIdeal LatentBwdIdeal.Gen

/-! ## A block -/

theorem block_inv (x : EMat) : k0_pay3 (ev 512 512 .bf16 x) = ev 512 1 .f32 fun i _ => invRms 512 width' tiny x i :=
  inv_block _ _ x _ _ _ _

theorem block_normed (x : EMat) : k0_pay4 (ev 512 512 .bf16 x) = ev 512 512 .f32 (latent x) := by
  unfold k0_pay4
  rw [block_inv]
  exact normed_block x _

theorem block_sum (d x z : EMat) : k0_pay5 (ev 512 512 .bf16 d) (ev 512 512 .bf16 x) (ev 1 512 .f32 z)
    = ev 1 512 .f32 fun i j => z i j + ∑ k ∈ Finset.range 512, d k j * latent x k j := by
  unfold k0_pay5
  dsimp only
  rw [block_normed, ev_ext, ev_mul]
  exact sum_block _ z _ _ _ _ _

theorem block_back (d x g : EMat) : k0_pay6 (ev 512 512 .bf16 d) (ev 512 512 .bf16 x) (ev 1 512 .f32 g) = ev 512 512 .bf16 (latentBack x d g) := by
  unfold k0_pay6
  dsimp only
  rw [block_inv, block_normed, ev_ext, ev_repeat_row, ev_mul]
  refine (congrArg (fun z => truncf .bf16 z bitsLt_bf16_f32) (back_block _ x (gained d g) _ _ _ _ _ _)).trans ?_
  rw [ev_trunc]
  rfl

/-- The second latent's formulas are the first one's. -/
theorem block_sum' (d x z : EMat) : k0_pay10 (ev 512 512 .bf16 d) (ev 512 512 .bf16 x) (ev 1 512 .f32 z)
    = ev 1 512 .f32 fun i j => z i j + ∑ k ∈ Finset.range 512, d k j * latent x k j := block_sum d x z

theorem block_back' (d x g : EMat) : k0_pay11 (ev 512 512 .bf16 d) (ev 512 512 .bf16 x) (ev 1 512 .f32 g) = ev 512 512 .bf16 (latentBack x d g) := block_back d x g

section
variable (c : Dev nD) (i : grid0.Coords) (a1 a2 a3 a4 a7 a8 : Memref sig .tc .vmem S512x512 .bf16) (a5 a6 : Memref sig .tc .vmem S1x512 .f32) (a9 : Memref sig .tc .vmem S8x512 .f32)
  (w1 : a1.IsWhole) (w2 : a2.IsWhole) (w3 : a3.IsWhole) (w4 : a4.IsWhole) (w5 : a5.IsWhole) (w6 : a6.IsWhole) (w7 : a7.IsWhole) (w8 : a8.IsWhole)
  (w9 : a9.IsWhole)
  (d e x y g h z : EMat)

theorem out_A_6 (hc) : out0_A_6 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) = ev 512 512 .bf16 (latentBack x d g) := by
  unfold out0_A_6 kernelRun0_A
  dsimp only
  refine (View.read_writes_full _ _ _ _ []).trans ?_
  unfold kernelRun0_A.sl.r
  rw [load_all, load_all, load_all]
  exact block_back d x g

theorem out_A_7 (hc) : out0_A_7 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) = ev 512 512 .bf16 (latentBack y e h) := by
  unfold out0_A_7 kernelRun0_A
  dsimp only
  refine (View.read_writes_full _ _ _ _ []).trans ?_
  unfold kernelRun0_A.sl.r_1
  rw [load_all, load_all, load_all]
  exact block_back' e y h

theorem out_B_6 (hc) (w) : out0_B_6 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) w = ev 512 512 .bf16 (latentBack x d g) := by
  unfold out0_B_6 kernelRun0_B
  dsimp only
  refine (View.read_writes_full _ _ _ _ []).trans ?_
  unfold kernelRun0_B.sl.r
  rw [load_all, load_all, load_all]
  exact block_back d x g

theorem out_B_7 (hc) (w) : out0_B_7 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) w = ev 512 512 .bf16 (latentBack y e h) := by
  unfold out0_B_7 kernelRun0_B
  dsimp only
  refine (View.read_writes_full _ _ _ _ []).trans ?_
  unfold kernelRun0_B.sl.r_1
  rw [load_all, load_all, load_all]
  exact block_back' e y h

open kernelRun0_A.sl in
theorem out_A_8 (hc) : out0_A_8 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) = ev 8 512 .f32 (sums 512 (latentParts d x e y)) := by
  unfold out0_A_8 kernelRun0_A
  dsimp only
  unfold v53 H8_2
  rw [load_all, load_all, load_all, load_all]
  have l0 : Leaves H8_1 fun _ _ => 0 := leaves_zeros _ _ _ rfl
  have e0 : v16 (F := Ideal) c a9 = ev 1 512 .f32 (off 0 0 fun _ _ => 0) := leaves_load 0 _ l0 _
  rw [e0, block_sum]
  have l1 := leaves_row 0 inb_S8x512_S1x512_0_0 l0 fun i j => off 0 0 (fun _ _ => 0) i j + ∑ k ∈ Finset.range 512, d k j * latent x k j
  rw [leaves_load 1 inb_S8x512_S1x512_1_0 l1, row_setRow (by decide), block_sum']
  refine ((leaves_row 1 inb_S8x512_S1x512_1_0 l1 _).read VO0_8 _).trans ((two_rows _ _ _ _ _).trans ?_)
  exact ev_congr fun _ _ _ _ => zero_add _

theorem out_B_8 (hc) : out0_B_8 (F := Ideal) c i a1 w1 a2 w2 a3 w3 a4 w4 a5 w5 a6 w6 a7 w7 a8 w8 a9 w9 hc
    (ev 512 512 .bf16 d) (ev 512 512 .bf16 e) (ev 512 512 .bf16 x) (ev 512 512 .bf16 y) (ev 1 512 .f32 g) (ev 1 512 .f32 h) (ev 8 512 .f32 z)
      = ev 8 512 .f32 fun k j => z k j + sums 512 (latentParts d x e y) k j := by
  unfold out0_B_8 kernelRun0_B
  dsimp only
  unfold kernelRun0_B.sl.v53
  have hz := w9.read_unread (Val := Elt Ideal) (ev 8 512 .f32 z)
  rw [load_all, load_all, load_all, load_all, load_row _ _ 0 _ z hz, load_row _ _ 1 _ z hz, block_sum, block_sum']
  exact (read_set_row _ _ 1 _ _ _ _ (read_set_row _ _ 0 _ [] _ _ hz _ rfl) _ rfl).trans (two_rows _ _ _ _ _)
end

/-! ## The arrays -/

theorem idx : ∀ t : Fin cfg0.N, win0_0.index t = ![t.val, 0] ∧ win0_1.index t = ![t.val, 0] ∧ win0_2.index t = ![t.val, 0] ∧ win0_3.index t = ![t.val, 1]
    ∧ win0_4.index t = ![0, 0] ∧ win0_5.index t = ![0, 0] ∧ win0_6.index t = ![t.val, 0] ∧ win0_7.index t = ![t.val, 0] ∧ win0_8.index t = ![0, 0] := by decide +kernel

section
variable (m : Mem nD τ sig) (c : Dev nD) (D E P G H : EMat)

theorem blk_0 (hD : V m c main_arg0 = ev 4096 512 .bf16 D) (t : Fin cfg0.N) : iblk m c 0 t = ev 512 512 .bf16 (off (512 * t.val) 0 D) :=
  ev_block hD fun _ => by constructor <;> blk_simp [(idx t).1] <;> simp <;> ring

theorem blk_1 (hE : V m c main_arg1 = ev 4096 512 .bf16 E) (t : Fin cfg0.N) : iblk m c 1 t = ev 512 512 .bf16 (off (512 * t.val) 0 E) :=
  ev_block hE fun _ => by constructor <;> blk_simp [(idx t).2.1] <;> simp <;> ring

theorem blk_2 (hP : V m c main_arg2 = ev 4096 8320 .bf16 P) (t : Fin cfg0.N) : X0_2 m c t = ev 512 512 .bf16 (off (512 * t.val) 0 P) :=
  ext2 fun r d => by
    unfold X0_2 Pipeline.Window.fill
    rw [dif_pos (moved0_2 t _)]
    blk_simp [iblk, hP]
    rw [ev_apply]
    unfold ev off
    refine congrArg₂ P ?_ ?_ <;> blk_simp [(idx t).2.2.1]
    · simp
      ring

theorem blk_3 (hP : V m c main_arg2 = ev 4096 8320 .bf16 P) (t : Fin cfg0.N) : X0_3 m c t = ev 512 512 .bf16 (off (512 * t.val) 0 (off 0 512 P)) :=
  ext2 fun r d => by
    unfold X0_3 Pipeline.Window.fill
    rw [dif_pos (moved0_3 t _)]
    blk_simp [iblk, hP]
    rw [ev_apply]
    unfold ev off
    refine congrArg₂ P ?_ ?_ <;> blk_simp [(idx t).2.2.2.1]
    simp
    ring

theorem blk_4 (hG : V m c main_arg3 = evQ G) (t : Fin cfg0.N) : iblk m c 4 t = evQ G :=
  ev_whole hG fun _ => by constructor <;> blk_simp [(idx t).2.2.2.2.1]

theorem blk_5 (hH : V m c main_arg4 = evQ H) (t : Fin cfg0.N) : iblk m c 5 t = evQ H :=
  ev_whole hH fun _ => by constructor <;> blk_simp [(idx t).2.2.2.2.2.1]

variable (hD : V m c main_arg0 = evK D) (hE : V m c main_arg1 = evK E) (hP : V m c main_arg2 = evP P)
  (hG : V m c main_arg3 = evQ G) (hH : V m c main_arg4 = evQ H)
include hD hE hP hG hH

/-- What a point leaves: its rows of the latents' gradients, and the sums over the rows so far. -/
theorem outs (t : ℕ) (h : t < cfg0.N) : outsAt0 m c t h
    = (ev 512 512 .bf16 (off (512 * t) 0 (latentBack P D G)), ev 512 512 .bf16 (off (512 * t) 0 (latentBack (off 0 512 P) E H)),
      ev 8 512 .f32 (sums (512 * (t + 1)) (latentParts D P E (off 0 512 P)))) := by
  have hN : cfg0.N = 8 := N_0
  induction t with
  | zero =>
    rw [outsAt0_A m c ⟨0, h⟩ rfl, blk_0 m c D hD, blk_1 m c E hE, blk_2 m c P hP, blk_3 m c P hP, blk_4 m c G hG, blk_5 m c H hH, out_A_6, out_A_7, out_A_8,
      latentBack_off, latentBack_off]
    refine congrArg₂ Prod.mk rfl (congrArg₂ Prod.mk rfl (ev_congr fun k _ j _ => ?_))
    unfold sums
    refine Finset.sum_congr rfl fun i _ => ?_
    rw [latentParts_off]
    exact congrArg (fun z : EMat => z i j) (off_zero _)
  | succ t ih =>
    have hz : ¬ (t + 1) % 8 = 0 := by omega
    rw [outsAt0_B m c ⟨t + 1, h⟩ hz]
    simp only [Nat.add_sub_cancel]
    rw [ih (by omega), blk_0 m c D hD, blk_1 m c E hE, blk_2 m c P hP, blk_3 m c P hP, blk_4 m c G hG, blk_5 m c H hH, out_B_6, out_B_7, out_B_8,
      latentBack_off, latentBack_off]
    refine congrArg₂ Prod.mk rfl (congrArg₂ Prod.mk rfl (ev_congr fun k _ j _ => ?_))
    rw [Nat.mul_succ 512 (t + 1), sums_add]
    refine congrArg (_ + ·) (Finset.sum_congr rfl fun i _ => ?_)
    rw [latentParts_off]

/-- The gradient of the first latent. -/
theorem array_6 : (dats m 0 c).arrAt 6 cfg0.N = evK (latentBack P D G) := by
  refine (dats m 0 c).arrAt_eq_of_covers 6 _ (by decide +kernel) fun t _ y => ?_
  blk_simp
  rw [after0_6, outs m c D E P G H hD hE hP hG hH]
  dsimp only
  generalize latentBack P D G = Z
  exact (congrFun (ev_block rfl fun _ => by constructor <;> blk_simp [(idx t).2.2.2.2.2.2.1] <;> simp <;> ring) y).symm

/-- The gradient of the second. -/
theorem array_7 : (dats m 0 c).arrAt 7 cfg0.N = evK (latentBack (off 0 512 P) E H) := by
  refine (dats m 0 c).arrAt_eq_of_covers 7 _ (by decide +kernel) fun t _ y => ?_
  blk_simp
  rw [after0_7, outs m c D E P G H hD hE hP hG hH]
  dsimp only
  generalize latentBack (off 0 512 P) E H = Z
  exact (congrFun (ev_block rfl fun _ => by constructor <;> blk_simp [(idx t).2.2.2.2.2.2.2.1] <;> simp <;> ring) y).symm

/-- The sums. -/
theorem array_8 : (dats m 0 c).arrAt 8 cfg0.N = ev 8 512 .f32 (sums 4096 (latentParts D P E (off 0 512 P))) := by
  refine (dats m 0 c).arrAt_eq_of_covers 8 _ (by decide +kernel) fun t hf y => ?_
  have h7 : t.val % 8 = 7 := (flush0_8 t).1 hf
  have ht : t.val = 7 := by
    have := lt_of_lt_of_eq t.isLt (show cfg0.N = 8 from N_0)
    omega
  blk_simp
  rw [after0_8, outs m c D E P G H hD hE hP hG hH, ht]
  dsimp only
  exact (congrFun (ev_whole rfl fun _ => by constructor <;> blk_simp [(idx t).2.2.2.2.2.2.2.2]) y).symm
end

/-- The three arrays in the words of the arguments. -/
def vals (D E : FVec Ideal ⟨2, ![4096, 512]⟩ .bf16) (P : FVec Ideal ⟨2, ![4096, 8320]⟩ .bf16) (G H : FVec Ideal ⟨2, ![1, 512]⟩ .f32) :
    FVec Ideal ⟨2, ![4096, 512]⟩ .bf16 × FVec Ideal ⟨2, ![4096, 512]⟩ .bf16 × FVec Ideal ⟨2, ![8, 512]⟩ .f32 :=
  (evK (latentBack (ofv P) (ofv D) (ofv G)), evK (latentBack (off 0 512 (ofv P)) (ofv E) (ofv H)),
    ev 8 512 .f32 (sums 4096 (latentParts (ofv D) (ofv P) (ofv E) (off 0 512 (ofv P)))))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3)) (m (c.tc.loc main_arg4))
      r.2.mem (c.tc.loc main_v0_0) = v.1
      ∧ r.2.mem (c.tc.loc main_v0_1) = v.2.1
      ∧ r.2.mem (c.tc.loc main_v0_2) = v.2.2
      ∧ Kept m r.2.mem c main_arg0 ∧ Kept m r.2.mem c main_arg1 ∧ Kept m r.2.mem c main_arg2 ∧ Kept m r.2.mem c main_arg3 ∧ Kept m r.2.mem c main_arg4 :=
  (θ_run defs _ _).mono (fun _ h c => ⟨(h c).1.trans (array_6 m c _ _ _ _ _ of_ofv of_ofv of_ofv of_ofv of_ofv),
    (h c).2.1.trans (array_7 m c _ _ _ _ _ of_ofv of_ofv of_ofv of_ofv of_ofv),
    (h c).2.2.1.trans (array_8 m c _ _ _ _ _ of_ofv of_ofv of_ofv of_ofv of_ofv), (h c).2.2.2⟩) (Value.run_blocks m ρ)

end LatentBwd
end Cert.Mm
-- ==== Proof.LatentBwdRef.lean ====
/-
  What the reference of the latent normalisations' gradient computes: the gradients of the two latents and of their gains, equal to those of the call.
-/
module

public import proofs.«01_k».proof.Proof.NormHost
public import proofs.«01_k».proof.Proof.LatentBwdArray
public import proofs.«01_k».proof.Proof.Gen.LatentBwdRefIdeal.Run
public import proofs.«01_k».proof.Proof.Gen.LatentBwdRefIdeal.Read

@[expose] public section

noncomputable section

namespace Cert.Mm

open Idealize.ShloMosaic
open ValueIdx TcCoe Idealize.SL.Sem
open Sb (ext2)

namespace LatentBwd
open LatentBwdRefIdeal LatentBwdRefIdeal.Gen LatentBwdRefIdeal.Read
variable (D E P G H : EMat)

/-! ## The two latents -/

theorem ref_x : val_main_v1 (F := Ideal) (ev 4096 8320 .bf16 P) = ev 4096 512 .f32 P := by
  refine (host_cut P 0 slices_S4096x8320_S4096x512_0_0).trans ?_
  rw [off_zero]

theorem ref_y : val_main_v17 (F := Ideal) (ev 4096 8320 .bf16 P) = ev 4096 512 .f32 (off 0 512 P) := host_cut P 512 slices_S4096x8320_S4096x512_0_512

theorem ref_mean_x : val_main_v8 (F := Ideal) (ev 4096 8320 .bf16 P)
    = ev 4096 1 .f32 fun i _ => Ideal.div (∑ k ∈ Finset.range 512, P i k * P i k) (Ideal.ofBits .f32 0x44000000#32) + Ideal.ofBits .f32 0x358637BD#32 := by
  unfold val_main_v8 val_main_v6 val_main_v4 val_main_v3 val_main_v2
  rw [ref_x]
  exact mean_host _ _ P reducesTo_S4096x512_S4096_d1 h_S_ (by decide) bcast_S4096_S4096x1_0 bcast_S_S4096x1

theorem ref_mean_y : val_main_v24 (F := Ideal) (ev 4096 8320 .bf16 P)
    = ev 4096 1 .f32 fun i _ => Ideal.div (∑ k ∈ Finset.range 512, off 0 512 P i k * off 0 512 P i k) (Ideal.ofBits .f32 0x44000000#32) + Ideal.ofBits .f32 0x358637BD#32 := by
  unfold val_main_v24 val_main_v22 val_main_v20 val_main_v19 val_main_v18
  rw [ref_y]
  exact mean_host _ _ (off 0 512 P) reducesTo_S4096x512_S4096_d1 h_S_ (by decide) bcast_S4096_S4096x1_0 bcast_S_S4096x1

theorem ref_inv_x : val_main_v9 (F := Ideal) (ev 4096 8320 .bf16 P) = ev 4096 1 .f32 fun i _ => invRms 512 width' tiny P i := by
  unfold val_main_v9
  rw [ref_mean_x, host_rsqrt]
  rfl

theorem ref_inv_y : val_main_v25 (F := Ideal) (ev 4096 8320 .bf16 P) = ev 4096 1 .f32 fun i _ => invRms 512 width' tiny (off 0 512 P) i := by
  unfold val_main_v25
  rw [ref_mean_y, host_rsqrt]
  rfl

theorem ref_normed_x : val_main_v14 (F := Ideal) (ev 4096 8320 .bf16 P) = ev 4096 512 .f32 (latent P) := by
  unfold val_main_v14 val_main_v13
  rw [ref_inv_x, ref_x]
  exact normed_host P bcast_S4096x1_S4096x512_0_1

theorem ref_normed_y : val_main_v30 (F := Ideal) (ev 4096 8320 .bf16 P) = ev 4096 512 .f32 (latent (off 0 512 P)) := by
  unfold val_main_v30 val_main_v29
  rw [ref_inv_y, ref_y]
  exact normed_host (off 0 512 P) bcast_S4096x1_S4096x512_0_1

/-! ## Their gradients -/

theorem ref_d : val_main_v38 (F := Ideal) (ev 4096 512 .bf16 D) (ev 1 512 .f32 G) = ev 4096 512 .f32 (gained D G) := gained_host D G bcast_S1x512_S4096x512_0_1

theorem ref_e : val_main_v58 (F := Ideal) (ev 4096 512 .bf16 E) (ev 1 512 .f32 H) = ev 4096 512 .f32 (gained E H) := ref_d E H

/-- A latent's gradient, transposed step by step, in one formula. -/
theorem latent_back_host (x d g : EMat) :
    addf (addf (mulf (ev 4096 512 .f32 (gained d g)) (broadcastInDim S4096x512 ![0, 1] bcast_S4096x1_S4096x512_0_1
          (ev 4096 1 .f32 fun i _ => invRms 512 width' tiny x i)))
        (mulf (ev 4096 512 .f32 x) (ev 4096 512 .f32 fun i _ =>
          normCoef 512 width' tiny (Ideal.ofBits .f32 0xBF000000#32) x (gained d g) i)))
      (mulf (ev 4096 512 .f32 fun i _ => normCoef 512 width' tiny (Ideal.ofBits .f32 0xBF000000#32) x (gained d g) i)
        (ev 4096 512 .f32 x)) = ev 4096 512 .f32 (latentBack x d g) := by
  refine (back_host x _ bcast_S4096x1_S4096x512_0_1).trans (ev_congr fun i _ j _ => ?_)
  unfold latentBack
  rw [width', ofBits_512, ofBits_neg_half, tiny, eps_eq.1]
  exact (normBack_eq 512 (by norm_num) eps_eq.2 _ _ _ _).symm

theorem ref_coef_x : val_main_v48 (F := Ideal) (ev 4096 512 .bf16 D) (ev 4096 8320 .bf16 P) (ev 1 512 .f32 G) = ev 4096 512 .f32 fun i _ =>
    normCoef 512 width' tiny (Ideal.ofBits .f32 0xBF000000#32) P (gained D G) i := by
  unfold val_main_v48 val_main_v47 val_main_v46 val_main_v44 val_main_v41 val_main_v40 val_main_v39 val_main_v12 val_main_v10
  rw [ref_d, ref_inv_x, ref_mean_x, ref_x]
  exact coef_host _ _ _ P _ reducesTo_S4096x512_S4096_d1 h_S_ (by decide) shapeCasts_S4096_S4096x1 bcast_S_S4096x1 reducesTo_S4096x1_S4096_d1 (by decide) bcast_S4096_S4096x512_0

theorem ref_coef_y : val_main_v68 (F := Ideal) (ev 4096 512 .bf16 E) (ev 4096 8320 .bf16 P) (ev 1 512 .f32 H) = ev 4096 512 .f32 fun i _ =>
    normCoef 512 width' tiny (Ideal.ofBits .f32 0xBF000000#32) (off 0 512 P) (gained E H) i := by
  unfold val_main_v68 val_main_v67 val_main_v66 val_main_v64 val_main_v61 val_main_v60 val_main_v59 val_main_v28 val_main_v26
  rw [ref_e, ref_inv_y, ref_mean_y, ref_y]
  exact coef_host _ _ _ (off 0 512 P) _ reducesTo_S4096x512_S4096_d1 h_S_ (by decide) shapeCasts_S4096_S4096x1 bcast_S_S4096x1 reducesTo_S4096x1_S4096_d1 (by decide) bcast_S4096_S4096x512_0

theorem ref_6 : val_main_v73 (F := Ideal) (ev 4096 512 .bf16 D) (ev 4096 8320 .bf16 P) (ev 1 512 .f32 G) = ev 4096 512 .bf16 (latentBack P D G) := by
  unfold val_main_v73 val_main_v52 val_main_v51 val_main_v50 val_main_v49 val_main_v43 val_main_v42
  rw [ref_d, ref_inv_x, ref_coef_x, ref_x]
  exact congrArg (fun z => truncf .bf16 z bitsLt_bf16_f32) (latent_back_host P D G)

theorem ref_7 : val_main_v74 (F := Ideal) (ev 4096 512 .bf16 E) (ev 4096 8320 .bf16 P) (ev 1 512 .f32 H) = ev 4096 512 .bf16 (latentBack (off 0 512 P) E H) := by
  unfold val_main_v74 val_main_v72 val_main_v71 val_main_v70 val_main_v69 val_main_v63 val_main_v62
  rw [ref_e, ref_inv_y, ref_coef_y, ref_y]
  exact congrArg (fun z => truncf .bf16 z bitsLt_bf16_f32) (latent_back_host (off 0 512 P) E H)

/-! ## The gains' -/

theorem ref_gain_x : val_main_v36 (F := Ideal) (ev 4096 512 .bf16 D) (ev 4096 8320 .bf16 P) = ev 1 512 .f32 fun _ j => ∑ k ∈ Finset.range 4096, latent P k j * D k j := by
  unfold val_main_v36 val_main_v35 val_main_v34
  rw [ref_normed_x]
  exact sum_host (fun k j => latent P k j * D k j) reducesTo_S4096x512_S512_d0 h_S_ (by decide) shapeCasts_S512_S1x512

theorem ref_gain_y : val_main_v56 (F := Ideal) (ev 4096 512 .bf16 E) (ev 4096 8320 .bf16 P)
    = ev 1 512 .f32 fun _ j => ∑ k ∈ Finset.range 4096, latent (off 0 512 P) k j * E k j := by
  unfold val_main_v56 val_main_v55 val_main_v54
  rw [ref_normed_y]
  exact sum_host (fun k j => latent (off 0 512 P) k j * E k j) reducesTo_S4096x512_S512_d0 h_S_ (by decide) shapeCasts_S512_S1x512

theorem ref_8 : val_main_v76 (F := Ideal) (ev 4096 512 .bf16 D) (ev 4096 512 .bf16 E) (ev 4096 8320 .bf16 P) = ev 8 512 .f32 (sums 4096 (latentParts D P E (off 0 512 P))) := by
  have h2 : val_main_v75 (F := Ideal) = ev 6 512 .f32 fun _ _ => 0 := (host_fill bcast_S_S6x512 _).trans (ev_congr fun _ _ _ _ => host_zero _)
  unfold val_main_v76
  rw [ref_gain_x, ref_gain_y, h2]
  refine ext2 fun r c => ?_
  rw [ev_apply]
  unfold sums latentParts
  match r with
  | ⟨0, hr⟩ => exact (row_at _ _ _ c _ 1 (by simp) rfl (by simp) rfl).trans (Finset.sum_congr rfl fun k _ => mul_comm _ _)
  | ⟨1, hr⟩ => exact (row_at _ _ _ c _ 1 (by simp) rfl (by simp) rfl).trans (Finset.sum_congr rfl fun k _ => mul_comm _ _)
  | ⟨k + 2, hr⟩ =>
    refine (row_below _ _ _ c _ 6 2 (by simp) rfl (by simp) (by simp; omega) rfl).trans ?_
    simp

/-- The three results in the words of the arguments. -/
theorem ref_vals (D E : FVec Ideal ⟨2, ![4096, 512]⟩ .bf16) (P : FVec Ideal ⟨2, ![4096, 8320]⟩ .bf16) (G H : FVec Ideal ⟨2, ![1, 512]⟩ .f32) :
    val_main_v73 (F := Ideal) D P G = (vals D E P G H).1 ∧ val_main_v74 (F := Ideal) E P H = (vals D E P G H).2.1 ∧ val_main_v76 (F := Ideal) D E P = (vals D E P G H).2.2 := by
  have e0 := ref_6 (ofv D) (ofv P) (ofv G)
  have e1 := ref_7 (ofv E) (ofv P) (ofv H)
  have e2 := ref_8 (ofv D) (ofv E) (ofv P)
  rw [ev_ofv, ev_ofv, ev_ofv] at e0 e1 e2
  exact ⟨e0, e1, e2⟩
end LatentBwd

end Cert.Mm
-- ==== Proof.NormArray.lean ====
/-
  The forward normalisations, as their calls leave them: the first with its modulation, the second with the residual sum before it, and those of the
  two latents.
-/
module

public import proofs.«01_k».proof.Proof.LatentBwdArray
public import proofs.«01_k».proof.Proof.Gen.Norm1Ideal.Value
public import proofs.«01_k».proof.Proof.Gen.Norm2Ideal.Value
public import proofs.«01_k».proof.Proof.Gen.LatentIdeal.Value

@[expose] public section

noncomputable section

namespace Cert.Mm

open Idealize.ShloMosaic
open ValueIdx TcCoe Idealize.SL.Sem
open Sb (ext2 ld_all exists_ix2)

/-! ## The formulas -/

/-- The rows normalised, times the gain, under a scale and a shift. -/
def modulated (x g s h : EMat) : EMat := fun i j =>
  normed 2048 width tiny x i j * g 0 j * (1 + s 0 j) + h 0 j

/-- A branch added through its gate. -/
def residual (x o t : EMat) : EMat := fun i j => x i j + t 0 j * o i j

/-- The rows of a latent normalised, times the gain. -/
def latentOut (x g : EMat) : EMat := gained (latent x) g

theorem modulated_off (r : ℕ) (x g s h : EMat) : modulated (off r 0 x) g s h = off r 0 (modulated x g s h) := by
  unfold modulated
  rw [normed_off]
  funext i j
  simp [off]
theorem residual_off (r : ℕ) (x o t : EMat) : residual (off r 0 x) (off r 0 o) t = off r 0 (residual x o t) := by
  funext i j
  simp [residual, off]
theorem latentOut_off (r : ℕ) (x g : EMat) : latentOut (off r 0 x) g = off r 0 (latentOut x g) := by
  unfold latentOut
  rw [latent_off]
  funext i j
  simp [gained, off]

/-! ## The first normalisation -/

namespace Norm1
open Norm1Ideal Norm1Ideal.Gen

theorem block (x g s h : EMat) : k0_pay1 (ev 256 2048 .f32 x) (ev 1 2048 .f32 g) (ev 1 2048 .f32 s) (ev 1 2048 .f32 h) = ev 256 2048 .bf16 (modulated x g s h) := by
  have hi := inv_block 0x45000000#32 0x358637BD#32 x reduces_S256x2048_S256 (.inl rfl) rfl shapeCasts_S256_S256x1
  unfold k0_pay1
  dsimp only
  rw [hi, normed_block, ev_repeat_row, ev_mul, mod_block, ev_repeat_row, ev_mul, ev_repeat_row]
  rfl

theorem idx : ∀ t : Fin cfg0.N, win0_0.index t = ![t.val, 0] ∧ win0_1.index t = ![0, 0] ∧ win0_2.index t = ![0, 1] ∧ win0_3.index t = ![0, 0] ∧ win0_4.index t = ![t.val, 0] := by decide +kernel

section
variable (m : Mem nD τ sig) (c : Dev nD) (X G A : EMat)

theorem blk_0 (hX : V m c main_arg0 = ev 4096 2048 .f32 X) (t : Fin cfg0.N) : iblk m c 0 t = ev 256 2048 .f32 (off (256 * t.val) 0 X) :=
  ev_block hX fun _ => by constructor <;> blk_simp [(idx t).1] <;> simp <;> ring

theorem blk_1 (hG : V m c main_arg1 = ev 1 2048 .f32 G) (t : Fin cfg0.N) : iblk m c 1 t = ev 1 2048 .f32 G :=
  ev_whole hG fun _ => by constructor <;> blk_simp [(idx t).2.1]

theorem blk_2 (hA : V m c main_arg2 = ev 1 12288 .f32 A) (t : Fin cfg0.N) : iblk m c 2 t = ev 1 2048 .f32 (off 0 2048 A) :=
  ev_block hA fun _ => by constructor <;> blk_simp [(idx t).2.2.1] <;> simp <;> try ring

theorem blk_3 (hA : V m c main_arg2 = ev 1 12288 .f32 A) (t : Fin cfg0.N) : iblk m c 3 t = ev 1 2048 .f32 A :=
  ext2 fun r d => by
    blk_simp [iblk, hA]
    rw [ev_apply]
    unfold ev
    refine congrArg₂ A ?_ ?_ <;> blk_simp [(idx t).2.2.2.1] <;> simp
    try ring

theorem array (hX : V m c main_arg0 = ev 4096 2048 .f32 X) (hG : V m c main_arg1 = ev 1 2048 .f32 G) (hA : V m c main_arg2 = ev 1 12288 .f32 A) :
    (dats m 0 c).arrAt 4 cfg0.N = ev 4096 2048 .bf16 (modulated X G (off 0 2048 A) A) := by
  refine (dats m 0 c).arrAt_eq_of_covers 4 _ (by decide +kernel) fun t _ y => ?_
  blk_simp
  rw [after0_4, blk_0 m c X hX, blk_1 m c G hG, blk_2 m c A hA, blk_3 m c A hA]
  unfold out0_4
  rw [ld_all, ld_all, ld_all, ld_all, block, stored _ _ (by decide), modulated_off]
  generalize modulated X G (off 0 2048 A) A = Z
  exact (congrFun (ev_block rfl fun _ => by constructor <;> blk_simp [(idx t).2.2.2.2] <;> simp <;> ring) y).symm
end

/-- The array in the words of the arguments. -/
def vals (X : FVec Ideal ⟨2, ![4096, 2048]⟩ .f32) (G : FVec Ideal ⟨2, ![1, 2048]⟩ .f32) (A : FVec Ideal ⟨2, ![1, 12288]⟩ .f32) : FVec Ideal ⟨2, ![4096, 2048]⟩ .bf16 :=
  ev 4096 2048 .bf16 (modulated (ofv X) (ofv G) (off 0 2048 (ofv A)) (ofv A))

theorem run (m : Mem nD τ sig) (ρ : Dev nD → PrngReg) :
    θ_run defs (onTc (τ := τ) main) ⟨m, fun _ => 0, ρ⟩ fun r => ∀ c : Dev nD,
      r.2.mem (c.tc.loc main_v0) = vals (m (c.tc.loc main_arg0)) (m (c.tc.loc main_arg1)) (m (c.tc.loc main_arg2))
      ∧ Kept m r.2.mem c main_arg0 ∧ Kept m r.2.mem c main_arg1 ∧ Kept m r.2.mem c main_arg2 :=
  run_of_eq (fun c => array m c _ _ _ of_ofv of_ofv of_ofv) (Value.run_blocks m ρ)

end Norm1

/-! ## The second, after the residual sum -/

namespace Norm2
open Norm2Ideal Norm2Ideal.Gen

theorem block_sum (x o t : EMat) : k0_pay1 (ev 256 2048 .f32 x) (ev 1 2048 .f32 t) (ev 256 2048 .f32 o) = ev 256 2048 .f32 (residual x o t) := by
  unfold k0_pay1
  dsimp only
  rw [ev_repeat_row]
  rfl

theorem block (x o t g s h : EMat) : k0_pay2 (ev 256 2048 .f32 x) (ev 1 2048 .f32 t) (ev 256 2048 .f32 o) (ev 1 2048 .f32 g) (ev 1 2048 .f32 s) (ev 1 2048 .f32 h)
    = ev 256 2048 .bf16 (modulated (residual x o t) g s h) := by
  unfold k0_pay2
  rw [block_sum]
  exact Norm1.block (residual x o t) g s h

theorem idx : ∀ t : Fin cfg0.N, win0_0.index t = ![t.val, 0] ∧ win0_1.index t = ![t.val, 0] ∧ win0_2.index t = ![0, 0] ∧ win0_3.index t = ![0, 2] ∧ win0_4.index t = ![0, 4]
    ∧ win0_5.index t = ![0, 3] ∧ win0_6.index t = ![t.val, 0] ∧ win0_7.index t = ![t.val, 0] := by decide +kernel

section
variable (m : Mem nD τ sig) (c : Dev nD) (X O G A : EMat)

theorem blk_0 (hX : V m c main_arg0 = ev 4096 2048 .f32 X) (t : Fin cfg0.N) : iblk m c 0 t = ev 256 2048 .f32 (off (256 * t.val) 0 X) :=
  ev_block hX fun _ => by constructor <;> blk_simp [(idx t).1] <;> simp <;> ring

theorem blk_1 (hO : V m c main_arg1 = ev 4096 2048 .f32 O) (t : Fin cfg0.N) : iblk m c 1 t = ev 256 2048 .f32 (off (256 * t.val) 0 O) :=
  ev_block hO fun _ => by constructor <;> blk_simp [(idx t).2.1] <;> simp <;> ring

theorem blk_2 (hG : V m c main_arg2 = ev 1 2048 .f32 G) (t : Fin cfg0.N) : iblk m c 2 t = ev 1 2048 .f32 G :=
  ev_whole hG fun _ => by constructor <;> blk_simp [(idx t).2.2.1]

theorem blk_3 (hA : V m c main_arg3 = ev 1 12288 .f32 A) (t : Fin cfg0.N) : iblk m c 3 t = ev 1 2048 .f32 (off 0 4096 A) :=
  ev_block hA fun _ => by constructor <;> blk_simp [(idx t).2.2.2.1] <;> simp <;> try ring

theorem blk_4 (hA : V m c main_arg3 = ev 1 12288 .f32 A) (t : Fin cfg0.N) : iblk m c 4 t = ev 1 2048 .f32 (off 0 8192 A) :=
  ev_block hA fun _ => by constructor <;> blk_simp [(idx t).2.2.2.2.1] <;> simp <;> try ring

theorem blk_5 (hA : V m c main_arg3 = ev 1 12288 .f32 A) (t : Fin cfg0.N) : iblk m c 5 t = ev 1 2048 .f32 (off 0 6144 A) :=
  ev_block hA fun _ => by constructor <;> blk_simp [(idx t).2.2.2.2.2.1] <;> simp <;> try ring

variable (hX : V m c main_arg0 = ev 4096 2048 .f32 X) (hO : V m c main_arg1 = ev 4096 2048 .f32 O) (hG : V m c main_arg2 = ev 1 2048 .f32 G)
  (hA : V m c main_arg3 = ev 1 12288 .f32 A)
include hX hO hG hA

/-- The sum. -/
theorem array_6 : (dats m 0 c).arrAt 6 cfg0.N = ev 4096 2048 .f32 (residual X O (off 0 4096 A)) := by
  refine (dats m 0 c).arrAt_eq_of_covers 6 _ (by decide +kernel) fun t _ y => ?_
  blk_simp
  rw [after0_6, blk_0 m c X hX, blk_1 m c O hO, blk_2 m c G hG, blk_3 m c A hA, blk_4 m c A hA, blk_5 m c A hA]
  unfold out0_6
  rw [ld_all, ld_all, ld_all, block_sum, stored _ _ (by decide), residual_off]
  generalize residual X O (off 0 4096 A) = Z
  exact (congrFun (ev_block rfl fun _ => by constructor <;> blk_simp [(idx t).2.2.2.2.2.2.1] <;> simp <;> ring) y).symm

/-- Its modulated normalisation. -/
theorem array_7 : (dats m 0 c).arrAt 7 cfg0.N = ev 4096 2048 .bf16 (modulated (residual X O (off 0 4096 A)) G (off 0 8192 A) (off 0 6144 A)) := by
  refine (dats m 0 c).arrAt_eq_of_covers 7 _ (by decide +kernel) fun t _ y => ?_
  blk_simp
  rw [after0_7, blk_0 m c X hX, blk_1 m c O hO, blk_2 m c G hG, blk_3 m c A hA, blk_4 m c A hA, blk_5 m c A hA]
  unfold out0_7
  rw [ld_all, ld_all, ld_all, ld_all, ld_all, ld_all, block, stored _ _ (by decide), residual_off, modulated_off]
  generalize modulated (residual X O (off 0 4096 A)) G (off 0 8192 A) (off 0 6144 A) = Z
  exact (congrFun (ev_block rfl fun _ => by constructor <;> blk_simp [(idx t).2.2.2.2.2.2.2] <;> simp <;> ring) y).symm
end

/-- The two arrays in the words of the arguments. -/
def vals (X O : FVec Ideal ⟨2, ![4096, 2048]⟩ .f32) (G : FVec Ideal ⟨2, ![1, 2048]⟩ .f32) (A : FVec Ideal ⟨2, ![1, 12288]⟩ .f32) :
    FVec Ideal ⟨2, ![4096, 2048]⟩ .f32 × FVec Ideal ⟨2, ![4096, 2048]⟩ .bf16 :=
  (ev 4096 2048 .f32 (residual (ofv X) (ofv O) (off 0 4096 (ofv A))),
    ev 4096 2048 .bf16 (modulated (residual (ofv X) (ofv O) (off 0 4096 (ofv A))) (ofv G) (off 0 8192 (ofv A)) (off 0 6144 (ofv A))))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3))
      r.2.mem (c.tc.loc main_v0_0) = v.1
      ∧ r.2.mem (c.tc.loc main_v0_1) = v.2
      ∧ Kept m r.2.mem c main_arg0 ∧ Kept m r.2.mem c main_arg1 ∧ Kept m r.2.mem c main_arg2 ∧ Kept m r.2.mem c main_arg3 :=
  (θ_run defs _ _).mono (fun _ h c => ⟨(h c).1.trans (array_6 m c _ _ _ _ of_ofv of_ofv of_ofv of_ofv),
    (h c).2.1.trans (array_7 m c _ _ _ _ of_ofv of_ofv of_ofv of_ofv), (h c).2.2⟩) (Value.run_blocks m ρ)

end Norm2

/-! ## The latents' -/

namespace Latent
open LatentIdeal LatentIdeal.Gen

theorem block (x g : EMat) : k0_pay1 (ev 512 512 .bf16 x) (ev 1 512 .f32 g) = ev 512 512 .bf16 (latentOut x g) := by
  have hi := inv_block 0x44000000#32 0x358637BD#32 x reduces_S512x512_S512 (.inl rfl) rfl shapeCasts_S512_S512x1
  unfold k0_pay1
  dsimp only
  rw [ev_ext, hi, normed_block, ev_repeat_row, ev_mul]
  rfl

theorem block' (x g : EMat) : k0_pay2 (ev 512 512 .bf16 x) (ev 1 512 .f32 g) = ev 512 512 .bf16 (latentOut x g) := block x g

section
variable (c : Dev nD) (i : grid0.Coords) (a1 a2 a5 a6 : Memref sig .tc .vmem S512x512 .bf16) (a3 a4 : Memref sig .tc .vmem S1x512 .f32) (w1 : a1.IsWhole) (w2 : a2.IsWhole) (w3 : a3.IsWhole)
  (w4 : a4.IsWhole) (w5 : a5.IsWhole) (w6 : a6.IsWhole)
  (x0 x1 : Vec Ideal S512x512 .bf16) (x2 x3 : Vec Ideal S1x512 .f32)

theorem out_4 : out0_A_4 c i a1 w1 a2 w2 a3 w3 a4 w4 a5 w5 a6 w6 x0 x1 x2 x3 = k0_pay1 x0 x2 := by
  unfold out0_A_4 kernelRun0_A
  dsimp only
  refine (View.read_writes_full _ _ _ _ []).trans ?_
  rw [load_all, load_all]

theorem out_5 : out0_A_5 c i a1 w1 a2 w2 a3 w3 a4 w4 a5 w5 a6 w6 x0 x1 x2 x3 = k0_pay2 x1 x3 := by
  unfold out0_A_5 kernelRun0_A
  dsimp only
  refine (View.read_writes_full _ _ _ _ []).trans ?_
  rw [load_all, load_all]
end

theorem idx : ∀ t : Fin cfg0.N, win0_0.index t = ![t.val, 0] ∧ win0_1.index t = ![t.val, 1] ∧ win0_2.index t = ![0, 0] ∧ win0_3.index t = ![0, 0]
    ∧ win0_4.index t = ![t.val, 0] ∧ win0_5.index t = ![t.val, 0] := by decide +kernel

section
variable (m : Mem nD τ sig) (c : Dev nD) (P G H : EMat)

theorem blk_0 (hP : V m c main_arg0 = ev 4096 8320 .bf16 P) (t : Fin cfg0.N) : X0_0 m c t = ev 512 512 .bf16 (off (512 * t.val) 0 P) :=
  ext2 fun r d => by
    unfold X0_0 Pipeline.Window.fill
    rw [dif_pos (moved0_0 t _)]
    blk_simp [iblk, hP]
    rw [ev_apply]
    unfold ev off
    refine congrArg₂ P ?_ ?_ <;> blk_simp [(idx t).1]
    · simp
      ring

theorem blk_1 (hP : V m c main_arg0 = ev 4096 8320 .bf16 P) (t : Fin cfg0.N) : X0_1 m c t = ev 512 512 .bf16 (off (512 * t.val) 0 (off 0 512 P)) :=
  ext2 fun r d => by
    unfold X0_1 Pipeline.Window.fill
    rw [dif_pos (moved0_1 t _)]
    blk_simp [iblk, hP]
    rw [ev_apply]
    unfold ev off
    refine congrArg₂ P ?_ ?_ <;> blk_simp [(idx t).2.1]
    simp
    ring

theorem blk_2 (hG : V m c main_arg1 = evQ G) (t : Fin cfg0.N) : iblk m c 2 t = evQ G :=
  ev_whole hG fun _ => by constructor <;> blk_simp [(idx t).2.2.1]

theorem blk_3 (hH : V m c main_arg2 = evQ H) (t : Fin cfg0.N) : iblk m c 3 t = evQ H :=
  ev_whole hH fun _ => by constructor <;> blk_simp [(idx t).2.2.2.1]

theorem array_4 (hP : V m c main_arg0 = evP P) (hG : V m c main_arg1 = evQ G) : (dats m 0 c).arrAt 4 cfg0.N = evK (latentOut P G) := by
  refine (dats m 0 c).arrAt_eq_of_covers 4 _ (by decide +kernel) fun t _ y => ?_
  blk_simp
  rw [after0_4]
  unfold outsAt0
  dsimp only
  rw [out_4, blk_0 m c P hP, blk_2 m c G hG, block, latentOut_off]
  generalize latentOut P G = Z
  exact (congrFun (ev_block rfl fun _ => by constructor <;> blk_simp [(idx t).2.2.2.2.1] <;> simp <;> ring) y).symm

theorem array_5 (hP : V m c main_arg0 = evP P) (hH : V m c main_arg2 = evQ H) :
    (dats m 0 c).arrAt 5 cfg0.N = evK (latentOut (off 0 512 P) H) := by
  refine (dats m 0 c).arrAt_eq_of_covers 5 _ (by decide +kernel) fun t _ y => ?_
  blk_simp
  rw [after0_5]
  unfold outsAt0
  dsimp only
  rw [out_5, blk_1 m c P hP, blk_3 m c H hH, block', latentOut_off]
  generalize latentOut (off 0 512 P) H = Z
  exact (congrFun (ev_block rfl fun _ => by constructor <;> blk_simp [(idx t).2.2.2.2.2] <;> simp <;> ring) y).symm
end

/-- The two arrays in the words of the arguments. -/
def vals (P : FVec Ideal ⟨2, ![4096, 8320]⟩ .bf16) (G H : FVec Ideal ⟨2, ![1, 512]⟩ .f32) : FVec Ideal ⟨2, ![4096, 512]⟩ .bf16 × FVec Ideal ⟨2, ![4096, 512]⟩ .bf16 :=
  (evK (latentOut (ofv P) (ofv G)), evK (latentOut (off 0 512 (ofv P)) (ofv H)))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2))
      r.2.mem (c.tc.loc main_v0_0) = v.1
      ∧ r.2.mem (c.tc.loc main_v0_1) = v.2
      ∧ Kept m r.2.mem c main_arg0 ∧ Kept m r.2.mem c main_arg1 ∧ Kept m r.2.mem c main_arg2 :=
  (θ_run defs _ _).mono (fun _ h c => ⟨(h c).1.trans (array_4 m c _ _ of_ofv of_ofv), (h c).2.1.trans (array_5 m c _ _ of_ofv of_ofv), (h c).2.2⟩)
    (Value.run_blocks m ρ)

end Latent
end Cert.Mm
-- ==== Proof.NormRef.lean ====
/-
  What the references of the forward normalisations compute, equal to what their calls leave.
-/
module

public import proofs.«01_k».proof.Proof.Norm1BwdRef
public import proofs.«01_k».proof.Proof.LatentBwdRef
public import proofs.«01_k».proof.Proof.NormArray
public import proofs.«01_k».proof.Proof.Gen.Norm1RefIdeal.Run
public import proofs.«01_k».proof.Proof.Gen.Norm1RefIdeal.Read
public import proofs.«01_k».proof.Proof.Gen.Norm2RefIdeal.Run
public import proofs.«01_k».proof.Proof.Gen.Norm2RefIdeal.Read
public import proofs.«01_k».proof.Proof.Gen.LatentRefIdeal.Run
public import proofs.«01_k».proof.Proof.Gen.LatentRefIdeal.Read

@[expose] public section

noncomputable section

namespace Cert.Mm

open Idealize.ShloMosaic
open ValueIdx TcCoe Idealize.SL.Sem
open Sb (ext2)

namespace Norm1
open Norm1RefIdeal Norm1RefIdeal.Gen Norm1RefIdeal.Read

theorem ref_normed (X : EMat) : val_main_v11 (F := Ideal) (ev 4096 2048 .f32 X)
    = ev 4096 2048 .f32 (normed 2048 width tiny X) := Norm1Bwd.ref_normed X

/-- Normalised rows under a gain, a scale and a shift. -/
theorem modulated_host (x g s h : EMat) :
    truncf .bf16 (addf (mulf (mulf (ev 4096 2048 .f32 (normed 2048 width tiny x))
        (broadcastInDim S4096x2048 ![0, 1] bcast_S1x2048_S4096x2048_0_1 (ev 1 2048 .f32 g)))
        (broadcastInDim S4096x2048 ![0, 1] bcast_S1x2048_S4096x2048_0_1
          (addf (broadcastInDim S1x2048 ![] bcast_S_S1x2048 (constant S_ .f32 0x3F800000#32)) (ev 1 2048 .f32 s))))
        (broadcastInDim S4096x2048 ![0, 1] bcast_S1x2048_S4096x2048_0_1 (ev 1 2048 .f32 h))) bitsLt_bf16_f32 = ev 4096 2048 .bf16 (modulated x g s h) := by
  rw [mod_host, gained_host, gained_host, host_repeat_row]
  rfl

theorem ref_value (X : FVec Ideal ⟨2, ![4096, 2048]⟩ .f32) (G : FVec Ideal ⟨2, ![1, 2048]⟩ .f32) (A : FVec Ideal ⟨2, ![1, 12288]⟩ .f32) :
    val_main_v20 (F := Ideal) X G A = vals X G A := by
  have e : val_main_v20 (F := Ideal) (ev 4096 2048 .f32 (ofv X)) (ev 1 2048 .f32 (ofv G)) (ev 1 12288 .f32 (ofv A)) = vals X G A := by
    have hs : val_main_v0 (F := Ideal) (ev 1 12288 .f32 (ofv A)) = ev 1 2048 .f32 (off 0 2048 (ofv A)) := host_cut _ 2048 slices_S1x12288_S1x2048_0_2048
    have hh : val_main_v1 (F := Ideal) (ev 1 12288 .f32 (ofv A)) = ev 1 2048 .f32 (ofv A) := by
      refine (host_cut _ 0 slices_S1x12288_S1x2048_0_0).trans ?_
      rw [off_zero]
    unfold val_main_v20 val_main_v19 val_main_v18 val_main_v17 val_main_v16 val_main_v15 val_main_v13
    rw [ref_normed, hs, hh]
    exact modulated_host (ofv X) (ofv G) (off 0 2048 (ofv A)) (ofv A)
  rwa [ev_ofv, ev_ofv, ev_ofv] at e
end Norm1

namespace Norm2
open Norm2RefIdeal Norm2RefIdeal.Gen Norm2RefIdeal.Read
variable (X O G A : EMat)

theorem ref_sum : val_main_v5 (F := Ideal) (ev 4096 2048 .f32 X) (ev 4096 2048 .f32 O) (ev 1 12288 .f32 A) = ev 4096 2048 .f32 (residual X O (off 0 4096 A)) := by
  refine (congrArg (addf (ev 4096 2048 .f32 X)) (gated_host O (off 0 4096 A) bcast_S1x2048_S4096x2048_0_1)).trans ?_
  rfl

theorem ref_out : val_main_v24 (F := Ideal) (ev 4096 2048 .f32 X) (ev 4096 2048 .f32 O) (ev 1 2048 .f32 G) (ev 1 12288 .f32 A)
    = ev 4096 2048 .bf16 (modulated (residual X O (off 0 4096 A)) G (off 0 8192 A) (off 0 6144 A)) := by
  have hs : val_main_v2 (F := Ideal) (ev 1 12288 .f32 A) = ev 1 2048 .f32 (off 0 8192 A) := host_cut _ 8192 slices_S1x12288_S1x2048_0_8192
  have hh : val_main_v1 (F := Ideal) (ev 1 12288 .f32 A) = ev 1 2048 .f32 (off 0 6144 A) := host_cut _ 6144 slices_S1x12288_S1x2048_0_6144
  have hn : val_main_v15 (F := Ideal) (ev 4096 2048 .f32 X) (ev 4096 2048 .f32 O) (ev 1 12288 .f32 A)
      = ev 4096 2048 .f32 (normed 2048 width tiny (residual X O (off 0 4096 A))) := by
    unfold val_main_v15 val_main_v14 val_main_v13 val_main_v12 val_main_v10 val_main_v8 val_main_v7 val_main_v6
    rw [ref_sum]
    exact Norm1.ref_normed _
  unfold val_main_v24 val_main_v23 val_main_v22 val_main_v21 val_main_v20 val_main_v19 val_main_v17
  rw [hn, hs, hh]
  exact Norm1.modulated_host _ G (off 0 8192 A) (off 0 6144 A)

theorem ref_vals (X O : FVec Ideal ⟨2, ![4096, 2048]⟩ .f32) (G : FVec Ideal ⟨2, ![1, 2048]⟩ .f32) (A : FVec Ideal ⟨2, ![1, 12288]⟩ .f32) :
    val_main_v5 (F := Ideal) X O A = (vals X O G A).1 ∧ val_main_v24 (F := Ideal) X O G A = (vals X O G A).2 := by
  have e0 := ref_sum (ofv X) (ofv O) (ofv A)
  have e1 := ref_out (ofv X) (ofv O) (ofv G) (ofv A)
  rw [ev_ofv, ev_ofv, ev_ofv] at e0
  rw [ev_ofv, ev_ofv, ev_ofv, ev_ofv] at e1
  exact ⟨e0, e1⟩
end Norm2

namespace Latent
open LatentRefIdeal LatentRefIdeal.Gen LatentRefIdeal.Read
variable (P G : EMat)

theorem ref_x : val_main_v11 (F := Ideal) (ev 4096 8320 .bf16 P) = ev 4096 512 .f32 (latent P) := LatentBwd.ref_normed_x P
theorem ref_y : val_main_v24 (F := Ideal) (ev 4096 8320 .bf16 P) = ev 4096 512 .f32 (latent (off 0 512 P)) := LatentBwd.ref_normed_y P

theorem ref_4 : val_main_v27 (F := Ideal) (ev 4096 8320 .bf16 P) (ev 1 512 .f32 G) = ev 4096 512 .bf16 (latentOut P G) := by
  unfold val_main_v27 val_main_v13
  rw [ref_x]
  exact congrArg (fun z => truncf .bf16 z bitsLt_bf16_f32) (gained_host _ G bcast_S1x512_S4096x512_0_1)

theorem ref_5 : val_main_v28 (F := Ideal) (ev 4096 8320 .bf16 P) (ev 1 512 .f32 G) = ev 4096 512 .bf16 (latentOut (off 0 512 P) G) := by
  unfold val_main_v28 val_main_v26
  rw [ref_y]
  exact congrArg (fun z => truncf .bf16 z bitsLt_bf16_f32) (gained_host _ G bcast_S1x512_S4096x512_0_1)

theorem ref_vals (P : FVec Ideal ⟨2, ![4096, 8320]⟩ .bf16) (G H : FVec Ideal ⟨2, ![1, 512]⟩ .f32) :
    val_main_v27 (F := Ideal) P G = (vals P G H).1 ∧ val_main_v28 (F := Ideal) P H = (vals P G H).2 := by
  have e0 := ref_4 (ofv P) (ofv G)
  have e1 := ref_5 (ofv P) (ofv H)
  rw [ev_ofv, ev_ofv] at e0 e1
  exact ⟨e0, e1⟩
end Latent

end Cert.Mm
-- ==== Proof.LossArray.lean ====
/-
  The loss and its gradients as the loss head leaves them: the gradients of the stream and of the branch row by row, the gradient of the gate in the
  first of eight rows, gathered a block of 256 rows at a time, and the loss, gathered the same way, in every entry of a small array.
-/
module

public import proofs.«01_k».proof.Proof.NormBlock
public import proofs.«01_k».proof.Proof.Gen.LossIdeal.Value
public import Idealize.ShloMosaic.Lib.Pointwise.Reduce

@[expose] public section

noncomputable section

namespace Cert.Mm

open Idealize.ShloMosaic
open ValueIdx TcCoe Idealize.SL.Sem
open Sb (ext2 ld_all exists_ix2)

/-! ## The formulas -/

theorem ofBits_2048th : Ideal.ofBits .f32 0x3A000000#32 = ((1 / 2048 : ℝ) : EReal) := by
  rw [show (1 / 2048 : ℝ) = 8388608 * (2 ^ 34)⁻¹ by norm_num, EReal.coe_mul]; simp [Ideal.ofBits, Ideal.ieee]
theorem ofBits_4096th : Ideal.ofBits .f32 0x39800000#32 = ((1 / 4096 : ℝ) : EReal) := by
  rw [show (1 / 4096 : ℝ) = 8388608 * (2 ^ 35)⁻¹ by norm_num, EReal.coe_mul]; simp [Ideal.ofBits, Ideal.ieee]

/-- How far the stream with its gated branch is from the target. -/
def lossErr (x f y t : EMat) : EMat := fun i j => x i j + t 0 j * f i j - y i j

/-- The gradient of the stream. -/
def lossGrad (x f y t : EMat) : EMat := fun i j => lossErr x f y t i j * ((1 / 2048 : ℝ) : EReal)

/-- The terms of the sums: the gate's gradient in the first row, nothing below it. -/
def lossParts (x f y t : EMat) (k : ℕ) : EMat := if k = 0 then fun i j => lossGrad x f y t i j * f i j else fun _ _ => 0

/-- The sum of the squares of the first `n` rows. -/
def squares (n : ℕ) (e : EMat) : EReal := ∑ i ∈ Finset.range n, ∑ j ∈ Finset.range 2048, e i j * e i j

/-- The loss over the first `n` rows. -/
def lossOf (n : ℕ) (e : EMat) : EMat := fun _ _ => ((1 / 4096 : ℝ) : EReal) * squares n e

theorem lossErr_off (r : ℕ) (x f y t : EMat) : lossErr (off r 0 x) (off r 0 f) (off r 0 y) t = off r 0 (lossErr x f y t) := by
  funext i j; simp [lossErr, off]
theorem lossGrad_off (r : ℕ) (x f y t : EMat) : lossGrad (off r 0 x) (off r 0 f) (off r 0 y) t = off r 0 (lossGrad x f y t) := by
  unfold lossGrad
  rw [lossErr_off]
  rfl
theorem lossParts_off (r : ℕ) (x f y t : EMat) (k : ℕ) : lossParts (off r 0 x) (off r 0 f) (off r 0 y) t k = off r 0 (lossParts x f y t k) := by
  unfold lossParts
  rw [lossGrad_off]
  split <;> rfl

/-- The loss of a block more. -/
theorem lossOf_add (n : ℕ) (e : EMat) (i j : ℕ) : lossOf (n + 256) e i j = lossOf n e i j + lossOf 256 (off n 0 e) i j := by
  unfold lossOf squares
  rw [← real_mul_add (by norm_num), Finset.sum_range_add]
  simp only [off, Nat.zero_add]

/-- The first row added to. -/
theorem first_row (x f y t z : EMat) {b : ℕ} :
    ev 8 b .f32 (setRow 0 (fun i j => off 0 0 z i j + ∑ k ∈ Finset.range 256, lossGrad x f y t k j * f k j) z)
      = ev 8 b .f32 fun k j => z k j + sums 256 (lossParts x f y t) k j :=
  ev_congr fun k _ j _ => by
    unfold setRow sums lossParts off
    by_cases h : k = 0
    · subst h; simp
    · simp [h]

/-- The sum of all the entries. -/
theorem ev_total {a b : ℕ} {φ : FTy} (x : EMat) (w : BitVec φ.bits) (h1 : (⟨2, ![a, b]⟩ : Shape).ShapeCasts ⟨3, ![1, a, b]⟩) (h : (⟨3, ![1, a, b]⟩ : Shape).Reduces [1, 2] ⟨1, ![1]⟩)
    (hφ : FKind.Formats φ) (hw : w = FKind.add.neutral φ hφ) (h2 : (⟨1, ![1]⟩ : Shape).ShapeCasts ⟨3, ![1, 1, 1]⟩) (hp) :
    extractAt (s := ⟨3, ![1, 1, 1]⟩) ![0, 0, 0] (shapeCast ⟨3, ![1, 1, 1]⟩ (multiReduction .add [1, 2] ⟨1, ![1]⟩ (shapeCast ⟨3, ![1, a, b]⟩ (ev a b φ x) h1) w h hφ hw) h2) hp
      = ∑ i ∈ Finset.range a, ∑ j ∈ Finset.range b, x i j := by
  unfold extractAt
  rw [shapeCast]
  refine (multiReduction_add_apply _ _ h hφ hw _).trans ((Ideal.reduceAdd_r3_a12 h _ _).trans ?_)
  rw [Finset.sum_range]
  refine Finset.sum_congr rfl fun i _ => ?_
  rw [Finset.sum_range]
  exact Finset.sum_congr rfl fun j _ => shapeCast_ab_1ab_apply _ h1 _ i j

namespace Loss
open LossIdeal LossIdeal.Gen

/-! ## A block -/

section
variable (x f y t z : EMat)

theorem block_err : k0_pay4 (evB f) (evR t) (evB x) (evB y) = evB (lossErr x f y t) := by
  unfold k0_pay4
  dsimp only
  rw [ev_repeat_row]
  rfl

theorem block_grad : k0_pay5 (evB f) (evR t) (evB x) (evB y) = evB (lossGrad x f y t) := by
  unfold k0_pay5
  dsimp only
  rw [block_err]
  exact ev_congr fun i _ j _ => congrArg (lossErr x f y t i j * ·) ofBits_2048th

theorem block_branch : k0_pay6 (evB f) (evR t) (evB x) (evB y) = evBb fun i j => lossGrad x f y t i j * t 0 j := by
  unfold k0_pay6
  dsimp only
  rw [block_grad, ev_repeat_row]
  rfl

theorem block_gate : k0_pay7 (evB f) (evR t) (evB x) (evB y) (evR z)
    = evR fun i j => z i j + ∑ k ∈ Finset.range 256, lossGrad x f y t k j * f k j := by
  unfold k0_pay7
  dsimp only
  rw [block_grad, ev_mul]
  exact sum_block (fun i j => lossGrad x f y t i j * f i j) z _ _ _ _ _

theorem block_squares : k0_pay9 (F := Ideal) (evB f) (evR t) (evB x) (evB y) = squares 256 (lossErr x f y t) := by
  unfold k0_pay9
  dsimp only
  rw [block_err, ev_mul]
  exact ev_total _ _ _ _ _ _ _ _

theorem block_loss (e : EMat) : k0_pay1 (k0_pay8 (ev 8 128 .f32 z)) (squares 256 e) = ev 8 128 .f32 fun i j => z i j + lossOf 256 e i j := by
  unfold k0_pay1 k0_pay8
  dsimp only
  rw [shapeCast_self]
  exact ev_congr fun i _ j _ => congrArg (fun w => z i j + w * squares 256 e) ofBits_4096th
end

section
variable (c : Dev nD) (i : grid0.Coords) (a1 a2 a3 a5 : Memref sig .tc .vmem S256x2048 .f32) (a4 : Memref sig .tc .vmem S1x2048 .f32) (a6 : Memref sig .tc .vmem S256x2048 .bf16)
  (a7 : Memref sig .tc .vmem S8x2048 .f32) (a8 : Memref sig .tc .vmem S8x128 .f32) (w1 : a1.IsWhole) (w2 : a2.IsWhole) (w3 : a3.IsWhole)
  (w4 : a4.IsWhole) (w5 : a5.IsWhole) (w6 : a6.IsWhole) (w7 : a7.IsWhole) (w8 : a8.IsWhole)
  (x f y t z : EMat)

theorem out_A_4 (hc) : out0_A_4 (F := Ideal) c i a1 w1 a2 w2 a3 w3 a4 w4 a5 w5 a6 w6 a7 w7 a8 w8 hc
    (evB x) (evB f) (evB y) (evR t) = evB (lossGrad x f y t) := by
  unfold out0_A_4 kernelRun0_A
  dsimp only
  refine (View.read_writes_full _ _ _ _ []).trans ?_
  rw [load_all, load_all, load_all, load_all]
  exact block_grad x f y t

theorem out_B_4 (hc) (v w) : out0_B_4 (F := Ideal) c i a1 w1 a2 w2 a3 w3 a4 w4 a5 w5 a6 w6 a7 w7 a8 w8 hc
    (evB x) (evB f) (evB y) (evR t) v w = evB (lossGrad x f y t) := by
  unfold out0_B_4 kernelRun0_B
  dsimp only
  refine (View.read_writes_full _ _ _ _ []).trans ?_
  rw [load_all, load_all, load_all, load_all]
  exact block_grad x f y t

theorem out_A_5 (hc) : out0_A_5 (F := Ideal) c i a1 w1 a2 w2 a3 w3 a4 w4 a5 w5 a6 w6 a7 w7 a8 w8 hc
    (evB x) (evB f) (evB y) (evR t) = evBb fun i j => lossGrad x f y t i j * t 0 j := by
  unfold out0_A_5 kernelRun0_A
  dsimp only
  refine (View.read_writes_full _ _ _ _ []).trans ?_
  rw [load_all, load_all, load_all, load_all]
  exact block_branch x f y t

theorem out_B_5 (hc) (v w) : out0_B_5 (F := Ideal) c i a1 w1 a2 w2 a3 w3 a4 w4 a5 w5 a6 w6 a7 w7 a8 w8 hc
    (evB x) (evB f) (evB y) (evR t) v w = evBb fun i j => lossGrad x f y t i j * t 0 j := by
  unfold out0_B_5 kernelRun0_B
  dsimp only
  refine (View.read_writes_full _ _ _ _ []).trans ?_
  rw [load_all, load_all, load_all, load_all]
  exact block_branch x f y t

theorem out_A_6 (hc) : out0_A_6 (F := Ideal) c i a1 w1 a2 w2 a3 w3 a4 w4 a5 w5 a6 w6 a7 w7 a8 w8 hc
    (evB x) (evB f) (evB y) (evR t) = evS (sums 256 (lossParts x f y t)) := by
  unfold out0_A_6 kernelRun0_A
  dsimp only
  have l0 : Leaves kernelRun0_A.sl.H6_1 fun _ _ => 0 := leaves_zeros _ _ _ rfl
  have e0 : kernelRun0_A.sl.v18 (F := Ideal) c a7 = evR (off 0 0 fun _ _ => 0) := leaves_load 0 _ l0 _
  rw [load_all, load_all, load_all, load_all, e0, block_gate]
  exact ((leaves_row 0 inb_S8x2048_S1x2048_0_0 l0 _).read VO0_6 _).trans ((first_row x f y t _).trans (ev_congr fun _ _ _ _ => zero_add _))

theorem out_B_6 (hc) (w) : out0_B_6 (F := Ideal) c i a1 w1 a2 w2 a3 w3 a4 w4 a5 w5 a6 w6 a7 w7 a8 w8 hc
    (evB x) (evB f) (evB y) (evR t) (evS z) w = evS fun k j => z k j + sums 256 (lossParts x f y t) k j := by
  unfold out0_B_6 kernelRun0_B
  dsimp only
  have hz := w7.read_unread (Val := Elt Ideal) (evS z)
  rw [load_all, load_all, load_all, load_all, load_row _ _ 0 _ z hz, block_gate]
  exact (read_set_row _ _ 0 _ [] _ _ hz _ rfl).trans (first_row x f y t z)

open kernelRun0_A.sl in
theorem out_A_7 (hc) : out0_A_7 (F := Ideal) c i a1 w1 a2 w2 a3 w3 a4 w4 a5 w5 a6 w6 a7 w7 a8 w8 hc
    (evB x) (evB f) (evB y) (evR t) = ev 8 128 .f32 (lossOf 256 (lossErr x f y t)) := by
  unfold out0_A_7 kernelRun0_A
  dsimp only
  refine (View.read_writes_full _ _ _ _ _).trans ?_
  unfold r r_1
  have l0 : Leaves H7_1 fun _ _ => 0 := leaves_zeros _ _ _ rfl
  have e0 : v25 (F := Ideal) c a8 = ev 8 128 .f32 fun _ _ => 0 := by
    refine Eq.trans ?_ (l0.read a8.view a8.view.junk)
    exact ld_all _ _ _
  rw [load_all, load_all, load_all, load_all, e0, block_squares]
  exact (block_loss _ _).trans (ev_congr fun _ _ _ _ => zero_add _)

theorem out_B_7 (hc) (w) : out0_B_7 (F := Ideal) c i a1 w1 a2 w2 a3 w3 a4 w4 a5 w5 a6 w6 a7 w7 a8 w8 hc
    (evB x) (evB f) (evB y) (evR t) w (ev 8 128 .f32 z) = ev 8 128 .f32 fun k j => z k j + lossOf 256 (lossErr x f y t) k j := by
  unfold out0_B_7 kernelRun0_B
  dsimp only
  refine (View.read_writes_full _ _ _ _ []).trans ?_
  unfold kernelRun0_B.sl.r kernelRun0_B.sl.r_1
  rw [load_all, load_all, load_all, load_all, load_all, block_squares]
  exact block_loss _ _
end

/-! ## The arrays -/

theorem idx : ∀ t : Fin cfg0.N, win0_0.index t = ![t.val, 0] ∧ win0_1.index t = ![t.val, 0] ∧ win0_2.index t = ![t.val, 0] ∧ win0_3.index t = ![0, 5]
    ∧ win0_4.index t = ![t.val, 0] ∧ win0_5.index t = ![t.val, 0] ∧ win0_6.index t = ![0, 0] ∧ win0_7.index t = ![0, 0] := by decide +kernel

section
variable (m : Mem nD τ sig) (c : Dev nD) (X B Y A : EMat)

theorem blk_0 (hX : V m c main_arg0 = evT X) (t : Fin cfg0.N) : iblk m c 0 t = evB (off (256 * t.val) 0 X) :=
  ev_block hX fun _ => by constructor <;> blk_simp [(idx t).1] <;> simp <;> ring

theorem blk_1 (hB : V m c main_arg1 = evT B) (t : Fin cfg0.N) : iblk m c 1 t = evB (off (256 * t.val) 0 B) :=
  ev_block hB fun _ => by constructor <;> blk_simp [(idx t).2.1] <;> simp <;> ring

theorem blk_2 (hY : V m c main_arg2 = evT Y) (t : Fin cfg0.N) : iblk m c 2 t = evB (off (256 * t.val) 0 Y) :=
  ev_block hY fun _ => by constructor <;> blk_simp [(idx t).2.2.1] <;> simp <;> ring

theorem blk_3 (hA : V m c main_arg3 = evM A) (t : Fin cfg0.N) : iblk m c 3 t = evR (off 0 10240 A) :=
  ev_block hA fun _ => by constructor <;> blk_simp [(idx t).2.2.2.1] <;> simp <;> try ring

variable (hX : V m c main_arg0 = evT X) (hB : V m c main_arg1 = evT B) (hY : V m c main_arg2 = evT Y)
  (hA : V m c main_arg3 = evM A)
include hX hB hY hA

/-- What a point leaves: its rows of both gradients, and the gate's gradient and the loss over the rows so far. -/
theorem outs (t : ℕ) (h : t < cfg0.N) : outsAt0 m c t h
    = (evB (off (256 * t) 0 (lossGrad X B Y (off 0 10240 A))),
      evBb (off (256 * t) 0 fun i j => lossGrad X B Y (off 0 10240 A) i j * off 0 10240 A 0 j),
      evS (sums (256 * (t + 1)) (lossParts X B Y (off 0 10240 A))),
      ev 8 128 .f32 (lossOf (256 * (t + 1)) (lossErr X B Y (off 0 10240 A)))) := by
  have hN : cfg0.N = 16 := N_0
  induction t with
  | zero =>
    rw [outsAt0_A m c ⟨0, h⟩ rfl, blk_0 m c X hX, blk_1 m c B hB, blk_2 m c Y hY, blk_3 m c A hA, out_A_4, out_A_5, out_A_6, out_A_7, lossGrad_off, lossErr_off]
    refine congrArg₂ Prod.mk rfl (congrArg₂ Prod.mk (ev_congr fun i _ j _ => by simp [off]) (congrArg₂ Prod.mk (ev_congr fun k _ j _ => ?_) (ev_congr fun _ _ _ _ => ?_)))
    · show sums 256 (lossParts (off (256 * 0) 0 X) _ _ _) k j = _
      unfold sums
      refine Finset.sum_congr rfl fun i _ => ?_
      rw [lossParts_off, off_zero]
    · show lossOf 256 (off (256 * 0) 0 _) _ _ = lossOf 256 _ _ _
      rw [off_zero]
  | succ t ih =>
    have hz : ¬ (t + 1) % 16 = 0 := by omega
    rw [outsAt0_B m c ⟨t + 1, h⟩ hz]
    simp only [Nat.add_sub_cancel]
    rw [ih (by omega), blk_0 m c X hX, blk_1 m c B hB, blk_2 m c Y hY, blk_3 m c A hA, out_B_4, out_B_5, out_B_6, out_B_7, lossGrad_off, lossErr_off]
    refine congrArg₂ Prod.mk rfl (congrArg₂ Prod.mk (ev_congr fun i _ j _ => by simp [off]) (congrArg₂ Prod.mk (ev_congr fun k _ j _ => ?_) (ev_congr fun _ _ _ _ => ?_)))
    · show sums (256 * (t + 1)) _ k j + sums 256 (lossParts (off (256 * (t + 1)) 0 X) _ _ _) k j = _
      rw [Nat.mul_succ 256 (t + 1), sums_add]
      refine congrArg (_ + ·) (Finset.sum_congr rfl fun i _ => ?_)
      rw [lossParts_off]
    · show lossOf (256 * (t + 1)) _ _ _ + lossOf 256 (off (256 * (t + 1)) 0 _) _ _ = _
      exact (lossOf_add (256 * (t + 1)) _ _ _).symm

/-- The gradient of the stream. -/
theorem array_4 : (dats m 0 c).arrAt 4 cfg0.N = evT (lossGrad X B Y (off 0 10240 A)) := by
  refine (dats m 0 c).arrAt_eq_of_covers 4 _ (by decide +kernel) fun t _ y => ?_
  blk_simp
  rw [after0_4, outs m c X B Y A hX hB hY hA]
  dsimp only
  generalize lossGrad X B Y (off 0 10240 A) = E
  exact (congrFun (ev_block rfl fun _ => by constructor <;> blk_simp [(idx t).2.2.2.2.1] <;> simp <;> ring) y).symm

/-- The gradient of the branch. -/
theorem array_5 : (dats m 0 c).arrAt 5 cfg0.N = evTb fun i j => lossGrad X B Y (off 0 10240 A) i j * off 0 10240 A 0 j := by
  refine (dats m 0 c).arrAt_eq_of_covers 5 _ (by decide +kernel) fun t _ y => ?_
  blk_simp
  rw [after0_5, outs m c X B Y A hX hB hY hA]
  dsimp only
  generalize (fun i j => lossGrad X B Y (off 0 10240 A) i j * off 0 10240 A 0 j) = E
  exact (congrFun (ev_block rfl fun _ => by constructor <;> blk_simp [(idx t).2.2.2.2.2.1] <;> simp <;> ring) y).symm

/-- The gradient of the gate. -/
theorem array_6 : (dats m 0 c).arrAt 6 cfg0.N = evS (sums 4096 (lossParts X B Y (off 0 10240 A))) := by
  refine (dats m 0 c).arrAt_eq_of_covers 6 _ (by decide +kernel) fun t hf y => ?_
  have h15 : t.val % 16 = 15 := (flush0_6 t).1 hf
  have ht : t.val = 15 := by
    have := lt_of_lt_of_eq t.isLt (show cfg0.N = 16 from N_0)
    omega
  blk_simp
  rw [after0_6, outs m c X B Y A hX hB hY hA, ht]
  dsimp only
  exact (congrFun (ev_whole rfl fun _ => by constructor <;> blk_simp [(idx t).2.2.2.2.2.2.1]) y).symm

/-- The loss. -/
theorem array_7 : (dats m 0 c).arrAt 7 cfg0.N = ev 8 128 .f32 (lossOf 4096 (lossErr X B Y (off 0 10240 A))) := by
  refine (dats m 0 c).arrAt_eq_of_covers 7 _ (by decide +kernel) fun t hf y => ?_
  have h15 : t.val % 16 = 15 := (flush0_7 t).1 hf
  have ht : t.val = 15 := by
    have := lt_of_lt_of_eq t.isLt (show cfg0.N = 16 from N_0)
    omega
  blk_simp
  rw [after0_7, outs m c X B Y A hX hB hY hA, ht]
  dsimp only
  obtain ⟨r, d, rfl⟩ := exists_ix2 y
  rw [ev_apply]
  rfl
end

/-- The four arrays in the words of the arguments. -/
def vals (X B Y : FVec Ideal ⟨2, ![4096, 2048]⟩ .f32) (A : FVec Ideal ⟨2, ![1, 12288]⟩ .f32) :
    FVec Ideal ⟨2, ![4096, 2048]⟩ .f32 × FVec Ideal ⟨2, ![4096, 2048]⟩ .bf16 × FVec Ideal ⟨2, ![8, 2048]⟩ .f32 × FVec Ideal ⟨2, ![8, 128]⟩ .f32 :=
  (evT (lossGrad (ofv X) (ofv B) (ofv Y) (off 0 10240 (ofv A))),
    evTb (fun i j => lossGrad (ofv X) (ofv B) (ofv Y) (off 0 10240 (ofv A)) i j * off 0 10240 (ofv A) 0 j),
    evS (sums 4096 (lossParts (ofv X) (ofv B) (ofv Y) (off 0 10240 (ofv A)))),
    ev 8 128 .f32 (lossOf 4096 (lossErr (ofv X) (ofv B) (ofv Y) (off 0 10240 (ofv A)))))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3))
      r.2.mem (c.tc.loc main_v0_0) = v.1
      ∧ r.2.mem (c.tc.loc main_v0_1) = v.2.1
      ∧ r.2.mem (c.tc.loc main_v0_2) = v.2.2.1
      ∧ r.2.mem (c.tc.loc main_v0_3) = v.2.2.2
      ∧ Kept m r.2.mem c main_arg0 ∧ Kept m r.2.mem c main_arg1 ∧ Kept m r.2.mem c main_arg2 ∧ Kept m r.2.mem c main_arg3 :=
  (θ_run defs _ _).mono (fun _ h c => ⟨(h c).1.trans (array_4 m c _ _ _ _ of_ofv of_ofv of_ofv of_ofv),
    (h c).2.1.trans (array_5 m c _ _ _ _ of_ofv of_ofv of_ofv of_ofv),
    (h c).2.2.1.trans (array_6 m c _ _ _ _ of_ofv of_ofv of_ofv of_ofv),
    (h c).2.2.2.1.trans (array_7 m c _ _ _ _ of_ofv of_ofv of_ofv of_ofv), (h c).2.2.2.2⟩) (Value.run_blocks m ρ)

end Loss
end Cert.Mm
-- ==== Proof.LossRef.lean ====
/-
  What the reference of the loss head computes: the loss, the gradients of the stream and of the branch and the gate's gradient, equal to those of the
  call.
-/
module

public import proofs.«01_k».proof.Proof.NormHost
public import proofs.«01_k».proof.Proof.LossArray
public import proofs.«01_k».proof.Proof.Gen.LossRefIdeal.Run
public import proofs.«01_k».proof.Proof.Gen.LossRefIdeal.Read

@[expose] public section

noncomputable section

namespace Cert.Mm

open Idealize.ShloMosaic
open ValueIdx TcCoe Idealize.SL.Sem
open Sb (ext2)

theorem ofBits_2 : Ideal.ofBits .f32 0x40000000#32 = ((2 : ℝ) : EReal) := by
  rw [show (2 : ℝ) = 8388608 * (2 ^ 22)⁻¹ by norm_num, EReal.coe_mul]; simp [Ideal.ofBits, Ideal.ieee]
theorem ofBits_half : Ideal.ofBits .f32 0x3F000000#32 = ((1 / 2 : ℝ) : EReal) := by
  rw [show (1 / 2 : ℝ) = 8388608 * (2 ^ 24)⁻¹ by norm_num, EReal.coe_mul]; simp [Ideal.ofBits, Ideal.ieee]

/-- One number in every entry of a vector. -/
theorem host_fill_vec {a : ℕ} {φ : FTy} (h : (⟨0, ![]⟩ : Shape).BroadcastsInDim ⟨1, ![a]⟩ ![]) (w : FVec Ideal ⟨0, ![]⟩ φ) :
    broadcastInDim ⟨1, ![a]⟩ ![] h w = vec a φ fun _ => w ValueIdx.ix0 :=
  funext fun i => broadcastInDim_scalar_apply h w i

/-- The sum of a vector. -/
theorem host_vec_sum {a : ℕ} (v : ℕ → EReal) (h : (⟨1, ![a]⟩ : Shape).ReducesTo [0] ⟨0, ![]⟩) (hs : 0 < (⟨0, ![]⟩ : Shape).numel) (i : (⟨0, ![]⟩ : Shape).Idx) :
    Host.reduceAdd (vec a .f32 v) (constant ⟨0, ![]⟩ .f32 0x00000000#32) h hs i = ∑ k ∈ Finset.range a, v k := by
  simp only [Host.reduceAdd, Ideal.hostReduceAdd_def]
  rw [Ideal.hostReduceAdd_r1_a0, host_zero, zero_add, Finset.sum_range]
  rfl

/-- The derivative of half the mean of the squares: half of twice the error, over the number of columns. -/
theorem half_mean (e : EReal) :
    Ideal.div (Ideal.ofBits .f32 0x3F000000#32 * Ideal.ofBits .f32 0x3F800000#32) (Ideal.ofBits .f32 0x45000000#32) * (Ideal.ofBits .f32 0x40000000#32 * e)
      = e * ((1 / 2048 : ℝ) : EReal) := by
  rw [ofBits_half, Sb.ofBits_one, ofBits_2048, ofBits_2, Ideal.div_coe (by norm_num), ← mul_assoc, mul_comm e]
  refine congrArg (· * e) ?_
  rw [← EReal.coe_mul, ← EReal.coe_mul, ← EReal.coe_mul]
  norm_num

/-- Half the sum of the means of the squares. -/
theorem half_means (n : ℕ) (e : EMat) (i j : ℕ) :
    Ideal.ofBits .f32 0x3F000000#32 * ∑ k ∈ Finset.range n, Ideal.div (∑ l ∈ Finset.range 2048, e k l * e k l) (Ideal.ofBits .f32 0x45000000#32) = lossOf n e i j := by
  unfold lossOf squares
  rw [ofBits_half, ofBits_2048, real_mul_sum (by norm_num), real_mul_sum (by norm_num)]
  refine Finset.sum_congr rfl fun k _ => ?_
  rw [Ideal.div_coe (by norm_num), mul_comm (∑ l ∈ Finset.range 2048, e k l * e k l), ← mul_assoc, ← EReal.coe_mul]
  norm_num

namespace Loss
open LossRefIdeal LossRefIdeal.Gen LossRefIdeal.Read
variable (X B Y A : EMat)

theorem ref_err : val_main_v4 (F := Ideal) (ev 4096 2048 .f32 X) (ev 4096 2048 .f32 B) (ev 4096 2048 .f32 Y) (ev 1 12288 .f32 A)
    = ev 4096 2048 .f32 (lossErr X B Y (off 0 10240 A)) := by
  refine (congrArg (fun z => subf (addf (ev 4096 2048 .f32 X) z) (ev 4096 2048 .f32 Y)) (gated_host B (off 0 10240 A) bcast_S1x2048_S4096x2048_0_1)).trans ?_
  rfl

theorem ref_grad : val_main_v18 (F := Ideal) (ev 4096 2048 .f32 X) (ev 4096 2048 .f32 B) (ev 4096 2048 .f32 Y) (ev 1 12288 .f32 A)
    = ev 4096 2048 .f32 (lossGrad X B Y (off 0 10240 A)) := by
  have h2 : val_main_v6 (F := Ideal) = ev 4096 2048 .f32 fun _ _ => Ideal.ofBits .f32 0x40000000#32 := host_fill bcast_S_S4096x2048 _
  have hc : val_main_v17 (F := Ideal) = ev 4096 2048 .f32 fun _ _ =>
      Ideal.div (Ideal.ofBits .f32 0x3F000000#32 * Ideal.ofBits .f32 0x3F800000#32) (Ideal.ofBits .f32 0x45000000#32) := by
    unfold val_main_v17 val_main_v16 val_main_v15 val_main_v14
    rw [host_fill_vec, host_fill_vec]
    exact host_cols (fun _ => Ideal.div (Ideal.ofBits .f32 0x3F000000#32 * Ideal.ofBits .f32 0x3F800000#32) (Ideal.ofBits .f32 0x45000000#32)) bcast_S4096_S4096x2048_0
  unfold val_main_v18 val_main_v7
  rw [h2, hc, ref_err]
  exact ev_congr fun i _ j _ => half_mean _

theorem ref_branch : val_main_v24 (F := Ideal) (ev 4096 2048 .f32 X) (ev 4096 2048 .f32 B) (ev 4096 2048 .f32 Y) (ev 1 12288 .f32 A)
    = ev 4096 2048 .bf16 fun i j => lossGrad X B Y (off 0 10240 A) i j * off 0 10240 A 0 j := by
  unfold val_main_v24 val_main_v20
  rw [ref_grad]
  refine (congrArg (fun z => truncf .bf16 z bitsLt_bf16_f32) (gated_host (lossGrad X B Y (off 0 10240 A)) (off 0 10240 A) bcast_S1x2048_S4096x2048_0_1)).trans ?_
  exact (ev_trunc _ _).trans (ev_congr fun i _ j _ => mul_comm _ _)

theorem ref_gate : val_main_v26 (F := Ideal) (ev 4096 2048 .f32 X) (ev 4096 2048 .f32 B) (ev 4096 2048 .f32 Y) (ev 1 12288 .f32 A)
    = ev 8 2048 .f32 (sums 4096 (lossParts X B Y (off 0 10240 A))) := by
  have h7 : val_main_v25 (F := Ideal) = ev 7 2048 .f32 fun _ _ => 0 := (host_fill bcast_S_S7x2048 _).trans (ev_congr fun _ _ _ _ => host_zero _)
  have h1 : val_main_v23 (F := Ideal) (ev 4096 2048 .f32 X) (ev 4096 2048 .f32 B) (ev 4096 2048 .f32 Y) (ev 1 12288 .f32 A)
      = ev 1 2048 .f32 fun _ j => ∑ k ∈ Finset.range 4096, lossGrad X B Y (off 0 10240 A) k j * B k j := by
    unfold val_main_v23 val_main_v22 val_main_v21
    rw [ref_grad]
    exact sum_host (fun k j => lossGrad X B Y (off 0 10240 A) k j * B k j) reducesTo_S4096x2048_S2048_d0 h_S_ (by decide) shapeCasts_S2048_S1x2048
  unfold val_main_v26
  rw [h1, h7]
  refine ext2 fun r c => ?_
  rw [ev_apply]
  unfold sums lossParts
  match r with
  | ⟨0, hr⟩ => exact (row_at _ _ _ c _ 1 (by simp) rfl (by simp) rfl).trans (Finset.sum_congr rfl fun k _ => rfl)
  | ⟨k + 1, hr⟩ =>
    refine (row_below _ _ _ c _ 7 1 (by simp) rfl (by simp) (by simp; omega) rfl).trans ?_
    simp

theorem ref_loss : val_main_v27 (F := Ideal) (ev 4096 2048 .f32 X) (ev 4096 2048 .f32 B) (ev 4096 2048 .f32 Y) (ev 1 12288 .f32 A)
    = ev 8 128 .f32 (lossOf 4096 (lossErr X B Y (off 0 10240 A))) := by
  have h8 : val_main_v10 (F := Ideal) (ev 4096 2048 .f32 X) (ev 4096 2048 .f32 B) (ev 4096 2048 .f32 Y) (ev 1 12288 .f32 A)
      = vec 4096 .f32 fun i => Ideal.div (∑ k ∈ Finset.range 2048, lossErr X B Y (off 0 10240 A) i k * lossErr X B Y (off 0 10240 A) i k) (Ideal.ofBits .f32 0x45000000#32) := by
    unfold val_main_v10 val_main_v9 val_main_v8 val_main_v5
    rw [ref_err, ev_mul, host_fill_vec]
    exact congrArg (fun z => Host.divf z (vec 4096 .f32 fun _ => Ideal.ofBits .f32 0x45000000#32))
      (host_row_sum (fun i j => lossErr X B Y (off 0 10240 A) i j * lossErr X B Y (off 0 10240 A) i j) reducesTo_S4096x2048_S4096_d1 h_S_ (by decide))
  refine (host_fill bcast_S_S8x128 _).trans (ev_congr fun i _ j _ => ?_)
  unfold val_main_v12 val_main_v11
  rw [h8]
  exact (congrArg (Ideal.ofBits .f32 0x3F000000#32 * ·) (host_vec_sum _ reducesTo_S4096_S_d0 h_S_ _)).trans (half_means 4096 _ i j)

/-- The four results in the words of the arguments. -/
theorem ref_vals (X B Y : FVec Ideal ⟨2, ![4096, 2048]⟩ .f32) (A : FVec Ideal ⟨2, ![1, 12288]⟩ .f32) :
    val_main_v18 (F := Ideal) X B Y A = (vals X B Y A).1 ∧ val_main_v24 (F := Ideal) X B Y A = (vals X B Y A).2.1
      ∧ val_main_v26 (F := Ideal) X B Y A = (vals X B Y A).2.2.1 ∧ val_main_v27 (F := Ideal) X B Y A = (vals X B Y A).2.2.2 := by
  have e0 := ref_grad (ofv X) (ofv B) (ofv Y) (ofv A)
  have e1 := ref_branch (ofv X) (ofv B) (ofv Y) (ofv A)
  have e2 := ref_gate (ofv X) (ofv B) (ofv Y) (ofv A)
  have e3 := ref_loss (ofv X) (ofv B) (ofv Y) (ofv A)
  rw [ev_ofv, ev_ofv, ev_ofv, ev_ofv] at e0 e1 e2 e3
  exact ⟨e0, e1, e2, e3⟩
end Loss

end Cert.Mm
-- ==== Proof.AdaArray.lean ====
/-
  The projection of the modulation, as its call leaves it and as its reference computes it: the conditioning vectors under x times the logistic
  function of x, times the weights, plus the bias.
-/
module

public import proofs.«01_k».proof.Proof.NormHost
public import proofs.«01_k».proof.Proof.Gen.AdaIdeal.Value
public import proofs.«01_k».proof.Proof.Gen.AdaRefIdeal.Run
public import proofs.«01_k».proof.Proof.Gen.AdaRefIdeal.Read
public import Idealize.ShloMosaic.Lib.KernelVsHost

@[expose] public section

noncomputable section

namespace Cert.Mm

open Idealize.ShloMosaic
open ValueIdx TcCoe Idealize.SL.Sem
open Sb (ext2 ld_all exists_ix2)

/-- The vectors under x times the logistic function of x. -/
def silu (x : EMat) : EMat := fun i j => x i j * Ideal.logistic (x i j)

/-- The projection. -/
def adaM (x w b : EMat) : EMat := fun i j => prod 2048 (silu x) w i j + b 0 j

theorem adaM_off (o : ℕ) (x w b : EMat) : adaM x (off 0 o w) (off 0 o b) = off 0 o (adaM x w b) := by
  funext i j
  simp [adaM, prod, off]

namespace Ada
section
open AdaIdeal AdaIdeal.Gen

theorem block (x w b : EMat) : k0_pay1 (ev 8 2048 .f32 x) (ev 2048 1024 .f32 w) (ev 1 1024 .f32 b) = ev 8 1024 .f32 (adaM x w b) := by
  unfold k0_pay1
  dsimp only
  rw [ev_repeat_row, ev_trunc]
  refine (congrArg (fun z => addf z (ev 8 1024 .f32 fun _ j => b 0 j)) (ev_nn (φ := .bf16) (ψ := .bf16) (p := none) (x := silu x) (y := w))).trans ?_
  rfl

theorem idx : ∀ t : Fin cfg0.N, win0_0.index t = ![0, 0] ∧ win0_1.index t = ![0, t.val] ∧ win0_2.index t = ![0, t.val] ∧ win0_3.index t = ![0, t.val] := by decide +kernel

section
variable (m : Mem nD τ sig) (c : Dev nD) (X W B : EMat)

theorem blk_0 (hX : V m c main_arg0 = ev 8 2048 .f32 X) (t : Fin cfg0.N) : iblk m c 0 t = ev 8 2048 .f32 X :=
  ev_whole hX fun _ => by constructor <;> blk_simp [(idx t).1]

theorem blk_1 (hW : V m c main_arg1 = ev 2048 3072 .f32 W) (t : Fin cfg0.N) : iblk m c 1 t = ev 2048 1024 .f32 (off 0 (1024 * t.val) W) :=
  ev_block hW fun _ => by constructor <;> blk_simp [(idx t).2.1] <;> simp <;> ring

theorem blk_2 (hB : V m c main_arg2 = ev 1 3072 .f32 B) (t : Fin cfg0.N) : iblk m c 2 t = ev 1 1024 .f32 (off 0 (1024 * t.val) B) :=
  ev_block hB fun _ => by constructor <;> blk_simp [(idx t).2.2.1] <;> simp <;> ring

theorem array (hX : V m c main_arg0 = ev 8 2048 .f32 X) (hW : V m c main_arg1 = ev 2048 3072 .f32 W) (hB : V m c main_arg2 = ev 1 3072 .f32 B) :
    (dats m 0 c).arrAt 3 cfg0.N = ev 8 3072 .f32 (adaM X W B) := by
  refine (dats m 0 c).arrAt_eq_of_covers 3 _ (by decide +kernel) fun t _ y => ?_
  blk_simp
  rw [after0_3, blk_0 m c X hX, blk_1 m c W hW, blk_2 m c B hB]
  unfold out0_3
  rw [ld_all, ld_all, ld_all, block, stored _ _ (by decide), adaM_off]
  generalize adaM X W B = Z
  exact (congrFun (ev_block rfl fun _ => by constructor <;> blk_simp [(idx t).2.2.2] <;> simp <;> ring) y).symm
end

/-- The array in the words of the arguments. -/
def vals (X : FVec Ideal ⟨2, ![8, 2048]⟩ .f32) (W : FVec Ideal ⟨2, ![2048, 3072]⟩ .f32) (B : FVec Ideal ⟨2, ![1, 3072]⟩ .f32) : FVec Ideal ⟨2, ![8, 3072]⟩ .f32 :=
  ev 8 3072 .f32 (adaM (ofv X) (ofv W) (ofv B))

theorem run (m : Mem nD τ sig) (ρ : Dev nD → PrngReg) :
    θ_run defs (onTc (τ := τ) main) ⟨m, fun _ => 0, ρ⟩ fun r => ∀ c : Dev nD,
      r.2.mem (c.tc.loc main_v0) = vals (m (c.tc.loc main_arg0)) (m (c.tc.loc main_arg1)) (m (c.tc.loc main_arg2))
      ∧ Kept m r.2.mem c main_arg0 ∧ Kept m r.2.mem c main_arg1 ∧ Kept m r.2.mem c main_arg2 :=
  run_of_eq (fun c => array m c _ _ _ of_ofv of_ofv of_ofv) (Value.run_blocks m ρ)
end

/-! ## The reference -/

section
open AdaRefIdeal AdaRefIdeal.Gen AdaRefIdeal.Read

theorem ref_silu (X : EMat) : val_main_v0 (F := Ideal) (ev 8 2048 .f32 X) = ev 8 2048 .f32 (silu X) := by
  have one : val_main_call0_v2 = ev 8 2048 .f32 fun _ _ => (1 : EReal) :=
    (host_fill bcast_S_S8x2048 _).trans (ev_congr fun _ _ _ _ => (Sb.ofBits_one : Ideal.ofBits .f32 0x3F800000#32 = _).trans EReal.coe_one)
  have one' : val_main_call0_v4 (F := Ideal) = ev 8 2048 .f32 fun _ _ => (1 : EReal) := one
  unfold val_main_v0 val_main_call0_v5 val_main_call0_v3 val_main_call0_v1 val_main_call0_v0
  rw [one, one']
  rfl

theorem ref_value (X : FVec Ideal ⟨2, ![8, 2048]⟩ .f32) (W : FVec Ideal ⟨2, ![2048, 3072]⟩ .f32) (B : FVec Ideal ⟨2, ![1, 3072]⟩ .f32) :
    val_main_v3 (F := Ideal) X W B = vals X W B := by
  have e : val_main_v3 (F := Ideal) (ev 8 2048 .f32 (ofv X)) (ev 2048 3072 .f32 (ofv W)) (ev 1 3072 .f32 (ofv B)) = vals X W B := by
    have hb : val_main_v2 (F := Ideal) (ev 1 3072 .f32 (ofv B)) = ev 8 3072 .f32 fun _ j => ofv B 0 j := host_repeat_row (ofv B) bcast_S1x3072_S8x3072_0_1
    unfold val_main_v3 val_main_v1
    rw [ref_silu, hb, ← matmul_zero_eq_dotGeneral]
    refine (congrArg (fun z => addf z (ev 8 3072 .f32 fun _ j => ofv B 0 j)) (ev_nn (φ := .f32) (ψ := .f32) (p := none) (x := silu (ofv X)) (y := ofv W))).trans ?_
    rfl
  rwa [ev_ofv, ev_ofv, ev_ofv] at e
end

end Ada
end Cert.Mm
-- ==== Proof.StepAda.lean ====
/-
  The gradient of the modulation's weights with their AdamW step, as the call leaves them and as the reference computes them: column by row summed over
  the eight vectors, then the two moments and the step, entry by entry.
-/
module

public import proofs.«01_k».proof.Proof.NormHost
public import proofs.«01_k».proof.Proof.Gen.StepAdaIdeal.Value
public import proofs.«01_k».proof.Proof.Gen.StepAdaRefIdeal.Run
public import proofs.«01_k».proof.Proof.Gen.StepAdaRefIdeal.Read
public import Idealize.ShloMosaic.Lib.KernelVsHost

@[expose] public section

noncomputable section

namespace Cert.Mm

open Idealize.ShloMosaic
open ValueIdx TcCoe Idealize.SL.Sem
open Sb (ext2 ld_all exists_ix2)

/-! ## AdamW -/

/-- The average of the gradients. -/
def adamM (g m : EMat) : EMat := fun i j => Ideal.ofBits .f32 0x3F666666#32 * m i j + Ideal.ofBits .f32 0x3DCCCCCD#32 * g i j

/-- The average of their squares. -/
def adamV (g v : EMat) : EMat := fun i j => Ideal.ofBits .f32 0x3F7FBE77#32 * v i j + Ideal.ofBits .f32 0x3A83126F#32 * (g i j * g i j)

/-- The step. -/
def adamStep (w g m v : EMat) : EMat := fun i j => Ideal.ofBits .f32 0xBA83126F#32
  * (Ideal.div (Ideal.div (adamM g m i j) (Ideal.ofBits .f32 0x3F26BD02#32))
      (Ideal.sqrt (Ideal.div (adamV g v i j) (Ideal.ofBits .f32 0x3C231ACC#32)) + Ideal.ofBits .f32 0x322BCC77#32)
    + Ideal.ofBits .f32 0x3C23D70A#32 * w i j)

/-- Eight terms added one after the other. -/
theorem sum_eight (f : ℕ → EReal) : f 0 + f 1 + f 2 + f 3 + f 4 + f 5 + f 6 + f 7 = ∑ k ∈ Finset.range 8, f k := by
  simp [Finset.sum_range_succ]

namespace StepAda
section
open StepAdaIdeal StepAdaIdeal.Gen

theorem block (a d : EMat) : k0_pay4 (ev 256 8 .f32 a) (ev 8 1024 .f32 d) = ev 256 1024 .f32 (prod 8 a d) := by
  unfold k0_pay4
  dsimp only
  simp only [host_cut, ev_rows, ev_repeat_col, ev_repeat_row, ev_mul, ev_add]
  refine ev_congr fun i _ j _ => ?_
  simp only [off, Nat.zero_add, Nat.add_zero]
  exact sum_eight fun k => a i k * d k j

theorem idx : ∀ t : Fin cfg0.N, win0_0.index t = ![t.val / 3, 0] ∧ win0_1.index t = ![0, t.val % 3] ∧ win0_2.index t = ![t.val / 3, t.val % 3]
    ∧ win0_3.index t = ![t.val / 3, t.val % 3] ∧ win0_4.index t = ![t.val / 3, t.val % 3] ∧ win0_5.index t = ![t.val / 3, t.val % 3]
    ∧ win0_6.index t = ![t.val / 3, t.val % 3] ∧ win0_7.index t = ![t.val / 3, t.val % 3] ∧ win0_8.index t = ![t.val / 3, t.val % 3] := by decide +kernel

section
variable (m : Mem nD τ sig) (c : Dev nD) (A D W M V' : EMat)

theorem blk_0 (h : V m c main_arg0 = ev 2048 8 .f32 A) (t : Fin cfg0.N) : iblk m c 0 t = ev 256 8 .f32 (off (256 * (t.val / 3)) 0 A) :=
  ev_block h fun _ => by constructor <;> blk_simp [(idx t).1] <;> simp <;> ring

theorem blk_1 (h : V m c main_arg1 = ev 8 3072 .f32 D) (t : Fin cfg0.N) : iblk m c 1 t = ev 8 1024 .f32 (off 0 (1024 * (t.val % 3)) D) :=
  ev_block h fun _ => by constructor <;> blk_simp [(idx t).2.1] <;> simp <;> ring

theorem blk_2 (h : V m c main_arg2 = ev 2048 3072 .f32 W) (t : Fin cfg0.N) : iblk m c 2 t = ev 256 1024 .f32 (off (256 * (t.val / 3)) (1024 * (t.val % 3)) W) :=
  ev_block h fun _ => by constructor <;> blk_simp [(idx t).2.2.1] <;> simp <;> ring

theorem blk_3 (h : V m c main_arg3 = ev 2048 3072 .f32 M) (t : Fin cfg0.N) : iblk m c 3 t = ev 256 1024 .f32 (off (256 * (t.val / 3)) (1024 * (t.val % 3)) M) :=
  ev_block h fun _ => by constructor <;> blk_simp [(idx t).2.2.2.1] <;> simp <;> ring

theorem blk_4 (h : V m c main_arg4 = ev 2048 3072 .f32 V') (t : Fin cfg0.N) : iblk m c 4 t = ev 256 1024 .f32 (off (256 * (t.val / 3)) (1024 * (t.val % 3)) V') :=
  ev_block h fun _ => by constructor <;> blk_simp [(idx t).2.2.2.2.1] <;> simp <;> ring

variable (h0 : V m c main_arg0 = ev 2048 8 .f32 A) (h1 : V m c main_arg1 = ev 8 3072 .f32 D) (h2 : V m c main_arg2 = ev 2048 3072 .f32 W)
  (h3 : V m c main_arg3 = ev 2048 3072 .f32 M) (h4 : V m c main_arg4 = ev 2048 3072 .f32 V')
include h0 h1

theorem array_5 : (dats m 0 c).arrAt 5 cfg0.N = ev 2048 3072 .f32 (prod 8 A D) := by
  refine (dats m 0 c).arrAt_eq_of_covers 5 _ (by decide +kernel) fun t _ y => ?_
  blk_simp
  rw [after0_5, blk_0 m c A h0, blk_1 m c D h1]
  unfold out0_5
  rw [ld_all, ld_all, block, stored _ _ (by decide)]
  obtain ⟨r, d, rfl⟩ := exists_ix2 y
  rw [ev_apply]
  unfold ev
  show prod 8 A D (256 * (t.val / 3) + r.val) (1024 * (t.val % 3) + d.val) = _
  congr 1 <;> blk_simp [(idx t).2.2.2.2.2.1] <;> simp <;> ring

include h2 h3 h4 in
theorem array_6 : (dats m 0 c).arrAt 6 cfg0.N = ev 2048 3072 .f32 (adamStep W (prod 8 A D) M V') := by
  refine (dats m 0 c).arrAt_eq_of_covers 6 _ (by decide +kernel) fun t _ y => ?_
  blk_simp
  rw [after0_6, blk_0 m c A h0, blk_1 m c D h1, blk_2 m c W h2, blk_3 m c M h3, blk_4 m c V' h4]
  unfold out0_6 k0_pay5
  rw [ld_all, ld_all, ld_all, ld_all, ld_all, block, stored _ _ (by decide)]
  obtain ⟨r, d, rfl⟩ := exists_ix2 y
  show adamStep W (prod 8 A D) M V' (256 * (t.val / 3) + r.val) (1024 * (t.val % 3) + d.val) = _
  unfold ev
  congr 1 <;> blk_simp [(idx t).2.2.2.2.2.2.1] <;> simp <;> ring

include h3 in
theorem array_7 : (dats m 0 c).arrAt 7 cfg0.N = ev 2048 3072 .f32 (adamM (prod 8 A D) M) := by
  refine (dats m 0 c).arrAt_eq_of_covers 7 _ (by decide +kernel) fun t _ y => ?_
  blk_simp
  rw [after0_7, blk_0 m c A h0, blk_1 m c D h1, blk_3 m c M h3]
  unfold out0_7 k0_pay5
  rw [ld_all, ld_all, ld_all, block, stored _ _ (by decide)]
  obtain ⟨r, d, rfl⟩ := exists_ix2 y
  show adamM (prod 8 A D) M (256 * (t.val / 3) + r.val) (1024 * (t.val % 3) + d.val) = _
  unfold ev
  congr 1 <;> blk_simp [(idx t).2.2.2.2.2.2.2.1] <;> simp <;> ring

include h4 in
theorem array_8 : (dats m 0 c).arrAt 8 cfg0.N = ev 2048 3072 .f32 (adamV (prod 8 A D) V') := by
  refine (dats m 0 c).arrAt_eq_of_covers 8 _ (by decide +kernel) fun t _ y => ?_
  blk_simp
  rw [after0_8, blk_0 m c A h0, blk_1 m c D h1, blk_4 m c V' h4]
  unfold out0_8 k0_pay5
  rw [ld_all, ld_all, ld_all, block, stored _ _ (by decide)]
  obtain ⟨r, d, rfl⟩ := exists_ix2 y
  show adamV (prod 8 A D) V' (256 * (t.val / 3) + r.val) (1024 * (t.val % 3) + d.val) = _
  unfold ev
  congr 1 <;> blk_simp [(idx t).2.2.2.2.2.2.2.2] <;> simp <;> ring

/-- The arrays in the words of the arguments. -/
def vals (A : FVec Ideal ⟨2, ![2048, 8]⟩ .f32) (D : FVec Ideal ⟨2, ![8, 3072]⟩ .f32) (W M V' : FVec Ideal ⟨2, ![2048, 3072]⟩ .f32) :
    FVec Ideal ⟨2, ![2048, 3072]⟩ .f32 × FVec Ideal ⟨2, ![2048, 3072]⟩ .f32 × FVec Ideal ⟨2, ![2048, 3072]⟩ .f32 × FVec Ideal ⟨2, ![2048, 3072]⟩ .f32 :=
  let g := prod 8 (ofv A) (ofv D)
  (ev 2048 3072 .f32 g, ev 2048 3072 .f32 (adamStep (ofv W) g (ofv M) (ofv V')), ev 2048 3072 .f32 (adamM g (ofv M)), ev 2048 3072 .f32 (adamV g (ofv V')))
end

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3)) (m (c.tc.loc main_arg4))
      r.2.mem (c.tc.loc main_v0_0) = v.1 ∧ r.2.mem (c.tc.loc main_v0_1) = v.2.1
      ∧ r.2.mem (c.tc.loc main_v0_2) = v.2.2.1 ∧ r.2.mem (c.tc.loc main_v0_3) = v.2.2.2
      ∧ Kept m r.2.mem c main_arg0 ∧ Kept m r.2.mem c main_arg1 ∧ Kept m r.2.mem c main_arg2 ∧ Kept m r.2.mem c main_arg3 ∧ Kept m r.2.mem c main_arg4 :=
  (θ_run defs _ _).mono (fun _ h c => ⟨(h c).1.trans (array_5 m c _ _ of_ofv of_ofv), (h c).2.1.trans (array_6 m c _ _ _ _ _ of_ofv of_ofv of_ofv of_ofv of_ofv),
    (h c).2.2.1.trans (array_7 m c _ _ _ of_ofv of_ofv of_ofv), (h c).2.2.2.1.trans (array_8 m c _ _ _ of_ofv of_ofv of_ofv), (h c).2.2.2.2⟩) (Value.run_blocks m ρ)
end

/-! ## The reference -/

section
open StepAdaRefIdeal StepAdaRefIdeal.Gen StepAdaRefIdeal.Read

theorem ref_grad (A D : EMat) : val_main_v3 (F := Ideal) (ev 2048 8 .f32 A) (ev 8 3072 .f32 D) = ev 2048 3072 .f32 (prod 8 A D) := by
  have ha : val_main_v0 (F := Ideal) (ev 2048 8 .f32 A) = evS (tr A) := ext2 fun r c => val_main_v0_apply _ _
  unfold val_main_v3 val_main_v2
  rw [ha, ← matmul_zero_eq_dotGeneral]
  refine (congrArg (fun z => transpose S2048x3072 [1, 0] z transposes_S3072x2048_S2048x3072_1_0)
    (ev_tn (K := 8) (φ := .f32) (ψ := .f32) (p := none) (x := D) (y := tr A))).trans (ext2 fun r c => ?_)
  refine (transpose_apply [1, 0] _ transposes_S3072x2048_S2048x3072_1_0 (ValueIdx.ix2 r c) (ValueIdx.ix2 c r) fun b => ?_).trans
    (show prod 8 (tr D) (tr A) c.val r.val = prod 8 A D r.val c.val from Finset.sum_congr rfl fun k _ => mul_comm _ _)
  match b with
  | ⟨0, _⟩ => rfl
  | ⟨1, _⟩ => rfl

theorem ref_vals (A : FVec Ideal ⟨2, ![2048, 8]⟩ .f32) (D : FVec Ideal ⟨2, ![8, 3072]⟩ .f32) (W M V' : FVec Ideal ⟨2, ![2048, 3072]⟩ .f32) :
    (val_main_v3 (F := Ideal) A D, val_main_v27 (F := Ideal) A D W M V', val_main_v8 (F := Ideal) A D M, val_main_v14 (F := Ideal) A D V') = vals A D W M V' := by
  have g := ref_grad (ofv A) (ofv D)
  have em : val_main_v8 (F := Ideal) (ev 2048 8 .f32 (ofv A)) (ev 8 3072 .f32 (ofv D)) (ev 2048 3072 .f32 (ofv M)) = (vals A D W M V').2.2.1 := by
    unfold val_main_v8 val_main_v7
    rw [g]
    rfl
  have es : val_main_v14 (F := Ideal) (ev 2048 8 .f32 (ofv A)) (ev 8 3072 .f32 (ofv D)) (ev 2048 3072 .f32 (ofv V')) = (vals A D W M V').2.2.2 := by
    unfold val_main_v14 val_main_v13 val_main_v11
    rw [g]
    rfl
  have ew : val_main_v27 (F := Ideal) (ev 2048 8 .f32 (ofv A)) (ev 8 3072 .f32 (ofv D)) (ev 2048 3072 .f32 (ofv W)) (ev 2048 3072 .f32 (ofv M)) (ev 2048 3072 .f32 (ofv V'))
      = (vals A D W M V').2.1 := by
    unfold val_main_v27 val_main_v25 val_main_v22 val_main_v21 val_main_v19 val_main_v18 val_main_v16
    rw [em, es]
    rfl
  simp only [ev_ofv] at g em es ew
  rw [g, em, es, ew]
  rfl
end
end StepAda
end Cert.Mm
-- ==== Proof.StepVec.lean ====
/-
  The gradients of the vectors, summed over the devices, with their AdamW step: the call adds the eight rows one after the other, the reference sums
  each column; from the sum on both compute the moments and the step by the same operations.
-/
module

public import proofs.«01_k».proof.Proof.StepAda
public import proofs.«01_k».proof.Proof.Gen.StepVecIdeal.Value
public import proofs.«01_k».proof.Proof.Gen.StepVecRefIdeal.Run
public import proofs.«01_k».proof.Proof.Gen.StepVecRefIdeal.Read

@[expose] public section

noncomputable section

namespace Cert.Mm.StepVec

open Idealize.ShloMosaic
open ValueIdx TcCoe Idealize.SL.Sem
open Sb (ext2)
open StepVecIdeal.Gen StepVecIdeal.Value StepVecRefIdeal.Read

/-- The sum of each column, as the call and as the reference compute it. -/
theorem block (p : EMat) : k0_pay2 (ev 8 18048 .f32 p) = ev 1 18048 .f32 fun _ j => ∑ k ∈ Finset.range 8, p k j := by
  unfold k0_pay2
  dsimp only
  simp only [ev_rows, ev_add]
  refine ev_congr fun i hi j _ => ?_
  obtain rfl : i = 0 := by omega
  simp only [off, Nat.zero_add, Nat.add_zero]
  exact sum_eight fun k => p k j

theorem ref_sum (p : EMat) : val_main_v1 (F := Ideal) (ev 8 18048 .f32 p) = ev 1 18048 .f32 fun _ j => ∑ k ∈ Finset.range 8, p k j :=
  ext2 fun r c => by
    rw [val_main_v1_apply]
    unfold val_main_v0 val_main_cst
    rw [host_col_sum _ _ _ (by decide)]
    rfl

section
variable (P : FVec Ideal ⟨2, ![8, 18048]⟩ .f32) (W M V : FVec Ideal ⟨2, ![1, 18048]⟩ .f32)

theorem grad : val_main_v1 (F := Ideal) P = G4 P W M V := by
  have e := (ref_sum (ofv P)).trans (block (ofv P)).symm
  rwa [ev_ofv] at e

theorem avg : val_main_v6 (F := Ideal) P M = G6 P W M V := by
  unfold val_main_v6 val_main_v5
  rw [grad P W M V]
  rfl

theorem squares_avg : val_main_v12 (F := Ideal) P V = G7 P W M V := by
  unfold val_main_v12 val_main_v11 val_main_v9
  rw [grad P W M V]
  rfl

theorem step : val_main_v25 (F := Ideal) P W M V = G5 P W M V := by
  unfold val_main_v25 val_main_v23 val_main_v20 val_main_v19 val_main_v17 val_main_v16 val_main_v14
  rw [avg P W M V, squares_avg P W M V]
  rfl
end
end Cert.Mm.StepVec
-- ==== Proof.StepMat.lean ====
/-
  The gradient of the first feed-forward weights with their AdamW step, as the call leaves them and as the reference computes them. Each core holds the
  summed gradient of one half of the rows; which half is this core's is its index, a word the call prefetches.
-/
module

public import proofs.«01_k».proof.Proof.StepAda
public import proofs.«01_k».proof.Proof.Gen.StepMatRefIdeal.Run
public import proofs.«01_k».proof.Proof.Gen.StepMatRefIdeal.Read
public import proofs.«01_k».proof.Proof.Gen.StepMat.Frame
public import proofs.«01_k».proof.Proof.Gen.StepMatIdeal.Frame

@[expose] public section

noncomputable section

namespace Cert.Mm.StepMat

open Idealize.ShloMosaic
open ValueIdx TcCoe Idealize.SL.Sem
open Sb (ext2 ld_all exists_ix2)

/-- A block number below sixteen, or zero in its place, names a block of 64 rows among 1024. -/
theorem inside : ∀ (b : BitVec 1) (k : Fin 16), ((Scalar.select b (BitVec.ofNat 32 k.val) 0#32).toNat + 1) * 64 ≤ 1024
    ∧ ((Scalar.select b 0#32 (BitVec.ofNat 32 k.val)).toNat + 1) * 64 ≤ 1024 := by decide

/-- Whatever the core's index is, the blocks it selects lie inside the two halves. -/
theorem ok {F : FTy → Type} [FloatOps F] (m : (ℓ : Loc StepMat.nD StepMat.τ StepMat.sig) → Buf (Elt F) ℓ) : StepMat.Gen.Ok m :=
  ⟨fun i => ⟨fun a => match a with
      | ⟨0, _⟩ => (inside _ (i 1)).1
      | ⟨1, _⟩ => show (0 + 1) * 2816 ≤ 2816 by omega, .inl rfl⟩,
    fun i => ⟨fun a => match a with
      | ⟨0, _⟩ => (inside _ (i 1)).2
      | ⟨1, _⟩ => show (0 + 1) * 2816 ≤ 2816 by omega, .inl rfl⟩⟩

theorem ok_ideal {F : FTy → Type} [FloatOps F] (m : (ℓ : Loc StepMatIdeal.nD StepMatIdeal.τ StepMatIdeal.sig) → Buf (Elt F) ℓ) : StepMatIdeal.Gen.Ok m := ok (F := F) m

section
open StepMatIdeal StepMatIdeal.Gen

/-- The core's index. -/
def word (x : IVec ⟨1, ![1]⟩ 32) : BitVec 32 := x (ValueIdx.ix1 0)

theorem word_at (x : IVec ⟨1, ![1]⟩ 32) (i) : x i = word x := congrArg x (funext fun a => by
  match a with
  | ⟨0, _⟩ => exact Subsingleton.elim (α := Fin 1) _ _)

section
variable (i : grid0.Coords) (w : BitVec 32) (x1 x2 x0 x3 x4 : Vec Ideal S64x2816 .f32) {g a b d : EMat} (hg : k0_pay1 (F := Ideal) i w x1 x2 = ev 64 2816 .f32 g)
include hg

theorem mean_eq (h : x3 = ev 64 2816 .f32 a) : k0_pay2 i w x1 x2 x3 = ev 64 2816 .f32 (adamM g a) := by
  unfold k0_pay2
  rw [hg, h]
  rfl

theorem square_eq (h : x4 = ev 64 2816 .f32 b) : k0_pay3 i w x1 x2 x4 = ev 64 2816 .f32 (adamV g b) := by
  unfold k0_pay3
  rw [hg, h]
  rfl

theorem step_eq (h0 : x0 = ev 64 2816 .f32 d) (h3 : x3 = ev 64 2816 .f32 a) (h4 : x4 = ev 64 2816 .f32 b) :
    k0_pay4 i w x1 x2 x0 x3 x4 = ev 64 2816 .f32 (adamStep d g a b) := by
  unfold k0_pay4
  rw [mean_eq i w x1 x2 x3 hg h3, square_eq i w x1 x2 x4 hg h4, h0]
  rfl
end

/-- A core's own half is its own sum, the other half the other core's. -/
def half (w : BitVec 32) (n : ℕ) (x y : EMat) : EMat := if Scalar.cmpi .eq (BitVec.ofNat 32 n) w = 1#1 then x else y

/-- The gradient: the two halves one below the other. -/
def whole (w : BitVec 32) (x y : EMat) : EMat := fun i j => half w (i / 1024) x y (i % 1024) j

theorem idx : ∀ t : Fin grid0.N, ((grid0.coords t) 0).val = t.val / 16 ∧ ((grid0.coords t) 1).val = t.val % 16
  ∧ cc0_transform_0 (grid0.coords t) = ![t.val, 0] := by decide +kernel

section
variable (m : Mem nD τ sig) (hO : Ok m) (c : Dev nD) (X Y D W M V' : EMat)

theorem idxs (t : Fin grid0.N) : ((cfgM m hO).win 0).index t = ![t.val, 0] ∧ ((cfgM m hO).win 3).index t = ![t.val, 0] ∧ ((cfgM m hO).win 4).index t = ![t.val, 0]
    ∧ ((cfgM m hO).win 5).index t = ![t.val, 0] ∧ ((cfgM m hO).win 6).index t = ![t.val, 0] ∧ ((cfgM m hO).win 7).index t = ![t.val, 0]
    ∧ ((cfgM m hO).win 8).index t = ![t.val, 0] :=
  have e := (idx t).2.2
  ⟨e, e, e, e, e, e, e⟩

/-- The bands of 64 rows the grid's points write cover each of the four results. -/
theorem covers : ((cfgM m hO).win 5).Covers ∧ ((cfgM m hO).win 6).Covers ∧ ((cfgM m hO).win 7).Covers ∧ ((cfgM m hO).win 8).Covers := by
  refine ⟨⟨fun a => ?_, fun β => ?_⟩, ⟨fun a => ?_, fun β => ?_⟩, ⟨fun a => ?_, fun β => ?_⟩, fun a => ?_, fun β => ?_⟩
  iterate 4
    · match a with
      | ⟨0, _⟩ => exact (by decide : 0 < 64)
      | ⟨1, _⟩ => exact (by decide : 0 < 2816)
    · have l0 : (β (0 : Fin 2)).val < 32 := (β (0 : Fin 2)).isLt.trans_eq (show (2048 + 64 - 1) / 64 = 32 by norm_num)
      have l1 : (β (1 : Fin 2)).val < 1 := (β (1 : Fin 2)).isLt.trans_eq (show (2816 + 2816 - 1) / 2816 = 1 by norm_num)
      refine ⟨(⟨_, l0⟩ : Fin 32), by first | exact flush0_5 _ _ | exact flush0_6 _ _ | exact flush0_7 _ _ | exact flush0_8 _ _, fun a => ?_⟩
      have e := (idx ⟨_, l0⟩).2.2
      match a with
      | ⟨0, _⟩ => exact ⟨congrFun e 0, .inl rfl⟩
      | ⟨1, _⟩ => exact ⟨(congrFun e 1).trans (Nat.lt_one_iff.1 l1).symm, .inl rfl⟩

/-- The core's index the call prefetches. -/
def core : BitVec 32 := word (tbl m 0)

theorem core_eq (c : Dev nD) : core m = word (m (c.tc.loc main_arg3)) := by
  obtain rfl : c = 0 := Subsingleton.elim _ _
  rfl

variable (h1 : V m c main_arg1 = ev 1024 2816 .f32 X) (h2 : V m c main_arg2 = ev 1024 2816 .f32 Y)
include h1 h2

theorem block (t : Fin grid0.N) : k0_pay1 (F := Ideal) (grid0.coords t) (core m) (iblk m hO c 1 t) (iblk m hO c 2 t)
    = ev 64 2816 .f32 (off (64 * t.val) 0 (whole (core m) X Y)) := by
  have i1 : ((cfgM m hO).win 1).index t = ![(if Scalar.cmpi .eq (BitVec.ofNat 32 (grid0.coords t 0).val) (core m) = 1#1
      then BitVec.ofNat 32 (grid0.coords t 1).val else 0#32).toNat, 0] :=
    congrArg (fun w : BitVec 32 => ![(if Scalar.cmpi .eq (BitVec.ofNat 32 (grid0.coords t 0).val) w = 1#1
      then BitVec.ofNat 32 (grid0.coords t 1).val else 0#32).toNat, 0]) (word_at (tbl m 0) _)
  have i2 : ((cfgM m hO).win 2).index t = ![(if Scalar.cmpi .eq (BitVec.ofNat 32 (grid0.coords t 0).val) (core m) = 1#1
      then 0#32 else BitVec.ofNat 32 (grid0.coords t 1).val).toNat, 0] :=
    congrArg (fun w : BitVec 32 => ![(if Scalar.cmpi .eq (BitVec.ofNat 32 (grid0.coords t 0).val) w = 1#1
      then 0#32 else BitVec.ofNat 32 (grid0.coords t 1).val).toNat, 0]) (word_at (tbl m 0) _)
  have n : (BitVec.ofNat 32 (grid0.coords t 1).val).toNat = t.val % 16 := by
    rw [(idx t).2.1, BitVec.toNat_ofNat]
    omega
  have e (Z : EMat) (hz : half (core m) (grid0.coords t 0).val X Y = Z) :
      ev 64 2816 .f32 (off (64 * (t.val % 16)) 0 Z) = ev 64 2816 .f32 (off (64 * t.val) 0 (whole (core m) X Y)) :=
    ev_congr fun r hr d _ => by
      have ht : t.val < 32 := t.isLt
      show _ = half _ ((64 * t.val + r) / 1024) X Y ((64 * t.val + r) % 1024) (0 + d)
      rw [show (64 * t.val + r) / 1024 = t.val / 16 by omega, show (64 * t.val + r) % 1024 = 64 * (t.val % 16) + r by omega, ← (idx t).1, hz]
      rfl
  by_cases hb : Scalar.cmpi .eq (BitVec.ofNat 32 (grid0.coords t 0).val) (core m) = 1#1
  · rw [if_pos hb, n] at i1
    refine (if_pos hb).trans (Eq.trans ?_ (e X (if_pos hb)))
    exact ev_block h1 fun _ => by constructor <;> blk_simp [i1] <;> simp <;> ring
  · rw [if_neg hb, n] at i2
    refine (if_neg hb).trans (Eq.trans ?_ (e Y (if_neg hb)))
    exact ev_block h2 fun _ => by constructor <;> blk_simp [i2] <;> simp <;> ring

theorem arrays (h0 : V m c main_arg0 = ev 2048 2816 .f32 W) (h4 : V m c main_arg4 = ev 2048 2816 .f32 M) (h5 : V m c main_arg5 = ev 2048 2816 .f32 V') :
    (dats m hO 0 c).arrAt 5 grid0.N = ev 2048 2816 .f32 (whole (core m) X Y)
    ∧ (dats m hO 0 c).arrAt 6 grid0.N = ev 2048 2816 .f32 (adamStep W (whole (core m) X Y) M V')
    ∧ (dats m hO 0 c).arrAt 7 grid0.N = ev 2048 2816 .f32 (adamM (whole (core m) X Y) M)
    ∧ (dats m hO 0 c).arrAt 8 grid0.N = ev 2048 2816 .f32 (adamV (whole (core m) X Y) V') := by
  have g := block m hO c X Y h1 h2
  have b (t) : iblk m hO c 0 t = ev 64 2816 .f32 (off (64 * t.val) 0 W) ∧ iblk m hO c 3 t = ev 64 2816 .f32 (off (64 * t.val) 0 M)
      ∧ iblk m hO c 4 t = ev 64 2816 .f32 (off (64 * t.val) 0 V') := by
    refine ⟨ev_block h0 fun _ => ?_, ev_block h4 fun _ => ?_, ev_block h5 fun _ => ?_⟩ <;> constructor <;> blk_simp [idxs m hO t] <;> simp <;> ring
  obtain ⟨c5, c6, c7, c8⟩ := covers m hO
  refine ⟨(dats m hO 0 c).arrAt_eq_of_covers 5 _ c5 fun t _ y => ?_, (dats m hO 0 c).arrAt_eq_of_covers 6 _ c6 fun t _ y => ?_,
    (dats m hO 0 c).arrAt_eq_of_covers 7 _ c7 fun t _ y => ?_, (dats m hO 0 c).arrAt_eq_of_covers 8 _ c8 fun t _ y => ?_⟩ <;> blk_simp
  all_goals
    first | rw [after0_5] | rw [after0_6] | rw [after0_7] | rw [after0_8]
    unfold outsAt0
    dsimp only
    refine (congrFun (?_ : _ = ev 64 2816 .f32 (off (64 * t.val) 0 _)) y).trans (congrFun (ev_block rfl fun _ => by constructor <;> blk_simp [idxs m hO t] <;> simp <;> ring) y).symm
    first | unfold out0_A_5 | unfold out0_A_6 | unfold out0_A_7 | unfold out0_A_8
    unfold kernelRun0_A
    dsimp only
    refine (View.read_writes_full _ _ _ _ []).trans ?_
    try first | unfold kernelRun0_A.sl.r_1 | unfold kernelRun0_A.sl.r_2 | unfold kernelRun0_A.sl.r_3
    repeat erw [load_all]
  · exact (congrArg (k0_pay1 _ · _ _) (word_at (tbl m 0) _)).trans (g t)
  · exact (congrArg (k0_pay4 _ · _ _ _ _ _) (word_at (tbl m 0) _)).trans (step_eq _ _ _ _ _ _ _ (g t) (b t).1 (b t).2.1 (b t).2.2)
  · exact (congrArg (k0_pay2 _ · _ _ _) (word_at (tbl m 0) _)).trans (mean_eq _ _ _ _ _ (g t) (b t).2.1)
  · exact (congrArg (k0_pay3 _ · _ _ _) (word_at (tbl m 0) _)).trans (square_eq _ _ _ _ _ (g t) (b t).2.2)
end

/-- The arrays in the words of the arguments. -/
def vals (W : FVec Ideal ⟨2, ![2048, 2816]⟩ .f32) (X Y : FVec Ideal ⟨2, ![1024, 2816]⟩ .f32) (w : IVec ⟨1, ![1]⟩ 32) (M V' : FVec Ideal ⟨2, ![2048, 2816]⟩ .f32) :
    FVec Ideal ⟨2, ![2048, 2816]⟩ .f32 × FVec Ideal ⟨2, ![2048, 2816]⟩ .f32 × FVec Ideal ⟨2, ![2048, 2816]⟩ .f32 × FVec Ideal ⟨2, ![2048, 2816]⟩ .f32 :=
  let g := whole (word w) (ofv X) (ofv Y)
  (ev 2048 2816 .f32 g, ev 2048 2816 .f32 (adamStep (ofv W) g (ofv M) (ofv V')), ev 2048 2816 .f32 (adamM g (ofv M)), ev 2048 2816 .f32 (adamV g (ofv V')))

theorem run (m : Mem nD τ sig) (ρ : Dev nD → PrngReg) :
    θ_run defs (onTc (τ := τ) main) ⟨m, fun _ => 0, ρ⟩ fun r => ∀ c : Dev nD,
      let v := vals (m (c.tc.loc main_arg0)) (m (c.tc.loc main_arg1)) (m (c.tc.loc main_arg2)) (m (c.tc.loc main_arg3)) (m (c.tc.loc main_arg4)) (m (c.tc.loc main_arg5))
      r.2.mem (c.tc.loc main_v0_0) = v.1 ∧ r.2.mem (c.tc.loc main_v0_1) = v.2.1
      ∧ r.2.mem (c.tc.loc main_v0_2) = v.2.2.1 ∧ r.2.mem (c.tc.loc main_v0_3) = v.2.2.2
      ∧ Kept m r.2.mem c main_arg0 ∧ Kept m r.2.mem c main_arg1 ∧ Kept m r.2.mem c main_arg2 ∧ Kept m r.2.mem c main_arg3 ∧ Kept m r.2.mem c main_arg4 ∧ Kept m r.2.mem c main_arg5 :=
  (θ_run defs _ _).mono (fun _ h c => by
    have o := ok_ideal m
    unfold vals
    rw [← core_eq m c]
    have a := arrays m o c _ _ _ _ _ of_ofv of_ofv of_ofv of_ofv of_ofv
    exact ⟨((h.2 c).1 5).trans a.1, ((h.2 c).1 6).trans a.2.1, ((h.2 c).1 7).trans a.2.2.1, ((h.2 c).1 8).trans a.2.2.2, h.1 c⟩)
    (θ_run_and (unchanged m ρ (ok_ideal m)) (run_main m ρ (ok_ideal m)))
end

/-! ## The reference -/

section
open StepMatRefIdeal StepMatRefIdeal.Gen StepMatRefIdeal.Read

theorem eq_swap (a b : BitVec 32) : IntOp.cmpi .eq a b = Scalar.cmpi .eq b a := by
  show BitVec.ofBool (a == b) = BitVec.ofBool (b == a)
  rw [Bool.beq_comm]

theorem ref_grad (X Y : EMat) (w : IVec ⟨1, ![1]⟩ 32) :
    val_main_v5 (F := Ideal) (ev 1024 2816 .f32 X) (ev 1024 2816 .f32 Y) w = ev 2048 2816 .f32 (whole (word w) X Y) :=
  ext2 fun r c => by
    have hr := r.isLt
    have pick (n : BitVec 32) (i : S1024x2816.Idx) (j k) : (if IntOp.cmpi .eq (w j) n = 1#1 then ev 1024 2816 .f32 X i else ev 1024 2816 .f32 Y k)
        = if Scalar.cmpi .eq n (word w) = 1#1 then ev 1024 2816 .f32 X i else ev 1024 2816 .f32 Y k := by
      rw [eq_swap, word_at w]
    have e (n : ℕ) (i : S1024x2816.Idx) : (if Scalar.cmpi .eq (BitVec.ofNat 32 n) (word w) = 1#1 then ev 1024 2816 .f32 X i else ev 1024 2816 .f32 Y i)
        = ev 1024 2816 .f32 (half (word w) n X Y) i := by
      unfold half
      split <;> rfl
    have h2 (i) : val_main_v2 (F := Ideal) (ev 1024 2816 .f32 X) (ev 1024 2816 .f32 Y) w i = ev 1024 2816 .f32 (half (word w) 0 X Y) i :=
      (pick 0#32 i _ i).trans (e 0 i)
    have h4 (i) : val_main_v4 (F := Ideal) (ev 1024 2816 .f32 X) (ev 1024 2816 .f32 Y) w i = ev 1024 2816 .f32 (half (word w) 1 X Y) i :=
      (pick 1#32 i _ i).trans (e 1 i)
    unfold val_main_v5
    show _ = half _ (r.val / 1024) X Y (r.val % 1024) c.val
    by_cases h : r.val < 1024
    · rw [show r.val / 1024 = 0 by omega, show r.val % 1024 = r.val by omega]
      exact (concatenate_pair_apply_left (t := S2048x2816) (s₁ := S1024x2816) (s₂ := S1024x2816) (0 : Fin 2) _ _ _ (ValueIdx.ix2 r c) rfl
        (ValueIdx.ix2 ⟨r.val, h⟩ c) (Fin.forall_fin_two.mpr ⟨rfl, rfl⟩)).trans (h2 _)
    · rw [show r.val / 1024 = 1 by omega, show r.val % 1024 = r.val - 1024 by omega]
      exact (concatenate_pair_apply_right (t := S2048x2816) (s₁ := S1024x2816) (s₂ := S1024x2816) (0 : Fin 2) _ _ _ (ValueIdx.ix2 r c) rfl rfl
        (ValueIdx.ix2 ⟨r.val - 1024, by omega⟩ c) (Fin.forall_fin_two.mpr ⟨fun hb => absurd rfl hb, fun _ => rfl⟩)
        (Nat.sub_add_cancel (Nat.le_of_not_lt h))).trans (h4 _)

theorem ref_vals (W : FVec Ideal ⟨2, ![2048, 2816]⟩ .f32) (X Y : FVec Ideal ⟨2, ![1024, 2816]⟩ .f32) (w : IVec ⟨1, ![1]⟩ 32) (M V' : FVec Ideal ⟨2, ![2048, 2816]⟩ .f32) :
    (val_main_v5 (F := Ideal) X Y w, val_main_v29 (F := Ideal) W X Y w M V', val_main_v10 (F := Ideal) X Y w M, val_main_v16 (F := Ideal) X Y w V') = vals W X Y w M V' := by
  have g : val_main_v5 (F := Ideal) X Y w = ev 2048 2816 .f32 (whole (word w) (ofv X) (ofv Y)) := by
    simpa only [ev_ofv] using ref_grad (ofv X) (ofv Y) w
  have em : val_main_v10 (F := Ideal) X Y w M = ev 2048 2816 .f32 (adamM (whole (word w) (ofv X) (ofv Y)) (ofv M)) := by
    unfold val_main_v10 val_main_v9
    conv_lhs => rw [g, ← ev_ofv M]
    rfl
  have es : val_main_v16 (F := Ideal) X Y w V' = ev 2048 2816 .f32 (adamV (whole (word w) (ofv X) (ofv Y)) (ofv V')) := by
    unfold val_main_v16 val_main_v15 val_main_v13
    conv_lhs => rw [g, ← ev_ofv V']
    rfl
  have ew : val_main_v29 (F := Ideal) W X Y w M V' = (vals W X Y w M V').2.1 := by
    unfold val_main_v29 val_main_v27 val_main_v24 val_main_v23 val_main_v21 val_main_v20 val_main_v18
    rw [em, es]
    conv_lhs => rw [← ev_ofv W]
    rfl
  rw [g, em, es, ew]
  rfl
end
end Cert.Mm.StepMat
-- ==== Proof.lean ====
/-
  The proof of `Claim`: of every call the frames of its two programs and of its reference, and that the program and its reference end with the
  same arrays.
-/
module

public import proofs.«01_k».proof.Defs
public import proofs.«01_k».proof.Proof.Gen.Kernel.Frame
public import proofs.«01_k».proof.Proof.Gen.Mla.Frame
public import proofs.«01_k».proof.Proof.Gen.Ffn.Frame
public import proofs.«01_k».proof.Proof.Gen.FfnOut.Frame
public import proofs.«01_k».proof.Proof.Gen.DH2.Frame
public import proofs.«01_k».proof.Proof.Gen.GwFfnOut.Frame
public import proofs.«01_k».proof.Proof.KernelRun
public import proofs.«01_k».proof.Proof.Gen.Proj.Frame
public import proofs.«01_k».proof.Proof.Gen.DH1.Frame
public import proofs.«01_k».proof.Proof.Gen.GwIn.Frame
public import proofs.«01_k».proof.Proof.Gen.Out.Frame
public import proofs.«01_k».proof.Proof.Gen.DMerged.Frame
public import proofs.«01_k».proof.Proof.Gen.GwOut.Frame
public import proofs.«01_k».proof.Proof.Gen.Branch.Frame
public import proofs.«01_k».proof.Proof.Gen.DBranch.Frame
public import proofs.«01_k».proof.Proof.Gen.GwBranch.Frame
public import proofs.«01_k».proof.Proof.Gen.Up.Frame
public import proofs.«01_k».proof.Proof.Gen.DUp.Frame
public import proofs.«01_k».proof.Proof.Gen.GwUp.Frame
public import proofs.«01_k».proof.Proof.Gen.Gate.Frame
public import proofs.«01_k».proof.Proof.Gen.GateBwd.Frame
public import proofs.«01_k».proof.Proof.MlaRun
public import proofs.«01_k».proof.Proof.MlaFinite
public import proofs.«01_k».proof.Proof.FfnFinite
public import proofs.«01_k».proof.Proof.ProjArray
public import proofs.«01_k».proof.Proof.DH1Array
public import proofs.«01_k».proof.Proof.GwInArray
public import proofs.«01_k».proof.Proof.InRef
public import proofs.«01_k».proof.Proof.FfnOutArray
public import proofs.«01_k».proof.Proof.FfnOutRef
public import proofs.«01_k».proof.Proof.DH2Array
public import proofs.«01_k».proof.Proof.DH2Ref
public import proofs.«01_k».proof.Proof.GwFfnOutArray
public import proofs.«01_k».proof.Proof.GwFfnOutRef
public import proofs.«01_k».proof.Proof.OutArray
public import proofs.«01_k».proof.Proof.BranchArray
public import proofs.«01_k».proof.Proof.UpArray
public import proofs.«01_k».proof.Proof.WidthRef
public import proofs.«01_k».proof.Proof.GateRef
public import proofs.«01_k».proof.Proof.RefRun
public import proofs.«01_k».proof.Proof.Gen.Norm1.Frame
public import proofs.«01_k».proof.Proof.Gen.Norm1Bwd.Frame
public import proofs.«01_k».proof.Proof.Gen.Norm2.Frame
public import proofs.«01_k».proof.Proof.Gen.Norm2Bwd.Frame
public import proofs.«01_k».proof.Proof.Gen.Latent.Frame
public import proofs.«01_k».proof.Proof.Gen.LatentBwd.Frame
public import proofs.«01_k».proof.Proof.Gen.Loss.Frame
public import proofs.«01_k».proof.Proof.Gen.Ada.Frame
public import proofs.«01_k».proof.Proof.Gen.StepAda.Frame
public import proofs.«01_k».proof.Proof.Gen.StepVec.Frame
public import proofs.«01_k».proof.Proof.Norm2BwdRef
public import proofs.«01_k».proof.Proof.NormRef
public import proofs.«01_k».proof.Proof.LossRef
public import proofs.«01_k».proof.Proof.AdaArray
public import proofs.«01_k».proof.Proof.StepVec
public import proofs.«01_k».proof.Proof.StepMat
public import Idealize.ShloMosaic.Adequacy
public import Idealize.ShloMosaic.Init

@[expose] public section

noncomputable section

namespace Cert.Proof

open Idealize.ShloMosaic Idealize.SL.Sem Kernel

/-- The reference's frame. -/
theorem reference_frame : quiescent_ReferenceIdeal := fun m ρ _ => Mm.frame_of (by decide) (fun _ _ h => h.2.2.2.2) (ReferenceIdeal.Value.run m ρ)

/-- On finite arguments both programs end with the same four arrays. -/
theorem same_values : algebraic_KernelIdeal_ReferenceIdeal_pre_finite := fun m g m' g' hpre hm =>
  ⟨_, _, _, _, Sb.kernel_run m g _ _ (fun c => (Sb.finite_real _ _ (hpre c)).1) fun c => (Sb.finite_real _ _ (hpre c)).2,
    Sb.reference_run m' g' _ _ (fun c => (hm c).1.trans (Sb.finite_real _ _ (hpre c)).1)
      fun c => (hm c).2.trans (Sb.finite_real _ _ (hpre c)).2⟩

/-- The frame of the latent attention's reference. -/
theorem mla_reference_frame : quiescent_MlaRefIdeal := fun m ρ _ => Mm.frame_of (by decide) (fun _ _ h => h.2.2.2.2) (MlaRefIdeal.Value.run m ρ)

/-- The constant that masks a score stands for `-∞`. -/
theorem mla_preserves : preserves_Mla_MlaIdeal := IdealRules.named_const.statement _ _ _ _ _ rfl

/-- On finite arguments both programs of the latent attention end with the same four arrays. -/
theorem mla_same_values : algebraic_MlaIdeal_MlaRefIdeal_pre_finite_mla := fun m g m' g' hpre hm =>
  ⟨_, _, _, _, Mla.kernel_run m g _ _ _ _ (fun c => (Mla.finite_real _ _ _ _ (hpre c)).1) (fun c => (Mla.finite_real _ _ _ _ (hpre c)).2.1)
      (fun c => (Mla.finite_real _ _ _ _ (hpre c)).2.2.1) fun c => (Mla.finite_real _ _ _ _ (hpre c)).2.2.2,
    Mla.reference_run m' g' _ _ _ _ (fun c => (hm c).1.trans (Mla.finite_real _ _ _ _ (hpre c)).1)
      (fun c => (hm c).2.1.trans (Mla.finite_real _ _ _ _ (hpre c)).2.1) (fun c => (hm c).2.2.1.trans (Mla.finite_real _ _ _ _ (hpre c)).2.2.1)
      fun c => (hm c).2.2.2.trans (Mla.finite_real _ _ _ _ (hpre c)).2.2.2⟩

/-- The frame of the feed-forward block's reference. -/
theorem ffn_reference_frame : quiescent_FfnRefIdeal := fun m ρ _ => Mm.frame_of (by decide) (fun _ _ h => h.2.2) (FfnRefIdeal.Value.run m ρ)

/-- On finite arguments both programs of the feed-forward block end with the same gated values and the same weights' gradient. -/
theorem ffn_same_values : algebraic_FfnIdeal_FfnRefIdeal_pre_finite_ffn := fun m g m' g' hpre hm =>
  ⟨_, _, Mm.Ffn.run m g, (θ_run FfnRefIdeal.defs _ _).mono
    (fun _ h c => by
      obtain ⟨r0, r1, r2, r3⟩ := Mm.Ffn.finite_real _ _ _ _ (hpre c)
      obtain ⟨e0, e1, e2, e3⟩ := hm c
      refine ⟨(h c).1.trans ?_, (h c).2.1.trans ((FfnRefIdeal.Read.val_main_v29_eq m' c).trans ?_), (h c).2.2⟩
      · rw [e0, e1]
        exact Mm.Ffn.ref_act _ _
      · rw [e0, e1, e2, e3]
        exact Mm.Ffn.ref_gw _ _ _ _ r0 r1 r2 r3)
    (FfnRefIdeal.Value.run m' g')⟩

/-- The frame of the reference of the product that leaves the feed-forward block. -/
theorem ffn_out_reference_frame : quiescent_FfnOutRefIdeal := fun m ρ _ => Mm.frame_of_run (by decide) (FfnOutRefIdeal.Value.run m ρ)

/-- Both programs of the product that leaves the feed-forward block end with the same array. -/
theorem ffn_out_same_values : algebraic_FfnOutIdeal_FfnOutRefIdeal := fun m g m' g' _ hm =>
  ⟨_, Mm.FfnOut.run m g, Mm.run_of_eq (fun c => (Mm.FfnOut.ref_value _ _).trans (by rw [(hm c).1, (hm c).2])) (FfnOutRefIdeal.Value.run m' g')⟩

/-- The frame of the reference of the gradient of the block's input. -/
theorem d_h2_reference_frame : quiescent_DH2RefIdeal := fun m ρ _ => Mm.frame_of_run (by decide) (DH2RefIdeal.Value.run m ρ)

/-- Both programs of the gradient of the block's input end with the same array. -/
theorem d_h2_same_values : algebraic_DH2Ideal_DH2RefIdeal := fun m g m' g' _ hm =>
  ⟨_, Mm.DH2.run m g, Mm.run_of_eq (fun c => (Mm.DH2.ref_value _ _).trans (by rw [(hm c).1, (hm c).2])) (DH2RefIdeal.Value.run m' g')⟩

/-- The frame of the reference of the gradient of the block's second weight. -/
theorem gw_ffn_out_reference_frame : quiescent_GwFfnOutRefIdeal := fun m ρ _ => Mm.frame_of_run (by decide) (GwFfnOutRefIdeal.Value.run m ρ)

/-- Both programs of the gradient of the block's second weight end with the same array. -/
theorem gw_ffn_out_same_values : algebraic_GwFfnOutIdeal_GwFfnOutRefIdeal := fun m g m' g' _ hm =>
  ⟨_, Mm.GwFfnOut.run m g, Mm.run_of_eq (fun c => (Mm.GwFfnOut.ref_value _ _).trans (by rw [(hm c).1, (hm c).2])) (GwFfnOutRefIdeal.Value.run m' g')⟩

/-- The frame of the reference of the block's first projection. -/
theorem proj_reference_frame : quiescent_ProjRefIdeal := fun m ρ _ => Mm.frame_of_run (by decide) (ProjRefIdeal.Value.run m ρ)

/-- Both programs of the block's first projection end with the same array. -/
theorem proj_same_values : algebraic_ProjIdeal_ProjRefIdeal := fun m g m' g' _ hm =>
  ⟨_, Mm.Proj.run m g, Mm.run_of_eq (fun c => (Mm.Proj.ref_value _ _).trans (by rw [(hm c).1, (hm c).2])) (ProjRefIdeal.Value.run m' g')⟩

/-- The frame of the reference of the gradient of the projection's input. -/
theorem d_h1_reference_frame : quiescent_DH1RefIdeal := fun m ρ _ => Mm.frame_of_run (by decide) (DH1RefIdeal.Value.run m ρ)

/-- Both programs of the gradient of the projection's input end with the same array. -/
theorem d_h1_same_values : algebraic_DH1Ideal_DH1RefIdeal := fun m g m' g' _ hm =>
  ⟨_, Mm.DH1.run m g, Mm.run_of_eq (fun c => (Mm.DH1.ref_value _ _).trans (by rw [(hm c).1, (hm c).2])) (DH1RefIdeal.Value.run m' g')⟩

/-- The frame of the reference of the gradient of the projection's weights. -/
theorem gw_in_reference_frame : quiescent_GwInRefIdeal := fun m ρ _ => Mm.frame_of_run (by decide) (GwInRefIdeal.Value.run m ρ)

/-- Both programs of the gradient of the projection's weights end with the same array. -/
theorem gw_in_same_values : algebraic_GwInIdeal_GwInRefIdeal := fun m g m' g' _ hm =>
  ⟨_, Mm.GwIn.run m g, Mm.run_of_eq (fun c => (Mm.GwIn.ref_value _ _).trans (by rw [(hm c).1, (hm c).2])) (GwInRefIdeal.Value.run m' g')⟩

/-- The frame of the reference of the output projection. -/
theorem out_reference_frame : quiescent_OutRefIdeal := fun m ρ _ => Mm.frame_of_run (by decide) (OutRefIdeal.Value.run m ρ)

/-- Both programs of the output projection end with the same array. -/
theorem out_same_values : algebraic_OutIdeal_OutRefIdeal := fun m g m' g' _ hm =>
  ⟨_, Mm.Out.run m g, Mm.run_of_eq (fun c => (Mm.Out.ref_value _ _).trans (by rw [(hm c).1, (hm c).2])) (OutRefIdeal.Value.run m' g')⟩

/-- The frame of the reference of the gradient of the output projection's input. -/
theorem d_merged_reference_frame : quiescent_DMergedRefIdeal := fun m ρ _ => Mm.frame_of_run (by decide) (DMergedRefIdeal.Value.run m ρ)

/-- Both programs of the gradient of the output projection's input end with the same array. -/
theorem d_merged_same_values : algebraic_DMergedIdeal_DMergedRefIdeal := fun m g m' g' _ hm =>
  ⟨_, Mm.DMerged.run m g, Mm.run_of_eq (fun c => (Mm.DMerged.ref_value _ _).trans (by rw [(hm c).1, (hm c).2])) (DMergedRefIdeal.Value.run m' g')⟩

/-- The frame of the reference of the gradient of the output projection's weights. -/
theorem gw_out_reference_frame : quiescent_GwOutRefIdeal := fun m ρ _ => Mm.frame_of_run (by decide) (GwOutRefIdeal.Value.run m ρ)

/-- Both programs of the gradient of the output projection's weights end with the same array. -/
theorem gw_out_same_values : algebraic_GwOutIdeal_GwOutRefIdeal := fun m g m' g' _ hm =>
  ⟨_, Mm.GwOut.run m g, Mm.run_of_eq (fun c => (Mm.GwOut.ref_value _ _).trans (by rw [(hm c).1, (hm c).2])) (GwOutRefIdeal.Value.run m' g')⟩

/-- The frame of the reference of a branch's projection. -/
theorem branch_reference_frame : quiescent_BranchRefIdeal := fun m ρ _ => Mm.frame_of_run (by decide) (BranchRefIdeal.Value.run m ρ)

/-- Both programs of a branch's projection end with the same array. -/
theorem branch_same_values : algebraic_BranchIdeal_BranchRefIdeal := fun m g m' g' _ hm =>
  ⟨_, Mm.Branch.run m g, Mm.run_of_eq (fun c => (Mm.Branch.ref_value _ _).trans (by rw [(hm c).1, (hm c).2])) (BranchRefIdeal.Value.run m' g')⟩

/-- The frame of the reference of the gradient of a branch's projection's input. -/
theorem d_branch_reference_frame : quiescent_DBranchRefIdeal := fun m ρ _ => Mm.frame_of_run (by decide) (DBranchRefIdeal.Value.run m ρ)

/-- Both programs of the gradient of a branch's projection's input end with the same array. -/
theorem d_branch_same_values : algebraic_DBranchIdeal_DBranchRefIdeal := fun m g m' g' _ hm =>
  ⟨_, Mm.DBranch.run m g, Mm.run_of_eq (fun c => (Mm.DBranch.ref_value _ _).trans (by rw [(hm c).1, (hm c).2])) (DBranchRefIdeal.Value.run m' g')⟩

/-- The frame of the reference of the gradient of a branch's projection's weights. -/
theorem gw_branch_reference_frame : quiescent_GwBranchRefIdeal := fun m ρ _ => Mm.frame_of_run (by decide) (GwBranchRefIdeal.Value.run m ρ)

/-- Both programs of the gradient of a branch's projection's weights end with the same array. -/
theorem gw_branch_same_values : algebraic_GwBranchIdeal_GwBranchRefIdeal := fun m g m' g' _ hm =>
  ⟨_, Mm.GwBranch.run m g, Mm.run_of_eq (fun c => (Mm.GwBranch.ref_value _ _).trans (by rw [(hm c).1, (hm c).2])) (GwBranchRefIdeal.Value.run m' g')⟩

/-- The frame of the reference of the projection up from a latent. -/
theorem up_reference_frame : quiescent_UpRefIdeal := fun m ρ _ => Mm.frame_of_run (by decide) (UpRefIdeal.Value.run m ρ)

/-- Both programs of the projection up from a latent end with the same array. -/
theorem up_same_values : algebraic_UpIdeal_UpRefIdeal := fun m g m' g' _ hm =>
  ⟨_, Mm.Up.run m g, Mm.run_of_eq (fun c => (Mm.Up.ref_value _ _).trans (by rw [(hm c).1, (hm c).2])) (UpRefIdeal.Value.run m' g')⟩

/-- The frame of the reference of the gradient of that projection's input. -/
theorem d_up_reference_frame : quiescent_DUpRefIdeal := fun m ρ _ => Mm.frame_of_run (by decide) (DUpRefIdeal.Value.run m ρ)

/-- Both programs of the gradient of that projection's input end with the same array. -/
theorem d_up_same_values : algebraic_DUpIdeal_DUpRefIdeal := fun m g m' g' _ hm =>
  ⟨_, Mm.DUp.run m g, Mm.run_of_eq (fun c => (Mm.DUp.ref_value _ _).trans (by rw [(hm c).1, (hm c).2])) (DUpRefIdeal.Value.run m' g')⟩

/-- The frame of the reference of the gradient of that projection's weights. -/
theorem gw_up_reference_frame : quiescent_GwUpRefIdeal := fun m ρ _ => Mm.frame_of_run (by decide) (GwUpRefIdeal.Value.run m ρ)

/-- Both programs of the gradient of that projection's weights end with the same array. -/
theorem gw_up_same_values : algebraic_GwUpIdeal_GwUpRefIdeal := fun m g m' g' _ hm =>
  ⟨_, Mm.GwUp.run m g, Mm.run_of_eq (fun c => (Mm.GwUp.ref_value _ _).trans (by rw [(hm c).1, (hm c).2])) (GwUpRefIdeal.Value.run m' g')⟩

/-- The frame of the reference of the merge under the gates. -/
theorem gate_reference_frame : quiescent_GateRefIdeal := fun m ρ _ => Mm.frame_of_run (by decide) (GateRefIdeal.Value.run m ρ)

/-- Both programs of the merge under the gates end with the same array. -/
theorem gate_same_values : algebraic_GateIdeal_GateRefIdeal := fun m g m' g' _ hm =>
  ⟨_, Mm.Gate.run m g, Mm.run_of_eq (fun c => (Mm.Gate.ref_value _ _ _).trans (by rw [(hm c).1, (hm c).2.1, (hm c).2.2])) (GateRefIdeal.Value.run m' g')⟩

/-- The frame of the reference of the merge's gradient. -/
theorem gate_bwd_reference_frame : quiescent_GateBwdRefIdeal := fun m ρ _ => Mm.frame_of (by decide) (fun _ _ h => h.2.2.2.2) (GateBwdRefIdeal.Value.run m ρ)

/-- Both programs of the merge's gradient end with the same four arrays. -/
theorem gate_bwd_same_values : algebraic_GateBwdIdeal_GateBwdRefIdeal := fun m g m' g' _ hm =>
  ⟨_, _, _, _, Mm.GateBwd.run m g, (θ_run GateBwdRefIdeal.defs _ _).mono
    (fun _ h c => by
      obtain ⟨e0, e1, e2, e3⟩ := hm c
      refine ⟨(h c).1.trans ((Mm.GateBwd.ref_branch_a _ _).trans ?_), (h c).2.1.trans ((Mm.GateBwd.ref_branch_b _ _).trans ?_),
        (h c).2.2.1.trans ((Mm.GateBwd.ref_gate_a _ _ _).trans ?_), (h c).2.2.2.1.trans ((Mm.GateBwd.ref_gate_b _ _ _).trans ?_), (h c).2.2.2.2⟩
      · rw [e0, e3]
      · rw [e0, e3]
      · rw [e0, e1, e3]
      · rw [e0, e2, e3])
    (GateBwdRefIdeal.Value.run m' g')⟩

/-- The frame of the reference of the first normalisation. -/
theorem norm1_reference_frame : quiescent_Norm1RefIdeal := fun m ρ _ => Mm.frame_of_run (by decide) (Norm1RefIdeal.Value.run m ρ)

/-- Both programs of the first normalisation end with the same array. -/
theorem norm1_same_values : algebraic_Norm1Ideal_Norm1RefIdeal := fun m g m' g' _ hm =>
  ⟨_, Mm.Norm1.run m g, Mm.run_of_eq (fun c => (Mm.Norm1.ref_value _ _ _).trans (by rw [(hm c).1, (hm c).2.1, (hm c).2.2])) (Norm1RefIdeal.Value.run m' g')⟩

/-- The frame of the reference of the first normalisation's gradient. -/
theorem norm1_bwd_reference_frame : quiescent_Norm1BwdRefIdeal := fun m ρ _ => Mm.frame_of (by decide) (fun _ _ h => h.2.2) (Norm1BwdRefIdeal.Value.run m ρ)

/-- Both programs of the first normalisation's gradient end with the same two arrays. -/
theorem norm1_bwd_same_values : algebraic_Norm1BwdIdeal_Norm1BwdRefIdeal := fun m g m' g' _ hm =>
  ⟨_, _, Mm.Norm1Bwd.run m g, (θ_run Norm1BwdRefIdeal.defs _ _).mono
    (fun _ h c => by
      obtain ⟨e0, e1, e2, e3, e4⟩ := hm c
      refine ⟨(h c).1.trans ((Norm1BwdRefIdeal.Read.val_main_v50_eq m' c).trans ((Mm.Norm1Bwd.ref_vals _ _ _ _ _).1.trans ?_)),
        (h c).2.1.trans ((Mm.Norm1Bwd.ref_vals _ _ (m' (c.tc.loc Norm1BwdRefIdeal.main_arg2)) _ _).2.trans ?_), (h c).2.2⟩ <;> rw [e0, e1, e2, e3, e4])
    (Norm1BwdRefIdeal.Value.run m' g')⟩

/-- The frame of the reference of the second normalisation. -/
theorem norm2_reference_frame : quiescent_Norm2RefIdeal := fun m ρ _ => Mm.frame_of (by decide) (fun _ _ h => h.2.2) (Norm2RefIdeal.Value.run m ρ)

/-- Both programs of the second normalisation end with the same two arrays. -/
theorem norm2_same_values : algebraic_Norm2Ideal_Norm2RefIdeal := fun m g m' g' _ hm =>
  ⟨_, _, Mm.Norm2.run m g, (θ_run Norm2RefIdeal.defs _ _).mono
    (fun _ h c => by
      obtain ⟨e0, e1, e2, e3⟩ := hm c
      refine ⟨(h c).1.trans ((Mm.Norm2.ref_vals _ _ (m' (c.tc.loc Norm2RefIdeal.main_arg2)) _).1.trans ?_),
        (h c).2.1.trans ((Mm.Norm2.ref_vals _ _ _ _).2.trans ?_), (h c).2.2⟩ <;> rw [e0, e1, e2, e3])
    (Norm2RefIdeal.Value.run m' g')⟩

/-- The frame of the reference of the second normalisation's gradient. -/
theorem norm2_bwd_reference_frame : quiescent_Norm2BwdRefIdeal := fun m ρ _ => Mm.frame_of (by decide) (fun _ _ h => h.2.2.2) (Norm2BwdRefIdeal.Value.run m ρ)

/-- Both programs of the second normalisation's gradient end with the same three arrays. -/
theorem norm2_bwd_same_values : algebraic_Norm2BwdIdeal_Norm2BwdRefIdeal := fun m g m' g' _ hm =>
  ⟨_, _, _, Mm.Norm2Bwd.run m g, (θ_run Norm2BwdRefIdeal.defs _ _).mono
    (fun _ h c => by
      obtain ⟨e0, e1, e2, e3, e4, e5⟩ := hm c
      refine ⟨(h c).1.trans ((Norm2BwdRefIdeal.Read.val_main_v51_eq m' c).trans ((Mm.Norm2Bwd.ref_vals _ _ _ (m' (c.tc.loc Norm2BwdRefIdeal.main_arg3)) _ _).1.trans ?_)),
        (h c).2.1.trans ((Norm2BwdRefIdeal.Read.val_main_v59_eq m' c).trans ((Mm.Norm2Bwd.ref_vals _ _ _ (m' (c.tc.loc Norm2BwdRefIdeal.main_arg3)) _ _).2.1.trans ?_)),
        (h c).2.2.1.trans ((Norm2BwdRefIdeal.Read.val_main_v61_eq m' c).trans ((Mm.Norm2Bwd.ref_vals _ _ _ _ _ _).2.2.trans ?_)), (h c).2.2.2⟩ <;> rw [e0, e1, e2, e3, e4, e5])
    (Norm2BwdRefIdeal.Value.run m' g')⟩

/-- The frame of the reference of the normalisations of the latents. -/
theorem latent_reference_frame : quiescent_LatentRefIdeal := fun m ρ _ => Mm.frame_of (by decide) (fun _ _ h => h.2.2) (LatentRefIdeal.Value.run m ρ)

/-- Both programs of the normalisations of the latents end with the same two arrays. -/
theorem latent_same_values : algebraic_LatentIdeal_LatentRefIdeal := fun m g m' g' _ hm =>
  ⟨_, _, Mm.Latent.run m g, (θ_run LatentRefIdeal.defs _ _).mono
    (fun _ h c => by
      obtain ⟨e0, e1, e2⟩ := hm c
      refine ⟨(h c).1.trans ((Mm.Latent.ref_vals _ _ (m' (c.tc.loc LatentRefIdeal.main_arg2))).1.trans ?_),
        (h c).2.1.trans ((Mm.Latent.ref_vals _ (m' (c.tc.loc LatentRefIdeal.main_arg1)) _).2.trans ?_), (h c).2.2⟩ <;> rw [e0, e1, e2])
    (LatentRefIdeal.Value.run m' g')⟩

/-- The frame of the reference of the gradient of the latents' normalisations. -/
theorem latent_bwd_reference_frame : quiescent_LatentBwdRefIdeal := fun m ρ _ => Mm.frame_of (by decide) (fun _ _ h => h.2.2.2) (LatentBwdRefIdeal.Value.run m ρ)

/-- Both programs of the gradient of the latents' normalisations end with the same three arrays. -/
theorem latent_bwd_same_values : algebraic_LatentBwdIdeal_LatentBwdRefIdeal := fun m g m' g' _ hm =>
  ⟨_, _, _, Mm.LatentBwd.run m g, (θ_run LatentBwdRefIdeal.defs _ _).mono
    (fun _ h c => by
      obtain ⟨e0, e1, e2, e3, e4⟩ := hm c
      refine ⟨(h c).1.trans ((LatentBwdRefIdeal.Read.val_main_v73_eq m' c).trans ((Mm.LatentBwd.ref_vals _ (m' (c.tc.loc LatentBwdRefIdeal.main_arg1)) _ _ (m' (c.tc.loc LatentBwdRefIdeal.main_arg4))).1.trans ?_)),
        (h c).2.1.trans ((LatentBwdRefIdeal.Read.val_main_v74_eq m' c).trans ((Mm.LatentBwd.ref_vals (m' (c.tc.loc LatentBwdRefIdeal.main_arg0)) _ _ (m' (c.tc.loc LatentBwdRefIdeal.main_arg3)) _).2.1.trans ?_)),
        (h c).2.2.1.trans ((Mm.LatentBwd.ref_vals _ _ _ (m' (c.tc.loc LatentBwdRefIdeal.main_arg3)) (m' (c.tc.loc LatentBwdRefIdeal.main_arg4))).2.2.trans ?_), (h c).2.2.2⟩ <;> rw [e0, e1, e2, e3, e4])
    (LatentBwdRefIdeal.Value.run m' g')⟩

/-- The frame of the reference of the loss head. -/
theorem loss_reference_frame : quiescent_LossRefIdeal := fun m ρ _ => Mm.frame_of (by decide) (fun _ _ h => h.2.2.2.2) (LossRefIdeal.Value.run m ρ)

/-- Both programs of the loss head end with the same four arrays. -/
theorem loss_same_values : algebraic_LossIdeal_LossRefIdeal := fun m g m' g' _ hm =>
  ⟨_, _, _, _, Mm.Loss.run m g, (θ_run LossRefIdeal.defs _ _).mono
    (fun _ h c => by
      obtain ⟨e0, e1, e2, e3⟩ := hm c
      refine ⟨(h c).1.trans ((Mm.Loss.ref_vals _ _ _ _).1.trans ?_),
        (h c).2.1.trans ((Mm.Loss.ref_vals _ _ _ _).2.1.trans ?_),
        (h c).2.2.1.trans ((Mm.Loss.ref_vals _ _ _ _).2.2.1.trans ?_),
        (h c).2.2.2.1.trans ((Mm.Loss.ref_vals _ _ _ _).2.2.2.trans ?_), (h c).2.2.2.2⟩ <;> rw [e0, e1, e2, e3])
    (LossRefIdeal.Value.run m' g')⟩

/-- The frame of the reference of the modulation. -/
theorem ada_reference_frame : quiescent_AdaRefIdeal := fun m ρ _ => Mm.frame_of_run (by decide) (AdaRefIdeal.Value.run m ρ)

/-- Both programs of the modulation end with the same array. -/
theorem ada_same_values : algebraic_AdaIdeal_AdaRefIdeal := fun m g m' g' _ hm =>
  ⟨_, Mm.Ada.run m g, Mm.run_of_eq (fun c => (Mm.Ada.ref_value _ _ _).trans (by rw [(hm c).1, (hm c).2.1, (hm c).2.2])) (AdaRefIdeal.Value.run m' g')⟩

/-- The frame of the reference of the step of the modulation's weights. -/
theorem step_ada_reference_frame : quiescent_StepAdaRefIdeal := fun m ρ _ => Mm.frame_of (by decide) (fun _ _ h => h.2.2.2.2) (StepAdaRefIdeal.Value.run m ρ)

/-- Both programs of the step of the modulation's weights end with the same four arrays. -/
theorem step_ada_same_values : algebraic_StepAdaIdeal_StepAdaRefIdeal := fun m g m' g' _ hm =>
  ⟨_, _, _, _, Mm.StepAda.run m g, (θ_run StepAdaRefIdeal.defs _ _).mono
    (fun _ h c => by
      obtain ⟨e0, e1, e2, e3, e4⟩ := hm c
      rw [← e0, ← e1, ← e2, ← e3, ← e4, ← Mm.StepAda.ref_vals]
      exact h c)
    (StepAdaRefIdeal.Value.run m' g')⟩

/-- The frame of the reference of the step of the first feed-forward weights. -/
theorem step_mat_reference_frame : quiescent_StepMatRefIdeal := fun m ρ _ => Mm.frame_of (by decide) (fun _ _ h => h.2.2.2.2) (StepMatRefIdeal.Value.run m ρ)

/-- Both programs of the step of the first feed-forward weights end with the same four arrays. -/
theorem step_mat_same_values : algebraic_StepMatIdeal_StepMatRefIdeal := fun m g m' g' _ hm =>
  ⟨_, _, _, _, Mm.StepMat.run m g, (θ_run StepMatRefIdeal.defs _ _).mono
    (fun _ h c => by
      obtain ⟨e0, e1, e2, e3, e4, e5⟩ := hm c
      rw [← e0, ← e1, ← e2, ← e3, ← e4, ← e5, ← Mm.StepMat.ref_vals]
      exact h c)
    (StepMatRefIdeal.Value.run m' g')⟩

/-- The frame of the reference of the vectors' step. -/
theorem step_vec_reference_frame : quiescent_StepVecRefIdeal := fun m ρ _ => Mm.frame_of (by decide) (fun _ _ h => h.2.2.2.2) (StepVecRefIdeal.Value.run m ρ)

/-- Both programs of the vectors' step end with the same four arrays. -/
theorem step_vec_same_values : algebraic_StepVecIdeal_StepVecRefIdeal := fun m g m' g' _ hm =>
  ⟨_, _, _, _, StepVecIdeal.Value.run m g, (θ_run StepVecRefIdeal.defs _ _).mono
    (fun _ h c => by
      obtain ⟨e0, e1, e2, e3⟩ := hm c
      refine ⟨(h c).1.trans ?_, (h c).2.1.trans ?_, (h c).2.2.1.trans ?_, (h c).2.2.2.1.trans ?_, (h c).2.2.2.2⟩ <;> rw [← e0, ← e1, ← e2, ← e3]
      · exact Mm.StepVec.grad _ _ _ _
      · exact Mm.StepVec.step _ _ _ _
      · exact Mm.StepVec.avg _ _ _ _
      · exact Mm.StepVec.squares_avg _ _ _ _)
    (StepVecRefIdeal.Value.run m' g')⟩

theorem claim : Claim :=
  ⟨Kernel.Gen.facts, KernelIdeal.Gen.facts, ReferenceIdeal.Gen.facts, Mla.Gen.facts, MlaIdeal.Gen.facts, MlaRefIdeal.Gen.facts, Ffn.Gen.facts, FfnIdeal.Gen.facts, FfnRefIdeal.Gen.facts,
   FfnOut.Gen.facts, FfnOutIdeal.Gen.facts, FfnOutRefIdeal.Gen.facts, DH2.Gen.facts, DH2Ideal.Gen.facts, DH2RefIdeal.Gen.facts,
   GwFfnOut.Gen.facts, GwFfnOutIdeal.Gen.facts, GwFfnOutRefIdeal.Gen.facts, Proj.Gen.facts, ProjIdeal.Gen.facts, ProjRefIdeal.Gen.facts, DH1.Gen.facts, DH1Ideal.Gen.facts, DH1RefIdeal.Gen.facts, GwIn.Gen.facts, GwInIdeal.Gen.facts, GwInRefIdeal.Gen.facts,
   Out.Gen.facts, OutIdeal.Gen.facts, OutRefIdeal.Gen.facts,
   DMerged.Gen.facts, DMergedIdeal.Gen.facts, DMergedRefIdeal.Gen.facts,
   GwOut.Gen.facts, GwOutIdeal.Gen.facts, GwOutRefIdeal.Gen.facts,
   Branch.Gen.facts, BranchIdeal.Gen.facts, BranchRefIdeal.Gen.facts,
   DBranch.Gen.facts, DBranchIdeal.Gen.facts, DBranchRefIdeal.Gen.facts,
   GwBranch.Gen.facts, GwBranchIdeal.Gen.facts, GwBranchRefIdeal.Gen.facts,
   Up.Gen.facts, UpIdeal.Gen.facts, UpRefIdeal.Gen.facts,
   DUp.Gen.facts, DUpIdeal.Gen.facts, DUpRefIdeal.Gen.facts,
   GwUp.Gen.facts, GwUpIdeal.Gen.facts, GwUpRefIdeal.Gen.facts,
   Gate.Gen.facts, GateIdeal.Gen.facts, GateRefIdeal.Gen.facts,
   GateBwd.Gen.facts, GateBwdIdeal.Gen.facts, GateBwdRefIdeal.Gen.facts,
   Norm1.Gen.facts, Norm1Ideal.Gen.facts, Norm1RefIdeal.Gen.facts,
   Norm1Bwd.Gen.facts, Norm1BwdIdeal.Gen.facts, Norm1BwdRefIdeal.Gen.facts,
   Norm2.Gen.facts, Norm2Ideal.Gen.facts, Norm2RefIdeal.Gen.facts,
   Norm2Bwd.Gen.facts, Norm2BwdIdeal.Gen.facts, Norm2BwdRefIdeal.Gen.facts,
   Latent.Gen.facts, LatentIdeal.Gen.facts, LatentRefIdeal.Gen.facts,
   LatentBwd.Gen.facts, LatentBwdIdeal.Gen.facts, LatentBwdRefIdeal.Gen.facts,
   Loss.Gen.facts, LossIdeal.Gen.facts, LossRefIdeal.Gen.facts,
   Ada.Gen.facts, AdaIdeal.Gen.facts, AdaRefIdeal.Gen.facts,
   StepAda.Gen.facts, StepAdaIdeal.Gen.facts, StepAdaRefIdeal.Gen.facts,
   StepVec.Gen.facts, StepVecIdeal.Gen.facts, StepVecRefIdeal.Gen.facts,
   StepMat.Gen.facts, StepMatIdeal.Gen.facts, StepMatRefIdeal.Gen.facts,
   Sb.pre_facts, Mla.pre_facts, Mm.Ffn.pre_facts,
   fun m ρ _ => Kernel.Gen.frame m ρ, fun m ρ _ => KernelIdeal.Gen.frame m ρ, fun m ρ _ => KernelIdeal.Gen.frame m ρ,
   reference_frame, fun m ρ _ => reference_frame m ρ trivial,
   fun m ρ _ => Mla.Gen.frame m ρ, fun m ρ _ => MlaIdeal.Gen.frame m ρ, fun m ρ _ => MlaIdeal.Gen.frame m ρ,
   mla_reference_frame, fun m ρ _ => mla_reference_frame m ρ trivial,
   fun m ρ _ => Ffn.Gen.frame m ρ, fun m ρ _ => FfnIdeal.Gen.frame m ρ, fun m ρ _ => FfnIdeal.Gen.frame m ρ,
   ffn_reference_frame, fun m ρ _ => ffn_reference_frame m ρ trivial,
   fun m ρ _ => FfnOut.Gen.frame m ρ, fun m ρ _ => FfnOutIdeal.Gen.frame m ρ, ffn_out_reference_frame,
   fun m ρ _ => DH2.Gen.frame m ρ, fun m ρ _ => DH2Ideal.Gen.frame m ρ, d_h2_reference_frame,
   fun m ρ _ => GwFfnOut.Gen.frame m ρ, fun m ρ _ => GwFfnOutIdeal.Gen.frame m ρ, gw_ffn_out_reference_frame,
   fun m ρ _ => Proj.Gen.frame m ρ, fun m ρ _ => ProjIdeal.Gen.frame m ρ, proj_reference_frame,
   fun m ρ _ => DH1.Gen.frame m ρ, fun m ρ _ => DH1Ideal.Gen.frame m ρ, d_h1_reference_frame,
   fun m ρ _ => GwIn.Gen.frame m ρ, fun m ρ _ => GwInIdeal.Gen.frame m ρ, gw_in_reference_frame,
   fun m ρ _ => Out.Gen.frame m ρ, fun m ρ _ => OutIdeal.Gen.frame m ρ, out_reference_frame,
   fun m ρ _ => DMerged.Gen.frame m ρ, fun m ρ _ => DMergedIdeal.Gen.frame m ρ, d_merged_reference_frame,
   fun m ρ _ => GwOut.Gen.frame m ρ, fun m ρ _ => GwOutIdeal.Gen.frame m ρ, gw_out_reference_frame,
   fun m ρ _ => Branch.Gen.frame m ρ, fun m ρ _ => BranchIdeal.Gen.frame m ρ, branch_reference_frame,
   fun m ρ _ => DBranch.Gen.frame m ρ, fun m ρ _ => DBranchIdeal.Gen.frame m ρ, d_branch_reference_frame,
   fun m ρ _ => GwBranch.Gen.frame m ρ, fun m ρ _ => GwBranchIdeal.Gen.frame m ρ, gw_branch_reference_frame,
   fun m ρ _ => Up.Gen.frame m ρ, fun m ρ _ => UpIdeal.Gen.frame m ρ, up_reference_frame,
   fun m ρ _ => DUp.Gen.frame m ρ, fun m ρ _ => DUpIdeal.Gen.frame m ρ, d_up_reference_frame,
   fun m ρ _ => GwUp.Gen.frame m ρ, fun m ρ _ => GwUpIdeal.Gen.frame m ρ, gw_up_reference_frame,
   fun m ρ _ => Gate.Gen.frame m ρ, fun m ρ _ => GateIdeal.Gen.frame m ρ, gate_reference_frame,
   fun m ρ _ => GateBwd.Gen.frame m ρ, fun m ρ _ => GateBwdIdeal.Gen.frame m ρ, gate_bwd_reference_frame,
   fun m ρ _ => Norm1.Gen.frame m ρ, fun m ρ _ => Norm1Ideal.Gen.frame m ρ, norm1_reference_frame,
   fun m ρ _ => Norm1Bwd.Gen.frame m ρ, fun m ρ _ => Norm1BwdIdeal.Gen.frame m ρ, norm1_bwd_reference_frame,
   fun m ρ _ => Norm2.Gen.frame m ρ, fun m ρ _ => Norm2Ideal.Gen.frame m ρ, norm2_reference_frame,
   fun m ρ _ => Norm2Bwd.Gen.frame m ρ, fun m ρ _ => Norm2BwdIdeal.Gen.frame m ρ, norm2_bwd_reference_frame,
   fun m ρ _ => Latent.Gen.frame m ρ, fun m ρ _ => LatentIdeal.Gen.frame m ρ, latent_reference_frame,
   fun m ρ _ => LatentBwd.Gen.frame m ρ, fun m ρ _ => LatentBwdIdeal.Gen.frame m ρ, latent_bwd_reference_frame,
   fun m ρ _ => Loss.Gen.frame m ρ, fun m ρ _ => LossIdeal.Gen.frame m ρ, loss_reference_frame,
   fun m ρ _ => Ada.Gen.frame m ρ, fun m ρ _ => AdaIdeal.Gen.frame m ρ, ada_reference_frame,
   fun m ρ _ => StepAda.Gen.frame m ρ, fun m ρ _ => StepAdaIdeal.Gen.frame m ρ, step_ada_reference_frame,
   fun m ρ _ => StepVec.Gen.frame m ρ, fun m ρ _ => StepVecIdeal.Gen.frame m ρ, step_vec_reference_frame,
   fun m ρ _ => StepMat.Gen.frame m ρ (Mm.StepMat.ok m), fun m ρ _ => StepMatIdeal.Gen.frame m ρ (Mm.StepMat.ok_ideal m), step_mat_reference_frame,
   trivial, same_values, mla_preserves, mla_same_values, trivial, ffn_same_values, trivial, ffn_out_same_values, trivial, d_h2_same_values, trivial, gw_ffn_out_same_values,
   trivial, proj_same_values, trivial, d_h1_same_values, trivial, gw_in_same_values,
   trivial, out_same_values, trivial, d_merged_same_values, trivial, gw_out_same_values, trivial, branch_same_values, trivial, d_branch_same_values, trivial, gw_branch_same_values, trivial, up_same_values, trivial, d_up_same_values, trivial, gw_up_same_values, trivial, gate_same_values, trivial, gate_bwd_same_values,
   trivial, norm1_same_values, trivial, norm1_bwd_same_values, trivial, norm2_same_values, trivial, norm2_bwd_same_values, trivial, latent_same_values, trivial, latent_bwd_same_values, trivial, loss_same_values, trivial, ada_same_values, trivial, step_ada_same_values, trivial, step_vec_same_values, trivial, step_mat_same_values⟩

end Cert.Proof

end
